-- ==== Defs.lean ====
def Pre_Kernel [hPre_ranges : Cert.Pre_ranges.Facts] (m : (ℓ : Loc Cert.Kernel.nD Cert.Kernel.τ Cert.Kernel.sig) → Buf (Elt Bits) ℓ) : Prop :=
  ∀ c : Dev Cert.Kernel.nD,
    (Cert.Pre_ranges.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_ranges : Cert.Pre_ranges.Facts] (m : (ℓ : Loc Cert.KernelIdeal.nD Cert.KernelIdeal.τ Cert.KernelIdeal.sig) → Buf (Elt Ideal) ℓ) : Prop :=
  ∀ c : Dev Cert.KernelIdeal.nD,
    (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_ranges : Cert.Pre_ranges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def Pre_Sampler [hPre_drawable : Cert.Pre_drawable.Facts] (m : (ℓ : Loc Cert.Sampler.nD Cert.Sampler.τ Cert.Sampler.sig) → Buf (Elt Bits) ℓ) : Prop :=
  ∀ c : Dev Cert.Sampler.nD,
    (Cert.Pre_drawable.fn (F := Bits) (m ((c.tc : Thread Cert.Sampler.nD Cert.Sampler.τ).loc Cert.Sampler.main_arg0)) (m ((c.tc : Thread Cert.Sampler.nD Cert.Sampler.τ).loc Cert.Sampler.main_arg1))) = (fun _ => 1#1)

def Pre_SamplerIdeal [hPre_drawable : Cert.Pre_drawable.Facts] (m : (ℓ : Loc Cert.SamplerIdeal.nD Cert.SamplerIdeal.τ Cert.SamplerIdeal.sig) → Buf (Elt Ideal) ℓ) : Prop :=
  ∀ c : Dev Cert.SamplerIdeal.nD,
    (Cert.Pre_drawable.fn (F := Ideal) (m ((c.tc : Thread Cert.SamplerIdeal.nD Cert.SamplerIdeal.τ).loc Cert.SamplerIdeal.main_arg0)) (m ((c.tc : Thread Cert.SamplerIdeal.nD Cert.SamplerIdeal.τ).loc Cert.SamplerIdeal.main_arg1))) = (fun _ => 1#1)

def Pre_SampledIdeal [hPre_drawable : Cert.Pre_drawable.Facts] (m : (ℓ : Loc Cert.SampledIdeal.nD Cert.SampledIdeal.τ Cert.SampledIdeal.sig) → Buf (Elt Ideal) ℓ) : Prop :=
  ∀ c : Dev Cert.SampledIdeal.nD,
    (Cert.Pre_drawable.fn (F := Ideal) (m ((c.tc : Thread Cert.SampledIdeal.nD Cert.SampledIdeal.τ).loc Cert.SampledIdeal.main_arg0)) (m ((c.tc : Thread Cert.SampledIdeal.nD Cert.SampledIdeal.τ).loc Cert.SampledIdeal.main_arg1))) = (fun _ => 1#1)

def quiescent_Kernel [hKernel : Cert.Kernel.Facts] [hPre_ranges : Cert.Pre_ranges.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] [hPre_ranges : Cert.Pre_ranges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] [hPre_ranges : Cert.Pre_ranges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_Sampler [hSampler : Cert.Sampler.Facts] [hPre_drawable : Cert.Pre_drawable.Facts] : Prop :=
  ∀ (m : (ℓ : Loc Cert.Sampler.nD Cert.Sampler.τ Cert.Sampler.sig) → Buf (Elt Bits) ℓ) (g : Dev Cert.Sampler.nD → PrngReg), Pre_Sampler m →
    θ_run (Cert.Sampler.defs (F := Bits)) (onTc (τ := Cert.Sampler.τ) (Cert.Sampler.main (F := Bits))) ⟨m, fun _ => 0, g⟩ (fun r => (∀ c : Dev Cert.Sampler.nD,
      r.2.mem ((c.tc : Thread Cert.Sampler.nD Cert.Sampler.τ).loc Cert.Sampler.main_arg0) = m ((c.tc : Thread Cert.Sampler.nD Cert.Sampler.τ).loc Cert.Sampler.main_arg0)
      ∧ r.2.mem ((c.tc : Thread Cert.Sampler.nD Cert.Sampler.τ).loc Cert.Sampler.main_arg1) = m ((c.tc : Thread Cert.Sampler.nD Cert.Sampler.τ).loc Cert.Sampler.main_arg1))
      ∧ r.2.sem = fun _ => 0)

def quiescent_SamplerIdeal [hSamplerIdeal : Cert.SamplerIdeal.Facts] [hPre_drawable : Cert.Pre_drawable.Facts] : Prop :=
  ∀ (m : (ℓ : Loc Cert.SamplerIdeal.nD Cert.SamplerIdeal.τ Cert.SamplerIdeal.sig) → Buf (Elt Ideal) ℓ) (g : Dev Cert.SamplerIdeal.nD → PrngReg), Pre_SamplerIdeal m →
    θ_run (Cert.SamplerIdeal.defs (F := Ideal)) (onTc (τ := Cert.SamplerIdeal.τ) (Cert.SamplerIdeal.main (F := Ideal))) ⟨m, fun _ => 0, g⟩ (fun r => (∀ c : Dev Cert.SamplerIdeal.nD,
      r.2.mem ((c.tc : Thread Cert.SamplerIdeal.nD Cert.SamplerIdeal.τ).loc Cert.SamplerIdeal.main_arg0) = m ((c.tc : Thread Cert.SamplerIdeal.nD Cert.SamplerIdeal.τ).loc Cert.SamplerIdeal.main_arg0)
      ∧ r.2.mem ((c.tc : Thread Cert.SamplerIdeal.nD Cert.SamplerIdeal.τ).loc Cert.SamplerIdeal.main_arg1) = m ((c.tc : Thread Cert.SamplerIdeal.nD Cert.SamplerIdeal.τ).loc Cert.SamplerIdeal.main_arg1))
      ∧ r.2.sem = fun _ => 0)

def quiescent_SampledIdeal [hSampledIdeal : Cert.SampledIdeal.Facts] [hPre_drawable : Cert.Pre_drawable.Facts] : Prop :=
  ∀ (m : (ℓ : Loc Cert.SampledIdeal.nD Cert.SampledIdeal.τ Cert.SampledIdeal.sig) → Buf (Elt Ideal) ℓ) (g : Dev Cert.SampledIdeal.nD → PrngReg), Pre_SampledIdeal m →
    θ_run (Cert.SampledIdeal.defs (F := Ideal)) (onTc (τ := Cert.SampledIdeal.τ) (Cert.SampledIdeal.main (F := Ideal))) ⟨m, fun _ => 0, g⟩ (fun r => (∀ c : Dev Cert.SampledIdeal.nD,
      r.2.mem ((c.tc : Thread Cert.SampledIdeal.nD Cert.SampledIdeal.τ).loc Cert.SampledIdeal.main_arg0) = m ((c.tc : Thread Cert.SampledIdeal.nD Cert.SampledIdeal.τ).loc Cert.SampledIdeal.main_arg0)
      ∧ r.2.mem ((c.tc : Thread Cert.SampledIdeal.nD Cert.SampledIdeal.τ).loc Cert.SampledIdeal.main_arg1) = m ((c.tc : Thread Cert.SampledIdeal.nD Cert.SampledIdeal.τ).loc Cert.SampledIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ranges : Cert.Pre_ranges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def preserves_Sampler_SamplerIdeal : Prop :=
  True

def algebraic_SamplerIdeal_SampledIdeal [hSamplerIdeal : Cert.SamplerIdeal.Facts] [hSampledIdeal : Cert.SampledIdeal.Facts] [hPre_drawable : Cert.Pre_drawable.Facts] : Prop :=
  ∀ (m : (ℓ : Loc Cert.SamplerIdeal.nD Cert.SamplerIdeal.τ Cert.SamplerIdeal.sig) → Buf (Elt Ideal) ℓ) (g : Dev Cert.SamplerIdeal.nD → PrngReg)
    (m' : (ℓ : Loc Cert.SampledIdeal.nD Cert.SampledIdeal.τ Cert.SampledIdeal.sig) → Buf (Elt Ideal) ℓ) (g' : Dev Cert.SampledIdeal.nD → PrngReg), Pre_SamplerIdeal m →
    (∀ c : Dev Cert.SamplerIdeal.nD,
      m' ((c.tc : Thread Cert.SampledIdeal.nD Cert.SampledIdeal.τ).loc Cert.SampledIdeal.main_arg0) = m ((c.tc : Thread Cert.SamplerIdeal.nD Cert.SamplerIdeal.τ).loc Cert.SamplerIdeal.main_arg0)
      ∧ m' ((c.tc : Thread Cert.SampledIdeal.nD Cert.SampledIdeal.τ).loc Cert.SampledIdeal.main_arg1) = m ((c.tc : Thread Cert.SamplerIdeal.nD Cert.SamplerIdeal.τ).loc Cert.SamplerIdeal.main_arg1)) →
    ∃ (v0 : (c : Dev Cert.SamplerIdeal.nD) → Buf (Elt Ideal) ((c.tc : Thread Cert.SamplerIdeal.nD Cert.SamplerIdeal.τ).loc Cert.SamplerIdeal.main_v5)) (v1 : (c : Dev Cert.SamplerIdeal.nD) → Buf (Elt Ideal) ((c.tc : Thread Cert.SamplerIdeal.nD Cert.SamplerIdeal.τ).loc Cert.SamplerIdeal.main_v6)),
      θ_run (Cert.SamplerIdeal.defs (F := Ideal)) (onTc (τ := Cert.SamplerIdeal.τ) (Cert.SamplerIdeal.main (F := Ideal))) ⟨m, fun _ => 0, g⟩ (fun r => ∀ c : Dev Cert.SamplerIdeal.nD,
          r.2.mem ((c.tc : Thread Cert.SamplerIdeal.nD Cert.SamplerIdeal.τ).loc Cert.SamplerIdeal.main_v5) = v0 c
          ∧ r.2.mem ((c.tc : Thread Cert.SamplerIdeal.nD Cert.SamplerIdeal.τ).loc Cert.SamplerIdeal.main_v6) = v1 c
          ∧ r.2.mem ((c.tc : Thread Cert.SamplerIdeal.nD Cert.SamplerIdeal.τ).loc Cert.SamplerIdeal.main_arg0) = m ((c.tc : Thread Cert.SamplerIdeal.nD Cert.SamplerIdeal.τ).loc Cert.SamplerIdeal.main_arg0)
          ∧ r.2.mem ((c.tc : Thread Cert.SamplerIdeal.nD Cert.SamplerIdeal.τ).loc Cert.SamplerIdeal.main_arg1) = m ((c.tc : Thread Cert.SamplerIdeal.nD Cert.SamplerIdeal.τ).loc Cert.SamplerIdeal.main_arg1))
      ∧ θ_run (Cert.SampledIdeal.defs (F := Ideal)) (onTc (τ := Cert.SampledIdeal.τ) (Cert.SampledIdeal.main (F := Ideal))) ⟨m', fun _ => 0, g'⟩ (fun r => ∀ c : Dev Cert.SampledIdeal.nD,
          r.2.mem ((c.tc : Thread Cert.SampledIdeal.nD Cert.SampledIdeal.τ).loc Cert.SampledIdeal.main_v63) = v0 c
          ∧ r.2.mem ((c.tc : Thread Cert.SampledIdeal.nD Cert.SampledIdeal.τ).loc Cert.SampledIdeal.main_v65) = v1 c
          ∧ r.2.mem ((c.tc : Thread Cert.SampledIdeal.nD Cert.SampledIdeal.τ).loc Cert.SampledIdeal.main_arg0) = m' ((c.tc : Thread Cert.SampledIdeal.nD Cert.SampledIdeal.τ).loc Cert.SampledIdeal.main_arg0)
          ∧ r.2.mem ((c.tc : Thread Cert.SampledIdeal.nD Cert.SampledIdeal.τ).loc Cert.SampledIdeal.main_arg1) = m' ((c.tc : Thread Cert.SampledIdeal.nD Cert.SampledIdeal.τ).loc Cert.SampledIdeal.main_arg1))

def Claim : Prop :=
  ∃ (hKernel : Cert.Kernel.Facts) (hKernelIdeal : Cert.KernelIdeal.Facts) (hReferenceIdeal : Cert.ReferenceIdeal.Facts) (hSampler : Cert.Sampler.Facts) (hSamplerIdeal : Cert.SamplerIdeal.Facts) (hSampledIdeal : Cert.SampledIdeal.Facts) (hPre_ranges : Cert.Pre_ranges.Facts) (hPre_drawable : Cert.Pre_drawable.Facts),
    quiescent_Kernel (hKernel := hKernel) (hPre_ranges := hPre_ranges)
    ∧ quiescent_KernelIdeal (hKernelIdeal := hKernelIdeal) (hPre_ranges := hPre_ranges)
    ∧ quiescent_ReferenceIdeal (hReferenceIdeal := hReferenceIdeal) (hPre_ranges := hPre_ranges)
    ∧ quiescent_Sampler (hSampler := hSampler) (hPre_drawable := hPre_drawable)
    ∧ quiescent_SamplerIdeal (hSamplerIdeal := hSamplerIdeal) (hPre_drawable := hPre_drawable)
    ∧ quiescent_SampledIdeal (hSampledIdeal := hSampledIdeal) (hPre_drawable := hPre_drawable)
    ∧ preserves_Kernel_KernelIdeal
    ∧ algebraic_KernelIdeal_ReferenceIdeal (hKernelIdeal := hKernelIdeal) (hReferenceIdeal := hReferenceIdeal) (hPre_ranges := hPre_ranges)
    ∧ preserves_Sampler_SamplerIdeal
    ∧ algebraic_SamplerIdeal_SampledIdeal (hSamplerIdeal := hSamplerIdeal) (hSampledIdeal := hSampledIdeal) (hPre_drawable := hPre_drawable)
-- ==== Pre_drawable.lean ====
abbrev S10000 : Shape := ⟨1, ![10000]⟩
abbrev S4096 : Shape := ⟨1, ![4096]⟩
abbrev S_ : Shape := ⟨0, ![]⟩

class Facts : Prop where
  bcast_S_S10000 : S_.BroadcastsInDim S10000 (![] : Fin 0 → Fin S10000.rank)
  reducesTo_S10000_S_d0 : S10000.ReducesTo [0] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S10000 .f32) (main_arg1 : IVec S4096 32) : IVec S_ 1 :=
  let main_cst : FVec F S_ .f32 := constant S_ .f32 0x00000000#32
  let main_v0 : FVec F S10000 .f32 := broadcastInDim S10000 ![] bcast_S_S10000 main_cst
  let main_v1 : IVec S10000 1 := cmpf .oge main_arg0 main_v0
  let main_c : IVec S_ 1 := constantI S_ 1 1#1
  let main_v2 : IVec S_ 1 := (fun x v => Host.reduce IntOp.andi x v reducesTo_S10000_S_d0 h_S_) main_v1 main_c
  let main_c_0 : IVec S_ 32 := constantI S_ 32 0#32
  let main_v3 : IVec S4096 32 := broadcastInDim S4096 ![] bcast_S_S4096 main_c_0
  let main_v4 : IVec S4096 1 := cmpi .sge main_arg1 main_v3
  let main_c_1 : IVec S_ 32 := constantI S_ 32 10000#32
  let main_v5 : IVec S4096 32 := broadcastInDim S4096 ![] bcast_S_S4096 main_c_1
  let main_v6 : IVec S4096 1 := cmpi .slt main_arg1 main_v5
  let main_v7 : IVec S4096 1 := andi main_v4 main_v6
  let main_c_2 : IVec S_ 1 := constantI S_ 1 1#1
  let main_v8 : IVec S_ 1 := (fun x v => Host.reduce IntOp.andi x v reducesTo_S4096_S_d0 h_S_) main_v7 main_c_2
  let main_v9 : IVec S_ 1 := andi main_v2 main_v8
  main_v9
-- ==== Pre_ranges.lean ====
abbrev S4096x32x64 : Shape := ⟨3, ![4096, 32, 64]⟩
abbrev S4096x32x32 : Shape := ⟨3, ![4096, 32, 32]⟩
abbrev S4096x16 : Shape := ⟨2, ![4096, 16]⟩
abbrev S4096 : Shape := ⟨1, ![4096]⟩
abbrev S10000x16x64 : Shape := ⟨3, ![10000, 16, 64]⟩
abbrev S10000x16x16 : Shape := ⟨3, ![10000, 16, 16]⟩
abbrev S64x128 : Shape := ⟨2, ![64, 128]⟩
abbrev S128x128 : Shape := ⟨2, ![128, 128]⟩
abbrev S144x128 : Shape := ⟨2, ![144, 128]⟩
abbrev S128 : Shape := ⟨1, ![128]⟩
abbrev S_ : Shape := ⟨0, ![]⟩
abbrev S400x128 : Shape := ⟨2, ![400, 128]⟩

class Facts : Prop where
  bcast_S_S4096 : S_.BroadcastsInDim S4096 (![] : Fin 0 → Fin S4096.rank)
  reducesTo_S4096_S_d0 : S4096.ReducesTo [0] S_
  h_S_ : 0 < S_.numel
  bcast_S_S4096x32x64 : S_.BroadcastsInDim S4096x32x64 (![] : Fin 0 → Fin S4096x32x64.rank)
  reducesTo_S4096x32x64_S_d0_1_2 : S4096x32x64.ReducesTo [0, 1, 2] S_
  bcast_S_S4096x16 : S_.BroadcastsInDim S4096x16 (![] : Fin 0 → Fin S4096x16.rank)
  reducesTo_S4096x16_S_d0_1 : S4096x16.ReducesTo [0, 1] S_
  bcast_S_S10000x16x64 : S_.BroadcastsInDim S10000x16x64 (![] : Fin 0 → Fin S10000x16x64.rank)
  reducesTo_S10000x16x64_S_d0_1_2 : S10000x16x64.ReducesTo [0, 1, 2] S_
  bcast_S_S64x128 : S_.BroadcastsInDim S64x128 (![] : Fin 0 → Fin S64x128.rank)
  reducesTo_S64x128_S_d0_1 : S64x128.ReducesTo [0, 1] S_
  bcast_S_S128x128 : S_.BroadcastsInDim S128x128 (![] : Fin 0 → Fin S128x128.rank)
  reducesTo_S128x128_S_d0_1 : S128x128.ReducesTo [0, 1] S_
  bcast_S_S144x128 : S_.BroadcastsInDim S144x128 (![] : Fin 0 → Fin S144x128.rank)
  reducesTo_S144x128_S_d0_1 : S144x128.ReducesTo [0, 1] S_
  bcast_S_S400x128 : S_.BroadcastsInDim S400x128 (![] : Fin 0 → Fin S400x128.rank)
  reducesTo_S400x128_S_d0_1 : S400x128.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_arg20 : FVec F S128 .f32) (main_v81 : IVec S_ 1) (main_v84 : IVec S400x128 1) : IVec S_ 1 :=
  let main_c_33 : IVec S_ 1 := constantI S_ 1 1#1
  let main_v85 : IVec S_ 1 := (fun x v => Host.reduce IntOp.andi x v reducesTo_S400x128_S_d0_1 h_S_) main_v84 main_c_33
  let main_v86 : IVec S_ 1 := andi main_v81 main_v85
  let main_v87 : FVec F S128 .f32 := Host.absf main_arg20
  let main_cst_34 : FVec F S_ .f32 := constant S_ .f32 0x7F800000#32
  let main_v88 : FVec F S128 .f32 := broadcastInDim S128 ![] bcast_S_S128 main_cst_34
  let main_v89 : IVec S128 1 := cmpf .olt main_v87 main_v88
  let main_c_35 : IVec S_ 1 := constantI S_ 1 1#1
  let main_v90 : IVec S_ 1 := (fun x v => Host.reduce IntOp.andi x v reducesTo_S128_S_d0 h_S_) main_v89 main_c_35
  let main_v91 : IVec S_ 1 := andi main_v86 main_v90
  main_v91

def fn_part4 {F : FTy → Type} [FloatOps F] (main_arg17 : FVec F S128x128 .f32) (main_arg18 : FVec F S128x128 .f32) (main_arg19 : FVec F S400x128 .f32) (main_arg20 : FVec F S128 .f32) (main_v66 : IVec S_ 1) (main_v67 : FVec F S128x128 .f32) : IVec S_ 1 :=
  let main_cst_26 : FVec F S_ .f32 := constant S_ .f32 0x7F800000#32
  let main_v68 : FVec F S128x128 .f32 := broadcastInDim S128x128 ![] bcast_S_S128x128 main_cst_26
  let main_v69 : IVec S128x128 1 := cmpf .olt main_v67 main_v68
  let main_c_27 : IVec S_ 1 := constantI S_ 1 1#1
  let main_v70 : IVec S_ 1 := (fun x v => Host.reduce IntOp.andi x v reducesTo_S128x128_S_d0_1 h_S_) main_v69 main_c_27
  let main_v71 : IVec S_ 1 := andi main_v66 main_v70
  let main_v72 : FVec F S128x128 .f32 := Host.absf main_arg17
  let main_cst_28 : FVec F S_ .f32 := constant S_ .f32 0x7F800000#32
  let main_v73 : FVec F S128x128 .f32 := broadcastInDim S128x128 ![] bcast_S_S128x128 main_cst_28
  let main_v74 : IVec S128x128 1 := cmpf .olt main_v72 main_v73
  let main_c_29 : IVec S_ 1 := constantI S_ 1 1#1
  let main_v75 : IVec S_ 1 := (fun x v => Host.reduce IntOp.andi x v reducesTo_S128x128_S_d0_1 h_S_) main_v74 main_c_29
  let main_v76 : IVec S_ 1 := andi main_v71 main_v75
  let main_v77 : FVec F S128x128 .f32 := Host.absf main_arg18
  let main_cst_30 : FVec F S_ .f32 := constant S_ .f32 0x7F800000#32
  let main_v78 : FVec F S128x128 .f32 := broadcastInDim S128x128 ![] bcast_S_S128x128 main_cst_30
  let main_v79 : IVec S128x128 1 := cmpf .olt main_v77 main_v78
  let main_c_31 : IVec S_ 1 := constantI S_ 1 1#1
  let main_v80 : IVec S_ 1 := (fun x v => Host.reduce IntOp.andi x v reducesTo_S128x128_S_d0_1 h_S_) main_v79 main_c_31
  let main_v81 : IVec S_ 1 := andi main_v76 main_v80
  let main_v82 : FVec F S400x128 .f32 := Host.absf main_arg19
  let main_cst_32 : FVec F S_ .f32 := constant S_ .f32 0x7F800000#32
  let main_v83 : FVec F S400x128 .f32 := broadcastInDim S400x128 ![] bcast_S_S400x128 main_cst_32
  let main_v84 : IVec S400x128 1 := cmpf .olt main_v82 main_v83
  fn_part5 (F := F) main_arg20 main_v81 main_v84

def fn_part3 {F : FTy → Type} [FloatOps F] (main_arg11 : FVec F S128x128 .f32) (main_arg12 : FVec F S144x128 .f32) (main_arg15 : FVec F S64x128 .f32) (main_arg16 : FVec F S128x128 .f32) (main_arg17 : FVec F S128x128 .f32) (main_arg18 : FVec F S128x128 .f32) (main_arg19 : FVec F S400x128 .f32) (main_arg20 : FVec F S128 .f32) (main_v46 : IVec S_ 1) (main_v49 : IVec S128x128 1) (main_c_19 : IVec S_ 1) : IVec S_ 1 :=
  let main_v50 : IVec S_ 1 := (fun x v => Host.reduce IntOp.andi x v reducesTo_S128x128_S_d0_1 h_S_) main_v49 main_c_19
  let main_v51 : IVec S_ 1 := andi main_v46 main_v50
  let main_v52 : FVec F S128x128 .f32 := Host.absf main_arg11
  let main_cst_20 : FVec F S_ .f32 := constant S_ .f32 0x7F800000#32
  let main_v53 : FVec F S128x128 .f32 := broadcastInDim S128x128 ![] bcast_S_S128x128 main_cst_20
  let main_v54 : IVec S128x128 1 := cmpf .olt main_v52 main_v53
  let main_c_21 : IVec S_ 1 := constantI S_ 1 1#1
  let main_v55 : IVec S_ 1 := (fun x v => Host.reduce IntOp.andi x v reducesTo_S128x128_S_d0_1 h_S_) main_v54 main_c_21
  let main_v56 : IVec S_ 1 := andi main_v51 main_v55
  let main_v57 : FVec F S144x128 .f32 := Host.absf main_arg12
  let main_cst_22 : FVec F S_ .f32 := constant S_ .f32 0x7F800000#32
  let main_v58 : FVec F S144x128 .f32 := broadcastInDim S144x128 ![] bcast_S_S144x128 main_cst_22
  let main_v59 : IVec S144x128 1 := cmpf .olt main_v57 main_v58
  let main_c_23 : IVec S_ 1 := constantI S_ 1 1#1
  let main_v60 : IVec S_ 1 := (fun x v => Host.reduce IntOp.andi x v reducesTo_S144x128_S_d0_1 h_S_) main_v59 main_c_23
  let main_v61 : IVec S_ 1 := andi main_v56 main_v60
  let main_v62 : FVec F S64x128 .f32 := Host.absf main_arg15
  let main_cst_24 : FVec F S_ .f32 := constant S_ .f32 0x7F800000#32
  let main_v63 : FVec F S64x128 .f32 := broadcastInDim S64x128 ![] bcast_S_S64x128 main_cst_24
  let main_v64 : IVec S64x128 1 := cmpf .olt main_v62 main_v63
  let main_c_25 : IVec S_ 1 := constantI S_ 1 1#1
  let main_v65 : IVec S_ 1 := (fun x v => Host.reduce IntOp.andi x v reducesTo_S64x128_S_d0_1 h_S_) main_v64 main_c_25
  let main_v66 : IVec S_ 1 := andi main_v61 main_v65
  let main_v67 : FVec F S128x128 .f32 := Host.absf main_arg16
  fn_part4 (F := F) main_arg17 main_arg18 main_arg19 main_arg20 main_v66 main_v67

def fn_part2 {F : FTy → Type} [FloatOps F] (main_arg7 : FVec F S10000x16x64 .f32) (main_arg9 : FVec F S64x128 .f32) (main_arg10 : FVec F S128x128 .f32) (main_arg11 : FVec F S128x128 .f32) (main_arg12 : FVec F S144x128 .f32) (main_arg15 : FVec F S64x128 .f32) (main_arg16 : FVec F S128x128 .f32) (main_arg17 : FVec F S128x128 .f32) (main_arg18 : FVec F S128x128 .f32) (main_arg19 : FVec F S400x128 .f32) (main_arg20 : FVec F S128 .f32) (main_v31 : IVec S_ 1) (main_v32 : FVec F S4096x16 .f32) (main_cst_12 : FVec F S_ .f32) : IVec S_ 1 :=
  let main_v33 : FVec F S4096x16 .f32 := broadcastInDim S4096x16 ![] bcast_S_S4096x16 main_cst_12
  let main_v34 : IVec S4096x16 1 := cmpf .olt main_v32 main_v33
  let main_c_13 : IVec S_ 1 := constantI S_ 1 1#1
  let main_v35 : IVec S_ 1 := (fun x v => Host.reduce IntOp.andi x v reducesTo_S4096x16_S_d0_1 h_S_) main_v34 main_c_13
  let main_v36 : IVec S_ 1 := andi main_v31 main_v35
  let main_v37 : FVec F S10000x16x64 .f32 := Host.absf main_arg7
  let main_cst_14 : FVec F S_ .f32 := constant S_ .f32 0x7F800000#32
  let main_v38 : FVec F S10000x16x64 .f32 := broadcastInDim S10000x16x64 ![] bcast_S_S10000x16x64 main_cst_14
  let main_v39 : IVec S10000x16x64 1 := cmpf .olt main_v37 main_v38
  let main_c_15 : IVec S_ 1 := constantI S_ 1 1#1
  let main_v40 : IVec S_ 1 := (fun x v => Host.reduce IntOp.andi x v reducesTo_S10000x16x64_S_d0_1_2 h_S_) main_v39 main_c_15
  let main_v41 : IVec S_ 1 := andi main_v36 main_v40
  let main_v42 : FVec F S64x128 .f32 := Host.absf main_arg9
  let main_cst_16 : FVec F S_ .f32 := constant S_ .f32 0x7F800000#32
  let main_v43 : FVec F S64x128 .f32 := broadcastInDim S64x128 ![] bcast_S_S64x128 main_cst_16
  let main_v44 : IVec S64x128 1 := cmpf .olt main_v42 main_v43
  let main_c_17 : IVec S_ 1 := constantI S_ 1 1#1
  let main_v45 : IVec S_ 1 := (fun x v => Host.reduce IntOp.andi x v reducesTo_S64x128_S_d0_1 h_S_) main_v44 main_c_17
  let main_v46 : IVec S_ 1 := andi main_v41 main_v45
  let main_v47 : FVec F S128x128 .f32 := Host.absf main_arg10
  let main_cst_18 : FVec F S_ .f32 := constant S_ .f32 0x7F800000#32
  let main_v48 : FVec F S128x128 .f32 := broadcastInDim S128x128 ![] bcast_S_S128x128 main_cst_18
  let main_v49 : IVec S128x128 1 := cmpf .olt main_v47 main_v48
  let main_c_19 : IVec S_ 1 := constantI S_ 1 1#1
  fn_part3 (F := F) main_arg11 main_arg12 main_arg15 main_arg16 main_arg17 main_arg18 main_arg19 main_arg20 main_v46 main_v49 main_c_19

def fn_part1 {F : FTy → Type} [FloatOps F] (main_arg0 : FVec F S4096x32x64 .f32) (main_arg2 : FVec F S4096x16 .f32) (main_arg5 : IVec S4096 32) (main_arg6 : IVec S4096 32) (main_arg7 : FVec F S10000x16x64 .f32) (main_arg9 : FVec F S64x128 .f32) (main_arg10 : FVec F S128x128 .f32) (main_arg11 : FVec F S128x128 .f32) (main_arg12 : FVec F S144x128 .f32) (main_arg15 : FVec F S64x128 .f32) (main_arg16 : FVec F S128x128 .f32) (main_arg17 : FVec F S128x128 .f32) (main_arg18 : FVec F S128x128 .f32) (main_arg19 : FVec F S400x128 .f32) (main_arg20 : FVec F S128 .f32) (main_v12 : IVec S_ 1) (main_v14 : IVec S4096 1) (main_v15 : IVec S4096 32) : IVec S_ 1 :=
  let main_v16 : IVec S4096 1 := cmpi .slt main_arg5 main_v15
  let main_v17 : IVec S4096 1 := andi main_v14 main_v16
  let main_c_7 : IVec S_ 1 := constantI S_ 1 1#1
  let main_v18 : IVec S_ 1 := (fun x v => Host.reduce IntOp.andi x v reducesTo_S4096_S_d0 h_S_) main_v17 main_c_7
  let main_v19 : IVec S_ 1 := andi main_v12 main_v18
  let main_c_8 : IVec S_ 32 := constantI S_ 32 0#32
  let main_v20 : IVec S4096 32 := broadcastInDim S4096 ![] bcast_S_S4096 main_c_8
  let main_v21 : IVec S4096 1 := cmpi .sge main_arg6 main_v20
  let main_c_9 : IVec S_ 32 := constantI S_ 32 10000#32
  let main_v22 : IVec S4096 32 := broadcastInDim S4096 ![] bcast_S_S4096 main_c_9
  let main_v23 : IVec S4096 1 := cmpi .slt main_arg6 main_v22
  let main_v24 : IVec S4096 1 := andi main_v21 main_v23
  let main_c_10 : IVec S_ 1 := constantI S_ 1 1#1
  let main_v25 : IVec S_ 1 := (fun x v => Host.reduce IntOp.andi x v reducesTo_S4096_S_d0 h_S_) main_v24 main_c_10
  let main_v26 : IVec S_ 1 := andi main_v19 main_v25
  let main_v27 : FVec F S4096x32x64 .f32 := Host.absf main_arg0
  let main_cst : FVec F S_ .f32 := constant S_ .f32 0x7F800000#32
  let main_v28 : FVec F S4096x32x64 .f32 := broadcastInDim S4096x32x64 ![] bcast_S_S4096x32x64 main_cst
  let main_v29 : IVec S4096x32x64 1 := cmpf .olt main_v27 main_v28
  let main_c_11 : IVec S_ 1 := constantI S_ 1 1#1
  let main_v30 : IVec S_ 1 := (fun x v => Host.reduce IntOp.andi x v reducesTo_S4096x32x64_S_d0_1_2 h_S_) main_v29 main_c_11
  let main_v31 : IVec S_ 1 := andi main_v26 main_v30
  let main_v32 : FVec F S4096x16 .f32 := Host.absf main_arg2
  let main_cst_12 : FVec F S_ .f32 := constant S_ .f32 0x7F800000#32
  fn_part2 (F := F) main_arg7 main_arg9 main_arg10 main_arg11 main_arg12 main_arg15 main_arg16 main_arg17 main_arg18 main_arg19 main_arg20 main_v31 main_v32 main_cst_12

def fn {F : FTy → Type} [FloatOps F] (main_arg0 : FVec F S4096x32x64 .f32) (main_arg1 : IVec S4096x32x32 1) (main_arg2 : FVec F S4096x16 .f32) (main_arg3 : IVec S4096 32) (main_arg4 : IVec S4096 32) (main_arg5 : IVec S4096 32) (main_arg6 : IVec S4096 32) (main_arg7 : FVec F S10000x16x64 .f32) (main_arg8 : IVec S10000x16x16 1) (main_arg9 : FVec F S64x128 .f32) (main_arg10 : FVec F S128x128 .f32) (main_arg11 : FVec F S128x128 .f32) (main_arg12 : FVec F S144x128 .f32) (main_arg13 : FVec F S128 .f32) (main_arg14 : FVec F S_ .f32) (main_arg15 : FVec F S64x128 .f32) (main_arg16 : FVec F S128x128 .f32) (main_arg17 : FVec F S128x128 .f32) (main_arg18 : FVec F S128x128 .f32) (main_arg19 : FVec F S400x128 .f32) (main_arg20 : FVec F S128 .f32) : IVec S_ 1 :=
  let main_c : IVec S_ 32 := constantI S_ 32 0#32
  let main_v0 : IVec S4096 32 := broadcastInDim S4096 ![] bcast_S_S4096 main_c
  let main_v1 : IVec S4096 1 := cmpi .sge main_arg3 main_v0
  let main_c_0 : IVec S_ 32 := constantI S_ 32 10000#32
  let main_v2 : IVec S4096 32 := broadcastInDim S4096 ![] bcast_S_S4096 main_c_0
  let main_v3 : IVec S4096 1 := cmpi .slt main_arg3 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  let main_c_2 : IVec S_ 32 := constantI S_ 32 0#32
  let main_v6 : IVec S4096 32 := broadcastInDim S4096 ![] bcast_S_S4096 main_c_2
  let main_v7 : IVec S4096 1 := cmpi .sge main_arg4 main_v6
  let main_c_3 : IVec S_ 32 := constantI S_ 32 32#32
  let main_v8 : IVec S4096 32 := broadcastInDim S4096 ![] bcast_S_S4096 main_c_3
  let main_v9 : IVec S4096 1 := cmpi .slt main_arg4 main_v8
  let main_v10 : IVec S4096 1 := andi main_v7 main_v9
  let main_c_4 : IVec S_ 1 := constantI S_ 1 1#1
  let main_v11 : IVec S_ 1 := (fun x v => Host.reduce IntOp.andi x v reducesTo_S4096_S_d0 h_S_) main_v10 main_c_4
  let main_v12 : IVec S_ 1 := andi main_v5 main_v11
  let main_c_5 : IVec S_ 32 := constantI S_ 32 0#32
  let main_v13 : IVec S4096 32 := broadcastInDim S4096 ![] bcast_S_S4096 main_c_5
  let main_v14 : IVec S4096 1 := cmpi .sge main_arg5 main_v13
  let main_c_6 : IVec S_ 32 := constantI S_ 32 10000#32
  let main_v15 : IVec S4096 32 := broadcastInDim S4096 ![] bcast_S_S4096 main_c_6
  fn_part1 (F := F) main_arg0 main_arg2 main_arg5 main_arg6 main_arg7 main_arg9 main_arg10 main_arg11 main_arg12 main_arg15 main_arg16 main_arg17 main_arg18 main_arg19 main_arg20 main_v12 main_v14 main_v15
-- ==== Kernel.lean ====
abbrev S4096x32x64 : Shape := ⟨3, ![4096, 32, 64]⟩
abbrev S4096x32x32 : Shape := ⟨3, ![4096, 32, 32]⟩
abbrev S4096x16 : Shape := ⟨2, ![4096, 16]⟩
abbrev S4096 : Shape := ⟨1, ![4096]⟩
abbrev S10000x16x64 : Shape := ⟨3, ![10000, 16, 64]⟩
abbrev S10000x16x16 : Shape := ⟨3, ![10000, 16, 16]⟩
abbrev S64x128 : Shape := ⟨2, ![64, 128]⟩
abbrev S128x128 : Shape := ⟨2, ![128, 128]⟩
abbrev S144x128 : Shape := ⟨2, ![144, 128]⟩
abbrev S128 : Shape := ⟨1, ![128]⟩
abbrev S_ : Shape := ⟨0, ![]⟩
abbrev S400x128 : Shape := ⟨2, ![400, 128]⟩
abbrev S10000x128 : Shape := ⟨2, ![10000, 128]⟩
abbrev S400x16x64 : Shape := ⟨3, ![400, 16, 64]⟩
abbrev S400x16x16 : Shape := ⟨3, ![400, 16, 16]⟩
abbrev S256x256 : Shape := ⟨2, ![256, 256]⟩
abbrev S6400x128 : Shape := ⟨2, ![6400, 128]⟩
abbrev S6400x64 : Shape := ⟨2, ![6400, 64]⟩
abbrev S1x16x16 : Shape := ⟨3, ![1, 16, 16]⟩
abbrev S16x16 : Shape := ⟨2, ![16, 16]⟩
abbrev S256x128 : Shape := ⟨2, ![256, 128]⟩
abbrev S400x16x128 : Shape := ⟨3, ![400, 16, 128]⟩
abbrev S16x128 : Shape := ⟨2, ![16, 128]⟩
abbrev S4096x128 : Shape := ⟨2, ![4096, 128]⟩
abbrev S4096x32x128 : Shape := ⟨3, ![4096, 32, 128]⟩
abbrev S128x32x64 : Shape := ⟨3, ![128, 32, 64]⟩
abbrev S128x32x32 : Shape := ⟨3, ![128, 32, 32]⟩
abbrev S128x16 : Shape := ⟨2, ![128, 16]⟩
abbrev S128x32x128 : Shape := ⟨3, ![128, 32, 128]⟩
abbrev S4096x64 : Shape := ⟨2, ![4096, 64]⟩
abbrev S1x32x32 : Shape := ⟨3, ![1, 32, 32]⟩
abbrev S32x32 : Shape := ⟨2, ![32, 32]⟩
abbrev S12288 : Shape := ⟨1, ![12288]⟩
abbrev S12288x128 : Shape := ⟨2, ![12288, 128]⟩
abbrev S384 : Shape := ⟨1, ![384]⟩
abbrev S384x128 : Shape := ⟨2, ![384, 128]⟩
abbrev S272x128 : Shape := ⟨2, ![272, 128]⟩
abbrev S4096x1 : Shape := ⟨2, ![4096, 1]⟩
abbrev S1x128 : Shape := ⟨2, ![1, 128]⟩
abbrev S1x1 : Shape := ⟨2, ![1, 1]⟩
abbrev S256x32x128 : Shape := ⟨3, ![256, 32, 128]⟩
abbrev S256x16 : Shape := ⟨2, ![256, 16]⟩
abbrev S256x1 : Shape := ⟨2, ![256, 1]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩
abbrev S256x1x128 : Shape := ⟨3, ![256, 1, 128]⟩
abbrev S1x1x128 : Shape := ⟨3, ![1, 1, 128]⟩
abbrev S256x32 : Shape := ⟨2, ![256, 32]⟩
abbrev S1x4 : Shape := ⟨2, ![1, 4]⟩
abbrev S4 : Shape := ⟨1, ![4]⟩

abbrev nBuf : Table → Nat
  | .hbm => 46
  | .local .tc .vmem => 51
  | .local .scVector .vmem => 2
  | _ => 0

abbrev bufTy : (tb : Table) → Fin (nBuf tb) → BufTy
  | .hbm, ⟨0, _⟩ => ⟨S4096x32x64, .f32⟩
  | .hbm, ⟨1, _⟩ => ⟨S4096x32x32, .i1⟩
  | .hbm, ⟨2, _⟩ => ⟨S4096x16, .f32⟩
  | .hbm, ⟨3, _⟩ => ⟨S4096, .i32⟩
  | .hbm, ⟨4, _⟩ => ⟨S4096, .i32⟩
  | .hbm, ⟨5, _⟩ => ⟨S4096, .i32⟩
  | .hbm, ⟨6, _⟩ => ⟨S4096, .i32⟩
  | .hbm, ⟨7, _⟩ => ⟨S10000x16x64, .f32⟩
  | .hbm, ⟨8, _⟩ => ⟨S10000x16x16, .i1⟩
  | .hbm, ⟨9, _⟩ => ⟨S64x128, .f32⟩
  | .hbm, ⟨10, _⟩ => ⟨S128x128, .f32⟩
  | .hbm, ⟨11, _⟩ => ⟨S128x128, .f32⟩
  | .hbm, ⟨12, _⟩ => ⟨S144x128, .f32⟩
  | .hbm, ⟨13, _⟩ => ⟨S128, .f32⟩
  | .hbm, ⟨14, _⟩ => ⟨S_, .f32⟩
  | .hbm, ⟨15, _⟩ => ⟨S64x128, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S400x128, .f32⟩
  | .hbm, ⟨20, _⟩ => ⟨S128, .f32⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S10000x16x16, .i32⟩
  | .hbm, ⟨25, _⟩ => ⟨S10000x128, .f32⟩
  | .hbm, ⟨26, _⟩ => ⟨S128x128, .f32⟩
  | .hbm, ⟨27, _⟩ => ⟨S128x128, .f32⟩
  | .hbm, ⟨28, _⟩ => ⟨S16x128, .f32⟩
  | .hbm, ⟨29, _⟩ => ⟨S4096x32x32, .i32⟩
  | .hbm, ⟨30, _⟩ => ⟨S4096x128, .f32⟩
  | .hbm, ⟨31, _⟩ => ⟨S4096x32x128, .f32⟩
  | .hbm, ⟨32, _⟩ => ⟨S12288, .i32⟩
  | .hbm, ⟨33, _⟩ => ⟨S12288x128, .f32⟩
  | .hbm, ⟨34, _⟩ => ⟨S4096x128, .f32⟩
  | .hbm, ⟨35, _⟩ => ⟨S4096x128, .f32⟩
  | .hbm, ⟨36, _⟩ => ⟨S4096x128, .f32⟩
  | .hbm, ⟨37, _⟩ => ⟨S272x128, .f32⟩
  | .hbm, ⟨38, _⟩ => ⟨S4096x1, .i32⟩
  | .hbm, ⟨39, _⟩ => ⟨S4096x1, .i32⟩
  | .hbm, ⟨40, _⟩ => ⟨S1x128, .f32⟩
  | .hbm, ⟨41, _⟩ => ⟨S1x128, .f32⟩
  | .hbm, ⟨42, _⟩ => ⟨S1x1, .f32⟩
  | .hbm, ⟨43, _⟩ => ⟨S1x128, .f32⟩
  | .hbm, ⟨44, _⟩ => ⟨S1x4, .f32⟩
  | .hbm, ⟨45, _⟩ => ⟨S4, .f32⟩
  | .local .tc .vmem, ⟨0, _⟩ => ⟨S400x16x64, .f32⟩
  | .local .tc .vmem, ⟨1, _⟩ => ⟨S400x16x64, .f32⟩
  | .local .tc .vmem, ⟨2, _⟩ => ⟨S400x16x16, .i32⟩
  | .local .tc .vmem, ⟨3, _⟩ => ⟨S400x16x16, .i32⟩
  | .local .tc .vmem, ⟨4, _⟩ => ⟨S64x128, .f32⟩
  | .local .tc .vmem, ⟨5, _⟩ => ⟨S128x128, .f32⟩
  | .local .tc .vmem, ⟨6, _⟩ => ⟨S128x128, .f32⟩
  | .local .tc .vmem, ⟨7, _⟩ => ⟨S400x128, .f32⟩
  | .local .tc .vmem, ⟨8, _⟩ => ⟨S400x128, .f32⟩
  | .local .tc .vmem, ⟨9, _⟩ => ⟨S256x256, .f32⟩
  | .local .tc .vmem, ⟨10, _⟩ => ⟨S6400x128, .f32⟩
  | .local .tc .vmem, ⟨11, _⟩ => ⟨S128x32x64, .f32⟩
  | .local .tc .vmem, ⟨12, _⟩ => ⟨S128x32x64, .f32⟩
  | .local .tc .vmem, ⟨13, _⟩ => ⟨S128x32x32, .i32⟩
  | .local .tc .vmem, ⟨14, _⟩ => ⟨S128x32x32, .i32⟩
  | .local .tc .vmem, ⟨15, _⟩ => ⟨S128x16, .f32⟩
  | .local .tc .vmem, ⟨16, _⟩ => ⟨S128x16, .f32⟩
  | .local .tc .vmem, ⟨17, _⟩ => ⟨S64x128, .f32⟩
  | .local .tc .vmem, ⟨18, _⟩ => ⟨S128x128, .f32⟩
  | .local .tc .vmem, ⟨19, _⟩ => ⟨S128x128, .f32⟩
  | .local .tc .vmem, ⟨20, _⟩ => ⟨S128x128, .f32⟩
  | .local .tc .vmem, ⟨21, _⟩ => ⟨S16x128, .f32⟩
  | .local .tc .vmem, ⟨22, _⟩ => ⟨S128x128, .f32⟩
  | .local .tc .vmem, ⟨23, _⟩ => ⟨S128x128, .f32⟩
  | .local .tc .vmem, ⟨24, _⟩ => ⟨S128x128, .f32⟩
  | .local .tc .vmem, ⟨25, _⟩ => ⟨S128x128, .f32⟩
  | .local .tc .vmem, ⟨26, _⟩ => ⟨S128x32x128, .f32⟩
  | .local .tc .vmem, ⟨27, _⟩ => ⟨S128x32x128, .f32⟩
  | .local .tc .vmem, ⟨28, _⟩ => ⟨S256x256, .f32⟩
  | .local .tc .vmem, ⟨29, _⟩ => ⟨S4096x128, .f32⟩
  | .local .tc .vmem, ⟨30, _⟩ => ⟨S256x128, .f32⟩
  | .local .tc .vmem, ⟨31, _⟩ => ⟨S256x128, .f32⟩
  | .local .tc .vmem, ⟨32, _⟩ => ⟨S256x128, .f32⟩
  | .local .tc .vmem, ⟨33, _⟩ => ⟨S256x128, .f32⟩
  | .local .tc .vmem, ⟨34, _⟩ => ⟨S256x128, .f32⟩
  | .local .tc .vmem, ⟨35, _⟩ => ⟨S256x128, .f32⟩
  | .local .tc .vmem, ⟨36, _⟩ => ⟨S256x128, .f32⟩
  | .local .tc .vmem, ⟨37, _⟩ => ⟨S256x128, .f32⟩
  | .local .tc .vmem, ⟨38, _⟩ => ⟨S256x32x128, .f32⟩
  | .local .tc .vmem, ⟨39, _⟩ => ⟨S256x32x128, .f32⟩
  | .local .tc .vmem, ⟨40, _⟩ => ⟨S256x16, .f32⟩
  | .local .tc .vmem, ⟨41, _⟩ => ⟨S256x16, .f32⟩
  | .local .tc .vmem, ⟨42, _⟩ => ⟨S256x1, .i32⟩
  | .local .tc .vmem, ⟨43, _⟩ => ⟨S256x1, .i32⟩
  | .local .tc .vmem, ⟨44, _⟩ => ⟨S256x1, .i32⟩
  | .local .tc .vmem, ⟨45, _⟩ => ⟨S256x1, .i32⟩
  | .local .tc .vmem, ⟨46, _⟩ => ⟨S272x128, .f32⟩
  | .local .tc .vmem, ⟨47, _⟩ => ⟨S1x128, .f32⟩
  | .local .tc .vmem, ⟨48, _⟩ => ⟨S1x128, .f32⟩
  | .local .tc .vmem, ⟨49, _⟩ => ⟨S1x1, .f32⟩
  | .local .tc .vmem, ⟨50, _⟩ => ⟨S1x128, .f32⟩
  | .local .scVector .vmem, ⟨0, _⟩ => ⟨S384, .i32⟩
  | .local .scVector .vmem, ⟨1, _⟩ => ⟨S384x128, .f32⟩
  | _, _ => ⟨S4096x32x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => false
  | ⟨27, _⟩ => false
  | ⟨28, _⟩ => false
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTables nBuf rfl bufTy 4 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8_0 : Ref sig .tc := ⟨.hbm, 30, rfl⟩
abbrev main_v8_1 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v3_scv : Ref sig .scVector := ⟨.hbm, 25, rfl⟩
abbrev main_v9_scv : Ref sig .scVector := ⟨.hbm, 32, rfl⟩
abbrev main_v10_scv : Ref sig .scVector := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg10_1 : Ref sig .tc := ⟨.vmem, 25, rfl⟩
abbrev cc1_stg11_0 : Ref sig .tc := ⟨.vmem, 26, rfl⟩
abbrev cc1_stg11_1 : Ref sig .tc := ⟨.vmem, 27, rfl⟩
abbrev cc1_scratch0 : Ref sig .tc := ⟨.vmem, 28, rfl⟩
abbrev cc1_scratch1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg4_1 : Ref sig .tc := ⟨.vmem, 39, rfl⟩
abbrev cc3_stg5_0 : Ref sig .tc := ⟨.vmem, 40, rfl⟩
abbrev cc3_stg5_1 : Ref sig .tc := ⟨.vmem, 41, rfl⟩
abbrev cc3_stg6_0 : Ref sig .tc := ⟨.vmem, 42, rfl⟩
abbrev cc3_stg6_1 : Ref sig .tc := ⟨.vmem, 43, rfl⟩
abbrev cc3_stg7_0 : Ref sig .tc := ⟨.vmem, 44, rfl⟩
abbrev cc3_stg7_1 : Ref sig .tc := ⟨.vmem, 45, rfl⟩
abbrev cc3_stg8_0 : Ref sig .tc := ⟨.vmem, 46, rfl⟩
abbrev cc3_stg9_0 : Ref sig .tc := ⟨.vmem, 47, rfl⟩
abbrev cc3_stg10_0 : Ref sig .tc := ⟨.vmem, 48, rfl⟩
abbrev cc3_stg11_0 : Ref sig .tc := ⟨.vmem, 49, rfl⟩
abbrev cc3_stg12_0 : Ref sig .tc := ⟨.vmem, 50, rfl⟩
abbrev cc2_scratch0 : Ref sig .scVector := ⟨.vmem, 0, rfl⟩
abbrev cc2_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem10_1 : DmaSem sig := 23
abbrev cc1_sem11_0 : DmaSem sig := 24
abbrev cc1_sem11_1 : DmaSem sig := 25
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem3_1 : DmaSem sig := 36
abbrev cc3_sem4_0 : DmaSem sig := 37
abbrev cc3_sem4_1 : DmaSem sig := 38
abbrev cc3_sem5_0 : DmaSem sig := 39
abbrev cc3_sem5_1 : DmaSem sig := 40
abbrev cc3_sem6_0 : DmaSem sig := 41
abbrev cc3_sem6_1 : DmaSem sig := 42
abbrev cc3_sem7_0 : DmaSem sig := 43
abbrev cc3_sem7_1 : DmaSem sig := 44
abbrev cc3_sem8_0 : DmaSem sig := 45
abbrev cc3_sem9_0 : DmaSem sig := 46
abbrev cc3_sem10_0 : DmaSem sig := 47
abbrev cc3_sem11_0 : DmaSem sig := 48
abbrev cc3_sem12_0 : DmaSem sig := 49
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x16x16 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S128x32x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x32x32 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S16x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S128x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S128x32x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c384_i32 : BitVec 32 := 384#32
  let v2 : BitVec 32 := Scalar.muli v1 c384_i32
  ![v2.toNat]
def k2_off2 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c384_i32 : BitVec 32 := 384#32
  let v2 : BitVec 32 := Scalar.muli v1 c384_i32
  let c0_i32_3_r1 : BitVec 32 := 0#32
  ![v2.toNat, 0]
abbrev grid3 : Pipeline.Grid := ⟨1, ![16], ![false]⟩

def k3_cond1 (i : grid3.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k3_cond2 (i : grid3.Coords) : BitVec 1 :=
  let arg0 : BitVec 32 := BitVec.ofNat 32 (i 0).val
  let c15_i32 : BitVec 32 := 15#32
  let v185 : BitVec 1 := Scalar.cmpi .slt arg0 c15_i32
  let v186 : BitVec 32 := Scalar.extui v185
  let c0_i32_74 : BitVec 32 := 0#32
  let v187 : BitVec 1 := Scalar.cmpi .ne v186 c0_i32_74
  v187

def k3_cond3 (i : grid3.Coords) : BitVec 1 :=
  let arg0 : BitVec 32 := BitVec.ofNat 32 (i 0).val
  let c15_i32_75 : BitVec 32 := 15#32
  let v188 : BitVec 1 := Scalar.cmpi .eq arg0 c15_i32_75
  let v189 : BitVec 32 := Scalar.extui v188
  let c0_i32_76 : BitVec 32 := 0#32
  let v190 : BitVec 1 := Scalar.cmpi .ne v189 c0_i32_76
  v190

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S256x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x32x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S256x16 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S256x1 .i32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S256x1 .i32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 1 → Memref sig .tc .vmem S272x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x1 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x32x64 : Shape := ⟨3, ![4096, 32, 64]⟩
abbrev S4096x32x32 : Shape := ⟨3, ![4096, 32, 32]⟩
abbrev S4096x16 : Shape := ⟨2, ![4096, 16]⟩
abbrev S4096 : Shape := ⟨1, ![4096]⟩
abbrev S10000x16x64 : Shape := ⟨3, ![10000, 16, 64]⟩
abbrev S10000x16x16 : Shape := ⟨3, ![10000, 16, 16]⟩
abbrev S64x128 : Shape := ⟨2, ![64, 128]⟩
abbrev S128x128 : Shape := ⟨2, ![128, 128]⟩
abbrev S144x128 : Shape := ⟨2, ![144, 128]⟩
abbrev S128 : Shape := ⟨1, ![128]⟩
abbrev S_ : Shape := ⟨0, ![]⟩
abbrev S400x128 : Shape := ⟨2, ![400, 128]⟩
abbrev S4096x32x128 : Shape := ⟨3, ![4096, 32, 128]⟩
abbrev S4096x128 : Shape := ⟨2, ![4096, 128]⟩
abbrev S4096x144 : Shape := ⟨2, ![4096, 144]⟩
abbrev S4096x1 : Shape := ⟨2, ![4096, 1]⟩
abbrev S4096x16x64 : Shape := ⟨3, ![4096, 16, 64]⟩
abbrev S4096x16x16 : Shape := ⟨3, ![4096, 16, 16]⟩
abbrev S4096x16x128 : Shape := ⟨3, ![4096, 16, 128]⟩
abbrev S4096x272 : Shape := ⟨2, ![4096, 272]⟩
abbrev S4096x1x272 : Shape := ⟨3, ![4096, 1, 272]⟩
abbrev S4096x32x272 : Shape := ⟨3, ![4096, 32, 272]⟩
abbrev S4096x32x400 : Shape := ⟨3, ![4096, 32, 400]⟩
abbrev S4096x32 : Shape := ⟨2, ![4096, 32]⟩
abbrev S4096x2 : Shape := ⟨2, ![4096, 2]⟩
abbrev S1 : Shape := ⟨1, ![1]⟩
abbrev S4 : Shape := ⟨1, ![4]⟩

abbrev nBuf : Space → Nat
  | .hbm => 310
  | .vmem => 0
  | .smem => 0
  | _ => 0

abbrev hbmTy0_0 (i : Nat) : BufTy := match i % 128 with
  | 0 => ⟨S4096x32x64, .f32⟩
  | 1 => ⟨S4096x32x32, .i1⟩
  | 2 => ⟨S4096x16, .f32⟩
  | 3 => ⟨S4096, .i32⟩
  | 4 => ⟨S4096, .i32⟩
  | 5 => ⟨S4096, .i32⟩
  | 6 => ⟨S4096, .i32⟩
  | 7 => ⟨S10000x16x64, .f32⟩
  | 8 => ⟨S10000x16x16, .i1⟩
  | 9 => ⟨S64x128, .f32⟩
  | 10 => ⟨S128x128, .f32⟩
  | 11 => ⟨S128x128, .f32⟩
  | 12 => ⟨S144x128, .f32⟩
  | 13 => ⟨S128, .f32⟩
  | 14 => ⟨S_, .f32⟩
  | 15 => ⟨S64x128, .f32⟩
  | 16 => ⟨S128x128, .f32⟩
  | 17 => ⟨S128x128, .f32⟩
  | 18 => ⟨S128x128, .f32⟩
  | 19 => ⟨S400x128, .f32⟩
  | 20 => ⟨S128, .f32⟩
  | 21 => ⟨S4096x32x32, .f32⟩
  | 22 => ⟨S4096x32x128, .f32⟩
  | 23 => ⟨S_, .f32⟩
  | 24 => ⟨S4096x32x128, .f32⟩
  | 25 => ⟨S4096x32x128, .f32⟩
  | 26 => ⟨S4096x32x128, .f32⟩
  | 27 => ⟨S4096x32x128, .f32⟩
  | 28 => ⟨S4096x32x128, .f32⟩
  | 29 => ⟨S_, .f32⟩
  | 30 => ⟨S4096x32x128, .f32⟩
  | 31 => ⟨S4096x32x128, .f32⟩
  | 32 => ⟨S_, .f32⟩
  | 33 => ⟨S4096x128, .f32⟩
  | 34 => ⟨S4096x128, .f32⟩
  | 35 => ⟨S4096x144, .f32⟩
  | 36 => ⟨S4096x128, .f32⟩
  | 37 => ⟨S_, .f32⟩
  | 38 => ⟨S4096x128, .f32⟩
  | 39 => ⟨S4096x128, .f32⟩
  | 40 => ⟨S_, .i32⟩
  | 41 => ⟨S4096, .i32⟩
  | 42 => ⟨S4096, .i1⟩
  | 43 => ⟨S4096, .f32⟩
  | 44 => ⟨S4096, .f32⟩
  | 45 => ⟨S4096, .f32⟩
  | 46 => ⟨S4096, .f32⟩
  | 47 => ⟨S4096, .f32⟩
  | 48 => ⟨S4096, .f32⟩
  | 49 => ⟨S_, .f32⟩
  | 50 => ⟨S4096, .f32⟩
  | 51 => ⟨S4096, .f32⟩
  | 52 => ⟨S_, .f32⟩
  | 53 => ⟨S4096, .f32⟩
  | 54 => ⟨S4096, .f32⟩
  | 55 => ⟨S_, .f32⟩
  | 56 => ⟨S4096, .f32⟩
  | 57 => ⟨S4096, .f32⟩
  | 58 => ⟨S4096, .f32⟩
  | 59 => ⟨S4096, .f32⟩
  | 60 => ⟨S_, .f32⟩
  | 61 => ⟨S4096, .f32⟩
  | 62 => ⟨S4096, .f32⟩
  | 63 => ⟨S_, .f32⟩
  | 64 => ⟨S4096, .f32⟩
  | 65 => ⟨S4096, .f32⟩
  | 66 => ⟨S4096, .f32⟩
  | 67 => ⟨S4096, .f32⟩
  | 68 => ⟨S4096, .f32⟩
  | 69 => ⟨S4096, .f32⟩
  | 70 => ⟨S_, .f32⟩
  | 71 => ⟨S_, .f32⟩
  | 72 => ⟨S_, .f32⟩
  | 73 => ⟨S_, .f32⟩
  | 74 => ⟨S_, .i32⟩
  | 75 => ⟨S4096, .i32⟩
  | 76 => ⟨S4096, .i1⟩
  | 77 => ⟨S_, .i32⟩
  | 78 => ⟨S_, .i32⟩
  | 79 => ⟨S4096, .i32⟩
  | 80 => ⟨S4096, .i32⟩
  | 81 => ⟨S_, .i32⟩
  | 82 => ⟨S4096, .i32⟩
  | 83 => ⟨S4096, .i1⟩
  | 84 => ⟨S_, .i32⟩
  | 85 => ⟨S4096, .i32⟩
  | 86 => ⟨S4096, .i32⟩
  | 87 => ⟨S4096, .i32⟩
  | 88 => ⟨S4096x1, .i32⟩
  | 89 => ⟨S4096x16x64, .f32⟩
  | 90 => ⟨S_, .i32⟩
  | 91 => ⟨S4096, .i32⟩
  | 92 => ⟨S4096, .i1⟩
  | 93 => ⟨S_, .i32⟩
  | 94 => ⟨S4096, .i32⟩
  | 95 => ⟨S4096, .i32⟩
  | 96 => ⟨S4096, .i32⟩
  | 97 => ⟨S4096x1, .i32⟩
  | 98 => ⟨S4096x16x16, .i1⟩
  | 99 => ⟨S4096x16x16, .f32⟩
  | 100 => ⟨S4096x16x128, .f32⟩
  | 101 => ⟨S_, .f32⟩
  | 102 => ⟨S4096x16x128, .f32⟩
  | 103 => ⟨S4096x16x128, .f32⟩
  | 104 => ⟨S4096x16x128, .f32⟩
  | 105 => ⟨S4096x16x128, .f32⟩
  | 106 => ⟨S4096x16x128, .f32⟩
  | 107 => ⟨S_, .f32⟩
  | 108 => ⟨S4096x16x128, .f32⟩
  | 109 => ⟨S4096x16x128, .f32⟩
  | 110 => ⟨S_, .f32⟩
  | 111 => ⟨S4096x128, .f32⟩
  | 112 => ⟨S4096x128, .f32⟩
  | 113 => ⟨S_, .f32⟩
  | 114 => ⟨S4096x128, .f32⟩
  | 115 => ⟨S4096x128, .f32⟩
  | 116 => ⟨S4096x128, .f32⟩
  | 117 => ⟨S_, .f32⟩
  | 118 => ⟨S4096, .f32⟩
  | 119 => ⟨S4096, .f32⟩
  | 120 => ⟨S4096, .f32⟩
  | 121 => ⟨S_, .f32⟩
  | 122 => ⟨S4096, .f32⟩
  | 123 => ⟨S4096, .f32⟩
  | 124 => ⟨S_, .f32⟩
  | 125 => ⟨S4096, .f32⟩
  | 126 => ⟨S4096, .f32⟩
  | 127 => ⟨S_, .f32⟩
  | _ => ⟨S4096x32x64, .f32⟩

abbrev hbmTy0_1 (i : Nat) : BufTy := match i % 128 with
  | 0 => ⟨S4096, .f32⟩
  | 1 => ⟨S4096, .f32⟩
  | 2 => ⟨S4096, .f32⟩
  | 3 => ⟨S_, .f32⟩
  | 4 => ⟨S_, .f32⟩
  | 5 => ⟨S_, .f32⟩
  | 6 => ⟨S_, .f32⟩
  | 7 => ⟨S_, .f32⟩
  | 8 => ⟨S_, .i32⟩
  | 9 => ⟨S4096, .i32⟩
  | 10 => ⟨S4096, .i1⟩
  | 11 => ⟨S_, .i32⟩
  | 12 => ⟨S4096, .i32⟩
  | 13 => ⟨S4096, .i32⟩
  | 14 => ⟨S4096, .i32⟩
  | 15 => ⟨S4096x1, .i32⟩
  | 16 => ⟨S4096x16x64, .f32⟩
  | 17 => ⟨S_, .i32⟩
  | 18 => ⟨S4096, .i32⟩
  | 19 => ⟨S4096, .i1⟩
  | 20 => ⟨S_, .i32⟩
  | 21 => ⟨S4096, .i32⟩
  | 22 => ⟨S4096, .i32⟩
  | 23 => ⟨S4096, .i32⟩
  | 24 => ⟨S4096x1, .i32⟩
  | 25 => ⟨S4096x16x16, .i1⟩
  | 26 => ⟨S4096x16x16, .f32⟩
  | 27 => ⟨S4096x16x128, .f32⟩
  | 28 => ⟨S_, .f32⟩
  | 29 => ⟨S4096x16x128, .f32⟩
  | 30 => ⟨S4096x16x128, .f32⟩
  | 31 => ⟨S4096x16x128, .f32⟩
  | 32 => ⟨S4096x16x128, .f32⟩
  | 33 => ⟨S4096x16x128, .f32⟩
  | 34 => ⟨S_, .f32⟩
  | 35 => ⟨S4096x16x128, .f32⟩
  | 36 => ⟨S4096x16x128, .f32⟩
  | 37 => ⟨S_, .f32⟩
  | 38 => ⟨S4096x128, .f32⟩
  | 39 => ⟨S4096x128, .f32⟩
  | 40 => ⟨S_, .f32⟩
  | 41 => ⟨S4096x128, .f32⟩
  | 42 => ⟨S4096x128, .f32⟩
  | 43 => ⟨S4096x128, .f32⟩
  | 44 => ⟨S_, .f32⟩
  | 45 => ⟨S4096, .f32⟩
  | 46 => ⟨S4096, .f32⟩
  | 47 => ⟨S4096, .f32⟩
  | 48 => ⟨S_, .f32⟩
  | 49 => ⟨S4096, .f32⟩
  | 50 => ⟨S4096, .f32⟩
  | 51 => ⟨S_, .f32⟩
  | 52 => ⟨S4096, .f32⟩
  | 53 => ⟨S4096, .f32⟩
  | 54 => ⟨S_, .f32⟩
  | 55 => ⟨S4096, .f32⟩
  | 56 => ⟨S4096, .f32⟩
  | 57 => ⟨S4096, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .i32⟩
  | 66 => ⟨S4096, .i32⟩
  | 67 => ⟨S4096, .i1⟩
  | 68 => ⟨S_, .i32⟩
  | 69 => ⟨S4096, .i32⟩
  | 70 => ⟨S4096, .i32⟩
  | 71 => ⟨S4096, .i32⟩
  | 72 => ⟨S4096x1, .i32⟩
  | 73 => ⟨S4096x16x64, .f32⟩
  | 74 => ⟨S_, .i32⟩
  | 75 => ⟨S4096, .i32⟩
  | 76 => ⟨S4096, .i1⟩
  | 77 => ⟨S_, .i32⟩
  | 78 => ⟨S4096, .i32⟩
  | 79 => ⟨S4096, .i32⟩
  | 80 => ⟨S4096, .i32⟩
  | 81 => ⟨S4096x1, .i32⟩
  | 82 => ⟨S4096x16x16, .i1⟩
  | 83 => ⟨S4096x16x16, .f32⟩
  | 84 => ⟨S4096x16x128, .f32⟩
  | 85 => ⟨S_, .f32⟩
  | 86 => ⟨S4096x16x128, .f32⟩
  | 87 => ⟨S4096x16x128, .f32⟩
  | 88 => ⟨S4096x16x128, .f32⟩
  | 89 => ⟨S4096x16x128, .f32⟩
  | 90 => ⟨S4096x16x128, .f32⟩
  | 91 => ⟨S_, .f32⟩
  | 92 => ⟨S4096x16x128, .f32⟩
  | 93 => ⟨S4096x16x128, .f32⟩
  | 94 => ⟨S_, .f32⟩
  | 95 => ⟨S4096x128, .f32⟩
  | 96 => ⟨S4096x128, .f32⟩
  | 97 => ⟨S_, .f32⟩
  | 98 => ⟨S4096x128, .f32⟩
  | 99 => ⟨S4096x128, .f32⟩
  | 100 => ⟨S4096x128, .f32⟩
  | 101 => ⟨S_, .f32⟩
  | 102 => ⟨S4096, .f32⟩
  | 103 => ⟨S4096, .f32⟩
  | 104 => ⟨S4096, .f32⟩
  | 105 => ⟨S_, .f32⟩
  | 106 => ⟨S4096, .f32⟩
  | 107 => ⟨S4096, .f32⟩
  | 108 => ⟨S_, .f32⟩
  | 109 => ⟨S4096, .f32⟩
  | 110 => ⟨S4096, .f32⟩
  | 111 => ⟨S_, .f32⟩
  | 112 => ⟨S4096, .f32⟩
  | 113 => ⟨S4096, .f32⟩
  | 114 => ⟨S4096, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S4096x32x32, .f32⟩
  | 124 => ⟨S4096x32x128, .f32⟩
  | 125 => ⟨S4096x32x128, .f32⟩
  | 126 => ⟨S_, .f32⟩
  | 127 => ⟨S4096x32x128, .f32⟩
  | _ => ⟨S4096x32x64, .f32⟩

abbrev hbmTy0_2 (i : Nat) : BufTy := match i % 128 with
  | 0 => ⟨S4096x32x128, .f32⟩
  | 1 => ⟨S4096x272, .f32⟩
  | 2 => ⟨S4096x1x272, .f32⟩
  | 3 => ⟨S4096x32x272, .f32⟩
  | 4 => ⟨S4096x32x400, .f32⟩
  | 5 => ⟨S4096x32x128, .f32⟩
  | 6 => ⟨S_, .f32⟩
  | 7 => ⟨S4096x32x128, .f32⟩
  | 8 => ⟨S4096x32x128, .f32⟩
  | 9 => ⟨S4096x32, .f32⟩
  | 10 => ⟨S_, .f32⟩
  | 11 => ⟨S4096, .f32⟩
  | 12 => ⟨S_, .f32⟩
  | 13 => ⟨S4096, .f32⟩
  | 14 => ⟨S4096, .f32⟩
  | 15 => ⟨S4096x1, .f32⟩
  | 16 => ⟨S4096x32, .f32⟩
  | 17 => ⟨S4096x32, .f32⟩
  | 18 => ⟨S4096x32, .f32⟩
  | 19 => ⟨S_, .f32⟩
  | 20 => ⟨S4096, .f32⟩
  | 21 => ⟨S4096x1, .f32⟩
  | 22 => ⟨S4096x1, .f32⟩
  | 23 => ⟨S4096x32, .f32⟩
  | 24 => ⟨S4096x32, .f32⟩
  | 25 => ⟨S4096, .i32⟩
  | 26 => ⟨S_, .i32⟩
  | 27 => ⟨S4096, .i32⟩
  | 28 => ⟨S4096, .i1⟩
  | 29 => ⟨S_, .i32⟩
  | 30 => ⟨S4096, .i32⟩
  | 31 => ⟨S4096, .i32⟩
  | 32 => ⟨S4096, .i32⟩
  | 33 => ⟨S_, .i32⟩
  | 34 => ⟨S4096, .i32⟩
  | 35 => ⟨S4096, .i1⟩
  | 36 => ⟨S_, .i32⟩
  | 37 => ⟨S4096, .i32⟩
  | 38 => ⟨S4096, .i32⟩
  | 39 => ⟨S4096, .i32⟩
  | 40 => ⟨S4096x1, .i32⟩
  | 41 => ⟨S4096x1, .i32⟩
  | 42 => ⟨S4096x2, .i32⟩
  | 43 => ⟨S4096, .f32⟩
  | 44 => ⟨S_, .f32⟩
  | 45 => ⟨S_, .f32⟩
  | 46 => ⟨S_, .f32⟩
  | 47 => ⟨S_, .f32⟩
  | 48 => ⟨S_, .f32⟩
  | 49 => ⟨S1, .f32⟩
  | 50 => ⟨S1, .f32⟩
  | 51 => ⟨S1, .f32⟩
  | 52 => ⟨S1, .f32⟩
  | 53 => ⟨S4, .f32⟩
  | _ => ⟨S4096x32x64, .f32⟩

abbrev hbmTy (i : Nat) : BufTy := match i / 128 with
  | 0 => hbmTy0_0 i
  | 1 => hbmTy0_1 i
  | 2 => hbmTy0_2 i
  | _ => ⟨S4096x32x64, .f32⟩

abbrev bufTy : (tb : Table) → Fin (tcTables nBuf tb) → BufTy
  | .hbm, ⟨i, _⟩ => hbmTy i
  | _, _ => ⟨S4096x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_call0_cst : Ref sig .tc := ⟨.hbm, 23, rfl⟩
abbrev main_call0_v0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_call1_cst : Ref sig .tc := ⟨.hbm, 29, rfl⟩
abbrev main_call1_v0 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_call2_cst : Ref sig .tc := ⟨.hbm, 37, rfl⟩
abbrev main_call2_v0 : Ref sig .tc := ⟨.hbm, 38, rfl⟩
abbrev main_v11 : Ref sig .tc := ⟨.hbm, 39, rfl⟩
abbrev main_c : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_cst_0 : Ref sig .tc := ⟨.hbm, 49, rfl⟩
abbrev main_v20 : Ref sig .tc := ⟨.hbm, 50, rfl⟩
abbrev main_v21 : Ref sig .tc := ⟨.hbm, 51, rfl⟩
abbrev main_cst_1 : Ref sig .tc := ⟨.hbm, 52, rfl⟩
abbrev main_v22 : Ref sig .tc := ⟨.hbm, 53, rfl⟩
abbrev main_v23 : Ref sig .tc := ⟨.hbm, 54, rfl⟩
abbrev main_cst_2 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_3 : Ref sig .tc := ⟨.hbm, 60, rfl⟩
abbrev main_v28 : Ref sig .tc := ⟨.hbm, 61, rfl⟩
abbrev main_v29 : Ref sig .tc := ⟨.hbm, 62, rfl⟩
abbrev main_cst_4 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_5 : Ref sig .tc := ⟨.hbm, 70, rfl⟩
abbrev main_v36 : Ref sig .tc := ⟨.hbm, 71, rfl⟩
abbrev main_cst_6 : Ref sig .tc := ⟨.hbm, 72, rfl⟩
abbrev main_v37 : Ref sig .tc := ⟨.hbm, 73, rfl⟩
abbrev main_c_7 : Ref sig .tc := ⟨.hbm, 74, rfl⟩
abbrev main_v38 : Ref sig .tc := ⟨.hbm, 75, rfl⟩
abbrev main_v39 : Ref sig .tc := ⟨.hbm, 76, rfl⟩
abbrev main_c_8 : Ref sig .tc := ⟨.hbm, 77, rfl⟩
abbrev main_call3_v0 : Ref sig .tc := ⟨.hbm, 78, rfl⟩
abbrev main_call3_v1 : Ref sig .tc := ⟨.hbm, 79, rfl⟩
abbrev main_v40 : Ref sig .tc := ⟨.hbm, 80, rfl⟩
abbrev main_c_9 : Ref sig .tc := ⟨.hbm, 81, rfl⟩
abbrev main_v41 : Ref sig .tc := ⟨.hbm, 82, rfl⟩
abbrev main_v42 : Ref sig .tc := ⟨.hbm, 83, rfl⟩
abbrev main_c_10 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_c_11 : Ref sig .tc := ⟨.hbm, 90, rfl⟩
abbrev main_v48 : Ref sig .tc := ⟨.hbm, 91, rfl⟩
abbrev main_v49 : Ref sig .tc := ⟨.hbm, 92, rfl⟩
abbrev main_c_12 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_call4_cst : Ref sig .tc := ⟨.hbm, 101, rfl⟩
abbrev main_call4_v0 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_call5_cst : Ref sig .tc := ⟨.hbm, 107, rfl⟩
abbrev main_call5_v0 : Ref sig .tc := ⟨.hbm, 108, rfl⟩
abbrev main_v61 : Ref sig .tc := ⟨.hbm, 109, rfl⟩
abbrev main_cst_13 : Ref sig .tc := ⟨.hbm, 110, rfl⟩
abbrev main_v62 : Ref sig .tc := ⟨.hbm, 111, rfl⟩
abbrev main_v63 : Ref sig .tc := ⟨.hbm, 112, rfl⟩
abbrev main_call6_cst : Ref sig .tc := ⟨.hbm, 113, rfl⟩
abbrev main_call6_v0 : Ref sig .tc := ⟨.hbm, 114, rfl⟩
abbrev main_v64 : Ref sig .tc := ⟨.hbm, 115, rfl⟩
abbrev main_v65 : Ref sig .tc := ⟨.hbm, 116, rfl⟩
abbrev main_cst_14 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_cst_15 : Ref sig .tc := ⟨.hbm, 121, rfl⟩
abbrev main_v69 : Ref sig .tc := ⟨.hbm, 122, rfl⟩
abbrev main_v70 : Ref sig .tc := ⟨.hbm, 123, rfl⟩
abbrev main_cst_16 : Ref sig .tc := ⟨.hbm, 124, rfl⟩
abbrev main_v71 : Ref sig .tc := ⟨.hbm, 125, rfl⟩
abbrev main_v72 : Ref sig .tc := ⟨.hbm, 126, rfl⟩
abbrev main_cst_17 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_cst_18 : Ref sig .tc := ⟨.hbm, 131, rfl⟩
abbrev main_v76 : Ref sig .tc := ⟨.hbm, 132, rfl⟩
abbrev main_cst_19 : Ref sig .tc := ⟨.hbm, 133, rfl⟩
abbrev main_v77 : Ref sig .tc := ⟨.hbm, 134, rfl⟩
abbrev main_v78 : Ref sig .tc := ⟨.hbm, 135, rfl⟩
abbrev main_c_20 : Ref sig .tc := ⟨.hbm, 136, rfl⟩
abbrev main_v79 : Ref sig .tc := ⟨.hbm, 137, rfl⟩
abbrev main_v80 : Ref sig .tc := ⟨.hbm, 138, rfl⟩
abbrev main_c_21 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_c_22 : Ref sig .tc := ⟨.hbm, 145, rfl⟩
abbrev main_v86 : Ref sig .tc := ⟨.hbm, 146, rfl⟩
abbrev main_v87 : Ref sig .tc := ⟨.hbm, 147, rfl⟩
abbrev main_c_23 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_call7_cst : Ref sig .tc := ⟨.hbm, 156, rfl⟩
abbrev main_call7_v0 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_call8_cst : Ref sig .tc := ⟨.hbm, 162, rfl⟩
abbrev main_call8_v0 : Ref sig .tc := ⟨.hbm, 163, rfl⟩
abbrev main_v99 : Ref sig .tc := ⟨.hbm, 164, rfl⟩
abbrev main_cst_24 : Ref sig .tc := ⟨.hbm, 165, rfl⟩
abbrev main_v100 : Ref sig .tc := ⟨.hbm, 166, rfl⟩
abbrev main_v101 : Ref sig .tc := ⟨.hbm, 167, rfl⟩
abbrev main_call9_cst : Ref sig .tc := ⟨.hbm, 168, rfl⟩
abbrev main_call9_v0 : Ref sig .tc := ⟨.hbm, 169, rfl⟩
abbrev main_v102 : Ref sig .tc := ⟨.hbm, 170, rfl⟩
abbrev main_v103 : Ref sig .tc := ⟨.hbm, 171, rfl⟩
abbrev main_cst_25 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_cst_26 : Ref sig .tc := ⟨.hbm, 176, rfl⟩
abbrev main_v107 : Ref sig .tc := ⟨.hbm, 177, rfl⟩
abbrev main_v108 : Ref sig .tc := ⟨.hbm, 178, rfl⟩
abbrev main_cst_27 : Ref sig .tc := ⟨.hbm, 179, rfl⟩
abbrev main_v109 : Ref sig .tc := ⟨.hbm, 180, rfl⟩
abbrev main_v110 : Ref sig .tc := ⟨.hbm, 181, rfl⟩
abbrev main_cst_28 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_cst_29 : Ref sig .tc := ⟨.hbm, 186, rfl⟩
abbrev main_v114 : Ref sig .tc := ⟨.hbm, 187, rfl⟩
abbrev main_cst_30 : Ref sig .tc := ⟨.hbm, 188, rfl⟩
abbrev main_v115 : Ref sig .tc := ⟨.hbm, 189, rfl⟩
abbrev main_v116 : Ref sig .tc := ⟨.hbm, 190, rfl⟩
abbrev main_cst_31 : Ref sig .tc := ⟨.hbm, 191, rfl⟩
abbrev main_v117 : Ref sig .tc := ⟨.hbm, 192, rfl⟩
abbrev main_c_32 : Ref sig .tc := ⟨.hbm, 193, rfl⟩
abbrev main_v118 : Ref sig .tc := ⟨.hbm, 194, rfl⟩
abbrev main_v119 : Ref sig .tc := ⟨.hbm, 195, rfl⟩
abbrev main_c_33 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_c_34 : Ref sig .tc := ⟨.hbm, 202, rfl⟩
abbrev main_v125 : Ref sig .tc := ⟨.hbm, 203, rfl⟩
abbrev main_v126 : Ref sig .tc := ⟨.hbm, 204, rfl⟩
abbrev main_c_35 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_call10_cst : Ref sig .tc := ⟨.hbm, 213, rfl⟩
abbrev main_call10_v0 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_call11_cst : Ref sig .tc := ⟨.hbm, 219, rfl⟩
abbrev main_call11_v0 : Ref sig .tc := ⟨.hbm, 220, rfl⟩
abbrev main_v138 : Ref sig .tc := ⟨.hbm, 221, rfl⟩
abbrev main_cst_36 : Ref sig .tc := ⟨.hbm, 222, rfl⟩
abbrev main_v139 : Ref sig .tc := ⟨.hbm, 223, rfl⟩
abbrev main_v140 : Ref sig .tc := ⟨.hbm, 224, rfl⟩
abbrev main_call12_cst : Ref sig .tc := ⟨.hbm, 225, rfl⟩
abbrev main_call12_v0 : Ref sig .tc := ⟨.hbm, 226, rfl⟩
abbrev main_v141 : Ref sig .tc := ⟨.hbm, 227, rfl⟩
abbrev main_v142 : Ref sig .tc := ⟨.hbm, 228, rfl⟩
abbrev main_cst_37 : Ref sig .tc := ⟨.hbm, 229, rfl⟩
abbrev main_v143 : Ref sig .tc := ⟨.hbm, 230, rfl⟩
abbrev main_v144 : Ref sig .tc := ⟨.hbm, 231, rfl⟩
abbrev main_v145 : Ref sig .tc := ⟨.hbm, 232, rfl⟩
abbrev main_cst_38 : Ref sig .tc := ⟨.hbm, 233, rfl⟩
abbrev main_v146 : Ref sig .tc := ⟨.hbm, 234, rfl⟩
abbrev main_v147 : Ref sig .tc := ⟨.hbm, 235, rfl⟩
abbrev main_cst_39 : Ref sig .tc := ⟨.hbm, 236, rfl⟩
abbrev main_v148 : Ref sig .tc := ⟨.hbm, 237, rfl⟩
abbrev main_v149 : Ref sig .tc := ⟨.hbm, 238, rfl⟩
abbrev main_cst_40 : Ref sig .tc := ⟨.hbm, 239, rfl⟩
abbrev main_v150 : Ref sig .tc := ⟨.hbm, 240, rfl⟩
abbrev main_v151 : Ref sig .tc := ⟨.hbm, 241, rfl⟩
abbrev main_v152 : Ref sig .tc := ⟨.hbm, 242, rfl⟩
abbrev main_cst_41 : Ref sig .tc := ⟨.hbm, 243, rfl⟩
abbrev main_v153 : Ref sig .tc := ⟨.hbm, 244, rfl⟩
abbrev main_cst_42 : Ref sig .tc := ⟨.hbm, 245, rfl⟩
abbrev main_v154 : Ref sig .tc := ⟨.hbm, 246, rfl⟩
abbrev main_v155 : Ref sig .tc := ⟨.hbm, 247, rfl⟩
abbrev main_v156 : Ref sig .tc := ⟨.hbm, 248, rfl⟩
abbrev main_cst_43 : Ref sig .tc := ⟨.hbm, 249, rfl⟩
abbrev main_v157 : Ref sig .tc := ⟨.hbm, 250, rfl⟩
abbrev main_v158 : Ref sig .tc := ⟨.hbm, 251, rfl⟩
abbrev main_v159 : Ref sig .tc := ⟨.hbm, 252, rfl⟩
abbrev main_v160 : Ref sig .tc := ⟨.hbm, 253, rfl⟩
abbrev main_call13_cst : Ref sig .tc := ⟨.hbm, 254, rfl⟩
abbrev main_call13_v0 : Ref sig .tc := ⟨.hbm, 255, rfl⟩
abbrev main_v161 : Ref sig .tc := ⟨.hbm, 256, rfl⟩
abbrev main_v162 : Ref sig .tc := ⟨.hbm, 257, rfl⟩
abbrev main_v163 : Ref sig .tc := ⟨.hbm, 258, rfl⟩
abbrev main_v164 : Ref sig .tc := ⟨.hbm, 259, rfl⟩
abbrev main_v165 : Ref sig .tc := ⟨.hbm, 260, rfl⟩
abbrev main_v166 : Ref sig .tc := ⟨.hbm, 261, rfl⟩
abbrev main_call14_cst : Ref sig .tc := ⟨.hbm, 262, rfl⟩
abbrev main_call14_v0 : Ref sig .tc := ⟨.hbm, 263, rfl⟩
abbrev main_v167 : Ref sig .tc := ⟨.hbm, 264, rfl⟩
abbrev main_v168 : Ref sig .tc := ⟨.hbm, 265, rfl⟩
abbrev main_call15_cst : Ref sig .tc := ⟨.hbm, 266, rfl⟩
abbrev main_call15_v0 : Ref sig .tc := ⟨.hbm, 267, rfl⟩
abbrev main_call15_cst_0 : Ref sig .tc := ⟨.hbm, 268, rfl⟩
abbrev main_call15_v1 : Ref sig .tc := ⟨.hbm, 269, rfl⟩
abbrev main_call15_v2 : Ref sig .tc := ⟨.hbm, 270, rfl⟩
abbrev main_call15_v3 : Ref sig .tc := ⟨.hbm, 271, rfl⟩
abbrev main_call15_v4 : Ref sig .tc := ⟨.hbm, 272, rfl⟩
abbrev main_call15_v5 : Ref sig .tc := ⟨.hbm, 273, rfl⟩
abbrev main_call15_v6 : Ref sig .tc := ⟨.hbm, 274, rfl⟩
abbrev main_call15_cst_1 : Ref sig .tc := ⟨.hbm, 275, rfl⟩
abbrev main_call15_v7 : Ref sig .tc := ⟨.hbm, 276, rfl⟩
abbrev main_call15_v8 : Ref sig .tc := ⟨.hbm, 277, rfl⟩
abbrev main_call15_v9 : Ref sig .tc := ⟨.hbm, 278, rfl⟩
abbrev main_call15_v10 : Ref sig .tc := ⟨.hbm, 279, rfl⟩
abbrev main_v169 : Ref sig .tc := ⟨.hbm, 280, rfl⟩
abbrev main_v170 : Ref sig .tc := ⟨.hbm, 281, rfl⟩
abbrev main_c_44 : Ref sig .tc := ⟨.hbm, 282, rfl⟩
abbrev main_v171 : Ref sig .tc := ⟨.hbm, 283, rfl⟩
abbrev main_v172 : Ref sig .tc := ⟨.hbm, 284, rfl⟩
abbrev main_c_45 : Ref sig .tc := ⟨.hbm, 285, rfl⟩
abbrev main_v173 : Ref sig .tc := ⟨.hbm, 286, rfl⟩
abbrev main_v174 : Ref sig .tc := ⟨.hbm, 287, rfl⟩
abbrev main_v175 : Ref sig .tc := ⟨.hbm, 288, rfl⟩
abbrev main_c_46 : Ref sig .tc := ⟨.hbm, 289, rfl⟩
abbrev main_v176 : Ref sig .tc := ⟨.hbm, 290, rfl⟩
abbrev main_v177 : Ref sig .tc := ⟨.hbm, 291, rfl⟩
abbrev main_c_47 : Ref sig .tc := ⟨.hbm, 292, rfl⟩
abbrev main_v178 : Ref sig .tc := ⟨.hbm, 293, rfl⟩
abbrev main_v179 : Ref sig .tc := ⟨.hbm, 294, rfl⟩
abbrev main_v180 : Ref sig .tc := ⟨.hbm, 295, rfl⟩
abbrev main_v181 : Ref sig .tc := ⟨.hbm, 296, rfl⟩
abbrev main_v182 : Ref sig .tc := ⟨.hbm, 297, rfl⟩
abbrev main_v183 : Ref sig .tc := ⟨.hbm, 298, rfl⟩
abbrev main_v184 : Ref sig .tc := ⟨.hbm, 299, rfl⟩
abbrev main_cst_48 : Ref sig .tc := ⟨.hbm, 300, rfl⟩
abbrev main_v185 : Ref sig .tc := ⟨.hbm, 301, rfl⟩
abbrev main_cst_49 : Ref sig .tc := ⟨.hbm, 302, rfl⟩
abbrev main_v186 : Ref sig .tc := ⟨.hbm, 303, rfl⟩
abbrev main_v187 : Ref sig .tc := ⟨.hbm, 304, rfl⟩
abbrev main_v188 : Ref sig .tc := ⟨.hbm, 305, rfl⟩
abbrev main_v189 : Ref sig .tc := ⟨.hbm, 306, rfl⟩
abbrev main_v190 : Ref sig .tc := ⟨.hbm, 307, rfl⟩
abbrev main_v191 : Ref sig .tc := ⟨.hbm, 308, rfl⟩
abbrev main_v192 : Ref sig .tc := ⟨.hbm, 309, rfl⟩

abbrev nD : Nat := 1
abbrev τ : Topo := Topo.v7x

variable {F : FTy → Type} [FloatOps F]
-- ==== Sampler.lean ====
abbrev S10000 : Shape := ⟨1, ![10000]⟩
abbrev S4096 : Shape := ⟨1, ![4096]⟩
abbrev S_ : Shape := ⟨0, ![]⟩
abbrev S112 : Shape := ⟨1, ![112]⟩
abbrev S10112 : Shape := ⟨1, ![10112]⟩
abbrev S79x128x1 : Shape := ⟨3, ![79, 128, 1]⟩
abbrev S32x1x128 : Shape := ⟨3, ![32, 1, 128]⟩
abbrev S1x128x1 : Shape := ⟨3, ![1, 128, 1]⟩
abbrev S1x1x128 : Shape := ⟨3, ![1, 1, 128]⟩
abbrev S1x128 : Shape := ⟨2, ![1, 128]⟩
abbrev S128x128 : Shape := ⟨2, ![128, 128]⟩
abbrev S128x1 : Shape := ⟨2, ![128, 1]⟩
abbrev S128 : Shape := ⟨1, ![128]⟩

abbrev nBuf : Space → Nat
  | .hbm => 11
  | .vmem => 12
  | .smem => 0
  | _ => 0

abbrev bufTy : (tb : Table) → Fin (tcTables nBuf tb) → BufTy
  | .hbm, ⟨0, _⟩ => ⟨S10000, .f32⟩
  | .hbm, ⟨1, _⟩ => ⟨S4096, .i32⟩
  | .hbm, ⟨2, _⟩ => ⟨S_, .f32⟩
  | .hbm, ⟨3, _⟩ => ⟨S112, .f32⟩
  | .hbm, ⟨4, _⟩ => ⟨S10112, .f32⟩
  | .hbm, ⟨5, _⟩ => ⟨S79x128x1, .f32⟩
  | .hbm, ⟨6, _⟩ => ⟨S32x1x128, .i32⟩
  | .hbm, ⟨7, _⟩ => ⟨S32x1x128, .i32⟩
  | .hbm, ⟨8, _⟩ => ⟨S32x1x128, .i32⟩
  | .hbm, ⟨9, _⟩ => ⟨S4096, .i32⟩
  | .hbm, ⟨10, _⟩ => ⟨S4096, .i32⟩
  | .local _ .vmem, ⟨0, _⟩ => ⟨S1x128x1, .f32⟩
  | .local _ .vmem, ⟨1, _⟩ => ⟨S1x128x1, .f32⟩
  | .local _ .vmem, ⟨2, _⟩ => ⟨S1x1x128, .i32⟩
  | .local _ .vmem, ⟨3, _⟩ => ⟨S1x1x128, .i32⟩
  | .local _ .vmem, ⟨4, _⟩ => ⟨S1x1x128, .i32⟩
  | .local _ .vmem, ⟨5, _⟩ => ⟨S1x1x128, .i32⟩
  | .local _ .vmem, ⟨6, _⟩ => ⟨S1x1x128, .i32⟩
  | .local _ .vmem, ⟨7, _⟩ => ⟨S1x1x128, .i32⟩
  | .local _ .vmem, ⟨8, _⟩ => ⟨S1x128, .f32⟩
  | .local _ .vmem, ⟨9, _⟩ => ⟨S1x128, .i32⟩
  | .local _ .vmem, ⟨10, _⟩ => ⟨S1x128, .f32⟩
  | .local _ .vmem, ⟨11, _⟩ => ⟨S1x128, .i32⟩
  | _, _ => ⟨S10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 79], ![false, false]⟩

def k0_cond2 (i : grid0.Coords) : BitVec 1 :=
  let arg1 : BitVec 32 := BitVec.ofNat 32 (i 1).val
  let c78_i32 : BitVec 32 := 78#32
  let v449 : BitVec 1 := Scalar.cmpi .eq arg1 c78_i32
  let v450 : BitVec 32 := Scalar.extui v449
  let c0_i32_138 : BitVec 32 := 0#32
  let v451 : BitVec 1 := Scalar.cmpi .ne v450 c0_i32_138
  v451

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== SampledIdeal.lean ====
abbrev S10000 : Shape := ⟨1, ![10000]⟩
abbrev S4096 : Shape := ⟨1, ![4096]⟩
abbrev S2x2 : Shape := ⟨2, ![2, 2]⟩
abbrev S1x10000 : Shape := ⟨2, ![1, 10000]⟩
abbrev S_ : Shape := ⟨0, ![]⟩
abbrev S4096x1 : Shape := ⟨2, ![4096, 1]⟩
abbrev S4096x10000 : Shape := ⟨2, ![4096, 10000]⟩
abbrev S4096x2 : Shape := ⟨2, ![4096, 2]⟩
abbrev S2x1 : Shape := ⟨2, ![2, 1]⟩
abbrev S2 : Shape := ⟨1, ![2]⟩
abbrev S1x4096x10000 : Shape := ⟨3, ![1, 4096, 10000]⟩
abbrev S2x1x1 : Shape := ⟨3, ![2, 1, 1]⟩
abbrev S2x4096x10000 : Shape := ⟨3, ![2, 4096, 10000]⟩
abbrev S2x4096 : Shape := ⟨2, ![2, 4096]⟩
abbrev S1x4096 : Shape := ⟨2, ![1, 4096]⟩

abbrev nBuf : Space → Nat
  | .hbm => 311
  | .vmem => 0
  | .smem => 0
  | _ => 0

abbrev hbmTy0_0 (i : Nat) : BufTy := match i % 128 with
  | 0 => ⟨S10000, .f32⟩
  | 1 => ⟨S4096, .i32⟩
  | 2 => ⟨S2x2, .i32⟩
  | 3 => ⟨S10000, .f32⟩
  | 4 => ⟨S1x10000, .f32⟩
  | 5 => ⟨S_, .f32⟩
  | 6 => ⟨S4096x1, .f32⟩
  | 7 => ⟨S4096x10000, .f32⟩
  | 8 => ⟨S4096x10000, .f32⟩
  | 9 => ⟨S4096x10000, .f32⟩
  | 10 => ⟨S4096, .i32⟩
  | 11 => ⟨S_, .i32⟩
  | 12 => ⟨S4096, .i32⟩
  | 13 => ⟨S4096, .i1⟩
  | 14 => ⟨S_, .i32⟩
  | 15 => ⟨S4096, .i32⟩
  | 16 => ⟨S4096, .i32⟩
  | 17 => ⟨S4096, .i32⟩
  | 18 => ⟨S_, .i32⟩
  | 19 => ⟨S4096, .i32⟩
  | 20 => ⟨S4096, .i1⟩
  | 21 => ⟨S_, .i32⟩
  | 22 => ⟨S4096, .i32⟩
  | 23 => ⟨S4096, .i32⟩
  | 24 => ⟨S4096, .i32⟩
  | 25 => ⟨S4096x1, .i32⟩
  | 26 => ⟨S4096x1, .i32⟩
  | 27 => ⟨S4096x2, .i32⟩
  | 28 => ⟨S_, .f32⟩
  | 29 => ⟨S4096, .f32⟩
  | 30 => ⟨S4096x10000, .f32⟩
  | 31 => ⟨S2x1, .i32⟩
  | 32 => ⟨S2, .i32⟩
  | 33 => ⟨S2x1, .i32⟩
  | 34 => ⟨S2, .i32⟩
  | 35 => ⟨S4096x10000, .i64⟩
  | 36 => ⟨S4096x10000, .i64⟩
  | 37 => ⟨S_, .i64⟩
  | 38 => ⟨S4096x10000, .i64⟩
  | 39 => ⟨S4096x10000, .i64⟩
  | 40 => ⟨S_, .i64⟩
  | 41 => ⟨S4096x10000, .i64⟩
  | 42 => ⟨S4096x10000, .i64⟩
  | 43 => ⟨S4096x10000, .i64⟩
  | 44 => ⟨S_, .i64⟩
  | 45 => ⟨S4096x10000, .i64⟩
  | 46 => ⟨S4096x10000, .i64⟩
  | 47 => ⟨S4096x10000, .i32⟩
  | 48 => ⟨S4096x10000, .i32⟩
  | 49 => ⟨S1x4096x10000, .i32⟩
  | 50 => ⟨S1x4096x10000, .i32⟩
  | 51 => ⟨S2x1x1, .i32⟩
  | 52 => ⟨S2x1x1, .i32⟩
  | 53 => ⟨S2x1x1, .i32⟩
  | 54 => ⟨S_, .i32⟩
  | 55 => ⟨S2x1x1, .i32⟩
  | 56 => ⟨S2x1x1, .i32⟩
  | 57 => ⟨S2x4096x10000, .i32⟩
  | 58 => ⟨S2x4096x10000, .i32⟩
  | 59 => ⟨S2x4096x10000, .i32⟩
  | 60 => ⟨S2x4096x10000, .i32⟩
  | 61 => ⟨S2x4096x10000, .i32⟩
  | 62 => ⟨S2x4096x10000, .i32⟩
  | 63 => ⟨S2x4096x10000, .i32⟩
  | 64 => ⟨S_, .i32⟩
  | 65 => ⟨S2x4096x10000, .i32⟩
  | 66 => ⟨S2x4096x10000, .i32⟩
  | 67 => ⟨S_, .i32⟩
  | 68 => ⟨S2x4096x10000, .i32⟩
  | 69 => ⟨S2x4096x10000, .i32⟩
  | 70 => ⟨S2x4096x10000, .i32⟩
  | 71 => ⟨S2x4096x10000, .i32⟩
  | 72 => ⟨S2x4096x10000, .i32⟩
  | 73 => ⟨S_, .i32⟩
  | 74 => ⟨S2x4096x10000, .i32⟩
  | 75 => ⟨S2x4096x10000, .i32⟩
  | 76 => ⟨S_, .i32⟩
  | 77 => ⟨S2x4096x10000, .i32⟩
  | 78 => ⟨S2x4096x10000, .i32⟩
  | 79 => ⟨S2x4096x10000, .i32⟩
  | 80 => ⟨S2x4096x10000, .i32⟩
  | 81 => ⟨S2x4096x10000, .i32⟩
  | 82 => ⟨S_, .i32⟩
  | 83 => ⟨S2x4096x10000, .i32⟩
  | 84 => ⟨S2x4096x10000, .i32⟩
  | 85 => ⟨S_, .i32⟩
  | 86 => ⟨S2x4096x10000, .i32⟩
  | 87 => ⟨S2x4096x10000, .i32⟩
  | 88 => ⟨S2x4096x10000, .i32⟩
  | 89 => ⟨S2x4096x10000, .i32⟩
  | 90 => ⟨S2x4096x10000, .i32⟩
  | 91 => ⟨S_, .i32⟩
  | 92 => ⟨S2x4096x10000, .i32⟩
  | 93 => ⟨S2x4096x10000, .i32⟩
  | 94 => ⟨S_, .i32⟩
  | 95 => ⟨S2x4096x10000, .i32⟩
  | 96 => ⟨S2x4096x10000, .i32⟩
  | 97 => ⟨S2x4096x10000, .i32⟩
  | 98 => ⟨S2x4096x10000, .i32⟩
  | 99 => ⟨S2x4096x10000, .i32⟩
  | 100 => ⟨S2x4096x10000, .i32⟩
  | 101 => ⟨S2x4096x10000, .i32⟩
  | 102 => ⟨S2x4096x10000, .i32⟩
  | 103 => ⟨S_, .i32⟩
  | 104 => ⟨S2x4096x10000, .i32⟩
  | 105 => ⟨S2x4096x10000, .i32⟩
  | 106 => ⟨S2x4096x10000, .i32⟩
  | 107 => ⟨S_, .i32⟩
  | 108 => ⟨S2x4096x10000, .i32⟩
  | 109 => ⟨S2x4096x10000, .i32⟩
  | 110 => ⟨S_, .i32⟩
  | 111 => ⟨S2x4096x10000, .i32⟩
  | 112 => ⟨S2x4096x10000, .i32⟩
  | 113 => ⟨S2x4096x10000, .i32⟩
  | 114 => ⟨S2x4096x10000, .i32⟩
  | 115 => ⟨S2x4096x10000, .i32⟩
  | 116 => ⟨S_, .i32⟩
  | 117 => ⟨S2x4096x10000, .i32⟩
  | 118 => ⟨S2x4096x10000, .i32⟩
  | 119 => ⟨S_, .i32⟩
  | 120 => ⟨S2x4096x10000, .i32⟩
  | 121 => ⟨S2x4096x10000, .i32⟩
  | 122 => ⟨S2x4096x10000, .i32⟩
  | 123 => ⟨S2x4096x10000, .i32⟩
  | 124 => ⟨S2x4096x10000, .i32⟩
  | 125 => ⟨S_, .i32⟩
  | 126 => ⟨S2x4096x10000, .i32⟩
  | 127 => ⟨S2x4096x10000, .i32⟩
  | _ => ⟨S10000, .f32⟩

abbrev hbmTy0_1 (i : Nat) : BufTy := match i % 128 with
  | 0 => ⟨S_, .i32⟩
  | 1 => ⟨S2x4096x10000, .i32⟩
  | 2 => ⟨S2x4096x10000, .i32⟩
  | 3 => ⟨S2x4096x10000, .i32⟩
  | 4 => ⟨S2x4096x10000, .i32⟩
  | 5 => ⟨S2x4096x10000, .i32⟩
  | 6 => ⟨S_, .i32⟩
  | 7 => ⟨S2x4096x10000, .i32⟩
  | 8 => ⟨S2x4096x10000, .i32⟩
  | 9 => ⟨S_, .i32⟩
  | 10 => ⟨S2x4096x10000, .i32⟩
  | 11 => ⟨S2x4096x10000, .i32⟩
  | 12 => ⟨S2x4096x10000, .i32⟩
  | 13 => ⟨S2x4096x10000, .i32⟩
  | 14 => ⟨S2x4096x10000, .i32⟩
  | 15 => ⟨S2x4096x10000, .i32⟩
  | 16 => ⟨S2x4096x10000, .i32⟩
  | 17 => ⟨S2x4096x10000, .i32⟩
  | 18 => ⟨S_, .i32⟩
  | 19 => ⟨S2x4096x10000, .i32⟩
  | 20 => ⟨S2x4096x10000, .i32⟩
  | 21 => ⟨S2x4096x10000, .i32⟩
  | 22 => ⟨S_, .i32⟩
  | 23 => ⟨S2x4096x10000, .i32⟩
  | 24 => ⟨S2x4096x10000, .i32⟩
  | 25 => ⟨S_, .i32⟩
  | 26 => ⟨S2x4096x10000, .i32⟩
  | 27 => ⟨S2x4096x10000, .i32⟩
  | 28 => ⟨S2x4096x10000, .i32⟩
  | 29 => ⟨S2x4096x10000, .i32⟩
  | 30 => ⟨S2x4096x10000, .i32⟩
  | 31 => ⟨S_, .i32⟩
  | 32 => ⟨S2x4096x10000, .i32⟩
  | 33 => ⟨S2x4096x10000, .i32⟩
  | 34 => ⟨S_, .i32⟩
  | 35 => ⟨S2x4096x10000, .i32⟩
  | 36 => ⟨S2x4096x10000, .i32⟩
  | 37 => ⟨S2x4096x10000, .i32⟩
  | 38 => ⟨S2x4096x10000, .i32⟩
  | 39 => ⟨S2x4096x10000, .i32⟩
  | 40 => ⟨S_, .i32⟩
  | 41 => ⟨S2x4096x10000, .i32⟩
  | 42 => ⟨S2x4096x10000, .i32⟩
  | 43 => ⟨S_, .i32⟩
  | 44 => ⟨S2x4096x10000, .i32⟩
  | 45 => ⟨S2x4096x10000, .i32⟩
  | 46 => ⟨S2x4096x10000, .i32⟩
  | 47 => ⟨S2x4096x10000, .i32⟩
  | 48 => ⟨S2x4096x10000, .i32⟩
  | 49 => ⟨S_, .i32⟩
  | 50 => ⟨S2x4096x10000, .i32⟩
  | 51 => ⟨S2x4096x10000, .i32⟩
  | 52 => ⟨S_, .i32⟩
  | 53 => ⟨S2x4096x10000, .i32⟩
  | 54 => ⟨S2x4096x10000, .i32⟩
  | 55 => ⟨S2x4096x10000, .i32⟩
  | 56 => ⟨S2x4096x10000, .i32⟩
  | 57 => ⟨S2x4096x10000, .i32⟩
  | 58 => ⟨S2x4096x10000, .i32⟩
  | 59 => ⟨S2x4096x10000, .i32⟩
  | 60 => ⟨S2x4096x10000, .i32⟩
  | 61 => ⟨S_, .i32⟩
  | 62 => ⟨S2x4096x10000, .i32⟩
  | 63 => ⟨S2x4096x10000, .i32⟩
  | 64 => ⟨S2x4096x10000, .i32⟩
  | 65 => ⟨S_, .i32⟩
  | 66 => ⟨S2x4096x10000, .i32⟩
  | 67 => ⟨S2x4096x10000, .i32⟩
  | 68 => ⟨S_, .i32⟩
  | 69 => ⟨S2x4096x10000, .i32⟩
  | 70 => ⟨S2x4096x10000, .i32⟩
  | 71 => ⟨S2x4096x10000, .i32⟩
  | 72 => ⟨S2x4096x10000, .i32⟩
  | 73 => ⟨S2x4096x10000, .i32⟩
  | 74 => ⟨S_, .i32⟩
  | 75 => ⟨S2x4096x10000, .i32⟩
  | 76 => ⟨S2x4096x10000, .i32⟩
  | 77 => ⟨S_, .i32⟩
  | 78 => ⟨S2x4096x10000, .i32⟩
  | 79 => ⟨S2x4096x10000, .i32⟩
  | 80 => ⟨S2x4096x10000, .i32⟩
  | 81 => ⟨S2x4096x10000, .i32⟩
  | 82 => ⟨S2x4096x10000, .i32⟩
  | 83 => ⟨S_, .i32⟩
  | 84 => ⟨S2x4096x10000, .i32⟩
  | 85 => ⟨S2x4096x10000, .i32⟩
  | 86 => ⟨S_, .i32⟩
  | 87 => ⟨S2x4096x10000, .i32⟩
  | 88 => ⟨S2x4096x10000, .i32⟩
  | 89 => ⟨S2x4096x10000, .i32⟩
  | 90 => ⟨S2x4096x10000, .i32⟩
  | 91 => ⟨S2x4096x10000, .i32⟩
  | 92 => ⟨S_, .i32⟩
  | 93 => ⟨S2x4096x10000, .i32⟩
  | 94 => ⟨S2x4096x10000, .i32⟩
  | 95 => ⟨S_, .i32⟩
  | 96 => ⟨S2x4096x10000, .i32⟩
  | 97 => ⟨S2x4096x10000, .i32⟩
  | 98 => ⟨S2x4096x10000, .i32⟩
  | 99 => ⟨S2x4096x10000, .i32⟩
  | 100 => ⟨S2x4096x10000, .i32⟩
  | 101 => ⟨S2x4096x10000, .i32⟩
  | 102 => ⟨S2x4096x10000, .i32⟩
  | 103 => ⟨S2x4096x10000, .i32⟩
  | 104 => ⟨S_, .i32⟩
  | 105 => ⟨S2x4096x10000, .i32⟩
  | 106 => ⟨S2x4096x10000, .i32⟩
  | 107 => ⟨S2x4096x10000, .i32⟩
  | 108 => ⟨S_, .i32⟩
  | 109 => ⟨S2x4096x10000, .i32⟩
  | 110 => ⟨S2x4096x10000, .i32⟩
  | 111 => ⟨S_, .i32⟩
  | 112 => ⟨S2x4096x10000, .i32⟩
  | 113 => ⟨S2x4096x10000, .i32⟩
  | 114 => ⟨S2x4096x10000, .i32⟩
  | 115 => ⟨S2x4096x10000, .i32⟩
  | 116 => ⟨S2x4096x10000, .i32⟩
  | 117 => ⟨S_, .i32⟩
  | 118 => ⟨S2x4096x10000, .i32⟩
  | 119 => ⟨S2x4096x10000, .i32⟩
  | 120 => ⟨S_, .i32⟩
  | 121 => ⟨S2x4096x10000, .i32⟩
  | 122 => ⟨S2x4096x10000, .i32⟩
  | 123 => ⟨S2x4096x10000, .i32⟩
  | 124 => ⟨S2x4096x10000, .i32⟩
  | 125 => ⟨S2x4096x10000, .i32⟩
  | 126 => ⟨S_, .i32⟩
  | 127 => ⟨S2x4096x10000, .i32⟩
  | _ => ⟨S10000, .f32⟩

abbrev hbmTy0_2 (i : Nat) : BufTy := match i % 128 with
  | 0 => ⟨S2x4096x10000, .i32⟩
  | 1 => ⟨S_, .i32⟩
  | 2 => ⟨S2x4096x10000, .i32⟩
  | 3 => ⟨S2x4096x10000, .i32⟩
  | 4 => ⟨S2x4096x10000, .i32⟩
  | 5 => ⟨S2x4096x10000, .i32⟩
  | 6 => ⟨S2x4096x10000, .i32⟩
  | 7 => ⟨S_, .i32⟩
  | 8 => ⟨S2x4096x10000, .i32⟩
  | 9 => ⟨S2x4096x10000, .i32⟩
  | 10 => ⟨S_, .i32⟩
  | 11 => ⟨S2x4096x10000, .i32⟩
  | 12 => ⟨S2x4096x10000, .i32⟩
  | 13 => ⟨S2x4096x10000, .i32⟩
  | 14 => ⟨S2x4096x10000, .i32⟩
  | 15 => ⟨S2x4096x10000, .i32⟩
  | 16 => ⟨S2x4096x10000, .i32⟩
  | 17 => ⟨S2x4096x10000, .i32⟩
  | 18 => ⟨S2x4096x10000, .i32⟩
  | 19 => ⟨S_, .i32⟩
  | 20 => ⟨S2x4096x10000, .i32⟩
  | 21 => ⟨S2x4096x10000, .i32⟩
  | 22 => ⟨S2x4096x10000, .i32⟩
  | 23 => ⟨S_, .i32⟩
  | 24 => ⟨S2x4096x10000, .i32⟩
  | 25 => ⟨S2x4096x10000, .i32⟩
  | 26 => ⟨S_, .i32⟩
  | 27 => ⟨S2x4096x10000, .i32⟩
  | 28 => ⟨S2x4096x10000, .i32⟩
  | 29 => ⟨S2x4096x10000, .f32⟩
  | 30 => ⟨S_, .f32⟩
  | 31 => ⟨S2x4096x10000, .f32⟩
  | 32 => ⟨S2x4096x10000, .f32⟩
  | 33 => ⟨S_, .f32⟩
  | 34 => ⟨S2x4096x10000, .f32⟩
  | 35 => ⟨S2x4096x10000, .f32⟩
  | 36 => ⟨S_, .f32⟩
  | 37 => ⟨S2x4096x10000, .f32⟩
  | 38 => ⟨S2x4096x10000, .f32⟩
  | 39 => ⟨S2x4096x10000, .f32⟩
  | 40 => ⟨S2x4096x10000, .f32⟩
  | 41 => ⟨S2x4096x10000, .f32⟩
  | 42 => ⟨S2x4096x10000, .f32⟩
  | 43 => ⟨S1x4096x10000, .f32⟩
  | 44 => ⟨S2x4096x10000, .f32⟩
  | 45 => ⟨S2x4096x10000, .f32⟩
  | 46 => ⟨S2x4096x10000, .i32⟩
  | 47 => ⟨S_, .f32⟩
  | 48 => ⟨S_, .i32⟩
  | 49 => ⟨S2x4096, .f32⟩
  | 50 => ⟨S2x4096, .i32⟩
  | 51 => ⟨S1x4096, .i32⟩
  | 52 => ⟨S4096, .i32⟩
  | 53 => ⟨S1x4096, .i32⟩
  | 54 => ⟨S4096, .i32⟩
  | _ => ⟨S10000, .f32⟩

abbrev hbmTy (i : Nat) : BufTy := match i / 128 with
  | 0 => hbmTy0_0 i
  | 1 => hbmTy0_1 i
  | 2 => hbmTy0_2 i
  | _ => ⟨S10000, .f32⟩

abbrev bufTy : (tb : Table) → Fin (tcTables nBuf tb) → BufTy
  | .hbm, ⟨i, _⟩ => hbmTy i
  | _, _ => ⟨S10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_5 : Ref sig .tc := ⟨.hbm, 37, rfl⟩
abbrev main_v28 : Ref sig .tc := ⟨.hbm, 38, rfl⟩
abbrev main_v29 : Ref sig .tc := ⟨.hbm, 39, rfl⟩
abbrev main_c_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_7 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_call0_v0 : Ref sig .tc := ⟨.hbm, 53, rfl⟩
abbrev main_call0_c : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_v8 : Ref sig .tc := ⟨.hbm, 62, rfl⟩
abbrev main_call0_v9 : Ref sig .tc := ⟨.hbm, 63, rfl⟩
abbrev main_call0_c_0 : Ref sig .tc := ⟨.hbm, 64, rfl⟩
abbrev main_call0_v10 : Ref sig .tc := ⟨.hbm, 65, rfl⟩
abbrev main_call0_v11 : Ref sig .tc := ⟨.hbm, 66, rfl⟩
abbrev main_call0_c_1 : Ref sig .tc := ⟨.hbm, 67, rfl⟩
abbrev main_call0_v12 : Ref sig .tc := ⟨.hbm, 68, rfl⟩
abbrev main_call0_v13 : Ref sig .tc := ⟨.hbm, 69, rfl⟩
abbrev main_call0_v14 : Ref sig .tc := ⟨.hbm, 70, rfl⟩
abbrev main_call0_v15 : Ref sig .tc := ⟨.hbm, 71, rfl⟩
abbrev main_call0_v16 : Ref sig .tc := ⟨.hbm, 72, rfl⟩
abbrev main_call0_c_2 : Ref sig .tc := ⟨.hbm, 73, rfl⟩
abbrev main_call0_v17 : Ref sig .tc := ⟨.hbm, 74, rfl⟩
abbrev main_call0_v18 : Ref sig .tc := ⟨.hbm, 75, rfl⟩
abbrev main_call0_c_3 : Ref sig .tc := ⟨.hbm, 76, rfl⟩
abbrev main_call0_v19 : Ref sig .tc := ⟨.hbm, 77, rfl⟩
abbrev main_call0_v20 : Ref sig .tc := ⟨.hbm, 78, rfl⟩
abbrev main_call0_v21 : Ref sig .tc := ⟨.hbm, 79, rfl⟩
abbrev main_call0_v22 : Ref sig .tc := ⟨.hbm, 80, rfl⟩
abbrev main_call0_v23 : Ref sig .tc := ⟨.hbm, 81, rfl⟩
abbrev main_call0_c_4 : Ref sig .tc := ⟨.hbm, 82, rfl⟩
abbrev main_call0_v24 : Ref sig .tc := ⟨.hbm, 83, rfl⟩
abbrev main_call0_v25 : Ref sig .tc := ⟨.hbm, 84, rfl⟩
abbrev main_call0_c_5 : Ref sig .tc := ⟨.hbm, 85, rfl⟩
abbrev main_call0_v26 : Ref sig .tc := ⟨.hbm, 86, rfl⟩
abbrev main_call0_v27 : Ref sig .tc := ⟨.hbm, 87, rfl⟩
abbrev main_call0_v28 : Ref sig .tc := ⟨.hbm, 88, rfl⟩
abbrev main_call0_v29 : Ref sig .tc := ⟨.hbm, 89, rfl⟩
abbrev main_call0_v30 : Ref sig .tc := ⟨.hbm, 90, rfl⟩
abbrev main_call0_c_6 : Ref sig .tc := ⟨.hbm, 91, rfl⟩
abbrev main_call0_v31 : Ref sig .tc := ⟨.hbm, 92, rfl⟩
abbrev main_call0_v32 : Ref sig .tc := ⟨.hbm, 93, rfl⟩
abbrev main_call0_c_7 : Ref sig .tc := ⟨.hbm, 94, rfl⟩
abbrev main_call0_v33 : Ref sig .tc := ⟨.hbm, 95, rfl⟩
abbrev main_call0_v34 : Ref sig .tc := ⟨.hbm, 96, rfl⟩
abbrev main_call0_v35 : Ref sig .tc := ⟨.hbm, 97, rfl⟩
abbrev main_call0_v36 : Ref sig .tc := ⟨.hbm, 98, rfl⟩
abbrev main_call0_v37 : Ref sig .tc := ⟨.hbm, 99, rfl⟩
abbrev main_call0_v38 : Ref sig .tc := ⟨.hbm, 100, rfl⟩
abbrev main_call0_v39 : Ref sig .tc := ⟨.hbm, 101, rfl⟩
abbrev main_call0_v40 : Ref sig .tc := ⟨.hbm, 102, rfl⟩
abbrev main_call0_c_8 : Ref sig .tc := ⟨.hbm, 103, rfl⟩
abbrev main_call0_v41 : Ref sig .tc := ⟨.hbm, 104, rfl⟩
abbrev main_call0_v42 : Ref sig .tc := ⟨.hbm, 105, rfl⟩
abbrev main_call0_v43 : Ref sig .tc := ⟨.hbm, 106, rfl⟩
abbrev main_call0_c_9 : Ref sig .tc := ⟨.hbm, 107, rfl⟩
abbrev main_call0_v44 : Ref sig .tc := ⟨.hbm, 108, rfl⟩
abbrev main_call0_v45 : Ref sig .tc := ⟨.hbm, 109, rfl⟩
abbrev main_call0_c_10 : Ref sig .tc := ⟨.hbm, 110, rfl⟩
abbrev main_call0_v46 : Ref sig .tc := ⟨.hbm, 111, rfl⟩
abbrev main_call0_v47 : Ref sig .tc := ⟨.hbm, 112, rfl⟩
abbrev main_call0_v48 : Ref sig .tc := ⟨.hbm, 113, rfl⟩
abbrev main_call0_v49 : Ref sig .tc := ⟨.hbm, 114, rfl⟩
abbrev main_call0_v50 : Ref sig .tc := ⟨.hbm, 115, rfl⟩
abbrev main_call0_c_11 : Ref sig .tc := ⟨.hbm, 116, rfl⟩
abbrev main_call0_v51 : Ref sig .tc := ⟨.hbm, 117, rfl⟩
abbrev main_call0_v52 : Ref sig .tc := ⟨.hbm, 118, rfl⟩
abbrev main_call0_c_12 : Ref sig .tc := ⟨.hbm, 119, rfl⟩
abbrev main_call0_v53 : Ref sig .tc := ⟨.hbm, 120, rfl⟩
abbrev main_call0_v54 : Ref sig .tc := ⟨.hbm, 121, rfl⟩
abbrev main_call0_v55 : Ref sig .tc := ⟨.hbm, 122, rfl⟩
abbrev main_call0_v56 : Ref sig .tc := ⟨.hbm, 123, rfl⟩
abbrev main_call0_v57 : Ref sig .tc := ⟨.hbm, 124, rfl⟩
abbrev main_call0_c_13 : Ref sig .tc := ⟨.hbm, 125, rfl⟩
abbrev main_call0_v58 : Ref sig .tc := ⟨.hbm, 126, rfl⟩
abbrev main_call0_v59 : Ref sig .tc := ⟨.hbm, 127, rfl⟩
abbrev main_call0_c_14 : Ref sig .tc := ⟨.hbm, 128, rfl⟩
abbrev main_call0_v60 : Ref sig .tc := ⟨.hbm, 129, rfl⟩
abbrev main_call0_v61 : Ref sig .tc := ⟨.hbm, 130, rfl⟩
abbrev main_call0_v62 : Ref sig .tc := ⟨.hbm, 131, rfl⟩
abbrev main_call0_v63 : Ref sig .tc := ⟨.hbm, 132, rfl⟩
abbrev main_call0_v64 : Ref sig .tc := ⟨.hbm, 133, rfl⟩
abbrev main_call0_c_15 : Ref sig .tc := ⟨.hbm, 134, rfl⟩
abbrev main_call0_v65 : Ref sig .tc := ⟨.hbm, 135, rfl⟩
abbrev main_call0_v66 : Ref sig .tc := ⟨.hbm, 136, rfl⟩
abbrev main_call0_c_16 : Ref sig .tc := ⟨.hbm, 137, rfl⟩
abbrev main_call0_v67 : Ref sig .tc := ⟨.hbm, 138, rfl⟩
abbrev main_call0_v68 : Ref sig .tc := ⟨.hbm, 139, rfl⟩
abbrev main_call0_v69 : Ref sig .tc := ⟨.hbm, 140, rfl⟩
abbrev main_call0_v70 : Ref sig .tc := ⟨.hbm, 141, rfl⟩
abbrev main_call0_v71 : Ref sig .tc := ⟨.hbm, 142, rfl⟩
abbrev main_call0_v72 : Ref sig .tc := ⟨.hbm, 143, rfl⟩
abbrev main_call0_v73 : Ref sig .tc := ⟨.hbm, 144, rfl⟩
abbrev main_call0_v74 : Ref sig .tc := ⟨.hbm, 145, rfl⟩
abbrev main_call0_c_17 : Ref sig .tc := ⟨.hbm, 146, rfl⟩
abbrev main_call0_v75 : Ref sig .tc := ⟨.hbm, 147, rfl⟩
abbrev main_call0_v76 : Ref sig .tc := ⟨.hbm, 148, rfl⟩
abbrev main_call0_v77 : Ref sig .tc := ⟨.hbm, 149, rfl⟩
abbrev main_call0_c_18 : Ref sig .tc := ⟨.hbm, 150, rfl⟩
abbrev main_call0_v78 : Ref sig .tc := ⟨.hbm, 151, rfl⟩
abbrev main_call0_v79 : Ref sig .tc := ⟨.hbm, 152, rfl⟩
abbrev main_call0_c_19 : Ref sig .tc := ⟨.hbm, 153, rfl⟩
abbrev main_call0_v80 : Ref sig .tc := ⟨.hbm, 154, rfl⟩
abbrev main_call0_v81 : Ref sig .tc := ⟨.hbm, 155, rfl⟩
abbrev main_call0_v82 : Ref sig .tc := ⟨.hbm, 156, rfl⟩
abbrev main_call0_v83 : Ref sig .tc := ⟨.hbm, 157, rfl⟩
abbrev main_call0_v84 : Ref sig .tc := ⟨.hbm, 158, rfl⟩
abbrev main_call0_c_20 : Ref sig .tc := ⟨.hbm, 159, rfl⟩
abbrev main_call0_v85 : Ref sig .tc := ⟨.hbm, 160, rfl⟩
abbrev main_call0_v86 : Ref sig .tc := ⟨.hbm, 161, rfl⟩
abbrev main_call0_c_21 : Ref sig .tc := ⟨.hbm, 162, rfl⟩
abbrev main_call0_v87 : Ref sig .tc := ⟨.hbm, 163, rfl⟩
abbrev main_call0_v88 : Ref sig .tc := ⟨.hbm, 164, rfl⟩
abbrev main_call0_v89 : Ref sig .tc := ⟨.hbm, 165, rfl⟩
abbrev main_call0_v90 : Ref sig .tc := ⟨.hbm, 166, rfl⟩
abbrev main_call0_v91 : Ref sig .tc := ⟨.hbm, 167, rfl⟩
abbrev main_call0_c_22 : Ref sig .tc := ⟨.hbm, 168, rfl⟩
abbrev main_call0_v92 : Ref sig .tc := ⟨.hbm, 169, rfl⟩
abbrev main_call0_v93 : Ref sig .tc := ⟨.hbm, 170, rfl⟩
abbrev main_call0_c_23 : Ref sig .tc := ⟨.hbm, 171, rfl⟩
abbrev main_call0_v94 : Ref sig .tc := ⟨.hbm, 172, rfl⟩
abbrev main_call0_v95 : Ref sig .tc := ⟨.hbm, 173, rfl⟩
abbrev main_call0_v96 : Ref sig .tc := ⟨.hbm, 174, rfl⟩
abbrev main_call0_v97 : Ref sig .tc := ⟨.hbm, 175, rfl⟩
abbrev main_call0_v98 : Ref sig .tc := ⟨.hbm, 176, rfl⟩
abbrev main_call0_c_24 : Ref sig .tc := ⟨.hbm, 177, rfl⟩
abbrev main_call0_v99 : Ref sig .tc := ⟨.hbm, 178, rfl⟩
abbrev main_call0_v100 : Ref sig .tc := ⟨.hbm, 179, rfl⟩
abbrev main_call0_c_25 : Ref sig .tc := ⟨.hbm, 180, rfl⟩
abbrev main_call0_v101 : Ref sig .tc := ⟨.hbm, 181, rfl⟩
abbrev main_call0_v102 : Ref sig .tc := ⟨.hbm, 182, rfl⟩
abbrev main_call0_v103 : Ref sig .tc := ⟨.hbm, 183, rfl⟩
abbrev main_call0_v104 : Ref sig .tc := ⟨.hbm, 184, rfl⟩
abbrev main_call0_v105 : Ref sig .tc := ⟨.hbm, 185, rfl⟩
abbrev main_call0_v106 : Ref sig .tc := ⟨.hbm, 186, rfl⟩
abbrev main_call0_v107 : Ref sig .tc := ⟨.hbm, 187, rfl⟩
abbrev main_call0_v108 : Ref sig .tc := ⟨.hbm, 188, rfl⟩
abbrev main_call0_c_26 : Ref sig .tc := ⟨.hbm, 189, rfl⟩
abbrev main_call0_v109 : Ref sig .tc := ⟨.hbm, 190, rfl⟩
abbrev main_call0_v110 : Ref sig .tc := ⟨.hbm, 191, rfl⟩
abbrev main_call0_v111 : Ref sig .tc := ⟨.hbm, 192, rfl⟩
abbrev main_call0_c_27 : Ref sig .tc := ⟨.hbm, 193, rfl⟩
abbrev main_call0_v112 : Ref sig .tc := ⟨.hbm, 194, rfl⟩
abbrev main_call0_v113 : Ref sig .tc := ⟨.hbm, 195, rfl⟩
abbrev main_call0_c_28 : Ref sig .tc := ⟨.hbm, 196, rfl⟩
abbrev main_call0_v114 : Ref sig .tc := ⟨.hbm, 197, rfl⟩
abbrev main_call0_v115 : Ref sig .tc := ⟨.hbm, 198, rfl⟩
abbrev main_call0_v116 : Ref sig .tc := ⟨.hbm, 199, rfl⟩
abbrev main_call0_v117 : Ref sig .tc := ⟨.hbm, 200, rfl⟩
abbrev main_call0_v118 : Ref sig .tc := ⟨.hbm, 201, rfl⟩
abbrev main_call0_c_29 : Ref sig .tc := ⟨.hbm, 202, rfl⟩
abbrev main_call0_v119 : Ref sig .tc := ⟨.hbm, 203, rfl⟩
abbrev main_call0_v120 : Ref sig .tc := ⟨.hbm, 204, rfl⟩
abbrev main_call0_c_30 : Ref sig .tc := ⟨.hbm, 205, rfl⟩
abbrev main_call0_v121 : Ref sig .tc := ⟨.hbm, 206, rfl⟩
abbrev main_call0_v122 : Ref sig .tc := ⟨.hbm, 207, rfl⟩
abbrev main_call0_v123 : Ref sig .tc := ⟨.hbm, 208, rfl⟩
abbrev main_call0_v124 : Ref sig .tc := ⟨.hbm, 209, rfl⟩
abbrev main_call0_v125 : Ref sig .tc := ⟨.hbm, 210, rfl⟩
abbrev main_call0_c_31 : Ref sig .tc := ⟨.hbm, 211, rfl⟩
abbrev main_call0_v126 : Ref sig .tc := ⟨.hbm, 212, rfl⟩
abbrev main_call0_v127 : Ref sig .tc := ⟨.hbm, 213, rfl⟩
abbrev main_call0_c_32 : Ref sig .tc := ⟨.hbm, 214, rfl⟩
abbrev main_call0_v128 : Ref sig .tc := ⟨.hbm, 215, rfl⟩
abbrev main_call0_v129 : Ref sig .tc := ⟨.hbm, 216, rfl⟩
abbrev main_call0_v130 : Ref sig .tc := ⟨.hbm, 217, rfl⟩
abbrev main_call0_v131 : Ref sig .tc := ⟨.hbm, 218, rfl⟩
abbrev main_call0_v132 : Ref sig .tc := ⟨.hbm, 219, rfl⟩
abbrev main_call0_c_33 : Ref sig .tc := ⟨.hbm, 220, rfl⟩
abbrev main_call0_v133 : Ref sig .tc := ⟨.hbm, 221, rfl⟩
abbrev main_call0_v134 : Ref sig .tc := ⟨.hbm, 222, rfl⟩
abbrev main_call0_c_34 : Ref sig .tc := ⟨.hbm, 223, rfl⟩
abbrev main_call0_v135 : Ref sig .tc := ⟨.hbm, 224, rfl⟩
abbrev main_call0_v136 : Ref sig .tc := ⟨.hbm, 225, rfl⟩
abbrev main_call0_v137 : Ref sig .tc := ⟨.hbm, 226, rfl⟩
abbrev main_call0_v138 : Ref sig .tc := ⟨.hbm, 227, rfl⟩
abbrev main_call0_v139 : Ref sig .tc := ⟨.hbm, 228, rfl⟩
abbrev main_call0_v140 : Ref sig .tc := ⟨.hbm, 229, rfl⟩
abbrev main_call0_v141 : Ref sig .tc := ⟨.hbm, 230, rfl⟩
abbrev main_call0_v142 : Ref sig .tc := ⟨.hbm, 231, rfl⟩
abbrev main_call0_c_35 : Ref sig .tc := ⟨.hbm, 232, rfl⟩
abbrev main_call0_v143 : Ref sig .tc := ⟨.hbm, 233, rfl⟩
abbrev main_call0_v144 : Ref sig .tc := ⟨.hbm, 234, rfl⟩
abbrev main_call0_v145 : Ref sig .tc := ⟨.hbm, 235, rfl⟩
abbrev main_call0_c_36 : Ref sig .tc := ⟨.hbm, 236, rfl⟩
abbrev main_call0_v146 : Ref sig .tc := ⟨.hbm, 237, rfl⟩
abbrev main_call0_v147 : Ref sig .tc := ⟨.hbm, 238, rfl⟩
abbrev main_call0_c_37 : Ref sig .tc := ⟨.hbm, 239, rfl⟩
abbrev main_call0_v148 : Ref sig .tc := ⟨.hbm, 240, rfl⟩
abbrev main_call0_v149 : Ref sig .tc := ⟨.hbm, 241, rfl⟩
abbrev main_call0_v150 : Ref sig .tc := ⟨.hbm, 242, rfl⟩
abbrev main_call0_v151 : Ref sig .tc := ⟨.hbm, 243, rfl⟩
abbrev main_call0_v152 : Ref sig .tc := ⟨.hbm, 244, rfl⟩
abbrev main_call0_c_38 : Ref sig .tc := ⟨.hbm, 245, rfl⟩
abbrev main_call0_v153 : Ref sig .tc := ⟨.hbm, 246, rfl⟩
abbrev main_call0_v154 : Ref sig .tc := ⟨.hbm, 247, rfl⟩
abbrev main_call0_c_39 : Ref sig .tc := ⟨.hbm, 248, rfl⟩
abbrev main_call0_v155 : Ref sig .tc := ⟨.hbm, 249, rfl⟩
abbrev main_call0_v156 : Ref sig .tc := ⟨.hbm, 250, rfl⟩
abbrev main_call0_v157 : Ref sig .tc := ⟨.hbm, 251, rfl⟩
abbrev main_call0_v158 : Ref sig .tc := ⟨.hbm, 252, rfl⟩
abbrev main_call0_v159 : Ref sig .tc := ⟨.hbm, 253, rfl⟩
abbrev main_call0_c_40 : Ref sig .tc := ⟨.hbm, 254, rfl⟩
abbrev main_call0_v160 : Ref sig .tc := ⟨.hbm, 255, rfl⟩
abbrev main_call0_v161 : Ref sig .tc := ⟨.hbm, 256, rfl⟩
abbrev main_call0_c_41 : Ref sig .tc := ⟨.hbm, 257, rfl⟩
abbrev main_call0_v162 : Ref sig .tc := ⟨.hbm, 258, rfl⟩
abbrev main_call0_v163 : Ref sig .tc := ⟨.hbm, 259, rfl⟩
abbrev main_call0_v164 : Ref sig .tc := ⟨.hbm, 260, rfl⟩
abbrev main_call0_v165 : Ref sig .tc := ⟨.hbm, 261, rfl⟩
abbrev main_call0_v166 : Ref sig .tc := ⟨.hbm, 262, rfl⟩
abbrev main_call0_c_42 : Ref sig .tc := ⟨.hbm, 263, rfl⟩
abbrev main_call0_v167 : Ref sig .tc := ⟨.hbm, 264, rfl⟩
abbrev main_call0_v168 : Ref sig .tc := ⟨.hbm, 265, rfl⟩
abbrev main_call0_c_43 : Ref sig .tc := ⟨.hbm, 266, rfl⟩
abbrev main_call0_v169 : Ref sig .tc := ⟨.hbm, 267, rfl⟩
abbrev main_call0_v170 : Ref sig .tc := ⟨.hbm, 268, rfl⟩
abbrev main_call0_v171 : Ref sig .tc := ⟨.hbm, 269, rfl⟩
abbrev main_call0_v172 : Ref sig .tc := ⟨.hbm, 270, rfl⟩
abbrev main_call0_v173 : Ref sig .tc := ⟨.hbm, 271, rfl⟩
abbrev main_v41_0 : Ref sig .tc := ⟨.hbm, 272, rfl⟩
abbrev main_call0_v175 : Ref sig .tc := ⟨.hbm, 273, rfl⟩
abbrev main_call0_v176 : Ref sig .tc := ⟨.hbm, 274, rfl⟩
abbrev main_call0_c_44 : Ref sig .tc := ⟨.hbm, 275, rfl⟩
abbrev main_call0_v177 : Ref sig .tc := ⟨.hbm, 276, rfl⟩
abbrev main_v41_1 : Ref sig .tc := ⟨.hbm, 277, rfl⟩
abbrev main_v42 : Ref sig .tc := ⟨.hbm, 278, rfl⟩
abbrev main_c_8 : Ref sig .tc := ⟨.hbm, 279, rfl⟩
abbrev main_v43 : Ref sig .tc := ⟨.hbm, 280, rfl⟩
abbrev main_v44 : Ref sig .tc := ⟨.hbm, 281, rfl⟩
abbrev main_c_9 : Ref sig .tc := ⟨.hbm, 282, rfl⟩
abbrev main_v45 : Ref sig .tc := ⟨.hbm, 283, rfl⟩
abbrev main_v46 : Ref sig .tc := ⟨.hbm, 284, rfl⟩
abbrev main_v47 : Ref sig .tc := ⟨.hbm, 285, rfl⟩
abbrev main_cst_10 : Ref sig .tc := ⟨.hbm, 286, rfl⟩
abbrev main_v48 : Ref sig .tc := ⟨.hbm, 287, rfl⟩
abbrev main_v49 : Ref sig .tc := ⟨.hbm, 288, rfl⟩
abbrev main_cst_11 : Ref sig .tc := ⟨.hbm, 289, rfl⟩
abbrev main_v50 : Ref sig .tc := ⟨.hbm, 290, rfl⟩
abbrev main_v51 : Ref sig .tc := ⟨.hbm, 291, rfl⟩
abbrev main_cst_12 : Ref sig .tc := ⟨.hbm, 292, rfl⟩
abbrev main_v52 : Ref sig .tc := ⟨.hbm, 293, rfl⟩
abbrev main_v53 : Ref sig .tc := ⟨.hbm, 294, rfl⟩
abbrev main_v54 : Ref sig .tc := ⟨.hbm, 295, rfl⟩
abbrev main_v55 : Ref sig .tc := ⟨.hbm, 296, rfl⟩
abbrev main_v56 : Ref sig .tc := ⟨.hbm, 297, rfl⟩
abbrev main_v57 : Ref sig .tc := ⟨.hbm, 298, rfl⟩
abbrev main_v58 : Ref sig .tc := ⟨.hbm, 299, rfl⟩
abbrev main_v59 : Ref sig .tc := ⟨.hbm, 300, rfl⟩
abbrev main_v60 : Ref sig .tc := ⟨.hbm, 301, rfl⟩
abbrev main_call1_v0 : Ref sig .tc := ⟨.hbm, 302, rfl⟩
abbrev main_call1_cst : Ref sig .tc := ⟨.hbm, 303, rfl⟩
abbrev main_call1_c : Ref sig .tc := ⟨.hbm, 304, rfl⟩
abbrev main_call1_v1_0 : Ref sig .tc := ⟨.hbm, 305, rfl⟩
abbrev main_v61 : Ref sig .tc := ⟨.hbm, 306, rfl⟩
abbrev main_v62 : Ref sig .tc := ⟨.hbm, 307, rfl⟩
abbrev main_v63 : Ref sig .tc := ⟨.hbm, 308, rfl⟩
abbrev main_v64 : Ref sig .tc := ⟨.hbm, 309, rfl⟩
abbrev main_v65 : Ref sig .tc := ⟨.hbm, 310, rfl⟩

abbrev nD : Nat := 1
abbrev τ : Topo := Topo.v7x

variable {F : FTy → Type} [FloatOps F]
-- ==== Proof.Tc.lean ====
/-
  What the TensorCore calls share: the program's names, the resource algebra, and the rules for a load or a store of a
  memref held whole at contents given as a function of the index.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.RegionArraysS
public import Idealize.ShloMosaic.Lib.Tactic
public import Idealize.ShloMosaic.Lib.ValueIdxCore
public import Idealize.ShloMosaic.Lib.WritesUnit
public import proofs.«01_k».proof.Proof.Gen.KernelIdeal
public import proofs.«01_k».proof.Proof.Gen.KernelIdeal.Skeleton

@[expose] public section

noncomputable section

namespace Cert.Proof.Tc

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The handshakes' rounds, the pipelines' rounds, the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

variable [FloatOps F]

abbrev 𝒱₀ : Variants := Variants.none
abbrev 𝒱 : Variants := 𝒱₀.lift
abbrev v₀ : 𝒱.V := Sum.inl none

/-- The program as the launch theorem sees it. -/
abbrev ΛP : Labels := Pipeline.Sig Λ₀ (Fin 3) fun p => (pcfgs (F := F) p).Adm
abbrev K : SparseCore.Cfg τ sig (ΛP (F := F)) 1 := sc (F := F)
abbrev D : Defs nD τ sig (Elt F) (ΛP (F := F)) := Pipeline.defs pcfgs defs₀

omit [FloatOps F] in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL
def EP : Emb UP (MT nD τ sig (HIx 1) (Elt F) ℕ UU ℕ) := (Emb.inl : Emb UP (UP × Counters)).trans embR
omit [FloatOps F] in
theorem EP_landsIn : (EP (F := F)).LandsIn (upEmb : UEmb _ 𝕄) := by unfold EP embR; infer_instance
attribute [instance] EP_landsIn

/-- Contents `X` overwritten by `w` on the rectangle at `off`. -/
def over {s : Shape} {α : Type} (off size : Fin s.rank → ℕ) (X : s.Idx → α) (w : ((a : Fin s.rank) → Fin (size a)) → α) : s.Idx → α :=
  fun y => if h : ∀ a, off a ≤ (y a).val ∧ (y a).val < off a + size a then w (Rect.unitLocal y h) else X y

theorem over_of_mem {s : Shape} {α : Type} {off size : Fin s.rank → ℕ} {X : s.Idx → α} {w : ((a : Fin s.rank) → Fin (size a)) → α} (y : s.Idx)
    (x : (a : Fin s.rank) → Fin (size a)) (h : ∀ a, (y a).val = off a + (x a).val) : over off size X w y = w x := by
  have h' : ∀ a, off a ≤ (y a).val ∧ (y a).val < off a + size a := fun a => by have := h a; have := (x a).isLt; omega
  unfold over
  rw [dif_pos h']
  exact congrArg w (funext fun a => Fin.ext (by rw [Rect.unitLocal_val, h a]; omega))
theorem over_of_not_mem {s : Shape} {α : Type} {off size : Fin s.rank → ℕ} {X : s.Idx → α} {w : ((a : Fin s.rank) → Fin (size a)) → α} (y : s.Idx)
    (a : Fin s.rank) (h : (y a).val < off a ∨ off a + size a ≤ (y a).val) : over off size X w y = X y := by
  unfold over
  rw [dif_neg fun h' => by have := h' a; omega]

/-- Overwriting everything leaves what was written. -/
theorem over_whole {s : Shape} {α : Type} {off : Fin s.rank → ℕ} (hoff : ∀ a, off a = 0) {X : s.Idx → α} {w : s.Idx → α} :
    over off s.size X w = w :=
  funext fun y => over_of_mem y y fun a => by rw [hoff a]; omega

section Rules

variable {d : Dev nD} {s : Shape} {e : EltTy} {α : Type}
variable (E : Set ℕ) {Q : α → sProp (MT nD τ sig (HIx 1) (Elt F) ℕ UU ℕ)}

/-- A load of a rectangle of a memref held at `X` continues at `X` on the rectangle. -/
theorem load_owns (M : Memref sig .tc .vmem s e) (r : Rect s) {hl : M.view.LoadsAt r.toLoadRect} (X : s.Idx → Elt F e)
    (k : (r.shape.Idx → Elt F e) → Prog (TpuEff nD τ sig (Elt F) Λ₀ .tc) α) :
    iprop(owns (d : Thread nD τ) M fullShare X
        ∗ (owns (d : Thread nD τ) M fullShare X -∗ wp frame (wpE (defs₀ (F := F)) 𝒱₀ (d : Thread nD τ) none) E (k fun y => X (r.emb y)) Q))
      ⊢ (wp frame (wpE (defs₀ (F := F)) 𝒱₀ (d : Thread nD τ) none) E (.op (.load M r.toLoadRect hl) k) Q : sProp 𝕄) := by
  unfold owns
  iintro ⟨⟨%f, %hf, H⟩, Hk⟩
  iapply (wp_load_rect (defs := defs₀ (F := F)) 𝒱₀ (d : Thread nD τ) none E (cs := .vmem) (m := M) (r := r) (hl := hl) (k := k) (S := M.view.set) (q := fullShare) (f := f)
    (by rw [View.set_slice]; exact Finset.map_subset_map.mpr (Finset.subset_univ _))) $$ H
  iintro H
  have hr : (M.access r).read (Elt F) f = fun y => X (r.emb y) := by
    subst hf; rfl
  rw [hr]
  iapply Hk
  iexists f; isplitr
  · ipureintro; exact hf
  · iexact H

/-- A store through a unit-stride rectangle of a memref held at `X` leaves it overwritten there. -/
theorem store_owns (M : Memref sig .tc .vmem s e) {off size : Fin s.rank → ℕ} (inb : ∀ a, off a + size a ≤ s.size a)
    (w : (Rect.unit off size inb).shape.Idx → Elt F e) {hx : (M.access (Rect.unit off size inb)).Stores Finset.univ}
    {hm : Finset.univ = Finset.univ ∨ ∀ a, (Rect.unit off size inb).stride a = 1} (X : s.Idx → Elt F e)
    (k : PUnit → Prog (TpuEff nD τ sig (Elt F) Λ₀ .tc) α) :
    iprop(owns (d : Thread nD τ) M fullShare X
        ∗ (owns (d : Thread nD τ) M fullShare (over off size X w) -∗ wp frame (wpE (defs₀ (F := F)) 𝒱₀ (d : Thread nD τ) none) E (k ⟨⟩) Q))
      ⊢ (wp frame (wpE (defs₀ (F := F)) 𝒱₀ (d : Thread nD τ) none) E (.op (.store M (Rect.unit off size inb) w Finset.univ hx hm) k) Q : sProp 𝕄) := by
  unfold owns
  iintro ⟨⟨%f, %hf, H⟩, Hk⟩
  iapply (wp_store_writes₀ (defs := defs₀ (F := F)) 𝒱₀ (d : Thread nD τ) none E (cs := .vmem) (m := M) (r := Rect.unit off size inb) (w := w) (hx := hx) (hm := hm) (k := k) (S := M.view.set) (f := f)
    (by rw [View.set_slice]; exact Finset.map_subset_map.mpr (Finset.subset_univ _))) $$ H
  iintro H
  iapply Hk
  iexists _; isplitr
  swap; · iexact H
  ipureintro
  subst hf
  funext y
  exact View.read_writes_cons_unit M.view f inb w [] y rfl

/-- A load of a whole memref held at `X` continues at `X`. -/
theorem load_whole (M : Memref sig .tc .vmem s e) {off : Fin s.rank → ℕ} (hoff : ∀ a, off a = 0) (inb : ∀ a, off a + s.size a ≤ s.size a)
    {hl : M.view.LoadsAt (Rect.unit off s.size inb).toLoadRect} (X : s.Idx → Elt F e) (k : (s.Idx → Elt F e) → Prog (TpuEff nD τ sig (Elt F) Λ₀ .tc) α) :
    iprop(owns (d : Thread nD τ) M fullShare X
        ∗ (owns (d : Thread nD τ) M fullShare X -∗ wp frame (wpE (defs₀ (F := F)) 𝒱₀ (d : Thread nD τ) none) E (k X) Q))
      ⊢ (wp frame (wpE (defs₀ (F := F)) 𝒱₀ (d : Thread nD τ) none) E (.op (.load M (Rect.unit off s.size inb).toLoadRect hl) k) Q : sProp 𝕄) := by
  have he : (fun y => X ((Rect.unit off s.size inb).emb y)) = X := by
    funext y
    exact congrArg X (funext fun a => Fin.ext (by show off a + 1 * (y a).val = (y a).val; rw [hoff a]; omega))
  have h := load_owns (F := F) (d := d) E M (Rect.unit off s.size inb) (hl := hl) X k (Q := Q)
  rw [he] at h
  exact h

/-- A store of all of a memref leaves what was written. -/
theorem store_whole (M : Memref sig .tc .vmem s e) {off : Fin s.rank → ℕ} (hoff : ∀ a, off a = 0) (inb : ∀ a, off a + s.size a ≤ s.size a)
    (w : s.Idx → Elt F e) {hx : (M.access (Rect.unit off s.size inb)).Stores Finset.univ}
    {hm : Finset.univ = Finset.univ ∨ ∀ a, (Rect.unit off s.size inb).stride a = 1} (X : s.Idx → Elt F e)
    (k : PUnit → Prog (TpuEff nD τ sig (Elt F) Λ₀ .tc) α) :
    iprop(owns (d : Thread nD τ) M fullShare X
        ∗ (owns (d : Thread nD τ) M fullShare w -∗ wp frame (wpE (defs₀ (F := F)) 𝒱₀ (d : Thread nD τ) none) E (k ⟨⟩) Q))
      ⊢ (wp frame (wpE (defs₀ (F := F)) 𝒱₀ (d : Thread nD τ) none) E (.op (.store M (Rect.unit off s.size inb) w Finset.univ hx hm) k) Q : sProp 𝕄) := by
  have h := store_owns (F := F) (d := d) E M inb w (hx := hx) (hm := hm) X k (Q := Q)
  rw [over_whole hoff] at h
  exact h

/-- All zeros, for offsets. -/
theorem zero2 : ∀ a, (![0, 0] : Fin 2 → ℕ) a = 0
  | 0 => rfl
  | 1 => rfl
theorem zero3 : ∀ a, (![0, 0, 0] : Fin 3 → ℕ) a = 0
  | 0 => rfl
  | 1 => rfl
  | 2 => rfl

end Rules

end Cert.Proof.Tc

end
-- ==== Proof.Gather.lean ====
/-
  The gather kernel on the vector subcores: thirty-two tasks (two SparseCores of sixteen tiles), each taking its 384 row
  numbers from the index array, fetching those rows of the table by one indirect copy, and writing them to its block of
  384 rows of the result. Stated once over any float values: the run of one task with the contents it leaves
  (`tile_body`), and how the three arrays are dealt to the tasks and come back (`vecSplit`, `arrays_split`, `arrays_join`).
-/
module

public import proofs.«01_k».proof.Proof.Tc
public import Idealize.ShloMosaic.Lib.SparseCore.Ops
public import Idealize.ShloMosaic.Lib.SparseCore.Stream
public import Idealize.ShloMosaic.Lib.ShareLeaves

@[expose] public section

noncomputable section

namespace Cert.Proof.Gather

open Cert.KernelIdeal Cert.KernelIdeal.Gen Cert.Proof.Tc

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves Idealize.ShloMosaic.ValueIdx

variable {F : FTy → Type} [FloatOps F]

local notation "𝕄" => MT nD τ sig (HIx 1) (Elt F) ℕ UU ℕ

theorem nSub_zero : (K (F := F)).nSub 0 = 16 := rfl
theorem nCore_zero : (K (F := F)).nCore 0 = 2 := rfl

/-! ## The arrays -/

/-- The table, the row numbers and the result of the gather, in device memory. -/
abbrev tLoc (d : Dev nD) : Loc nD τ sig := (SparseCore.T d).loc main_v3
abbrev iLoc (d : Dev nD) : Loc nD τ sig := (SparseCore.T d).loc main_v9
abbrev oLoc (d : Dev nD) : Loc nD τ sig := (SparseCore.T d).loc main_v10

local notation "tV" => (Memref.whole Cert.KernelIdeal.main_v3_scv : Memref Cert.KernelIdeal.sig Kind.scVector Space.hbm Cert.KernelIdeal.S10000x128 EltTy.f32)
local notation "iV" => (Memref.whole Cert.KernelIdeal.main_v9_scv : Memref Cert.KernelIdeal.sig Kind.scVector Space.hbm Cert.KernelIdeal.S12288 EltTy.i32)
local notation "oV" => (Memref.whole Cert.KernelIdeal.main_v10_scv : Memref Cert.KernelIdeal.sig Kind.scVector Space.hbm Cert.KernelIdeal.S12288x128 EltTy.f32)
local notation "sV" => (Memref.whole Cert.KernelIdeal.cc2_scratch0 : Memref Cert.KernelIdeal.sig Kind.scVector Space.vmem Cert.KernelIdeal.S384 EltTy.i32)
local notation "rV" => (Memref.whole Cert.KernelIdeal.cc2_scratch1 : Memref Cert.KernelIdeal.sig Kind.scVector Space.vmem Cert.KernelIdeal.S384x128 EltTy.f32)

theorem idiv : 32 ∣ S12288.size 0 := ⟨384, rfl⟩
theorem odiv : 32 ∣ S12288x128.size 0 := ⟨384, rfl⟩
/-- Block `w` of the row numbers and block `w` of the result's rows: 384 of each. -/
abbrev irect (w : Fin 32) : Rect S12288 := Rect.part (s := S12288) (a₀ := 0) idiv w
abbrev orect (w : Fin 32) : Rect S12288x128 := Rect.part (s := S12288x128) (a₀ := 0) odiv w
abbrev iSet (w : Fin 32) : Finset S12288.Idx := ((iV).view.slice (irect w)).set
abbrev oSet (w : Fin 32) : Finset S12288x128.Idx := ((oV).view.slice (orect w)).set

/-- The task of tile `i` of SparseCore `c` has number `2 i + c`. -/
def wid (c : Fin 2) (i : Fin 16) : Fin 32 := ⟨2 * i.val + c.val, by omega⟩

/-- The tasks' numbers, by SparseCore and tile. -/
def widEquiv : Fin 2 × Fin 16 ≃ Fin 32 where
  toFun p := wid p.1 p.2
  invFun w := (⟨w.val % 2, by omega⟩, ⟨w.val / 2, by omega⟩)
  left_inv p := by obtain ⟨c, i⟩ := p; simp only [wid, Prod.mk.injEq, Fin.ext_iff]; omega
  right_inv w := by simp only [wid, Fin.ext_iff]; omega

/-- Task `w`'s share of the table. -/
abbrev tq (w : Fin 32) : PosShare TreeShare := leaf 5 fullShare w

/-- The rows of a table that a list of row numbers names. -/
def gathered (tab : S10000x128.Idx → Elt F .f32) (ix : S12288.Idx → BitVec 32) : S12288x128.Idx → Elt F .f32 :=
  fun j => tab (ix2 ⟨min (ix (ix1 (j 0))).toNat 9999, by omega⟩ (j 1))

/-! ## What the handshakes carry -/

variable (ct : (d : Dev nD) → Buf (Elt F) (tLoc d)) (ci : (d : Dev nD) → Buf (Elt F) (iLoc d)) (co : (d : Dev nD) → Buf (Elt F) (oLoc d))

/-- The gather's result. -/
def G (d : Dev nD) : Buf (Elt F) (oLoc d) := gathered (F := F) (ct d) (ci d)

/-- What task `w` is dealt, the result's block at contents `f`: its row numbers, a share of the table, its block. -/
abbrev piece (d : Dev nD) (w : Fin 32) (f : Buf (Elt F) (oLoc d)) : sProp 𝕄 :=
  iprop((iLoc d ↦[iSet w]{fullShare} ci d) ∗ (tLoc d ↦{tq w} ct d) ∗ (oLoc d ↦[oSet w]{fullShare} f))

/-- The call hands each SparseCore its sixteen tasks' pieces and takes them back with the gathered rows written. -/
def P : (K (F := F)).Pay (nD := nD) (Val := Elt F) (Name := ℕ) (U := UU) where
  st := fun q d c => match q with
    | 0 => bigSep Finset.univ fun i : Fin 16 => piece ct ci d (wid (Fin.cast nCore_zero c) i) (co d)
  dn := fun q d c => match q with
    | 0 => bigSep Finset.univ fun i : Fin 16 => piece ct ci d (wid (Fin.cast nCore_zero c) i) (G ct ci d)
  go := fun q d c i => match q with
    | 0 => piece ct ci d (wid (Fin.cast nCore_zero c) (Fin.cast nSub_zero i)) (co d)
  td := fun q d c i => match q with
    | 0 => piece ct ci d (wid (Fin.cast nCore_zero c) (Fin.cast nSub_zero i)) (G ct ci d)
  x := fun _ _ => iprop(emp)

instance P_storable : (P (F := F) ct ci co).IsStorable where
  st q d c := match q with
    | 0 => (inferInstance : BI.Storable (upEmb : UEmb _ 𝕄) (bigSep Finset.univ fun i : Fin 16 => piece ct ci d (wid (Fin.cast nCore_zero c) i) (co d)))
  dn q d c := match q with
    | 0 => (inferInstance : BI.Storable (upEmb : UEmb _ 𝕄) (bigSep Finset.univ fun i : Fin 16 => piece ct ci d (wid (Fin.cast nCore_zero c) i) (G ct ci d)))
  go q d c i := match q with
    | 0 => (inferInstance : BI.Storable (upEmb : UEmb _ 𝕄) (piece ct ci d (wid (Fin.cast nCore_zero c) (Fin.cast nSub_zero i)) (co d)))
  td q d c i := match q with
    | 0 => (inferInstance : BI.Storable (upEmb : UEmb _ 𝕄) (piece ct ci d (wid (Fin.cast nCore_zero c) (Fin.cast nSub_zero i)) (G ct ci d)))

/-- Every row number names a row of the table. -/
def InRange : Prop := ∀ (d : Dev nD) (j : S12288.Idx), (ci d j).toNat < 10000

/-! ## The task -/

section Tile

variable (d : Dev nD) (L : grid2.Coords)

abbrev cV (L : grid2.Coords) : Fin τ.nSC := (L 0).castLE hcore2
abbrev jV (L : grid2.Coords) : Fin τ.nSub := (L 1).castLE hsub2
theorem bound_zero : grid2.bound 0 = 2 := rfl
theorem bound_one : grid2.bound 1 = 16 := rfl
abbrev wL (L : grid2.Coords) : Fin 32 := wid (Fin.cast bound_zero (L 0)) (Fin.cast bound_one (L 1))

abbrev irectK (L : grid2.Coords) : Rect S12288 := Rect.unit (s := S12288) (k2_off1 L) S384.size (k2_off1_inb L)
abbrev orectK (L : grid2.Coords) : Rect S12288x128 := Rect.unit (s := S12288x128) (k2_off2 L) S384x128.size (k2_off2_inb L)
/-- The task's row numbers, its block of the result, and the table, as its text addresses them. -/
abbrev iK (L : grid2.Coords) : Memref sig .scVector .hbm S384 .i32 := (iV).slice (irectK L) (fun _ => rfl)
abbrev oK (L : grid2.Coords) : Memref sig .scVector .hbm S384x128 .f32 := (oV).slice (orectK L) (fun _ => rfl)
abbrev tK : Memref sig .scVector .hbm S10000x128 .f32 := (tV).slice (Rect.unit (s := S10000x128) ![0, 0] S10000x128.size inb_S10000x128_S10000x128_0_0) (fun _ => rfl)

theorem irectK_eq : irectK L = irect (wL L) := by
  unfold irectK irect Rect.part Rect.block
  congr 1 <;> funext a
  · rw [k2_off1_eq]
    match a with
    | 0 =>
      have h0 : (wL L).val = 2 * (L 1).val + (L 0).val := rfl
      show 768 * (L 1).val + 384 * (L 0).val = (wL L).val * 384
      omega
  · match a with
    | 0 => simp [Shape.partSize]
theorem orectK_eq : orectK L = orect (wL L) := by
  unfold orectK orect Rect.part Rect.block
  congr 1 <;> funext a
  · rw [k2_off2_eq]
    match a with
    | 0 =>
      have h0 : (wL L).val = 2 * (L 1).val + (L 0).val := rfl
      show 768 * (L 1).val + 384 * (L 0).val = (wL L).val * 384
      omega
    | 1 => simp [Shape.partIx, Shape.partSize]
  · match a with
    | 0 => simp [Shape.partSize]
    | 1 => simp [Shape.partSize]

theorem set_iK : (iK L).view.set = iSet (wL L) := by
  show ((iV).view.slice (irectK L)).set = ((iV).view.slice (irect (wL L))).set
  exact irectK_eq L ▸ rfl
theorem set_oK : (oK L).view.set = oSet (wL L) := by
  show ((oV).view.slice (orectK L)).set = ((oV).view.slice (orect (wL L))).set
  exact orectK_eq L ▸ rfl

theorem pts_iK (f : Buf (Elt F) (iLoc d)) :
    ((iK L).view.loc (V d (cV L) (jV L)) ↦[(iK L).view.set]{fullShare} f : sProp 𝕄) = iLoc d ↦[iSet (wL L)]{fullShare} f := by
  rw [set_iK]
theorem pts_oK (f : Buf (Elt F) (oLoc d)) :
    ((oK L).view.loc (V d (cV L) (jV L)) ↦[(oK L).view.set]{fullShare} f : sProp 𝕄) = oLoc d ↦[oSet (wL L)]{fullShare} f := by
  rw [set_oK]
theorem pts_tV (q : PosShare TreeShare) (f : Buf (Elt F) (tLoc d)) :
    ((tV).view.loc (V d (cV L) (jV L)) ↦{q} f : sProp 𝕄) = tLoc d ↦{q} f := rfl
theorem pts_sV (f : Buf (Elt F) ((V d (cV L) (jV L)).loc cc2_scratch0)) :
    ((sV).view.loc (V d (cV L) (jV L)) ↦{fullShare} f : sProp 𝕄) = (V d (cV L) (jV L)).loc cc2_scratch0 ↦{fullShare} f := rfl
theorem pts_rV (f : Buf (Elt F) ((V d (cV L) (jV L)).loc cc2_scratch1)) :
    ((rV).view.loc (V d (cV L) (jV L)) ↦{fullShare} f : sProp 𝕄) = (V d (cV L) (jV L)).loc cc2_scratch1 ↦{fullShare} f := rfl

abbrev cAcell (d : Dev nD) (c : Fin τ.nSC) (i : Fin τ.nSub) : GSem nD τ sig := (V d c i, .dma cc2_scratch2.sem)
abbrev cBcell (d : Dev nD) (c : Fin τ.nSC) (i : Fin τ.nSub) : GSem nD τ sig := (V d c i, .dma cc2_scoped0.sem)
abbrev cCcell (d : Dev nD) (c : Fin τ.nSC) (i : Fin τ.nSub) : GSem nD τ sig := (V d c i, .dma cc2_scoped1.sem)

/-- The three semaphores of the task are among its subcore's own. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc2_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc2_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc2_scoped1.sem : SemLoc sig).isScoped .scVector = true; decide⟩⟩⟩)]

/-- The two scratch buffers are among the subcore's own. -/
theorem ownBufs_V :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f)
          ∗ bigSep (((ownRefs (τ := τ) (.scVector (cV L) (jV L))).erase ((Proc.scVector (cV L) (jV L)).devRef cc2_scratch0)).erase
              ((Proc.scVector (cV L) (jV L)).devRef cc2_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩)]

/-- Entry `x` of the task's row numbers is entry `384 w + x` of the whole list. -/
theorem iK_emb_val (x : S384.Idx) : ((iK L).view.emb x 0).val = 384 * (wL L).val + (x 0).val := by
  have h : ((iK L).view.emb x 0).val = k2_off1 L 0 + 1 * (x 0).val := rfl
  have h0 : (wL L).val = 2 * (L 1).val + (L 0).val := rfl
  have h1 : k2_off1 L 0 = 768 * (L 1).val + 384 * (L 0).val := by rw [k2_off1_eq]; rfl
  omega

/-- Row `x 0` of the task's block is row `384 w + x 0` of the result, at the same column. -/
theorem oK_emb_val (x : S384x128.Idx) :
    ((oK L).view.emb x 0).val = 384 * (wL L).val + (x 0).val ∧ ((oK L).view.emb x 1).val = (x 1).val := by
  have h : ((oK L).view.emb x 0).val = k2_off2 L 0 + 1 * (x 0).val := rfl
  have h' : ((oK L).view.emb x 1).val = k2_off2 L 1 + 1 * (x 1).val := rfl
  have h0 : (wL L).val = 2 * (L 1).val + (L 0).val := rfl
  have h1 : k2_off2 L 0 = 768 * (L 1).val + 384 * (L 0).val := by rw [k2_off2_eq]; rfl
  have h2 : k2_off2 L 1 = 0 := by rw [k2_off2_eq]; rfl
  omega

/-- What landed in the index scratch is in range. -/
theorem inb_of_pre (hpre : InRange ci) (fs : Buf (Elt F) ((V d (cV L) (jV L)).loc cc2_scratch0)) (pay : S384.Idx → Elt F .i32)
    (hpay : pay = (iK L).view.read (Elt F) (ci d)) :
    ∀ x, ((sV).view.read (Elt F) (View.write (Elt F) (sV).view fs pay Finset.univ) x).toNat < S10000x128.size gathers_S10000x128_S384x128.axis := by
  subst hpay; intro x
  rw [View.write_whole_univ]
  simp only [Memref.view_whole, View.read_whole]
  rw [show ∀ j, (iK L).view.read (Elt F) (ci d) j = ci d ((iK L).view.emb j) from fun j => (View.read_apply _ _).trans (cast_eq _ _)]
  exact hpre d _

/-- The block the task writes holds the rows its numbers name. -/
theorem block_value (hpre : InRange ci) (fs : Buf (Elt F) ((V d (cV L) (jV L)).loc cc2_scratch0)) (fr : Buf (Elt F) ((V d (cV L) (jV L)).loc cc2_scratch1))
    (pi : S384.Idx → Elt F .i32) (hpi : pi = (iK L).view.read (Elt F) (ci d))
    (hin : ∀ x, ((sV).view.read (Elt F) (View.write (Elt F) (sV).view fs pi Finset.univ) x).toNat < S10000x128.size gathers_S10000x128_S384x128.axis)
    (po : S384x128.Idx → Elt F .f32)
    (hpo : po = (rV).view.read (Elt F) ((rV).view.write (Elt F) fr
      (SparseCore.gatherPayload gathers_S10000x128_S384x128 ((tK).view.read (Elt F) (ct d))
        (SparseCore.rows ((sV).view.read (Elt F) (View.write (Elt F) (sV).view fs pi Finset.univ)) rfl hin)) Finset.univ)) :
    ∀ j ∈ (oK L).view.set, ((oK L).view.writes (Elt F) (co d) [⟨Rect.whole S384x128, po⟩] : Buf (Elt F) (oLoc d)) j = G ct ci d j := by
  intro j hj
  obtain ⟨x, -, rfl⟩ := Finset.mem_map.mp hj
  rw [← View.write_univ_eq_writes_whole, View.writes_nil, View.write_emb_of_mem _ _ (Finset.mem_univ x)]
  refine (cast_eq _ _).trans ?_
  subst hpo
  rw [View.read_write_of_mem _ _ (Finset.mem_univ x)]
  -- the payload at `x` is the table at the row the fetched list's entry `x 0` names
  have hrow : ∀ k : Fin 384, (SparseCore.rows ((sV).view.read (Elt F) (View.write (Elt F) (sV).view fs pi Finset.univ)) rfl hin k
      : Fin (S10000x128.size gathers_S10000x128_S384x128.axis)).val = (ci d ((iK L).view.emb (ix1 k))).toNat := by
    intro k
    unfold SparseCore.rows
    have hk : S384.rowMajor.symm (k.cast rfl) = (ix1 k : S384.Idx) := by
      rw [Equiv.symm_apply_eq]; exact Fin.ext (Shape.rowMajor_val_one (d := ![384]) (ix1 k)).symm
    show ((sV).view.read (Elt F) (View.write (Elt F) (sV).view fs pi Finset.univ) (S384.rowMajor.symm (k.cast rfl))).toNat = _
    rw [hk, View.read_write_of_mem _ _ (Finset.mem_univ _), hpi, View.read_apply]
    rfl
  unfold SparseCore.gatherPayload G gathered
  rw [View.read_apply]
  refine (cast_eq _ _).trans (congrArg (ct d) ?_)
  obtain ⟨he0, he1⟩ := oK_emb_val L x
  refine ((show ∀ z : S10000x128.Idx, (tK).view.emb z = z from fun z => funext fun a => Fin.ext (by
    match a with
    | ⟨0, _⟩ => show 0 + 1 * (z 0).val = (z 0).val; omega
    | ⟨1, _⟩ => show 0 + 1 * (z 1).val = (z 1).val; omega)) _).trans ?_
  funext a
  match a with
  | ⟨0, _⟩ =>
    refine Fin.ext ((congrArg Fin.val (gathers_S10000x128_S384x128.idx_axis _ x)).trans ((hrow (x 0)).trans ?_))
    have hi : (iK L).view.emb (ix1 (x 0)) = (ix1 ((oK L).view.emb x 0) : S12288.Idx) := by
      refine (eq_ix1 _).trans (congrArg ix1 (Fin.ext ?_))
      rw [he0]; exact iK_emb_val L (ix1 (x 0))
    rw [hi]
    exact (Nat.min_eq_left (Nat.le_of_lt_succ (hpre d _))).symm
  | ⟨1, _⟩ =>
    exact Fin.ext ((gathers_S10000x128_S384x128.idx_of_ne _ x 1 (by decide)).trans he1.symm)

set_option maxHeartbeats 1000000 in
/-- The task on tile `L 1` of SparseCore `L 0`: it leaves the rows its numbers name in its block of the result. -/
theorem tile_body (hF : (K (F := F)).Facts) (hpre : InRange ci) (O : CellTallies nD τ sig (HIx 1)) (W : Waits sig (HIx 1)) (hO : ∀ g, O g none = 0) :
    iprop(levAts (K (F := F)).L (K (F := F)).lev ∗ emp ∗ piece ct ci d (wL L) (co d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2_gather_k L tV (Memref.isWhole_whole _) iV (Memref.isWhole_whole _) oV (Memref.isWhole_whole _)
            sV (Memref.isWhole_whole _) rV (Memref.isWhole_whole _) cc2_scratch2 cc2_scoped0 cc2_scoped1)
          fun _ => iprop(piece ct ci d (wL L) (G ct ci d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc2_gather_k_eq_skeleton]; unfold cc2_gather_k_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iK (F := F) d L _).symm) $$ Hi
  ihave Ho' := (Entails.of_eq (pts_oK (F := F) d L _).symm) $$ Ho
  ihave Hx' := (Entails.of_eq (pts_tV (F := F) d L _ _).symm) $$ Hx
  ihave Hs' := (Entails.of_eq (pts_sV (F := F) d L _).symm) $$ Hs
  ihave Hr' := (Entails.of_eq (pts_rV (F := F) d L _).symm) $$ Hr
  sl_exec
  -- the indirect copy: the tile gives a share of the table, the row scratch, the fetched list and the copy's semaphore
  ihave Hxs := (pointsTo_split_subset (q := tq (wL L)) (f := ct d) (S := Finset.univ) (Finset.subset_univ (tK).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 ci d L) Finset.univ : sProp 𝕄)
      = (sV).view.loc (V d (cV L) (jV L)) ↦[(sV).view.set]{fullShare} View.write (Elt F) (sV).view fs (tile_body.sl.dma0 ci d L) Finset.univ
      by rw [hss])) $$ Hs'
  have hN : ∀ h : S10000x128.Gathers 0 S384x128, ∑ j, ((rV).slice (S384x128.rowRect h.axis' j) (S384x128.stride_rowRect h.axis' j)).view.dmaCredit
      = (rV).view.dmaCredit := by decide
  iapply (SparseCore.wp_indirectGatherLocal countersEmb 𝒱₀ (V d (cV L) (jV L)) none (hg := gathers_S10000x128_S384x128) (default : HIx 1)
      (rV).view.dmaCredit (hN _) (by decide) (inb_of_pre ci d L hpre fs _ rfl)) $$ [Hxs Hr'' Hs'' HsemA]
  · isplitl [Hxs]; · iexact Hxs
    isplitl [Hr'']; · iexact Hr''
    isplitl [Hs'']; · iexact Hs''
    iexact HsemA
  iintro Hfl
  sl_exec
  -- its wait: the row scratch holds the gathered rows, everything lent comes back
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc2_scratch2.sem)) $$ Hmw
  iintro ⟨⟨Hr', Hxs, Hs'⟩, HsemA, HO⟩
  ihave Hx' := (pointsTo_split_subset (q := tq (wL L)) (f := ct d) (S := Finset.univ) (Finset.subset_univ (tK).view.set)).2 $$ [Hxs Hxr]; · isplitl [Hxs] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  isplitl [Hi' Hx' Ho']
  · isplitl [Hi']; · iapply (Entails.of_eq (pts_iK (F := F) d L _)); iexact Hi'
    isplitl [Hx']; · iexact Hx'
    ihave Ho2 := (Entails.of_eq (pointsTo_congr (block_value ct ci co d L hpre fs fr _ rfl (inb_of_pre ci d L hpre fs _ rfl) _ rfl))) $$ Ho'
    iapply (Entails.of_eq (pts_oK (F := F) d L _)); iexact Ho2
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation of a tile -/

/-- The grid coordinates of a tile: its SparseCore, its number on it. -/
def coordsV (c : Fin (grid2.bound 0)) (s : Fin (grid2.bound 1)) : grid2.Coords :=
  fun | 0 => c | 1 => s | ⟨_ + 2, h⟩ => absurd h (Nat.not_lt.2 (Nat.le_add_left _ _))

/-- What a vector subcore runs: the task at its coordinates. -/
theorem defs₀_vector (c : Fin τ.nSC) (s : Fin τ.nSub) :
    defs₀ (F := F) (.scVector c s) 2 ()
      = SparseCore.onTile hcore2 hsub2 (fun c s => cc2_gather_k (coordsV c s)
          tV (Memref.isWhole_whole _) iV (Memref.isWhole_whole _) oV (Memref.isWhole_whole _)
          sV (Memref.isWhole_whole _) rV (Memref.isWhole_whole _) cc2_scratch2 cc2_scoped0 cc2_scoped1) ⟨⟩ c s := rfl

/-- The waits of a task are among those its obligation allows. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The obligation of every tile of the call. -/
theorem tileObl (hF : (K (F := F)).Facts) (hpre : InRange ci) : (K (F := F)).TileObl (D (F := F)) 𝒱 (P ct ci co) v₀ 0 := by
  intro d c i O W hO _ _
  simp only [show (P ct ci co).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body ct ci co d (coordsV ⟨_, hci.1⟩ ⟨_, hci.2⟩) hF hpre O W hO).trans (wp_mono frame _ _ fun _ => waits_weaken)

end Tile

/-! ## The arrays dealt to the tasks and back -/

theorem iSet_eq (w : Fin 32) : iSet w = (irect w).set := by
  show ((View.whole (main_v9_scv : Ref sig .scVector)).slice (irect w)).set = _
  rw [View.set_slice]; exact Finset.map_refl
theorem oSet_eq (w : Fin 32) : oSet w = (orect w).set := by
  show ((View.whole (main_v10_scv : Ref sig .scVector)).slice (orect w)).set = _
  rw [View.set_slice]; exact Finset.map_refl

/-- The list of row numbers is its thirty-two blocks. -/
theorem iPts_blocks (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet
      (fun i _ j _ h => by rw [iSet_eq, iSet_eq]; exact Rect.part_disjoint idiv h),
    (Finset.biUnion_congr rfl fun i _ => iSet_eq i).trans (Rect.biUnion_part idiv)]; try rfl
/-- The result is its thirty-two blocks. -/
theorem oPts_blocks (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet
      (fun i _ j _ h => by rw [oSet_eq, oSet_eq]; exact Rect.part_disjoint odiv h),
    (Finset.biUnion_congr rfl fun i _ => oSet_eq i).trans (Rect.biUnion_part odiv)]; try rfl

/-- The three arrays whole are the tasks' pieces, over the SparseCores and their tiles. -/
theorem arrays_eq (d : Dev nD) (f : Buf (Elt F) (oLoc d)) :
    (iprop((iLoc d ↦{fullShare} ci d) ∗ (tLoc d ↦{fullShare} ct d) ∗ (oLoc d ↦{fullShare} f)) : sProp 𝕄)
      = bigSep Finset.univ fun c : Fin 2 => bigSep Finset.univ fun i : Fin 16 => piece ct ci d (wid c i) f := by
  rw [← bigSep_univ_prod (fun p : Fin 2 × Fin 16 => (piece ct ci d (wid p.1 p.2) f : sProp 𝕄)),
    show (fun p : Fin 2 × Fin 16 => (piece ct ci d (wid p.1 p.2) f : sProp 𝕄)) = fun p => piece ct ci d (widEquiv p) f from rfl,
    ← bigSep_univ_equiv widEquiv (fun w : Fin 32 => (piece ct ci d w f : sProp 𝕄)), bigSep_sep', bigSep_sep', iPts_blocks, oPts_blocks,
    pointsTo_leaves Finset.univ (ct d) 5 fullShare]
  rfl

theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's share of the call is its tiles'. -/
theorem vecSplit : (K (F := F)).VecSplit' (P ct ci co) 0 := by
  intro d c
  show (bigSep Finset.univ fun i : Fin 16 => piece ct ci d (wid (Fin.cast nCore_zero c) i) (co d)) ⊢ |={Set.univ}=> iprop(
      (bigSep Finset.univ fun i : Fin ((K (F := F)).nSub 0) => piece ct ci d (wid (Fin.cast nCore_zero c) (Fin.cast nSub_zero i)) (co d))
      ∗ ((bigSep Finset.univ fun i : Fin ((K (F := F)).nSub 0) => piece ct ci d (wid (Fin.cast nCore_zero c) (Fin.cast nSub_zero i)) (G ct ci d))
          -∗ bigSep Finset.univ fun i : Fin 16 => piece ct ci d (wid (Fin.cast nCore_zero c) i) (G ct ci d)))
  rw [bigSep_tiles (F := F) (fun i => piece ct ci d (wid (Fin.cast nCore_zero c) i) (co d)),
    bigSep_tiles (F := F) (fun i => piece ct ci d (wid (Fin.cast nCore_zero c) i) (G ct ci d))]
  iintro H; imodintro
  isplitl [H]; · iexact H
  iintro H; iexact H

/-- What the call takes from the launching core: the three arrays. -/
theorem st_eq (d : Dev nD) : (bigSep Finset.univ fun c : Fin ((K (F := F)).nCore 0) => (P ct ci co).st 0 d c)
    = iprop((iLoc d ↦{fullShare} ci d) ∗ (tLoc d ↦{fullShare} ct d) ∗ (oLoc d ↦{fullShare} co d)) := by
  rw [arrays_eq]
  exact bigSep_cores (F := F) (fun c => bigSep Finset.univ fun i : Fin 16 => piece ct ci d (wid c i) (co d))
/-- What the call gives back: the three arrays, the result holding the gathered rows. -/
theorem dn_eq (d : Dev nD) : (bigSep Finset.univ fun c : Fin ((K (F := F)).nCore 0) => (P ct ci co).dn 0 d c)
    = iprop((iLoc d ↦{fullShare} ci d) ∗ (tLoc d ↦{fullShare} ct d) ∗ (oLoc d ↦{fullShare} G ct ci d)) := by
  rw [arrays_eq]
  exact bigSep_cores (F := F) (fun c => bigSep Finset.univ fun i : Fin 16 => piece ct ci d (wid c i) (G ct ci d))

end Cert.Proof.Gather

end
-- ==== Proof.Pack.lean ====
/-
  The packed block-diagonal products of the two graph calls: the programs' shape (blocks stored on the diagonal of one
  square buffer, a product of the buffer with a slice of rows stored to a second buffer, once per pack), its contents, and
  its run.
-/
module

public import proofs.«01_k».proof.Proof.Tc

@[expose] public section

noncomputable section

namespace Cert.Proof.Pack

open Cert.KernelIdeal Cert.KernelIdeal.Gen Cert.Proof.Tc
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- Where the `g`-th block of a pack lies, of `n` blocks of side `b`. -/
def dOff (b n g : ℕ) : Fin 2 → ℕ := ![b * (g % n), b * (g % n)]

/-- Where the `p`-th pack's rows lie, of `np` packs of 256 rows. -/
def rOff (np p : ℕ) : Fin 2 → ℕ := ![256 * (p % np), 0]

/-- The shape of a pack's programs: the sizes of a block and of a pack's rows. -/
structure Shp where
  b : ℕ
  n : ℕ
  np : ℕ
  S8 : Fin 2 → ℕ
  hb : 0 < b
  hn : 0 < n
  hnp : 0 < np
  hbn : b * n = 256
  h80 : S8 0 = 256 * np
  h81 : S8 1 = 128

namespace Shp
variable (A : Shp)

/-- The second buffer's shape. -/
abbrev s8 : Shape := ⟨2, A.S8⟩
/-- A block's sides. -/
abbrev sz : Fin 2 → ℕ := ![A.b, A.b]

theorem inb7 (g : ℕ) : ∀ a, dOff A.b A.n g a + A.sz a ≤ S256x256.size a := by
  have h1 := Nat.mod_lt g A.hn
  have h2 : A.b * (g % A.n) + A.b ≤ 256 := by
    rw [← Nat.mul_succ]; exact (Nat.mul_le_mul_left _ h1).trans_eq A.hbn
  intro a; match a with
  | 0 => exact h2
  | 1 => exact h2
theorem inb8 (p : ℕ) : ∀ a, rOff A.np p a + S256x128.size a ≤ A.s8.size a := by
  have h1 := Nat.mod_lt p A.hnp
  intro a; match a with
  | 0 => exact (by omega : 256 * (p % A.np) + 256 ≤ 256 * A.np).trans_eq A.h80.symm
  | 1 => exact (by omega : 0 + 128 ≤ 128).trans_eq A.h81.symm

theorem numel_sz (g : ℕ) : 0 < (Rect.unit (s := S256x256) (dOff A.b A.n g) A.sz (A.inb7 g)).shape.numel :=
  Finset.prod_pos fun a _ => by match a with
    | 0 => exact A.hb
    | 1 => exact A.hb

/-- A block's payloads and the packs' products. -/
structure Pay (F : FTy → Type) where
  blk : ℕ → ℕ → ((a : Fin 2) → Fin (A.sz a)) → F .f32
  prod : ℕ → (S256x256.Idx → F .f32) → S256x128.Idx → F .f32

variable (M7 : Memref sig .tc .vmem S256x256 .f32) (M8 : Memref sig .tc .vmem A.s8 .f32)

/-- The blocks of a pack stored one after another. -/
def blocks (pay : ℕ → ((a : Fin 2) → Fin (A.sz a)) → F .f32) (k : Prog (TpuEff nD τ sig (Elt F) Λ₀ .tc) PUnit) :
    ℕ → ℕ → Prog (TpuEff nD τ sig (Elt F) Λ₀ .tc) PUnit :=
  Nat.rec (fun _ => k) fun _ ih g =>
    .op (.load M7 (Rect.unit (dOff A.b A.n g) A.sz (A.inb7 g)).toLoadRect (View.loadsAt_vmem (A.numel_sz g))) fun _ =>
    .op (.store M7 (Rect.unit (dOff A.b A.n g) A.sz (A.inb7 g)) (pay g) Finset.univ (View.stores_vmem_bits_univ (A.numel_sz g) rfl) (.inl rfl)) fun _ =>
    ih (g + 1)

/-- The packs one after another: the blocks, then the product stored to the second buffer. -/
def packs (Y : A.Pay F) (k : Prog (TpuEff nD τ sig (Elt F) Λ₀ .tc) PUnit) : ℕ → ℕ → Prog (TpuEff nD τ sig (Elt F) Λ₀ .tc) PUnit :=
  Nat.rec (fun _ => k) fun _ ih p =>
    A.blocks M7 (Y.blk p)
      (.op (.load M7 (Rect.unit (s := S256x256) ![0, 0] S256x256.size inb_S256x256_S256x256_0_0).toLoadRect (View.loadsAt_vmem h_S256x256)) fun (bd : Vec F S256x256 .f32) =>
       .op (.load M8 (Rect.unit (s := A.s8) (rOff A.np p) S256x128.size (A.inb8 p)).toLoadRect (View.loadsAt_vmem h_S256x128)) fun _ =>
       .op (.store M8 (Rect.unit (s := A.s8) (rOff A.np p) S256x128.size (A.inb8 p)) (Y.prod p bd) Finset.univ (View.stores_vmem_bits_univ h_S256x128 rfl) (.inl rfl)) fun _ =>
       ih (p + 1)) A.n 0

/-- The square buffer after `n` blocks from the `g`-th. -/
def blkC (pay : ℕ → ((a : Fin 2) → Fin (A.sz a)) → F .f32) : ℕ → ℕ → (S256x256.Idx → F .f32) → S256x256.Idx → F .f32 :=
  Nat.rec (fun _ X => X) fun _ ih g X => ih (g + 1) (over (dOff A.b A.n g) A.sz X (pay g))

/-- Both buffers after `n` packs from the `p`-th. -/
def packC (Y : A.Pay F) : ℕ → ℕ → (S256x256.Idx → F .f32) × (A.s8.Idx → F .f32) → (S256x256.Idx → F .f32) × (A.s8.Idx → F .f32) :=
  Nat.rec (fun _ X => X) fun _ ih p X =>
    ih (p + 1) (A.blkC (Y.blk p) A.n 0 X.1,
      over (s := A.s8) (rOff A.np p) S256x128.size X.2 (Y.prod p (A.blkC (Y.blk p) A.n 0 X.1)))

section Wp
variable {d : Dev nD} (E : Set ℕ) {Q : PUnit → sProp (MT nD τ sig (HIx 1) (Elt F) ℕ UU ℕ)}

theorem blocks_wp (pay : ℕ → ((a : Fin 2) → Fin (A.sz a)) → F .f32) (k) (n g : ℕ) (X : S256x256.Idx → F .f32) :
    iprop(owns (d : Thread nD τ) M7 fullShare X
        ∗ (owns (d : Thread nD τ) M7 fullShare (A.blkC pay n g X) -∗ wp frame (wpE (defs₀ (F := F)) 𝒱₀ (d : Thread nD τ) none) E k Q))
      ⊢ (wp frame (wpE (defs₀ (F := F)) 𝒱₀ (d : Thread nD τ) none) E (A.blocks M7 pay k n g) Q : sProp 𝕄) := by
  induction n generalizing g X with
  | zero =>
    iintro ⟨H, Hk⟩
    iapply Hk; iexact H
  | succ n ih =>
    iintro ⟨H, Hk⟩
    iapply (load_owns (F := F) (d := d) E M7 _ X _)
    isplitl [H]; · iexact H
    iintro H
    iapply (store_owns (F := F) (d := d) E M7 (A.inb7 g) (pay g) X _)
    isplitl [H]; · iexact H
    iintro H
    iapply (ih (g + 1) (over (dOff A.b A.n g) A.sz X (pay g)))
    isplitl [H]; · iexact H
    iexact Hk

theorem packs_wp (Y : A.Pay F) (k) (n p : ℕ) (X : (S256x256.Idx → F .f32) × (A.s8.Idx → F .f32)) :
    iprop(owns (d : Thread nD τ) M7 fullShare X.1 ∗ owns (d : Thread nD τ) M8 fullShare X.2
        ∗ (owns (d : Thread nD τ) M7 fullShare (A.packC Y n p X).1 -∗ owns (d : Thread nD τ) M8 fullShare (A.packC Y n p X).2
            -∗ wp frame (wpE (defs₀ (F := F)) 𝒱₀ (d : Thread nD τ) none) E k Q))
      ⊢ (wp frame (wpE (defs₀ (F := F)) 𝒱₀ (d : Thread nD τ) none) E (A.packs M7 M8 Y k n p) Q : sProp 𝕄) := by
  induction n generalizing p X with
  | zero =>
    rw [show A.packC Y 0 p X = X from rfl]
    iintro ⟨H, H8, Hk⟩
    iapply Hk $$ H; iexact H8
  | succ n ih =>
    iintro ⟨H, H8, Hk⟩
    iapply (A.blocks_wp M7 (d := d) E (Y.blk p) _ A.n 0 X.1)
    isplitl [H]; · iexact H
    iintro H
    iapply (load_whole (F := F) (d := d) E M7 zero2 _ (A.blkC (Y.blk p) A.n 0 X.1) _)
    isplitl [H]; · iexact H
    iintro H
    iapply (load_owns (F := F) (d := d) E M8 _ X.2 _)
    isplitl [H8]; · iexact H8
    iintro H8
    iapply (store_owns (F := F) (d := d) E M8 (A.inb8 p) _ X.2 _)
    isplitl [H8]; · iexact H8
    iintro H8
    iapply (ih (p + 1) (A.blkC (Y.blk p) A.n 0 X.1, over (s := A.s8) (rOff A.np p) S256x128.size X.2 (Y.prod p (A.blkC (Y.blk p) A.n 0 X.1))))
    isplitl [H]; · iexact H
    isplitl [H8]; · iexact H8
    iexact Hk

end Wp

/-! ## The contents in closed form -/

/-- A position inside the block its row lies in. -/
def loc (y : S256x256.Idx) : (a : Fin 2) → Fin (A.sz a) := fun a => ⟨(y a).val % A.b, by
  match a with
  | 0 => exact Nat.mod_lt _ A.hb
  | 1 => exact Nat.mod_lt _ A.hb⟩

omit [FloatOps F] in
theorem blkC_apply (pay : ℕ → ((a : Fin 2) → Fin (A.sz a)) → F .f32) (m g : ℕ) (hg : g + m ≤ A.n) (X : S256x256.Idx → F .f32) (y : S256x256.Idx) :
    A.blkC pay m g X y = if (y 0).val / A.b = (y 1).val / A.b ∧ g ≤ (y 0).val / A.b ∧ (y 0).val / A.b < g + m
      then pay ((y 0).val / A.b) (A.loc y) else X y := by
  induction m generalizing g X with
  | zero => rw [if_neg (by omega)]; rfl
  | succ m ih =>
    refine (ih (g + 1) (by omega) _).trans ?_
    have hb := A.hb
    have hgn : g % A.n = g := Nat.mod_eq_of_lt (by omega)
    have e0 := Nat.div_add_mod (y 0).val A.b
    have e1 := Nat.div_add_mod (y 1).val A.b
    have l0 := Nat.mod_lt (y 0).val hb
    have l1 := Nat.mod_lt (y 1).val hb
    have hoff : dOff A.b A.n g = ![A.b * g, A.b * g] := by unfold dOff; rw [hgn]
    by_cases h : (y 0).val / A.b = (y 1).val / A.b ∧ (y 0).val / A.b = g
    · rw [if_neg (by omega), if_pos (by omega)]
      rw [over_of_mem y (A.loc y) (by
        rw [hoff]
        intro a
        match a with
        | 0 => show (y 0).val = A.b * g + (y 0).val % A.b; rw [← h.2]; exact e0.symm
        | 1 => show (y 1).val = A.b * g + (y 1).val % A.b; rw [← h.2, h.1]; exact e1.symm)]
      rw [h.2]
    · by_cases h2 : (y 0).val / A.b = (y 1).val / A.b ∧ g + 1 ≤ (y 0).val / A.b ∧ (y 0).val / A.b < g + 1 + m
      · rw [if_pos h2, if_pos (by omega)]
      · rw [if_neg h2, if_neg (by omega)]
        have key : ∀ q : ℕ, q / A.b ≠ g → q < A.b * g ∨ A.b * g + A.b ≤ q := by
          intro q hq
          rcases Nat.lt_or_gt_of_ne hq with h | h
          · left; rw [Nat.mul_comm]; exact (Nat.div_lt_iff_lt_mul hb).mp h
          · right; have := (Nat.le_div_iff_mul_le hb).mp (show g + 1 ≤ q / A.b from h); rw [Nat.mul_comm] at this; exact this
        by_cases h0 : (y 0).val / A.b = g
        · exact over_of_not_mem y 1 (by rw [hoff]; exact key _ (by omega))
        · exact over_of_not_mem y 0 (by rw [hoff]; exact key _ h0)

/-- The square buffer of pack `p`: its blocks on the diagonal, `z` off it. -/
def bd (Y : A.Pay F) (z : F .f32) (p : ℕ) : S256x256.Idx → F .f32 := fun y =>
  if (y 0).val / A.b = (y 1).val / A.b then Y.blk p ((y 0).val / A.b) (A.loc y) else z

/-- Off the diagonal blocks the contents are `z`. -/
def Off (z : F .f32) (X : S256x256.Idx → F .f32) : Prop := ∀ y : S256x256.Idx, (y 0).val / A.b ≠ (y 1).val / A.b → X y = z

omit [FloatOps F] in
theorem blkC_eq_bd (Y : A.Pay F) (z : F .f32) (p : ℕ) (X : S256x256.Idx → F .f32) (hX : A.Off z X) : A.blkC (Y.blk p) A.n 0 X = A.bd Y z p := by
  funext y
  refine (A.blkC_apply (Y.blk p) A.n 0 (by omega) X y).trans ?_
  have hlt : (y 0).val / A.b < A.n := (Nat.div_lt_iff_lt_mul A.hb).mpr (by rw [Nat.mul_comm, A.hbn]; exact (y 0).isLt)
  have hz : (0 : ℕ) ≤ (y 0).val / A.b := Nat.zero_le _
  have hl0 : (y 0).val / A.b < 0 + A.n := by rw [Nat.zero_add]; exact hlt
  unfold bd
  by_cases h : (y 0).val / A.b = (y 1).val / A.b
  · rw [if_pos h, if_pos ⟨h, hz, hl0⟩]
  · rw [if_neg h, if_neg (fun h' => h h'.1)]; exact hX y h

omit [FloatOps F] in
theorem bd_off (Y : A.Pay F) (z : F .f32) (p : ℕ) : A.Off z (A.bd Y z p) := fun y h => if_neg h

theorem lt256 (r : A.s8.Idx) : (r 0).val < 256 * A.np := lt_of_lt_of_eq (r 0).isLt A.h80

/-- A row's position in its pack. -/
def row (r : A.s8.Idx) : S256x128.Idx := fun a => match a with
  | 0 => ⟨(r 0).val % 256, Nat.mod_lt _ (by omega)⟩
  | 1 => ⟨(r 1).val, lt_of_lt_of_eq (r 1).isLt A.h81⟩

omit [FloatOps F] in
/-- After the packs: off the diagonal still `z`, and each row its pack's product. -/
theorem packC_apply (Y : A.Pay F) (z : F .f32) (m p : ℕ) (hp : p + m ≤ A.np) (X : (S256x256.Idx → F .f32) × (A.s8.Idx → F .f32)) (hX : A.Off z X.1) :
    A.Off z (A.packC Y m p X).1 ∧ ∀ r : A.s8.Idx, (A.packC Y m p X).2 r =
      if p ≤ (r 0).val / 256 ∧ (r 0).val / 256 < p + m then Y.prod ((r 0).val / 256) (A.bd Y z ((r 0).val / 256)) (A.row r) else X.2 r := by
  induction m generalizing p X with
  | zero => exact ⟨hX, fun r => by rw [if_neg (by omega)]; rfl⟩
  | succ m ih =>
    have hbd := A.blkC_eq_bd Y z p X.1 hX
    have h := ih (p + 1) (by omega) (A.blkC (Y.blk p) A.n 0 X.1, over (s := A.s8) (rOff A.np p) S256x128.size X.2 (Y.prod p (A.blkC (Y.blk p) A.n 0 X.1)))
      (by rw [hbd]; exact A.bd_off Y z p)
    refine ⟨h.1, fun r => (h.2 r).trans ?_⟩
    have hpn : p % A.np = p := Nat.mod_eq_of_lt (by omega)
    by_cases hr : (r 0).val / 256 = p
    · rw [if_neg (by omega), if_pos (by omega), hbd]
      refine (over_of_mem (s := A.s8) r (A.row r) ?_).trans (by rw [hr])
      intro a
      match a with
      | 0 => show (r 0).val = 256 * (p % A.np) + (r 0).val % 256; rw [hpn]; omega
      | 1 => show (r 1).val = 0 + (r 1).val; omega
    · by_cases h2 : p + 1 ≤ (r 0).val / 256 ∧ (r 0).val / 256 < p + 1 + m
      · rw [if_pos h2, if_pos (by omega)]
      · rw [if_neg h2, if_neg (by omega)]
        refine over_of_not_mem (s := A.s8) r 0 ?_
        show (r 0).val < 256 * (p % A.np) ∨ 256 * (p % A.np) + 256 ≤ (r 0).val
        rw [hpn]; omega

/-- The second buffer after all the packs. -/
def msg (Y : A.Pay F) (z : F .f32) : A.s8.Idx → F .f32 := fun r => Y.prod ((r 0).val / 256) (A.bd Y z ((r 0).val / 256)) (A.row r)

omit [FloatOps F] in
theorem packC_off (Y : A.Pay F) (z : F .f32) (X : (S256x256.Idx → F .f32) × (A.s8.Idx → F .f32)) (hX : A.Off z X.1) : A.Off z (A.packC Y A.np 0 X).1 :=
  (A.packC_apply Y z A.np 0 (by omega) X hX).1
omit [FloatOps F] in
theorem packC_msg (Y : A.Pay F) (z : F .f32) (X : (S256x256.Idx → F .f32) × (A.s8.Idx → F .f32)) (hX : A.Off z X.1) : (A.packC Y A.np 0 X).2 = A.msg Y z := by
  funext r
  refine ((A.packC_apply Y z A.np 0 (by omega) X hX).2 r).trans (if_pos ⟨by omega, ?_⟩)
  have := A.lt256 r
  omega

end Shp

end Cert.Proof.Pack

end
-- ==== Proof.Lib.lean ====
/-
  The library embedding's call: its body as the packed program.
-/
module

public import proofs.«01_k».proof.Proof.Pack

@[expose] public section

noncomputable section

namespace Cert.Proof.Lib

open Cert.KernelIdeal Cert.KernelIdeal.Gen Cert.Proof.Tc Cert.Proof.Pack
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- Sixteen blocks of side 16 a pack, 25 packs. -/
def A : Shp where
  b := 16
  n := 16
  np := 25
  S8 := S6400x128.size
  hb := by decide
  hn := by decide
  hnp := by decide
  hbn := rfl
  h80 := rfl
  h81 := rfl

theorem slices3 (q : ℕ) : S400x16x16.Slices ![q % 400, 0, 0] S1x16x16 :=
  ⟨rfl, fun a => by
    have := Nat.mod_lt q (show 400 > 0 by omega)
    match a with
    | 0 => exact (by omega : q % 400 + 1 ≤ 400)
    | 1 => exact (by omega : 0 + 16 ≤ 16)
    | 2 => exact (by omega : 0 + 16 ≤ 16)⟩
theorem slices2 (p : ℕ) : S6400x128.Slices ![256 * (p % 25), 0] S256x128 :=
  ⟨rfl, fun a => by
    have := Nat.mod_lt p (show 25 > 0 by omega)
    match a with
    | 0 => exact (by omega : 256 * (p % 25) + 256 ≤ 6400)
    | 1 => exact (by omega : 0 + 128 ≤ 128)⟩

/-- The adjacency blocks `v6` on the diagonal, against the rows of `v14`. -/
def pay (v6 : FVec F S400x16x16 .f32) (v14 : FVec F S6400x128 .f32) : A.Pay F where
  blk p g := shapeCast S16x16 (shapeCast S16x16 (extractStridedSlice S1x16x16 ![(16 * p + g) % 400, 0, 0] v6 (slices3 _))
    shapeCasts_S1x16x16_S16x16) shapeCasts_S16x16_S16x16
  prod p bd := shapeCast S256x128 (matmul dot_S256x256_S256x128_S256x128_1_0_0_1_n_n none bd
    (extractStridedSlice S256x128 ![256 * (p % 25), 0] v14 (slices2 p)) (constant S256x128 .f32 0x00000000#32)) shapeCasts_S256x128_S256x128

section Prog
variable (arg1 : Memref sig .tc .vmem S400x16x64 .f32) (arg2 : Memref sig .tc .vmem S400x16x16 .i32) (arg3 : Memref sig .tc .vmem S64x128 .f32)
  (arg4 : Memref sig .tc .vmem S128x128 .f32) (arg5 : Memref sig .tc .vmem S128x128 .f32) (arg6 : Memref sig .tc .vmem S400x128 .f32)
  (arg7 : Memref sig .tc .vmem S256x256 .f32) (arg8 : Memref sig .tc .vmem S6400x128 .f32)

/-- After the packs: the messages read back, summed over the slots and multiplied. -/
def tail (v12 : FVec F S6400x128 .f32) : Prog (TpuEff nD τ sig (Elt F) Λ₀ .tc) PUnit :=
  .op (.load arg8 (Rect.unit (s := S6400x128) ![0, 0] S6400x128.size inb_S6400x128_S6400x128_0_0).toLoadRect (View.loadsAt_vmem h_S6400x128)) fun (msg : Vec F S6400x128 .f32) =>
  .op (.load arg5 (Rect.unit (s := S128x128) ![0, 0] S128x128.size inb_S128x128_S128x128_0_0).toLoadRect (View.loadsAt_vmem h_S128x128)) fun (w : Vec F S128x128 .f32) =>
  .op (.load arg6 (Rect.unit (s := S400x128) ![0, 0] S400x128.size inb_S400x128_S400x128_0_0).toLoadRect (View.loadsAt_vmem h_S400x128)) fun _ =>
  .op (.store arg6 (Rect.unit (s := S400x128) ![0, 0] S400x128.size inb_S400x128_S400x128_0_0) (k0_pay1 (k0_pay457 (k0_pay456 v12 msg)) w) Finset.univ (View.stores_vmem_bits_univ h_S400x128 rfl) (.inl rfl)) fun _ =>
  .ret ⟨⟩

/-- A grid step after the square buffer's zeroing. -/
def main : Prog (TpuEff nD τ sig (Elt F) Λ₀ .tc) PUnit :=
  .op (.load arg2 (Rect.unit (s := S400x16x16) ![0, 0, 0] S400x16x16.size inb_S400x16x16_S400x16x16_0_0_0).toLoadRect (View.loadsAt_vmem h_S400x16x16)) fun (v3 : Vec F S400x16x16 .i32) =>
  .op (.load arg1 (Rect.unit (s := S400x16x64) ![0, 0, 0] S400x16x64.size inb_S400x16x64_S400x16x64_0_0_0).toLoadRect (View.loadsAt_vmem h_S400x16x64)) fun (v7 : Vec F S400x16x64 .f32) =>
  .op (.load arg3 (Rect.unit (s := S64x128) ![0, 0] S64x128.size inb_S64x128_S64x128_0_0).toLoadRect (View.loadsAt_vmem h_S64x128)) fun (v9 : Vec F S64x128 .f32) =>
  .op (.load arg4 (Rect.unit (s := S128x128) ![0, 0] S128x128.size inb_S128x128_S128x128_0_0).toLoadRect (View.loadsAt_vmem h_S128x128)) fun (v13 : Vec F S128x128 .f32) =>
  A.packs arg7 arg8 (pay (k0_pay3 v3) (k0_pay5 v7 v9 v13)) (tail arg5 arg6 arg8 (k0_pay4 v7 v9)) 25 0

/-- The first grid step: the square buffer zeroed. -/
def main0 : Prog (TpuEff nD τ sig (Elt F) Λ₀ .tc) PUnit :=
  .op (.load arg7 (Rect.unit (s := S256x256) ![0, 0] S256x256.size inb_S256x256_S256x256_0_0).toLoadRect (View.loadsAt_vmem h_S256x256)) fun _ =>
  .op (.store arg7 (Rect.unit (s := S256x256) ![0, 0] S256x256.size inb_S256x256_S256x256_0_0) (k0_pay2 (F := F)) Finset.univ (View.stores_vmem_bits_univ h_S256x256 rfl) (.inl rfl)) fun _ =>
  main arg1 arg2 arg3 arg4 arg5 arg6 arg7 arg8

/-- The first part's operations after the test. -/
def head1 : Prog (TpuEff nD τ sig (Elt F) Λ₀ .tc) (Σ' (v6 : FVec F S400x16x16 .f32) (v12 : FVec F S6400x128 .f32) (v14 : FVec F S6400x128 .f32), FVec F S16x16 .f32) :=
  .op (.load arg2 (Rect.unit (s := S400x16x16) ![0, 0, 0] S400x16x16.size inb_S400x16x16_S400x16x16_0_0_0).toLoadRect (View.loadsAt_vmem h_S400x16x16)) fun (v3 : Vec F S400x16x16 .i32) =>
  .op (.load arg1 (Rect.unit (s := S400x16x64) ![0, 0, 0] S400x16x64.size inb_S400x16x64_S400x16x64_0_0_0).toLoadRect (View.loadsAt_vmem h_S400x16x64)) fun (v7 : Vec F S400x16x64 .f32) =>
  .op (.load arg3 (Rect.unit (s := S64x128) ![0, 0] S64x128.size inb_S64x128_S64x128_0_0).toLoadRect (View.loadsAt_vmem h_S64x128)) fun (v9 : Vec F S64x128 .f32) =>
  .op (.load arg4 (Rect.unit (s := S128x128) ![0, 0] S128x128.size inb_S128x128_S128x128_0_0).toLoadRect (View.loadsAt_vmem h_S128x128)) fun (v13 : Vec F S128x128 .f32) =>
  .op (.load arg7 (Rect.unit (s := S256x256) ![0, 0] S16x16.size inb_S256x256_S16x16_0_0).toLoadRect (View.loadsAt_vmem h_S16x16)) fun _ =>
  .op (.store arg7 (Rect.unit (s := S256x256) ![0, 0] S16x16.size inb_S256x256_S16x16_0_0) (k0_pay6 v3) Finset.univ (View.stores_vmem_bits_univ h_S16x16 rfl) (.inl rfl)) fun _ =>
  .op (.load arg7 (Rect.unit (s := S256x256) ![16, 16] S16x16.size inb_S256x256_S16x16_16_16).toLoadRect (View.loadsAt_vmem h_S16x16)) fun _ =>
  .op (.store arg7 (Rect.unit (s := S256x256) ![16, 16] S16x16.size inb_S256x256_S16x16_16_16) (k0_pay7 v3) Finset.univ (View.stores_vmem_bits_univ h_S16x16 rfl) (.inl rfl)) fun _ =>
  .op (.load arg7 (Rect.unit (s := S256x256) ![32, 32] S16x16.size inb_S256x256_S16x16_32_32).toLoadRect (View.loadsAt_vmem h_S16x16)) fun _ =>
  .op (.store arg7 (Rect.unit (s := S256x256) ![32, 32] S16x16.size inb_S256x256_S16x16_32_32) (k0_pay8 v3) Finset.univ (View.stores_vmem_bits_univ h_S16x16 rfl) (.inl rfl)) fun _ =>
  .ret ⟨k0_pay3 v3, k0_pay4 v7 v9, k0_pay5 v7 v9 v13, k0_pay9 v3⟩

/-- The first part at the first step. -/
def head0 : Prog (TpuEff nD τ sig (Elt F) Λ₀ .tc) (Σ' (v6 : FVec F S400x16x16 .f32) (v12 : FVec F S6400x128 .f32) (v14 : FVec F S6400x128 .f32), FVec F S16x16 .f32) :=
  .op (.load arg7 (Rect.unit (s := S256x256) ![0, 0] S256x256.size inb_S256x256_S256x256_0_0).toLoadRect (View.loadsAt_vmem h_S256x256)) fun _ =>
  .op (.store arg7 (Rect.unit (s := S256x256) ![0, 0] S256x256.size inb_S256x256_S256x256_0_0) (k0_pay2 (F := F)) Finset.univ (View.stores_vmem_bits_univ h_S256x256 rfl) (.inl rfl)) fun _ =>
  head1 arg1 arg2 arg3 arg4 arg7

end Prog

/-- The first step's test, as printed. -/
abbrev first (i : grid0.Coords) : Prop :=
  Scalar.cmpi .ne (Scalar.extui (Scalar.cmpi .eq (BitVec.ofNat 32 (i 0).val) 0#32) : BitVec 32) 0#32 = 1#1

/-- The first part at the first step. -/
theorem part1_first (i : grid0.Coords) (hi : first i) (arg1) (h1) (arg2) (h2) (arg3) (h3) (arg4) (h4) (arg5) (h5) (arg6) (h6) (arg7) (h7) (arg8) (h8) :
    k0_part1 (F := F) i arg1 h1 arg2 h2 arg3 h3 arg4 h4 arg5 h5 arg6 h6 arg7 h7 arg8 h8 = head0 arg1 arg2 arg3 arg4 arg7 := by
  rw [k0_part1_eq_skeleton]; unfold k0_part1_skel
  dsimp only []
  split
  · rfl
  · exact absurd hi (by assumption)

set_option maxRecDepth 65536 in
/-- The body at the first step. -/
theorem body_first (i : grid0.Coords) (hi : first i) (arg1) (h1) (arg2) (h2) (arg3) (h3) (arg4) (h4) (arg5) (h5) (arg6) (h6) (arg7) (h7) (arg8) (h8) :
    cc0__lib_body (F := F) i arg1 h1 arg2 h2 arg3 h3 arg4 h4 arg5 h5 arg6 h6 arg7 h7 arg8 h8 = main0 arg1 arg2 arg3 arg4 arg5 arg6 arg7 arg8 := by
  rw [cc0__lib_body_eq_skeleton]; unfold cc0__lib_body_skel
  rw [k0_part60_eq_skeleton]; unfold k0_part60_skel
  rw [part1_first i hi]
  sl_kernel_rfl

/-- The first part at a later step. -/
theorem part1_rest (i : grid0.Coords) (hi : ¬ first i) (arg1) (h1) (arg2) (h2) (arg3) (h3) (arg4) (h4) (arg5) (h5) (arg6) (h6) (arg7) (h7) (arg8) (h8) :
    k0_part1 (F := F) i arg1 h1 arg2 h2 arg3 h3 arg4 h4 arg5 h5 arg6 h6 arg7 h7 arg8 h8 = head1 arg1 arg2 arg3 arg4 arg7 := by
  rw [k0_part1_eq_skeleton]; unfold k0_part1_skel
  dsimp only []
  split
  · exact absurd (by assumption) hi
  · rfl

set_option maxRecDepth 65536 in
/-- The body at a later step. -/
theorem body_rest (i : grid0.Coords) (hi : ¬ first i) (arg1) (h1) (arg2) (h2) (arg3) (h3) (arg4) (h4) (arg5) (h5) (arg6) (h6) (arg7) (h7) (arg8) (h8) :
    cc0__lib_body (F := F) i arg1 h1 arg2 h2 arg3 h3 arg4 h4 arg5 h5 arg6 h6 arg7 h7 arg8 h8 = main arg1 arg2 arg3 arg4 arg5 arg6 arg7 arg8 := by
  rw [cc0__lib_body_eq_skeleton]; unfold cc0__lib_body_skel
  rw [k0_part60_eq_skeleton]; unfold k0_part60_skel
  rw [part1_rest i hi]
  sl_kernel_rfl

/-- The zero the square buffer is cleared to. -/
abbrev z : F .f32 := Scalar.ofBits .f32 0x00000000#32

/-- What a grid step stores, of its input blocks. -/
def out (x1 : Vec F S400x16x64 .f32) (x2 : Vec F S400x16x16 .i32) (x3 : Vec F S64x128 .f32) (x4 x5 : Vec F S128x128 .f32) : Vec F S400x128 .f32 :=
  k0_pay1 (k0_pay457 (k0_pay456 (k0_pay4 x1 x3) (A.msg (pay (k0_pay3 x2) (k0_pay5 x1 x3 x4)) z))) x5

section Wp
variable {d : Dev nD} (E : Set ℕ) {Q : PUnit → sProp (MT nD τ sig (HIx 1) (Elt F) ℕ UU ℕ)}
variable (arg1 : Memref sig .tc .vmem S400x16x64 .f32) (arg2 : Memref sig .tc .vmem S400x16x16 .i32) (arg3 : Memref sig .tc .vmem S64x128 .f32)
  (arg4 : Memref sig .tc .vmem S128x128 .f32) (arg5 : Memref sig .tc .vmem S128x128 .f32) (arg6 : Memref sig .tc .vmem S400x128 .f32)
  (arg7 : Memref sig .tc .vmem S256x256 .f32) (arg8 : Memref sig .tc .vmem S6400x128 .f32)
variable (x1 : Vec F S400x16x64 .f32) (x2 : Vec F S400x16x16 .i32) (x3 : Vec F S64x128 .f32) (x4 x5 : Vec F S128x128 .f32) (X6 : Vec F S400x128 .f32)

/-- What a step leaves. -/
def left : sProp 𝕄 :=
  iprop(owns (d : Thread nD τ) arg1 fullShare x1 ∗ owns (d : Thread nD τ) arg2 fullShare x2 ∗ owns (d : Thread nD τ) arg3 fullShare x3
    ∗ owns (d : Thread nD τ) arg4 fullShare x4 ∗ owns (d : Thread nD τ) arg5 fullShare x5 ∗ owns (d : Thread nD τ) arg6 fullShare (out x1 x2 x3 x4 x5)
    ∗ (∃ X, ⌜A.Off z X⌝ ∗ owns (d : Thread nD τ) arg7 fullShare X) ∗ (∃ X, owns (d : Thread nD τ) arg8 fullShare X))

theorem main_wp (X7 : S256x256.Idx → F .f32) (X8 : S6400x128.Idx → F .f32) (hX : A.Off z X7) :
    iprop(owns (d : Thread nD τ) arg1 fullShare x1 ∗ owns (d : Thread nD τ) arg2 fullShare x2 ∗ owns (d : Thread nD τ) arg3 fullShare x3
        ∗ owns (d : Thread nD τ) arg4 fullShare x4 ∗ owns (d : Thread nD τ) arg5 fullShare x5 ∗ owns (d : Thread nD τ) arg6 fullShare X6
        ∗ owns (d : Thread nD τ) arg7 fullShare X7 ∗ owns (d : Thread nD τ) arg8 fullShare X8
        ∗ (left (d := d) arg1 arg2 arg3 arg4 arg5 arg6 arg7 arg8 x1 x2 x3 x4 x5 -∗ Q ⟨⟩))
      ⊢ (wp frame (wpE (defs₀ (F := F)) 𝒱₀ (d : Thread nD τ) none) E (main arg1 arg2 arg3 arg4 arg5 arg6 arg7 arg8) Q : sProp 𝕄) := by
  unfold main
  iintro ⟨H1, H2, H3, H4, H5, H6, H7, H8, Hk⟩
  iapply (load_whole (F := F) (d := d) E arg2 zero3 _ x2 _)
  isplitl [H2]; · iexact H2
  iintro H2
  iapply (load_whole (F := F) (d := d) E arg1 zero3 _ x1 _)
  isplitl [H1]; · iexact H1
  iintro H1
  iapply (load_whole (F := F) (d := d) E arg3 zero2 _ x3 _)
  isplitl [H3]; · iexact H3
  iintro H3
  iapply (load_whole (F := F) (d := d) E arg4 zero2 _ x4 _)
  isplitl [H4]; · iexact H4
  iintro H4
  iapply (A.packs_wp arg7 arg8 (d := d) E (pay (k0_pay3 x2) (k0_pay5 x1 x3 x4)) _ A.np 0 (X7, X8))
  isplitl [H7]; · iexact H7
  isplitl [H8]; · iexact H8
  have ho := A.packC_off (pay (k0_pay3 x2) (k0_pay5 x1 x3 x4)) z (X7, X8) hX
  have hm := A.packC_msg (pay (k0_pay3 x2) (k0_pay5 x1 x3 x4)) z (X7, X8) hX
  rw [hm]
  iintro H7 H8
  unfold tail
  iapply (load_whole (F := F) (d := d) E arg8 zero2 _ (A.msg (pay (k0_pay3 x2) (k0_pay5 x1 x3 x4)) z) _)
  isplitl [H8]; · iexact H8
  iintro H8
  iapply (load_whole (F := F) (d := d) E arg5 zero2 _ x5 _)
  isplitl [H5]; · iexact H5
  iintro H5
  iapply (load_whole (F := F) (d := d) E arg6 zero2 _ X6 _)
  isplitl [H6]; · iexact H6
  iintro H6
  iapply (store_whole (F := F) (d := d) E arg6 zero2 _ (out x1 x2 x3 x4 x5) X6 _)
  isplitl [H6]; · iexact H6
  iintro H6
  rw [wp_ret]
  iapply fupd_intro
  iapply Hk
  unfold left
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    · ipureintro; exact ho
    · iexact H7
  · iexists _; iexact H8

set_option maxRecDepth 16384 in
/-- A grid step, of the input blocks: the result's block and the square buffer clear off its diagonal. -/
theorem body_wp (i : grid0.Coords) (h1) (h2) (h3) (h4) (h5) (h6) (h7) (h8) (X7 : S256x256.Idx → F .f32) (X8 : S6400x128.Idx → F .f32) (hX : ¬ first i → A.Off z X7) :
    iprop(owns (d : Thread nD τ) arg1 fullShare x1 ∗ owns (d : Thread nD τ) arg2 fullShare x2 ∗ owns (d : Thread nD τ) arg3 fullShare x3
        ∗ owns (d : Thread nD τ) arg4 fullShare x4 ∗ owns (d : Thread nD τ) arg5 fullShare x5 ∗ owns (d : Thread nD τ) arg6 fullShare X6
        ∗ owns (d : Thread nD τ) arg7 fullShare X7 ∗ owns (d : Thread nD τ) arg8 fullShare X8
        ∗ (left (d := d) arg1 arg2 arg3 arg4 arg5 arg6 arg7 arg8 x1 x2 x3 x4 x5 -∗ Q ⟨⟩))
      ⊢ (wp frame (wpE (defs₀ (F := F)) 𝒱₀ (d : Thread nD τ) none) E
          (cc0__lib_body (F := F) i arg1 h1 arg2 h2 arg3 h3 arg4 h4 arg5 h5 arg6 h6 arg7 h7 arg8 h8) Q : sProp 𝕄) := by
  by_cases hi : first i
  · rw [body_first i hi]
    unfold main0
    iintro ⟨H1, H2, H3, H4, H5, H6, H7, H8, Hk⟩
    iapply (load_whole (F := F) (d := d) E arg7 zero2 _ X7 _)
    isplitl [H7]; · iexact H7
    iintro H7
    iapply (store_whole (F := F) (d := d) E arg7 zero2 _ (k0_pay2 (F := F)) X7 _)
    isplitl [H7]; · iexact H7
    iintro H7
    iapply (main_wp (d := d) E arg1 arg2 arg3 arg4 arg5 arg6 arg7 arg8 x1 x2 x3 x4 x5 X6 (k0_pay2 (F := F)) X8 (fun _ _ => rfl))
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact Hk
  · rw [body_rest i hi]
    exact main_wp (d := d) E arg1 arg2 arg3 arg4 arg5 arg6 arg7 arg8 x1 x2 x3 x4 x5 X6 X7 X8 (hX hi)

end Wp

end Cert.Proof.Lib

end
-- ==== Proof.Region.lean ====
/-
  A TensorCore call of @main beside the SparseCore call: its region entered from every unscoped buffer at a valuation and
  what the core owes, and left with the windows' arrays at what the call leaves.
-/
module

public import proofs.«01_k».proof.Proof.Tc
public import proofs.«01_k».proof.Proof.Gen.KernelIdeal.Launch
public import proofs.«01_k».proof.Proof.Gen.KernelIdeal.Regions

@[expose] public section

noncomputable section

namespace Cert.Proof.Region

open Cert.KernelIdeal Cert.KernelIdeal.Gen Cert.Proof.Tc
open Idealize.ShloMosaic
open Idealize.ShloMosaic.TcCoe
open Idealize.ShloMosaic.SparseCore.Cfg (HIx)
open Idealize.ShloMosaic.Pipeline (Dat)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

abbrev adm : (p : Fin 3) → (pcfgs (F := F) p).Adm := fun p => (cfgs p).toPCfg_adm

theorem kit : ∀ p : Fin 3, Pipeline.PLaunchFacts (nD := nD) (τ := τ) (pcfgs (F := F)) p
  | ⟨0, _⟩ => launch0.toP
  | ⟨1, _⟩ => launch1.toP
  | ⟨2, _⟩ => launch3.toP

/-- A region's proof data. -/
abbrev Dt (p : Fin 3) (c : Dev nD) : Type := Dat τ (Elt F) (HIx 1) ℕ UU ℕ (Pipeline.pin (pcfgs (F := F)) adm p) c
abbrev Dts : Type := (p : Fin 3) → (c : Dev nD) → Dt (F := F) p c

theorem hK (p : Fin 3) : (pcfgs (F := F) p).pre.K = 0 := rfl

/-- What TensorCore `c` has waited for and owes before the `n`-th SparseCore call. -/
def owed (n : ℕ) (c : Dev nD) : sProp 𝕄 :=
  iprop(∃ Wd, ⌜(K (F := F)).WBelow (c : Thread nD τ) Wd (8 * n)⌝ ∗ owes (c : Thread nD τ) ((K (F := F)).Otc c n) Wd)

/-- The waits a region may have recorded. -/
def recBound (n : ℕ) (c : Dev nD) : Set (SemLoc sig × HIx 1) := {x | (K (F := F)).lev ((c : Thread nD τ), x.1) x.2 ≤ 8 * n}

/-- A proof data for a pipeline other than the region's own: anything. -/
def junk [∀ e, Nonempty (Elt F e)] (p : Fin 3) (c : Dev nD) : Dt (F := F) p c where
  A _ := fun _ => Classical.arbitrary _
  after _ _ := fun _ => Classical.arbitrary _
  Φ _ := BI.emp
  q _ := fullShare
  owed _ := 0

theorem Otc_none (c : Dev nD) (n : ℕ) (g : GSem nD τ sig) : (K (F := F)).Otc (N := 1) c n g none = 0 := by
  by_contra h
  have := (K (F := F)).lev_of_Otc_pos (Nat.pos_of_ne_zero h)
  exact absurd this (by show ¬ 8 * n + 1 ≤ 0; omega)

section Reg
variable {p : Fin 3} (pdats : Dts (F := F)) (n : ℕ)
  (hbody : ∀ c, Pipeline.BodyObligationLoose (pdats p c) (defs₀ (F := F)) 𝒱₀ none Set.univ)
  (howed : ∀ c t, (pdats p c).owed t = (K (F := F)).Otc c n)
  (hrec : ∀ c t, (pdats p c).recorded t = recBound (F := F) n c)
  (hshare : ∀ c w, (pdats p c).share w = fullShare)
  (hin : ∀ c, Pipeline.scopedRest (Pipeline.pin (pcfgs (F := F)) adm p).spec c ⊢ (pdats p c).Φ 0)
  (hout : ∀ c, (pdats p c).Φ (Fin.last (Pipeline.pin (pcfgs (F := F)) adm p).N) ⊢ Pipeline.scopedRest (Pipeline.pin (pcfgs (F := F)) adm p).spec c)
  (W : Dev nD → Valuation τ sig (Elt F))
  (hW : ∀ c w, (pdats p c).arrAt w 0 = W c (Proc.devRef .tc (Pipeline.arrRef (Pipeline.pin (pcfgs (F := F)) adm p).spec w)))

include howed in
theorem waits (c : Dev nD) : (levAts (K (F := F)).L (K (F := F)).lev : sProp 𝕄) ⊢ Pipeline.cellsWaits (Pipeline.pin (pcfgs (F := F)) adm) pdats none p c := by
  refine Pipeline.cellsWaits_intro (Pipeline.pin (pcfgs (F := F)) adm) pdats none p c (R := levAts (K (F := F)).L (K (F := F)).lev) ?_
  intro w s t
  rw [howed c t]
  exact (K (F := F)).mayWait_none _ (Otc_none c n)

set_option backward.isDefEq.respectTransparency.types false in
/-- Region `p` entered from every unscoped buffer at `W` and what the core owes; left with the arrays as the call leaves them. -/
def reg : Pipeline.RegionSeg (pcfgs (F := F)) adm pdats none defs₀ 𝒱₀ (K (F := F)).L (K (F := F)).lev p where
  win := (kit (F := F) p).win.to₀
  block_pos := (kit (F := F) p).block_pos
  stage_whole := (kit (F := F) p).stage_whole
  K := PEmpty
  osem k := k.elim
  ho := Pipeline.OwnSemFacts.none _
  hbody := hbody
  hwaits c := waits pdats n howed c
  pre c := iprop(StableHlo.held (c.tc : Thread nD τ) (Pipeline.ucRefs τ sig) (W c) ∗ owed n c)
  post c := iprop(StableHlo.held (c.tc : Thread nD τ) (Pipeline.ucRefs τ sig) (Pipeline.afterRegion (pdats p c) (W c)) ∗ owed n c)
  X _ := BI.emp
  Y _ := BI.emp
  Z c := StableHlo.held (c.tc : Thread nD τ) (Pipeline.ucRefs τ sig \ Pipeline.arrRefs (pcfgs (F := F) p).spec) (W c)
  hentry c := by
    have hS : Pipeline.arrRefs (pcfgs (F := F) p).spec ⊆ Pipeline.ucRefs τ sig := Pipeline.arrRefs_sub_ucRefs _ (kit (F := F) p).win.arr_unscoped
    rw [Pipeline.ownSems0_none, Pipeline.prefHeld_of_none _ (hK p),
      Pipeline.arrays_held (pcfgs (F := F)) adm pdats p (kit p) c (hshare c) ((pdats p c).arrAt · 0) (W c) (hW c),
      StableHlo.held_sub_split (c.tc : Thread nD τ) hS (W c)]
    iintro ⟨⟨⟨Ha, Hu⟩, HO⟩, -, -⟩
    imodintro
    isplitl [Ha]; · iexact Ha
    isplitr; · iempintro
    isplitl [HO]
    · unfold Pipeline.Dat.owesAt Pipeline.owesWithin Pipeline.Dat.bound
      rw [howed c 0, hrec c 0]
      unfold owed
      icases HO with ⟨%Wd, %hWd, HO⟩; iexists Wd; isplitr; · ipureintro; exact fun x hx => Or.inl (hWd x hx)
      iexact HO
    isplitr; · iempintro
    iexact Hu
  hin c := (show _ ⊢ Pipeline.scopedRest (Pipeline.pin (pcfgs (F := F)) adm p).spec c from by iintro ⟨-, -, Hr⟩; iexact Hr).trans (hin c)
  hout c := (hout c).trans (by
    rw [Pipeline.ownSems0_none]
    iintro Hr
    isplitr; · iempintro
    isplitr; · iempintro
    iexact Hr)
  hexit c := by
    have hS : Pipeline.arrRefs (pcfgs (F := F) p).spec ⊆ Pipeline.ucRefs τ sig := Pipeline.arrRefs_sub_ucRefs _ (kit (F := F) p).win.arr_unscoped
    rw [Pipeline.arrays_held (pcfgs (F := F)) adm pdats p (kit p) c (hshare c) ((pdats p c).arrAt · (Pipeline.pin (pcfgs (F := F)) adm p).N)
        (Pipeline.afterRegion (pdats p c) (W c)) (fun w => (Pipeline.afterRegion_arr (pdats p c) (W c) (kit (F := F) p).win.arr_inj w).symm),
      StableHlo.held_sub_split (c.tc : Thread nD τ) hS (Pipeline.afterRegion (pdats p c) (W c)),
      StableHlo.held_congr (c.tc : Thread nD τ) (S := Pipeline.ucRefs τ sig \ Pipeline.arrRefs (pcfgs (F := F) p).spec) (V := Pipeline.afterRegion (pdats p c) (W c)) (V' := W c)
        (Pipeline.afterRegion_off (pdats p c) (W c) _)]
    iintro ⟨Ha, HO, -, Hu⟩
    imodintro
    isplitl [Ha Hu]
    · isplitl [Ha]; · iexact Ha
      iexact Hu
    unfold Pipeline.Dat.owesAt Pipeline.owesWithin Pipeline.Dat.bound
    rw [howed c (Fin.last _), hrec c (Fin.last _)]
    unfold owed
    icases HO with ⟨%Wd, %hWd, HO⟩; iexists Wd; isplitr
    · ipureintro
      intro x hx
      rcases hWd hx with h | ⟨w, s, h⟩
      · exact h
      · rw [h]; exact Nat.zero_le _
    iexact HO

theorem hinj : Function.Injective (Pipeline.cellOf (nD := nD) (τ := τ) (Pipeline.pin (pcfgs (F := F)) adm)) := (kit (F := F) 0).cellOf_inj adm

/-- Pipeline `p`'s ghost state on TensorCore `c`. -/
abbrev ghost (p : Fin 3) (c : Dev nD) : sProp 𝕄 :=
  iprop(Pipeline.cellsGhost (Pipeline.pin (pcfgs (F := F)) adm) EP p c ∗ Pipeline.toksInit (Pipeline.pin (pcfgs (F := F)) adm) EP p c)

include hbody howed hrec hshare hin hout hW in
set_option backward.isDefEq.respectTransparency.types false in
/-- The call of pipeline `p` in @main. -/
theorem wp_call [∀ e, Nonempty (Elt F e)] (c : Dev nD) (Q : PUnit → sProp 𝕄) :
    iprop(levAts (K (F := F)).L (K (F := F)).lev ∗ boundary (c.tc : Thread nD τ) ∗ StableHlo.held (c.tc : Thread nD τ) (Pipeline.ucRefs τ sig) (W c) ∗ owed n c ∗ ghost p c
        ∗ (iprop(boundary (c.tc : Thread nD τ) ∗ StableHlo.held (c.tc : Thread nD τ) (Pipeline.ucRefs τ sig) (Pipeline.afterRegion (pdats p c) (W c)) ∗ owed n c) -∗ Q ⟨⟩))
      ⊢ wp frame (wpE ((K (F := F)).defs (D (F := F))) 𝒱 (c.tc : Thread nD τ) none) Set.univ
          (Prog.lift (.customCall (SparseCore.inner (Pipeline.entry p)) ())) Q := by
  have h := Pipeline.RegionSeg.wp (pcfgs (F := F)) adm pdats none hinj EP defs₀ 𝒱₀ (K (F := F)).L (K (F := F)).lev
    (reg pdats n hbody howed hrec hshare hin hout W hW) c none (fun u hu => nomatch hu) (fun _ => .ret ⟨⟩) Q
  have hpre : (reg pdats n hbody howed hrec hshare hin hout W hW).pre c = iprop(StableHlo.held (c.tc : Thread nD τ) (Pipeline.ucRefs τ sig) (W c) ∗ owed n c) := rfl
  have hpost : (reg pdats n hbody howed hrec hshare hin hout W hW).post c
      = iprop(StableHlo.held (c.tc : Thread nD τ) (Pipeline.ucRefs τ sig) (Pipeline.afterRegion (pdats p c) (W c)) ∗ owed n c) := rfl
  rw [hpre, hpost] at h
  have h2 := (K (F := F)).wp_liftProg (D (F := F)) 𝒱 (c.tc : Thread nD τ) Set.univ none (Prog.lift (.customCall (Pipeline.entry p) ())) Q
  refine BIBase.Entails.trans (BIBase.Entails.trans ?_ h) h2
  iintro ⟨HL, Hb, Hh, HO, ⟨Hc, Ht⟩, Hk⟩
  isplitl [Hk]
  · iintro ⟨Hb, Hp⟩
    rw [wp_ret]
    iapply fupd_intro
    iapply Hk
    isplitl [Hb]; · iexact Hb
    iexact Hp
  isplitl [Hb]; · iexact Hb
  isplitl [Hh HO]
  · isplitl [Hh] <;> iassumption
  isplitl [HL]; · iexact HL
  isplitl [Hc] <;> iassumption

end Reg

end Cert.Proof.Region

end
-- ==== Proof.LibCall.lean ====
/-
  The library embedding's call as a region of @main: its proof data and its grid steps.
-/
module

public import proofs.«01_k».proof.Proof.Lib
public import proofs.«01_k».proof.Proof.Region
public import proofs.«01_k».proof.Proof.Gen.KernelIdeal.Launch
public import proofs.«01_k».proof.Proof.Gen.KernelIdeal.Points
public import Idealize.ShloMosaic.Lib.Pipeline.FrameBody
public import Idealize.ShloMosaic.Lib.WordCmp

@[expose] public section

noncomputable section

namespace Cert.Proof.Lib

open Cert.KernelIdeal Cert.KernelIdeal.Gen Cert.Proof.Tc Cert.Proof.Pack Cert.Proof.Region
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)

variable {F : FTy → Type}

local notation "𝕄" => MT nD τ sig (HIx 1) (Elt F) ℕ UU ℕ

variable [FloatOps F]

/-- The first step is point 0. -/
theorem first_iff (t : Fin cfg0.N) : first (grid0.coords t) ↔ t.val = 0 := by
  have ht : t.val < 25 := Nat.lt_of_lt_of_eq t.isLt N_0
  have e0 : (grid0.coords t 0).val = t.val / 1 % 25 := Pipeline.Grid.coords_val t 0 (by decide) rfl
  have e1 : t.val / 1 % 25 = t.val := by omega
  unfold first
  simp only [e0, e1]
  word_cmp

/-- A window's block at a point, from the arrays at `W`. -/
def blk (W : Valuation τ sig (Elt F)) (c : Dev nD) (w : Fin cfg0.W) (t : Fin cfg0.N) : ((cfg0.win w).xblock (cfg0.grid.coords t)).Idx → Elt F (cfg0.win w).elt :=
  ((cfg0.win w).blk t).view.read (Elt F) (W (Proc.devRef .tc (Pipeline.arrRef spec0 w)))

/-- The invariant before a point: the square buffer clear off its diagonal after the first, the messages' buffer at anything. -/
def Phi (c : Dev nD) (n : ℕ) : sProp 𝕄 :=
  iprop((∃ X : Vec F S256x256 .f32, ⌜n ≠ 0 → A.Off z X⌝ ∗ owns (c : Thread nD τ) (Memref.whole cc0_scratch0) fullShare X)
    ∗ (∃ X : Vec F S6400x128 .f32, owns (c : Thread nD τ) (Memref.whole cc0_scratch1) fullShare X)
    ∗ Pipeline.scopedRestBut (Ix := HIx 1) (Name := ℕ) (U := UU) (Lvl := ℕ) (Val := Elt F) spec0 c [cc0_scratch0, cc0_scratch1])

/-- The call's proof data, from the arrays at `W`. -/
def dat (W : Valuation τ sig (Elt F)) (c : Dev nD) : Dat τ (Elt F) (HIx 1) ℕ UU ℕ cfg0 c where
  A w := W (Proc.devRef .tc (Pipeline.arrRef spec0 w))
  after w t := match w with
    | ⟨0, _⟩ => blk W c 0 t
    | ⟨1, _⟩ => blk W c 1 t
    | ⟨2, _⟩ => blk W c 2 t
    | ⟨3, _⟩ => blk W c 3 t
    | ⟨4, _⟩ => blk W c 4 t
    | ⟨5, _⟩ => out (blk W c 0 t) (blk W c 1 t) (blk W c 2 t) (blk W c 3 t) (blk W c 4 t)
  Φ t := Phi c t.val
  q _ := fullShare
  owed _ := (K (F := F)).Otc c 0
  recorded _ := recBound (F := F) 0 c

theorem before0 (W : Valuation τ sig (Elt F)) (c : Dev nD) (t : Fin cfg0.N) (d) : (dat W c).before 0 t d = blk W c 0 t :=
  ((dat W c).before_in_eq_fetched 0 rfl (fun _ => rfl) (fun _ _ _ => rfl) (fun t => rfl) t d).trans rfl
theorem before1 (W : Valuation τ sig (Elt F)) (c : Dev nD) (t : Fin cfg0.N) (d) : (dat W c).before 1 t d = blk W c 1 t :=
  ((dat W c).before_in_eq_fetched 1 rfl (fun _ => rfl) (fun _ _ _ => rfl) (fun t => rfl) t d).trans rfl
theorem before2 (W : Valuation τ sig (Elt F)) (c : Dev nD) (t : Fin cfg0.N) (d) : (dat W c).before 2 t d = blk W c 2 t :=
  ((dat W c).before_in_eq_fetched 2 rfl (fun _ => rfl) (fun _ _ _ => rfl) (fun t => rfl) t d).trans rfl
theorem before3 (W : Valuation τ sig (Elt F)) (c : Dev nD) (t : Fin cfg0.N) (d) : (dat W c).before 3 t d = blk W c 3 t :=
  ((dat W c).before_in_eq_fetched 3 rfl (fun _ => rfl) (fun _ _ _ => rfl) (fun t => rfl) t d).trans rfl
theorem before4 (W : Valuation τ sig (Elt F)) (c : Dev nD) (t : Fin cfg0.N) (d) : (dat W c).before 4 t d = blk W c 4 t :=
  ((dat W c).before_in_eq_fetched 4 rfl (fun _ => rfl) (fun _ _ _ => rfl) (fun t => rfl) t d).trans rfl

/-- A grid step of the call. -/
theorem obligation (W : Valuation τ sig (Elt F)) (c : Dev nD) : Pipeline.BodyObligation (dat W c) (defs₀ (F := F)) 𝒱₀ none Set.univ := fun t => by
  rw [bigSep_W0, bigSep_W0]
  rw [show (dat W c).Φ t.castSucc = Phi c t.val from rfl, show (dat W c).Φ t.succ = Phi c (t.val + 1) from rfl,
    show (dat W c).owesAt none t.succ = (dat W c).owesAt none t.castSucc from rfl]
  iintro ⟨HΦ, HO, ⟨%d0, H0⟩, ⟨%d1, H1⟩, ⟨%d2, H2⟩, ⟨%d3, H3⟩, ⟨%d4, H4⟩, ⟨%d5, H5⟩⟩
  rw [before0, before1, before2, before3, before4]
  unfold Phi
  icases HΦ with ⟨⟨%X7, %hX, H7⟩, ⟨%X8, H8⟩, HR⟩
  iapply (body_wp (F := F) (d := c) Set.univ _ _ _ _ _ _ _ _ (blk W c 0 t) (blk W c 1 t) (blk W c 2 t) (blk W c 3 t) (blk W c 4 t) _ (grid0.coords t)
    _ _ _ _ _ _ _ _ X7 X8 (fun hf => hX fun h0 => hf ((first_iff t).mpr h0)))
  isplitl [H0]; · iexact H0
  isplitl [H1]; · iexact H1
  isplitl [H2]; · iexact H2
  isplitl [H3]; · iexact H3
  isplitl [H4]; · iexact H4
  isplitl [H5]; · iexact H5
  isplitl [H7]; · iexact H7
  isplitl [H8]; · iexact H8
  unfold left
  iintro ⟨H0, H1, H2, H3, H4, H5, ⟨%Y7, %hY, H7⟩, H8⟩
  isplitl [H7 H8 HR]
  · isplitl [H7]
    · iexists _; isplitr
      · ipureintro; exact fun _ => hY
      · iexact H7
    isplitl [H8]; · iexact H8
    iexact HR
  isplitl [HO]; · iexact HO
  isplitl [H0]; · iexact H0
  isplitl [H1]; · iexact H1
  isplitl [H2]; · iexact H2
  isplitl [H3]; · iexact H3
  isplitl [H4]; · iexact H4
  iexact H5

/-- The call's proof data among the calls'. -/
def pdats [∀ e, Nonempty (Elt F e)] (W : Dev nD → Valuation τ sig (Elt F)) : Dts (F := F)
  | ⟨0, _⟩ => fun c => dat (W c) c
  | ⟨1, _⟩ => fun c => junk 1 c
  | ⟨2, _⟩ => fun c => junk 2 c

theorem Phi_in (c : Dev nD) : (Pipeline.scopedRest (Ix := HIx 1) (Name := ℕ) (U := UU) (Lvl := ℕ) (Val := Elt F) spec0 c : sProp 𝕄) ⊢ Phi c 0 := by
  rw [scopedRest0_split]
  unfold Phi
  simp only [owns_whole_eq]
  iintro ⟨⟨⟨%f0, H0⟩, ⟨%f1, H1⟩⟩, HR⟩
  isplitl [H0]
  · iexists f0; isplitr
    · ipureintro; exact fun h => absurd rfl h
    · iexists f0; isplitr
      · ipureintro; rfl
      · iexact H0
  isplitl [H1]
  · iexists f1; iexists f1; isplitr
    · ipureintro; rfl
    · iexact H1
  iexact HR
theorem Phi_out (c : Dev nD) (n : ℕ) : (Phi c n : sProp 𝕄) ⊢ Pipeline.scopedRest (Ix := HIx 1) (Name := ℕ) (U := UU) (Lvl := ℕ) (Val := Elt F) spec0 c := by
  rw [scopedRest0_split]
  unfold Phi
  simp only [owns_whole_eq]
  iintro ⟨⟨%X, -, %f0, -, H0⟩, ⟨%Y, %f1, -, H1⟩, HR⟩
  isplitl [H0 H1]
  · isplitl [H0]
    · iexists f0; iexact H0
    · iexists f1; iexact H1
  iexact HR

/-- The library embedding's call in @main. -/
theorem call [∀ e, Nonempty (Elt F e)] (W : Dev nD → Valuation τ sig (Elt F)) (c : Dev nD) (Q : PUnit → sProp (MT nD τ sig (HIx 1) (Elt F) ℕ UU ℕ)) :
    iprop(levAts (K (F := F)).L (K (F := F)).lev ∗ boundary (c.tc : Thread nD τ) ∗ StableHlo.held (c.tc : Thread nD τ) (Pipeline.ucRefs τ sig) (W c) ∗ owed 0 c ∗ ghost 0 c
        ∗ (iprop(boundary (c.tc : Thread nD τ) ∗ StableHlo.held (c.tc : Thread nD τ) (Pipeline.ucRefs τ sig) (Pipeline.afterRegion (dat (W c) c) (W c)) ∗ owed 0 c) -∗ Q ⟨⟩))
      ⊢ wp frame (wpE ((K (F := F)).defs (D (F := F))) 𝒱 (c.tc : Thread nD τ) none) Set.univ
          (Prog.lift (.customCall (SparseCore.inner (Pipeline.entry 0)) ())) Q :=
  wp_call (p := 0) (pdats W) 0 (fun c => (obligation (W c) c).loose) (fun _ _ => rfl) (fun _ _ => rfl)
    (fun c w => (dat (W c) c).share_full (fun _ => rfl) w) (fun c => Phi_in c) (fun c => Phi_out c _) W (fun _ _ => rfl) c Q

end Cert.Proof.Lib

end
-- ==== Proof.Gnn.lean ====
/-
  The two-layer graph network's call: its body as two packed programs, and its run.
-/
module

public import proofs.«01_k».proof.Proof.Pack

@[expose] public section

noncomputable section

namespace Cert.Proof.Gnn

open Cert.KernelIdeal Cert.KernelIdeal.Gen Cert.Proof.Tc Cert.Proof.Pack
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- Eight blocks of side 32 a pack, 16 packs. -/
def A : Shp where
  b := 32
  n := 8
  np := 16
  S8 := S4096x128.size
  hb := by decide
  hn := by decide
  hnp := by decide
  hbn := rfl
  h80 := rfl
  h81 := rfl

theorem slices3 (q : ℕ) : S128x32x32.Slices ![q % 128, 0, 0] S1x32x32 :=
  ⟨rfl, fun a => by
    have := Nat.mod_lt q (show 128 > 0 by omega)
    match a with
    | 0 => exact (by omega : q % 128 + 1 ≤ 128)
    | 1 => exact (by omega : 0 + 32 ≤ 32)
    | 2 => exact (by omega : 0 + 32 ≤ 32)⟩
theorem slices2 (p : ℕ) : S4096x128.Slices ![256 * (p % 16), 0] S256x128 :=
  ⟨rfl, fun a => by
    have := Nat.mod_lt p (show 16 > 0 by omega)
    match a with
    | 0 => exact (by omega : 256 * (p % 16) + 256 ≤ 4096)
    | 1 => exact (by omega : 0 + 128 ≤ 128)⟩

/-- The adjacency blocks `v6` on the diagonal, against the rows of `v14`. -/
def pay (v6 : FVec F S128x32x32 .f32) (v14 : FVec F S4096x128 .f32) : A.Pay F where
  blk p g := shapeCast S32x32 (shapeCast S32x32 (extractStridedSlice S1x32x32 ![(8 * p + g) % 128, 0, 0] v6 (slices3 _))
    shapeCasts_S1x32x32_S32x32) shapeCasts_S32x32_S32x32
  prod p bd := shapeCast S256x128 (matmul dot_S256x256_S256x128_S256x128_1_0_0_1_n_n none bd
    (extractStridedSlice S256x128 ![256 * (p % 16), 0] v14 (slices2 p)) (constant S256x128 .f32 0x00000000#32)) shapeCasts_S256x128_S256x128

/-- The second layer's rows. -/
def lin (v754 : FVec F S4096x128 .f32) (v755 : Vec F S128x128 .f32) : FVec F S4096x128 .f32 :=
  k1_pay161 v754 v755 (constant S4096x128 .f32 0x00000000#32)

section Prog
variable (arg1 : Memref sig .tc .vmem S128x32x64 .f32) (arg2 : Memref sig .tc .vmem S128x32x32 .i32) (arg3 : Memref sig .tc .vmem S128x16 .f32) (arg4 : Memref sig .tc .vmem S64x128 .f32) (arg5 : Memref sig .tc .vmem S128x128 .f32) (arg6 : Memref sig .tc .vmem S128x128 .f32) (arg7 : Memref sig .tc .vmem S128x128 .f32) (arg8 : Memref sig .tc .vmem S16x128 .f32) (arg9 : Memref sig .tc .vmem S128x128 .f32) (arg10 : Memref sig .tc .vmem S128x128 .f32) (arg11 : Memref sig .tc .vmem S128x128 .f32) (arg12 : Memref sig .tc .vmem S128x32x128 .f32) (arg13 : Memref sig .tc .vmem S256x256 .f32) (arg14 : Memref sig .tc .vmem S4096x128 .f32)

/-- After the second layer's packs: the two results stored. -/
def tail (v754 : FVec F S4096x128 .f32) : Prog (TpuEff nD τ sig (Elt F) Λ₀ .tc) PUnit :=
  .op (.load arg14 (Rect.unit (s := S4096x128) ![0, 0] S4096x128.size inb_S4096x128_S4096x128_0_0).toLoadRect (View.loadsAt_vmem h_S4096x128)) fun (v1493 : Vec F S4096x128 .f32) =>
  .op (.load arg10 (Rect.unit (s := S128x128) ![0, 0] S128x128.size inb_S128x128_S128x128_0_0).toLoadRect (View.loadsAt_vmem h_S128x128)) fun (v1496 : Vec F S128x128 .f32) =>
  .op (.load arg12 (Rect.unit (s := S128x32x128) ![0, 0, 0] S128x32x128.size inb_S128x32x128_S128x32x128_0_0_0).toLoadRect (View.loadsAt_vmem h_S128x32x128)) fun _ =>
  .op (.store arg12 (Rect.unit (s := S128x32x128) ![0, 0, 0] S128x32x128.size inb_S128x32x128_S128x32x128_0_0_0) (k1_pay316 v1493 v1496) Finset.univ (View.stores_vmem_bits_univ h_S128x32x128 rfl) (.inl rfl)) fun _ =>
  .op (.load arg6 (Rect.unit (s := S128x128) ![0, 0] S128x128.size inb_S128x128_S128x128_0_0).toLoadRect (View.loadsAt_vmem h_S128x128)) fun (v1503 : Vec F S128x128 .f32) =>
  .op (.load arg7 (Rect.unit (s := S128x128) ![0, 0] S128x128.size inb_S128x128_S128x128_0_0).toLoadRect (View.loadsAt_vmem h_S128x128)) fun (v1505 : Vec F S128x128 .f32) =>
  .op (.load arg3 (Rect.unit (s := S128x16) ![0, 0] S128x16.size inb_S128x16_S128x16_0_0).toLoadRect (View.loadsAt_vmem h_S128x16)) fun (v1508 : Vec F S128x16 .f32) =>
  .op (.load arg8 (Rect.unit (s := S16x128) ![0, 0] S16x128.size inb_S16x128_S16x128_0_0).toLoadRect (View.loadsAt_vmem h_S16x128)) fun (v1509 : Vec F S16x128 .f32) =>
  .op (.load arg11 (Rect.unit (s := S128x128) ![0, 0] S128x128.size inb_S128x128_S128x128_0_0).toLoadRect (View.loadsAt_vmem h_S128x128)) fun _ =>
  .op (.store arg11 (Rect.unit (s := S128x128) ![0, 0] S128x128.size inb_S128x128_S128x128_0_0) (k1_pay1 (k1_pay317 v754 v1503 v1505 v1508 v1509) (Scalar.ofBits .f32 0x00000000#32)) Finset.univ (View.stores_vmem_bits_univ h_S128x128 rfl) (.inl rfl)) fun _ =>
  .ret ⟨⟩

/-- After the first layer's packs: the second layer's. -/
def mid (v6 : FVec F S128x32x32 .f32) (v12 : FVec F S4096x128 .f32) : Prog (TpuEff nD τ sig (Elt F) Λ₀ .tc) PUnit :=
  .op (.load arg14 (Rect.unit (s := S4096x128) ![0, 0] S4096x128.size inb_S4096x128_S4096x128_0_0).toLoadRect (View.loadsAt_vmem h_S4096x128)) fun (v751 : Vec F S4096x128 .f32) =>
  .op (.load arg9 (Rect.unit (s := S128x128) ![0, 0] S128x128.size inb_S128x128_S128x128_0_0).toLoadRect (View.loadsAt_vmem h_S128x128)) fun (v755 : Vec F S128x128 .f32) =>
  A.packs arg13 arg14 (pay v6 (lin (k1_pay160 v12 v751) v755)) (tail arg3 arg6 arg7 arg8 arg10 arg11 arg12 arg14 (k1_pay160 v12 v751)) 16 0

/-- A grid step after the square buffer's zeroing. -/
def main : Prog (TpuEff nD τ sig (Elt F) Λ₀ .tc) PUnit :=
  .op (.load arg2 (Rect.unit (s := S128x32x32) ![0, 0, 0] S128x32x32.size inb_S128x32x32_S128x32x32_0_0_0).toLoadRect (View.loadsAt_vmem h_S128x32x32)) fun (v3 : Vec F S128x32x32 .i32) =>
  .op (.load arg1 (Rect.unit (s := S128x32x64) ![0, 0, 0] S128x32x64.size inb_S128x32x64_S128x32x64_0_0_0).toLoadRect (View.loadsAt_vmem h_S128x32x64)) fun (v7 : Vec F S128x32x64 .f32) =>
  .op (.load arg4 (Rect.unit (s := S64x128) ![0, 0] S64x128.size inb_S64x128_S64x128_0_0).toLoadRect (View.loadsAt_vmem h_S64x128)) fun (v9 : Vec F S64x128 .f32) =>
  .op (.load arg5 (Rect.unit (s := S128x128) ![0, 0] S128x128.size inb_S128x128_S128x128_0_0).toLoadRect (View.loadsAt_vmem h_S128x128)) fun (v13 : Vec F S128x128 .f32) =>
  A.packs arg13 arg14 (pay (k1_pay3 v3) (k1_pay5 v7 v9 v13)) (mid arg3 arg6 arg7 arg8 arg9 arg10 arg11 arg12 arg13 arg14 (k1_pay3 v3) (k1_pay4 v7 v9)) 16 0

/-- The first grid step: the square buffer zeroed. -/
def main0 : Prog (TpuEff nD τ sig (Elt F) Λ₀ .tc) PUnit :=
  .op (.load arg13 (Rect.unit (s := S256x256) ![0, 0] S256x256.size inb_S256x256_S256x256_0_0).toLoadRect (View.loadsAt_vmem h_S256x256)) fun _ =>
  .op (.store arg13 (Rect.unit (s := S256x256) ![0, 0] S256x256.size inb_S256x256_S256x256_0_0) (k1_pay2 (F := F)) Finset.univ (View.stores_vmem_bits_univ h_S256x256 rfl) (.inl rfl)) fun _ =>
  main arg1 arg2 arg3 arg4 arg5 arg6 arg7 arg8 arg9 arg10 arg11 arg12 arg13 arg14

/-- The first part's operations after the test. -/
def head1 : Prog (TpuEff nD τ sig (Elt F) Λ₀ .tc) (Σ' (v6 : FVec F S128x32x32 .f32) (v12 : FVec F S4096x128 .f32) (v14 : FVec F S4096x128 .f32), FVec F S32x32 .f32) :=
  .op (.load arg2 (Rect.unit (s := S128x32x32) ![0, 0, 0] S128x32x32.size inb_S128x32x32_S128x32x32_0_0_0).toLoadRect (View.loadsAt_vmem h_S128x32x32)) fun (v3 : Vec F S128x32x32 .i32) =>
  .op (.load arg1 (Rect.unit (s := S128x32x64) ![0, 0, 0] S128x32x64.size inb_S128x32x64_S128x32x64_0_0_0).toLoadRect (View.loadsAt_vmem h_S128x32x64)) fun (v7 : Vec F S128x32x64 .f32) =>
  .op (.load arg4 (Rect.unit (s := S64x128) ![0, 0] S64x128.size inb_S64x128_S64x128_0_0).toLoadRect (View.loadsAt_vmem h_S64x128)) fun (v9 : Vec F S64x128 .f32) =>
  .op (.load arg5 (Rect.unit (s := S128x128) ![0, 0] S128x128.size inb_S128x128_S128x128_0_0).toLoadRect (View.loadsAt_vmem h_S128x128)) fun (v13 : Vec F S128x128 .f32) =>
  .op (.load arg13 (Rect.unit (s := S256x256) ![0, 0] S32x32.size inb_S256x256_S32x32_0_0).toLoadRect (View.loadsAt_vmem h_S32x32)) fun _ =>
  .op (.store arg13 (Rect.unit (s := S256x256) ![0, 0] S32x32.size inb_S256x256_S32x32_0_0) (k1_pay6 v3) Finset.univ (View.stores_vmem_bits_univ h_S32x32 rfl) (.inl rfl)) fun _ =>
  .op (.load arg13 (Rect.unit (s := S256x256) ![32, 32] S32x32.size inb_S256x256_S32x32_32_32).toLoadRect (View.loadsAt_vmem h_S32x32)) fun _ =>
  .op (.store arg13 (Rect.unit (s := S256x256) ![32, 32] S32x32.size inb_S256x256_S32x32_32_32) (k1_pay7 v3) Finset.univ (View.stores_vmem_bits_univ h_S32x32 rfl) (.inl rfl)) fun _ =>
  .op (.load arg13 (Rect.unit (s := S256x256) ![64, 64] S32x32.size inb_S256x256_S32x32_64_64).toLoadRect (View.loadsAt_vmem h_S32x32)) fun _ =>
  .op (.store arg13 (Rect.unit (s := S256x256) ![64, 64] S32x32.size inb_S256x256_S32x32_64_64) (k1_pay8 v3) Finset.univ (View.stores_vmem_bits_univ h_S32x32 rfl) (.inl rfl)) fun _ =>
  .ret ⟨k1_pay3 v3, k1_pay4 v7 v9, k1_pay5 v7 v9 v13, k1_pay9 v3⟩

/-- The first part at the first step. -/
def head0 : Prog (TpuEff nD τ sig (Elt F) Λ₀ .tc) (Σ' (v6 : FVec F S128x32x32 .f32) (v12 : FVec F S4096x128 .f32) (v14 : FVec F S4096x128 .f32), FVec F S32x32 .f32) :=
  .op (.load arg13 (Rect.unit (s := S256x256) ![0, 0] S256x256.size inb_S256x256_S256x256_0_0).toLoadRect (View.loadsAt_vmem h_S256x256)) fun _ =>
  .op (.store arg13 (Rect.unit (s := S256x256) ![0, 0] S256x256.size inb_S256x256_S256x256_0_0) (k1_pay2 (F := F)) Finset.univ (View.stores_vmem_bits_univ h_S256x256 rfl) (.inl rfl)) fun _ =>
  head1 arg1 arg2 arg4 arg5 arg13

end Prog

/-- The first step's test, as printed. -/
abbrev first (i : grid1.Coords) : Prop :=
  Scalar.cmpi .ne (Scalar.extui (Scalar.cmpi .eq (BitVec.ofNat 32 (i 0).val) 0#32) : BitVec 32) 0#32 = 1#1

/-- The first part at the first step. -/
theorem part1_first (i : grid1.Coords) (hi : first i) (arg1) (h1) (arg2) (h2) (arg3) (h3) (arg4) (h4) (arg5) (h5) (arg6) (h6) (arg7) (h7) (arg8) (h8) (arg9) (h9) (arg10) (h10) (arg11) (h11) (arg12) (h12) (arg13) (h13) (arg14) (h14) :
    k1_part1 (F := F) i arg1 h1 arg2 h2 arg3 h3 arg4 h4 arg5 h5 arg6 h6 arg7 h7 arg8 h8 arg9 h9 arg10 h10 arg11 h11 arg12 h12 arg13 h13 arg14 h14 = head0 arg1 arg2 arg4 arg5 arg13 := by
  rw [k1_part1_eq_skeleton]; unfold k1_part1_skel
  dsimp only []
  split
  · rfl
  · exact absurd hi (by assumption)

set_option maxRecDepth 65536 in
/-- The body at the first step. -/
theorem body_first (i : grid1.Coords) (hi : first i) (arg1) (h1) (arg2) (h2) (arg3) (h3) (arg4) (h4) (arg5) (h5) (arg6) (h6) (arg7) (h7) (arg8) (h8) (arg9) (h9) (arg10) (h10) (arg11) (h11) (arg12) (h12) (arg13) (h13) (arg14) (h14) :
    cc1__gnn1_body (F := F) i arg1 h1 arg2 h2 arg3 h3 arg4 h4 arg5 h5 arg6 h6 arg7 h7 arg8 h8 arg9 h9 arg10 h10 arg11 h11 arg12 h12 arg13 h13 arg14 h14 = main0 arg1 arg2 arg3 arg4 arg5 arg6 arg7 arg8 arg9 arg10 arg11 arg12 arg13 arg14 := by
  rw [cc1__gnn1_body_eq_skeleton]; unfold cc1__gnn1_body_skel
  rw [part1_first i hi]
  sl_kernel_rfl

/-- The first part at a later step. -/
theorem part1_rest (i : grid1.Coords) (hi : ¬ first i) (arg1) (h1) (arg2) (h2) (arg3) (h3) (arg4) (h4) (arg5) (h5) (arg6) (h6) (arg7) (h7) (arg8) (h8) (arg9) (h9) (arg10) (h10) (arg11) (h11) (arg12) (h12) (arg13) (h13) (arg14) (h14) :
    k1_part1 (F := F) i arg1 h1 arg2 h2 arg3 h3 arg4 h4 arg5 h5 arg6 h6 arg7 h7 arg8 h8 arg9 h9 arg10 h10 arg11 h11 arg12 h12 arg13 h13 arg14 h14 = head1 arg1 arg2 arg4 arg5 arg13 := by
  rw [k1_part1_eq_skeleton]; unfold k1_part1_skel
  dsimp only []
  split
  · exact absurd (by assumption) hi
  · rfl

set_option maxRecDepth 65536 in
/-- The body at a later step. -/
theorem body_rest (i : grid1.Coords) (hi : ¬ first i) (arg1) (h1) (arg2) (h2) (arg3) (h3) (arg4) (h4) (arg5) (h5) (arg6) (h6) (arg7) (h7) (arg8) (h8) (arg9) (h9) (arg10) (h10) (arg11) (h11) (arg12) (h12) (arg13) (h13) (arg14) (h14) :
    cc1__gnn1_body (F := F) i arg1 h1 arg2 h2 arg3 h3 arg4 h4 arg5 h5 arg6 h6 arg7 h7 arg8 h8 arg9 h9 arg10 h10 arg11 h11 arg12 h12 arg13 h13 arg14 h14 = main arg1 arg2 arg3 arg4 arg5 arg6 arg7 arg8 arg9 arg10 arg11 arg12 arg13 arg14 := by
  rw [cc1__gnn1_body_eq_skeleton]; unfold cc1__gnn1_body_skel
  rw [part1_rest i hi]
  sl_kernel_rfl

/-- The zero the square buffer is cleared to. -/
abbrev z : F .f32 := Scalar.ofBits .f32 0x00000000#32

/-- The first layer's rows. -/
def hid (x1 : Vec F S128x32x64 .f32) (x2 : Vec F S128x32x32 .i32) (x4 : Vec F S64x128 .f32) (x5 : Vec F S128x128 .f32) : FVec F S4096x128 .f32 :=
  k1_pay160 (k1_pay4 x1 x4) (A.msg (pay (k1_pay3 x2) (k1_pay5 x1 x4 x5)) z)

/-- What a grid step stores of the second layer, of its input blocks. -/
def out12 (x1 : Vec F S128x32x64 .f32) (x2 : Vec F S128x32x32 .i32) (x4 : Vec F S64x128 .f32) (x5 x9 x10 : Vec F S128x128 .f32) : Vec F S128x32x128 .f32 :=
  k1_pay316 (A.msg (pay (k1_pay3 x2) (lin (hid x1 x2 x4 x5) x9)) z) x10

/-- What a grid step stores of the graphs' vectors. -/
def out11 (x1 : Vec F S128x32x64 .f32) (x2 : Vec F S128x32x32 .i32) (x3 : Vec F S128x16 .f32) (x4 : Vec F S64x128 .f32) (x5 x6 x7 : Vec F S128x128 .f32) (x8 : Vec F S16x128 .f32) : Vec F S128x128 .f32 :=
  k1_pay1 (k1_pay317 (hid x1 x2 x4 x5) x6 x7 x3 x8) (Scalar.ofBits .f32 0x00000000#32)

section Wp
variable {d : Dev nD} (E : Set ℕ) {Q : PUnit → sProp (MT nD τ sig (HIx 1) (Elt F) ℕ UU ℕ)}
variable (arg1 : Memref sig .tc .vmem S128x32x64 .f32) (arg2 : Memref sig .tc .vmem S128x32x32 .i32) (arg3 : Memref sig .tc .vmem S128x16 .f32) (arg4 : Memref sig .tc .vmem S64x128 .f32) (arg5 : Memref sig .tc .vmem S128x128 .f32) (arg6 : Memref sig .tc .vmem S128x128 .f32) (arg7 : Memref sig .tc .vmem S128x128 .f32) (arg8 : Memref sig .tc .vmem S16x128 .f32) (arg9 : Memref sig .tc .vmem S128x128 .f32) (arg10 : Memref sig .tc .vmem S128x128 .f32) (arg11 : Memref sig .tc .vmem S128x128 .f32) (arg12 : Memref sig .tc .vmem S128x32x128 .f32) (arg13 : Memref sig .tc .vmem S256x256 .f32) (arg14 : Memref sig .tc .vmem S4096x128 .f32)
variable (x1 : Vec F S128x32x64 .f32) (x2 : Vec F S128x32x32 .i32) (x3 : Vec F S128x16 .f32) (x4 : Vec F S64x128 .f32) (x5 : Vec F S128x128 .f32) (x6 : Vec F S128x128 .f32) (x7 : Vec F S128x128 .f32) (x8 : Vec F S16x128 .f32) (x9 : Vec F S128x128 .f32) (x10 : Vec F S128x128 .f32) (X11 : Vec F S128x128 .f32) (X12 : Vec F S128x32x128 .f32)

/-- What a step leaves. -/
def left : sProp (MT nD τ sig (HIx 1) (Elt F) ℕ UU ℕ) :=
  iprop(owns (d : Thread nD τ) arg1 fullShare x1 ∗ owns (d : Thread nD τ) arg2 fullShare x2 ∗ owns (d : Thread nD τ) arg3 fullShare x3 ∗ owns (d : Thread nD τ) arg4 fullShare x4 ∗ owns (d : Thread nD τ) arg5 fullShare x5 ∗ owns (d : Thread nD τ) arg6 fullShare x6 ∗ owns (d : Thread nD τ) arg7 fullShare x7 ∗ owns (d : Thread nD τ) arg8 fullShare x8 ∗ owns (d : Thread nD τ) arg9 fullShare x9 ∗ owns (d : Thread nD τ) arg10 fullShare x10 ∗ owns (d : Thread nD τ) arg11 fullShare (out11 x1 x2 x3 x4 x5 x6 x7 x8) ∗ owns (d : Thread nD τ) arg12 fullShare (out12 x1 x2 x4 x5 x9 x10)
    ∗ (∃ X, ⌜A.Off z X⌝ ∗ owns (d : Thread nD τ) arg13 fullShare X) ∗ (∃ X, owns (d : Thread nD τ) arg14 fullShare X))

theorem main_wp (X13 : S256x256.Idx → F .f32) (X14 : S4096x128.Idx → F .f32) (hX : A.Off z X13) :
    iprop(owns (d : Thread nD τ) arg1 fullShare x1 ∗ owns (d : Thread nD τ) arg2 fullShare x2 ∗ owns (d : Thread nD τ) arg3 fullShare x3 ∗ owns (d : Thread nD τ) arg4 fullShare x4 ∗ owns (d : Thread nD τ) arg5 fullShare x5 ∗ owns (d : Thread nD τ) arg6 fullShare x6 ∗ owns (d : Thread nD τ) arg7 fullShare x7 ∗ owns (d : Thread nD τ) arg8 fullShare x8 ∗ owns (d : Thread nD τ) arg9 fullShare x9 ∗ owns (d : Thread nD τ) arg10 fullShare x10 ∗ owns (d : Thread nD τ) arg11 fullShare X11 ∗ owns (d : Thread nD τ) arg12 fullShare X12 ∗ owns (d : Thread nD τ) arg13 fullShare X13 ∗ owns (d : Thread nD τ) arg14 fullShare X14
        ∗ (left (d := d) arg1 arg2 arg3 arg4 arg5 arg6 arg7 arg8 arg9 arg10 arg11 arg12 arg13 arg14 x1 x2 x3 x4 x5 x6 x7 x8 x9 x10 -∗ Q ⟨⟩))
      ⊢ (wp frame (wpE (defs₀ (F := F)) 𝒱₀ (d : Thread nD τ) none) E (main arg1 arg2 arg3 arg4 arg5 arg6 arg7 arg8 arg9 arg10 arg11 arg12 arg13 arg14) Q : sProp (MT nD τ sig (HIx 1) (Elt F) ℕ UU ℕ)) := by
  unfold main
  iintro ⟨H1, H2, H3, H4, H5, H6, H7, H8, H9, H10, H11, H12, H13, H14, Hk⟩
  iapply (load_whole (F := F) (d := d) E arg2 zero3 _ x2 _)
  isplitl [H2]; · iexact H2
  iintro H2
  iapply (load_whole (F := F) (d := d) E arg1 zero3 _ x1 _)
  isplitl [H1]; · iexact H1
  iintro H1
  iapply (load_whole (F := F) (d := d) E arg4 zero2 _ x4 _)
  isplitl [H4]; · iexact H4
  iintro H4
  iapply (load_whole (F := F) (d := d) E arg5 zero2 _ x5 _)
  isplitl [H5]; · iexact H5
  iintro H5
  iapply (A.packs_wp arg13 arg14 (d := d) E (pay (k1_pay3 x2) (k1_pay5 x1 x4 x5)) _ A.np 0 (X13, X14))
  isplitl [H13]; · iexact H13
  isplitl [H14]; · iexact H14
  have ho := A.packC_off (pay (k1_pay3 x2) (k1_pay5 x1 x4 x5)) z (X13, X14) hX
  have hm := A.packC_msg (pay (k1_pay3 x2) (k1_pay5 x1 x4 x5)) z (X13, X14) hX
  rw [hm]
  generalize (A.packC (pay (k1_pay3 x2) (k1_pay5 x1 x4 x5)) A.np 0 (X13, X14)).1 = X13' at ho
  iintro H13 H14
  unfold mid
  iapply (load_whole (F := F) (d := d) E arg14 zero2 _ (A.msg (pay (k1_pay3 x2) (k1_pay5 x1 x4 x5)) z) _)
  isplitl [H14]; · iexact H14
  iintro H14
  iapply (load_whole (F := F) (d := d) E arg9 zero2 _ x9 _)
  isplitl [H9]; · iexact H9
  iintro H9
  iapply (A.packs_wp arg13 arg14 (d := d) E (pay (k1_pay3 x2) (lin (hid x1 x2 x4 x5) x9)) _ A.np 0 (X13', A.msg (pay (k1_pay3 x2) (k1_pay5 x1 x4 x5)) z))
  isplitl [H13]; · iexact H13
  isplitl [H14]; · iexact H14
  have ho2 := A.packC_off (pay (k1_pay3 x2) (lin (hid x1 x2 x4 x5) x9)) z (X13', A.msg (pay (k1_pay3 x2) (k1_pay5 x1 x4 x5)) z) ho
  have hm2 := A.packC_msg (pay (k1_pay3 x2) (lin (hid x1 x2 x4 x5) x9)) z (X13', A.msg (pay (k1_pay3 x2) (k1_pay5 x1 x4 x5)) z) ho
  rw [hm2]
  iintro H13 H14
  unfold tail
  iapply (load_whole (F := F) (d := d) E arg14 zero2 _ (A.msg (pay (k1_pay3 x2) (lin (hid x1 x2 x4 x5) x9)) z) _)
  isplitl [H14]; · iexact H14
  iintro H14
  iapply (load_whole (F := F) (d := d) E arg10 zero2 _ x10 _)
  isplitl [H10]; · iexact H10
  iintro H10
  iapply (load_whole (F := F) (d := d) E arg12 zero3 _ X12 _)
  isplitl [H12]; · iexact H12
  iintro H12
  iapply (store_whole (F := F) (d := d) E arg12 zero3 _ (out12 x1 x2 x4 x5 x9 x10) X12 _)
  isplitl [H12]; · iexact H12
  iintro H12
  iapply (load_whole (F := F) (d := d) E arg6 zero2 _ x6 _)
  isplitl [H6]; · iexact H6
  iintro H6
  iapply (load_whole (F := F) (d := d) E arg7 zero2 _ x7 _)
  isplitl [H7]; · iexact H7
  iintro H7
  iapply (load_whole (F := F) (d := d) E arg3 zero2 _ x3 _)
  isplitl [H3]; · iexact H3
  iintro H3
  iapply (load_whole (F := F) (d := d) E arg8 zero2 _ x8 _)
  isplitl [H8]; · iexact H8
  iintro H8
  iapply (load_whole (F := F) (d := d) E arg11 zero2 _ X11 _)
  isplitl [H11]; · iexact H11
  iintro H11
  iapply (store_whole (F := F) (d := d) E arg11 zero2 _ (out11 x1 x2 x3 x4 x5 x6 x7 x8) X11 _)
  isplitl [H11]; · iexact H11
  iintro H11
  rw [wp_ret]
  iapply fupd_intro
  iapply Hk
  unfold left
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · iexists _; isplitr
    · ipureintro; exact ho2
    · iexact H13
  · iexists _; iexact H14

set_option maxRecDepth 16384 in
/-- A grid step, of the input blocks: the results' blocks and the square buffer clear off its diagonal. -/
theorem body_wp (i : grid1.Coords) (h1) (h2) (h3) (h4) (h5) (h6) (h7) (h8) (h9) (h10) (h11) (h12) (h13) (h14) (X13 : S256x256.Idx → F .f32) (X14 : S4096x128.Idx → F .f32) (hX : ¬ first i → A.Off z X13) :
    iprop(owns (d : Thread nD τ) arg1 fullShare x1 ∗ owns (d : Thread nD τ) arg2 fullShare x2 ∗ owns (d : Thread nD τ) arg3 fullShare x3 ∗ owns (d : Thread nD τ) arg4 fullShare x4 ∗ owns (d : Thread nD τ) arg5 fullShare x5 ∗ owns (d : Thread nD τ) arg6 fullShare x6 ∗ owns (d : Thread nD τ) arg7 fullShare x7 ∗ owns (d : Thread nD τ) arg8 fullShare x8 ∗ owns (d : Thread nD τ) arg9 fullShare x9 ∗ owns (d : Thread nD τ) arg10 fullShare x10 ∗ owns (d : Thread nD τ) arg11 fullShare X11 ∗ owns (d : Thread nD τ) arg12 fullShare X12 ∗ owns (d : Thread nD τ) arg13 fullShare X13 ∗ owns (d : Thread nD τ) arg14 fullShare X14
        ∗ (left (d := d) arg1 arg2 arg3 arg4 arg5 arg6 arg7 arg8 arg9 arg10 arg11 arg12 arg13 arg14 x1 x2 x3 x4 x5 x6 x7 x8 x9 x10 -∗ Q ⟨⟩))
      ⊢ (wp frame (wpE (defs₀ (F := F)) 𝒱₀ (d : Thread nD τ) none) E (cc1__gnn1_body (F := F) i arg1 h1 arg2 h2 arg3 h3 arg4 h4 arg5 h5 arg6 h6 arg7 h7 arg8 h8 arg9 h9 arg10 h10 arg11 h11 arg12 h12 arg13 h13 arg14 h14) Q : sProp (MT nD τ sig (HIx 1) (Elt F) ℕ UU ℕ)) := by
  by_cases hi : first i
  · rw [body_first i hi]
    unfold main0
    iintro ⟨H1, H2, H3, H4, H5, H6, H7, H8, H9, H10, H11, H12, H13, H14, Hk⟩
    iapply (load_whole (F := F) (d := d) E arg13 zero2 _ X13 _)
    isplitl [H13]; · iexact H13
    iintro H13
    iapply (store_whole (F := F) (d := d) E arg13 zero2 _ (k1_pay2 (F := F)) X13 _)
    isplitl [H13]; · iexact H13
    iintro H13
    iapply (main_wp (d := d) E arg1 arg2 arg3 arg4 arg5 arg6 arg7 arg8 arg9 arg10 arg11 arg12 arg13 arg14 x1 x2 x3 x4 x5 x6 x7 x8 x9 x10 X11 X12 (k1_pay2 (F := F)) X14 (fun _ _ => rfl))
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact Hk
  · rw [body_rest i hi]
    exact main_wp (d := d) E arg1 arg2 arg3 arg4 arg5 arg6 arg7 arg8 arg9 arg10 arg11 arg12 arg13 arg14 x1 x2 x3 x4 x5 x6 x7 x8 x9 x10 X11 X12 X13 X14 (hX hi)

end Wp

end Cert.Proof.Gnn

end
-- ==== Proof.GnnCall.lean ====
/-
  The graph network's call as a region of @main: its proof data and its grid steps.
-/
module

public import proofs.«01_k».proof.Proof.Gnn
public import proofs.«01_k».proof.Proof.Region
public import proofs.«01_k».proof.Proof.Gen.KernelIdeal.Launch
public import proofs.«01_k».proof.Proof.Gen.KernelIdeal.Points
public import Idealize.ShloMosaic.Lib.Pipeline.FrameBody
public import Idealize.ShloMosaic.Lib.WordCmp

@[expose] public section

noncomputable section

namespace Cert.Proof.Gnn

open Cert.KernelIdeal Cert.KernelIdeal.Gen Cert.Proof.Tc Cert.Proof.Pack Cert.Proof.Region
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)

variable {F : FTy → Type}

local notation "𝕄" => MT nD τ sig (HIx 1) (Elt F) ℕ UU ℕ

variable [FloatOps F]

/-- The first step is point 0. -/
theorem first_iff (t : Fin cfg1.N) : first (grid1.coords t) ↔ t.val = 0 := by
  have ht : t.val < 32 := Nat.lt_of_lt_of_eq t.isLt N_1
  have e0 : (grid1.coords t 0).val = t.val / 1 % 32 := Pipeline.Grid.coords_val t 0 (by decide) rfl
  have e1 : t.val / 1 % 32 = t.val := by omega
  unfold first
  simp only [e0, e1]
  word_cmp

/-- A window's block at a point, from the arrays at `W`. -/
def blk (W : Valuation τ sig (Elt F)) (c : Dev nD) (w : Fin cfg1.W) (t : Fin cfg1.N) : ((cfg1.win w).xblock (cfg1.grid.coords t)).Idx → Elt F (cfg1.win w).elt :=
  ((cfg1.win w).blk t).view.read (Elt F) (W (Proc.devRef .tc (Pipeline.arrRef spec1 w)))

/-- The invariant before a point: the square buffer clear off its diagonal after the first, the messages' buffer at anything. -/
def Phi (c : Dev nD) (n : ℕ) : sProp (MT nD τ sig (HIx 1) (Elt F) ℕ UU ℕ) :=
  iprop((∃ X : Vec F S256x256 .f32, ⌜n ≠ 0 → A.Off z X⌝ ∗ owns (c : Thread nD τ) (Memref.whole cc1_scratch0) fullShare X)
    ∗ (∃ X : Vec F S4096x128 .f32, owns (c : Thread nD τ) (Memref.whole cc1_scratch1) fullShare X)
    ∗ Pipeline.scopedRestBut (Ix := HIx 1) (Name := ℕ) (U := UU) (Lvl := ℕ) (Val := Elt F) spec1 c [cc1_scratch0, cc1_scratch1])

/-- The call's proof data, from the arrays at `W`. -/
def dat (W : Valuation τ sig (Elt F)) (c : Dev nD) : Dat τ (Elt F) (HIx 1) ℕ UU ℕ cfg1 c where
  A w := W (Proc.devRef .tc (Pipeline.arrRef spec1 w))
  after w t := match w with
    | ⟨0, _⟩ => blk W c 0 t
    | ⟨1, _⟩ => blk W c 1 t
    | ⟨2, _⟩ => blk W c 2 t
    | ⟨3, _⟩ => blk W c 3 t
    | ⟨4, _⟩ => blk W c 4 t
    | ⟨5, _⟩ => blk W c 5 t
    | ⟨6, _⟩ => blk W c 6 t
    | ⟨7, _⟩ => blk W c 7 t
    | ⟨8, _⟩ => blk W c 8 t
    | ⟨9, _⟩ => blk W c 9 t
    | ⟨10, _⟩ => out11 (blk W c 0 t) (blk W c 1 t) (blk W c 2 t) (blk W c 3 t) (blk W c 4 t) (blk W c 5 t) (blk W c 6 t) (blk W c 7 t)
    | ⟨11, _⟩ => out12 (blk W c 0 t) (blk W c 1 t) (blk W c 3 t) (blk W c 4 t) (blk W c 8 t) (blk W c 9 t)
  Φ t := Phi c t.val
  q _ := fullShare
  owed _ := (K (F := F)).Otc c 0
  recorded _ := recBound (F := F) 0 c

theorem before0 (W : Valuation τ sig (Elt F)) (c : Dev nD) (t : Fin cfg1.N) (d) : (dat W c).before 0 t d = blk W c 0 t :=
  ((dat W c).before_in_eq_fetched 0 rfl (fun _ => rfl) (fun _ _ _ => rfl) (fun t => rfl) t d).trans rfl
theorem before1 (W : Valuation τ sig (Elt F)) (c : Dev nD) (t : Fin cfg1.N) (d) : (dat W c).before 1 t d = blk W c 1 t :=
  ((dat W c).before_in_eq_fetched 1 rfl (fun _ => rfl) (fun _ _ _ => rfl) (fun t => rfl) t d).trans rfl
theorem before2 (W : Valuation τ sig (Elt F)) (c : Dev nD) (t : Fin cfg1.N) (d) : (dat W c).before 2 t d = blk W c 2 t :=
  ((dat W c).before_in_eq_fetched 2 rfl (fun _ => rfl) (fun _ _ _ => rfl) (fun t => rfl) t d).trans rfl
theorem before3 (W : Valuation τ sig (Elt F)) (c : Dev nD) (t : Fin cfg1.N) (d) : (dat W c).before 3 t d = blk W c 3 t :=
  ((dat W c).before_in_eq_fetched 3 rfl (fun _ => rfl) (fun _ _ _ => rfl) (fun t => rfl) t d).trans rfl
theorem before4 (W : Valuation τ sig (Elt F)) (c : Dev nD) (t : Fin cfg1.N) (d) : (dat W c).before 4 t d = blk W c 4 t :=
  ((dat W c).before_in_eq_fetched 4 rfl (fun _ => rfl) (fun _ _ _ => rfl) (fun t => rfl) t d).trans rfl
theorem before5 (W : Valuation τ sig (Elt F)) (c : Dev nD) (t : Fin cfg1.N) (d) : (dat W c).before 5 t d = blk W c 5 t :=
  ((dat W c).before_in_eq_fetched 5 rfl (fun _ => rfl) (fun _ _ _ => rfl) (fun t => rfl) t d).trans rfl
theorem before6 (W : Valuation τ sig (Elt F)) (c : Dev nD) (t : Fin cfg1.N) (d) : (dat W c).before 6 t d = blk W c 6 t :=
  ((dat W c).before_in_eq_fetched 6 rfl (fun _ => rfl) (fun _ _ _ => rfl) (fun t => rfl) t d).trans rfl
theorem before7 (W : Valuation τ sig (Elt F)) (c : Dev nD) (t : Fin cfg1.N) (d) : (dat W c).before 7 t d = blk W c 7 t :=
  ((dat W c).before_in_eq_fetched 7 rfl (fun _ => rfl) (fun _ _ _ => rfl) (fun t => rfl) t d).trans rfl
theorem before8 (W : Valuation τ sig (Elt F)) (c : Dev nD) (t : Fin cfg1.N) (d) : (dat W c).before 8 t d = blk W c 8 t :=
  ((dat W c).before_in_eq_fetched 8 rfl (fun _ => rfl) (fun _ _ _ => rfl) (fun t => rfl) t d).trans rfl
theorem before9 (W : Valuation τ sig (Elt F)) (c : Dev nD) (t : Fin cfg1.N) (d) : (dat W c).before 9 t d = blk W c 9 t :=
  ((dat W c).before_in_eq_fetched 9 rfl (fun _ => rfl) (fun _ _ _ => rfl) (fun t => rfl) t d).trans rfl

/-- A grid step of the call. -/
theorem obligation (W : Valuation τ sig (Elt F)) (c : Dev nD) : Pipeline.BodyObligation (dat W c) (defs₀ (F := F)) 𝒱₀ none Set.univ := fun t => by
  rw [bigSep_W1, bigSep_W1]
  rw [show (dat W c).Φ t.castSucc = Phi c t.val from rfl, show (dat W c).Φ t.succ = Phi c (t.val + 1) from rfl,
    show (dat W c).owesAt none t.succ = (dat W c).owesAt none t.castSucc from rfl]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [before0, before1, before2, before3, before4, before5, before6, before7, before8, before9]
  unfold Phi
  icases HΦ with ⟨⟨%X13, %hX, H13⟩, ⟨%X14, H14⟩, HR⟩
  iapply (body_wp (F := F) (d := c) Set.univ _ _ _ _ _ _ _ _ _ _ _ _ _ _ (blk W c 0 t) (blk W c 1 t) (blk W c 2 t) (blk W c 3 t) (blk W c 4 t) (blk W c 5 t) (blk W c 6 t) (blk W c 7 t) (blk W c 8 t) (blk W c 9 t) _ _ (grid1.coords t)
    _ _ _ _ _ _ _ _ _ _ _ _ _ _ X13 X14 (fun hf => hX fun h0 => hf ((first_iff t).mpr h0)))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H13]; · iexact H13
  isplitl [H14]; · iexact H14
  unfold left
  iintro ⟨H0, H1, H2, H3, H4, H5, H6, H7, H8, H9, H10, H11, ⟨%Y7, %hY, H13⟩, H14⟩
  isplitl [H13 H14 HR]
  · isplitl [H13]
    · iexists _; isplitr
      · ipureintro; exact fun _ => hY
      · iexact H13
    isplitl [H14]; · iexact H14
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The call's proof data among the calls'. -/
def pdats [∀ e, Nonempty (Elt F e)] (W : Dev nD → Valuation τ sig (Elt F)) : Dts (F := F)
  | ⟨0, _⟩ => fun c => junk 0 c
  | ⟨1, _⟩ => fun c => dat (W c) c
  | ⟨2, _⟩ => fun c => junk 2 c

theorem Phi_in (c : Dev nD) : (Pipeline.scopedRest (Ix := HIx 1) (Name := ℕ) (U := UU) (Lvl := ℕ) (Val := Elt F) spec1 c : sProp 𝕄) ⊢ Phi c 0 := by
  rw [scopedRest1_split]
  unfold Phi
  simp only [owns_whole_eq]
  iintro ⟨⟨⟨%f0, H0⟩, ⟨%f1, H1⟩⟩, HR⟩
  isplitl [H0]
  · iexists f0; isplitr
    · ipureintro; exact fun h => absurd rfl h
    · iexists f0; isplitr
      · ipureintro; rfl
      · iexact H0
  isplitl [H1]
  · iexists f1; iexists f1; isplitr
    · ipureintro; rfl
    · iexact H1
  iexact HR
theorem Phi_out (c : Dev nD) (n : ℕ) : (Phi c n : sProp 𝕄) ⊢ Pipeline.scopedRest (Ix := HIx 1) (Name := ℕ) (U := UU) (Lvl := ℕ) (Val := Elt F) spec1 c := by
  rw [scopedRest1_split]
  unfold Phi
  simp only [owns_whole_eq]
  iintro ⟨⟨%X, -, %f0, -, H0⟩, ⟨%Y, %f1, -, H1⟩, HR⟩
  isplitl [H0 H1]
  · isplitl [H0]
    · iexists f0; iexact H0
    · iexists f1; iexact H1
  iexact HR

/-- The graph network's call in @main. -/
theorem call [∀ e, Nonempty (Elt F e)] (W : Dev nD → Valuation τ sig (Elt F)) (c : Dev nD) (Q : PUnit → sProp (MT nD τ sig (HIx 1) (Elt F) ℕ UU ℕ)) :
    iprop(levAts (K (F := F)).L (K (F := F)).lev ∗ boundary (c.tc : Thread nD τ) ∗ StableHlo.held (c.tc : Thread nD τ) (Pipeline.ucRefs τ sig) (W c) ∗ owed 0 c ∗ ghost 1 c
        ∗ (iprop(boundary (c.tc : Thread nD τ) ∗ StableHlo.held (c.tc : Thread nD τ) (Pipeline.ucRefs τ sig) (Pipeline.afterRegion (dat (W c) c) (W c)) ∗ owed 0 c) -∗ Q ⟨⟩))
      ⊢ wp frame (wpE ((K (F := F)).defs (D (F := F))) 𝒱 (c.tc : Thread nD τ) none) Set.univ
          (Prog.lift (.customCall (SparseCore.inner (Pipeline.entry 1)) ())) Q :=
  wp_call (p := 1) (pdats W) 0 (fun c => (obligation (W c) c).loose) (fun _ _ => rfl) (fun _ _ => rfl)
    (fun c w => (dat (W c) c).share_full (fun _ => rfl) w) (fun c => Phi_in c) (fun c => Phi_out c _) W (fun _ _ => rfl) c Q

end Cert.Proof.Gnn

end
-- ==== Proof.Loss.lean ====
/-
  The losses' call: its body as a straight program, and its run.
-/
module

public import proofs.«01_k».proof.Proof.Tc

@[expose] public section

noncomputable section

namespace Cert.Proof.Loss

open Cert.KernelIdeal Cert.KernelIdeal.Gen Cert.Proof.Tc
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The matrix's first 128 rows. -/
def rows0 (x : Vec F S272x128 .f32) : Vec F S128x128 .f32 := fun y => x ((Rect.unit (s := S272x128) ![0, 0] S128x128.size inb_S272x128_S128x128_0_0).emb y)
/-- The matrix's next 128 rows. -/
def rows1 (x : Vec F S272x128 .f32) : Vec F S128x128 .f32 := fun y => x ((Rect.unit (s := S272x128) ![128, 0] S128x128.size inb_S272x128_S128x128_128_0).emb y)
/-- The matrix's last 16 rows. -/
def rows2 (x : Vec F S272x128 .f32) : Vec F S16x128 .f32 := fun y => x ((Rect.unit (s := S272x128) ![256, 0] S16x128.size inb_S272x128_S16x128_256_0).emb y)

/-- What a grid step stores before the last, of its input blocks and the sums so far. -/
def add (x1 : Vec F S256x128 .f32) (x2 : Vec F S256x128 .f32) (x3 : Vec F S256x128 .f32) (x4 : Vec F S256x128 .f32) (x5 : Vec F S256x32x128 .f32) (x6 : Vec F S256x16 .f32) (x7 : Vec F S256x1 .i32) (x8 : Vec F S256x1 .i32) (x9 : Vec F S272x128 .f32) (x10 : Vec F S1x128 .f32) (x11 : Vec F S1x128 .f32) (x12 : Vec F S1x1 .f32) (X : Vec F S1x128 .f32) : Vec F S1x128 .f32 :=
  let v33 := k3_pay8 x1 x11 x12 x7
  let v46 := k3_pay11 v33 (k3_pay9 x7) (k3_pay10 x1 x11 x12)
  let v65 := k3_pay12 (k3_pay4 x1) (k3_pay5 x2)
  let v109 := k3_pay14 (k3_pay4 x1) (k3_pay13 (k3_pay4 x1) x3) (Scalar.ofBits .f32 0x00000000#32) x4
  let v116 := k3_pay15 (k3_pay4 x1) (k3_pay5 x2) (rows0 x9) (rows1 x9)
  let v157 := k3_pay17 v116 x6 (k3_pay16 (rows2 x9)) x5 x10 x8
  k3_pay1 v65 v109 v157 (iota .tc S1x128 32 [1] iota_S1x128_d1_w32) k3_pay18 (k3_pay19 v46) (k3_pay20 (F := F)) X

/-- What the last grid step stores, of its input blocks and the sums so far. -/
def addScaled (x1 : Vec F S256x128 .f32) (x2 : Vec F S256x128 .f32) (x3 : Vec F S256x128 .f32) (x4 : Vec F S256x128 .f32) (x5 : Vec F S256x32x128 .f32) (x6 : Vec F S256x16 .f32) (x7 : Vec F S256x1 .i32) (x8 : Vec F S256x1 .i32) (x9 : Vec F S272x128 .f32) (x10 : Vec F S1x128 .f32) (x11 : Vec F S1x128 .f32) (x12 : Vec F S1x1 .f32) (X : Vec F S1x128 .f32) : Vec F S1x128 .f32 :=
  let v33 := k3_pay8 x1 x11 x12 x7
  let v46 := k3_pay11 v33 (k3_pay9 x7) (k3_pay10 x1 x11 x12)
  let v65 := k3_pay12 (k3_pay4 x1) (k3_pay5 x2)
  let v109 := k3_pay14 (k3_pay4 x1) (k3_pay13 (k3_pay4 x1) x3) (Scalar.ofBits .f32 0x00000000#32) x4
  let v116 := k3_pay15 (k3_pay4 x1) (k3_pay5 x2) (rows0 x9) (rows1 x9)
  let v157 := k3_pay17 v116 x6 (k3_pay16 (rows2 x9)) x5 x10 x8
  k3_pay2 v65 v109 v157 (iota .tc S1x128 32 [1] iota_S1x128_d1_w32) k3_pay18 (k3_pay19 v46) (k3_pay20 (F := F)) X

section Prog
variable (arg1 : Memref sig .tc .vmem S256x128 .f32) (arg2 : Memref sig .tc .vmem S256x128 .f32) (arg3 : Memref sig .tc .vmem S256x128 .f32) (arg4 : Memref sig .tc .vmem S256x128 .f32) (arg5 : Memref sig .tc .vmem S256x32x128 .f32) (arg6 : Memref sig .tc .vmem S256x16 .f32) (arg7 : Memref sig .tc .vmem S256x1 .i32) (arg8 : Memref sig .tc .vmem S256x1 .i32) (arg9 : Memref sig .tc .vmem S272x128 .f32) (arg10 : Memref sig .tc .vmem S1x128 .f32) (arg11 : Memref sig .tc .vmem S1x128 .f32) (arg12 : Memref sig .tc .vmem S1x1 .f32) (arg13 : Memref sig .tc .vmem S1x128 .f32)

/-- A store of the sums, where asked for. -/
def put (b : Bool) (w : Vec F S1x128 .f32) (k : Prog (TpuEff nD τ sig (Elt F) Λ₀ .tc) PUnit) : Prog (TpuEff nD τ sig (Elt F) Λ₀ .tc) PUnit :=
  match b with
  | true =>
  .op (.load arg13 (Rect.unit (s := S1x128) ![0, 0] S1x128.size inb_S1x128_S1x128_0_0).toLoadRect (View.loadsAt_vmem h_S1x128)) fun _ =>
  .op (.store arg13 (Rect.unit (s := S1x128) ![0, 0] S1x128.size inb_S1x128_S1x128_0_0) w Finset.univ (View.stores_vmem_bits_univ h_S1x128 rfl) (.inl rfl)) fun _ =>
  k
  | false => k

/-- The loads of a step, the sums last, then the stores. -/
def main (b2 b3 : Bool) : Prog (TpuEff nD τ sig (Elt F) Λ₀ .tc) PUnit :=
  .op (.load arg1 (Rect.unit (s := S256x128) ![0, 0] S256x128.size inb_S256x128_S256x128_0_0).toLoadRect (View.loadsAt_vmem h_S256x128)) fun (x1 : Vec F S256x128 .f32) =>
  .op (.load arg2 (Rect.unit (s := S256x128) ![0, 0] S256x128.size inb_S256x128_S256x128_0_0).toLoadRect (View.loadsAt_vmem h_S256x128)) fun (x2 : Vec F S256x128 .f32) =>
  .op (.load arg11 (Rect.unit (s := S1x128) ![0, 0] S1x128.size inb_S1x128_S1x128_0_0).toLoadRect (View.loadsAt_vmem h_S1x128)) fun (x11 : Vec F S1x128 .f32) =>
  .op (.load arg12 (Rect.unit (s := S1x1) ![0, 0] S1x1.size inb_S1x1_S1x1_0_0).toLoadRect (View.loadsAt_vmem h_S1x1)) fun (x12 : Vec F S1x1 .f32) =>
  .op (.load arg7 (Rect.unit (s := S256x1) ![0, 0] S256x1.size inb_S256x1_S256x1_0_0).toLoadRect (View.loadsAt_vmem h_S256x1)) fun (x7 : Vec F S256x1 .i32) =>
  .op (.load arg3 (Rect.unit (s := S256x128) ![0, 0] S256x128.size inb_S256x128_S256x128_0_0).toLoadRect (View.loadsAt_vmem h_S256x128)) fun (x3 : Vec F S256x128 .f32) =>
  .op (.load arg4 (Rect.unit (s := S256x128) ![0, 0] S256x128.size inb_S256x128_S256x128_0_0).toLoadRect (View.loadsAt_vmem h_S256x128)) fun (x4 : Vec F S256x128 .f32) =>
  .op (.load arg9 (Rect.unit (s := S272x128) ![0, 0] S128x128.size inb_S272x128_S128x128_0_0).toLoadRect (View.loadsAt_vmem h_S128x128)) fun (y0 : Vec F S128x128 .f32) =>
  .op (.load arg9 (Rect.unit (s := S272x128) ![128, 0] S128x128.size inb_S272x128_S128x128_128_0).toLoadRect (View.loadsAt_vmem h_S128x128)) fun (y1 : Vec F S128x128 .f32) =>
  .op (.load arg6 (Rect.unit (s := S256x16) ![0, 0] S256x16.size inb_S256x16_S256x16_0_0).toLoadRect (View.loadsAt_vmem h_S256x16)) fun (x6 : Vec F S256x16 .f32) =>
  .op (.load arg9 (Rect.unit (s := S272x128) ![256, 0] S16x128.size inb_S272x128_S16x128_256_0).toLoadRect (View.loadsAt_vmem h_S16x128)) fun (y2 : Vec F S16x128 .f32) =>
  .op (.load arg5 (Rect.unit (s := S256x32x128) ![0, 0, 0] S256x32x128.size inb_S256x32x128_S256x32x128_0_0_0).toLoadRect (View.loadsAt_vmem h_S256x32x128)) fun (x5 : Vec F S256x32x128 .f32) =>
  .op (.load arg10 (Rect.unit (s := S1x128) ![0, 0] S1x128.size inb_S1x128_S1x128_0_0).toLoadRect (View.loadsAt_vmem h_S1x128)) fun (x10 : Vec F S1x128 .f32) =>
  .op (.load arg8 (Rect.unit (s := S256x1) ![0, 0] S256x1.size inb_S256x1_S256x1_0_0).toLoadRect (View.loadsAt_vmem h_S256x1)) fun (x8 : Vec F S256x1 .i32) =>
  .op (.load arg13 (Rect.unit (s := S1x128) ![0, 0] S1x128.size inb_S1x128_S1x128_0_0).toLoadRect (View.loadsAt_vmem h_S1x128)) fun (X : Vec F S1x128 .f32) =>
  let v33 := k3_pay8 x1 x11 x12 x7
  let v46 := k3_pay11 v33 (k3_pay9 x7) (k3_pay10 x1 x11 x12)
  let v65 := k3_pay12 (k3_pay4 x1) (k3_pay5 x2)
  let v109 := k3_pay14 (k3_pay4 x1) (k3_pay13 (k3_pay4 x1) x3) (Scalar.ofBits .f32 0x00000000#32) x4
  let v116 := k3_pay15 (k3_pay4 x1) (k3_pay5 x2) y0 y1
  let v157 := k3_pay17 v116 x6 (k3_pay16 y2) x5 x10 x8
  put arg13 b2 (k3_pay1 v65 v109 v157 (iota .tc S1x128 32 [1] iota_S1x128_d1_w32) k3_pay18 (k3_pay19 v46) (k3_pay20 (F := F)) X) (put arg13 b3 (k3_pay2 v65 v109 v157 (iota .tc S1x128 32 [1] iota_S1x128_d1_w32) k3_pay18 (k3_pay19 v46) (k3_pay20 (F := F)) X) (.ret ⟨⟩))

/-- A grid step. -/
def prog (b1 b2 b3 : Bool) : Prog (TpuEff nD τ sig (Elt F) Λ₀ .tc) PUnit :=
  put arg13 b1 (k3_pay3 (F := F)) (main arg1 arg2 arg3 arg4 arg5 arg6 arg7 arg8 arg9 arg10 arg11 arg12 arg13 b2 b3)

end Prog

set_option maxRecDepth 65536 in
/-- The body is the straight program, at the step's tests. -/
theorem body_eq (i : grid3.Coords) (arg1) (h1) (arg2) (h2) (arg3) (h3) (arg4) (h4) (arg5) (h5) (arg6) (h6) (arg7) (h7) (arg8) (h8) (arg9) (h9) (arg10) (h10) (arg11) (h11) (arg12) (h12) (arg13) (h13) :
    cc3__loss_body (F := F) i arg1 h1 arg2 h2 arg3 h3 arg4 h4 arg5 h5 arg6 h6 arg7 h7 arg8 h8 arg9 h9 arg10 h10 arg11 h11 arg12 h12 arg13 h13 = prog arg1 arg2 arg3 arg4 arg5 arg6 arg7 arg8 arg9 arg10 arg11 arg12 arg13 (decide (k3_cond1 i = 1#1)) (decide (k3_cond2 i = 1#1)) (decide (k3_cond3 i = 1#1)) := by
  rw [cc3__loss_body_eq_skeleton]; unfold cc3__loss_body_skel
  rw [k3_part1_eq_skeleton, k3_part2_eq_skeleton, k3_part3_eq_skeleton, k3_part4_eq_skeleton]
  unfold k3_part1_skel k3_part2_skel k3_part3_skel k3_part4_skel
  by_cases h1 : k3_cond1 i = 1#1 <;> by_cases h2 : k3_cond2 i = 1#1 <;> by_cases h3 : k3_cond3 i = 1#1 <;>
    simp only [h1, h2, h3, dite_true, dite_false, decide_true, decide_false] <;> sl_kernel_rfl

section Wp
variable {d : Dev nD} (E : Set ℕ) {Q : PUnit → sProp (MT nD τ sig (HIx 1) (Elt F) ℕ UU ℕ)}
variable (arg1 : Memref sig .tc .vmem S256x128 .f32) (arg2 : Memref sig .tc .vmem S256x128 .f32) (arg3 : Memref sig .tc .vmem S256x128 .f32) (arg4 : Memref sig .tc .vmem S256x128 .f32) (arg5 : Memref sig .tc .vmem S256x32x128 .f32) (arg6 : Memref sig .tc .vmem S256x16 .f32) (arg7 : Memref sig .tc .vmem S256x1 .i32) (arg8 : Memref sig .tc .vmem S256x1 .i32) (arg9 : Memref sig .tc .vmem S272x128 .f32) (arg10 : Memref sig .tc .vmem S1x128 .f32) (arg11 : Memref sig .tc .vmem S1x128 .f32) (arg12 : Memref sig .tc .vmem S1x1 .f32) (arg13 : Memref sig .tc .vmem S1x128 .f32)
variable (x1 : Vec F S256x128 .f32) (x2 : Vec F S256x128 .f32) (x3 : Vec F S256x128 .f32) (x4 : Vec F S256x128 .f32) (x5 : Vec F S256x32x128 .f32) (x6 : Vec F S256x16 .f32) (x7 : Vec F S256x1 .i32) (x8 : Vec F S256x1 .i32) (x9 : Vec F S272x128 .f32) (x10 : Vec F S1x128 .f32) (x11 : Vec F S1x128 .f32) (x12 : Vec F S1x1 .f32) (X : Vec F S1x128 .f32)

theorem put_wp (b : Bool) (w : Vec F S1x128 .f32) (k : Prog (TpuEff nD τ sig (Elt F) Λ₀ .tc) PUnit) :
    iprop(owns (d : Thread nD τ) arg13 fullShare X ∗ (owns (d : Thread nD τ) arg13 fullShare (if b then w else X) -∗ wp frame (wpE (defs₀ (F := F)) 𝒱₀ (d : Thread nD τ) none) E k Q))
      ⊢ (wp frame (wpE (defs₀ (F := F)) 𝒱₀ (d : Thread nD τ) none) E (put arg13 b w k) Q : sProp (MT nD τ sig (HIx 1) (Elt F) ℕ UU ℕ)) := by
  iintro ⟨H13, Hk⟩
  cases b with
  | false =>
    unfold put
    iapply Hk
    iexact H13
  | true =>
    unfold put
    iapply (load_whole (F := F) (d := d) E arg13 zero2 _ X _)
    isplitl [H13]; · iexact H13
    iintro H13
    iapply (store_whole (F := F) (d := d) E arg13 zero2 _ w X _)
    isplitl [H13]; · iexact H13
    iintro H13
    iapply Hk
    iexact H13

/-- What a step leaves of the sums. -/
def next (b2 b3 : Bool) : Vec F S1x128 .f32 :=
  if b3 then addScaled x1 x2 x3 x4 x5 x6 x7 x8 x9 x10 x11 x12 X else if b2 then add x1 x2 x3 x4 x5 x6 x7 x8 x9 x10 x11 x12 X else X

theorem main_wp (b2 b3 : Bool) :
    iprop((owns (d : Thread nD τ) arg1 fullShare x1 ∗ owns (d : Thread nD τ) arg2 fullShare x2 ∗ owns (d : Thread nD τ) arg3 fullShare x3 ∗ owns (d : Thread nD τ) arg4 fullShare x4 ∗ owns (d : Thread nD τ) arg5 fullShare x5 ∗ owns (d : Thread nD τ) arg6 fullShare x6 ∗ owns (d : Thread nD τ) arg7 fullShare x7 ∗ owns (d : Thread nD τ) arg8 fullShare x8 ∗ owns (d : Thread nD τ) arg9 fullShare x9 ∗ owns (d : Thread nD τ) arg10 fullShare x10 ∗ owns (d : Thread nD τ) arg11 fullShare x11 ∗ owns (d : Thread nD τ) arg12 fullShare x12 ∗ owns (d : Thread nD τ) arg13 fullShare X)
        ∗ ((owns (d : Thread nD τ) arg1 fullShare x1 ∗ owns (d : Thread nD τ) arg2 fullShare x2 ∗ owns (d : Thread nD τ) arg3 fullShare x3 ∗ owns (d : Thread nD τ) arg4 fullShare x4 ∗ owns (d : Thread nD τ) arg5 fullShare x5 ∗ owns (d : Thread nD τ) arg6 fullShare x6 ∗ owns (d : Thread nD τ) arg7 fullShare x7 ∗ owns (d : Thread nD τ) arg8 fullShare x8 ∗ owns (d : Thread nD τ) arg9 fullShare x9 ∗ owns (d : Thread nD τ) arg10 fullShare x10 ∗ owns (d : Thread nD τ) arg11 fullShare x11 ∗ owns (d : Thread nD τ) arg12 fullShare x12 ∗ owns (d : Thread nD τ) arg13 fullShare (next x1 x2 x3 x4 x5 x6 x7 x8 x9 x10 x11 x12 X b2 b3)) -∗ Q ⟨⟩))
      ⊢ (wp frame (wpE (defs₀ (F := F)) 𝒱₀ (d : Thread nD τ) none) E (main arg1 arg2 arg3 arg4 arg5 arg6 arg7 arg8 arg9 arg10 arg11 arg12 arg13 b2 b3) Q : sProp (MT nD τ sig (HIx 1) (Elt F) ℕ UU ℕ)) := by
  unfold main
  iintro ⟨⟨H1, H2, H3, H4, H5, H6, H7, H8, H9, H10, H11, H12, H13⟩, Hk⟩
  iapply (load_whole (F := F) (d := d) E arg1 zero2 _ x1 _)
  isplitl [H1]; · iexact H1
  iintro H1
  iapply (load_whole (F := F) (d := d) E arg2 zero2 _ x2 _)
  isplitl [H2]; · iexact H2
  iintro H2
  iapply (load_whole (F := F) (d := d) E arg11 zero2 _ x11 _)
  isplitl [H11]; · iexact H11
  iintro H11
  iapply (load_whole (F := F) (d := d) E arg12 zero2 _ x12 _)
  isplitl [H12]; · iexact H12
  iintro H12
  iapply (load_whole (F := F) (d := d) E arg7 zero2 _ x7 _)
  isplitl [H7]; · iexact H7
  iintro H7
  iapply (load_whole (F := F) (d := d) E arg3 zero2 _ x3 _)
  isplitl [H3]; · iexact H3
  iintro H3
  iapply (load_whole (F := F) (d := d) E arg4 zero2 _ x4 _)
  isplitl [H4]; · iexact H4
  iintro H4
  iapply (load_owns (F := F) (d := d) E arg9 _ x9 _)
  isplitl [H9]; · iexact H9
  iintro H9
  iapply (load_owns (F := F) (d := d) E arg9 _ x9 _)
  isplitl [H9]; · iexact H9
  iintro H9
  iapply (load_whole (F := F) (d := d) E arg6 zero2 _ x6 _)
  isplitl [H6]; · iexact H6
  iintro H6
  iapply (load_owns (F := F) (d := d) E arg9 _ x9 _)
  isplitl [H9]; · iexact H9
  iintro H9
  iapply (load_whole (F := F) (d := d) E arg5 zero3 _ x5 _)
  isplitl [H5]; · iexact H5
  iintro H5
  iapply (load_whole (F := F) (d := d) E arg10 zero2 _ x10 _)
  isplitl [H10]; · iexact H10
  iintro H10
  iapply (load_whole (F := F) (d := d) E arg8 zero2 _ x8 _)
  isplitl [H8]; · iexact H8
  iintro H8
  iapply (load_whole (F := F) (d := d) E arg13 zero2 _ X _)
  isplitl [H13]; · iexact H13
  iintro H13
  iapply (put_wp (d := d) E arg13 X b2 (add x1 x2 x3 x4 x5 x6 x7 x8 x9 x10 x11 x12 X) _)
  isplitl [H13]; · iexact H13
  iintro H13
  iapply (put_wp (d := d) E arg13 _ b3 (addScaled x1 x2 x3 x4 x5 x6 x7 x8 x9 x10 x11 x12 X) _)
  isplitl [H13]; · iexact H13
  iintro H13
  rw [wp_ret]
  iapply fupd_intro
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  unfold next
  iexact H13

/-- A grid step, of the input blocks and the sums so far. -/
theorem body_wp (i : grid3.Coords) (h1) (h2) (h3) (h4) (h5) (h6) (h7) (h8) (h9) (h10) (h11) (h12) (h13) :
    iprop((owns (d : Thread nD τ) arg1 fullShare x1 ∗ owns (d : Thread nD τ) arg2 fullShare x2 ∗ owns (d : Thread nD τ) arg3 fullShare x3 ∗ owns (d : Thread nD τ) arg4 fullShare x4 ∗ owns (d : Thread nD τ) arg5 fullShare x5 ∗ owns (d : Thread nD τ) arg6 fullShare x6 ∗ owns (d : Thread nD τ) arg7 fullShare x7 ∗ owns (d : Thread nD τ) arg8 fullShare x8 ∗ owns (d : Thread nD τ) arg9 fullShare x9 ∗ owns (d : Thread nD τ) arg10 fullShare x10 ∗ owns (d : Thread nD τ) arg11 fullShare x11 ∗ owns (d : Thread nD τ) arg12 fullShare x12 ∗ owns (d : Thread nD τ) arg13 fullShare X)
        ∗ ((owns (d : Thread nD τ) arg1 fullShare x1 ∗ owns (d : Thread nD τ) arg2 fullShare x2 ∗ owns (d : Thread nD τ) arg3 fullShare x3 ∗ owns (d : Thread nD τ) arg4 fullShare x4 ∗ owns (d : Thread nD τ) arg5 fullShare x5 ∗ owns (d : Thread nD τ) arg6 fullShare x6 ∗ owns (d : Thread nD τ) arg7 fullShare x7 ∗ owns (d : Thread nD τ) arg8 fullShare x8 ∗ owns (d : Thread nD τ) arg9 fullShare x9 ∗ owns (d : Thread nD τ) arg10 fullShare x10 ∗ owns (d : Thread nD τ) arg11 fullShare x11 ∗ owns (d : Thread nD τ) arg12 fullShare x12 ∗ owns (d : Thread nD τ) arg13 fullShare (next x1 x2 x3 x4 x5 x6 x7 x8 x9 x10 x11 x12 (if decide (k3_cond1 i = 1#1) then k3_pay3 else X) (decide (k3_cond2 i = 1#1)) (decide (k3_cond3 i = 1#1)))) -∗ Q ⟨⟩))
      ⊢ (wp frame (wpE (defs₀ (F := F)) 𝒱₀ (d : Thread nD τ) none) E (cc3__loss_body (F := F) i arg1 h1 arg2 h2 arg3 h3 arg4 h4 arg5 h5 arg6 h6 arg7 h7 arg8 h8 arg9 h9 arg10 h10 arg11 h11 arg12 h12 arg13 h13) Q : sProp (MT nD τ sig (HIx 1) (Elt F) ℕ UU ℕ)) := by
  rw [body_eq]
  unfold prog
  iintro ⟨⟨H1, H2, H3, H4, H5, H6, H7, H8, H9, H10, H11, H12, H13⟩, Hk⟩
  iapply (put_wp (d := d) E arg13 X _ (k3_pay3 (F := F)) _)
  isplitl [H13]; · iexact H13
  iintro H13
  iapply (main_wp (d := d) E arg1 arg2 arg3 arg4 arg5 arg6 arg7 arg8 arg9 arg10 arg11 arg12 arg13 x1 x2 x3 x4 x5 x6 x7 x8 x9 x10 x11 x12 _ _ _)
  isplitl [H1 H2 H3 H4 H5 H6 H7 H8 H9 H10 H11 H12 H13]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iexact Hk

end Wp

end Cert.Proof.Loss

end
-- ==== Proof.LossCall.lean ====
/-
  The losses' call as a region of @main: its proof data and its grid steps.
-/
module

public import proofs.«01_k».proof.Proof.Loss
public import proofs.«01_k».proof.Proof.Region
public import proofs.«01_k».proof.Proof.Gen.KernelIdeal.Launch
public import proofs.«01_k».proof.Proof.Gen.KernelIdeal.Points
public import Idealize.ShloMosaic.Lib.Pipeline.FrameBody
public import Idealize.ShloMosaic.Lib.WordCmp

@[expose] public section

noncomputable section

namespace Cert.Proof.Loss

open Cert.KernelIdeal Cert.KernelIdeal.Gen Cert.Proof.Tc Cert.Proof.Region
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)

variable {F : FTy → Type}

local notation "𝕄" => MT nD τ sig (HIx 1) (Elt F) ℕ UU ℕ

variable [FloatOps F]

/-- A window's block at a point, from the arrays at `W`. -/
def blk (W : Valuation τ sig (Elt F)) (c : Dev nD) (w : Fin cfg3.W) (t : Fin cfg3.N) : ((cfg3.win w).xblock (cfg3.grid.coords t)).Idx → Elt F (cfg3.win w).elt :=
  ((cfg3.win w).blk t).view.read (Elt F) (W (Proc.devRef .tc (Pipeline.arrRef spec3 w)))

/-- What point `t` leaves of the sums `X`. -/
def step (W : Valuation τ sig (Elt F)) (c : Dev nD) (t : Fin cfg3.N) (X : Vec F S1x128 .f32) : Vec F S1x128 .f32 :=
  next (blk W c 0 t) (blk W c 1 t) (blk W c 2 t) (blk W c 3 t) (blk W c 4 t) (blk W c 5 t) (blk W c 6 t) (blk W c 7 t) (blk W c 8 t) (blk W c 9 t) (blk W c 10 t) (blk W c 11 t) X (decide (k3_cond2 (grid3.coords t) = 1#1)) (decide (k3_cond3 (grid3.coords t) = 1#1))

/-- The sums after a point. -/
def accs (W : Valuation τ sig (Elt F)) (c : Dev nD) : (n : ℕ) → n < cfg3.N → Vec F S1x128 .f32
  | 0, h => step W c ⟨0, h⟩ (k3_pay3 (F := F))
  | n + 1, h => step W c ⟨n + 1, h⟩ (accs W c n (Nat.lt_of_succ_lt h))

/-- The call's proof data, from the arrays at `W`. -/
def dat (W : Valuation τ sig (Elt F)) (c : Dev nD) : Dat τ (Elt F) (HIx 1) ℕ UU ℕ cfg3 c where
  A w := W (Proc.devRef .tc (Pipeline.arrRef spec3 w))
  after w t := match w with
    | ⟨0, _⟩ => blk W c 0 t
    | ⟨1, _⟩ => blk W c 1 t
    | ⟨2, _⟩ => blk W c 2 t
    | ⟨3, _⟩ => blk W c 3 t
    | ⟨4, _⟩ => blk W c 4 t
    | ⟨5, _⟩ => blk W c 5 t
    | ⟨6, _⟩ => blk W c 6 t
    | ⟨7, _⟩ => blk W c 7 t
    | ⟨8, _⟩ => blk W c 8 t
    | ⟨9, _⟩ => blk W c 9 t
    | ⟨10, _⟩ => blk W c 10 t
    | ⟨11, _⟩ => blk W c 11 t
    | ⟨12, _⟩ => accs W c t.val t.isLt
  Φ _ := Pipeline.scopedRest (Ix := HIx 1) (Name := ℕ) (U := UU) (Lvl := ℕ) (Val := Elt F) spec3 c
  q _ := fullShare
  owed _ := (K (F := F)).Otc c 1
  recorded _ := recBound (F := F) 1 c

theorem before0 (W : Valuation τ sig (Elt F)) (c : Dev nD) (t : Fin cfg3.N) (d) : (dat W c).before 0 t d = blk W c 0 t :=
  ((dat W c).before_in_eq_fetched 0 rfl (fun _ => rfl) (fun _ _ _ => rfl) (fun t => rfl) t d).trans rfl
theorem before1 (W : Valuation τ sig (Elt F)) (c : Dev nD) (t : Fin cfg3.N) (d) : (dat W c).before 1 t d = blk W c 1 t :=
  ((dat W c).before_in_eq_fetched 1 rfl (fun _ => rfl) (fun _ _ _ => rfl) (fun t => rfl) t d).trans rfl
theorem before2 (W : Valuation τ sig (Elt F)) (c : Dev nD) (t : Fin cfg3.N) (d) : (dat W c).before 2 t d = blk W c 2 t :=
  ((dat W c).before_in_eq_fetched 2 rfl (fun _ => rfl) (fun _ _ _ => rfl) (fun t => rfl) t d).trans rfl
theorem before3 (W : Valuation τ sig (Elt F)) (c : Dev nD) (t : Fin cfg3.N) (d) : (dat W c).before 3 t d = blk W c 3 t :=
  ((dat W c).before_in_eq_fetched 3 rfl (fun _ => rfl) (fun _ _ _ => rfl) (fun t => rfl) t d).trans rfl
theorem before4 (W : Valuation τ sig (Elt F)) (c : Dev nD) (t : Fin cfg3.N) (d) : (dat W c).before 4 t d = blk W c 4 t :=
  ((dat W c).before_in_eq_fetched 4 rfl (fun _ => rfl) (fun _ _ _ => rfl) (fun t => rfl) t d).trans rfl
theorem before5 (W : Valuation τ sig (Elt F)) (c : Dev nD) (t : Fin cfg3.N) (d) : (dat W c).before 5 t d = blk W c 5 t :=
  ((dat W c).before_in_eq_fetched 5 rfl (fun _ => rfl) (fun _ _ _ => rfl) (fun t => rfl) t d).trans rfl
theorem before6 (W : Valuation τ sig (Elt F)) (c : Dev nD) (t : Fin cfg3.N) (d) : (dat W c).before 6 t d = blk W c 6 t :=
  ((dat W c).before_in_eq_fetched 6 rfl (fun _ => rfl) (fun _ _ _ => rfl) (fun t => rfl) t d).trans rfl
theorem before7 (W : Valuation τ sig (Elt F)) (c : Dev nD) (t : Fin cfg3.N) (d) : (dat W c).before 7 t d = blk W c 7 t :=
  ((dat W c).before_in_eq_fetched 7 rfl (fun _ => rfl) (fun _ _ _ => rfl) (fun t => rfl) t d).trans rfl
theorem before8 (W : Valuation τ sig (Elt F)) (c : Dev nD) (t : Fin cfg3.N) (d) : (dat W c).before 8 t d = blk W c 8 t :=
  ((dat W c).before_in_eq_fetched 8 rfl (fun _ => rfl) (fun _ _ _ => rfl) (fun t => rfl) t d).trans rfl
theorem before9 (W : Valuation τ sig (Elt F)) (c : Dev nD) (t : Fin cfg3.N) (d) : (dat W c).before 9 t d = blk W c 9 t :=
  ((dat W c).before_in_eq_fetched 9 rfl (fun _ => rfl) (fun _ _ _ => rfl) (fun t => rfl) t d).trans rfl
theorem before10 (W : Valuation τ sig (Elt F)) (c : Dev nD) (t : Fin cfg3.N) (d) : (dat W c).before 10 t d = blk W c 10 t :=
  ((dat W c).before_in_eq_fetched 10 rfl (fun _ => rfl) (fun _ _ _ => rfl) (fun t => rfl) t d).trans rfl
theorem before11 (W : Valuation τ sig (Elt F)) (c : Dev nD) (t : Fin cfg3.N) (d) : (dat W c).before 11 t d = blk W c 11 t :=
  ((dat W c).before_in_eq_fetched 11 rfl (fun _ => rfl) (fun _ _ _ => rfl) (fun t => rfl) t d).trans rfl

theorem cond1_iff (t : Fin cfg3.N) : k3_cond1 (grid3.coords t) = 1#1 ↔ t.val = 0 := by
  have ht : t.val < 16 := Nat.lt_of_lt_of_eq t.isLt N_3
  have e0 : (grid3.coords t 0).val = t.val / 1 % 16 := Pipeline.Grid.coords_val t 0 (by decide) rfl
  have e1 : t.val / 1 % 16 = t.val := by omega
  unfold k3_cond1
  simp only [e0, e1]
  word_cmp

/-- Every step stores the sums. -/
theorem live12 (i : grid3.Coords) : cfg3.idle 12 i = false := by
  show (!(k3_cond1 i == 1#1) && !(k3_cond2 i == 1#1) && !(k3_cond3 i == 1#1)) = false
  unfold k3_cond1 k3_cond2 k3_cond3
  have h : (i 0).val < 16 := (i 0).isLt
  generalize (i 0).val = n at h ⊢
  interval_cases n <;> rfl

/-- The sums a point finds, cleared at the first, and those it leaves. -/
theorem step_before (W : Valuation τ sig (Elt F)) (c : Dev nD) (t : Fin cfg3.N) (d) :
    step W c t (if decide (k3_cond1 (grid3.coords t) = 1#1) then k3_pay3 else (dat W c).before 12 t d) = accs W c t.val t.isLt := by
  obtain ⟨n, hn⟩ := t
  cases n with
  | zero => rw [decide_eq_true ((cond1_iff _).mpr rfl), if_pos rfl]; rfl
  | succ n =>
    have hN : n + 1 < 16 := Nat.lt_of_lt_of_eq hn N_3
    rw [decide_eq_false (fun h => absurd ((cond1_iff _).mp h) (by simp)), if_neg Bool.false_ne_true]
    rw [(dat W c).before_out_kept 12 rfl ⟨n + 1, hn⟩ (by simp) (by
      rw [Bool.eq_false_iff]
      intro h
      have := (flush3_12 _).mp h
      simp only at this
      omega) live12 (fun _ _ => rfl) d]
    rfl

/-- A grid step of the call. -/
theorem obligation (W : Valuation τ sig (Elt F)) (c : Dev nD) : Pipeline.BodyObligation (dat W c) (defs₀ (F := F)) 𝒱₀ none Set.univ := fun t => by
  rw [bigSep_W3, bigSep_W3]
  rw [show (dat W c).Φ t.succ = (dat W c).Φ t.castSucc from rfl,
    show (dat W c).owesAt none t.succ = (dat W c).owesAt none t.castSucc from rfl]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  rw [before0, before1, before2, before3, before4, before5, before6, before7, before8, before9, before10, before11]
  iapply (body_wp (F := F) (d := c) Set.univ _ _ _ _ _ _ _ _ _ _ _ _ _ (blk W c 0 t) (blk W c 1 t) (blk W c 2 t) (blk W c 3 t) (blk W c 4 t) (blk W c 5 t) (blk W c 6 t) (blk W c 7 t) (blk W c 8 t) (blk W c 9 t) (blk W c 10 t) (blk W c 11 t) _ (grid3.coords t)
    _ _ _ _ _ _ _ _ _ _ _ _ _)
  isplitl [H0 H1 H2 H3 H4 H5 H6 H7 H8 H9 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  rw [show next (blk W c 0 t) (blk W c 1 t) (blk W c 2 t) (blk W c 3 t) (blk W c 4 t) (blk W c 5 t) (blk W c 6 t) (blk W c 7 t) (blk W c 8 t) (blk W c 9 t) (blk W c 10 t) (blk W c 11 t) (if decide (k3_cond1 (grid3.coords t) = 1#1) then k3_pay3 else (dat W c).before 12 t d12) (decide (k3_cond2 (grid3.coords t) = 1#1)) (decide (k3_cond3 (grid3.coords t) = 1#1)) = accs W c t.val t.isLt from step_before W c t d12]
  iintro ⟨H0, H1, H2, H3, H4, H5, H6, H7, H8, H9, H10, H11, H12⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  have hl : idle3 12 (grid3.coords t) = false := live12 _
  dsimp only [cfg3]
  rw [hl]
  iexact H12

/-- The call's proof data among the calls'. -/
def pdats [∀ e, Nonempty (Elt F e)] (W : Dev nD → Valuation τ sig (Elt F)) : Dts (F := F)
  | ⟨0, _⟩ => fun c => junk 0 c
  | ⟨1, _⟩ => fun c => junk 1 c
  | ⟨2, _⟩ => fun c => dat (W c) c

theorem Phi_in [∀ e, Nonempty (Elt F e)] (W : Dev nD → Valuation τ sig (Elt F)) (c : Dev nD) :
    (Pipeline.scopedRest (Ix := HIx 1) (Name := ℕ) (U := UU) (Lvl := ℕ) (Val := Elt F) spec3 c : sProp 𝕄) ⊢ (pdats W 2 c).Φ 0 := by
  show _ ⊢ (dat (W c) c).Φ 0
  exact .rfl
theorem Phi_out [∀ e, Nonempty (Elt F e)] (W : Dev nD → Valuation τ sig (Elt F)) (c : Dev nD) :
    (pdats W 2 c).Φ (Fin.last _) ⊢ (Pipeline.scopedRest (Ix := HIx 1) (Name := ℕ) (U := UU) (Lvl := ℕ) (Val := Elt F) spec3 c : sProp 𝕄) := by
  show (dat (W c) c).Φ _ ⊢ _
  exact .rfl

/-- The losses' call in @main. -/
theorem call [∀ e, Nonempty (Elt F e)] (W : Dev nD → Valuation τ sig (Elt F)) (c : Dev nD) (Q : PUnit → sProp (MT nD τ sig (HIx 1) (Elt F) ℕ UU ℕ)) :
    iprop(levAts (K (F := F)).L (K (F := F)).lev ∗ boundary (c.tc : Thread nD τ) ∗ StableHlo.held (c.tc : Thread nD τ) (Pipeline.ucRefs τ sig) (W c) ∗ owed 1 c ∗ ghost 2 c
        ∗ (iprop(boundary (c.tc : Thread nD τ) ∗ StableHlo.held (c.tc : Thread nD τ) (Pipeline.ucRefs τ sig) (Pipeline.afterRegion (dat (W c) c) (W c)) ∗ owed 1 c) -∗ Q ⟨⟩))
      ⊢ wp frame (wpE ((K (F := F)).defs (D (F := F))) 𝒱 (c.tc : Thread nD τ) none) Set.univ
          (Prog.lift (.customCall (SparseCore.inner (Pipeline.entry 2)) ())) Q :=
  wp_call (p := 2) (pdats W) 1 (fun c => (obligation (W c) c).loose) (fun _ _ => rfl) (fun _ _ => rfl)
    (fun c w => (dat (W c) c).share_full (fun _ => rfl) w) (Phi_in W) (Phi_out W) W (fun _ _ => rfl) c Q

end Cert.Proof.Loss

end
-- ==== Proof.Run.lean ====
/-
  The whole program's run: the host operations, the three TensorCore calls and the SparseCore call of @main in order, from any
  launch memory. The contents of device memory are carried along as a valuation, so the run's end names the contents of every
  array (`V9`). Stated once over any float values.
-/
module

public import proofs.«01_k».proof.Proof.Gather
public import proofs.«01_k».proof.Proof.LibCall
public import proofs.«01_k».proof.Proof.GnnCall
public import proofs.«01_k».proof.Proof.LossCall

@[expose] public section

noncomputable section

namespace Cert.Proof.Run

open Cert.KernelIdeal Cert.KernelIdeal.Gen Cert.Proof.Tc Cert.Proof.Region
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## @main in parts -/

/-- The host operations before the first call: the row numbers' lower bound, the library mask as numbers. -/
def seg1 : List (HloOp τ sig (Elt F)) :=
  [(StableHlo.nullary main_c (constantI S_ 32 0#32)),
   (StableHlo.unary main_c main_v0 (broadcastInDim S4096 ![] bcast_S_S4096 : (⟨S_, .i32⟩ : BufTy).Contents (Elt F) → (⟨S4096, .i32⟩ : BufTy).Contents
      (Elt F))),
   (StableHlo.binary main_arg3 main_v0 main_v1 (maxsi : (⟨S4096, .i32⟩ : BufTy).Contents (Elt F) → (⟨S4096, .i32⟩ : BufTy).Contents (Elt F) → (⟨S4096,
      .i32⟩ : BufTy).Contents (Elt F))),
   (StableHlo.unary main_arg8 main_v2 ((extui 32 · natLt_1_32) : (⟨S10000x16x16, .i1⟩ : BufTy).Contents (Elt F) → (⟨S10000x16x16, .i32⟩ :
      BufTy).Contents (Elt F)))]

/-- Between the first and the second call: the weights' slices, the mask as numbers. -/
def seg2 : List (HloOp τ sig (Elt F)) :=
  [(StableHlo.unary main_arg19 main_v4 ((extractStridedSlice S128x128 ![0, 0] · slices_S400x128_S128x128_0_0) : (⟨S400x128, .f32⟩ : BufTy).Contents (Elt
      F) → (⟨S128x128, .f32⟩ : BufTy).Contents (Elt F))),
   (StableHlo.unary main_arg12 main_v5 ((extractStridedSlice S128x128 ![0, 0] · slices_S144x128_S128x128_0_0) : (⟨S144x128, .f32⟩ : BufTy).Contents (Elt
      F) → (⟨S128x128, .f32⟩ : BufTy).Contents (Elt F))),
   (StableHlo.unary main_arg12 main_v6 ((extractStridedSlice S16x128 ![128, 0] · slices_S144x128_S16x128_128_0) : (⟨S144x128, .f32⟩ : BufTy).Contents
      (Elt F) → (⟨S16x128, .f32⟩ : BufTy).Contents (Elt F))),
   (StableHlo.unary main_arg1 main_v7 ((extui 32 · natLt_1_32) : (⟨S4096x32x32, .i1⟩ : BufTy).Contents (Elt F) → (⟨S4096x32x32, .i32⟩ : BufTy).Contents
      (Elt F)))]

/-- Before the gather: the row numbers side by side. -/
def seg3 : List (HloOp τ sig (Elt F)) :=
  [(StableHlo.nary ![main_v1, main_arg5, main_arg6] main_v9 (fun u => (concatenate S12288 0 [⟨S4096, (u 0 : (⟨S4096, .i32⟩ : BufTy).Contents (Elt F))⟩,
      ⟨S4096, (u 1 : (⟨S4096, .i32⟩ : BufTy).Contents (Elt F))⟩, ⟨S4096, (u 2 : (⟨S4096, .i32⟩ : BufTy).Contents (Elt F))⟩]
      concatenates_S4096_S4096_S4096_S12288_d0 : (⟨S12288, .i32⟩ : BufTy).Contents (Elt F))))]

/-- Before the losses: the gathered rows apart, the projection's lower rows, the reshapes. -/
def seg4 : List (HloOp τ sig (Elt F)) :=
  [(StableHlo.unary main_v10 main_v11 ((extractStridedSlice S4096x128 ![0, 0] · slices_S12288x128_S4096x128_0_0) : (⟨S12288x128, .f32⟩ : BufTy).Contents
      (Elt F) → (⟨S4096x128, .f32⟩ : BufTy).Contents (Elt F))),
   (StableHlo.unary main_v10 main_v12 ((extractStridedSlice S4096x128 ![4096, 0] · slices_S12288x128_S4096x128_4096_0) : (⟨S12288x128, .f32⟩ :
      BufTy).Contents (Elt F) → (⟨S4096x128, .f32⟩ : BufTy).Contents (Elt F))),
   (StableHlo.unary main_v10 main_v13 ((extractStridedSlice S4096x128 ![8192, 0] · slices_S12288x128_S4096x128_8192_0) : (⟨S12288x128, .f32⟩ :
      BufTy).Contents (Elt F) → (⟨S4096x128, .f32⟩ : BufTy).Contents (Elt F))),
   (StableHlo.unary main_arg19 main_v14 ((extractStridedSlice S272x128 ![128, 0] · slices_S400x128_S272x128_128_0) : (⟨S400x128, .f32⟩ : BufTy).Contents
      (Elt F) → (⟨S272x128, .f32⟩ : BufTy).Contents (Elt F))),
   (StableHlo.reshape main_arg3 main_v15 (rfl : (.i32 : EltTy) = .i32) shapeCasts_S4096_S4096x1),
   (StableHlo.reshape main_arg4 main_v16 (rfl : (.i32 : EltTy) = .i32) shapeCasts_S4096_S4096x1),
   (StableHlo.reshape main_arg20 main_v17 (rfl : (.f32 : EltTy) = .f32) shapeCasts_S128_S1x128),
   (StableHlo.reshape main_arg13 main_v18 (rfl : (.f32 : EltTy) = .f32) shapeCasts_S128_S1x128),
   (StableHlo.reshape main_arg14 main_v19 (rfl : (.f32 : EltTy) = .f32) shapeCasts_S_S1x1)]

/-- After the losses: the four results. -/
def seg5 : List (HloOp τ sig (Elt F)) :=
  [(StableHlo.unary main_v20 main_v21 ((extractStridedSlice S1x4 ![0, 0] · slices_S1x128_S1x4_0_0) : (⟨S1x128, .f32⟩ : BufTy).Contents (Elt F) → (⟨S1x4,
      .f32⟩ : BufTy).Contents (Elt F))),
   (StableHlo.reshape main_v21 main_v22 (rfl : (.f32 : EltTy) = .f32) shapeCasts_S1x4_S4)]

theorem main_eq (d : Dev nD) : main (F := F) d =
    (StableHlo.seq seg1 >>= fun _ => Prog.lift (.customCall (SparseCore.inner (Pipeline.entry 0)) ()) >>= fun _ =>
      StableHlo.seq seg2 >>= fun _ => Prog.lift (.customCall (SparseCore.inner (Pipeline.entry 1)) ()) >>= fun _ =>
      StableHlo.seq seg3 >>= fun _ => sc.run d 0 >>= fun _ =>
      StableHlo.seq seg4 >>= fun _ => Prog.lift (.customCall (SparseCore.inner (Pipeline.entry 2)) ()) >>= fun _ =>
      StableHlo.seq seg5 >>= fun _ => pure ⟨⟩) := by
  sl_kernel_rfl

theorem seg1_sub : ∀ op ∈ seg1 (F := F), op.bufs ⊆ Pipeline.ucRefs τ sig := by
  intro op h
  refine Pipeline.sub_ucRefs op ?_
  simp only [seg1, List.mem_cons, List.not_mem_nil, or_false] at h
  rcases h with rfl | rfl | rfl | rfl <;> first | rfl | decide | simp
theorem seg1_fresh : ∀ op ∈ seg1 (F := F), op.fresh = ∅ := by
  intro op h
  simp only [seg1, List.mem_cons, List.not_mem_nil, or_false] at h
  rcases h with rfl | rfl | rfl | rfl <;> rfl

theorem seg2_sub : ∀ op ∈ seg2 (F := F), op.bufs ⊆ Pipeline.ucRefs τ sig := by
  intro op h
  refine Pipeline.sub_ucRefs op ?_
  simp only [seg2, List.mem_cons, List.not_mem_nil, or_false] at h
  rcases h with rfl | rfl | rfl | rfl <;> first | rfl | decide | simp
theorem seg2_fresh : ∀ op ∈ seg2 (F := F), op.fresh = ∅ := by
  intro op h
  simp only [seg2, List.mem_cons, List.not_mem_nil, or_false] at h
  rcases h with rfl | rfl | rfl | rfl <;> rfl

theorem seg3_sub : ∀ op ∈ seg3 (F := F), op.bufs ⊆ Pipeline.ucRefs τ sig := by
  intro op h
  refine Pipeline.sub_ucRefs op ?_
  simp only [seg3, List.mem_cons, List.not_mem_nil, or_false] at h
  rcases h with rfl <;> first | rfl | decide | simp
theorem seg3_fresh : ∀ op ∈ seg3 (F := F), op.fresh = ∅ := by
  intro op h
  simp only [seg3, List.mem_cons, List.not_mem_nil, or_false] at h
  rcases h with rfl <;> rfl

theorem seg4_sub : ∀ op ∈ seg4 (F := F), op.bufs ⊆ Pipeline.ucRefs τ sig := by
  intro op h
  refine Pipeline.sub_ucRefs op ?_
  simp only [seg4, List.mem_cons, List.not_mem_nil, or_false] at h
  rcases h with rfl | rfl | rfl | rfl | rfl | rfl | rfl | rfl | rfl <;> first | rfl | decide | simp
theorem seg4_fresh : ∀ op ∈ seg4 (F := F), op.fresh = ∅ := by
  intro op h
  simp only [seg4, List.mem_cons, List.not_mem_nil, or_false] at h
  rcases h with rfl | rfl | rfl | rfl | rfl | rfl | rfl | rfl | rfl <;> rfl

theorem seg5_sub : ∀ op ∈ seg5 (F := F), op.bufs ⊆ Pipeline.ucRefs τ sig := by
  intro op h
  refine Pipeline.sub_ucRefs op ?_
  simp only [seg5, List.mem_cons, List.not_mem_nil, or_false] at h
  rcases h with rfl | rfl <;> first | rfl | decide | simp
theorem seg5_fresh : ∀ op ∈ seg5 (F := F), op.fresh = ∅ := by
  intro op h
  simp only [seg5, List.mem_cons, List.not_mem_nil, or_false] at h
  rcases h with rfl | rfl <;> rfl

/-! ## The contents of device memory along the run -/

variable (m : (ℓ : Loc nD τ sig) → Buf (Elt F) ℓ) (ρ : Dev nD → PrngReg)

/-- At the launch, -/
def V0 (d : Dev nD) : Valuation τ sig (Elt F) := fun b => m (d, b)
/-- after the first host operations, -/
def V1 (d : Dev nD) : Valuation τ sig (Elt F) := StableHlo.after seg1 (V0 m d)
/-- after the library embedding, -/
def V2 [∀ e, Nonempty (Elt F e)] (d : Dev nD) : Valuation τ sig (Elt F) := Pipeline.afterRegion (Lib.dat (V1 m d) d) (V1 m d)
/-- after the second host operations, -/
def V3 [∀ e, Nonempty (Elt F e)] (d : Dev nD) : Valuation τ sig (Elt F) := StableHlo.after seg2 (V2 m d)
/-- after the graph network, -/
def V4 [∀ e, Nonempty (Elt F e)] (d : Dev nD) : Valuation τ sig (Elt F) := Pipeline.afterRegion (Gnn.dat (V3 m d) d) (V3 m d)
/-- before the gather, -/
def V5 [∀ e, Nonempty (Elt F e)] (d : Dev nD) : Valuation τ sig (Elt F) := StableHlo.after seg3 (V4 m d)

variable [∀ e, Nonempty (Elt F e)]

/-- the table, the row numbers and the old result there, -/
def ct (d : Dev nD) : Buf (Elt F) (Gather.tLoc d) := V5 m d (Proc.devRef .tc main_v3)
def ci (d : Dev nD) : Buf (Elt F) (Gather.iLoc d) := V5 m d (Proc.devRef .tc main_v9)
def co (d : Dev nD) : Buf (Elt F) (Gather.oLoc d) := V5 m d (Proc.devRef .tc main_v10)
/-- after the gather, -/
def V6 (d : Dev nD) : Valuation τ sig (Elt F) := Function.update (V5 m d) (Proc.devRef .tc main_v10) (Gather.G (ct m) (ci m) d)
/-- after the fourth host operations, -/
def V7 (d : Dev nD) : Valuation τ sig (Elt F) := StableHlo.after seg4 (V6 m d)
/-- after the losses, -/
def V8 (d : Dev nD) : Valuation τ sig (Elt F) := Pipeline.afterRegion (Loss.dat (V7 m d) d) (V7 m d)
/-- at the end. -/
def V9 (d : Dev nD) : Valuation τ sig (Elt F) := StableHlo.after seg5 (V8 m d)

abbrev PM := Gather.P (F := F) (ct m) (ci m) (co m)

/-! ## The gather's arrays out of device memory and back -/

/-- The three arrays the gather works on. -/
def gRefs : Finset (DevRef τ sig) := {Proc.devRef .tc main_v9, Proc.devRef .tc main_v3, Proc.devRef .tc main_v10}

theorem gRefs_sub : gRefs ⊆ Pipeline.ucRefs τ sig := by
  intro b hb
  simp only [gRefs, Finset.mem_insert, Finset.mem_singleton] at hb
  rcases hb with rfl | rfl | rfl <;> exact Pipeline.devRef_mem_ucRefs rfl

omit [∀ e, Nonempty (Elt F e)] in
theorem held_gRefs (d : Dev nD) (W : Valuation τ sig (Elt F)) :
    (StableHlo.held (d.tc : Thread nD τ) gRefs W : sProp 𝕄)
      = iprop((Gather.iLoc d ↦{fullShare} W (Proc.devRef .tc main_v9)) ∗ (Gather.tLoc d ↦{fullShare} W (Proc.devRef .tc main_v3))
          ∗ (Gather.oLoc d ↦{fullShare} W (Proc.devRef .tc main_v10))) := by
  unfold StableHlo.held gRefs
  rw [SparseCore.bigSep_insert' (by decide), SparseCore.bigSep_insert' (by decide), bigSep_singleton]

theorem V6_v10 (d : Dev nD) : V6 m d (Proc.devRef .tc main_v10) = Gather.G (ct m) (ci m) d := Function.update_self ..
theorem V6_ne (d : Dev nD) {b : DevRef τ sig} (h : b ≠ Proc.devRef .tc main_v10) : V6 m d b = V5 m d b := Function.update_of_ne h ..

/-- Before the gather: its arrays and the rest. -/
theorem held_V5 (d : Dev nD) : (StableHlo.held (d.tc : Thread nD τ) (Pipeline.ucRefs τ sig) (V5 m d) : sProp 𝕄)
    = iprop(((Gather.iLoc d ↦{fullShare} ci m d) ∗ (Gather.tLoc d ↦{fullShare} ct m d) ∗ (Gather.oLoc d ↦{fullShare} co m d))
        ∗ StableHlo.held (d.tc : Thread nD τ) (Pipeline.ucRefs τ sig \ gRefs) (V5 m d)) := by
  rw [StableHlo.held_sub_split _ gRefs_sub, held_gRefs]
  rfl

/-- After it: the same, the result holding the gathered rows. -/
theorem held_V6 (d : Dev nD) : (StableHlo.held (d.tc : Thread nD τ) (Pipeline.ucRefs τ sig) (V6 m d) : sProp 𝕄)
    = iprop(((Gather.iLoc d ↦{fullShare} ci m d) ∗ (Gather.tLoc d ↦{fullShare} ct m d) ∗ (Gather.oLoc d ↦{fullShare} Gather.G (ct m) (ci m) d))
        ∗ StableHlo.held (d.tc : Thread nD τ) (Pipeline.ucRefs τ sig \ gRefs) (V5 m d)) := by
  rw [StableHlo.held_sub_split _ gRefs_sub, held_gRefs, V6_v10, V6_ne m d (b := Proc.devRef .tc main_v9) (by decide),
    V6_ne m d (b := Proc.devRef .tc main_v3) (by decide),
    StableHlo.held_congr _ (S := Pipeline.ucRefs τ sig \ gRefs) (V := V6 m d) (V' := V5 m d) fun b hb => V6_ne m d fun h => (Finset.mem_sdiff.mp hb).2 (by rw [h]; decide)]
  rfl

/-! ## The TensorCore's state between the calls -/

omit [∀ e, Nonempty (Elt F e)] in
/-- The state before handshake `n` is the debts and the rest. -/
theorem tcSt_split (d : Dev nD) (n : ℕ) : ∃ R : sProp 𝕄, (K (F := F)).tcSt EH d n = iprop(owed n d ∗ R) := ⟨_, rfl⟩

omit [∀ e, Nonempty (Elt F e)] in
/-- A run of host operations takes device memory from `V` to `V'`. -/
theorem wp_part (d : Dev nD) (ops : List (HloOp τ sig (Elt F))) (hS : ∀ op ∈ ops, op.bufs ⊆ Pipeline.ucRefs τ sig) (hf : ∀ op ∈ ops, op.fresh = ∅)
    (V V' : Valuation τ sig (Elt F)) (hV : V' = StableHlo.after ops V)
    (k : PUnit → Prog (TpuEff nD τ sig (Elt F) (SparseCore.Sig (ΛP (F := F)) 1) .tc) PUnit) (Q : PUnit → sProp 𝕄) :
    iprop(boundary (d.tc : Thread nD τ) ∗ StableHlo.held (d.tc : Thread nD τ) (Pipeline.ucRefs τ sig) V
        ∗ (iprop(boundary (d.tc : Thread nD τ) ∗ StableHlo.held (d.tc : Thread nD τ) (Pipeline.ucRefs τ sig) V')
            -∗ wp frame (wpE ((K (F := F)).defs (D (F := F))) 𝒱 (SparseCore.T d) none) Set.univ (k ⟨⟩) Q))
      ⊢ wp frame (wpE ((K (F := F)).defs (D (F := F))) 𝒱 (SparseCore.T d) none) Set.univ (StableHlo.seq ops >>= k) Q := by
  subst hV
  iintro ⟨Hb, Hh, Hk⟩
  iapply (StableHlo.wp_seq 𝒱 none Set.univ d (Pipeline.ucRefs τ sig) k ops hS hf V) $$ [Hb Hh]
  · isplitl [Hb] <;> iassumption
  iintro H
  iapply Hk; iexact H

/-- What a TensorCore call takes device memory through. -/
abbrev CallSpec (n : ℕ) (p : Fin 3) (V V' : Dev nD → Valuation τ sig (Elt F)) : Prop := ∀ (c : Dev nD) (Q : PUnit → sProp 𝕄),
    iprop(levAts (K (F := F)).L (K (F := F)).lev ∗ boundary (c.tc : Thread nD τ) ∗ StableHlo.held (c.tc : Thread nD τ) (Pipeline.ucRefs τ sig) (V c) ∗ owed n c ∗ ghost p c
        ∗ (iprop(boundary (c.tc : Thread nD τ) ∗ StableHlo.held (c.tc : Thread nD τ) (Pipeline.ucRefs τ sig) (V' c) ∗ owed n c) -∗ Q ⟨⟩))
      ⊢ wp frame (wpE ((K (F := F)).defs (D (F := F))) 𝒱 (c.tc : Thread nD τ) none) Set.univ
          (Prog.lift (.customCall (SparseCore.inner (Pipeline.entry p)) ())) Q

theorem lib_call : CallSpec 0 0 (V1 m) (V2 m) := Lib.call (V1 m)
theorem gnn_call : CallSpec 0 1 (V3 m) (V4 m) := Gnn.call (V3 m)
theorem loss_call : CallSpec 1 2 (V7 m) (V8 m) := Loss.call (V7 m)

/-- What the launch gives device `d` for the three TensorCore calls. -/
abbrev Gh (d : Dev nD) : sProp 𝕄 := iprop(ghost (F := F) 0 d ∗ ghost (F := F) 1 d ∗ ghost (F := F) 2 d)

/-- What @main ends with: all of device memory at the last contents. -/
abbrev FIN (d : Dev nD) : sProp 𝕄 := StableHlo.held (d.tc : Thread nD τ) (Pipeline.ucRefs τ sig) (V9 m d)

set_option maxRecDepth 16384 in
/-- @main on device `d`'s TensorCore. -/
theorem hmain (κ : GSem nD τ sig → ℕ) (d : Dev nD) :
    iprop((K (F := F)).ctx EH (PM m) κ ∗ (K (F := F)).tcSt EH d 0 ∗ (K (F := F)).tcRes m ρ d ∗ Gh (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  have hub : (unscopedBufs d (fun b => m ((SparseCore.T d).loc b)) : sProp 𝕄) = StableHlo.held (d.tc : Thread nD τ) (Pipeline.ucRefs τ sig) (V0 m d) :=
    Pipeline.unscopedBufs_held d (V0 m d)
  obtain ⟨R0, hR0⟩ := tcSt_split (F := F) d 0
  obtain ⟨R1, hR1⟩ := tcSt_split (F := F) d 1
  rw [hub, hR0]
  iintro ⟨#Hctx, ⟨HO, Hst⟩, ⟨Hb, Hh, Hts, -⟩, ⟨HG0, HG1, HG2⟩⟩
  ihave #HL := (SparseCore.Cfg.ctx_levAts κ) $$ Hctx
  iapply (wp_part d seg1 seg1_sub seg1_fresh (V0 m d) (V1 m d) rfl)
  isplitl [Hb]; · iexact Hb
  isplitl [Hh]; · iexact Hh
  iintro ⟨Hb, Hh⟩
  rw [wp_bind]
  iapply (lib_call m d _)
  isplitr; · iexact HL
  isplitl [Hb]; · iexact Hb
  isplitl [Hh]; · iexact Hh
  isplitl [HO]; · iexact HO
  isplitl [HG0]; · iexact HG0
  iintro ⟨Hb, Hh, HO⟩
  iapply (wp_part d seg2 seg2_sub seg2_fresh (V2 m d) (V3 m d) rfl)
  isplitl [Hb]; · iexact Hb
  isplitl [Hh]; · iexact Hh
  iintro ⟨Hb, Hh⟩
  rw [wp_bind]
  iapply (gnn_call m d _)
  isplitr; · iexact HL
  isplitl [Hb]; · iexact Hb
  isplitl [Hh]; · iexact Hh
  isplitl [HO]; · iexact HO
  isplitl [HG1]; · iexact HG1
  iintro ⟨Hb, Hh, HO⟩
  iapply (wp_part d seg3 seg3_sub seg3_fresh (V4 m d) (V5 m d) rfl)
  isplitl [Hb]; · iexact Hb
  isplitl [Hh]; · iexact Hh
  iintro ⟨Hb, Hh⟩
  rw [wp_bind]
  ihave Hh5 := (Entails.of_eq (held_V5 m d)) $$ Hh
  icases Hh5 with ⟨⟨Hi, Ht, Ho⟩, Hrest⟩
  iapply ((K (F := F)).wp_run (D (F := F)) 𝒱 (EH := EH) (P := PM m) κ d 0)
  isplitr; · iexact Hctx
  isplitl [Hst HO]
  · iapply (Entails.of_eq hR0.symm)
    isplitl [HO] <;> iassumption
  isplitl [Hi Ht Ho]
  · rw [Gather.st_eq]
    isplitl [Hi]; · iexact Hi
    isplitl [Ht]; · iexact Ht
    iexact Ho
  iintro ⟨Hst, Hdn⟩
  ihave Hdn' := (Entails.of_eq (Gather.dn_eq (ct m) (ci m) (co m) d)) $$ Hdn
  ihave Hst' := (Entails.of_eq (show (K (F := F)).tcSt EH d ((0 : Fin 1).val + 1) = iprop(owed 1 d ∗ R1) from hR1)) $$ Hst
  icases Hst' with ⟨HO, Hst⟩
  ihave Hh := (Entails.of_eq (held_V6 m d).symm) $$ [Hdn' Hrest]
  · isplitl [Hdn'] <;> iassumption
  iapply (wp_part d seg4 seg4_sub seg4_fresh (V6 m d) (V7 m d) rfl)
  isplitl [Hb]; · iexact Hb
  isplitl [Hh]; · iexact Hh
  iintro ⟨Hb, Hh⟩
  rw [wp_bind]
  iapply (loss_call m d _)
  isplitr; · iexact HL
  isplitl [Hb]; · iexact Hb
  isplitl [Hh]; · iexact Hh
  isplitl [HO]; · iexact HO
  isplitl [HG2]; · iexact HG2
  iintro ⟨Hb, Hh, HO⟩
  iapply (wp_part d seg5 seg5_sub seg5_fresh (V8 m d) (V9 m d) rfl)
  isplitl [Hb]; · iexact Hb
  isplitl [Hh]; · iexact Hh
  iintro ⟨Hb, Hh⟩
  rw [wp_pure]
  imodintro
  isplitl [HO Hst]
  · iapply (Entails.of_eq hR1.symm)
    isplitl [HO] <;> iassumption
  isplitl [Hh]; · iexact Hh
  isplitl [Hb] <;> iassumption

/-! ## The launch -/

/-- The ghost state at the launch: the handshakes' and the pipelines'. -/
def u₀ : UU := (initOf (K (F := F)).hsCells (K (F := F)).hsToks,
  (initOf (Pipeline.cells (Pipeline.pin (pcfgs (F := F)) adm) hinj) (Pipeline.launchToks (Pipeline.pin (pcfgs (F := F)) adm) hinj), 1))

omit [∀ e, Nonempty (Elt F e)] in
theorem ghosts_deal :
    iprop((bigSep Finset.univ fun c : Dev nD => bigSep Finset.univ fun p => Pipeline.cellsGhost (Pipeline.pin (pcfgs (F := F)) adm) EP p c)
        ∗ (bigSep Finset.univ fun c : Dev nD => bigSep Finset.univ fun p => (Pipeline.toksInit (Pipeline.pin (pcfgs (F := F)) adm) EP p c : sProp 𝕄)))
      ⊢ bigSep Finset.univ fun d : Dev nD => Gh (F := F) d := by
  rw [← bigSep_sep']
  refine bigSep_mono fun c _ => ?_
  rw [← bigSep_sep', show (Finset.univ : Finset (Fin 3)) = {0, 1, 2} by decide, SparseCore.bigSep_insert' (by decide), SparseCore.bigSep_insert' (by decide), bigSep_singleton]
  exact BI.Entails.refl _

omit [∀ e, Nonempty (Elt F e)] in
theorem own_parts : (ownU (u₀ (F := F)) : sProp 𝕄) ⊢ iprop(BI.own (EH (initOf (K (F := F)).hsCells (K (F := F)).hsToks))
    ∗ BI.own (EP (initOf (Pipeline.cells (Pipeline.pin (pcfgs (F := F)) adm) hinj) (Pipeline.launchToks (Pipeline.pin (pcfgs (F := F)) adm) hinj)))) := by
  rw [show EP (F := F) = (Emb.inl : Emb UP (UP × Counters)).trans embR from rfl]
  have h1 := ownU_pair (nD := nD) (τ := τ) (sig := sig) (Ix := HIx 1) (Val := Elt F) (Name := ℕ) (Lvl := ℕ) (u₀ (F := F)).1 (u₀ (F := F)).2
  have h2 := own_pair_emb (embR : Emb (UP × Counters) 𝕄) (u₀ (F := F)).2.1 (u₀ (F := F)).2.2
  iintro H
  ihave H := h1 $$ H
  icases H with ⟨H1, H2⟩
  ihave H2 := h2 $$ H2
  icases H2 with ⟨H2, -⟩
  isplitl [H1]; · iexact H1
  iexact H2

omit [FloatOps F] [∀ e, Nonempty (Elt F e)] in
theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Gh (F := F) d)
        ∗ bigSep Finset.univ fun thr : Thread nD τ => bigSep Finset.univ fun q : Fin 1 => (PM m).x q thr) := by
  iintro Hu
  ihave H := own_parts $$ Hu
  icases H with ⟨HH, HP⟩
  imod (Pipeline.fund_ghost (Pipeline.pin (pcfgs (F := F)) adm) EP hinj) $$ HP with HP
  imodintro
  isplitl [HH]; · iexact HH
  isplitl [HP]; · iapply ghosts_deal; iexact HP
  rw [show (bigSep Finset.univ fun thr : Thread nD τ => bigSep Finset.univ fun q : Fin 1 => (PM m).x q thr) = bigSep Finset.univ fun _ => iprop(emp) from
    bigSep_congr fun _ _ => bigSep_univ_of_subsingleton (0 : Fin 1), bigSep_none]
  iempintro

/-- What a final memory says on device `d`: the last contents. -/
def fq (d : Dev nD) (s' : Phys nD τ sig (Elt F)) : Prop := ∀ b ∈ Pipeline.ucRefs τ sig, s'.mem.mem (d, b) = V9 m d b

theorem hfin (d : Dev nD) (s' : Phys nD τ sig (Elt F)) : iprop(FIN m d ∗ SI s') ⊢ (⌜fq m d s'⌝ : sProp 𝕄) :=
  sep_comm.1.trans (SI_pointsTo_bufs_agree (st := s') (c := d) (qs := fun _ => fullShare) (F := V9 m d) (Pipeline.ucRefs τ sig))

/-- After the run: every array at its last contents, every semaphore at zero. -/
def QC : PUnit × MemSt nD τ sig (Elt F) → Prop := fun r =>
  (∀ c : Dev nD, ∀ b ∈ Pipeline.ucRefs τ sig, r.2.mem (c, b) = V9 m c b) ∧ r.2.sem = fun _ => 0

/-- The program's run from any launch memory whose row numbers are in range when the gather starts. -/
theorem run_main (hpre : Gather.InRange (F := F) (ci m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => Gather.tileObl (ct m) (ci m) (co m) facts hpre)
    (fun q _ => match q with | 0 => SparseCore.Cfg.VecSplit.of_plain (Gather.vecSplit (ct m) (ci m) (co m)))
    m ρ main (Gh (F := F)) (FIN m) (u₀ (F := F)) (sep_elim_left.trans (hu₀ m)) (hmain m ρ) (fq m) (hfin m) (QC m) (fun _ h hz => ⟨h, hz⟩)

end Cert.Proof.Run

end
-- ==== Proof.Keep.lean ====
/-
  What the run leaves unchanged: each part of @main changes only the arrays it writes, so the arguments end as they began; and
  the gather's row numbers, which are in range when the index arguments are.
-/
module

public import proofs.«01_k».proof.Proof.Run
public import Idealize.ShloMosaic.Lib.StableHlo.RunRead

@[expose] public section

noncomputable section

namespace Cert.Proof.Run

open Cert.KernelIdeal Cert.KernelIdeal.Gen Cert.Proof.Tc Cert.Proof.Region
open Idealize.ShloMosaic
open Idealize.ShloMosaic.TcCoe

variable {F : FTy → Type} [FloatOps F] [∀ e, Nonempty (Elt F e)]
variable (m : (ℓ : Loc nD τ sig) → Buf (Elt F) ℓ) (d : Dev nD) (r : Ref sig .tc)

/-! ## The arrays each part writes -/

abbrev w1 : List (Ref sig .tc) := [main_c, main_v0, main_v1, main_v2]
abbrev w3 : List (Ref sig .tc) := [main_v4, main_v5, main_v6, main_v7]
abbrev w5 : List (Ref sig .tc) := [main_v9]
abbrev w7 : List (Ref sig .tc) := [main_v11, main_v12, main_v13, main_v14, main_v15, main_v16, main_v17, main_v18, main_v19]
abbrev w9 : List (Ref sig .tc) := [main_v21, main_v22]

omit [∀ e, Nonempty (Elt F e)] in
theorem V1_keep (h : r ∉ w1) : V1 m d (Proc.devRef .tc r) = V0 m d (Proc.devRef .tc r) :=
  StableHlo.after_unwritten w1 rfl h _
theorem V2_keep (h : r ≠ main_v3) : V2 m d (Proc.devRef .tc r) = V1 m d (Proc.devRef .tc r) :=
  Pipeline.afterRegion_keeps (Lib.dat (V1 m d) d) (V1 m d) winFacts0.arr_inj (fun _ => rfl) r fun w e => by
    fin_cases w
    · rfl
    · rfl
    · rfl
    · rfl
    · rfl
    · exact absurd e.symm h
theorem V3_keep (h : r ∉ w3) : V3 m d (Proc.devRef .tc r) = V2 m d (Proc.devRef .tc r) :=
  StableHlo.after_unwritten w3 rfl h _
theorem V4_keep (h : r ≠ main_v8_0) (h' : r ≠ main_v8_1) : V4 m d (Proc.devRef .tc r) = V3 m d (Proc.devRef .tc r) :=
  Pipeline.afterRegion_keeps (Gnn.dat (V3 m d) d) (V3 m d) winFacts1.arr_inj (fun _ => rfl) r fun w e => by
    fin_cases w
    · rfl
    · rfl
    · rfl
    · rfl
    · rfl
    · rfl
    · rfl
    · rfl
    · rfl
    · rfl
    · exact absurd e.symm h
    · exact absurd e.symm h'
theorem V5_keep (h : r ∉ w5) : V5 m d (Proc.devRef .tc r) = V4 m d (Proc.devRef .tc r) :=
  StableHlo.after_unwritten w5 rfl h _
theorem V6_keep (h : r ≠ main_v10) : V6 m d (Proc.devRef .tc r) = V5 m d (Proc.devRef .tc r) :=
  V6_ne m d fun e => h (Proc.devRef_injective _ e)
theorem V7_keep (h : r ∉ w7) : V7 m d (Proc.devRef .tc r) = V6 m d (Proc.devRef .tc r) :=
  StableHlo.after_unwritten w7 rfl h _
theorem V8_keep (h : r ≠ main_v20) : V8 m d (Proc.devRef .tc r) = V7 m d (Proc.devRef .tc r) :=
  Pipeline.afterRegion_keeps (Loss.dat (V7 m d) d) (V7 m d) winFacts3.arr_inj (fun _ => rfl) r fun w e => by
    fin_cases w
    · rfl
    · rfl
    · rfl
    · rfl
    · rfl
    · rfl
    · rfl
    · rfl
    · rfl
    · rfl
    · rfl
    · rfl
    · exact absurd e.symm h
theorem V9_keep (h : r ∉ w9) : V9 m d (Proc.devRef .tc r) = V8 m d (Proc.devRef .tc r) :=
  StableHlo.after_unwritten w9 rfl h _

/-- All the arrays @main writes. -/
abbrev wAll : List (Ref sig .tc) := w1 ++ [main_v3] ++ w3 ++ [main_v8_0, main_v8_1] ++ w5 ++ [main_v10] ++ w7 ++ [main_v20] ++ w9

/-- An array @main doesn't write holds up to the gather what it held at the launch, -/
theorem V5_launch (h : r ∉ wAll) : V5 m d (Proc.devRef .tc r) = m (d, Proc.devRef .tc r) := by
  simp only [wAll, List.mem_append, List.mem_singleton, List.mem_cons, List.not_mem_nil, or_false, not_or] at h
  rw [V5_keep m d r (by simp [w5]; tauto), V4_keep m d r (by tauto) (by tauto), V3_keep m d r (by simp [w3]; tauto), V2_keep m d r (by tauto),
    V1_keep m d r (by simp [w1]; tauto)]
  rfl
/-- and at the end too. -/
theorem V9_launch (h : r ∉ wAll) : V9 m d (Proc.devRef .tc r) = m (d, Proc.devRef .tc r) := by
  have h0 := h
  simp only [wAll, List.mem_append, List.mem_singleton, List.mem_cons, List.not_mem_nil, or_false, not_or] at h
  rw [V9_keep m d r (by simp [w9]; tauto), V8_keep m d r (by tauto), V7_keep m d r (by simp [w7]; tauto), V6_keep m d r (by tauto), V5_launch m d r h0]

end Cert.Proof.Run

end
-- ==== Proof.Ranges.lean ====
/-
  What the precondition says: the three row numbers are below 10000, the node numbers below 32, and (read over the extended
  reals) the listed float arguments are finite.
-/
module

public import proofs.«01_k».proof.Proof.Gen.Pre_ranges
public import Idealize.ShloMosaic.Lib.ReduceAll
public import Idealize.ShloMosaic.Lib.ValueIdxCore
public import Idealize.ShloMosaic.Lib.KernelVsHost

@[expose] public section

noncomputable section

namespace Cert.Proof.Ranges

open Cert.Pre_ranges Cert.Pre_ranges.Gen
open Idealize.ShloMosaic Idealize.ShloMosaic.ValueIdx

/-- A conjunction of two bits that is 1 has both 1. -/
theorem and_one (a b : BitVec 1) (h : IntOp.andi a b = 1#1) : a = 1#1 ∧ b = 1#1 := by
  rcases BitVec.eq_zero_or_eq_one a with rfl | rfl <;> rcases BitVec.eq_zero_or_eq_one b with rfl | rfl <;>
    first | exact ⟨rfl, rfl⟩ | exact absurd h (by decide)

/-- A word between 0 and a small bound `n`, compared as a signed word, is below `n` as it stands. -/
theorem word_lt (n : Nat) (hn : n < 2 ^ 31) (v : BitVec 32)
    (e : IntOp.andi (IntOp.cmpi .sge v 0#32) (IntOp.cmpi .slt v (BitVec.ofNat 32 n)) = 1#1) : v.toNat < n := by
  obtain ⟨h1, h2⟩ := and_one _ _ e
  have ofBool_eq_one (p : Bool) : (BitVec.ofBool p = 1#1) ↔ p = true := by cases p <;> decide
  simp only [IntOp.cmpi, ofBool_eq_one, BitVec.sle_eq_decide, BitVec.slt_eq_decide, decide_eq_true_eq,
    BitVec.toInt_eq_toNat_cond, BitVec.toNat_ofNat, Nat.reducePow, Nat.reduceMod] at h1 h2
  have : n % 4294967296 = n := Nat.mod_eq_of_lt (by omega)
  rw [this] at h2
  have := v.isLt
  split at h1 <;> split at h2 <;> omega

/-- Every entry of an array passes the finiteness comparison. -/
def AllFin {F : FTy → Type} [FloatOps F] {s : Shape} (x : FVec F s .f32) : Prop :=
  ∀ j, FloatOps.cmpf .olt (FloatOps.hostAbsf (x j)) (FloatOps.ofBits (F := F) .f32 0x7F800000#32) = 1#1

/-- What the precondition says of each argument. -/
theorem all {F : FTy → Type} [FloatOps F]
    (a0 : FVec F S4096x32x64 .f32) (a1 : IVec S4096x32x32 1) (a2 : FVec F S4096x16 .f32) (a3 a4 a5 a6 : IVec S4096 32)
    (a7 : FVec F S10000x16x64 .f32) (a8 : IVec S10000x16x16 1) (a9 : FVec F S64x128 .f32) (a10 a11 : FVec F S128x128 .f32)
    (a12 : FVec F S144x128 .f32) (a13 : FVec F S128 .f32) (a14 : FVec F S_ .f32) (a15 : FVec F S64x128 .f32)
    (a16 a17 a18 : FVec F S128x128 .f32) (a19 : FVec F S400x128 .f32) (a20 : FVec F S128 .f32)
    (h : Cert.Pre_ranges.fn (F := F) a0 a1 a2 a3 a4 a5 a6 a7 a8 a9 a10 a11 a12 a13 a14 a15 a16 a17 a18 a19 a20 = fun _ => 1#1) :
    (∀ j, (a3 j).toNat < 10000) ∧ (∀ j, (a4 j).toNat < 32) ∧ (∀ j, (a5 j).toNat < 10000) ∧ (∀ j, (a6 j).toNat < 10000)
      ∧ AllFin a0 ∧ AllFin a2 ∧ AllFin a7 ∧ AllFin a9 ∧ AllFin a10 ∧ AllFin a11 ∧ AllFin a12 ∧ AllFin a15 ∧ AllFin a16
      ∧ AllFin a17 ∧ AllFin a18 ∧ AllFin a19 ∧ AllFin a20 := by
  have : Subsingleton S_.Idx := ⟨fun a b => funext fun i => i.elim0⟩
  have h := congrFun h ix0
  obtain ⟨h, h20⟩ := and_one _ _ h
  obtain ⟨h, h19⟩ := and_one _ _ h
  obtain ⟨h, h18⟩ := and_one _ _ h
  obtain ⟨h, h17⟩ := and_one _ _ h
  obtain ⟨h, h16⟩ := and_one _ _ h
  obtain ⟨h, h15⟩ := and_one _ _ h
  obtain ⟨h, h12⟩ := and_one _ _ h
  obtain ⟨h, h11⟩ := and_one _ _ h
  obtain ⟨h, h10⟩ := and_one _ _ h
  obtain ⟨h, h9⟩ := and_one _ _ h
  obtain ⟨h, h7⟩ := and_one _ _ h
  obtain ⟨h, h2⟩ := and_one _ _ h
  obtain ⟨h, h0⟩ := and_one _ _ h
  obtain ⟨h, h6⟩ := and_one _ _ h
  obtain ⟨h, h5⟩ := and_one _ _ h
  obtain ⟨h3, h4⟩ := and_one _ _ h
  exact ⟨fun j => word_lt 10000 (by decide) _ (Host.reduce_andi_all _ _ _ _ ix0 h3 j),
    fun j => word_lt 32 (by decide) _ (Host.reduce_andi_all _ _ _ _ ix0 h4 j),
    fun j => word_lt 10000 (by decide) _ (Host.reduce_andi_all _ _ _ _ ix0 h5 j),
    fun j => word_lt 10000 (by decide) _ (Host.reduce_andi_all _ _ _ _ ix0 h6 j),
    fun j => Host.reduce_andi_all _ _ _ _ ix0 h0 j, fun j => Host.reduce_andi_all _ _ _ _ ix0 h2 j,
    fun j => Host.reduce_andi_all _ _ _ _ ix0 h7 j, fun j => Host.reduce_andi_all _ _ _ _ ix0 h9 j,
    fun j => Host.reduce_andi_all _ _ _ _ ix0 h10 j, fun j => Host.reduce_andi_all _ _ _ _ ix0 h11 j,
    fun j => Host.reduce_andi_all _ _ _ _ ix0 h12 j, fun j => Host.reduce_andi_all _ _ _ _ ix0 h15 j,
    fun j => Host.reduce_andi_all _ _ _ _ ix0 h16 j, fun j => Host.reduce_andi_all _ _ _ _ ix0 h17 j,
    fun j => Host.reduce_andi_all _ _ _ _ ix0 h18 j, fun j => Host.reduce_andi_all _ _ _ _ ix0 h19 j,
    fun j => Host.reduce_andi_all _ _ _ _ ix0 h20 j⟩

/-- Over the extended reals an entry that passes the comparison is a real number. -/
theorem AllFin.real {s : Shape} {x : FVec Ideal s .f32} (h : AllFin x) (j : s.Idx) : ∃ r : ℝ, x j = ((r : ℝ) : EReal) := by
  have htop : Ideal.ofBits .f32 0x7F800000#32 = ⊤ := by simp [Ideal.ofBits, Ideal.ieee]
  have h := h j
  have h : Ideal.cmp .olt (max (x j : EReal) (-(x j : EReal))) (Ideal.ofBits .f32 0x7F800000#32) = 1#1 := h
  rw [htop] at h
  unfold Ideal.cmp at h
  have hlt : max (x j : EReal) (-(x j : EReal)) < ⊤ := by
    by_contra hc
    simp [hc] at h
  rw [max_lt_iff] at hlt
  refine ⟨(x j : EReal).toReal, (EReal.coe_toReal hlt.1.ne ?_).symm⟩
  intro hb
  rw [hb] at hlt
  simp at hlt

end Cert.Proof.Ranges

end
-- ==== Proof.RefRun.lean ====
/-
  The reference's run: its host operations as lists, one list for each part of the computation, and what each part leaves in
  the arrays that later parts read, as a function of the arrays it reads.
-/
module

public import proofs.«01_k».proof.Proof.Gen.ReferenceIdeal
public import Idealize.ShloMosaic.Lib.StableHlo.Run
public import Idealize.ShloMosaic.Lib.StableHlo.RunRead
public import Idealize.ShloMosaic.Lib.Tactic

@[expose] public section

noncomputable section

namespace Cert.Proof.Ref

open Cert.ReferenceIdeal Cert.ReferenceIdeal.Gen
open Idealize.ShloMosaic Idealize.ShloMosaic.TcCoe Idealize.SL.Sem Idealize.ShloMosaic.StableHlo

variable {F : FTy → Type} [FloatOps F]

/-- An array's contents, by its shape and element type. -/
abbrev X (F : FTy → Type) (s : Shape) (e : EltTy) : Type := (⟨s, e⟩ : BufTy).Contents (Elt F)

/-! ## The operations, part by part -/

/-- The operations of one part: gnn of the molecules and its graph vector. -/
def r1 : List (HloOp τ sig (Elt F)) :=
  [(StableHlo.unary main_arg1 main_v0 (uitofp .f32 : X F S4096x32x32 .i1 → X F S4096x32x32 .f32)),
   (StableHlo.binary main_arg0 main_arg9 main_v1 ((fun l r => Host.dotGeneral dot_S4096x32x64_S64x128_S4096x32x128_2_0_01_1_n_n none l r) :
     X F S4096x32x64 .f32 → X F S64x128 .f32 → X F S4096x32x128 .f32)),
   (StableHlo.nullary main_call0_cst (constant S_ .f32 0x00000000#32)),
   (StableHlo.unary main_call0_cst main_call0_v0 ((broadcastInDim S4096x32x128 ![] bcast_S_S4096x32x128) : X F S_ .f32 →
     X F S4096x32x128 .f32)),
   (StableHlo.binary main_v1 main_call0_v0 main_v2 (maximumf : X F S4096x32x128 .f32 → X F S4096x32x128 .f32 → X F S4096x32x128 .f32)),
   (StableHlo.binary main_v2 main_arg10 main_v3 ((fun l r => Host.dotGeneral dot_S4096x32x128_S128x128_S4096x32x128_2_0_01_1_n_n none l r) :
     X F S4096x32x128 .f32 → X F S128x128 .f32 → X F S4096x32x128 .f32)),
   (StableHlo.binary main_v0 main_v3 main_v4 ((fun l r => Host.dotGeneral dot_S4096x32x32_S4096x32x128_S4096x32x128_2_1_1_2_0_0 none l r) :
     X F S4096x32x32 .f32 → X F S4096x32x128 .f32 → X F S4096x32x128 .f32)),
   (StableHlo.binary main_v2 main_v4 main_v5 (addf : X F S4096x32x128 .f32 → X F S4096x32x128 .f32
     → X F S4096x32x128 .f32)),
   (StableHlo.nullary main_call1_cst (constant S_ .f32 0x00000000#32)),
   (StableHlo.unary main_call1_cst main_call1_v0 ((broadcastInDim S4096x32x128 ![] bcast_S_S4096x32x128) : X F S_ .f32 →
     X F S4096x32x128 .f32)),
   (StableHlo.binary main_v5 main_call1_v0 main_v6 (maximumf : X F S4096x32x128 .f32 → X F S4096x32x128 .f32 → X F S4096x32x128 .f32)),
   (StableHlo.nullary main_cst (constant S_ .f32 0x00000000#32)),
   (StableHlo.binary main_v6 main_cst main_v7 ((fun x v => Host.reduceAdd x v reducesTo_S4096x32x128_S4096x128_d1 h_S_) : X F S4096x32x128 .f32 → X F S_ .f32 → X F S4096x128 .f32)),
   (StableHlo.binary main_v7 main_arg11 main_v8 ((fun l r => Host.dotGeneral dot_S4096x128_S128x128_S4096x128_1_0_0_1_n_n none l r) : X F S4096x128 .f32 → X F S128x128 .f32 → X F S4096x128 .f32)),
   (StableHlo.binary main_v8 main_arg2 main_v9 ((fun a b => concatenate S4096x144 1 [⟨S4096x128, a⟩, ⟨S4096x16, b⟩]
     concatenates_S4096x128_S4096x16_S4096x144_d1) : X F S4096x128 .f32 → X F S4096x16 .f32 →
     X F S4096x144 .f32)),
   (StableHlo.binary main_v9 main_arg12 main_v10 ((fun l r => Host.dotGeneral dot_S4096x144_S144x128_S4096x128_1_0_0_1_n_n none l r) : X F S4096x144 .f32 → X F S144x128 .f32 → X F S4096x128 .f32)),
   (StableHlo.nullary main_call2_cst (constant S_ .f32 0x00000000#32)),
   (StableHlo.unary main_call2_cst main_call2_v0 ((broadcastInDim S4096x128 ![] bcast_S_S4096x128) : X F S_ .f32 →
     X F S4096x128 .f32)),
   (StableHlo.binary main_v10 main_call2_v0 main_v11 (maximumf : X F S4096x128 .f32 → X F S4096x128 .f32 → X F S4096x128 .f32))]

/-- The operations of one part: the termination loss. -/
def r2 : List (HloOp τ sig (Elt F)) :=
  [(StableHlo.nullary main_c (constantI S_ 32 4294967295#32)),
   (StableHlo.unary main_c main_v12 (broadcastInDim S4096 ![] bcast_S_S4096 : X F S_ .i32 → X F S4096 .i32)),
   (StableHlo.binary main_arg3 main_v12 main_v13 (cmpi .eq : X F S4096 .i32 → X F S4096 .i32 →
     X F S4096 .i1)),
   (StableHlo.unary main_v13 main_v14 (uitofp .f32 : X F S4096 .i1 → X F S4096 .f32)),
   (StableHlo.binary main_v11 main_arg13 main_v15 ((fun l r => Host.dotGeneral dot_S4096x128_S128_S4096_1_0_0_n_n_n none l r) : X F S4096x128 .f32 → X F S128 .f32 → X F S4096 .f32)),
   (StableHlo.unary main_arg14 main_v16 (broadcastInDim S4096 ![] bcast_S_S4096 : X F S_ .f32 → X F S4096 .f32)),
   (StableHlo.binary main_v15 main_v16 main_v17 (addf : X F S4096 .f32 → X F S4096 .f32 → X F S4096 .f32)),
   (StableHlo.unary main_v17 main_v18 (Host.negf : X F S4096 .f32 → X F S4096 .f32)),
   (StableHlo.unary main_v18 main_v19 (Host.exp : X F S4096 .f32 → X F S4096 .f32)),
   (StableHlo.nullary main_cst_0 (constant S_ .f32 0x3F800000#32)),
   (StableHlo.unary main_cst_0 main_v20 (broadcastInDim S4096 ![] bcast_S_S4096 : X F S_ .f32 → X F S4096 .f32)),
   (StableHlo.binary main_v20 main_v19 main_v21 (addf : X F S4096 .f32 → X F S4096 .f32 → X F S4096 .f32)),
   (StableHlo.nullary main_cst_1 (constant S_ .f32 0x3F800000#32)),
   (StableHlo.unary main_cst_1 main_v22 (broadcastInDim S4096 ![] bcast_S_S4096 : X F S_ .f32 → X F S4096 .f32)),
   (StableHlo.binary main_v22 main_v21 main_v23 (Host.divf : X F S4096 .f32 → X F S4096 .f32 →
     X F S4096 .f32)),
   (StableHlo.nullary main_cst_2 (constant S_ .f32 0x2B8CBCCC#32)),
   (StableHlo.unary main_cst_2 main_v24 (broadcastInDim S4096 ![] bcast_S_S4096 : X F S_ .f32 → X F S4096 .f32)),
   (StableHlo.binary main_v23 main_v24 main_v25 (addf : X F S4096 .f32 → X F S4096 .f32 → X F S4096 .f32)),
   (StableHlo.unary main_v25 main_v26 (Host.log : X F S4096 .f32 → X F S4096 .f32)),
   (StableHlo.binary main_v14 main_v26 main_v27 (mulf : X F S4096 .f32 → X F S4096 .f32 → X F S4096 .f32)),
   (StableHlo.nullary main_cst_3 (constant S_ .f32 0x3F800000#32)),
   (StableHlo.unary main_cst_3 main_v28 (broadcastInDim S4096 ![] bcast_S_S4096 : X F S_ .f32 → X F S4096 .f32)),
   (StableHlo.binary main_v28 main_v14 main_v29 (subf : X F S4096 .f32 → X F S4096 .f32 → X F S4096 .f32)),
   (StableHlo.nullary main_cst_4 (constant S_ .f32 0x3F800000#32)),
   (StableHlo.unary main_cst_4 main_v30 (broadcastInDim S4096 ![] bcast_S_S4096 : X F S_ .f32 → X F S4096 .f32)),
   (StableHlo.binary main_v30 main_v23 main_v31 (subf : X F S4096 .f32 → X F S4096 .f32 → X F S4096 .f32)),
   (StableHlo.unary main_v31 main_v32 (Host.log : X F S4096 .f32 → X F S4096 .f32)),
   (StableHlo.binary main_v29 main_v32 main_v33 (mulf : X F S4096 .f32 → X F S4096 .f32 → X F S4096 .f32)),
   (StableHlo.binary main_v27 main_v33 main_v34 (addf : X F S4096 .f32 → X F S4096 .f32 → X F S4096 .f32)),
   (StableHlo.unary main_v34 main_v35 (Host.negf : X F S4096 .f32 → X F S4096 .f32)),
   (StableHlo.nullary main_cst_5 (constant S_ .f32 0x00000000#32)),
   (StableHlo.binary main_v35 main_cst_5 main_v36 ((fun x v => Host.reduceAdd x v reducesTo_S4096_S_d0 h_S_) : X F S4096 .f32 → X F S_ .f32 → X F S_ .f32)),
   (StableHlo.nullary main_cst_6 (constant S_ .f32 0x45800000#32)),
   (StableHlo.binary main_v36 main_cst_6 main_v37 (Host.divf : X F S_ .f32 → X F S_ .f32 → X F S_ .f32))]

/-- The operations of one part: the fidelity indices, no negative one left. -/
def r3 : List (HloOp τ sig (Elt F)) :=
  [(StableHlo.nullary main_c_7 (constantI S_ 32 0#32)),
   (StableHlo.unary main_c_7 main_v38 (broadcastInDim S4096 ![] bcast_S_S4096 : X F S_ .i32 → X F S4096 .i32)),
   (StableHlo.binary main_arg3 main_v38 main_v39 (cmpi .slt : X F S4096 .i32 → X F S4096 .i32 →
     X F S4096 .i1)),
   (StableHlo.nullary main_c_8 (constantI S_ 32 0#32)),
   (StableHlo.unary main_c_8 main_call3_v0 (id : X F S_ .i32 → X F S_ .i32)),
   (StableHlo.unary main_call3_v0 main_call3_v1 ((broadcastInDim S4096 ![] bcast_S_S4096) : X F S_ .i32 → X F S4096 .i32)),
   (StableHlo.ternary main_v39 main_call3_v1 main_arg3 main_v40 (select : X F S4096 .i1 → X F S4096 .i32 → X F S4096 .i32 → X F S4096 .i32))]

/-- The operations of one part: the library vectors of the fidelity indices. -/
def r4 : List (HloOp τ sig (Elt F)) :=
  [(StableHlo.nullary main_c_9 (constantI S_ 32 0#32)),
   (StableHlo.unary main_c_9 main_v41 (broadcastInDim S4096 ![] bcast_S_S4096 : X F S_ .i32 → X F S4096 .i32)),
   (StableHlo.binary main_v40 main_v41 main_v42 (cmpi .slt : X F S4096 .i32 → X F S4096 .i32 →
     X F S4096 .i1)),
   (StableHlo.nullary main_c_10 (constantI S_ 32 10000#32)),
   (StableHlo.unary main_c_10 main_v43 (broadcastInDim S4096 ![] bcast_S_S4096 : X F S_ .i32 → X F S4096 .i32)),
   (StableHlo.binary main_v40 main_v43 main_v44 (addi : X F S4096 .i32 → X F S4096 .i32 → X F S4096 .i32)),
   (StableHlo.ternary main_v42 main_v44 main_v40 main_v45 (select : X F S4096 .i1 → X F S4096 .i32
     → X F S4096 .i32 → X F S4096 .i32)),
   (StableHlo.unary main_v45 main_v46 (broadcastInDim S4096x1 ![0] bcast_S4096_S4096x1_0 : X F S4096 .i32 → X F S4096x1 .i32)),
   (StableHlo.binary main_arg7 main_v46 main_v47 ((fun x i => Host.gather gather_S10000x16x64_S4096x1_S4096x16x64_12_0_n_n_0_1_11664 x i) :
     X F S10000x16x64 .f32 → X F S4096x1 .i32 → X F S4096x16x64 .f32)),
   (StableHlo.nullary main_c_11 (constantI S_ 32 0#32)),
   (StableHlo.unary main_c_11 main_v48 (broadcastInDim S4096 ![] bcast_S_S4096 : X F S_ .i32 → X F S4096 .i32)),
   (StableHlo.binary main_v40 main_v48 main_v49 (cmpi .slt : X F S4096 .i32 → X F S4096 .i32 →
     X F S4096 .i1)),
   (StableHlo.nullary main_c_12 (constantI S_ 32 10000#32)),
   (StableHlo.unary main_c_12 main_v50 (broadcastInDim S4096 ![] bcast_S_S4096 : X F S_ .i32 → X F S4096 .i32)),
   (StableHlo.binary main_v40 main_v50 main_v51 (addi : X F S4096 .i32 → X F S4096 .i32 → X F S4096 .i32)),
   (StableHlo.ternary main_v49 main_v51 main_v40 main_v52 (select : X F S4096 .i1 → X F S4096 .i32
     → X F S4096 .i32 → X F S4096 .i32)),
   (StableHlo.unary main_v52 main_v53 (broadcastInDim S4096x1 ![0] bcast_S4096_S4096x1_0 : X F S4096 .i32 → X F S4096x1 .i32)),
   (StableHlo.binary main_arg8 main_v53 main_v54 ((fun x i => Host.gather gather_S10000x16x16_S4096x1_S4096x16x16_12_0_n_n_0_1_11616 x i) :
     X F S10000x16x16 .i1 → X F S4096x1 .i32 → X F S4096x16x16 .i1)),
   (StableHlo.unary main_v54 main_v55 (uitofp .f32 : X F S4096x16x16 .i1 → X F S4096x16x16 .f32)),
   (StableHlo.binary main_v47 main_arg15 main_v56 ((fun l r => Host.dotGeneral dot_S4096x16x64_S64x128_S4096x16x128_2_0_01_1_n_n none l r) :
     X F S4096x16x64 .f32 → X F S64x128 .f32 → X F S4096x16x128 .f32)),
   (StableHlo.nullary main_call4_cst (constant S_ .f32 0x00000000#32)),
   (StableHlo.unary main_call4_cst main_call4_v0 ((broadcastInDim S4096x16x128 ![] bcast_S_S4096x16x128) : X F S_ .f32 →
     X F S4096x16x128 .f32)),
   (StableHlo.binary main_v56 main_call4_v0 main_v57 (maximumf : X F S4096x16x128 .f32 → X F S4096x16x128 .f32 → X F S4096x16x128 .f32)),
   (StableHlo.binary main_v57 main_arg16 main_v58 ((fun l r => Host.dotGeneral dot_S4096x16x128_S128x128_S4096x16x128_2_0_01_1_n_n none l r) :
     X F S4096x16x128 .f32 → X F S128x128 .f32 → X F S4096x16x128 .f32)),
   (StableHlo.binary main_v55 main_v58 main_v59 ((fun l r => Host.dotGeneral dot_S4096x16x16_S4096x16x128_S4096x16x128_2_1_1_2_0_0 none l r) :
     X F S4096x16x16 .f32 → X F S4096x16x128 .f32 → X F S4096x16x128 .f32)),
   (StableHlo.binary main_v57 main_v59 main_v60 (addf : X F S4096x16x128 .f32 → X F S4096x16x128 .f32 → X F S4096x16x128 .f32)),
   (StableHlo.nullary main_call5_cst (constant S_ .f32 0x00000000#32)),
   (StableHlo.unary main_call5_cst main_call5_v0 ((broadcastInDim S4096x16x128 ![] bcast_S_S4096x16x128) : X F S_ .f32 →
     X F S4096x16x128 .f32)),
   (StableHlo.binary main_v60 main_call5_v0 main_v61 (maximumf : X F S4096x16x128 .f32 → X F S4096x16x128 .f32 → X F S4096x16x128 .f32)),
   (StableHlo.nullary main_cst_13 (constant S_ .f32 0x00000000#32)),
   (StableHlo.binary main_v61 main_cst_13 main_v62 ((fun x v => Host.reduceAdd x v reducesTo_S4096x16x128_S4096x128_d1 h_S_) : X F S4096x16x128 .f32 → X F S_ .f32 → X F S4096x128 .f32)),
   (StableHlo.binary main_v62 main_arg17 main_v63 ((fun l r => Host.dotGeneral dot_S4096x128_S128x128_S4096x128_1_0_0_1_n_n none l r) : X F S4096x128 .f32 → X F S128x128 .f32 → X F S4096x128 .f32)),
   (StableHlo.nullary main_call6_cst (constant S_ .f32 0x00000000#32)),
   (StableHlo.unary main_call6_cst main_call6_v0 ((broadcastInDim S4096x128 ![] bcast_S_S4096x128) : X F S_ .f32 →
     X F S4096x128 .f32)),
   (StableHlo.binary main_v63 main_call6_v0 main_v64 (maximumf : X F S4096x128 .f32 → X F S4096x128 .f32 → X F S4096x128 .f32))]

/-- The operations of one part: the positive fidelity loss. -/
def r5 : List (HloOp τ sig (Elt F)) :=
  [(StableHlo.binary main_v11 main_v64 main_v65 (mulf : X F S4096x128 .f32 → X F S4096x128 .f32 →
     X F S4096x128 .f32)),
   (StableHlo.nullary main_cst_14 (constant S_ .f32 0x00000000#32)),
   (StableHlo.binary main_v65 main_cst_14 main_v66 ((fun x v => Host.reduceAdd x v reducesTo_S4096x128_S4096_d1 h_S_) : X F S4096x128 .f32 → X F S_ .f32 → X F S4096 .f32)),
   (StableHlo.unary main_v66 main_v67 (Host.negf : X F S4096 .f32 → X F S4096 .f32)),
   (StableHlo.unary main_v67 main_v68 (Host.exp : X F S4096 .f32 → X F S4096 .f32)),
   (StableHlo.nullary main_cst_15 (constant S_ .f32 0x3F800000#32)),
   (StableHlo.unary main_cst_15 main_v69 (broadcastInDim S4096 ![] bcast_S_S4096 : X F S_ .f32 → X F S4096 .f32)),
   (StableHlo.binary main_v69 main_v68 main_v70 (addf : X F S4096 .f32 → X F S4096 .f32 → X F S4096 .f32)),
   (StableHlo.nullary main_cst_16 (constant S_ .f32 0x3F800000#32)),
   (StableHlo.unary main_cst_16 main_v71 (broadcastInDim S4096 ![] bcast_S_S4096 : X F S_ .f32 → X F S4096 .f32)),
   (StableHlo.binary main_v71 main_v70 main_v72 (Host.divf : X F S4096 .f32 → X F S4096 .f32 →
     X F S4096 .f32)),
   (StableHlo.nullary main_cst_17 (constant S_ .f32 0x2B8CBCCC#32)),
   (StableHlo.unary main_cst_17 main_v73 (broadcastInDim S4096 ![] bcast_S_S4096 : X F S_ .f32 → X F S4096 .f32)),
   (StableHlo.binary main_v72 main_v73 main_v74 (addf : X F S4096 .f32 → X F S4096 .f32 → X F S4096 .f32)),
   (StableHlo.unary main_v74 main_v75 (Host.log : X F S4096 .f32 → X F S4096 .f32)),
   (StableHlo.nullary main_cst_18 (constant S_ .f32 0x00000000#32)),
   (StableHlo.binary main_v75 main_cst_18 main_v76 ((fun x v => Host.reduceAdd x v reducesTo_S4096_S_d0 h_S_) : X F S4096 .f32 → X F S_ .f32 → X F S_ .f32)),
   (StableHlo.nullary main_cst_19 (constant S_ .f32 0x45800000#32)),
   (StableHlo.binary main_v76 main_cst_19 main_v77 (Host.divf : X F S_ .f32 → X F S_ .f32 → X F S_ .f32)),
   (StableHlo.unary main_v77 main_v78 (Host.negf : X F S_ .f32 → X F S_ .f32))]

/-- The operations of one part: the library vectors of the first sample. -/
def r6 : List (HloOp τ sig (Elt F)) :=
  [(StableHlo.nullary main_c_20 (constantI S_ 32 0#32)),
   (StableHlo.unary main_c_20 main_v79 (broadcastInDim S4096 ![] bcast_S_S4096 : X F S_ .i32 → X F S4096 .i32)),
   (StableHlo.binary main_arg5 main_v79 main_v80 (cmpi .slt : X F S4096 .i32 → X F S4096 .i32 →
     X F S4096 .i1)),
   (StableHlo.nullary main_c_21 (constantI S_ 32 10000#32)),
   (StableHlo.unary main_c_21 main_v81 (broadcastInDim S4096 ![] bcast_S_S4096 : X F S_ .i32 → X F S4096 .i32)),
   (StableHlo.binary main_arg5 main_v81 main_v82 (addi : X F S4096 .i32 → X F S4096 .i32 →
     X F S4096 .i32)),
   (StableHlo.ternary main_v80 main_v82 main_arg5 main_v83 (select : X F S4096 .i1 → X F S4096 .i32 → X F S4096 .i32 → X F S4096 .i32)),
   (StableHlo.unary main_v83 main_v84 (broadcastInDim S4096x1 ![0] bcast_S4096_S4096x1_0 : X F S4096 .i32 → X F S4096x1 .i32)),
   (StableHlo.binary main_arg7 main_v84 main_v85 ((fun x i => Host.gather gather_S10000x16x64_S4096x1_S4096x16x64_12_0_n_n_0_1_11664 x i) :
     X F S10000x16x64 .f32 → X F S4096x1 .i32 → X F S4096x16x64 .f32)),
   (StableHlo.nullary main_c_22 (constantI S_ 32 0#32)),
   (StableHlo.unary main_c_22 main_v86 (broadcastInDim S4096 ![] bcast_S_S4096 : X F S_ .i32 → X F S4096 .i32)),
   (StableHlo.binary main_arg5 main_v86 main_v87 (cmpi .slt : X F S4096 .i32 → X F S4096 .i32 →
     X F S4096 .i1)),
   (StableHlo.nullary main_c_23 (constantI S_ 32 10000#32)),
   (StableHlo.unary main_c_23 main_v88 (broadcastInDim S4096 ![] bcast_S_S4096 : X F S_ .i32 → X F S4096 .i32)),
   (StableHlo.binary main_arg5 main_v88 main_v89 (addi : X F S4096 .i32 → X F S4096 .i32 →
     X F S4096 .i32)),
   (StableHlo.ternary main_v87 main_v89 main_arg5 main_v90 (select : X F S4096 .i1 → X F S4096 .i32 → X F S4096 .i32 → X F S4096 .i32)),
   (StableHlo.unary main_v90 main_v91 (broadcastInDim S4096x1 ![0] bcast_S4096_S4096x1_0 : X F S4096 .i32 → X F S4096x1 .i32)),
   (StableHlo.binary main_arg8 main_v91 main_v92 ((fun x i => Host.gather gather_S10000x16x16_S4096x1_S4096x16x16_12_0_n_n_0_1_11616 x i) :
     X F S10000x16x16 .i1 → X F S4096x1 .i32 → X F S4096x16x16 .i1)),
   (StableHlo.unary main_v92 main_v93 (uitofp .f32 : X F S4096x16x16 .i1 → X F S4096x16x16 .f32)),
   (StableHlo.binary main_v85 main_arg15 main_v94 ((fun l r => Host.dotGeneral dot_S4096x16x64_S64x128_S4096x16x128_2_0_01_1_n_n none l r) :
     X F S4096x16x64 .f32 → X F S64x128 .f32 → X F S4096x16x128 .f32)),
   (StableHlo.nullary main_call7_cst (constant S_ .f32 0x00000000#32)),
   (StableHlo.unary main_call7_cst main_call7_v0 ((broadcastInDim S4096x16x128 ![] bcast_S_S4096x16x128) : X F S_ .f32 →
     X F S4096x16x128 .f32)),
   (StableHlo.binary main_v94 main_call7_v0 main_v95 (maximumf : X F S4096x16x128 .f32 → X F S4096x16x128 .f32 → X F S4096x16x128 .f32)),
   (StableHlo.binary main_v95 main_arg16 main_v96 ((fun l r => Host.dotGeneral dot_S4096x16x128_S128x128_S4096x16x128_2_0_01_1_n_n none l r) :
     X F S4096x16x128 .f32 → X F S128x128 .f32 → X F S4096x16x128 .f32)),
   (StableHlo.binary main_v93 main_v96 main_v97 ((fun l r => Host.dotGeneral dot_S4096x16x16_S4096x16x128_S4096x16x128_2_1_1_2_0_0 none l r) :
     X F S4096x16x16 .f32 → X F S4096x16x128 .f32 → X F S4096x16x128 .f32)),
   (StableHlo.binary main_v95 main_v97 main_v98 (addf : X F S4096x16x128 .f32 → X F S4096x16x128 .f32 → X F S4096x16x128 .f32)),
   (StableHlo.nullary main_call8_cst (constant S_ .f32 0x00000000#32)),
   (StableHlo.unary main_call8_cst main_call8_v0 ((broadcastInDim S4096x16x128 ![] bcast_S_S4096x16x128) : X F S_ .f32 →
     X F S4096x16x128 .f32)),
   (StableHlo.binary main_v98 main_call8_v0 main_v99 (maximumf : X F S4096x16x128 .f32 → X F S4096x16x128 .f32 → X F S4096x16x128 .f32)),
   (StableHlo.nullary main_cst_24 (constant S_ .f32 0x00000000#32)),
   (StableHlo.binary main_v99 main_cst_24 main_v100 ((fun x v => Host.reduceAdd x v reducesTo_S4096x16x128_S4096x128_d1 h_S_) : X F S4096x16x128 .f32 → X F S_ .f32 → X F S4096x128 .f32)),
   (StableHlo.binary main_v100 main_arg17 main_v101 ((fun l r => Host.dotGeneral dot_S4096x128_S128x128_S4096x128_1_0_0_1_n_n none l r) : X F S4096x128 .f32 → X F S128x128 .f32 → X F S4096x128 .f32)),
   (StableHlo.nullary main_call9_cst (constant S_ .f32 0x00000000#32)),
   (StableHlo.unary main_call9_cst main_call9_v0 ((broadcastInDim S4096x128 ![] bcast_S_S4096x128) : X F S_ .f32 →
     X F S4096x128 .f32)),
   (StableHlo.binary main_v101 main_call9_v0 main_v102 (maximumf : X F S4096x128 .f32 → X F S4096x128 .f32 → X F S4096x128 .f32))]

/-- The operations of one part: its loss. -/
def r7 : List (HloOp τ sig (Elt F)) :=
  [(StableHlo.binary main_v11 main_v102 main_v103 (mulf : X F S4096x128 .f32 → X F S4096x128 .f32
     → X F S4096x128 .f32)),
   (StableHlo.nullary main_cst_25 (constant S_ .f32 0x00000000#32)),
   (StableHlo.binary main_v103 main_cst_25 main_v104 ((fun x v => Host.reduceAdd x v reducesTo_S4096x128_S4096_d1 h_S_) : X F S4096x128 .f32 → X F S_ .f32 → X F S4096 .f32)),
   (StableHlo.unary main_v104 main_v105 (Host.negf : X F S4096 .f32 → X F S4096 .f32)),
   (StableHlo.unary main_v105 main_v106 (Host.exp : X F S4096 .f32 → X F S4096 .f32)),
   (StableHlo.nullary main_cst_26 (constant S_ .f32 0x3F800000#32)),
   (StableHlo.unary main_cst_26 main_v107 (broadcastInDim S4096 ![] bcast_S_S4096 : X F S_ .f32 → X F S4096 .f32)),
   (StableHlo.binary main_v107 main_v106 main_v108 (addf : X F S4096 .f32 → X F S4096 .f32 →
     X F S4096 .f32)),
   (StableHlo.nullary main_cst_27 (constant S_ .f32 0x3F800000#32)),
   (StableHlo.unary main_cst_27 main_v109 (broadcastInDim S4096 ![] bcast_S_S4096 : X F S_ .f32 → X F S4096 .f32)),
   (StableHlo.binary main_v109 main_v108 main_v110 (Host.divf : X F S4096 .f32 → X F S4096 .f32 →
     X F S4096 .f32)),
   (StableHlo.nullary main_cst_28 (constant S_ .f32 0x3F800000#32)),
   (StableHlo.unary main_cst_28 main_v111 (broadcastInDim S4096 ![] bcast_S_S4096 : X F S_ .f32 → X F S4096 .f32)),
   (StableHlo.binary main_v111 main_v110 main_v112 (subf : X F S4096 .f32 → X F S4096 .f32 →
     X F S4096 .f32)),
   (StableHlo.unary main_v112 main_v113 (Host.log : X F S4096 .f32 → X F S4096 .f32)),
   (StableHlo.nullary main_cst_29 (constant S_ .f32 0x00000000#32)),
   (StableHlo.binary main_v113 main_cst_29 main_v114 ((fun x v => Host.reduceAdd x v reducesTo_S4096_S_d0 h_S_) : X F S4096 .f32 → X F S_ .f32 → X F S_ .f32)),
   (StableHlo.nullary main_cst_30 (constant S_ .f32 0x45800000#32)),
   (StableHlo.binary main_v114 main_cst_30 main_v115 (Host.divf : X F S_ .f32 → X F S_ .f32 →
     X F S_ .f32)),
   (StableHlo.unary main_v115 main_v116 (Host.negf : X F S_ .f32 → X F S_ .f32)),
   (StableHlo.nullary main_cst_31 (constant S_ .f32 0x00000000#32)),
   (StableHlo.binary main_cst_31 main_v116 main_v117 (addf : X F S_ .f32 → X F S_ .f32 → X F S_ .f32))]

/-- The operations of one part: the library vectors of the second sample. -/
def r8 : List (HloOp τ sig (Elt F)) :=
  [(StableHlo.nullary main_c_32 (constantI S_ 32 0#32)),
   (StableHlo.unary main_c_32 main_v118 (broadcastInDim S4096 ![] bcast_S_S4096 : X F S_ .i32 → X F S4096 .i32)),
   (StableHlo.binary main_arg6 main_v118 main_v119 (cmpi .slt : X F S4096 .i32 → X F S4096 .i32 →
     X F S4096 .i1)),
   (StableHlo.nullary main_c_33 (constantI S_ 32 10000#32)),
   (StableHlo.unary main_c_33 main_v120 (broadcastInDim S4096 ![] bcast_S_S4096 : X F S_ .i32 → X F S4096 .i32)),
   (StableHlo.binary main_arg6 main_v120 main_v121 (addi : X F S4096 .i32 → X F S4096 .i32 →
     X F S4096 .i32)),
   (StableHlo.ternary main_v119 main_v121 main_arg6 main_v122 (select : X F S4096 .i1 → X F S4096 .i32 → X F S4096 .i32 → X F S4096 .i32)),
   (StableHlo.unary main_v122 main_v123 (broadcastInDim S4096x1 ![0] bcast_S4096_S4096x1_0 : X F S4096 .i32 → X F S4096x1 .i32)),
   (StableHlo.binary main_arg7 main_v123 main_v124 ((fun x i => Host.gather gather_S10000x16x64_S4096x1_S4096x16x64_12_0_n_n_0_1_11664 x i) :
     X F S10000x16x64 .f32 → X F S4096x1 .i32 → X F S4096x16x64 .f32)),
   (StableHlo.nullary main_c_34 (constantI S_ 32 0#32)),
   (StableHlo.unary main_c_34 main_v125 (broadcastInDim S4096 ![] bcast_S_S4096 : X F S_ .i32 → X F S4096 .i32)),
   (StableHlo.binary main_arg6 main_v125 main_v126 (cmpi .slt : X F S4096 .i32 → X F S4096 .i32 →
     X F S4096 .i1)),
   (StableHlo.nullary main_c_35 (constantI S_ 32 10000#32)),
   (StableHlo.unary main_c_35 main_v127 (broadcastInDim S4096 ![] bcast_S_S4096 : X F S_ .i32 → X F S4096 .i32)),
   (StableHlo.binary main_arg6 main_v127 main_v128 (addi : X F S4096 .i32 → X F S4096 .i32 →
     X F S4096 .i32)),
   (StableHlo.ternary main_v126 main_v128 main_arg6 main_v129 (select : X F S4096 .i1 → X F S4096 .i32 → X F S4096 .i32 → X F S4096 .i32)),
   (StableHlo.unary main_v129 main_v130 (broadcastInDim S4096x1 ![0] bcast_S4096_S4096x1_0 : X F S4096 .i32 → X F S4096x1 .i32)),
   (StableHlo.binary main_arg8 main_v130 main_v131 ((fun x i => Host.gather gather_S10000x16x16_S4096x1_S4096x16x16_12_0_n_n_0_1_11616 x i) :
     X F S10000x16x16 .i1 → X F S4096x1 .i32 → X F S4096x16x16 .i1)),
   (StableHlo.unary main_v131 main_v132 (uitofp .f32 : X F S4096x16x16 .i1 → X F S4096x16x16 .f32)),
   (StableHlo.binary main_v124 main_arg15 main_v133 ((fun l r => Host.dotGeneral dot_S4096x16x64_S64x128_S4096x16x128_2_0_01_1_n_n none l r) :
     X F S4096x16x64 .f32 → X F S64x128 .f32 → X F S4096x16x128 .f32)),
   (StableHlo.nullary main_call10_cst (constant S_ .f32 0x00000000#32)),
   (StableHlo.unary main_call10_cst main_call10_v0 ((broadcastInDim S4096x16x128 ![] bcast_S_S4096x16x128) : X F S_ .f32 →
     X F S4096x16x128 .f32)),
   (StableHlo.binary main_v133 main_call10_v0 main_v134 (maximumf : X F S4096x16x128 .f32 → X F S4096x16x128 .f32 → X F S4096x16x128 .f32)),
   (StableHlo.binary main_v134 main_arg16 main_v135 ((fun l r => Host.dotGeneral dot_S4096x16x128_S128x128_S4096x16x128_2_0_01_1_n_n none l r) :
     X F S4096x16x128 .f32 → X F S128x128 .f32 → X F S4096x16x128 .f32)),
   (StableHlo.binary main_v132 main_v135 main_v136 ((fun l r => Host.dotGeneral dot_S4096x16x16_S4096x16x128_S4096x16x128_2_1_1_2_0_0 none l r) :
     X F S4096x16x16 .f32 → X F S4096x16x128 .f32 → X F S4096x16x128 .f32)),
   (StableHlo.binary main_v134 main_v136 main_v137 (addf : X F S4096x16x128 .f32 → X F S4096x16x128 .f32 → X F S4096x16x128 .f32)),
   (StableHlo.nullary main_call11_cst (constant S_ .f32 0x00000000#32)),
   (StableHlo.unary main_call11_cst main_call11_v0 ((broadcastInDim S4096x16x128 ![] bcast_S_S4096x16x128) : X F S_ .f32 →
     X F S4096x16x128 .f32)),
   (StableHlo.binary main_v137 main_call11_v0 main_v138 (maximumf : X F S4096x16x128 .f32 → X F S4096x16x128 .f32 → X F S4096x16x128 .f32)),
   (StableHlo.nullary main_cst_36 (constant S_ .f32 0x00000000#32)),
   (StableHlo.binary main_v138 main_cst_36 main_v139 ((fun x v => Host.reduceAdd x v reducesTo_S4096x16x128_S4096x128_d1 h_S_) : X F S4096x16x128 .f32 → X F S_ .f32 → X F S4096x128 .f32)),
   (StableHlo.binary main_v139 main_arg17 main_v140 ((fun l r => Host.dotGeneral dot_S4096x128_S128x128_S4096x128_1_0_0_1_n_n none l r) : X F S4096x128 .f32 → X F S128x128 .f32 → X F S4096x128 .f32)),
   (StableHlo.nullary main_call12_cst (constant S_ .f32 0x00000000#32)),
   (StableHlo.unary main_call12_cst main_call12_v0 ((broadcastInDim S4096x128 ![] bcast_S_S4096x128) : X F S_ .f32 →
     X F S4096x128 .f32)),
   (StableHlo.binary main_v140 main_call12_v0 main_v141 (maximumf : X F S4096x128 .f32 → X F S4096x128 .f32 → X F S4096x128 .f32))]

/-- The operations of one part: the negative fidelity loss. -/
def r9 : List (HloOp τ sig (Elt F)) :=
  [(StableHlo.binary main_v11 main_v141 main_v142 (mulf : X F S4096x128 .f32 → X F S4096x128 .f32
     → X F S4096x128 .f32)),
   (StableHlo.nullary main_cst_37 (constant S_ .f32 0x00000000#32)),
   (StableHlo.binary main_v142 main_cst_37 main_v143 ((fun x v => Host.reduceAdd x v reducesTo_S4096x128_S4096_d1 h_S_) : X F S4096x128 .f32 → X F S_ .f32 → X F S4096 .f32)),
   (StableHlo.unary main_v143 main_v144 (Host.negf : X F S4096 .f32 → X F S4096 .f32)),
   (StableHlo.unary main_v144 main_v145 (Host.exp : X F S4096 .f32 → X F S4096 .f32)),
   (StableHlo.nullary main_cst_38 (constant S_ .f32 0x3F800000#32)),
   (StableHlo.unary main_cst_38 main_v146 (broadcastInDim S4096 ![] bcast_S_S4096 : X F S_ .f32 → X F S4096 .f32)),
   (StableHlo.binary main_v146 main_v145 main_v147 (addf : X F S4096 .f32 → X F S4096 .f32 →
     X F S4096 .f32)),
   (StableHlo.nullary main_cst_39 (constant S_ .f32 0x3F800000#32)),
   (StableHlo.unary main_cst_39 main_v148 (broadcastInDim S4096 ![] bcast_S_S4096 : X F S_ .f32 → X F S4096 .f32)),
   (StableHlo.binary main_v148 main_v147 main_v149 (Host.divf : X F S4096 .f32 → X F S4096 .f32 →
     X F S4096 .f32)),
   (StableHlo.nullary main_cst_40 (constant S_ .f32 0x3F800000#32)),
   (StableHlo.unary main_cst_40 main_v150 (broadcastInDim S4096 ![] bcast_S_S4096 : X F S_ .f32 → X F S4096 .f32)),
   (StableHlo.binary main_v150 main_v149 main_v151 (subf : X F S4096 .f32 → X F S4096 .f32 →
     X F S4096 .f32)),
   (StableHlo.unary main_v151 main_v152 (Host.log : X F S4096 .f32 → X F S4096 .f32)),
   (StableHlo.nullary main_cst_41 (constant S_ .f32 0x00000000#32)),
   (StableHlo.binary main_v152 main_cst_41 main_v153 ((fun x v => Host.reduceAdd x v reducesTo_S4096_S_d0 h_S_) : X F S4096 .f32 → X F S_ .f32 → X F S_ .f32)),
   (StableHlo.nullary main_cst_42 (constant S_ .f32 0x45800000#32)),
   (StableHlo.binary main_v153 main_cst_42 main_v154 (Host.divf : X F S_ .f32 → X F S_ .f32 →
     X F S_ .f32)),
   (StableHlo.unary main_v154 main_v155 (Host.negf : X F S_ .f32 → X F S_ .f32)),
   (StableHlo.binary main_v117 main_v155 main_v156 (addf : X F S_ .f32 → X F S_ .f32 → X F S_ .f32)),
   (StableHlo.nullary main_cst_43 (constant S_ .f32 0x40000000#32)),
   (StableHlo.binary main_v156 main_cst_43 main_v157 (Host.divf : X F S_ .f32 → X F S_ .f32 →
     X F S_ .f32))]

/-- The operations of one part: the index logits. -/
def r10 : List (HloOp τ sig (Elt F)) :=
  [(StableHlo.unary main_arg1 main_v158 (uitofp .f32 : X F S4096x32x32 .i1 → X F S4096x32x32 .f32)),
   (StableHlo.binary main_v6 main_arg18 main_v159 ((fun l r => Host.dotGeneral dot_S4096x32x128_S128x128_S4096x32x128_2_0_01_1_n_n none l r) :
     X F S4096x32x128 .f32 → X F S128x128 .f32 → X F S4096x32x128 .f32)),
   (StableHlo.binary main_v158 main_v159 main_v160 ((fun l r => Host.dotGeneral dot_S4096x32x32_S4096x32x128_S4096x32x128_2_1_1_2_0_0 none l r) :
     X F S4096x32x32 .f32 → X F S4096x32x128 .f32 → X F S4096x32x128 .f32)),
   (StableHlo.nullary main_call13_cst (constant S_ .f32 0x00000000#32)),
   (StableHlo.unary main_call13_cst main_call13_v0 ((broadcastInDim S4096x32x128 ![] bcast_S_S4096x32x128) : X F S_ .f32 →
     X F S4096x32x128 .f32)),
   (StableHlo.binary main_v160 main_call13_v0 main_v161 (maximumf : X F S4096x32x128 .f32 → X F S4096x32x128 .f32 → X F S4096x32x128 .f32)),
   (StableHlo.nary ![main_v11, main_v64, main_arg2] main_v162 (fun u => (concatenate S4096x272 1 [⟨S4096x128, (u 0 : X F S4096x128 .f32)⟩, ⟨S4096x128, (u 1 : X F S4096x128 .f32)⟩, ⟨S4096x16, (u 2 : X F S4096x16 .f32)⟩] concatenates_S4096x128_S4096x128_S4096x16_S4096x272_d1 : X F S4096x272 .f32))),
   (StableHlo.unary main_v162 main_v163 (broadcastInDim S4096x1x272 ![0, 2] bcast_S4096x272_S4096x1x272_0_2 : X F S4096x272 .f32 → X F S4096x1x272 .f32)),
   (StableHlo.unary main_v163 main_v164 (broadcastInDim S4096x32x272 ![0, 1, 2] bcast_S4096x1x272_S4096x32x272_0_1_2 : X F S4096x1x272 .f32 → X F S4096x32x272 .f32)),
   (StableHlo.binary main_v161 main_v164 main_v165 ((fun a b => concatenate S4096x32x400 2 [⟨S4096x32x128, a⟩, ⟨S4096x32x272, b⟩]
     concatenates_S4096x32x128_S4096x32x272_S4096x32x400_d2) : X F S4096x32x128 .f32 → X F S4096x32x272 .f32 → X F S4096x32x400 .f32)),
   (StableHlo.binary main_v165 main_arg19 main_v166 ((fun l r => Host.dotGeneral dot_S4096x32x400_S400x128_S4096x32x128_2_0_01_1_n_n none l r) :
     X F S4096x32x400 .f32 → X F S400x128 .f32 → X F S4096x32x128 .f32)),
   (StableHlo.nullary main_call14_cst (constant S_ .f32 0x00000000#32)),
   (StableHlo.unary main_call14_cst main_call14_v0 ((broadcastInDim S4096x32x128 ![] bcast_S_S4096x32x128) : X F S_ .f32 →
     X F S4096x32x128 .f32)),
   (StableHlo.binary main_v166 main_call14_v0 main_v167 (maximumf : X F S4096x32x128 .f32 → X F S4096x32x128 .f32 → X F S4096x32x128 .f32)),
   (StableHlo.binary main_v167 main_arg20 main_v168 ((fun l r => Host.dotGeneral dot_S4096x32x128_S128_S4096x32_2_0_01_n_n_n none l r) :
     X F S4096x32x128 .f32 → X F S128 .f32 → X F S4096x32 .f32))]

/-- The operations of one part: the index loss. -/
def r11 : List (HloOp τ sig (Elt F)) :=
  [(StableHlo.nullary main_call15_cst (constant S_ .f32 0xFF800000#32)),
   (StableHlo.binary main_v168 main_call15_cst main_call15_v0 ((fun x v => Host.reduce FloatOps.maximumf x v reducesTo_S4096x32_S4096_d1 h_S_) :
     X F S4096x32 .f32 → X F S_ .f32 → X F S4096 .f32)),
   (StableHlo.nullary main_call15_cst_0 (constant S_ .f32 0xFF800000#32)),
   (StableHlo.unary main_call15_cst_0 main_call15_v1 ((broadcastInDim S4096 ![] bcast_S_S4096) : X F S_ .f32 → X F S4096 .f32)),
   (StableHlo.binary main_call15_v1 main_call15_v0 main_call15_v2 (maximumf : X F S4096 .f32 → X F S4096 .f32 → X F S4096 .f32)),
   (StableHlo.unary main_call15_v2 main_call15_v3 ((broadcastInDim S4096x1 ![0] bcast_S4096_S4096x1_0) : X F S4096 .f32 →
     X F S4096x1 .f32)),
   (StableHlo.unary main_call15_v3 main_call15_v4 ((broadcastInDim S4096x32 ![0, 1] bcast_S4096x1_S4096x32_0_1) : X F S4096x1 .f32 → X F S4096x32 .f32)),
   (StableHlo.binary main_v168 main_call15_v4 main_call15_v5 (subf : X F S4096x32 .f32 → X F S4096x32 .f32 → X F S4096x32 .f32)),
   (StableHlo.unary main_call15_v5 main_call15_v6 (Host.exp : X F S4096x32 .f32 → X F S4096x32 .f32)),
   (StableHlo.nullary main_call15_cst_1 (constant S_ .f32 0x00000000#32)),
   (StableHlo.binary main_call15_v6 main_call15_cst_1 main_call15_v7 ((fun x v => Host.reduceAdd x v reducesTo_S4096x32_S4096_d1 h_S_) : X F S4096x32 .f32 → X F S_ .f32 → X F S4096 .f32)),
   (StableHlo.unary main_call15_v7 main_call15_v8 ((broadcastInDim S4096x1 ![0] bcast_S4096_S4096x1_0) : X F S4096 .f32 →
     X F S4096x1 .f32)),
   (StableHlo.unary main_call15_v8 main_call15_v9 (Host.log : X F S4096x1 .f32 → X F S4096x1 .f32)),
   (StableHlo.unary main_call15_v9 main_call15_v10 ((broadcastInDim S4096x32 ![0, 1] bcast_S4096x1_S4096x32_0_1) : X F S4096x1 .f32 → X F S4096x32 .f32)),
   (StableHlo.binary main_call15_v5 main_call15_v10 main_v169 (subf : X F S4096x32 .f32 → X F S4096x32 .f32 → X F S4096x32 .f32)),
   (StableHlo.nullary main_v170 (iotaInDim S4096 32 0)),
   (StableHlo.nullary main_c_44 (constantI S_ 32 0#32)),
   (StableHlo.unary main_c_44 main_v171 (broadcastInDim S4096 ![] bcast_S_S4096 : X F S_ .i32 → X F S4096 .i32)),
   (StableHlo.binary main_v170 main_v171 main_v172 (cmpi .slt : X F S4096 .i32 → X F S4096 .i32 →
     X F S4096 .i1)),
   (StableHlo.nullary main_c_45 (constantI S_ 32 4096#32)),
   (StableHlo.unary main_c_45 main_v173 (broadcastInDim S4096 ![] bcast_S_S4096 : X F S_ .i32 → X F S4096 .i32)),
   (StableHlo.binary main_v170 main_v173 main_v174 (addi : X F S4096 .i32 → X F S4096 .i32 →
     X F S4096 .i32)),
   (StableHlo.ternary main_v172 main_v174 main_v170 main_v175 (select : X F S4096 .i1 → X F S4096 .i32 → X F S4096 .i32 → X F S4096 .i32)),
   (StableHlo.nullary main_c_46 (constantI S_ 32 0#32)),
   (StableHlo.unary main_c_46 main_v176 (broadcastInDim S4096 ![] bcast_S_S4096 : X F S_ .i32 → X F S4096 .i32)),
   (StableHlo.binary main_arg4 main_v176 main_v177 (cmpi .slt : X F S4096 .i32 → X F S4096 .i32 →
     X F S4096 .i1)),
   (StableHlo.nullary main_c_47 (constantI S_ 32 32#32)),
   (StableHlo.unary main_c_47 main_v178 (broadcastInDim S4096 ![] bcast_S_S4096 : X F S_ .i32 → X F S4096 .i32)),
   (StableHlo.binary main_arg4 main_v178 main_v179 (addi : X F S4096 .i32 → X F S4096 .i32 →
     X F S4096 .i32)),
   (StableHlo.ternary main_v177 main_v179 main_arg4 main_v180 (select : X F S4096 .i1 → X F S4096 .i32 → X F S4096 .i32 → X F S4096 .i32)),
   (StableHlo.unary main_v175 main_v181 (broadcastInDim S4096x1 ![0] bcast_S4096_S4096x1_0 : X F S4096 .i32 → X F S4096x1 .i32)),
   (StableHlo.unary main_v180 main_v182 (broadcastInDim S4096x1 ![0] bcast_S4096_S4096x1_0 : X F S4096 .i32 → X F S4096x1 .i32)),
   (StableHlo.binary main_v181 main_v182 main_v183 ((fun a b => concatenate S4096x2 1 [⟨S4096x1, a⟩, ⟨S4096x1, b⟩]
     concatenates_S4096x1_S4096x1_S4096x2_d1) : X F S4096x1 .i32 → X F S4096x1 .i32 → X F S4096x2 .i32)),
   (StableHlo.binary main_v169 main_v183 main_v184 ((fun x i => Host.gather gather_S4096x32_S4096x2_S4096_n_01_n_n_01_1_11 x i) : X F S4096x32 .f32 → X F S4096x2 .i32 → X F S4096 .f32)),
   (StableHlo.nullary main_cst_48 (constant S_ .f32 0x00000000#32)),
   (StableHlo.binary main_v184 main_cst_48 main_v185 ((fun x v => Host.reduceAdd x v reducesTo_S4096_S_d0 h_S_) : X F S4096 .f32 → X F S_ .f32 → X F S_ .f32)),
   (StableHlo.nullary main_cst_49 (constant S_ .f32 0x45800000#32)),
   (StableHlo.binary main_v185 main_cst_49 main_v186 (Host.divf : X F S_ .f32 → X F S_ .f32 →
     X F S_ .f32)),
   (StableHlo.unary main_v186 main_v187 (Host.negf : X F S_ .f32 → X F S_ .f32))]

/-- The operations of one part: the four losses side by side. -/
def r12 : List (HloOp τ sig (Elt F)) :=
  [(StableHlo.unary main_v37 main_v188 (broadcastInDim S1 ![] bcast_S_S1 : X F S_ .f32 → X F S1 .f32)),
   (StableHlo.unary main_v78 main_v189 (broadcastInDim S1 ![] bcast_S_S1 : X F S_ .f32 → X F S1 .f32)),
   (StableHlo.unary main_v157 main_v190 (broadcastInDim S1 ![] bcast_S_S1 : X F S_ .f32 → X F S1 .f32)),
   (StableHlo.unary main_v187 main_v191 (broadcastInDim S1 ![] bcast_S_S1 : X F S_ .f32 → X F S1 .f32)),
   (StableHlo.nary ![main_v188, main_v189, main_v190, main_v191] main_v192 (fun u => (concatenate S4 0 [⟨S1, (u 0 : X F S1 .f32)⟩, ⟨S1, (u 1 : X F S1 .f32)⟩, ⟨S1, (u 2 : X F S1 .f32)⟩, ⟨S1, (u 3 : X F S1 .f32)⟩] concatenates_S1_S1_S1_S1_S4_d0 : X F S4 .f32)))]

/-! ## The arrays each part writes -/

abbrev wr1 : List (Ref sig .tc) :=
  [main_v0, main_v1, main_call0_cst, main_call0_v0, main_v2, main_v3, main_v4, main_v5, main_call1_cst, main_call1_v0, main_v6, main_cst, main_v7,
    main_v8, main_v9, main_v10, main_call2_cst, main_call2_v0, main_v11]
abbrev wr2 : List (Ref sig .tc) :=
  [main_c, main_v12, main_v13, main_v14, main_v15, main_v16, main_v17, main_v18, main_v19, main_cst_0, main_v20, main_v21, main_cst_1, main_v22,
    main_v23, main_cst_2, main_v24, main_v25, main_v26, main_v27, main_cst_3, main_v28, main_v29, main_cst_4, main_v30, main_v31, main_v32, main_v33,
    main_v34, main_v35, main_cst_5, main_v36, main_cst_6, main_v37]
abbrev wr3 : List (Ref sig .tc) :=
  [main_c_7, main_v38, main_v39, main_c_8, main_call3_v0, main_call3_v1, main_v40]
abbrev wr4 : List (Ref sig .tc) :=
  [main_c_9, main_v41, main_v42, main_c_10, main_v43, main_v44, main_v45, main_v46, main_v47, main_c_11, main_v48, main_v49, main_c_12, main_v50,
    main_v51, main_v52, main_v53, main_v54, main_v55, main_v56, main_call4_cst, main_call4_v0, main_v57, main_v58, main_v59, main_v60, main_call5_cst,
    main_call5_v0, main_v61, main_cst_13, main_v62, main_v63, main_call6_cst, main_call6_v0, main_v64]
abbrev wr5 : List (Ref sig .tc) :=
  [main_v65, main_cst_14, main_v66, main_v67, main_v68, main_cst_15, main_v69, main_v70, main_cst_16, main_v71, main_v72, main_cst_17, main_v73,
    main_v74, main_v75, main_cst_18, main_v76, main_cst_19, main_v77, main_v78]
abbrev wr6 : List (Ref sig .tc) :=
  [main_c_20, main_v79, main_v80, main_c_21, main_v81, main_v82, main_v83, main_v84, main_v85, main_c_22, main_v86, main_v87, main_c_23, main_v88,
    main_v89, main_v90, main_v91, main_v92, main_v93, main_v94, main_call7_cst, main_call7_v0, main_v95, main_v96, main_v97, main_v98, main_call8_cst,
    main_call8_v0, main_v99, main_cst_24, main_v100, main_v101, main_call9_cst, main_call9_v0, main_v102]
abbrev wr7 : List (Ref sig .tc) :=
  [main_v103, main_cst_25, main_v104, main_v105, main_v106, main_cst_26, main_v107, main_v108, main_cst_27, main_v109, main_v110, main_cst_28,
    main_v111, main_v112, main_v113, main_cst_29, main_v114, main_cst_30, main_v115, main_v116, main_cst_31, main_v117]
abbrev wr8 : List (Ref sig .tc) :=
  [main_c_32, main_v118, main_v119, main_c_33, main_v120, main_v121, main_v122, main_v123, main_v124, main_c_34, main_v125, main_v126, main_c_35,
    main_v127, main_v128, main_v129, main_v130, main_v131, main_v132, main_v133, main_call10_cst, main_call10_v0, main_v134, main_v135, main_v136,
    main_v137, main_call11_cst, main_call11_v0, main_v138, main_cst_36, main_v139, main_v140, main_call12_cst, main_call12_v0, main_v141]
abbrev wr9 : List (Ref sig .tc) :=
  [main_v142, main_cst_37, main_v143, main_v144, main_v145, main_cst_38, main_v146, main_v147, main_cst_39, main_v148, main_v149, main_cst_40,
    main_v150, main_v151, main_v152, main_cst_41, main_v153, main_cst_42, main_v154, main_v155, main_v156, main_cst_43, main_v157]
abbrev wr10 : List (Ref sig .tc) :=
  [main_v158, main_v159, main_v160, main_call13_cst, main_call13_v0, main_v161, main_v162, main_v163, main_v164, main_v165, main_v166,
    main_call14_cst, main_call14_v0, main_v167, main_v168]
abbrev wr11 : List (Ref sig .tc) :=
  [main_call15_cst, main_call15_v0, main_call15_cst_0, main_call15_v1, main_call15_v2, main_call15_v3, main_call15_v4, main_call15_v5, main_call15_v6,
    main_call15_cst_1, main_call15_v7, main_call15_v8, main_call15_v9, main_call15_v10, main_v169, main_v170, main_c_44, main_v171, main_v172,
    main_c_45, main_v173, main_v174, main_v175, main_c_46, main_v176, main_v177, main_c_47, main_v178, main_v179, main_v180, main_v181, main_v182,
    main_v183, main_v184, main_cst_48, main_v185, main_cst_49, main_v186, main_v187]
abbrev wr12 : List (Ref sig .tc) :=
  [main_v188, main_v189, main_v190, main_v191, main_v192]

/-- All the operations in order. -/
def ops : List (HloOp τ sig (Elt F)) :=
  r1 ++ (r2 ++ (r3 ++ (r4 ++ (r5 ++ (r6 ++ (r7 ++ (r8 ++ (r9 ++ (r10 ++ (r11 ++ (r12)))))))))))

set_option maxRecDepth 65536 in
theorem main_eq (c : Dev nD) : main (F := F) c = seq ops := by sl_kernel_rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  refine List.forall_iff_forall_mem.mpr fun op h => ?_
  simp only [ops, List.mem_append] at h
  rcases h with h | h | h | h | h | h | h | h | h | h | h | h
  all_goals (repeat (cases h with
    | head => with_reducible first | exact nullary_bufs_sub .. | exact unary_bufs_sub .. | exact binary_bufs_sub .. | exact ternary_bufs_sub .. | exact reshape_bufs_sub .. | exact nary_bufs_sub ..
    | tail _ h => ?_)); exact nomatch h
theorem ops_fresh : ∀ op ∈ (ops : List (HloOp τ sig (Elt F))), op.fresh = ∅ := by
  intro op h
  simp only [ops, List.mem_append] at h
  rcases h with h | h | h | h | h | h | h | h | h | h | h | h
  all_goals (repeat (cases h with | head => rfl | tail _ h => ?_)); exact nomatch h

theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## The contents after each part -/

variable (m : (ℓ : Loc nD τ sig) → Buf (Elt F) ℓ) (d : Dev nD)

def R0 : Valuation τ sig (Elt F) := launchContents m d
def R1 : Valuation τ sig (Elt F) := after r1 (R0 m d)
def R2 : Valuation τ sig (Elt F) := after r2 (R1 m d)
def R3 : Valuation τ sig (Elt F) := after r3 (R2 m d)
def R4 : Valuation τ sig (Elt F) := after r4 (R3 m d)
def R5 : Valuation τ sig (Elt F) := after r5 (R4 m d)
def R6 : Valuation τ sig (Elt F) := after r6 (R5 m d)
def R7 : Valuation τ sig (Elt F) := after r7 (R6 m d)
def R8 : Valuation τ sig (Elt F) := after r8 (R7 m d)
def R9 : Valuation τ sig (Elt F) := after r9 (R8 m d)
def R10 : Valuation τ sig (Elt F) := after r10 (R9 m d)
def R11 : Valuation τ sig (Elt F) := after r11 (R10 m d)
def R12 : Valuation τ sig (Elt F) := after r12 (R11 m d)

theorem after_ops : after ops (launchContents m d) = R12 m d := by
  simp only [ops, after_append]
  rfl

/-- The reference runs to its end from any launch memory, every array then holding what the operations leave in it. -/
theorem run (ρ : Dev nD → PrngReg) :
    θ_run defs (onTc (τ := τ) (main (F := F))) ⟨m, fun _ => 0, ρ⟩ fun r =>
      ∀ (c : Dev nD) (b : Ref sig .tc), r.2.mem ((c.tc : Thread nD τ).loc b) = R12 m c (Proc.devRef .tc b) :=
  (θ_run defs _ _).mono (fun _ h c b => (h c b).trans (congrFun (after_ops m c) _))
    (run_seq scopedRefs_eq scopedSems_eq defs main (fun _ => ops) main_eq (fun _ => ops_sub) m ρ (fun _ => ops_fresh))

variable (r : Ref sig .tc)
theorem R1_keep (h : r ∉ wr1) : R1 m d (Proc.devRef .tc r) = R0 m d (Proc.devRef .tc r) :=
  after_unwritten wr1 rfl h _
theorem R2_keep (h : r ∉ wr2) : R2 m d (Proc.devRef .tc r) = R1 m d (Proc.devRef .tc r) :=
  after_unwritten wr2 rfl h _
theorem R3_keep (h : r ∉ wr3) : R3 m d (Proc.devRef .tc r) = R2 m d (Proc.devRef .tc r) :=
  after_unwritten wr3 rfl h _
theorem R4_keep (h : r ∉ wr4) : R4 m d (Proc.devRef .tc r) = R3 m d (Proc.devRef .tc r) :=
  after_unwritten wr4 rfl h _
theorem R5_keep (h : r ∉ wr5) : R5 m d (Proc.devRef .tc r) = R4 m d (Proc.devRef .tc r) :=
  after_unwritten wr5 rfl h _
theorem R6_keep (h : r ∉ wr6) : R6 m d (Proc.devRef .tc r) = R5 m d (Proc.devRef .tc r) :=
  after_unwritten wr6 rfl h _
theorem R7_keep (h : r ∉ wr7) : R7 m d (Proc.devRef .tc r) = R6 m d (Proc.devRef .tc r) :=
  after_unwritten wr7 rfl h _
theorem R8_keep (h : r ∉ wr8) : R8 m d (Proc.devRef .tc r) = R7 m d (Proc.devRef .tc r) :=
  after_unwritten wr8 rfl h _
theorem R9_keep (h : r ∉ wr9) : R9 m d (Proc.devRef .tc r) = R8 m d (Proc.devRef .tc r) :=
  after_unwritten wr9 rfl h _
theorem R10_keep (h : r ∉ wr10) : R10 m d (Proc.devRef .tc r) = R9 m d (Proc.devRef .tc r) :=
  after_unwritten wr10 rfl h _
theorem R11_keep (h : r ∉ wr11) : R11 m d (Proc.devRef .tc r) = R10 m d (Proc.devRef .tc r) :=
  after_unwritten wr11 rfl h _
theorem R12_keep (h : r ∉ wr12) : R12 m d (Proc.devRef .tc r) = R11 m d (Proc.devRef .tc r) :=
  after_unwritten wr12 rfl h _

end Cert.Proof.Ref

end
-- ==== Proof.Frames.lean ====
/-
  The frames: from any launch memory that meets the precondition each program runs to its end, its arguments as they began and
  every counter at zero.
-/
module

public import proofs.«01_k».proof.Proof.Gen.Kernel
public import proofs.«01_k».proof.Proof.Keep
public import proofs.«01_k».proof.Proof.Ranges
public import proofs.«01_k».proof.Proof.RefRun
public import Idealize.ShloMosaic.Lib.Pointwise
public import Idealize.ShloMosaic.Adequacy
public import Idealize.ShloMosaic.Init

@[expose] public section

noncomputable section

namespace Cert.Proof.Run

open Cert.KernelIdeal Cert.KernelIdeal.Gen
open Idealize.ShloMosaic Idealize.ShloMosaic.TcCoe Idealize.SL.Sem

section

variable {F : FTy → Type} [FloatOps F] [∀ e, Nonempty (Elt F e)]
variable (m : (ℓ : Loc nD τ sig) → Buf (Elt F) ℓ)

omit [∀ e, Nonempty (Elt F e)] in
/-- The fidelity indices' lower bound: the larger of zero and the argument. -/
theorem V1_v1 (d : Dev nD) : V1 m d (Proc.devRef .tc main_v1) =
    maxsi (m (d, Proc.devRef .tc main_arg3)) (broadcastInDim S4096 ![] bcast_S_S4096 (constantI S_ 32 0#32)) := by
  unfold V1 seg1
  after_reads_simp
  rfl

/-- The gather's row numbers: the bounded fidelity indices, then the two samples. -/
theorem ci_eq (d : Dev nD) : ci m d = concatenate S12288 0
    [⟨S4096, maxsi (m (d, Proc.devRef .tc main_arg3)) (broadcastInDim S4096 ![] bcast_S_S4096 (constantI S_ 32 0#32))⟩,
      ⟨S4096, m (d, Proc.devRef .tc main_arg5)⟩, ⟨S4096, m (d, Proc.devRef .tc main_arg6)⟩] concatenates_S4096_S4096_S4096_S12288_d0 := by
  have h1 : V4 m d (Proc.devRef .tc main_v1) = _ :=
    (V4_keep m d main_v1 (by decide) (by decide)).trans ((V3_keep m d main_v1 (by decide)).trans
      ((V2_keep m d main_v1 (by decide)).trans (V1_v1 m d)))
  have hk (r : Ref sig .tc) (hr : r ∉ wAll) (h5 : r ∉ w5) : V4 m d (Proc.devRef .tc r) = m (d, Proc.devRef .tc r) :=
    (V5_keep m d r h5).symm.trans (V5_launch m d r hr)
  have h5 := hk main_arg5 (by decide) (by decide)
  have h6 := hk main_arg6 (by decide) (by decide)
  have e : ci m d = concatenate S12288 0
      [⟨S4096, V4 m d (Proc.devRef .tc main_v1)⟩, ⟨S4096, V4 m d (Proc.devRef .tc main_arg5)⟩, ⟨S4096, V4 m d (Proc.devRef .tc main_arg6)⟩]
      concatenates_S4096_S4096_S4096_S12288_d0 := by
    unfold ci V5 seg3
    after_reads_simp
    rfl
  rw [e, h1, h5, h6]

open Idealize.ShloMosaic.Pointwise in
/-- The gather's row numbers one by one. -/
theorem ci_apply (d : Dev nD) (k : Fin 12288) : (ci m d (ix1 k) : BitVec 32) =
    if h : k.val < 4096 then IntOp.maxsi (m (d, Proc.devRef .tc main_arg3) (ix1 ⟨k.val, h⟩)) 0#32
    else if h' : k.val - 4096 < 4096 then m (d, Proc.devRef .tc main_arg5) (ix1 ⟨k.val - 4096, h'⟩)
    else m (d, Proc.devRef .tc main_arg6) (ix1 ⟨k.val - 4096 - 4096, by omega⟩) := by
  rw [ci_eq]
  pointwise

/-- When the index arguments are in range, so are the gather's row numbers. -/
theorem inRange (h3 : ∀ d j, (m (d, Proc.devRef .tc main_arg3) j : BitVec 32).toNat < 10000)
    (h5 : ∀ d j, (m (d, Proc.devRef .tc main_arg5) j : BitVec 32).toNat < 10000)
    (h6 : ∀ d j, (m (d, Proc.devRef .tc main_arg6) j : BitVec 32).toNat < 10000) : Gather.InRange (F := F) (ci m) := by
  intro d j
  have hmax (v : BitVec 32) (hv : v.toNat < 10000) : (IntOp.maxsi v 0#32).toNat < 10000 := by
    unfold IntOp.maxsi
    split
    · exact hv
    · decide
  obtain ⟨k, rfl⟩ : ∃ k : Fin 12288, j = ix1 k := ⟨j 0, eq_ix1 j⟩
  have e := ci_apply m d k
  rw [e]
  split
  · exact hmax _ (h3 d _)
  · split
    · exact h5 d _
    · exact h6 d _

/-- An argument ends as it began. -/
theorem args (c : Dev nD) {r : PUnit × MemSt nD τ sig (Elt F)} (h : QC m r) (b : Ref sig .tc) (hb : b.isScoped = false) (hw : b ∉ wAll) :
    r.2.mem ((c.tc : Thread nD τ).loc b) = m ((c.tc : Thread nD τ).loc b) :=
  (h.1 c _ (Pipeline.devRef_mem_ucRefs hb)).trans (V9_launch m c b hw)

end

end Cert.Proof.Run

namespace Cert.Proof

open Idealize.ShloMosaic Idealize.ShloMosaic.TcCoe Idealize.SL.Sem

/-- The kernel over the reals: from a launch memory in range it runs to its end. -/
theorem run_ideal (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (Cert.KernelIdeal.threads (F := Ideal)) ⟨m, fun _ => 0, ρ⟩ (Run.QC m) :=
  Run.run_main (F := Ideal) m ρ (Run.inRange m (fun d => (Ranges.all _ _ _ _ _ _ _ _ _ _ _ _ _ _ _ _ _ _ _ _ _ (hpre d)).1)
    (fun d => (Ranges.all _ _ _ _ _ _ _ _ _ _ _ _ _ _ _ _ _ _ _ _ _ (hpre d)).2.2.1)
    (fun d => (Ranges.all _ _ _ _ _ _ _ _ _ _ _ _ _ _ _ _ _ _ _ _ _ (hpre d)).2.2.2.1))

/-- The arguments at the end of that run. -/
theorem args_ideal (m : (ℓ : Loc Cert.KernelIdeal.nD Cert.KernelIdeal.τ Cert.KernelIdeal.sig) → Buf (Elt Ideal) ℓ)
    {r : PUnit × MemSt Cert.KernelIdeal.nD Cert.KernelIdeal.τ Cert.KernelIdeal.sig (Elt Ideal)} (h : Run.QC m r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20) :=
  ⟨Run.args m c h Cert.KernelIdeal.main_arg0 rfl (by decide),
    Run.args m c h Cert.KernelIdeal.main_arg1 rfl (by decide),
    Run.args m c h Cert.KernelIdeal.main_arg2 rfl (by decide),
    Run.args m c h Cert.KernelIdeal.main_arg3 rfl (by decide),
    Run.args m c h Cert.KernelIdeal.main_arg4 rfl (by decide),
    Run.args m c h Cert.KernelIdeal.main_arg5 rfl (by decide),
    Run.args m c h Cert.KernelIdeal.main_arg6 rfl (by decide),
    Run.args m c h Cert.KernelIdeal.main_arg7 rfl (by decide),
    Run.args m c h Cert.KernelIdeal.main_arg8 rfl (by decide),
    Run.args m c h Cert.KernelIdeal.main_arg9 rfl (by decide),
    Run.args m c h Cert.KernelIdeal.main_arg10 rfl (by decide),
    Run.args m c h Cert.KernelIdeal.main_arg11 rfl (by decide),
    Run.args m c h Cert.KernelIdeal.main_arg12 rfl (by decide),
    Run.args m c h Cert.KernelIdeal.main_arg13 rfl (by decide),
    Run.args m c h Cert.KernelIdeal.main_arg14 rfl (by decide),
    Run.args m c h Cert.KernelIdeal.main_arg15 rfl (by decide),
    Run.args m c h Cert.KernelIdeal.main_arg16 rfl (by decide),
    Run.args m c h Cert.KernelIdeal.main_arg17 rfl (by decide),
    Run.args m c h Cert.KernelIdeal.main_arg18 rfl (by decide),
    Run.args m c h Cert.KernelIdeal.main_arg19 rfl (by decide),
    Run.args m c h Cert.KernelIdeal.main_arg20 rfl (by decide)⟩

/-- The kernel's frame over the reals. -/
theorem frame_ideal : Cert.quiescent_KernelIdeal := fun m ρ hpre =>
  (θ_run Cert.KernelIdeal.defs _ _).mono (fun _ h => ⟨args_ideal m h, h.2⟩) (run_ideal m ρ hpre)

/-- The kernel's frame over the machine's floats, stated of the program that is read over any floats. -/
def FrameBits : Prop :=
  ∀ (m : (ℓ : Loc Cert.KernelIdeal.nD Cert.KernelIdeal.τ Cert.KernelIdeal.sig) → Buf (Elt Bits) ℓ) (g : Dev Cert.KernelIdeal.nD → PrngReg),
    (∀ c : Dev Cert.KernelIdeal.nD, Cert.Pre_ranges.fn (F := Bits) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) = (fun _ => 1#1)) →
    θ_run (Cert.KernelIdeal.defs (F := Bits)) (Cert.KernelIdeal.threads (F := Bits)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)) ∧ r.2.sem = fun _ => 0)

theorem frame_bits : FrameBits := fun m ρ hpre =>
  (θ_run (Cert.KernelIdeal.defs (F := Bits)) _ _).mono (fun r h => ⟨fun c => ⟨Run.args m c h Cert.KernelIdeal.main_arg0 rfl (by decide),
    Run.args m c h Cert.KernelIdeal.main_arg1 rfl (by decide),
    Run.args m c h Cert.KernelIdeal.main_arg2 rfl (by decide),
    Run.args m c h Cert.KernelIdeal.main_arg3 rfl (by decide),
    Run.args m c h Cert.KernelIdeal.main_arg4 rfl (by decide),
    Run.args m c h Cert.KernelIdeal.main_arg5 rfl (by decide),
    Run.args m c h Cert.KernelIdeal.main_arg6 rfl (by decide),
    Run.args m c h Cert.KernelIdeal.main_arg7 rfl (by decide),
    Run.args m c h Cert.KernelIdeal.main_arg8 rfl (by decide),
    Run.args m c h Cert.KernelIdeal.main_arg9 rfl (by decide),
    Run.args m c h Cert.KernelIdeal.main_arg10 rfl (by decide),
    Run.args m c h Cert.KernelIdeal.main_arg11 rfl (by decide),
    Run.args m c h Cert.KernelIdeal.main_arg12 rfl (by decide),
    Run.args m c h Cert.KernelIdeal.main_arg13 rfl (by decide),
    Run.args m c h Cert.KernelIdeal.main_arg14 rfl (by decide),
    Run.args m c h Cert.KernelIdeal.main_arg15 rfl (by decide),
    Run.args m c h Cert.KernelIdeal.main_arg16 rfl (by decide),
    Run.args m c h Cert.KernelIdeal.main_arg17 rfl (by decide),
    Run.args m c h Cert.KernelIdeal.main_arg18 rfl (by decide),
    Run.args m c h Cert.KernelIdeal.main_arg19 rfl (by decide),
    Run.args m c h Cert.KernelIdeal.main_arg20 rfl (by decide)⟩, h.2⟩)
    (Run.run_main (F := Bits) m ρ (Run.inRange m (fun d => (Ranges.all _ _ _ _ _ _ _ _ _ _ _ _ _ _ _ _ _ _ _ _ _ (hpre d)).1)
      (fun d => (Ranges.all _ _ _ _ _ _ _ _ _ _ _ _ _ _ _ _ _ _ _ _ _ (hpre d)).2.2.1)
      (fun d => (Ranges.all _ _ _ _ _ _ _ _ _ _ _ _ _ _ _ _ _ _ _ _ _ (hpre d)).2.2.2.1)))

set_option maxRecDepth 65536 in
/-- The printed kernel and its reading over any floats are one program at the machine's floats, so the two frames are one. -/
theorem frame_eq : Cert.quiescent_Kernel = FrameBits := by
  sl_kernel_rfl

/-- The kernel's frame at the machine's floats. -/
theorem frame_kernel : Cert.quiescent_Kernel := frame_eq.mpr frame_bits

/-- An argument of the reference ends as it began. -/
theorem Ref.args {F : FTy → Type} [FloatOps F]
    (m : (ℓ : Loc Cert.ReferenceIdeal.nD Cert.ReferenceIdeal.τ Cert.ReferenceIdeal.sig) → Buf (Elt F) ℓ) (c : Dev Cert.ReferenceIdeal.nD)
    (b : Ref Cert.ReferenceIdeal.sig .tc) (hw : b ∉ Ref.wr1 ++ (Ref.wr2 ++ (Ref.wr3 ++ (Ref.wr4 ++ (Ref.wr5 ++ (Ref.wr6 ++ (Ref.wr7 ++ (Ref.wr8 ++ (Ref.wr9 ++ (Ref.wr10 ++ (Ref.wr11 ++ (Ref.wr12)))))))))))) :
    Ref.R12 m c (Proc.devRef .tc b) = m ((c.tc : Thread Cert.ReferenceIdeal.nD Cert.ReferenceIdeal.τ).loc b) := by
  simp only [List.mem_append, not_or] at hw
  obtain ⟨h1, h2, h3, h4, h5, h6, h7, h8, h9, h10, h11, h12⟩ := hw
  rw [Ref.R12_keep m c b h12, Ref.R11_keep m c b h11, Ref.R10_keep m c b h10, Ref.R9_keep m c b h9, Ref.R8_keep m c b h8, Ref.R7_keep m c b h7,
    Ref.R6_keep m c b h6, Ref.R5_keep m c b h5, Ref.R4_keep m c b h4, Ref.R3_keep m c b h3, Ref.R2_keep m c b h2, Ref.R1_keep m c b h1]
  rfl

/-- The arguments at the end of the reference's run. -/
theorem args_reference (m : (ℓ : Loc Cert.ReferenceIdeal.nD Cert.ReferenceIdeal.τ Cert.ReferenceIdeal.sig) → Buf (Elt Ideal) ℓ)
    {r : PUnit × MemSt Cert.ReferenceIdeal.nD Cert.ReferenceIdeal.τ Cert.ReferenceIdeal.sig (Elt Ideal)}
    (h : ∀ (c : Dev Cert.ReferenceIdeal.nD) (b : Ref Cert.ReferenceIdeal.sig .tc),
      r.2.mem ((c.tc : Thread Cert.ReferenceIdeal.nD Cert.ReferenceIdeal.τ).loc b) = Ref.R12 m c (Proc.devRef .tc b)) (c : Dev Cert.ReferenceIdeal.nD) :
    r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20) :=
  ⟨(h c _).trans (Ref.args m c Cert.ReferenceIdeal.main_arg0 (by decide)),
    (h c _).trans (Ref.args m c Cert.ReferenceIdeal.main_arg1 (by decide)),
    (h c _).trans (Ref.args m c Cert.ReferenceIdeal.main_arg2 (by decide)),
    (h c _).trans (Ref.args m c Cert.ReferenceIdeal.main_arg3 (by decide)),
    (h c _).trans (Ref.args m c Cert.ReferenceIdeal.main_arg4 (by decide)),
    (h c _).trans (Ref.args m c Cert.ReferenceIdeal.main_arg5 (by decide)),
    (h c _).trans (Ref.args m c Cert.ReferenceIdeal.main_arg6 (by decide)),
    (h c _).trans (Ref.args m c Cert.ReferenceIdeal.main_arg7 (by decide)),
    (h c _).trans (Ref.args m c Cert.ReferenceIdeal.main_arg8 (by decide)),
    (h c _).trans (Ref.args m c Cert.ReferenceIdeal.main_arg9 (by decide)),
    (h c _).trans (Ref.args m c Cert.ReferenceIdeal.main_arg10 (by decide)),
    (h c _).trans (Ref.args m c Cert.ReferenceIdeal.main_arg11 (by decide)),
    (h c _).trans (Ref.args m c Cert.ReferenceIdeal.main_arg12 (by decide)),
    (h c _).trans (Ref.args m c Cert.ReferenceIdeal.main_arg13 (by decide)),
    (h c _).trans (Ref.args m c Cert.ReferenceIdeal.main_arg14 (by decide)),
    (h c _).trans (Ref.args m c Cert.ReferenceIdeal.main_arg15 (by decide)),
    (h c _).trans (Ref.args m c Cert.ReferenceIdeal.main_arg16 (by decide)),
    (h c _).trans (Ref.args m c Cert.ReferenceIdeal.main_arg17 (by decide)),
    (h c _).trans (Ref.args m c Cert.ReferenceIdeal.main_arg18 (by decide)),
    (h c _).trans (Ref.args m c Cert.ReferenceIdeal.main_arg19 (by decide)),
    (h c _).trans (Ref.args m c Cert.ReferenceIdeal.main_arg20 (by decide))⟩

/-- The reference's frame: host operations only, no semaphore touched. -/
theorem frame_reference : Cert.quiescent_ReferenceIdeal := fun m ρ _ =>
  (θ_run Cert.ReferenceIdeal.defs _ _).mono
    (fun r h => ⟨args_reference m h, Idealize.ShloMosaic.sem_eq_zero_of_no_sems (by decide) r.2⟩)
    (Ref.run (F := Ideal) m ρ)

end Cert.Proof

end
-- ==== Proof.RefRead.lean ====
/-
  What each part of the reference leaves, as a function of the arrays it reads.
-/
module

public import proofs.«01_k».proof.Proof.RefRun

@[expose] public section

noncomputable section

namespace Cert.Proof.Ref

open Cert.ReferenceIdeal Cert.ReferenceIdeal.Gen
open Idealize.ShloMosaic Idealize.ShloMosaic.TcCoe Idealize.SL.Sem Idealize.ShloMosaic.StableHlo

variable {F : FTy → Type} [FloatOps F]

def r1_v2 (arg0 : (⟨S4096x32x64, .f32⟩ : BufTy).Contents (Elt F)) (arg9 : (⟨S64x128, .f32⟩ : BufTy).Contents (Elt F)) : (⟨S4096x32x128, .f32⟩ : BufTy).Contents (Elt F) :=
  ((maximumf : (⟨S4096x32x128, .f32⟩ : BufTy).Contents (Elt F) → (⟨S4096x32x128, .f32⟩ : BufTy).Contents (Elt F) → (⟨S4096x32x128, .f32⟩ :
    BufTy).Contents (Elt F)) (((fun l r => Host.dotGeneral dot_S4096x32x64_S64x128_S4096x32x128_2_0_01_1_n_n none l r) : (⟨S4096x32x64, .f32⟩ :
    BufTy).Contents (Elt F) → (⟨S64x128, .f32⟩ : BufTy).Contents (Elt F) → (⟨S4096x32x128, .f32⟩ : BufTy).Contents (Elt F)) arg0 arg9)
    (((broadcastInDim S4096x32x128 ![] bcast_S_S4096x32x128) : (⟨S_, .f32⟩ : BufTy).Contents (Elt F) → (⟨S4096x32x128, .f32⟩ : BufTy).Contents (Elt
    F)) ((constant S_ .f32 0x00000000#32) : (⟨S_, .f32⟩ : BufTy).Contents (Elt F))))
def r1_v6 (arg0 : (⟨S4096x32x64, .f32⟩ : BufTy).Contents (Elt F)) (arg9 : (⟨S64x128, .f32⟩ : BufTy).Contents (Elt F)) (arg1 : (⟨S4096x32x32, .i1⟩ : BufTy).Contents (Elt F)) (arg10 : (⟨S128x128, .f32⟩ : BufTy).Contents (Elt F)) : (⟨S4096x32x128, .f32⟩ : BufTy).Contents (Elt F) :=
  ((maximumf : (⟨S4096x32x128, .f32⟩ : BufTy).Contents (Elt F) → (⟨S4096x32x128, .f32⟩ : BufTy).Contents (Elt F) → (⟨S4096x32x128, .f32⟩ :
    BufTy).Contents (Elt F)) ((addf : (⟨S4096x32x128, .f32⟩ : BufTy).Contents (Elt F) → (⟨S4096x32x128, .f32⟩ : BufTy).Contents (Elt F) →
    (⟨S4096x32x128, .f32⟩ : BufTy).Contents (Elt F)) (r1_v2 arg0 arg9) (((fun l r => Host.dotGeneral
    dot_S4096x32x32_S4096x32x128_S4096x32x128_2_1_1_2_0_0 none l r) : (⟨S4096x32x32, .f32⟩ : BufTy).Contents (Elt F) → (⟨S4096x32x128, .f32⟩ :
    BufTy).Contents (Elt F) → (⟨S4096x32x128, .f32⟩ : BufTy).Contents (Elt F)) ((uitofp .f32 : (⟨S4096x32x32, .i1⟩ : BufTy).Contents (Elt F) →
    (⟨S4096x32x32, .f32⟩ : BufTy).Contents (Elt F)) arg1) (((fun l r => Host.dotGeneral dot_S4096x32x128_S128x128_S4096x32x128_2_0_01_1_n_n none l r)
    : (⟨S4096x32x128, .f32⟩ : BufTy).Contents (Elt F) → (⟨S128x128, .f32⟩ : BufTy).Contents (Elt F) → (⟨S4096x32x128, .f32⟩ : BufTy).Contents (Elt F))
    (r1_v2 arg0 arg9) arg10))) (((broadcastInDim S4096x32x128 ![] bcast_S_S4096x32x128) : (⟨S_, .f32⟩ : BufTy).Contents (Elt F) → (⟨S4096x32x128,
    .f32⟩ : BufTy).Contents (Elt F)) ((constant S_ .f32 0x00000000#32) : (⟨S_, .f32⟩ : BufTy).Contents (Elt F))))
def r1_v11 (arg0 : (⟨S4096x32x64, .f32⟩ : BufTy).Contents (Elt F)) (arg9 : (⟨S64x128, .f32⟩ : BufTy).Contents (Elt F)) (arg1 : (⟨S4096x32x32, .i1⟩ : BufTy).Contents (Elt F)) (arg10 : (⟨S128x128, .f32⟩ : BufTy).Contents (Elt F)) (arg11 : (⟨S128x128, .f32⟩ : BufTy).Contents (Elt F)) (arg2 : (⟨S4096x16, .f32⟩ : BufTy).Contents (Elt F)) (arg12 : (⟨S144x128, .f32⟩ : BufTy).Contents (Elt F)) : (⟨S4096x128, .f32⟩ : BufTy).Contents (Elt F) :=
  ((maximumf : (⟨S4096x128, .f32⟩ : BufTy).Contents (Elt F) → (⟨S4096x128, .f32⟩ : BufTy).Contents (Elt F) → (⟨S4096x128, .f32⟩ : BufTy).Contents (Elt
    F)) (((fun l r => Host.dotGeneral dot_S4096x144_S144x128_S4096x128_1_0_0_1_n_n none l r) : (⟨S4096x144, .f32⟩ : BufTy).Contents (Elt F) →
    (⟨S144x128, .f32⟩ : BufTy).Contents (Elt F) → (⟨S4096x128, .f32⟩ : BufTy).Contents (Elt F)) (((fun a b => concatenate S4096x144 1 [⟨S4096x128, a⟩,
    ⟨S4096x16, b⟩] concatenates_S4096x128_S4096x16_S4096x144_d1) : (⟨S4096x128, .f32⟩ : BufTy).Contents (Elt F) → (⟨S4096x16, .f32⟩ : BufTy).Contents
    (Elt F) → (⟨S4096x144, .f32⟩ : BufTy).Contents (Elt F)) (((fun l r => Host.dotGeneral dot_S4096x128_S128x128_S4096x128_1_0_0_1_n_n none l r) :
    (⟨S4096x128, .f32⟩ : BufTy).Contents (Elt F) → (⟨S128x128, .f32⟩ : BufTy).Contents (Elt F) → (⟨S4096x128, .f32⟩ : BufTy).Contents (Elt F)) (((fun
    x v => Host.reduceAdd x v reducesTo_S4096x32x128_S4096x128_d1 h_S_) : (⟨S4096x32x128, .f32⟩ : BufTy).Contents (Elt F) → (⟨S_, .f32⟩ :
    BufTy).Contents (Elt F) → (⟨S4096x128, .f32⟩ : BufTy).Contents (Elt F)) (r1_v6 arg0 arg9 arg1 arg10) ((constant S_ .f32 0x00000000#32) : (⟨S_,
    .f32⟩ : BufTy).Contents (Elt F))) arg11) arg2) arg12) (((broadcastInDim S4096x128 ![] bcast_S_S4096x128) : (⟨S_, .f32⟩ : BufTy).Contents (Elt F) →
    (⟨S4096x128, .f32⟩ : BufTy).Contents (Elt F)) ((constant S_ .f32 0x00000000#32) : (⟨S_, .f32⟩ : BufTy).Contents (Elt F))))

set_option maxHeartbeats 2000000 in
theorem r1_v6_eq (V : Valuation τ sig (Elt F)) : after r1 V (Proc.devRef .tc main_v6) =
    r1_v6 (V (Proc.devRef .tc main_arg0)) (V (Proc.devRef .tc main_arg9)) (V (Proc.devRef .tc main_arg1)) (V (Proc.devRef .tc main_arg10)) := by
  unfold r1
  after_reads_simp
  rfl

set_option maxHeartbeats 2000000 in
theorem r1_v11_eq (V : Valuation τ sig (Elt F)) : after r1 V (Proc.devRef .tc main_v11) =
    r1_v11 (V (Proc.devRef .tc main_arg0)) (V (Proc.devRef .tc main_arg9)) (V (Proc.devRef .tc main_arg1)) (V (Proc.devRef .tc main_arg10)) (V (Proc.devRef .tc main_arg11)) (V (Proc.devRef .tc main_arg2)) (V (Proc.devRef .tc main_arg12)) := by
  unfold r1
  after_reads_simp
  rfl
def r2_v14 (arg3 : (⟨S4096, .i32⟩ : BufTy).Contents (Elt F)) : (⟨S4096, .f32⟩ : BufTy).Contents (Elt F) :=
  ((uitofp .f32 : (⟨S4096, .i1⟩ : BufTy).Contents (Elt F) → (⟨S4096, .f32⟩ : BufTy).Contents (Elt F)) ((cmpi .eq : (⟨S4096, .i32⟩ : BufTy).Contents
    (Elt F) → (⟨S4096, .i32⟩ : BufTy).Contents (Elt F) → (⟨S4096, .i1⟩ : BufTy).Contents (Elt F)) arg3 ((broadcastInDim S4096 ![] bcast_S_S4096 :
    (⟨S_, .i32⟩ : BufTy).Contents (Elt F) → (⟨S4096, .i32⟩ : BufTy).Contents (Elt F)) ((constantI S_ 32 4294967295#32) : (⟨S_, .i32⟩ : BufTy).Contents
    (Elt F)))))
def r2_v23 (v11 : (⟨S4096x128, .f32⟩ : BufTy).Contents (Elt F)) (arg13 : (⟨S128, .f32⟩ : BufTy).Contents (Elt F)) (arg14 : (⟨S_, .f32⟩ : BufTy).Contents (Elt F)) : (⟨S4096, .f32⟩ : BufTy).Contents (Elt F) :=
  ((Host.divf : (⟨S4096, .f32⟩ : BufTy).Contents (Elt F) → (⟨S4096, .f32⟩ : BufTy).Contents (Elt F) → (⟨S4096, .f32⟩ : BufTy).Contents (Elt F))
    ((broadcastInDim S4096 ![] bcast_S_S4096 : (⟨S_, .f32⟩ : BufTy).Contents (Elt F) → (⟨S4096, .f32⟩ : BufTy).Contents (Elt F)) ((constant S_ .f32
    0x3F800000#32) : (⟨S_, .f32⟩ : BufTy).Contents (Elt F))) ((addf : (⟨S4096, .f32⟩ : BufTy).Contents (Elt F) → (⟨S4096, .f32⟩ : BufTy).Contents (Elt
    F) → (⟨S4096, .f32⟩ : BufTy).Contents (Elt F)) ((broadcastInDim S4096 ![] bcast_S_S4096 : (⟨S_, .f32⟩ : BufTy).Contents (Elt F) → (⟨S4096, .f32⟩ :
    BufTy).Contents (Elt F)) ((constant S_ .f32 0x3F800000#32) : (⟨S_, .f32⟩ : BufTy).Contents (Elt F))) ((Host.exp : (⟨S4096, .f32⟩ : BufTy).Contents
    (Elt F) → (⟨S4096, .f32⟩ : BufTy).Contents (Elt F)) ((Host.negf : (⟨S4096, .f32⟩ : BufTy).Contents (Elt F) → (⟨S4096, .f32⟩ : BufTy).Contents (Elt
    F)) ((addf : (⟨S4096, .f32⟩ : BufTy).Contents (Elt F) → (⟨S4096, .f32⟩ : BufTy).Contents (Elt F) → (⟨S4096, .f32⟩ : BufTy).Contents (Elt F))
    (((fun l r => Host.dotGeneral dot_S4096x128_S128_S4096_1_0_0_n_n_n none l r) : (⟨S4096x128, .f32⟩ : BufTy).Contents (Elt F) → (⟨S128, .f32⟩ :
    BufTy).Contents (Elt F) → (⟨S4096, .f32⟩ : BufTy).Contents (Elt F)) v11 arg13) ((broadcastInDim S4096 ![] bcast_S_S4096 : (⟨S_, .f32⟩ :
    BufTy).Contents (Elt F) → (⟨S4096, .f32⟩ : BufTy).Contents (Elt F)) arg14))))))
def r2_v37 (arg3 : (⟨S4096, .i32⟩ : BufTy).Contents (Elt F)) (v11 : (⟨S4096x128, .f32⟩ : BufTy).Contents (Elt F)) (arg13 : (⟨S128, .f32⟩ : BufTy).Contents (Elt F)) (arg14 : (⟨S_, .f32⟩ : BufTy).Contents (Elt F)) : (⟨S_, .f32⟩ : BufTy).Contents (Elt F) :=
  ((Host.divf : (⟨S_, .f32⟩ : BufTy).Contents (Elt F) → (⟨S_, .f32⟩ : BufTy).Contents (Elt F) → (⟨S_, .f32⟩ : BufTy).Contents (Elt F)) (((fun x v =>
    Host.reduceAdd x v reducesTo_S4096_S_d0 h_S_) : (⟨S4096, .f32⟩ : BufTy).Contents (Elt F) → (⟨S_, .f32⟩ : BufTy).Contents (Elt F) → (⟨S_, .f32⟩ :
    BufTy).Contents (Elt F)) ((Host.negf : (⟨S4096, .f32⟩ : BufTy).Contents (Elt F) → (⟨S4096, .f32⟩ : BufTy).Contents (Elt F)) ((addf : (⟨S4096,
    .f32⟩ : BufTy).Contents (Elt F) → (⟨S4096, .f32⟩ : BufTy).Contents (Elt F) → (⟨S4096, .f32⟩ : BufTy).Contents (Elt F)) ((mulf : (⟨S4096, .f32⟩ :
    BufTy).Contents (Elt F) → (⟨S4096, .f32⟩ : BufTy).Contents (Elt F) → (⟨S4096, .f32⟩ : BufTy).Contents (Elt F)) (r2_v14 arg3) ((Host.log : (⟨S4096,
    .f32⟩ : BufTy).Contents (Elt F) → (⟨S4096, .f32⟩ : BufTy).Contents (Elt F)) ((addf : (⟨S4096, .f32⟩ : BufTy).Contents (Elt F) → (⟨S4096, .f32⟩ :
    BufTy).Contents (Elt F) → (⟨S4096, .f32⟩ : BufTy).Contents (Elt F)) (r2_v23 v11 arg13 arg14) ((broadcastInDim S4096 ![] bcast_S_S4096 : (⟨S_,
    .f32⟩ : BufTy).Contents (Elt F) → (⟨S4096, .f32⟩ : BufTy).Contents (Elt F)) ((constant S_ .f32 0x2B8CBCCC#32) : (⟨S_, .f32⟩ : BufTy).Contents (Elt
    F)))))) ((mulf : (⟨S4096, .f32⟩ : BufTy).Contents (Elt F) → (⟨S4096, .f32⟩ : BufTy).Contents (Elt F) → (⟨S4096, .f32⟩ : BufTy).Contents (Elt F))
    ((subf : (⟨S4096, .f32⟩ : BufTy).Contents (Elt F) → (⟨S4096, .f32⟩ : BufTy).Contents (Elt F) → (⟨S4096, .f32⟩ : BufTy).Contents (Elt F))
    ((broadcastInDim S4096 ![] bcast_S_S4096 : (⟨S_, .f32⟩ : BufTy).Contents (Elt F) → (⟨S4096, .f32⟩ : BufTy).Contents (Elt F)) ((constant S_ .f32
    0x3F800000#32) : (⟨S_, .f32⟩ : BufTy).Contents (Elt F))) (r2_v14 arg3)) ((Host.log : (⟨S4096, .f32⟩ : BufTy).Contents (Elt F) → (⟨S4096, .f32⟩ :
    BufTy).Contents (Elt F)) ((subf : (⟨S4096, .f32⟩ : BufTy).Contents (Elt F) → (⟨S4096, .f32⟩ : BufTy).Contents (Elt F) → (⟨S4096, .f32⟩ :
    BufTy).Contents (Elt F)) ((broadcastInDim S4096 ![] bcast_S_S4096 : (⟨S_, .f32⟩ : BufTy).Contents (Elt F) → (⟨S4096, .f32⟩ : BufTy).Contents (Elt
    F)) ((constant S_ .f32 0x3F800000#32) : (⟨S_, .f32⟩ : BufTy).Contents (Elt F))) (r2_v23 v11 arg13 arg14)))))) ((constant S_ .f32 0x00000000#32) :
    (⟨S_, .f32⟩ : BufTy).Contents (Elt F))) ((constant S_ .f32 0x45800000#32) : (⟨S_, .f32⟩ : BufTy).Contents (Elt F)))

set_option maxHeartbeats 2000000 in
theorem r2_v37_eq (V : Valuation τ sig (Elt F)) : after r2 V (Proc.devRef .tc main_v37) =
    r2_v37 (V (Proc.devRef .tc main_arg3)) (V (Proc.devRef .tc main_v11)) (V (Proc.devRef .tc main_arg13)) (V (Proc.devRef .tc main_arg14)) := by
  unfold r2
  after_reads_simp
  rfl
def r3_v40 (arg3 : (⟨S4096, .i32⟩ : BufTy).Contents (Elt F)) : (⟨S4096, .i32⟩ : BufTy).Contents (Elt F) :=
  ((select : (⟨S4096, .i1⟩ : BufTy).Contents (Elt F) → (⟨S4096, .i32⟩ : BufTy).Contents (Elt F) → (⟨S4096, .i32⟩ : BufTy).Contents (Elt F) → (⟨S4096,
    .i32⟩ : BufTy).Contents (Elt F)) ((cmpi .slt : (⟨S4096, .i32⟩ : BufTy).Contents (Elt F) → (⟨S4096, .i32⟩ : BufTy).Contents (Elt F) → (⟨S4096, .i1⟩
    : BufTy).Contents (Elt F)) arg3 ((broadcastInDim S4096 ![] bcast_S_S4096 : (⟨S_, .i32⟩ : BufTy).Contents (Elt F) → (⟨S4096, .i32⟩ :
    BufTy).Contents (Elt F)) ((constantI S_ 32 0#32) : (⟨S_, .i32⟩ : BufTy).Contents (Elt F)))) (((broadcastInDim S4096 ![] bcast_S_S4096) : (⟨S_,
    .i32⟩ : BufTy).Contents (Elt F) → (⟨S4096, .i32⟩ : BufTy).Contents (Elt F)) ((id : (⟨S_, .i32⟩ : BufTy).Contents (Elt F) → (⟨S_, .i32⟩ :
    BufTy).Contents (Elt F)) ((constantI S_ 32 0#32) : (⟨S_, .i32⟩ : BufTy).Contents (Elt F)))) arg3)

set_option maxHeartbeats 2000000 in
theorem r3_v40_eq (V : Valuation τ sig (Elt F)) : after r3 V (Proc.devRef .tc main_v40) =
    r3_v40 (V (Proc.devRef .tc main_arg3)) := by
  unfold r3
  after_reads_simp
  rfl
def r4_v57 (arg7 : (⟨S10000x16x64, .f32⟩ : BufTy).Contents (Elt F)) (v40 : (⟨S4096, .i32⟩ : BufTy).Contents (Elt F)) (arg15 : (⟨S64x128, .f32⟩ : BufTy).Contents (Elt F)) : (⟨S4096x16x128, .f32⟩ : BufTy).Contents (Elt F) :=
  ((maximumf : (⟨S4096x16x128, .f32⟩ : BufTy).Contents (Elt F) → (⟨S4096x16x128, .f32⟩ : BufTy).Contents (Elt F) → (⟨S4096x16x128, .f32⟩ :
    BufTy).Contents (Elt F)) (((fun l r => Host.dotGeneral dot_S4096x16x64_S64x128_S4096x16x128_2_0_01_1_n_n none l r) : (⟨S4096x16x64, .f32⟩ :
    BufTy).Contents (Elt F) → (⟨S64x128, .f32⟩ : BufTy).Contents (Elt F) → (⟨S4096x16x128, .f32⟩ : BufTy).Contents (Elt F)) (((fun x i => Host.gather
    gather_S10000x16x64_S4096x1_S4096x16x64_12_0_n_n_0_1_11664 x i) : (⟨S10000x16x64, .f32⟩ : BufTy).Contents (Elt F) → (⟨S4096x1, .i32⟩ :
    BufTy).Contents (Elt F) → (⟨S4096x16x64, .f32⟩ : BufTy).Contents (Elt F)) arg7 ((broadcastInDim S4096x1 ![0] bcast_S4096_S4096x1_0 : (⟨S4096,
    .i32⟩ : BufTy).Contents (Elt F) → (⟨S4096x1, .i32⟩ : BufTy).Contents (Elt F)) ((select : (⟨S4096, .i1⟩ : BufTy).Contents (Elt F) → (⟨S4096, .i32⟩
    : BufTy).Contents (Elt F) → (⟨S4096, .i32⟩ : BufTy).Contents (Elt F) → (⟨S4096, .i32⟩ : BufTy).Contents (Elt F)) ((cmpi .slt : (⟨S4096, .i32⟩ :
    BufTy).Contents (Elt F) → (⟨S4096, .i32⟩ : BufTy).Contents (Elt F) → (⟨S4096, .i1⟩ : BufTy).Contents (Elt F)) v40 ((broadcastInDim S4096 ![]
    bcast_S_S4096 : (⟨S_, .i32⟩ : BufTy).Contents (Elt F) → (⟨S4096, .i32⟩ : BufTy).Contents (Elt F)) ((constantI S_ 32 0#32) : (⟨S_, .i32⟩ :
    BufTy).Contents (Elt F)))) ((addi : (⟨S4096, .i32⟩ : BufTy).Contents (Elt F) → (⟨S4096, .i32⟩ : BufTy).Contents (Elt F) → (⟨S4096, .i32⟩ :
    BufTy).Contents (Elt F)) v40 ((broadcastInDim S4096 ![] bcast_S_S4096 : (⟨S_, .i32⟩ : BufTy).Contents (Elt F) → (⟨S4096, .i32⟩ : BufTy).Contents
    (Elt F)) ((constantI S_ 32 10000#32) : (⟨S_, .i32⟩ : BufTy).Contents (Elt F)))) v40))) arg15) (((broadcastInDim S4096x16x128 ![]
    bcast_S_S4096x16x128) : (⟨S_, .f32⟩ : BufTy).Contents (Elt F) → (⟨S4096x16x128, .f32⟩ : BufTy).Contents (Elt F)) ((constant S_ .f32 0x00000000#32)
    : (⟨S_, .f32⟩ : BufTy).Contents (Elt F))))
def r4_v64 (arg7 : (⟨S10000x16x64, .f32⟩ : BufTy).Contents (Elt F)) (v40 : (⟨S4096, .i32⟩ : BufTy).Contents (Elt F)) (arg15 : (⟨S64x128, .f32⟩ : BufTy).Contents (Elt F)) (arg8 : (⟨S10000x16x16, .i1⟩ : BufTy).Contents (Elt F)) (arg16 : (⟨S128x128, .f32⟩ : BufTy).Contents (Elt F)) (arg17 : (⟨S128x128, .f32⟩ : BufTy).Contents (Elt F)) : (⟨S4096x128, .f32⟩ : BufTy).Contents (Elt F) :=
  ((maximumf : (⟨S4096x128, .f32⟩ : BufTy).Contents (Elt F) → (⟨S4096x128, .f32⟩ : BufTy).Contents (Elt F) → (⟨S4096x128, .f32⟩ : BufTy).Contents (Elt
    F)) (((fun l r => Host.dotGeneral dot_S4096x128_S128x128_S4096x128_1_0_0_1_n_n none l r) : (⟨S4096x128, .f32⟩ : BufTy).Contents (Elt F) →
    (⟨S128x128, .f32⟩ : BufTy).Contents (Elt F) → (⟨S4096x128, .f32⟩ : BufTy).Contents (Elt F)) (((fun x v => Host.reduceAdd x v
    reducesTo_S4096x16x128_S4096x128_d1 h_S_) : (⟨S4096x16x128, .f32⟩ : BufTy).Contents (Elt F) → (⟨S_, .f32⟩ : BufTy).Contents (Elt F) → (⟨S4096x128,
    .f32⟩ : BufTy).Contents (Elt F)) ((maximumf : (⟨S4096x16x128, .f32⟩ : BufTy).Contents (Elt F) → (⟨S4096x16x128, .f32⟩ : BufTy).Contents (Elt F) →
    (⟨S4096x16x128, .f32⟩ : BufTy).Contents (Elt F)) ((addf : (⟨S4096x16x128, .f32⟩ : BufTy).Contents (Elt F) → (⟨S4096x16x128, .f32⟩ :
    BufTy).Contents (Elt F) → (⟨S4096x16x128, .f32⟩ : BufTy).Contents (Elt F)) (r4_v57 arg7 v40 arg15) (((fun l r => Host.dotGeneral
    dot_S4096x16x16_S4096x16x128_S4096x16x128_2_1_1_2_0_0 none l r) : (⟨S4096x16x16, .f32⟩ : BufTy).Contents (Elt F) → (⟨S4096x16x128, .f32⟩ :
    BufTy).Contents (Elt F) → (⟨S4096x16x128, .f32⟩ : BufTy).Contents (Elt F)) ((uitofp .f32 : (⟨S4096x16x16, .i1⟩ : BufTy).Contents (Elt F) →
    (⟨S4096x16x16, .f32⟩ : BufTy).Contents (Elt F)) (((fun x i => Host.gather gather_S10000x16x16_S4096x1_S4096x16x16_12_0_n_n_0_1_11616 x i) :
    (⟨S10000x16x16, .i1⟩ : BufTy).Contents (Elt F) → (⟨S4096x1, .i32⟩ : BufTy).Contents (Elt F) → (⟨S4096x16x16, .i1⟩ : BufTy).Contents (Elt F)) arg8
    ((broadcastInDim S4096x1 ![0] bcast_S4096_S4096x1_0 : (⟨S4096, .i32⟩ : BufTy).Contents (Elt F) → (⟨S4096x1, .i32⟩ : BufTy).Contents (Elt F))
    ((select : (⟨S4096, .i1⟩ : BufTy).Contents (Elt F) → (⟨S4096, .i32⟩ : BufTy).Contents (Elt F) → (⟨S4096, .i32⟩ : BufTy).Contents (Elt F) →
    (⟨S4096, .i32⟩ : BufTy).Contents (Elt F)) ((cmpi .slt : (⟨S4096, .i32⟩ : BufTy).Contents (Elt F) → (⟨S4096, .i32⟩ : BufTy).Contents (Elt F) →
    (⟨S4096, .i1⟩ : BufTy).Contents (Elt F)) v40 ((broadcastInDim S4096 ![] bcast_S_S4096 : (⟨S_, .i32⟩ : BufTy).Contents (Elt F) → (⟨S4096, .i32⟩ :
    BufTy).Contents (Elt F)) ((constantI S_ 32 0#32) : (⟨S_, .i32⟩ : BufTy).Contents (Elt F)))) ((addi : (⟨S4096, .i32⟩ : BufTy).Contents (Elt F) →
    (⟨S4096, .i32⟩ : BufTy).Contents (Elt F) → (⟨S4096, .i32⟩ : BufTy).Contents (Elt F)) v40 ((broadcastInDim S4096 ![] bcast_S_S4096 : (⟨S_, .i32⟩ :
    BufTy).Contents (Elt F) → (⟨S4096, .i32⟩ : BufTy).Contents (Elt F)) ((constantI S_ 32 10000#32) : (⟨S_, .i32⟩ : BufTy).Contents (Elt F)))) v40))))
    (((fun l r => Host.dotGeneral dot_S4096x16x128_S128x128_S4096x16x128_2_0_01_1_n_n none l r) : (⟨S4096x16x128, .f32⟩ : BufTy).Contents (Elt F) →
    (⟨S128x128, .f32⟩ : BufTy).Contents (Elt F) → (⟨S4096x16x128, .f32⟩ : BufTy).Contents (Elt F)) (r4_v57 arg7 v40 arg15) arg16))) (((broadcastInDim
    S4096x16x128 ![] bcast_S_S4096x16x128) : (⟨S_, .f32⟩ : BufTy).Contents (Elt F) → (⟨S4096x16x128, .f32⟩ : BufTy).Contents (Elt F)) ((constant S_
    .f32 0x00000000#32) : (⟨S_, .f32⟩ : BufTy).Contents (Elt F)))) ((constant S_ .f32 0x00000000#32) : (⟨S_, .f32⟩ : BufTy).Contents (Elt F))) arg17)
    (((broadcastInDim S4096x128 ![] bcast_S_S4096x128) : (⟨S_, .f32⟩ : BufTy).Contents (Elt F) → (⟨S4096x128, .f32⟩ : BufTy).Contents (Elt F))
    ((constant S_ .f32 0x00000000#32) : (⟨S_, .f32⟩ : BufTy).Contents (Elt F))))

set_option maxHeartbeats 2000000 in
theorem r4_v64_eq (V : Valuation τ sig (Elt F)) : after r4 V (Proc.devRef .tc main_v64) =
    r4_v64 (V (Proc.devRef .tc main_arg7)) (V (Proc.devRef .tc main_v40)) (V (Proc.devRef .tc main_arg15)) (V (Proc.devRef .tc main_arg8)) (V (Proc.devRef .tc main_arg16)) (V (Proc.devRef .tc main_arg17)) := by
  unfold r4
  after_reads_simp
  rfl
def r5_v78 (v11 : (⟨S4096x128, .f32⟩ : BufTy).Contents (Elt F)) (v64 : (⟨S4096x128, .f32⟩ : BufTy).Contents (Elt F)) : (⟨S_, .f32⟩ : BufTy).Contents (Elt F) :=
  ((Host.negf : (⟨S_, .f32⟩ : BufTy).Contents (Elt F) → (⟨S_, .f32⟩ : BufTy).Contents (Elt F)) ((Host.divf : (⟨S_, .f32⟩ : BufTy).Contents (Elt F) →
    (⟨S_, .f32⟩ : BufTy).Contents (Elt F) → (⟨S_, .f32⟩ : BufTy).Contents (Elt F)) (((fun x v => Host.reduceAdd x v reducesTo_S4096_S_d0 h_S_) :
    (⟨S4096, .f32⟩ : BufTy).Contents (Elt F) → (⟨S_, .f32⟩ : BufTy).Contents (Elt F) → (⟨S_, .f32⟩ : BufTy).Contents (Elt F)) ((Host.log : (⟨S4096,
    .f32⟩ : BufTy).Contents (Elt F) → (⟨S4096, .f32⟩ : BufTy).Contents (Elt F)) ((addf : (⟨S4096, .f32⟩ : BufTy).Contents (Elt F) → (⟨S4096, .f32⟩ :
    BufTy).Contents (Elt F) → (⟨S4096, .f32⟩ : BufTy).Contents (Elt F)) ((Host.divf : (⟨S4096, .f32⟩ : BufTy).Contents (Elt F) → (⟨S4096, .f32⟩ :
    BufTy).Contents (Elt F) → (⟨S4096, .f32⟩ : BufTy).Contents (Elt F)) ((broadcastInDim S4096 ![] bcast_S_S4096 : (⟨S_, .f32⟩ : BufTy).Contents (Elt
    F) → (⟨S4096, .f32⟩ : BufTy).Contents (Elt F)) ((constant S_ .f32 0x3F800000#32) : (⟨S_, .f32⟩ : BufTy).Contents (Elt F))) ((addf : (⟨S4096, .f32⟩
    : BufTy).Contents (Elt F) → (⟨S4096, .f32⟩ : BufTy).Contents (Elt F) → (⟨S4096, .f32⟩ : BufTy).Contents (Elt F)) ((broadcastInDim S4096 ![]
    bcast_S_S4096 : (⟨S_, .f32⟩ : BufTy).Contents (Elt F) → (⟨S4096, .f32⟩ : BufTy).Contents (Elt F)) ((constant S_ .f32 0x3F800000#32) : (⟨S_, .f32⟩
    : BufTy).Contents (Elt F))) ((Host.exp : (⟨S4096, .f32⟩ : BufTy).Contents (Elt F) → (⟨S4096, .f32⟩ : BufTy).Contents (Elt F)) ((Host.negf :
    (⟨S4096, .f32⟩ : BufTy).Contents (Elt F) → (⟨S4096, .f32⟩ : BufTy).Contents (Elt F)) (((fun x v => Host.reduceAdd x v reducesTo_S4096x128_S4096_d1
    h_S_) : (⟨S4096x128, .f32⟩ : BufTy).Contents (Elt F) → (⟨S_, .f32⟩ : BufTy).Contents (Elt F) → (⟨S4096, .f32⟩ : BufTy).Contents (Elt F)) ((mulf :
    (⟨S4096x128, .f32⟩ : BufTy).Contents (Elt F) → (⟨S4096x128, .f32⟩ : BufTy).Contents (Elt F) → (⟨S4096x128, .f32⟩ : BufTy).Contents (Elt F)) v11
    v64) ((constant S_ .f32 0x00000000#32) : (⟨S_, .f32⟩ : BufTy).Contents (Elt F))))))) ((broadcastInDim S4096 ![] bcast_S_S4096 : (⟨S_, .f32⟩ :
    BufTy).Contents (Elt F) → (⟨S4096, .f32⟩ : BufTy).Contents (Elt F)) ((constant S_ .f32 0x2B8CBCCC#32) : (⟨S_, .f32⟩ : BufTy).Contents (Elt F)))))
    ((constant S_ .f32 0x00000000#32) : (⟨S_, .f32⟩ : BufTy).Contents (Elt F))) ((constant S_ .f32 0x45800000#32) : (⟨S_, .f32⟩ : BufTy).Contents (Elt
    F))))

set_option maxHeartbeats 2000000 in
theorem r5_v78_eq (V : Valuation τ sig (Elt F)) : after r5 V (Proc.devRef .tc main_v78) =
    r5_v78 (V (Proc.devRef .tc main_v11)) (V (Proc.devRef .tc main_v64)) := by
  unfold r5
  after_reads_simp
  rfl

set_option maxHeartbeats 2000000 in
theorem r6_v102_eq (V : Valuation τ sig (Elt F)) : after r6 V (Proc.devRef .tc main_v102) =
    r4_v64 (V (Proc.devRef .tc main_arg7)) (V (Proc.devRef .tc main_arg5)) (V (Proc.devRef .tc main_arg15)) (V (Proc.devRef .tc main_arg8)) (V (Proc.devRef .tc main_arg16)) (V (Proc.devRef .tc main_arg17)) := by
  unfold r6
  after_reads_simp
  rfl
def r7_v117 (v11 : (⟨S4096x128, .f32⟩ : BufTy).Contents (Elt F)) (v102 : (⟨S4096x128, .f32⟩ : BufTy).Contents (Elt F)) : (⟨S_, .f32⟩ : BufTy).Contents (Elt F) :=
  ((addf : (⟨S_, .f32⟩ : BufTy).Contents (Elt F) → (⟨S_, .f32⟩ : BufTy).Contents (Elt F) → (⟨S_, .f32⟩ : BufTy).Contents (Elt F)) ((constant S_ .f32
    0x00000000#32) : (⟨S_, .f32⟩ : BufTy).Contents (Elt F)) ((Host.negf : (⟨S_, .f32⟩ : BufTy).Contents (Elt F) → (⟨S_, .f32⟩ : BufTy).Contents (Elt
    F)) ((Host.divf : (⟨S_, .f32⟩ : BufTy).Contents (Elt F) → (⟨S_, .f32⟩ : BufTy).Contents (Elt F) → (⟨S_, .f32⟩ : BufTy).Contents (Elt F)) (((fun x
    v => Host.reduceAdd x v reducesTo_S4096_S_d0 h_S_) : (⟨S4096, .f32⟩ : BufTy).Contents (Elt F) → (⟨S_, .f32⟩ : BufTy).Contents (Elt F) → (⟨S_,
    .f32⟩ : BufTy).Contents (Elt F)) ((Host.log : (⟨S4096, .f32⟩ : BufTy).Contents (Elt F) → (⟨S4096, .f32⟩ : BufTy).Contents (Elt F)) ((subf :
    (⟨S4096, .f32⟩ : BufTy).Contents (Elt F) → (⟨S4096, .f32⟩ : BufTy).Contents (Elt F) → (⟨S4096, .f32⟩ : BufTy).Contents (Elt F)) ((broadcastInDim
    S4096 ![] bcast_S_S4096 : (⟨S_, .f32⟩ : BufTy).Contents (Elt F) → (⟨S4096, .f32⟩ : BufTy).Contents (Elt F)) ((constant S_ .f32 0x3F800000#32) :
    (⟨S_, .f32⟩ : BufTy).Contents (Elt F))) ((Host.divf : (⟨S4096, .f32⟩ : BufTy).Contents (Elt F) → (⟨S4096, .f32⟩ : BufTy).Contents (Elt F) →
    (⟨S4096, .f32⟩ : BufTy).Contents (Elt F)) ((broadcastInDim S4096 ![] bcast_S_S4096 : (⟨S_, .f32⟩ : BufTy).Contents (Elt F) → (⟨S4096, .f32⟩ :
    BufTy).Contents (Elt F)) ((constant S_ .f32 0x3F800000#32) : (⟨S_, .f32⟩ : BufTy).Contents (Elt F))) ((addf : (⟨S4096, .f32⟩ : BufTy).Contents
    (Elt F) → (⟨S4096, .f32⟩ : BufTy).Contents (Elt F) → (⟨S4096, .f32⟩ : BufTy).Contents (Elt F)) ((broadcastInDim S4096 ![] bcast_S_S4096 : (⟨S_,
    .f32⟩ : BufTy).Contents (Elt F) → (⟨S4096, .f32⟩ : BufTy).Contents (Elt F)) ((constant S_ .f32 0x3F800000#32) : (⟨S_, .f32⟩ : BufTy).Contents (Elt
    F))) ((Host.exp : (⟨S4096, .f32⟩ : BufTy).Contents (Elt F) → (⟨S4096, .f32⟩ : BufTy).Contents (Elt F)) ((Host.negf : (⟨S4096, .f32⟩ :
    BufTy).Contents (Elt F) → (⟨S4096, .f32⟩ : BufTy).Contents (Elt F)) (((fun x v => Host.reduceAdd x v reducesTo_S4096x128_S4096_d1 h_S_) :
    (⟨S4096x128, .f32⟩ : BufTy).Contents (Elt F) → (⟨S_, .f32⟩ : BufTy).Contents (Elt F) → (⟨S4096, .f32⟩ : BufTy).Contents (Elt F)) ((mulf :
    (⟨S4096x128, .f32⟩ : BufTy).Contents (Elt F) → (⟨S4096x128, .f32⟩ : BufTy).Contents (Elt F) → (⟨S4096x128, .f32⟩ : BufTy).Contents (Elt F)) v11
    v102) ((constant S_ .f32 0x00000000#32) : (⟨S_, .f32⟩ : BufTy).Contents (Elt F))))))))) ((constant S_ .f32 0x00000000#32) : (⟨S_, .f32⟩ :
    BufTy).Contents (Elt F))) ((constant S_ .f32 0x45800000#32) : (⟨S_, .f32⟩ : BufTy).Contents (Elt F)))))

set_option maxHeartbeats 2000000 in
theorem r7_v117_eq (V : Valuation τ sig (Elt F)) : after r7 V (Proc.devRef .tc main_v117) =
    r7_v117 (V (Proc.devRef .tc main_v11)) (V (Proc.devRef .tc main_v102)) := by
  unfold r7
  after_reads_simp
  rfl

set_option maxHeartbeats 2000000 in
theorem r8_v141_eq (V : Valuation τ sig (Elt F)) : after r8 V (Proc.devRef .tc main_v141) =
    r4_v64 (V (Proc.devRef .tc main_arg7)) (V (Proc.devRef .tc main_arg6)) (V (Proc.devRef .tc main_arg15)) (V (Proc.devRef .tc main_arg8)) (V (Proc.devRef .tc main_arg16)) (V (Proc.devRef .tc main_arg17)) := by
  unfold r8
  after_reads_simp
  rfl
def r9_v157 (v117 : (⟨S_, .f32⟩ : BufTy).Contents (Elt F)) (v11 : (⟨S4096x128, .f32⟩ : BufTy).Contents (Elt F)) (v141 : (⟨S4096x128, .f32⟩ : BufTy).Contents (Elt F)) : (⟨S_, .f32⟩ : BufTy).Contents (Elt F) :=
  ((Host.divf : (⟨S_, .f32⟩ : BufTy).Contents (Elt F) → (⟨S_, .f32⟩ : BufTy).Contents (Elt F) → (⟨S_, .f32⟩ : BufTy).Contents (Elt F)) ((addf : (⟨S_,
    .f32⟩ : BufTy).Contents (Elt F) → (⟨S_, .f32⟩ : BufTy).Contents (Elt F) → (⟨S_, .f32⟩ : BufTy).Contents (Elt F)) v117 ((Host.negf : (⟨S_, .f32⟩ :
    BufTy).Contents (Elt F) → (⟨S_, .f32⟩ : BufTy).Contents (Elt F)) ((Host.divf : (⟨S_, .f32⟩ : BufTy).Contents (Elt F) → (⟨S_, .f32⟩ :
    BufTy).Contents (Elt F) → (⟨S_, .f32⟩ : BufTy).Contents (Elt F)) (((fun x v => Host.reduceAdd x v reducesTo_S4096_S_d0 h_S_) : (⟨S4096, .f32⟩ :
    BufTy).Contents (Elt F) → (⟨S_, .f32⟩ : BufTy).Contents (Elt F) → (⟨S_, .f32⟩ : BufTy).Contents (Elt F)) ((Host.log : (⟨S4096, .f32⟩ :
    BufTy).Contents (Elt F) → (⟨S4096, .f32⟩ : BufTy).Contents (Elt F)) ((subf : (⟨S4096, .f32⟩ : BufTy).Contents (Elt F) → (⟨S4096, .f32⟩ :
    BufTy).Contents (Elt F) → (⟨S4096, .f32⟩ : BufTy).Contents (Elt F)) ((broadcastInDim S4096 ![] bcast_S_S4096 : (⟨S_, .f32⟩ : BufTy).Contents (Elt
    F) → (⟨S4096, .f32⟩ : BufTy).Contents (Elt F)) ((constant S_ .f32 0x3F800000#32) : (⟨S_, .f32⟩ : BufTy).Contents (Elt F))) ((Host.divf : (⟨S4096,
    .f32⟩ : BufTy).Contents (Elt F) → (⟨S4096, .f32⟩ : BufTy).Contents (Elt F) → (⟨S4096, .f32⟩ : BufTy).Contents (Elt F)) ((broadcastInDim S4096 ![]
    bcast_S_S4096 : (⟨S_, .f32⟩ : BufTy).Contents (Elt F) → (⟨S4096, .f32⟩ : BufTy).Contents (Elt F)) ((constant S_ .f32 0x3F800000#32) : (⟨S_, .f32⟩
    : BufTy).Contents (Elt F))) ((addf : (⟨S4096, .f32⟩ : BufTy).Contents (Elt F) → (⟨S4096, .f32⟩ : BufTy).Contents (Elt F) → (⟨S4096, .f32⟩ :
    BufTy).Contents (Elt F)) ((broadcastInDim S4096 ![] bcast_S_S4096 : (⟨S_, .f32⟩ : BufTy).Contents (Elt F) → (⟨S4096, .f32⟩ : BufTy).Contents (Elt
    F)) ((constant S_ .f32 0x3F800000#32) : (⟨S_, .f32⟩ : BufTy).Contents (Elt F))) ((Host.exp : (⟨S4096, .f32⟩ : BufTy).Contents (Elt F) → (⟨S4096,
    .f32⟩ : BufTy).Contents (Elt F)) ((Host.negf : (⟨S4096, .f32⟩ : BufTy).Contents (Elt F) → (⟨S4096, .f32⟩ : BufTy).Contents (Elt F)) (((fun x v =>
    Host.reduceAdd x v reducesTo_S4096x128_S4096_d1 h_S_) : (⟨S4096x128, .f32⟩ : BufTy).Contents (Elt F) → (⟨S_, .f32⟩ : BufTy).Contents (Elt F) →
    (⟨S4096, .f32⟩ : BufTy).Contents (Elt F)) ((mulf : (⟨S4096x128, .f32⟩ : BufTy).Contents (Elt F) → (⟨S4096x128, .f32⟩ : BufTy).Contents (Elt F) →
    (⟨S4096x128, .f32⟩ : BufTy).Contents (Elt F)) v11 v141) ((constant S_ .f32 0x00000000#32) : (⟨S_, .f32⟩ : BufTy).Contents (Elt F)))))))))
    ((constant S_ .f32 0x00000000#32) : (⟨S_, .f32⟩ : BufTy).Contents (Elt F))) ((constant S_ .f32 0x45800000#32) : (⟨S_, .f32⟩ : BufTy).Contents (Elt
    F))))) ((constant S_ .f32 0x40000000#32) : (⟨S_, .f32⟩ : BufTy).Contents (Elt F)))

set_option maxHeartbeats 2000000 in
theorem r9_v157_eq (V : Valuation τ sig (Elt F)) : after r9 V (Proc.devRef .tc main_v157) =
    r9_v157 (V (Proc.devRef .tc main_v117)) (V (Proc.devRef .tc main_v11)) (V (Proc.devRef .tc main_v141)) := by
  unfold r9
  after_reads_simp
  rfl
def r10_v168 (arg1 : (⟨S4096x32x32, .i1⟩ : BufTy).Contents (Elt F)) (v6 : (⟨S4096x32x128, .f32⟩ : BufTy).Contents (Elt F)) (arg18 : (⟨S128x128, .f32⟩ : BufTy).Contents (Elt F)) (v11 : (⟨S4096x128, .f32⟩ : BufTy).Contents (Elt F)) (v64 : (⟨S4096x128, .f32⟩ : BufTy).Contents (Elt F)) (arg2 : (⟨S4096x16, .f32⟩ : BufTy).Contents (Elt F)) (arg19 : (⟨S400x128, .f32⟩ : BufTy).Contents (Elt F)) (arg20 : (⟨S128, .f32⟩ : BufTy).Contents (Elt F)) : (⟨S4096x32, .f32⟩ : BufTy).Contents (Elt F) :=
  (((fun l r => Host.dotGeneral dot_S4096x32x128_S128_S4096x32_2_0_01_n_n_n none l r) : (⟨S4096x32x128, .f32⟩ : BufTy).Contents (Elt F) → (⟨S128,
    .f32⟩ : BufTy).Contents (Elt F) → (⟨S4096x32, .f32⟩ : BufTy).Contents (Elt F)) ((maximumf : (⟨S4096x32x128, .f32⟩ : BufTy).Contents (Elt F) →
    (⟨S4096x32x128, .f32⟩ : BufTy).Contents (Elt F) → (⟨S4096x32x128, .f32⟩ : BufTy).Contents (Elt F)) (((fun l r => Host.dotGeneral
    dot_S4096x32x400_S400x128_S4096x32x128_2_0_01_1_n_n none l r) : (⟨S4096x32x400, .f32⟩ : BufTy).Contents (Elt F) → (⟨S400x128, .f32⟩ :
    BufTy).Contents (Elt F) → (⟨S4096x32x128, .f32⟩ : BufTy).Contents (Elt F)) (((fun a b => concatenate S4096x32x400 2 [⟨S4096x32x128, a⟩,
    ⟨S4096x32x272, b⟩] concatenates_S4096x32x128_S4096x32x272_S4096x32x400_d2) : (⟨S4096x32x128, .f32⟩ : BufTy).Contents (Elt F) → (⟨S4096x32x272,
    .f32⟩ : BufTy).Contents (Elt F) → (⟨S4096x32x400, .f32⟩ : BufTy).Contents (Elt F)) ((maximumf : (⟨S4096x32x128, .f32⟩ : BufTy).Contents (Elt F) →
    (⟨S4096x32x128, .f32⟩ : BufTy).Contents (Elt F) → (⟨S4096x32x128, .f32⟩ : BufTy).Contents (Elt F)) (((fun l r => Host.dotGeneral
    dot_S4096x32x32_S4096x32x128_S4096x32x128_2_1_1_2_0_0 none l r) : (⟨S4096x32x32, .f32⟩ : BufTy).Contents (Elt F) → (⟨S4096x32x128, .f32⟩ :
    BufTy).Contents (Elt F) → (⟨S4096x32x128, .f32⟩ : BufTy).Contents (Elt F)) ((uitofp .f32 : (⟨S4096x32x32, .i1⟩ : BufTy).Contents (Elt F) →
    (⟨S4096x32x32, .f32⟩ : BufTy).Contents (Elt F)) arg1) (((fun l r => Host.dotGeneral dot_S4096x32x128_S128x128_S4096x32x128_2_0_01_1_n_n none l r)
    : (⟨S4096x32x128, .f32⟩ : BufTy).Contents (Elt F) → (⟨S128x128, .f32⟩ : BufTy).Contents (Elt F) → (⟨S4096x32x128, .f32⟩ : BufTy).Contents (Elt F))
    v6 arg18)) (((broadcastInDim S4096x32x128 ![] bcast_S_S4096x32x128) : (⟨S_, .f32⟩ : BufTy).Contents (Elt F) → (⟨S4096x32x128, .f32⟩ :
    BufTy).Contents (Elt F)) ((constant S_ .f32 0x00000000#32) : (⟨S_, .f32⟩ : BufTy).Contents (Elt F)))) ((broadcastInDim S4096x32x272 ![0, 1, 2]
    bcast_S4096x1x272_S4096x32x272_0_1_2 : (⟨S4096x1x272, .f32⟩ : BufTy).Contents (Elt F) → (⟨S4096x32x272, .f32⟩ : BufTy).Contents (Elt F))
    ((broadcastInDim S4096x1x272 ![0, 2] bcast_S4096x272_S4096x1x272_0_2 : (⟨S4096x272, .f32⟩ : BufTy).Contents (Elt F) → (⟨S4096x1x272, .f32⟩ :
    BufTy).Contents (Elt F)) ((concatenate S4096x272 1 [⟨S4096x128, (v11 : (⟨S4096x128, .f32⟩ : BufTy).Contents (Elt F))⟩, ⟨S4096x128, (v64 :
    (⟨S4096x128, .f32⟩ : BufTy).Contents (Elt F))⟩, ⟨S4096x16, (arg2 : (⟨S4096x16, .f32⟩ : BufTy).Contents (Elt F))⟩]
    concatenates_S4096x128_S4096x128_S4096x16_S4096x272_d1 : (⟨S4096x272, .f32⟩ : BufTy).Contents (Elt F)))))) arg19) (((broadcastInDim S4096x32x128
    ![] bcast_S_S4096x32x128) : (⟨S_, .f32⟩ : BufTy).Contents (Elt F) → (⟨S4096x32x128, .f32⟩ : BufTy).Contents (Elt F)) ((constant S_ .f32
    0x00000000#32) : (⟨S_, .f32⟩ : BufTy).Contents (Elt F)))) arg20)

set_option maxHeartbeats 2000000 in
theorem r10_v168_eq (V : Valuation τ sig (Elt F)) : after r10 V (Proc.devRef .tc main_v168) =
    r10_v168 (V (Proc.devRef .tc main_arg1)) (V (Proc.devRef .tc main_v6)) (V (Proc.devRef .tc main_arg18)) (V (Proc.devRef .tc main_v11)) (V (Proc.devRef .tc main_v64)) (V (Proc.devRef .tc main_arg2)) (V (Proc.devRef .tc main_arg19)) (V (Proc.devRef .tc main_arg20)) := by
  unfold r10
  after_reads_simp
  rfl
def r11_call15_v5 (v168 : (⟨S4096x32, .f32⟩ : BufTy).Contents (Elt F)) : (⟨S4096x32, .f32⟩ : BufTy).Contents (Elt F) :=
  ((subf : (⟨S4096x32, .f32⟩ : BufTy).Contents (Elt F) → (⟨S4096x32, .f32⟩ : BufTy).Contents (Elt F) → (⟨S4096x32, .f32⟩ : BufTy).Contents (Elt F))
    v168 (((broadcastInDim S4096x32 ![0, 1] bcast_S4096x1_S4096x32_0_1) : (⟨S4096x1, .f32⟩ : BufTy).Contents (Elt F) → (⟨S4096x32, .f32⟩ :
    BufTy).Contents (Elt F)) (((broadcastInDim S4096x1 ![0] bcast_S4096_S4096x1_0) : (⟨S4096, .f32⟩ : BufTy).Contents (Elt F) → (⟨S4096x1, .f32⟩ :
    BufTy).Contents (Elt F)) ((maximumf : (⟨S4096, .f32⟩ : BufTy).Contents (Elt F) → (⟨S4096, .f32⟩ : BufTy).Contents (Elt F) → (⟨S4096, .f32⟩ :
    BufTy).Contents (Elt F)) (((broadcastInDim S4096 ![] bcast_S_S4096) : (⟨S_, .f32⟩ : BufTy).Contents (Elt F) → (⟨S4096, .f32⟩ : BufTy).Contents
    (Elt F)) ((constant S_ .f32 0xFF800000#32) : (⟨S_, .f32⟩ : BufTy).Contents (Elt F))) (((fun x v => Host.reduce FloatOps.maximumf x v
    reducesTo_S4096x32_S4096_d1 h_S_) : (⟨S4096x32, .f32⟩ : BufTy).Contents (Elt F) → (⟨S_, .f32⟩ : BufTy).Contents (Elt F) → (⟨S4096, .f32⟩ :
    BufTy).Contents (Elt F)) v168 ((constant S_ .f32 0xFF800000#32) : (⟨S_, .f32⟩ : BufTy).Contents (Elt F)))))))
def r11_v169 (v168 : (⟨S4096x32, .f32⟩ : BufTy).Contents (Elt F)) : (⟨S4096x32, .f32⟩ : BufTy).Contents (Elt F) :=
  ((subf : (⟨S4096x32, .f32⟩ : BufTy).Contents (Elt F) → (⟨S4096x32, .f32⟩ : BufTy).Contents (Elt F) → (⟨S4096x32, .f32⟩ : BufTy).Contents (Elt F))
    (r11_call15_v5 v168) (((broadcastInDim S4096x32 ![0, 1] bcast_S4096x1_S4096x32_0_1) : (⟨S4096x1, .f32⟩ : BufTy).Contents (Elt F) → (⟨S4096x32,
    .f32⟩ : BufTy).Contents (Elt F)) ((Host.log : (⟨S4096x1, .f32⟩ : BufTy).Contents (Elt F) → (⟨S4096x1, .f32⟩ : BufTy).Contents (Elt F))
    (((broadcastInDim S4096x1 ![0] bcast_S4096_S4096x1_0) : (⟨S4096, .f32⟩ : BufTy).Contents (Elt F) → (⟨S4096x1, .f32⟩ : BufTy).Contents (Elt F))
    (((fun x v => Host.reduceAdd x v reducesTo_S4096x32_S4096_d1 h_S_) : (⟨S4096x32, .f32⟩ : BufTy).Contents (Elt F) → (⟨S_, .f32⟩ : BufTy).Contents
    (Elt F) → (⟨S4096, .f32⟩ : BufTy).Contents (Elt F)) ((Host.exp : (⟨S4096x32, .f32⟩ : BufTy).Contents (Elt F) → (⟨S4096x32, .f32⟩ : BufTy).Contents
    (Elt F)) (r11_call15_v5 v168)) ((constant S_ .f32 0x00000000#32) : (⟨S_, .f32⟩ : BufTy).Contents (Elt F)))))))
def r11_v187 (v168 : (⟨S4096x32, .f32⟩ : BufTy).Contents (Elt F)) (arg4 : (⟨S4096, .i32⟩ : BufTy).Contents (Elt F)) : (⟨S_, .f32⟩ : BufTy).Contents (Elt F) :=
  ((Host.negf : (⟨S_, .f32⟩ : BufTy).Contents (Elt F) → (⟨S_, .f32⟩ : BufTy).Contents (Elt F)) ((Host.divf : (⟨S_, .f32⟩ : BufTy).Contents (Elt F) →
    (⟨S_, .f32⟩ : BufTy).Contents (Elt F) → (⟨S_, .f32⟩ : BufTy).Contents (Elt F)) (((fun x v => Host.reduceAdd x v reducesTo_S4096_S_d0 h_S_) :
    (⟨S4096, .f32⟩ : BufTy).Contents (Elt F) → (⟨S_, .f32⟩ : BufTy).Contents (Elt F) → (⟨S_, .f32⟩ : BufTy).Contents (Elt F)) (((fun x i =>
    Host.gather gather_S4096x32_S4096x2_S4096_n_01_n_n_01_1_11 x i) : (⟨S4096x32, .f32⟩ : BufTy).Contents (Elt F) → (⟨S4096x2, .i32⟩ : BufTy).Contents
    (Elt F) → (⟨S4096, .f32⟩ : BufTy).Contents (Elt F)) (r11_v169 v168) (((fun a b => concatenate S4096x2 1 [⟨S4096x1, a⟩, ⟨S4096x1, b⟩]
    concatenates_S4096x1_S4096x1_S4096x2_d1) : (⟨S4096x1, .i32⟩ : BufTy).Contents (Elt F) → (⟨S4096x1, .i32⟩ : BufTy).Contents (Elt F) → (⟨S4096x2,
    .i32⟩ : BufTy).Contents (Elt F)) ((broadcastInDim S4096x1 ![0] bcast_S4096_S4096x1_0 : (⟨S4096, .i32⟩ : BufTy).Contents (Elt F) → (⟨S4096x1, .i32⟩
    : BufTy).Contents (Elt F)) ((select : (⟨S4096, .i1⟩ : BufTy).Contents (Elt F) → (⟨S4096, .i32⟩ : BufTy).Contents (Elt F) → (⟨S4096, .i32⟩ :
    BufTy).Contents (Elt F) → (⟨S4096, .i32⟩ : BufTy).Contents (Elt F)) ((cmpi .slt : (⟨S4096, .i32⟩ : BufTy).Contents (Elt F) → (⟨S4096, .i32⟩ :
    BufTy).Contents (Elt F) → (⟨S4096, .i1⟩ : BufTy).Contents (Elt F)) ((iotaInDim S4096 32 0) : (⟨S4096, .i32⟩ : BufTy).Contents (Elt F))
    ((broadcastInDim S4096 ![] bcast_S_S4096 : (⟨S_, .i32⟩ : BufTy).Contents (Elt F) → (⟨S4096, .i32⟩ : BufTy).Contents (Elt F)) ((constantI S_ 32
    0#32) : (⟨S_, .i32⟩ : BufTy).Contents (Elt F)))) ((addi : (⟨S4096, .i32⟩ : BufTy).Contents (Elt F) → (⟨S4096, .i32⟩ : BufTy).Contents (Elt F) →
    (⟨S4096, .i32⟩ : BufTy).Contents (Elt F)) ((iotaInDim S4096 32 0) : (⟨S4096, .i32⟩ : BufTy).Contents (Elt F)) ((broadcastInDim S4096 ![]
    bcast_S_S4096 : (⟨S_, .i32⟩ : BufTy).Contents (Elt F) → (⟨S4096, .i32⟩ : BufTy).Contents (Elt F)) ((constantI S_ 32 4096#32) : (⟨S_, .i32⟩ :
    BufTy).Contents (Elt F)))) ((iotaInDim S4096 32 0) : (⟨S4096, .i32⟩ : BufTy).Contents (Elt F)))) ((broadcastInDim S4096x1 ![0]
    bcast_S4096_S4096x1_0 : (⟨S4096, .i32⟩ : BufTy).Contents (Elt F) → (⟨S4096x1, .i32⟩ : BufTy).Contents (Elt F)) ((select : (⟨S4096, .i1⟩ :
    BufTy).Contents (Elt F) → (⟨S4096, .i32⟩ : BufTy).Contents (Elt F) → (⟨S4096, .i32⟩ : BufTy).Contents (Elt F) → (⟨S4096, .i32⟩ : BufTy).Contents
    (Elt F)) ((cmpi .slt : (⟨S4096, .i32⟩ : BufTy).Contents (Elt F) → (⟨S4096, .i32⟩ : BufTy).Contents (Elt F) → (⟨S4096, .i1⟩ : BufTy).Contents (Elt
    F)) arg4 ((broadcastInDim S4096 ![] bcast_S_S4096 : (⟨S_, .i32⟩ : BufTy).Contents (Elt F) → (⟨S4096, .i32⟩ : BufTy).Contents (Elt F)) ((constantI
    S_ 32 0#32) : (⟨S_, .i32⟩ : BufTy).Contents (Elt F)))) ((addi : (⟨S4096, .i32⟩ : BufTy).Contents (Elt F) → (⟨S4096, .i32⟩ : BufTy).Contents (Elt
    F) → (⟨S4096, .i32⟩ : BufTy).Contents (Elt F)) arg4 ((broadcastInDim S4096 ![] bcast_S_S4096 : (⟨S_, .i32⟩ : BufTy).Contents (Elt F) → (⟨S4096,
    .i32⟩ : BufTy).Contents (Elt F)) ((constantI S_ 32 32#32) : (⟨S_, .i32⟩ : BufTy).Contents (Elt F)))) arg4)))) ((constant S_ .f32 0x00000000#32) :
    (⟨S_, .f32⟩ : BufTy).Contents (Elt F))) ((constant S_ .f32 0x45800000#32) : (⟨S_, .f32⟩ : BufTy).Contents (Elt F))))

set_option maxHeartbeats 2000000 in
theorem r11_v169_eq (V : Valuation τ sig (Elt F)) : after r11 V (Proc.devRef .tc main_v169) =
    r11_v169 (V (Proc.devRef .tc main_v168)) := by
  unfold r11
  after_reads_simp
  rfl

set_option maxHeartbeats 2000000 in
theorem r11_v187_eq (V : Valuation τ sig (Elt F)) : after r11 V (Proc.devRef .tc main_v187) =
    r11_v187 (V (Proc.devRef .tc main_v168)) (V (Proc.devRef .tc main_arg4)) := by
  unfold r11
  after_reads_simp
  rfl
def r12_v192 (v37 : (⟨S_, .f32⟩ : BufTy).Contents (Elt F)) (v78 : (⟨S_, .f32⟩ : BufTy).Contents (Elt F)) (v157 : (⟨S_, .f32⟩ : BufTy).Contents (Elt F)) (v187 : (⟨S_, .f32⟩ : BufTy).Contents (Elt F)) : (⟨S4, .f32⟩ : BufTy).Contents (Elt F) :=
  ((concatenate S4 0 [⟨S1, (((broadcastInDim S1 ![] bcast_S_S1 : (⟨S_, .f32⟩ : BufTy).Contents (Elt F) → (⟨S1, .f32⟩ : BufTy).Contents (Elt F)) v37) :
    (⟨S1, .f32⟩ : BufTy).Contents (Elt F))⟩, ⟨S1, (((broadcastInDim S1 ![] bcast_S_S1 : (⟨S_, .f32⟩ : BufTy).Contents (Elt F) → (⟨S1, .f32⟩ :
    BufTy).Contents (Elt F)) v78) : (⟨S1, .f32⟩ : BufTy).Contents (Elt F))⟩, ⟨S1, (((broadcastInDim S1 ![] bcast_S_S1 : (⟨S_, .f32⟩ : BufTy).Contents
    (Elt F) → (⟨S1, .f32⟩ : BufTy).Contents (Elt F)) v157) : (⟨S1, .f32⟩ : BufTy).Contents (Elt F))⟩, ⟨S1, (((broadcastInDim S1 ![] bcast_S_S1 : (⟨S_,
    .f32⟩ : BufTy).Contents (Elt F) → (⟨S1, .f32⟩ : BufTy).Contents (Elt F)) v187) : (⟨S1, .f32⟩ : BufTy).Contents (Elt F))⟩]
    concatenates_S1_S1_S1_S1_S4_d0 : (⟨S4, .f32⟩ : BufTy).Contents (Elt F)))

set_option maxHeartbeats 2000000 in
theorem r12_v192_eq (V : Valuation τ sig (Elt F)) : after r12 V (Proc.devRef .tc main_v192) =
    r12_v192 (V (Proc.devRef .tc main_v37)) (V (Proc.devRef .tc main_v78)) (V (Proc.devRef .tc main_v157)) (V (Proc.devRef .tc main_v187)) := by
  unfold r12
  after_reads_simp
  rfl

end Cert.Proof.Ref

end
-- ==== Proof.Spec.lean ====
/-
  The mathematics over the extended reals: one layer of messages on the nodes of one molecule, the sums over its nodes, and
  the products that both the kernel and the reference are read down to.
-/
module

public import Idealize.ShloMosaic.Lib.Pointwise

@[expose] public section

noncomputable section

namespace Cert.Proof.Spec

open Idealize.ShloMosaic

/-- A vector times a matrix, at a column. -/
def vm {n p : ℕ} (x : Fin n → EReal) (w : (⟨2, ![n, p]⟩ : Shape).Idx → EReal) (d : Fin p) : EReal := ∑ e, x e * w (ix2 e d)

/-- A node's embedding. -/
def xv (h : Fin 64 → EReal) (wn : (⟨2, ![64, 128]⟩ : Shape).Idx → EReal) (d : Fin 128) : EReal := max (vm h wn d) 0

/-- A node after the messages of its neighbours. -/
def gv {V : ℕ} (h : Fin V → Fin 64 → EReal) (a : Fin V → Fin V → EReal) (wn : (⟨2, ![64, 128]⟩ : Shape).Idx → EReal)
    (wm : (⟨2, ![128, 128]⟩ : Shape).Idx → EReal) (v : Fin V) (d : Fin 128) : EReal :=
  max (xv (h v) wn d + ∑ w, a v w * vm (xv (h w) wn) wm d) 0

/-- The sum over a molecule's nodes. -/
def gs {V : ℕ} (h : Fin V → Fin 64 → EReal) (a : Fin V → Fin V → EReal) (wn : (⟨2, ![64, 128]⟩ : Shape).Idx → EReal)
    (wm : (⟨2, ![128, 128]⟩ : Shape).Idx → EReal) (d : Fin 128) : EReal := ∑ v, gv h a wn wm v d

/-- A library molecule's vector. -/
def libOut (h : Fin 16 → Fin 64 → EReal) (a : Fin 16 → Fin 16 → EReal) (wn : (⟨2, ![64, 128]⟩ : Shape).Idx → EReal)
    (wm wr : (⟨2, ![128, 128]⟩ : Shape).Idx → EReal) (d : Fin 128) : EReal := max (vm (gs h a wn wm) wr d) 0

/-- A graph's vector and its condition's, through one matrix each, rectified. -/
def graphOut {V : ℕ} (h : Fin V → Fin 64 → EReal) (a : Fin V → Fin V → EReal) (wn : (⟨2, ![64, 128]⟩ : Shape).Idx → EReal)
    (wm wr wc : (⟨2, ![128, 128]⟩ : Shape).Idx → EReal) (co : Fin 16 → EReal) (wd : (⟨2, ![16, 128]⟩ : Shape).Idx → EReal) (d : Fin 128) : EReal :=
  max (vm (vm (gs h a wn wm) wr) wc d + vm co wd d) 0

/-- A node after the second layer's messages. -/
def xe {V : ℕ} (h : Fin V → Fin 64 → EReal) (a : Fin V → Fin V → EReal) (wn : (⟨2, ![64, 128]⟩ : Shape).Idx → EReal)
    (wm wi : (⟨2, ![128, 128]⟩ : Shape).Idx → EReal) (v : Fin V) (d : Fin 128) : EReal :=
  max (∑ w, a v w * vm (gv h a wn wm w) wi d) 0

/-- A mask's entry, kept as a word, as a number. -/
def mk (x : BitVec 32) : EReal := FloatOps.sitofp (F := Ideal) FTy.f32 (BitVec.setWidth 32 (IntOp.cmpi CmpIPredicate.ne x 0#32))

/-- The logistic function. -/
def sg (s : EReal) : EReal := Ideal.div 1 (1 + Ideal.exp (0 - s))
/-- The losses' small constant. -/
def eps : EReal := Ideal.ofBits FTy.f32 0x2B8CBCCC#32
/-- The product of two vectors. -/
def dot {n : ℕ} (x y : Fin n → EReal) : EReal := ∑ d, x d * y d
/-- One where a fragment number is minus one. -/
def ends (y : BitVec 32) : EReal := FloatOps.sitofp (F := Ideal) FTy.f32 (BitVec.setWidth 32 (IntOp.cmpi CmpIPredicate.eq y 0xFFFFFFFF#32))
/-- The termination loss of a graph, of its score and its fragment number. -/
def termOf (s : EReal) (y : BitVec 32) : EReal := 0 - (ends y * Ideal.log (sg s + eps) + (1 - ends y) * Ideal.log (1 - sg s))
/-- The loss of a graph's own fragment, of its score. -/
def posOf (s : EReal) : EReal := 0 - Ideal.log (sg s + eps)
/-- The loss of a sampled fragment, of its score. -/
def negOf (s : EReal) : EReal := 0 - Ideal.log (1 - sg s)
/-- The largest of a graph's node scores. -/
def top {V : ℕ} (l : Fin V → EReal) : EReal := Finset.fold max (Ideal.ofBits FTy.f32 0xFF800000#32) l Finset.univ
/-- The loss of a graph's node, of the nodes' scores and the node's number. -/
def idxOf {V : ℕ} (l : Fin V → EReal) (y : BitVec 32) : EReal :=
  top l + Ideal.log (∑ v, Ideal.exp (l v - top l)) - ∑ v, Scalar.select (IntOp.cmpi CmpIPredicate.eq (BitVec.ofNat 32 v.val) y) (l v) 0
/-- A node's score. -/
def logit (g p : Fin 128 → EReal) (t : Fin 128 → EReal) (co : Fin 16 → EReal) (w0 w1 : (⟨2, ![128, 128]⟩ : Shape).Idx → EReal)
    (w2 : (⟨2, ![16, 128]⟩ : Shape).Idx → EReal) (w : Fin 128 → EReal) : EReal :=
  ∑ d, max (t d + (vm g w0 d + vm p w1 d + vm co w2 d)) 0 * w d
/-- A graph's four losses, the two sampled fragments' together. -/
def lane (g p n0 n1 : Fin 128 → EReal) (t : Fin 32 → Fin 128 → EReal) (co : Fin 16 → EReal) (yf yi : BitVec 32)
    (w0 w1 : (⟨2, ![128, 128]⟩ : Shape).Idx → EReal) (w2 : (⟨2, ![16, 128]⟩ : Shape).Idx → EReal) (w wt : Fin 128 → EReal) (bt : EReal) :
    Fin 4 → EReal
  | 0 => termOf (dot g wt + bt) yf
  | 1 => posOf (dot g p)
  | 2 => negOf (dot g n0) + negOf (dot g n1)
  | 3 => idxOf (fun v => logit g p (t v) co w0 w1 w2 w) yi

/-- A sum whose terms vanish outside one of `n` runs of `b` is the sum over that run. -/
theorem sum_run {n b N : ℕ} (hN : N = n * b) (hb : 0 < b) (g : Fin n) (F : Fin N → EReal) (hz : ∀ k : Fin N, k.val / b ≠ g.val → F k = 0)
    (hlt : ∀ w : Fin b, b * g.val + w.val < N) : ∑ k, F k = ∑ w : Fin b, F ⟨b * g.val + w.val, hlt w⟩ := by
  subst hN
  rw [← finProdFinEquiv.sum_comp, Fintype.sum_prod_type, Finset.sum_eq_single g]
  · refine Finset.sum_congr rfl fun w _ => congrArg F (Fin.ext ?_)
    show w.val + b * g.val = b * g.val + w.val
    omega
  · intro g' _ hne
    refine Finset.sum_eq_zero fun w _ => hz _ ?_
    show (w.val + b * g'.val) / b ≠ g.val
    rw [Nat.add_mul_div_left _ _ hb, Nat.div_eq_of_lt w.isLt, Nat.zero_add]
    exact fun h => hne (Fin.ext h)
  · intro h
    exact absurd (Finset.mem_univ g) h

end Cert.Proof.Spec

end
-- ==== Proof.RefVal.lean ====
/-
  What each part of the reference computes, entry by entry.
-/
module

public import proofs.«01_k».proof.Proof.RefRead
public import proofs.«01_k».proof.Proof.Spec
public import Idealize.ShloMosaic.Lib.Pointwise

@[expose] public section

noncomputable section

namespace Cert.Proof.Ref

open Cert.ReferenceIdeal Cert.ReferenceIdeal.Gen
open Idealize.ShloMosaic Idealize.ShloMosaic.TcCoe Cert.Proof.Spec

/-- A truth value as a number. -/
def mb (b : BitVec 1) : EReal := FloatOps.uitofp (F := Ideal) FTy.f32 b

/-- A graph's node after the first layer. -/
theorem r1_v6_apply (arg0 arg9 arg1 arg10) (i : Fin 4096) (v : Fin 32) (d : Fin 128) :
    r1_v6 (F := Ideal) arg0 arg9 arg1 arg10 (ix3 i v d) = gv (fun v f => arg0 (ix3 i v f)) (fun v w => mb (arg1 (ix3 i v w))) arg9 arg10 v d := by
  pointwise [r1_v6, r1_v2]
  rfl

/-- A matrix's last sixteen of 144 rows, and its first 128. -/
def lo {n p : ℕ} (k s : ℕ) (h : s + k ≤ n) (w : (⟨2, ![n, p]⟩ : Shape).Idx → EReal) : (⟨2, ![k, p]⟩ : Shape).Idx → EReal :=
  fun i => w (ix2 ⟨s + (i 0).val, by have : (i 0).val < k := (i 0).isLt; omega⟩ (i 1))

/-- A graph's vector. -/
theorem r1_v11_apply (arg0 arg9 arg1 arg10 arg11 arg2 arg12) (i : Fin 4096) (d : Fin 128) :
    r1_v11 (F := Ideal) arg0 arg9 arg1 arg10 arg11 arg2 arg12 (ix2 i d) =
      graphOut (fun v f => arg0 (ix3 i v f)) (fun v w => mb (arg1 (ix3 i v w))) arg9 arg10 arg11 (lo 128 0 (by decide) arg12) (fun f => arg2 (ix2 i f))
        (lo 16 128 (by decide) arg12) d := by
  pointwise [r1_v11]
  simp only [r1_v6_apply]
  unfold graphOut vm gs lo
  congr 2

/-- The library's rows at a list of numbers, entry by entry. -/
theorem gather_h {α : Type} (x : S10000x16x64.Idx → α) (ix : IVec S4096x1 32) (i : Fin 4096) (v : Fin 16) (f : Fin 64) :
    Host.gather gather_S10000x16x64_S4096x1_S4096x16x64_12_0_n_n_0_1_11664 x ix (ix3 i v f)
      = x (ix3 ⟨min (ix (ix2 i (0 : Fin 1))).toInt.toNat 9999, by omega⟩ v f) := by
  let g := gather_S10000x16x64_S4096x1_S4096x16x64_12_0_n_n_0_1_11664
  show x (g.operandIdx (ix3 i v f) ix) = _
  congr 1
  funext a
  refine Fin.ext ?_
  show g.start (ix3 i v f) ix a + g.batchCoord (ix3 i v f) a + g.offCoord (ix3 i v f) a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ g.startIndexMap from List.mem_singleton.mpr rfl)]
    have hsi : g.siIdx (ix3 i v f) ⟨List.idxOf (0 : Fin 3) g.startIndexMap, List.idxOf_lt_length_iff.2 (List.mem_singleton.mpr rfl)⟩
        = (ix2 i (0 : Fin 1) : S4096x1.Idx) := by
      funext b; refine Fin.ext ?_
      match b with
      | ⟨0, _⟩ => rfl
      | ⟨1, _⟩ => rfl
    rw [hsi]
    rfl
  all_goals
    rw [GatherDims.batchCoord_eq_zero _ _ _ List.not_mem_nil]
    unfold GatherDims.start GatherDims.offCoord
    first
    | rw [dif_neg (show ¬ (1 : Fin 3) ∈ g.startIndexMap by decide), dif_pos (show (1 : Fin 3) ∈ g.sKept by decide)]
    | rw [dif_neg (show ¬ (2 : Fin 3) ∈ g.startIndexMap by decide), dif_pos (show (2 : Fin 3) ∈ g.sKept by decide)]
    simp only [Nat.zero_add, Nat.add_zero]
    rfl

/-- The library's masks at a list of numbers, entry by entry. -/
theorem gather_a {α : Type} (x : S10000x16x16.Idx → α) (ix : IVec S4096x1 32) (i : Fin 4096) (v f : Fin 16) :
    Host.gather gather_S10000x16x16_S4096x1_S4096x16x16_12_0_n_n_0_1_11616 x ix (ix3 i v f)
      = x (ix3 ⟨min (ix (ix2 i (0 : Fin 1))).toInt.toNat 9999, by omega⟩ v f) := by
  let g := gather_S10000x16x16_S4096x1_S4096x16x16_12_0_n_n_0_1_11616
  show x (g.operandIdx (ix3 i v f) ix) = _
  congr 1
  funext a
  refine Fin.ext ?_
  show g.start (ix3 i v f) ix a + g.batchCoord (ix3 i v f) a + g.offCoord (ix3 i v f) a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ g.startIndexMap from List.mem_singleton.mpr rfl)]
    have hsi : g.siIdx (ix3 i v f) ⟨List.idxOf (0 : Fin 3) g.startIndexMap, List.idxOf_lt_length_iff.2 (List.mem_singleton.mpr rfl)⟩
        = (ix2 i (0 : Fin 1) : S4096x1.Idx) := by
      funext b; refine Fin.ext ?_
      match b with
      | ⟨0, _⟩ => rfl
      | ⟨1, _⟩ => rfl
    rw [hsi]
    rfl
  all_goals
    rw [GatherDims.batchCoord_eq_zero _ _ _ List.not_mem_nil]
    unfold GatherDims.start GatherDims.offCoord
    first
    | rw [dif_neg (show ¬ (1 : Fin 3) ∈ g.startIndexMap by decide), dif_pos (show (1 : Fin 3) ∈ g.sKept by decide)]
    | rw [dif_neg (show ¬ (2 : Fin 3) ∈ g.startIndexMap by decide), dif_pos (show (2 : Fin 3) ∈ g.sKept by decide)]
    simp only [Nat.zero_add, Nat.add_zero]
    rfl

/-- A table's row at a word. -/
def row (v : BitVec 32) : Fin 10000 := ⟨min v.toNat 9999, by omega⟩

/-- A row number in range is not negative: wrapping a negative one round changes nothing, and clamping it neither. -/
theorem wrap_id (v : BitVec 32) (h : v.toNat < 10000) :
    min (Scalar.select (IntOp.cmpi .slt v 0#32) (IntOp.addi v 10000#32) v).toInt.toNat 9999 = min v.toNat 9999 := by
  have e : IntOp.cmpi .slt v 0#32 = 0#1 := by
    have hs : v.slt 0#32 = false := by
      rw [BitVec.slt_eq_decide, decide_eq_false_iff_not, BitVec.toInt_eq_toNat_cond]
      simp; omega
    simp only [IntOp.cmpi, hs]; rfl
  have hsel : Scalar.select (IntOp.cmpi .slt v 0#32) (IntOp.addi v 10000#32) v = v := by rw [e]; rfl
  rw [hsel, BitVec.toInt_eq_toNat_cond]
  split <;> omega

/-- The gathered library vectors are the library's vectors at the numbers' rows. -/
theorem r4_v64_apply (arg7 v40 arg15 arg8 arg16 arg17) (i : Fin 4096) (d : Fin 128) (h : (v40 (ix1 i)).toNat < 10000) :
    r4_v64 (F := Ideal) arg7 v40 arg15 arg8 arg16 arg17 (ix2 i d) =
      libOut (fun v f => arg7 (ix3 (row (v40 (ix1 i))) v f)) (fun v w => mb (arg8 (ix3 (row (v40 (ix1 i))) v w))) arg15 arg16 arg17 d := by
  have e : (⟨min (Scalar.select (IntOp.cmpi .slt (v40 (ix1 i)) 0#32) (IntOp.addi (v40 (ix1 i)) 10000#32) (v40 (ix1 i))).toInt.toNat 9999,
      by omega⟩ : Fin 10000) = row (v40 (ix1 i)) := Fin.ext (wrap_id _ h)
  have ei : (broadcastInDim S4096x1 ![0] bcast_S4096_S4096x1_0
      (select (cmpi CmpIPredicate.slt v40 (broadcastInDim S4096 ![] bcast_S_S4096 (constantI S_ 32 0#32)))
        (addi v40 (broadcastInDim S4096 ![] bcast_S_S4096 (constantI S_ 32 10000#32))) v40) : IVec S4096x1 32) (ix2 i (0 : Fin 1)) =
      Scalar.select (IntOp.cmpi .slt (v40 (ix1 i)) 0#32) (IntOp.addi (v40 (ix1 i)) 10000#32) (v40 (ix1 i)) := by
    pointwise
  pointwise [r4_v64, r4_v57]
  generalize (broadcastInDim S4096x1 ![0] bcast_S4096_S4096x1_0
      (select (cmpi CmpIPredicate.slt v40 (broadcastInDim S4096 ![] bcast_S_S4096 (constantI S_ 32 0#32)))
        (addi v40 (broadcastInDim S4096 ![] bcast_S_S4096 (constantI S_ 32 10000#32))) v40) : IVec S4096x1 32) = ix at ei ⊢
  have hg := fun v f => gather_h arg7 ix i v f
  have ha := fun v f => gather_a arg8 ix i v f
  simp only [ei, e] at hg ha
  generalize Host.gather gather_S10000x16x64_S4096x1_S4096x16x64_12_0_n_n_0_1_11664 arg7 ix = G at hg ⊢
  generalize Host.gather gather_S10000x16x16_S4096x1_S4096x16x16_12_0_n_n_0_1_11616 arg8 ix = A at ha ⊢
  simp only [hg, ha]
  rfl

end Cert.Proof.Ref
end
-- ==== Proof.RefLoss.lean ====
/-
  The reference's four losses, of the graphs' vectors, the library's and the nodes' scores.
-/
module

public import proofs.«01_k».proof.Proof.RefVal

@[expose] public section

noncomputable section

namespace Cert.Proof.Ref

open Cert.ReferenceIdeal Cert.ReferenceIdeal.Gen
open Idealize.ShloMosaic Idealize.ShloMosaic.TcCoe Cert.Proof.Spec

/-- The number of graphs, as the reference's divisor. -/
def cnt : EReal := Ideal.ofBits FTy.f32 1166016512#32

theorem mb_eq (b : BitVec 1) : mb b = FloatOps.sitofp (F := Ideal) FTy.f32 (BitVec.setWidth 32 b) := by
  show ((b.toNat : ℝ) : EReal) = (((b.setWidth 32).toInt : ℝ) : EReal)
  rcases (by decide : ∀ b : BitVec 1, b = 0#1 ∨ b = 1#1) b with rfl | rfl <;> simp

/-- The termination loss is the mean of the graphs'. -/
theorem r2_v37_apply (arg3 v11 arg13 arg14) : r2_v37 (F := Ideal) arg3 v11 arg13 arg14 ix0 =
    Ideal.div (∑ i : Fin 4096, termOf (dot (fun d => v11 (ix2 i d)) (fun d => arg13 (ix1 d)) + arg14 ix0) (arg3 (ix1 i))) cnt := by
  pointwise [r2_v37, r2_v23, r2_v14]
  unfold termOf sg ends eps dot cnt
  simp only [zero_sub]
  simp only [← mb_eq]
  rfl

/-- The loss of the graphs' own fragments. -/
theorem r5_v78_apply (v11 v64) : r5_v78 (F := Ideal) v11 v64 ix0 =
    -Ideal.div (∑ i : Fin 4096, Ideal.log (sg (dot (fun d => v11 (ix2 i d)) (fun d => v64 (ix2 i d))) + eps)) cnt := by
  pointwise [r5_v78]
  unfold sg eps dot cnt
  simp only [zero_sub]

/-- The loss of the first sampled fragments. -/
theorem r7_v117_apply (v11 v102) : r7_v117 (F := Ideal) v11 v102 ix0 =
    -Ideal.div (∑ i : Fin 4096, Ideal.log (1 - sg (dot (fun d => v11 (ix2 i d)) (fun d => v102 (ix2 i d))))) cnt := by
  pointwise [r7_v117]
  unfold sg dot cnt
  simp only [zero_sub]

/-- The loss of both sampled fragments. -/
theorem r9_v157_apply (v117 v11 v141) : r9_v157 (F := Ideal) v117 v11 v141 ix0 =
    Ideal.div (v117 ix0 + -Ideal.div (∑ i : Fin 4096, Ideal.log (1 - sg (dot (fun d => v11 (ix2 i d)) (fun d => v141 (ix2 i d))))) cnt)
      (Ideal.ofBits FTy.f32 1073741824#32) := by
  pointwise [r9_v157]
  unfold sg dot cnt
  simp only [zero_sub]

/-- A sum over 400 entries in four runs. -/
theorem sum400 (A B C : Fin 128 → EReal) (D : Fin 16 → EReal) (w : Fin 400 → EReal) :
    ∑ k : Fin 400, (if h : k.val < 128 then A ⟨k.val, h⟩ else if h1 : k.val - 128 < 128 then B ⟨k.val - 128, h1⟩ else
      if h2 : k.val - 128 - 128 < 128 then C ⟨k.val - 128 - 128, h2⟩ else D ⟨k.val - 128 - 128 - 128, by omega⟩) * w k =
    ∑ e, A e * w ⟨e.val, by omega⟩ + (∑ e, B e * w ⟨128 + e.val, by omega⟩ + ∑ e, C e * w ⟨256 + e.val, by omega⟩ + ∑ e, D e * w ⟨384 + e.val, by omega⟩) := by
  rw [show (∑ k : Fin 400, (if h : k.val < 128 then A ⟨k.val, h⟩ else if h1 : k.val - 128 < 128 then B ⟨k.val - 128, h1⟩ else
      if h2 : k.val - 128 - 128 < 128 then C ⟨k.val - 128 - 128, h2⟩ else D ⟨k.val - 128 - 128 - 128, by omega⟩) * w k) =
      ∑ k : Fin (128 + (128 + (128 + 16))), (if h : k.val < 128 then A ⟨k.val, h⟩ else if h1 : k.val - 128 < 128 then B ⟨k.val - 128, h1⟩ else
      if h2 : k.val - 128 - 128 < 128 then C ⟨k.val - 128 - 128, h2⟩ else D ⟨k.val - 128 - 128 - 128, by omega⟩) * w k from rfl,
    Fin.sum_univ_add, Fin.sum_univ_add, Fin.sum_univ_add, add_assoc (∑ e, B e * _)]
  refine congrArg₂ (· + ·) (Finset.sum_congr rfl fun e _ => ?_) (congrArg₂ (· + ·) (Finset.sum_congr rfl fun e _ => ?_)
    (congrArg₂ (· + ·) (Finset.sum_congr rfl fun e _ => ?_) (Finset.sum_congr rfl fun e _ => ?_)))
  · rw [dif_pos (show (Fin.castAdd (128 + (128 + 16)) e).val < 128 from e.isLt)]
    rfl
  · rw [dif_neg (show ¬ (Fin.natAdd 128 (Fin.castAdd (128 + 16) e)).val < 128 by simp),
      dif_pos (show (Fin.natAdd 128 (Fin.castAdd (128 + 16) e)).val - 128 < 128 by simp)]
    refine congrArg₂ (· * ·) (congrArg B (Fin.ext ?_)) (congrArg w (Fin.ext ?_)) <;> simp
  · rw [dif_neg (show ¬ (Fin.natAdd 128 (Fin.natAdd 128 (Fin.castAdd 16 e))).val < 128 by simp),
      dif_neg (show ¬ (Fin.natAdd 128 (Fin.natAdd 128 (Fin.castAdd 16 e))).val - 128 < 128 by simp),
      dif_pos (show (Fin.natAdd 128 (Fin.natAdd 128 (Fin.castAdd 16 e))).val - 128 - 128 < 128 by simp)]
    refine congrArg₂ (· * ·) (congrArg C (Fin.ext ?_)) (congrArg w (Fin.ext ?_)) <;> simp <;> omega
  · rw [dif_neg (show ¬ (Fin.natAdd 128 (Fin.natAdd 128 (Fin.natAdd 128 e))).val < 128 by simp),
      dif_neg (show ¬ (Fin.natAdd 128 (Fin.natAdd 128 (Fin.natAdd 128 e))).val - 128 < 128 by simp),
      dif_neg (show ¬ (Fin.natAdd 128 (Fin.natAdd 128 (Fin.natAdd 128 e))).val - 128 - 128 < 128 by simp)]
    refine congrArg₂ (· * ·) (congrArg D (Fin.ext ?_)) (congrArg w (Fin.ext ?_)) <;> simp <;> omega

/-- A node's score, of the nodes after the first layer. -/
theorem r10_v168_apply (g : Fin 4096 → Fin 32 → Fin 128 → EReal) (arg1 v6 arg18 v11 v64 arg2 arg19 arg20)
    (h6 : ∀ i v d, v6 (ix3 i v d) = g i v d) (i : Fin 4096) (v : Fin 32) :
    r10_v168 (F := Ideal) arg1 v6 arg18 v11 v64 arg2 arg19 arg20 (ix2 i v) =
      logit (fun d => v11 (ix2 i d)) (fun d => v64 (ix2 i d))
        (vm (fun e => max (∑ w, mb (arg1 (ix3 i v w)) * vm (g i w) arg18 e) 0) (lo 128 0 (by decide) arg19))
        (fun f => arg2 (ix2 i f)) (lo 128 128 (by decide) arg19) (lo 128 256 (by decide) arg19) (lo 16 384 (by decide) arg19) (fun d => arg20 (ix1 d)) := by
  pointwise [r10_v168]
  simp only [h6]
  unfold logit
  refine Finset.sum_congr rfl fun d _ => congrArg (· * arg20 (ix1 d)) (congrArg (max · 0) ?_)
  refine (sum400 (fun e => max (∑ w, mb (arg1 (ix3 i v w)) * ∑ k, g i w k * arg18 (ix2 k e)) 0) (fun e => v11 (ix2 i e)) (fun e => v64 (ix2 i e))
    (fun e => arg2 (ix2 i e)) (fun k => arg19 (ix2 k d))).trans ?_
  unfold vm lo
  refine congrArg₂ (· + ·) (Finset.sum_congr rfl fun e _ => congrArg₂ (· * ·) rfl (congrArg (fun k => arg19 (ix2 k d)) (Fin.ext ?_))) rfl
  exact (Nat.zero_add _).symm

/-- A table's entries at pairs of numbers. -/
theorem gather_p {α : Type} (x : S4096x32.Idx → α) (ix : IVec S4096x2 32) (k : Fin 4096) :
    Host.gather gather_S4096x32_S4096x2_S4096_n_01_n_n_01_1_11 x ix (ix1 k)
      = x (ix2 ⟨min (ix (ix2 k (0 : Fin 2))).toInt.toNat 4095, by omega⟩ ⟨min (ix (ix2 k (1 : Fin 2))).toInt.toNat 31, by omega⟩) := by
  let g := gather_S4096x32_S4096x2_S4096_n_01_n_n_01_1_11
  show x (g.operandIdx (ix1 k) ix) = _
  congr 1
  funext a
  refine Fin.ext ?_
  show g.start (ix1 k) ix a + g.batchCoord (ix1 k) a + g.offCoord (ix1 k) a = _
  have h01 : a = 0 ∨ a = 1 := by
    match a with
    | ⟨0, _⟩ => exact Or.inl rfl
    | ⟨1, _⟩ => exact Or.inr rfl
  have hoff : g.offCoord (ix1 k) a = 0 := GatherDims.offCoord_eq_zero _ _ _ (fun h => by
    rcases h01 with rfl | rfl
    · exact absurd h (by decide)
    · exact absurd h (by decide))
  rw [GatherDims.batchCoord_eq_zero _ _ _ List.not_mem_nil, hoff]
  simp only [Nat.add_zero]
  unfold GatherDims.start
  rcases h01 with rfl | rfl
  · rw [dif_pos (show (0 : Fin 2) ∈ g.startIndexMap by decide)]
    have hsi : g.siIdx (ix1 k) ⟨List.idxOf (0 : Fin 2) g.startIndexMap, List.idxOf_lt_length_iff.2 (by decide)⟩
        = (ix2 k (0 : Fin 2) : S4096x2.Idx) := by
      funext b; refine Fin.ext ?_
      match b with
      | ⟨0, _⟩ => rfl
      | ⟨1, _⟩ => rfl
    rw [hsi]
    rfl
  · rw [dif_pos (show (1 : Fin 2) ∈ g.startIndexMap by decide)]
    have hsi : g.siIdx (ix1 k) ⟨List.idxOf (1 : Fin 2) g.startIndexMap, List.idxOf_lt_length_iff.2 (by decide)⟩
        = (ix2 k (1 : Fin 2) : S4096x2.Idx) := by
      funext b; refine Fin.ext ?_
      match b with
      | ⟨0, _⟩ => rfl
      | ⟨1, _⟩ => rfl
    rw [hsi]
    rfl

/-- A node's score less the graph's largest and the logarithm. -/
def nodeLog (l : Fin 32 → EReal) (v : Fin 32) : EReal := l v - top l - Ideal.log (∑ w, Ideal.exp (l w - top l))

theorem ofBits_bot : Ideal.ofBits FTy.f32 4286578688#32 = ⊥ := by
  simp [Ideal.ofBits, Ideal.ieee]

theorem r11_v169_apply (v168) (i : Fin 4096) (v : Fin 32) : r11_v169 (F := Ideal) v168 (ix2 i v) = nodeLog (fun v => v168 (ix2 i v)) v := by
  pointwise [r11_v169, r11_call15_v5]
  rw [max_eq_right (by rw [ofBits_bot]; exact bot_le)]
  rfl

/-- A number below a bound below 2³¹ is not negative. -/
theorem sel_id (v u : BitVec 32) (h : v.toNat < 2147483648) : Scalar.select (IntOp.cmpi .slt v 0#32) u v = v := by
  have e : IntOp.cmpi .slt v 0#32 = 0#1 := by
    have hs : v.slt 0#32 = false := by
      rw [BitVec.slt_eq_decide, decide_eq_false_iff_not, BitVec.toInt_eq_toNat_cond]
      simp; omega
    simp only [IntOp.cmpi, hs]; rfl
  rw [e]; rfl

/-- The nodes' loss. -/
theorem r11_v187_apply (v168 arg4) (h : ∀ i : Fin 4096, (arg4 (ix1 i)).toNat < 32) : r11_v187 (F := Ideal) v168 arg4 ix0 =
    -Ideal.div (∑ i : Fin 4096, nodeLog (fun v => v168 (ix2 i v)) ⟨(arg4 (ix1 i)).toNat, h i⟩) cnt := by
  pointwise [r11_v187]
  refine congrArg (fun x => -Ideal.div x cnt) (Finset.sum_congr rfl fun k _ => ?_)
  rw [gather_p, ← r11_v169_apply]
  refine congrArg (r11_v169 (F := Ideal) v168) (congrArg₂ ix2 (Fin.ext ?_) (Fin.ext ?_))
  · pointwise
    rw [sel_id _ _ (by rw [BitVec.toNat_ofNat]; omega), BitVec.toInt_eq_toNat_cond, BitVec.toNat_ofNat]
    split <;> omega
  · pointwise
    have := h k
    rw [sel_id _ _ (by omega), BitVec.toInt_eq_toNat_cond]
    split <;> omega

end Cert.Proof.Ref
end
-- ==== Proof.LossVal.lean ====
/-
  A grid step of the losses' call at its lanes: the sums over the step's graphs.
-/
module

public import proofs.«01_k».proof.Proof.Spec
public import proofs.«01_k».proof.Proof.Loss

@[expose] public section

noncomputable section

namespace Cert.Proof.Loss

open Cert.KernelIdeal Cert.KernelIdeal.Gen
open Idealize.ShloMosaic Cert.Proof.Spec

variable (x1 x2 x3 x4 : Vec Ideal S256x128 .f32) (x5 : Vec Ideal S256x32x128 .f32) (x6 : Vec Ideal S256x16 .f32) (x7 x8 : Vec Ideal S256x1 .i32)
  (x9 : Vec Ideal S272x128 .f32) (x10 x11 : Vec Ideal S1x128 .f32) (x12 : Vec Ideal S1x1 .f32) (X : Vec Ideal S1x128 .f32)

theorem sig_apply (r : Fin 256) : k3_pay6 x1 x11 x12 (ix2 r (0 : Fin 1)) = sg (dot (fun d => x1 (ix2 r d)) (fun d => x11 (ix2 0 d)) + x12 (ix2 0 0)) := by
  unfold sg dot
  pointwise [k3_pay6, k3_pay4]

theorem ends_apply (r : Fin 256) : k3_pay7 (F := Ideal) x7 (ix2 r (0 : Fin 1)) = ends (x7 (ix2 r 0)) := by
  unfold ends
  pointwise [k3_pay7]

theorem term_eq : k3_pay11 (k3_pay8 x1 x11 x12 x7) (k3_pay9 x7) (k3_pay10 x1 x11 x12)
    = ∑ r : Fin 256, termOf (dot (fun d => x1 (ix2 r d)) (fun d => x11 (ix2 0 d)) + x12 (ix2 0 0)) (x7 (ix2 r 0)) := by
  pointwise [k3_pay11, k3_pay8, k3_pay9, k3_pay10]
  simp only [sig_apply, ends_apply, Fin.sum_univ_one]
  rfl

theorem pos_eq : k3_pay12 (k3_pay4 x1) (k3_pay5 x2) = ∑ r : Fin 256, posOf (dot (fun d => x1 (ix2 r d)) (fun d => x2 (ix2 r d))) := by
  pointwise [k3_pay12, k3_pay4, k3_pay5]
  simp only [Fin.sum_univ_one]
  rfl

theorem neg_eq : k3_pay14 (k3_pay4 x1) (k3_pay13 (k3_pay4 x1) x3) (0 : EReal) x4
    = ∑ r : Fin 256, (negOf (dot (fun d => x1 (ix2 r d)) (fun d => x3 (ix2 r d))) + negOf (dot (fun d => x1 (ix2 r d)) (fun d => x4 (ix2 r d)))) := by
  rw [Finset.sum_add_distrib]
  pointwise [k3_pay14, k3_pay13, k3_pay4]
  simp only [Fin.sum_univ_one]
  rfl

theorem idx_eq : k3_pay17 (k3_pay15 (k3_pay4 x1) (k3_pay5 x2) (rows0 x9) (rows1 x9)) x6 (k3_pay16 (rows2 x9)) x5 x10 x8
    = ∑ r : Fin 256, idxOf (fun v => logit (fun d => x1 (ix2 r d)) (fun d => x2 (ix2 r d)) (fun d => x5 (ix3 r v d)) (fun f => x6 (ix2 r f))
        (rows0 x9) (rows1 x9) (rows2 x9) (fun d => x10 (ix2 0 d))) (x8 (ix2 r 0)) := by
  pointwise [k3_pay17, k3_pay15, k3_pay16, k3_pay4, k3_pay5]
  simp only [Fin.sum_univ_one]
  rfl

/-- The step's graphs' losses together, by lane. -/
def sums (j : Fin 4) : EReal := ∑ r : Fin 256, lane (fun d => x1 (ix2 r d)) (fun d => x2 (ix2 r d)) (fun d => x3 (ix2 r d)) (fun d => x4 (ix2 r d))
  (fun v d => x5 (ix3 r v d)) (fun f => x6 (ix2 r f)) (x7 (ix2 r 0)) (x8 (ix2 r 0)) (rows0 x9) (rows1 x9) (rows2 x9) (fun d => x10 (ix2 0 d))
  (fun d => x11 (ix2 0 d)) (x12 (ix2 0 0)) j

theorem off {a b : BitVec 32} (h : a ≠ b) (x : EReal) : Scalar.select (IntOp.cmpi CmpIPredicate.eq a b) x 0 = 0 := by
  have e : IntOp.cmpi CmpIPredicate.eq a b = 0#1 := by
    show BitVec.ofBool (a == b) = 0#1
    rw [beq_false_of_ne h]
    rfl
  rw [e]
  rfl

/-- A step before the last adds its graphs' losses. -/
theorem add_apply (j : Fin 4) : add x1 x2 x3 x4 x5 x6 x7 x8 x9 x10 x11 x12 X (ix2 (0 : Fin 1) ⟨j.val, by omega⟩)
    = X (ix2 (0 : Fin 1) ⟨j.val, by omega⟩) + sums x1 x2 x3 x4 x5 x6 x7 x8 x9 x10 x11 x12 j := by
  unfold add
  fin_cases j <;> pointwise [k3_pay1, k3_pay18, k3_pay19, k3_pay20] <;> simp only [term_eq, pos_eq, neg_eq, idx_eq]
    <;> rw [off (by decide), off (by decide), off (by decide)] <;> simp only [add_zero, zero_add] <;> rfl

/-- The last step's factor, by lane. -/
def scale (j : Fin 4) : EReal := Scalar.select (IntOp.cmpi CmpIPredicate.eq (BitVec.ofNat 32 j.val) 2#32) (Ideal.ofBits FTy.f32 0x39000000#32) (Ideal.ofBits FTy.f32 0x39800000#32)

theorem scaled_apply (j : Fin 4) (a b c e : EReal) :
    k3_pay2 (F := Ideal) b c e (iota .tc S1x128 32 [1] iota_S1x128_d1_w32) k3_pay18 (k3_pay19 a) (k3_pay20 (F := Ideal)) X (ix2 (0 : Fin 1) ⟨j.val, by omega⟩)
      = k3_pay1 (F := Ideal) b c e (iota .tc S1x128 32 [1] iota_S1x128_d1_w32) k3_pay18 (k3_pay19 a) (k3_pay20 (F := Ideal)) X (ix2 (0 : Fin 1) ⟨j.val, by omega⟩) * scale j := by
  unfold k3_pay2 scale
  generalize k3_pay1 (F := Ideal) b c e _ _ _ _ X = f
  pointwise

/-- The last step adds its graphs' losses and scales. -/
theorem addScaled_apply (j : Fin 4) : addScaled x1 x2 x3 x4 x5 x6 x7 x8 x9 x10 x11 x12 X (ix2 (0 : Fin 1) ⟨j.val, by omega⟩)
    = (X (ix2 (0 : Fin 1) ⟨j.val, by omega⟩) + sums x1 x2 x3 x4 x5 x6 x7 x8 x9 x10 x11 x12 j) * scale j := by
  rw [← add_apply]
  exact scaled_apply X j _ _ _ _

end Cert.Proof.Loss

end
-- ==== Proof.Means.lean ====
/-
  The arithmetic that joins the kernel's sums of losses and the reference's means.
-/
module

public import proofs.«01_k».proof.Proof.RefLoss
public import proofs.«01_k».proof.Proof.LossVal

@[expose] public section

noncomputable section

namespace Cert.Proof.Means

open Idealize.ShloMosaic Cert.Proof.Spec Cert.Proof.Ref

/-- A value that is a real number. -/
def Re (x : EReal) : Prop := ∃ r : ℝ, x = (r : EReal)

theorem Re.zero : Re 0 := ⟨0, rfl⟩
theorem Re.add {x y : EReal} : Re x → Re y → Re (x + y)
  | ⟨a, ha⟩, ⟨b, hb⟩ => ⟨a + b, by rw [ha, hb, EReal.coe_add]⟩
theorem Re.sub {x y : EReal} : Re x → Re y → Re (x - y)
  | ⟨a, ha⟩, ⟨b, hb⟩ => ⟨a - b, by rw [ha, hb, EReal.coe_sub]⟩
theorem Re.mul {x y : EReal} : Re x → Re y → Re (x * y)
  | ⟨a, ha⟩, ⟨b, hb⟩ => ⟨a * b, by rw [ha, hb, EReal.coe_mul]⟩
theorem Re.max {x y : EReal} (hx : Re x) (hy : Re y) : Re (max x y) := by
  rcases max_choice x y with h | h <;> rw [h] <;> assumption
theorem Re.sum {ι : Type} (s : Finset ι) {f : ι → EReal} (h : ∀ i, Re (f i)) : Re (∑ i ∈ s, f i) := by
  classical
  induction s using Finset.induction_on with
  | empty => exact Re.zero
  | insert a s ha ih => rw [Finset.sum_insert ha]; exact (h a).add ih
theorem Re.ne_top {x : EReal} : Re x → x ≠ ⊤
  | ⟨_, h⟩ => h ▸ EReal.coe_ne_top _
theorem Re.vm {n p : ℕ} {x : Fin n → EReal} {w : (⟨2, ![n, p]⟩ : Shape).Idx → EReal} (hx : ∀ e, Re (x e)) (hw : ∀ i, Re (w i)) (d : Fin p) :
    Re (vm x w d) := Re.sum _ fun e => (hx e).mul (hw _)
theorem Re.mb (b : BitVec 1) : Re (mb b) := ⟨(b.toNat : ℝ), rfl⟩
theorem Re.lo {n p k s : ℕ} {h : s + k ≤ n} {w : (⟨2, ![n, p]⟩ : Shape).Idx → EReal} (hw : ∀ i, Re (w i)) (i) : Re (lo k s h w i) := hw _

section Closed
variable {V : ℕ} {h : Fin V → Fin 64 → EReal} {a : Fin V → Fin V → EReal} {wn : (⟨2, ![64, 128]⟩ : Shape).Idx → EReal}
  {wm wr wc wi : (⟨2, ![128, 128]⟩ : Shape).Idx → EReal}

theorem Re.gv (hh : ∀ v f, Re (h v f)) (ha : ∀ v w, Re (a v w)) (hn : ∀ i, Re (wn i)) (hm : ∀ i, Re (wm i)) (v : Fin V) (d : Fin 128) :
    Re (gv h a wn wm v d) :=
  (((Re.vm (hh v) hn d).max Re.zero).add (Re.sum _ fun w => (ha v w).mul (Re.vm (fun e => (Re.vm (hh w) hn e).max Re.zero) hm d))).max Re.zero

theorem Re.gs (hh : ∀ v f, Re (h v f)) (ha : ∀ v w, Re (a v w)) (hn : ∀ i, Re (wn i)) (hm : ∀ i, Re (wm i)) (d : Fin 128) : Re (gs h a wn wm d) :=
  Re.sum _ fun v => Re.gv hh ha hn hm v d

theorem Re.graphOut {co : Fin 16 → EReal} {wd : (⟨2, ![16, 128]⟩ : Shape).Idx → EReal} (hh : ∀ v f, Re (h v f)) (ha : ∀ v w, Re (a v w))
    (hn : ∀ i, Re (wn i)) (hm : ∀ i, Re (wm i)) (hr : ∀ i, Re (wr i)) (hc : ∀ i, Re (wc i)) (ho : ∀ f, Re (co f)) (hd : ∀ i, Re (wd i)) (d : Fin 128) :
    Re (graphOut h a wn wm wr wc co wd d) :=
  ((Re.vm (fun e => Re.vm (fun k => Re.gs hh ha hn hm k) hr e) hc d).add (Re.vm ho hd d)).max Re.zero

theorem Re.xe (hh : ∀ v f, Re (h v f)) (ha : ∀ v w, Re (a v w)) (hn : ∀ i, Re (wn i)) (hm : ∀ i, Re (wm i)) (hi : ∀ i, Re (wi i)) (v : Fin V)
    (d : Fin 128) : Re (xe h a wn wm wi v d) :=
  (Re.sum _ fun w => (ha v w).mul (Re.vm (fun e => Re.gv hh ha hn hm w e) hi d)).max Re.zero
end Closed

theorem Re.libOut {h : Fin 16 → Fin 64 → EReal} {a : Fin 16 → Fin 16 → EReal} {wn : (⟨2, ![64, 128]⟩ : Shape).Idx → EReal}
    {wm wr : (⟨2, ![128, 128]⟩ : Shape).Idx → EReal} (hh : ∀ v f, Re (h v f)) (ha : ∀ v w, Re (a v w)) (hn : ∀ i, Re (wn i)) (hm : ∀ i, Re (wm i))
    (hr : ∀ i, Re (wr i)) (d : Fin 128) : Re (libOut h a wn wm wr d) := (Re.vm (fun e => Re.gs hh ha hn hm e) hr d).max Re.zero

theorem Re.logit {g p t : Fin 128 → EReal} {co : Fin 16 → EReal} {w0 w1 : (⟨2, ![128, 128]⟩ : Shape).Idx → EReal}
    {w2 : (⟨2, ![16, 128]⟩ : Shape).Idx → EReal} {w : Fin 128 → EReal} (hg : ∀ d, Re (g d)) (hp : ∀ d, Re (p d)) (ht : ∀ d, Re (t d))
    (ho : ∀ f, Re (co f)) (h0 : ∀ i, Re (w0 i)) (h1 : ∀ i, Re (w1 i)) (h2 : ∀ i, Re (w2 i)) (hw : ∀ d, Re (w d)) : Re (logit g p t co w0 w1 w2 w) :=
  Re.sum _ fun d => (((ht d).add (((Re.vm hg h0 d).add (Re.vm hp h1 d)).add (Re.vm ho h2 d))).max Re.zero).mul (hw d)

/-! ### The constants -/

theorem cnt_eq : cnt = ((4096 : ℝ) : EReal) := by
  unfold cnt
  simp [Ideal.ofBits, Ideal.ieee, -EReal.coe_mul]; norm_num
theorem two_eq : Ideal.ofBits FTy.f32 1073741824#32 = ((2 : ℝ) : EReal) := by
  simp [Ideal.ofBits, Ideal.ieee, -EReal.coe_mul]; norm_num
theorem k12_eq : Ideal.ofBits FTy.f32 0x39800000#32 = ((1 / 4096 : ℝ) : EReal) := by
  simp [Ideal.ofBits, Ideal.ieee, -EReal.coe_mul]; norm_num
theorem k13_eq : Ideal.ofBits FTy.f32 0x39000000#32 = ((1 / 8192 : ℝ) : EReal) := by
  simp [Ideal.ofBits, Ideal.ieee, -EReal.coe_mul]; norm_num
theorem eps_re : Re eps := by
  unfold eps
  refine ⟨9223372 * (2 : ℝ) ^ (-63 : ℤ), ?_⟩
  simp [Ideal.ofBits, Ideal.ieee, -EReal.coe_mul]

theorem scale_eq (j : Fin 4) (h : j ≠ 2) : Loss.scale j = ((1 / 4096 : ℝ) : EReal) := by
  rw [← k12_eq]
  match j with
  | 0 => rfl
  | 1 => rfl
  | 2 => exact absurd rfl h
  | 3 => rfl
theorem scale_two : Loss.scale 2 = ((1 / 8192 : ℝ) : EReal) := by
  rw [← k13_eq]
  rfl

/-- The reference's mean is the kernel's scaled sum. -/
theorem div_cnt (x : EReal) : Ideal.div x cnt = x * ((1 / 4096 : ℝ) : EReal) := by rw [cnt_eq, Ideal.div_coe (by norm_num)]

/-! ### Sums of negatives -/

theorem sum_ne_top {ι : Type} (s : Finset ι) {f : ι → EReal} (h : ∀ i, f i ≠ ⊤) : ∑ i ∈ s, f i ≠ ⊤ := by
  classical
  induction s using Finset.induction_on with
  | empty => simp
  | insert a s ha ih => rw [Finset.sum_insert ha]; exact EReal.add_ne_top (h a) ih

/-- Negation moves through a sum none of whose terms is plus infinity. -/
theorem sum_neg {ι : Type} (s : Finset ι) {f : ι → EReal} (h : ∀ i, f i ≠ ⊤) : ∑ i ∈ s, (0 - f i) = -∑ i ∈ s, f i := by
  classical
  induction s using Finset.induction_on with
  | empty => simp
  | insert a s ha ih =>
    rw [Finset.sum_insert ha, Finset.sum_insert ha, ih, EReal.neg_add (Or.inr (sum_ne_top s h)) (Or.inl (h a)), zero_sub, sub_eq_add_neg]

theorem exp_nonneg (x : EReal) : 0 ≤ Ideal.exp x := by
  induction x with
  | bot => exact le_refl _
  | top => exact le_top
  | coe r => exact EReal.coe_nonneg.mpr (Real.exp_pos r).le

/-- The logistic function lies between zero and one. -/
theorem sg_re (s : EReal) : ∃ r : ℝ, 0 ≤ r ∧ r ≤ 1 ∧ sg s = (r : EReal) := by
  unfold sg
  rw [zero_sub]
  induction s with
  | bot =>
    refine ⟨0, le_refl _, zero_le_one, ?_⟩
    show Ideal.div 1 (1 + ⊤) = _
    rw [show (1 : EReal) + ⊤ = ⊤ from EReal.add_top_of_ne_bot (by decide)]
    simp [Ideal.div]
  | top =>
    refine ⟨1, zero_le_one, le_refl _, ?_⟩
    show Ideal.div 1 (1 + 0) = _
    simp [Ideal.div]
  | coe r =>
    have hp := Real.exp_pos (-r)
    refine ⟨1 / (1 + Real.exp (-r)), by positivity, (div_le_one (by positivity)).mpr (by linarith), ?_⟩
    show Ideal.div 1 (1 + ((Real.exp (-r) : ℝ) : EReal)) = _
    rw [show (1 : EReal) + ((Real.exp (-r) : ℝ) : EReal) = ((1 + Real.exp (-r) : ℝ) : EReal) from by rw [EReal.coe_add]; rfl,
      Ideal.div_coe (by positivity), one_mul]

theorem log_ne_top {x : EReal} (h : Re x) : Ideal.log x ≠ ⊤ := by
  obtain ⟨r, rfl⟩ := h
  show (if r ≤ 0 then (⊥ : EReal) else (Real.log r : EReal)) ≠ ⊤
  split
  · exact bot_ne_top
  · exact EReal.coe_ne_top _

/-- The logarithm of what the logistic function leaves of one is not positive. -/
theorem log_sg (s : EReal) : Ideal.log (1 - sg s) ≤ 0 := by
  obtain ⟨r, h0, h1, e⟩ := sg_re s
  rw [e, show (1 : EReal) - (r : EReal) = ((1 - r : ℝ) : EReal) from by rw [EReal.coe_sub]; rfl]
  show (if 1 - r ≤ 0 then (⊥ : EReal) else (Real.log (1 - r) : EReal)) ≤ 0
  split
  · exact bot_le
  · exact EReal.coe_nonpos.mpr (Real.log_nonpos (by linarith) (by linarith))

section Lanes
variable {n : ℕ}

/-- The own fragments' lane. -/
theorem pos_mean (s : Fin n → EReal) :
    (∑ i, posOf (s i)) * ((1 / 4096 : ℝ) : EReal) = -Ideal.div (∑ i, Ideal.log (sg (s i) + eps)) cnt := by
  unfold posOf
  rw [sum_neg _ fun i => log_ne_top (by obtain ⟨r, _, _, e⟩ := sg_re (s i); exact Re.add ⟨r, e⟩ eps_re), div_cnt, EReal.neg_mul]

/-- The sampled fragments' lane. -/
theorem neg_mean (s t : Fin n → EReal) :
    (∑ i, (negOf (s i) + negOf (t i))) * ((1 / 8192 : ℝ) : EReal) =
      Ideal.div (-Ideal.div (∑ i, Ideal.log (1 - sg (s i))) cnt + -Ideal.div (∑ i, Ideal.log (1 - sg (t i))) cnt)
        (Ideal.ofBits FTy.f32 1073741824#32) := by
  have hn : ∀ s : Fin n → EReal, ∑ i, negOf (s i) = -∑ i, Ideal.log (1 - sg (s i)) := fun s =>
    sum_neg _ fun i => ne_top_of_le_ne_top (by decide) (log_sg (s i))
  have h0 : ∀ s : Fin n → EReal, 0 ≤ ∑ i, negOf (s i) := fun s => Finset.sum_nonneg fun i _ => by
    unfold negOf
    rw [zero_sub]
    exact EReal.neg_nonneg.mpr (log_sg (s i))
  rw [Finset.sum_add_distrib, div_cnt, div_cnt, ← EReal.neg_mul, ← EReal.neg_mul, ← hn, ← hn, two_eq, Ideal.div_coe (by norm_num),
    ← EReal.right_distrib_of_nonneg (h0 s) (h0 t), mul_assoc, ← EReal.coe_mul]
  congr 3
  norm_num

end Lanes

/-- The largest of real scores is real. -/
theorem top_re {l : Fin 32 → EReal} (h : ∀ v, Re (l v)) : Re (top l) := by
  have h1 : top l ≠ ⊤ := by
    refine ne_of_lt ((Finset.fold_max_lt _).mpr ⟨?_, fun v _ => lt_top_iff_ne_top.mpr (h v).ne_top⟩)
    rw [ofBits_bot]
    exact bot_lt_top
  have h2 : top l ≠ ⊥ := by
    refine (bot_lt_iff_ne_bot.mp ((Finset.lt_fold_max _).mpr (Or.inr ⟨0, Finset.mem_univ _, ?_⟩)))
    obtain ⟨r, e⟩ := h 0
    rw [e]
    exact EReal.bot_lt_coe r
  exact ⟨(top l).toReal, (EReal.coe_toReal h1 h2).symm⟩

/-- The logarithm of the exponentials' sum of real scores is real. -/
theorem logsum_re {l : Fin 32 → EReal} (h : ∀ v, Re (l v)) (m : EReal) (hm : Re m) : Re (Ideal.log (∑ v, Ideal.exp (l v - m))) := by
  choose r hr using h
  obtain ⟨b, rfl⟩ := hm
  have e : ∑ v, Ideal.exp (l v - (b : EReal)) = ((∑ v, Real.exp (r v - b) : ℝ) : EReal) := by
    have hs : ∀ s : Finset (Fin 32), ∑ v ∈ s, Ideal.exp (l v - (b : EReal)) = ((∑ v ∈ s, Real.exp (r v - b) : ℝ) : EReal) := by
      intro s
      induction s using Finset.induction_on with
      | empty => simp
      | insert a s ha ih =>
        rw [Finset.sum_insert ha, Finset.sum_insert ha, ih, EReal.coe_add, hr, ← EReal.coe_sub]
        rfl
    exact hs _
  rw [e]
  have hp : 0 < ∑ v, Real.exp (r v - b) := Finset.sum_pos (fun v _ => Real.exp_pos _) ⟨0, Finset.mem_univ _⟩
  refine ⟨Real.log (∑ v, Real.exp (r v - b)), ?_⟩
  show (if _ ≤ (0 : ℝ) then (⊥ : EReal) else _) = _
  rw [if_neg (not_le.mpr hp)]

/-- The masked sum of scores is the score at the number. -/
theorem pick (l : Fin 32 → EReal) (y : BitVec 32) (hy : y.toNat < 32) :
    ∑ v : Fin 32, Scalar.select (IntOp.cmpi CmpIPredicate.eq (BitVec.ofNat 32 v.val) y) (l v) 0 = l ⟨y.toNat, hy⟩ := by
  have hc : ∀ v : Fin 32, Scalar.select (IntOp.cmpi CmpIPredicate.eq (BitVec.ofNat 32 v.val) y) (l v) 0 = if v = ⟨y.toNat, hy⟩ then l v else 0 := by
    intro v
    by_cases hv : v = ⟨y.toNat, hy⟩
    · rw [if_pos hv]
      have : BitVec.ofNat 32 v.val = y := by rw [hv]; exact BitVec.ofNat_toNat .. |>.trans (BitVec.setWidth_eq y)
      rw [this]
      simp [IntOp.cmpi, Scalar.select]
    · rw [if_neg hv]
      have : BitVec.ofNat 32 v.val ≠ y := fun h => hv (Fin.ext (by
        have e := congrArg BitVec.toNat h
        rw [BitVec.toNat_ofNat] at e
        have := v.isLt
        show v.val = y.toNat
        omega))
      have hb : (BitVec.ofNat 32 v.val == y) = false := beq_eq_false_iff_ne.mpr this
      simp [IntOp.cmpi, Scalar.select, hb]
  simp only [hc, Finset.sum_ite_eq', Finset.mem_univ, if_true]

/-- The nodes' lane. -/
theorem idx_mean {n : ℕ} (l : Fin n → Fin 32 → EReal) (y : Fin n → BitVec 32) (hl : ∀ i v, Re (l i v)) (hy : ∀ i, (y i).toNat < 32) :
    (∑ i, idxOf (l i) (y i)) * ((1 / 4096 : ℝ) : EReal) = -Ideal.div (∑ i, nodeLog (l i) ⟨(y i).toNat, hy i⟩) cnt := by
  have hr : ∀ i, Re (nodeLog (l i) ⟨(y i).toNat, hy i⟩) := fun i =>
    ((hl i _).sub (top_re (hl i))).sub (logsum_re (hl i) _ (top_re (hl i)))
  rw [div_cnt, ← EReal.neg_mul, ← sum_neg _ fun i => (hr i).ne_top]
  refine congrArg (· * _) (Finset.sum_congr rfl fun i _ => ?_)
  unfold idxOf nodeLog
  rw [pick _ _ (hy i)]
  obtain ⟨a, ha⟩ := top_re (hl i)
  obtain ⟨b, hb⟩ := logsum_re (hl i) _ (top_re (hl i))
  obtain ⟨c, hc⟩ := hl i ⟨(y i).toNat, hy i⟩
  rw [hb, hc, ha, ← EReal.coe_add, ← EReal.coe_sub, ← EReal.coe_sub, ← EReal.coe_sub, zero_sub, ← EReal.coe_neg]
  congr 1
  ring

end Cert.Proof.Means
end
-- ==== Proof.Whole.lean ====
/-
  A graph's losses as a function of the arguments: what both programs sum.
-/
module

public import proofs.«01_k».proof.Proof.Means

@[expose] public section

noncomputable section

namespace Cert.Proof.Whole

open Idealize.ShloMosaic Cert.Proof.Spec Cert.Proof.Ref Cert.Proof.Means

abbrev A1 (a : ℕ) : Type := (⟨1, ![a]⟩ : Shape).Idx → EReal
abbrev A2 (a b : ℕ) : Type := (⟨2, ![a, b]⟩ : Shape).Idx → EReal
abbrev A3 (a b c : ℕ) : Type := (⟨3, ![a, b, c]⟩ : Shape).Idx → EReal

section
variable (a0 : A3 4096 32 64) (a1 : (⟨3, ![4096, 32, 32]⟩ : Shape).Idx → BitVec 1) (a2 : A2 4096 16)
  (a3 a4 a5 a6 : (⟨1, ![4096]⟩ : Shape).Idx → BitVec 32) (a7 : A3 10000 16 64) (a8 : (⟨3, ![10000, 16, 16]⟩ : Shape).Idx → BitVec 1)
  (a9 : A2 64 128) (a10 a11 : A2 128 128) (a12 : A2 144 128) (a13 : A1 128) (a14 : (⟨0, ![]⟩ : Shape).Idx → EReal) (a15 : A2 64 128)
  (a16 a17 a18 : A2 128 128) (a19 : A2 400 128) (a20 : A1 128)

/-- A graph's vector. -/
def graph (i : Fin 4096) : Fin 128 → EReal :=
  graphOut (fun v f => a0 (ix3 i v f)) (fun v w => mb (a1 (ix3 i v w))) a9 a10 a11 (lo 128 0 (by decide) a12) (fun f => a2 (ix2 i f))
    (lo 16 128 (by decide) a12)

/-- A library molecule's vector. -/
def frag (r : Fin 10000) : Fin 128 → EReal := libOut (fun v f => a7 (ix3 r v f)) (fun v w => mb (a8 (ix3 r v w))) a15 a16 a17

/-- A node's vector, through the projection's first rows. -/
def node (i : Fin 4096) (v : Fin 32) : Fin 128 → EReal :=
  vm (xe (fun v f => a0 (ix3 i v f)) (fun v w => mb (a1 (ix3 i v w))) a9 a10 a18 v) (lo 128 0 (by decide) a19)

/-- A graph's scores of its nodes. -/
def score (i : Fin 4096) (v : Fin 32) : EReal :=
  logit (graph a0 a1 a2 a9 a10 a11 a12 i) (frag a7 a8 a15 a16 a17 (row (a3 (ix1 i)))) (node a0 a1 a9 a10 a18 a19 i v) (fun f => a2 (ix2 i f))
    (lo 128 128 (by decide) a19) (lo 128 256 (by decide) a19) (lo 16 384 (by decide) a19) (fun d => a20 (ix1 d))

/-- A graph's losses. -/
def total (i : Fin 4096) : Fin 4 → EReal :=
  lane (graph a0 a1 a2 a9 a10 a11 a12 i) (frag a7 a8 a15 a16 a17 (row (a3 (ix1 i)))) (frag a7 a8 a15 a16 a17 (row (a5 (ix1 i))))
    (frag a7 a8 a15 a16 a17 (row (a6 (ix1 i)))) (node a0 a1 a9 a10 a18 a19 i) (fun f => a2 (ix2 i f)) (a3 (ix1 i)) (a4 (ix1 i))
    (lo 128 128 (by decide) a19) (lo 128 256 (by decide) a19) (lo 16 384 (by decide) a19) (fun d => a20 (ix1 d)) (fun d => a13 (ix1 d)) (a14 ix0)

/-- The four results. -/
def result (j : Fin 4) : EReal := (∑ i, total a0 a1 a2 a3 a4 a5 a6 a7 a8 a9 a10 a11 a12 a13 a14 a15 a16 a17 a18 a19 a20 i j) * Loss.scale j

/-- The results of equal arguments. -/
theorem result_congr {b0 b1 b2 b3 b4 b5 b6 b7 b8 b9 b10 b11 b12 b13 b14 b15 b16 b17 b18 b19 b20} (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) (h20 : a20 = b20) (j : Fin 4) :
    result a0 a1 a2 a3 a4 a5 a6 a7 a8 a9 a10 a11 a12 a13 a14 a15 a16 a17 a18 a19 a20 j = result b0 b1 b2 b3 b4 b5 b6 b7 b8 b9 b10 b11 b12 b13 b14 b15 b16 b17 b18 b19 b20 j := by
  subst h0 h1 h2 h3 h4 h5 h6 h7 h8 h9 h10 h11 h12 h13 h14 h15 h16 h17 h18 h19 h20
  rfl

/-- The results one by one. -/
theorem result_0 : result a0 a1 a2 a3 a4 a5 a6 a7 a8 a9 a10 a11 a12 a13 a14 a15 a16 a17 a18 a19 a20 0 = (∑ i, termOf (dot (graph a0 a1 a2 a9 a10 a11 a12 i) (fun d => a13 (ix1 d)) + a14 ix0) (a3 (ix1 i))) * ((1 / 4096 : ℝ) : EReal) := by
  unfold result
  rw [scale_eq 0 (by decide)]
  rfl
theorem result_1 : result a0 a1 a2 a3 a4 a5 a6 a7 a8 a9 a10 a11 a12 a13 a14 a15 a16 a17 a18 a19 a20 1 = (∑ i, posOf (dot (graph a0 a1 a2 a9 a10 a11 a12 i) (frag a7 a8 a15 a16 a17 (row (a3 (ix1 i)))))) * ((1 / 4096 : ℝ) : EReal) := by
  unfold result
  rw [scale_eq 1 (by decide)]
  rfl
theorem result_2 : result a0 a1 a2 a3 a4 a5 a6 a7 a8 a9 a10 a11 a12 a13 a14 a15 a16 a17 a18 a19 a20 2 = (∑ i, (negOf (dot (graph a0 a1 a2 a9 a10 a11 a12 i) (frag a7 a8 a15 a16 a17 (row (a5 (ix1 i))))) + negOf (dot (graph a0 a1 a2 a9 a10 a11 a12 i) (frag a7 a8 a15 a16 a17 (row (a6 (ix1 i))))))) * ((1 / 8192 : ℝ) : EReal) := by
  unfold result
  rw [scale_two]
  rfl
theorem result_3 : result a0 a1 a2 a3 a4 a5 a6 a7 a8 a9 a10 a11 a12 a13 a14 a15 a16 a17 a18 a19 a20 3 = (∑ i, idxOf (score a0 a1 a2 a3 a7 a8 a9 a10 a11 a12 a15 a16 a17 a18 a19 a20 i) (a4 (ix1 i))) * ((1 / 4096 : ℝ) : EReal) := by
  unfold result
  rw [scale_eq 3 (by decide)]
  rfl

/-- The nodes' scores are real when the arguments are. -/
theorem score_re (h0 : ∀ j, Re (a0 j)) (h2 : ∀ j, Re (a2 j)) (h7 : ∀ j, Re (a7 j)) (h9 : ∀ j, Re (a9 j)) (h10 : ∀ j, Re (a10 j)) (h11 : ∀ j, Re (a11 j))
    (h12 : ∀ j, Re (a12 j)) (h15 : ∀ j, Re (a15 j)) (h16 : ∀ j, Re (a16 j)) (h17 : ∀ j, Re (a17 j)) (h18 : ∀ j, Re (a18 j)) (h19 : ∀ j, Re (a19 j))
    (h20 : ∀ j, Re (a20 j)) (i : Fin 4096) (v : Fin 32) : Re (score a0 a1 a2 a3 a7 a8 a9 a10 a11 a12 a15 a16 a17 a18 a19 a20 i v) :=
  Re.logit (fun _ => Re.graphOut (fun _ _ => h0 _) (fun _ _ => Re.mb _) h9 h10 h11 (Re.lo h12) (fun _ => h2 _) (Re.lo h12) _)
    (fun _ => Re.libOut (fun _ _ => h7 _) (fun _ _ => Re.mb _) h15 h16 h17 _)
    (fun _ => Re.vm (fun _ => Re.xe (fun _ _ => h0 _) (fun _ _ => Re.mb _) h9 h10 h18 _ _) (Re.lo h19) _)
    (fun _ => h2 _) (Re.lo h19) (Re.lo h19) (Re.lo h19) (fun _ => h20 _)

end

/-- A mask's entry kept as a word is the truth value. -/
theorem mk_ext (b : BitVec 1) : mk (BitVec.setWidth 32 b) = mb b := by
  unfold mk
  rw [mb_eq]
  rcases (by decide : ∀ b : BitVec 1, b = 0#1 ∨ b = 1#1) b with rfl | rfl <;> rfl

end Cert.Proof.Whole
end
-- ==== Proof.LibVal.lean ====
/-
  The library call's block at an index: each row is its molecule's vector.
-/
module

public import proofs.«01_k».proof.Proof.Spec
public import proofs.«01_k».proof.Proof.Lib

@[expose] public section

noncomputable section

namespace Cert.Proof.Lib

open Cert.KernelIdeal Cert.KernelIdeal.Gen
open Idealize.ShloMosaic Cert.Proof.Spec

variable (x1 : Vec Ideal S400x16x64 .f32) (x2 : Vec Ideal S400x16x16 .i32) (x3 : Vec Ideal S64x128 .f32) (x4 x5 : Vec Ideal S128x128 .f32)

theorem emb_apply (r : Fin 6400) (d : Fin 128) :
    k0_pay4 x1 x3 (ix2 r d) = xv (fun f => x1 (ix3 ⟨r.val / 16, by omega⟩ ⟨r.val % 16, by omega⟩ f)) x3 d := by
  unfold xv vm
  pointwise [k0_pay4]

theorem lin_apply (r : Fin 6400) (d : Fin 128) :
    k0_pay5 x1 x3 x4 (ix2 r d) = vm (xv (fun f => x1 (ix3 ⟨r.val / 16, by omega⟩ ⟨r.val % 16, by omega⟩ f)) x3) x4 d := by
  unfold k0_pay5 vm
  pointwise
  simp only [emb_apply]

/-- The messages: each row its molecule's neighbours' rows, weighted by its row of the mask. -/
theorem msg_apply (v6 : FVec Ideal S400x16x16 .f32) (v14 : FVec Ideal S6400x128 .f32) (r : Fin 6400) (d : Fin 128) :
    A.msg (pay v6 v14) (0 : EReal) (ix2 r d : S6400x128.Idx)
      = ∑ w : Fin 16, v6 (ix3 ⟨r.val / 16, by omega⟩ ⟨r.val % 16, by omega⟩ w) * v14 (ix2 ⟨16 * (r.val / 16) + w.val, by omega⟩ d) := by
  have hrow : A.row (ix2 r d : S6400x128.Idx) = (ix2 ⟨r.val % 256, by omega⟩ d : S256x128.Idx) := by
    funext a
    match a with
    | 0 => rfl
    | 1 => rfl
  unfold Pack.Shp.msg
  rw [hrow]
  have hprod (bd : S256x256.Idx → EReal) : (pay v6 v14).prod (r.val / 256) bd (ix2 ⟨r.val % 256, by omega⟩ d)
      = ∑ k : Fin 256, bd (ix2 ⟨r.val % 256, by omega⟩ k) * v14 (ix2 ⟨256 * (r.val / 256 % 25) + k.val, by omega⟩ d) := by
    unfold pay
    pointwise
  show (pay v6 v14).prod (r.val / 256) (A.bd (pay v6 v14) (0 : EReal) (r.val / 256)) (ix2 ⟨r.val % 256, by omega⟩ d) = _
  rw [hprod, sum_run (n := 16) (b := 16) rfl (by omega) ⟨r.val % 256 / 16, by omega⟩ _ ?_ (fun w => by show 16 * (r.val % 256 / 16) + w.val < 256; omega)]
  · refine Finset.sum_congr rfl fun w _ => ?_
    refine congrArg₂ (· * ·) ?_ (congrArg v14 (congrArg (fun q => ix2 q d) (Fin.ext ?_)))
    · unfold Pack.Shp.bd
      refine (if_pos (show r.val % 256 / 16 = (16 * (r.val % 256 / 16) + w.val) / 16 by omega)).trans ?_
      have hloc : A.loc (ix2 ⟨r.val % 256, by omega⟩ ⟨16 * (r.val % 256 / 16) + w.val, by omega⟩ : S256x256.Idx)
          = (ix2 ⟨r.val % 16, by omega⟩ w : S16x16.Idx) := by
        funext a
        match a with
        | 0 => exact Fin.ext (show r.val % 256 % 16 = r.val % 16 by omega)
        | 1 => exact Fin.ext (show (16 * (r.val % 256 / 16) + w.val) % 16 = w.val by omega)
      refine (congrArg ((pay v6 v14).blk (r.val / 256) (r.val % 256 / 16)) hloc).trans ?_
      have hblk (q : ℕ) (i j : Fin 16) : (pay v6 v14).blk (r.val / 256) q (ix2 i j)
          = v6 (ix3 ⟨(16 * (r.val / 256) + q) % 400, by omega⟩ i j) := by
        unfold pay
        pointwise
      refine (hblk _ _ _).trans (congrArg v6 (congrArg (fun q => ix3 q _ w) (Fin.ext ?_)))
      show (16 * (r.val / 256) + r.val % 256 / 16) % 400 = r.val / 16
      omega
    · show 256 * (r.val / 256 % 25) + (16 * (r.val % 256 / 16) + w.val) = 16 * (r.val / 16) + w.val
      omega
  · intro k hk
    unfold Pack.Shp.bd
    exact (congrArg (· * _) (if_neg (show ¬ r.val % 256 / 16 = k.val / 16 from fun h => hk h.symm))).trans (zero_mul _)

/-- The call's block. -/
theorem out_apply (b : Fin 400) (d : Fin 128) :
    out x1 x2 x3 x4 x5 (ix2 b d) = libOut (fun v f => x1 (ix3 b v f)) (fun v w => k0_pay3 x2 (ix3 b v w)) x3 x4 x5 d := by
  have e1 (x : Fin 16) (h) : (⟨(b.val * 16 + x.val) / 16, h⟩ : Fin 400) = b := Fin.ext (by show (b.val * 16 + x.val) / 16 = b.val; omega)
  have e2 (x : Fin 16) (h) : (⟨(b.val * 16 + x.val) % 16, h⟩ : Fin 16) = x := Fin.ext (by show (b.val * 16 + x.val) % 16 = x.val; omega)
  have e3 (x w : Fin 16) (h) : (⟨(16 * ((b.val * 16 + x.val) / 16) + w.val) / 16, h⟩ : Fin 400) = b :=
    Fin.ext (by show (16 * ((b.val * 16 + x.val) / 16) + w.val) / 16 = b.val; omega)
  have e4 (x w : Fin 16) (h) : (⟨(16 * ((b.val * 16 + x.val) / 16) + w.val) % 16, h⟩ : Fin 16) = w :=
    Fin.ext (by show (16 * ((b.val * 16 + x.val) / 16) + w.val) % 16 = w.val; omega)
  unfold out libOut
  pointwise [k0_pay1, k0_pay457, k0_pay456]
  simp only [emb_apply, msg_apply, lin_apply, e1, e2, e3, e4]
  rfl

end Cert.Proof.Lib

end
-- ==== Proof.LibArr.lean ====
/-
  The array the library call leaves: row by row the molecule's vector, of the arrays before the call.
-/
module

public import proofs.«01_k».proof.Proof.LibVal
public import proofs.«01_k».proof.Proof.LibCall
public import Idealize.ShloMosaic.Lib.Pipeline.ValueKit

@[expose] public section

noncomputable section

namespace Cert.Proof.Lib

open Cert.KernelIdeal Cert.KernelIdeal.Gen Cert.Proof.Tc Cert.Proof.Region
open Idealize.ShloMosaic Cert.Proof.Spec
open Idealize.ShloMosaic.TcCoe

theorem mask_apply (x2 : Vec Ideal S400x16x16 .i32) (b : Fin 400) (v w : Fin 16) : k0_pay3 (F := Ideal) x2 (ix3 b v w) = mk (x2 (ix3 b v w)) := by
  unfold mk
  pointwise [k0_pay3]

theorem out_at (x1 : Vec Ideal S400x16x64 .f32) (x2 : Vec Ideal S400x16x16 .i32) (x3 : Vec Ideal S64x128 .f32) (x4 x5 : Vec Ideal S128x128 .f32) (y : S400x128.Idx) :
    out x1 x2 x3 x4 x5 y = libOut (fun v f => x1 (ix3 (y 0) v f)) (fun v w => mk (x2 (ix3 (y 0) v w))) x3 x4 x5 (y 1) := by
  refine (congrArg _ (eq_ix2 y)).trans ((out_apply x1 x2 x3 x4 x5 (y 0) (y 1)).trans ?_)
  exact congrArg (fun a => libOut _ a x3 x4 x5 (y 1)) (funext fun v => funext fun w => mask_apply x2 (y 0) v w)

/-- The library's array after the call. -/
def arr (W : Valuation τ sig (Elt Ideal)) : Vec Ideal S10000x128 .f32 := fun i =>
  libOut (fun v f => (W (Proc.devRef .tc main_arg7) : Vec Ideal S10000x16x64 .f32) (ix3 (i 0) v f))
    (fun v w => mk ((W (Proc.devRef .tc main_v2) : Vec Ideal S10000x16x16 .i32) (ix3 (i 0) v w)))
    (W (Proc.devRef .tc main_arg15)) (W (Proc.devRef .tc main_arg16)) (W (Proc.devRef .tc main_arg17)) (i 1)

theorem e0 : ∀ t : Fin cfg0.N, win0_0.index t = ![(grid0.coords t 0).val, 0, 0] := (by decide +kernel : ∀ t : Fin grid0.N, _)
theorem e1 : ∀ t : Fin cfg0.N, win0_1.index t = ![(grid0.coords t 0).val, 0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![(grid0.coords t 0).val, 0] := (by decide +kernel : ∀ t : Fin grid0.N, _)

theorem arrAt (W : Valuation τ sig (Elt Ideal)) (c : Dev nD) : (dat W c).arrAt 5 cfg0.N = arr W := by
  refine (dat W c).arrAt_eq_of_covers 5 _ (by decide +kernel) fun t hf y => ?_
  blk_simp
  show out (F := Ideal) (blk W c 0 t) (blk W c 1 t) (blk W c 2 t) (blk W c 3 t) (blk W c 4 t) (y : S400x128.Idx) = _
  have b2 : (blk W c 2 t : Vec Ideal S64x128 .f32) = W (Proc.devRef .tc main_arg15) := by
    funext x
    show _ = (W (Proc.devRef .tc main_arg15) : Vec Ideal S64x128 .f32) x
    blk_ext [blk, e2]
  have b3 : (blk W c 3 t : Vec Ideal S128x128 .f32) = W (Proc.devRef .tc main_arg16) := by
    funext x
    show _ = (W (Proc.devRef .tc main_arg16) : Vec Ideal S128x128 .f32) x
    blk_ext [blk, e3]
  have b4 : (blk W c 4 t : Vec Ideal S128x128 .f32) = W (Proc.devRef .tc main_arg17) := by
    funext x
    show _ = (W (Proc.devRef .tc main_arg17) : Vec Ideal S128x128 .f32) x
    blk_ext [blk, e4]
  rw [b2, b3, b4]
  refine (out_at _ _ _ _ _ y).trans ?_
  unfold arr
  refine congr (congrFun (congrFun (congrFun (congrArg₂ libOut ?_ ?_) _) _) _) ?_
  · funext v f
    show (blk W c 0 t : Vec Ideal S400x16x64 .f32) (ix3 (y 0) v f) = (W (Proc.devRef .tc main_arg7) : Vec Ideal S10000x16x64 .f32) (ix3 _ v f)
    blk_ext [blk, e0, e5]
  · funext v w
    refine congrArg mk ?_
    show (blk W c 1 t : Vec Ideal S400x16x16 .i32) (ix3 (y 0) v w) = (W (Proc.devRef .tc main_v2) : Vec Ideal S10000x16x16 .i32) (ix3 _ v w)
    blk_ext [blk, e1, e5]
  · refine Fin.ext ?_
    blk_simp [e5]

theorem after_v3 (W : Valuation τ sig (Elt Ideal)) (c : Dev nD) :
    Pipeline.afterRegion (dat W c) W (Proc.devRef .tc main_v3) = arr W :=
  (Pipeline.afterRegion_arr (dat W c) W winFacts0.arr_inj 5).trans (arrAt W c)

end Cert.Proof.Lib

end
-- ==== Proof.GnnVal.lean ====
/-
  The graph network call's two blocks at an index: each row its molecule's vector, and the second layer's nodes through one matrix.
-/
module

public import proofs.«01_k».proof.Proof.Spec
public import proofs.«01_k».proof.Proof.Gnn

@[expose] public section

noncomputable section

namespace Cert.Proof.Gnn

open Cert.KernelIdeal Cert.KernelIdeal.Gen
open Idealize.ShloMosaic Cert.Proof.Spec

variable (x1 : Vec Ideal S128x32x64 .f32) (x2 : Vec Ideal S128x32x32 .i32) (x3 : Vec Ideal S128x16 .f32) (x4 : Vec Ideal S64x128 .f32)
  (x5 x6 x7 : Vec Ideal S128x128 .f32) (x8 : Vec Ideal S16x128 .f32) (x9 x10 : Vec Ideal S128x128 .f32)

theorem emb_apply (r : Fin 4096) (d : Fin 128) :
    k1_pay4 x1 x4 (ix2 r d) = xv (fun f => x1 (ix3 ⟨r.val / 32, by omega⟩ ⟨r.val % 32, by omega⟩ f)) x4 d := by
  unfold xv vm
  pointwise [k1_pay4]

theorem lin0_apply (r : Fin 4096) (d : Fin 128) :
    k1_pay5 x1 x4 x5 (ix2 r d) = vm (xv (fun f => x1 (ix3 ⟨r.val / 32, by omega⟩ ⟨r.val % 32, by omega⟩ f)) x4) x5 d := by
  unfold k1_pay5 vm
  pointwise
  simp only [emb_apply]

theorem lin_apply (v : FVec Ideal S4096x128 .f32) (r : Fin 4096) (d : Fin 128) :
    lin v x9 (ix2 r d) = vm (fun e => v (ix2 r e)) x9 d := by
  unfold lin k1_pay161 vm
  pointwise

/-- The messages: each row its molecule's neighbours' rows, weighted by its row of the mask. -/
theorem msg_apply (v6 : FVec Ideal S128x32x32 .f32) (v14 : FVec Ideal S4096x128 .f32) (r : Fin 4096) (d : Fin 128) :
    A.msg (pay v6 v14) (0 : EReal) (ix2 r d : S4096x128.Idx)
      = ∑ w : Fin 32, v6 (ix3 ⟨r.val / 32, by omega⟩ ⟨r.val % 32, by omega⟩ w) * v14 (ix2 ⟨32 * (r.val / 32) + w.val, by omega⟩ d) := by
  have hrow : A.row (ix2 r d : S4096x128.Idx) = (ix2 ⟨r.val % 256, by omega⟩ d : S256x128.Idx) := by
    funext a
    match a with
    | 0 => rfl
    | 1 => rfl
  unfold Pack.Shp.msg
  rw [hrow]
  have hprod (bd : S256x256.Idx → EReal) : (pay v6 v14).prod (r.val / 256) bd (ix2 ⟨r.val % 256, by omega⟩ d)
      = ∑ k : Fin 256, bd (ix2 ⟨r.val % 256, by omega⟩ k) * v14 (ix2 ⟨256 * (r.val / 256 % 16) + k.val, by omega⟩ d) := by
    unfold pay
    pointwise
  show (pay v6 v14).prod (r.val / 256) (A.bd (pay v6 v14) (0 : EReal) (r.val / 256)) (ix2 ⟨r.val % 256, by omega⟩ d) = _
  rw [hprod, sum_run (n := 8) (b := 32) rfl (by omega) ⟨r.val % 256 / 32, by omega⟩ _ ?_ (fun w => by show 32 * (r.val % 256 / 32) + w.val < 256; omega)]
  · refine Finset.sum_congr rfl fun w _ => ?_
    refine congrArg₂ (· * ·) ?_ (congrArg v14 (congrArg (fun q => ix2 q d) (Fin.ext ?_)))
    · unfold Pack.Shp.bd
      refine (if_pos (show r.val % 256 / 32 = (32 * (r.val % 256 / 32) + w.val) / 32 by omega)).trans ?_
      have hloc : A.loc (ix2 ⟨r.val % 256, by omega⟩ ⟨32 * (r.val % 256 / 32) + w.val, by omega⟩ : S256x256.Idx)
          = (ix2 ⟨r.val % 32, by omega⟩ w : S32x32.Idx) := by
        funext a
        match a with
        | 0 => exact Fin.ext (show r.val % 256 % 32 = r.val % 32 by omega)
        | 1 => exact Fin.ext (show (32 * (r.val % 256 / 32) + w.val) % 32 = w.val by omega)
      refine (congrArg ((pay v6 v14).blk (r.val / 256) (r.val % 256 / 32)) hloc).trans ?_
      have hblk (q : ℕ) (i j : Fin 32) : (pay v6 v14).blk (r.val / 256) q (ix2 i j)
          = v6 (ix3 ⟨(8 * (r.val / 256) + q) % 128, by omega⟩ i j) := by
        unfold pay
        pointwise
      refine (hblk _ _ _).trans (congrArg v6 (congrArg (fun q => ix3 q _ w) (Fin.ext ?_)))
      show (8 * (r.val / 256) + r.val % 256 / 32) % 128 = r.val / 32
      omega
    · show 256 * (r.val / 256 % 16) + (32 * (r.val % 256 / 32) + w.val) = 32 * (r.val / 32) + w.val
      omega
  · intro k hk
    unfold Pack.Shp.bd
    exact (congrArg (· * _) (if_neg (show ¬ r.val % 256 / 32 = k.val / 32 from fun h => hk h.symm))).trans (zero_mul _)

/-- A node after the first layer's messages. -/
theorem hid_apply (r : Fin 4096) (d : Fin 128) :
    hid x1 x2 x4 x5 (ix2 r d) = gv (fun v f => x1 (ix3 ⟨r.val / 32, by omega⟩ v f)) (fun v w => k1_pay3 x2 (ix3 ⟨r.val / 32, by omega⟩ v w)) x4 x5
      ⟨r.val % 32, by omega⟩ d := by
  have e3 (w : Fin 32) (h) : (⟨(32 * (r.val / 32) + w.val) / 32, h⟩ : Fin 128) = ⟨r.val / 32, by omega⟩ :=
    Fin.ext (by show (32 * (r.val / 32) + w.val) / 32 = r.val / 32; omega)
  have e4 (w : Fin 32) (h) : (⟨(32 * (r.val / 32) + w.val) % 32, h⟩ : Fin 32) = w :=
    Fin.ext (by show (32 * (r.val / 32) + w.val) % 32 = w.val; omega)
  unfold hid
  pointwise [k1_pay160]
  simp only [emb_apply, msg_apply, lin0_apply, e3, e4]
  rfl

/-- The nodes' block. -/
theorem out12_apply (b : Fin 128) (v : Fin 32) (d : Fin 128) :
    out12 x1 x2 x4 x5 x9 x10 (ix3 b v d)
      = vm (xe (fun v f => x1 (ix3 b v f)) (fun v w => k1_pay3 x2 (ix3 b v w)) x4 x5 x9 v) x10 d := by
  have e1 (h) : (⟨(b.val * 32 + v.val) / 32, h⟩ : Fin 128) = b := Fin.ext (by show (b.val * 32 + v.val) / 32 = b.val; omega)
  have e2 (h) : (⟨(b.val * 32 + v.val) % 32, h⟩ : Fin 32) = v := Fin.ext (by show (b.val * 32 + v.val) % 32 = v.val; omega)
  have e3 (w : Fin 32) (h) : (⟨(32 * ((b.val * 32 + v.val) / 32) + w.val) / 32, h⟩ : Fin 128) = b :=
    Fin.ext (by show (32 * ((b.val * 32 + v.val) / 32) + w.val) / 32 = b.val; omega)
  have e4 (w : Fin 32) (h) : (⟨(32 * ((b.val * 32 + v.val) / 32) + w.val) % 32, h⟩ : Fin 32) = w :=
    Fin.ext (by show (32 * ((b.val * 32 + v.val) / 32) + w.val) % 32 = w.val; omega)
  unfold out12
  pointwise [k1_pay316]
  simp only [msg_apply, lin_apply, hid_apply, e1, e2, e3, e4]
  rfl

/-- The graphs' block. -/
theorem out11_apply (b : Fin 128) (d : Fin 128) :
    out11 x1 x2 x3 x4 x5 x6 x7 x8 (ix2 b d)
      = graphOut (fun v f => x1 (ix3 b v f)) (fun v w => k1_pay3 x2 (ix3 b v w)) x4 x5 x6 x7 (fun f => x3 (ix2 b f)) x8 d := by
  have e1 (v : Fin 32) (h) : (⟨(b.val * 32 + v.val) / 32, h⟩ : Fin 128) = b := Fin.ext (by show (b.val * 32 + v.val) / 32 = b.val; omega)
  have e2 (v : Fin 32) (h) : (⟨(b.val * 32 + v.val) % 32, h⟩ : Fin 32) = v := Fin.ext (by show (b.val * 32 + v.val) % 32 = v.val; omega)
  unfold out11
  pointwise [k1_pay1, k1_pay317]
  simp only [hid_apply, e1, e2]
  rfl

end Cert.Proof.Gnn

end
-- ==== Proof.GnnArr.lean ====
/-
  The two arrays the graph network's call leaves, of the arrays before the call: each graph's vector, and each node's second layer
  through one matrix.
-/
module

public import proofs.«01_k».proof.Proof.GnnVal
public import proofs.«01_k».proof.Proof.GnnCall
public import Idealize.ShloMosaic.Lib.Pipeline.ValueKit

@[expose] public section

noncomputable section

namespace Cert.Proof.Gnn

open Cert.KernelIdeal Cert.KernelIdeal.Gen Cert.Proof.Tc Cert.Proof.Region
open Idealize.ShloMosaic Cert.Proof.Spec
open Idealize.ShloMosaic.TcCoe

theorem mask_apply (x2 : Vec Ideal S128x32x32 .i32) (b : Fin 128) (v w : Fin 32) : k1_pay3 (F := Ideal) x2 (ix3 b v w) = mk (x2 (ix3 b v w)) := by
  unfold mk
  pointwise [k1_pay3]

section At
variable (x1 : Vec Ideal S128x32x64 .f32) (x2 : Vec Ideal S128x32x32 .i32) (x3 : Vec Ideal S128x16 .f32) (x4 : Vec Ideal S64x128 .f32)
  (x5 x6 x7 : Vec Ideal S128x128 .f32) (x8 : Vec Ideal S16x128 .f32) (x9 x10 : Vec Ideal S128x128 .f32)

theorem out11_at (y : S128x128.Idx) : out11 x1 x2 x3 x4 x5 x6 x7 x8 y
    = graphOut (fun v f => x1 (ix3 (y 0) v f)) (fun v w => mk (x2 (ix3 (y 0) v w))) x4 x5 x6 x7 (fun f => x3 (ix2 (y 0) f)) x8 (y 1) := by
  refine (congrArg _ (eq_ix2 y)).trans ((out11_apply x1 x2 x3 x4 x5 x6 x7 x8 (y 0) (y 1)).trans ?_)
  exact congrArg (fun a => graphOut _ a x4 x5 x6 x7 _ x8 (y 1)) (funext fun v => funext fun w => mask_apply x2 (y 0) v w)

theorem out12_at (y : S128x32x128.Idx) : out12 x1 x2 x4 x5 x9 x10 y
    = vm (xe (fun v f => x1 (ix3 (y 0) v f)) (fun v w => mk (x2 (ix3 (y 0) v w))) x4 x5 x9 (y 1)) x10 (y 2) := by
  refine (congrArg _ (eq_ix3 y)).trans ((out12_apply x1 x2 x4 x5 x9 x10 (y 0) (y 1) (y 2)).trans ?_)
  exact congrArg (fun a => vm (xe _ a x4 x5 x9 (y 1)) x10 (y 2)) (funext fun v => funext fun w => mask_apply x2 (y 0) v w)

end At

section Blocks
variable (W : Valuation τ sig (Elt Ideal))

/-- The nodes' features of a graph. -/
def feat (b : Fin 4096) : Fin 32 → Fin 64 → EReal := fun v f => (W (Proc.devRef .tc main_arg0) : Vec Ideal S4096x32x64 .f32) (ix3 b v f)
/-- The adjacency of a graph. -/
def adj (b : Fin 4096) : Fin 32 → Fin 32 → EReal := fun v w => mk ((W (Proc.devRef .tc main_v7) : Vec Ideal S4096x32x32 .i32) (ix3 b v w))
/-- The condition of a graph. -/
def cond (b : Fin 4096) : Fin 16 → EReal := fun f => (W (Proc.devRef .tc main_arg2) : Vec Ideal S4096x16 .f32) (ix2 b f)

/-- The graphs' array after the call. -/
def arr11 : Vec Ideal S4096x128 .f32 := fun i =>
  graphOut (feat W (i 0)) (adj W (i 0)) (W (Proc.devRef .tc main_arg9)) (W (Proc.devRef .tc main_arg10)) (W (Proc.devRef .tc main_arg11))
    (W (Proc.devRef .tc main_v5)) (cond W (i 0)) (W (Proc.devRef .tc main_v6)) (i 1)

/-- The nodes' array after the call. -/
def arr12 : Vec Ideal S4096x32x128 .f32 := fun i =>
  vm (xe (feat W (i 0)) (adj W (i 0)) (W (Proc.devRef .tc main_arg9)) (W (Proc.devRef .tc main_arg10)) (W (Proc.devRef .tc main_arg18)) (i 1))
    (W (Proc.devRef .tc main_v4)) (i 2)

end Blocks

theorem e0 : ∀ t : Fin cfg1.N, win1_0.index t = ![(grid1.coords t 0).val, 0, 0] := (by decide +kernel : ∀ t : Fin grid1.N, _)
theorem e1 : ∀ t : Fin cfg1.N, win1_1.index t = ![(grid1.coords t 0).val, 0, 0] := (by decide +kernel : ∀ t : Fin grid1.N, _)
theorem e2 : ∀ t : Fin cfg1.N, win1_2.index t = ![(grid1.coords t 0).val, 0] := (by decide +kernel : ∀ t : Fin grid1.N, _)
theorem e3 : ∀ t : Fin cfg1.N, win1_3.index t = ![0, 0] := (by decide +kernel : ∀ t : Fin grid1.N, _)
theorem e4 : ∀ t : Fin cfg1.N, win1_4.index t = ![0, 0] := (by decide +kernel : ∀ t : Fin grid1.N, _)
theorem e5 : ∀ t : Fin cfg1.N, win1_5.index t = ![0, 0] := (by decide +kernel : ∀ t : Fin grid1.N, _)
theorem e6 : ∀ t : Fin cfg1.N, win1_6.index t = ![0, 0] := (by decide +kernel : ∀ t : Fin grid1.N, _)
theorem e7 : ∀ t : Fin cfg1.N, win1_7.index t = ![0, 0] := (by decide +kernel : ∀ t : Fin grid1.N, _)
theorem e8 : ∀ t : Fin cfg1.N, win1_8.index t = ![0, 0] := (by decide +kernel : ∀ t : Fin grid1.N, _)
theorem e9 : ∀ t : Fin cfg1.N, win1_9.index t = ![0, 0] := (by decide +kernel : ∀ t : Fin grid1.N, _)
theorem e10 : ∀ t : Fin cfg1.N, win1_10.index t = ![(grid1.coords t 0).val, 0] := (by decide +kernel : ∀ t : Fin grid1.N, _)
theorem e11 : ∀ t : Fin cfg1.N, win1_11.index t = ![(grid1.coords t 0).val, 0, 0] := (by decide +kernel : ∀ t : Fin grid1.N, _)

theorem b3 (W : Valuation τ sig (Elt Ideal)) (c : Dev nD) (t : Fin cfg1.N) : (blk W c 3 t : Vec Ideal S64x128 .f32) = W (Proc.devRef .tc main_arg9) := by
  funext x
  show _ = (W (Proc.devRef .tc main_arg9) : Vec Ideal S64x128 .f32) x
  blk_ext [blk, e3]
theorem b4 (W : Valuation τ sig (Elt Ideal)) (c : Dev nD) (t : Fin cfg1.N) : (blk W c 4 t : Vec Ideal S128x128 .f32) = W (Proc.devRef .tc main_arg10) := by
  funext x
  show _ = (W (Proc.devRef .tc main_arg10) : Vec Ideal S128x128 .f32) x
  blk_ext [blk, e4]
theorem b5 (W : Valuation τ sig (Elt Ideal)) (c : Dev nD) (t : Fin cfg1.N) : (blk W c 5 t : Vec Ideal S128x128 .f32) = W (Proc.devRef .tc main_arg11) := by
  funext x
  show _ = (W (Proc.devRef .tc main_arg11) : Vec Ideal S128x128 .f32) x
  blk_ext [blk, e5]
theorem b6 (W : Valuation τ sig (Elt Ideal)) (c : Dev nD) (t : Fin cfg1.N) : (blk W c 6 t : Vec Ideal S128x128 .f32) = W (Proc.devRef .tc main_v5) := by
  funext x
  show _ = (W (Proc.devRef .tc main_v5) : Vec Ideal S128x128 .f32) x
  blk_ext [blk, e6]
theorem b7 (W : Valuation τ sig (Elt Ideal)) (c : Dev nD) (t : Fin cfg1.N) : (blk W c 7 t : Vec Ideal S16x128 .f32) = W (Proc.devRef .tc main_v6) := by
  funext x
  show _ = (W (Proc.devRef .tc main_v6) : Vec Ideal S16x128 .f32) x
  blk_ext [blk, e7]
theorem b8 (W : Valuation τ sig (Elt Ideal)) (c : Dev nD) (t : Fin cfg1.N) : (blk W c 8 t : Vec Ideal S128x128 .f32) = W (Proc.devRef .tc main_arg18) := by
  funext x
  show _ = (W (Proc.devRef .tc main_arg18) : Vec Ideal S128x128 .f32) x
  blk_ext [blk, e8]
theorem b9 (W : Valuation τ sig (Elt Ideal)) (c : Dev nD) (t : Fin cfg1.N) : (blk W c 9 t : Vec Ideal S128x128 .f32) = W (Proc.devRef .tc main_v4) := by
  funext x
  show _ = (W (Proc.devRef .tc main_v4) : Vec Ideal S128x128 .f32) x
  blk_ext [blk, e9]

theorem arrAt11 (W : Valuation τ sig (Elt Ideal)) (c : Dev nD) : (dat W c).arrAt 10 cfg1.N = arr11 W := by
  refine (dat W c).arrAt_eq_of_covers 10 _ (by decide +kernel) fun t hf y => ?_
  blk_simp
  show out11 (F := Ideal) (blk W c 0 t) (blk W c 1 t) (blk W c 2 t) (blk W c 3 t) (blk W c 4 t) (blk W c 5 t) (blk W c 6 t) (blk W c 7 t) (y : S128x128.Idx) = _
  rw [b3, b4, b5, b6, b7]
  refine (out11_at _ _ _ _ _ _ _ _ y).trans ?_
  unfold arr11
  refine congr (congrFun (congr (congrFun (congrFun (congrFun (congrFun (congrArg₂ graphOut ?_ ?_) _) _) _) _) ?_) _) ?_
  · funext v f
    show (blk W c 0 t : Vec Ideal S128x32x64 .f32) (ix3 (y 0) v f) = (W (Proc.devRef .tc main_arg0) : Vec Ideal S4096x32x64 .f32) (ix3 _ v f)
    blk_ext [blk, e0, e10]
  · funext v w
    refine congrArg mk ?_
    show (blk W c 1 t : Vec Ideal S128x32x32 .i32) (ix3 (y 0) v w) = (W (Proc.devRef .tc main_v7) : Vec Ideal S4096x32x32 .i32) (ix3 _ v w)
    blk_ext [blk, e1, e10]
  · funext f
    show (blk W c 2 t : Vec Ideal S128x16 .f32) (ix2 (y 0) f) = (W (Proc.devRef .tc main_arg2) : Vec Ideal S4096x16 .f32) (ix2 _ f)
    blk_ext [blk, e2, e10]
  · refine Fin.ext ?_
    blk_simp [e10]

theorem arrAt12 (W : Valuation τ sig (Elt Ideal)) (c : Dev nD) : (dat W c).arrAt 11 cfg1.N = arr12 W := by
  refine (dat W c).arrAt_eq_of_covers 11 _ (by decide +kernel) fun t hf y => ?_
  blk_simp
  show out12 (F := Ideal) (blk W c 0 t) (blk W c 1 t) (blk W c 3 t) (blk W c 4 t) (blk W c 8 t) (blk W c 9 t) (y : S128x32x128.Idx) = _
  rw [b3, b4, b8, b9]
  refine (out12_at _ _ _ _ _ _ y).trans ?_
  unfold arr12
  refine congr (congrFun (congrArg vm (congr (congrFun (congrFun (congrFun (congrArg₂ xe ?_ ?_) _) _) _) ?_)) _) ?_
  · funext v f
    show (blk W c 0 t : Vec Ideal S128x32x64 .f32) (ix3 (y 0) v f) = (W (Proc.devRef .tc main_arg0) : Vec Ideal S4096x32x64 .f32) (ix3 _ v f)
    blk_ext [blk, e0, e11]
  · funext v w
    refine congrArg mk ?_
    show (blk W c 1 t : Vec Ideal S128x32x32 .i32) (ix3 (y 0) v w) = (W (Proc.devRef .tc main_v7) : Vec Ideal S4096x32x32 .i32) (ix3 _ v w)
    blk_ext [blk, e1, e11]
  · refine Fin.ext ?_
    blk_simp [e11]
  · refine Fin.ext ?_
    blk_simp [e11]

theorem after_v8_0 (W : Valuation τ sig (Elt Ideal)) (c : Dev nD) :
    Pipeline.afterRegion (dat W c) W (Proc.devRef .tc main_v8_0) = arr11 W :=
  (Pipeline.afterRegion_arr (dat W c) W winFacts1.arr_inj 10).trans (arrAt11 W c)
theorem after_v8_1 (W : Valuation τ sig (Elt Ideal)) (c : Dev nD) :
    Pipeline.afterRegion (dat W c) W (Proc.devRef .tc main_v8_1) = arr12 W :=
  (Pipeline.afterRegion_arr (dat W c) W winFacts1.arr_inj 11).trans (arrAt12 W c)

end Cert.Proof.Gnn

end
-- ==== Proof.LossArr.lean ====
/-
  The array the losses' call leaves, of the arrays before the call: in its first four lanes the scaled sums of all graphs' losses.
-/
module

public import proofs.«01_k».proof.Proof.LossVal
public import proofs.«01_k».proof.Proof.LossCall
public import Idealize.ShloMosaic.Lib.Pipeline.ValueKit

@[expose] public section

noncomputable section

namespace Cert.Proof.Loss

open Cert.KernelIdeal Cert.KernelIdeal.Gen Cert.Proof.Tc Cert.Proof.Region
open Idealize.ShloMosaic Cert.Proof.Spec
open Idealize.ShloMosaic.TcCoe

theorem e0 : ∀ t : Fin cfg3.N, win3_0.index t = ![(grid3.coords t 0).val, 0] := (by decide +kernel : ∀ t : Fin grid3.N, _)
theorem e1 : ∀ t : Fin cfg3.N, win3_1.index t = ![(grid3.coords t 0).val, 0] := (by decide +kernel : ∀ t : Fin grid3.N, _)
theorem e2 : ∀ t : Fin cfg3.N, win3_2.index t = ![(grid3.coords t 0).val, 0] := (by decide +kernel : ∀ t : Fin grid3.N, _)
theorem e3 : ∀ t : Fin cfg3.N, win3_3.index t = ![(grid3.coords t 0).val, 0] := (by decide +kernel : ∀ t : Fin grid3.N, _)
theorem e4 : ∀ t : Fin cfg3.N, win3_4.index t = ![(grid3.coords t 0).val, 0, 0] := (by decide +kernel : ∀ t : Fin grid3.N, _)
theorem e5 : ∀ t : Fin cfg3.N, win3_5.index t = ![(grid3.coords t 0).val, 0] := (by decide +kernel : ∀ t : Fin grid3.N, _)
theorem e6 : ∀ t : Fin cfg3.N, win3_6.index t = ![(grid3.coords t 0).val, 0] := (by decide +kernel : ∀ t : Fin grid3.N, _)
theorem e7 : ∀ t : Fin cfg3.N, win3_7.index t = ![(grid3.coords t 0).val, 0] := (by decide +kernel : ∀ t : Fin grid3.N, _)
theorem e8 : ∀ t : Fin cfg3.N, win3_8.index t = ![0, 0] := (by decide +kernel : ∀ t : Fin grid3.N, _)
theorem e9 : ∀ t : Fin cfg3.N, win3_9.index t = ![0, 0] := (by decide +kernel : ∀ t : Fin grid3.N, _)
theorem e10 : ∀ t : Fin cfg3.N, win3_10.index t = ![0, 0] := (by decide +kernel : ∀ t : Fin grid3.N, _)
theorem e11 : ∀ t : Fin cfg3.N, win3_11.index t = ![0, 0] := (by decide +kernel : ∀ t : Fin grid3.N, _)
theorem e12 : ∀ t : Fin cfg3.N, win3_12.index t = ![0, 0] := (by decide +kernel : ∀ t : Fin grid3.N, _)

theorem coord (t : Fin cfg3.N) : (grid3.coords t 0).val = t.val := by
  have ht : t.val < 16 := Nat.lt_of_lt_of_eq t.isLt N_3
  have e0 : (grid3.coords t 0).val = t.val / 1 % 16 := Pipeline.Grid.coords_val t 0 (by decide) rfl
  omega

/-- A step's graph. -/
def gi (t : Fin cfg3.N) (r : Fin 256) : Fin 4096 := ⟨256 * t.val + r.val, by have := Nat.lt_of_lt_of_eq t.isLt N_3; omega⟩

/-- A graph's losses, of the arrays before the call. -/
def lanes (W : Valuation τ sig (Elt Ideal)) (i : Fin 4096) : Fin 4 → EReal :=
  lane (fun d => (W (Proc.devRef .tc main_v8_0) : Vec Ideal S4096x128 .f32) (ix2 i d))
    (fun d => (W (Proc.devRef .tc main_v11) : Vec Ideal S4096x128 .f32) (ix2 i d))
    (fun d => (W (Proc.devRef .tc main_v12) : Vec Ideal S4096x128 .f32) (ix2 i d))
    (fun d => (W (Proc.devRef .tc main_v13) : Vec Ideal S4096x128 .f32) (ix2 i d))
    (fun v d => (W (Proc.devRef .tc main_v8_1) : Vec Ideal S4096x32x128 .f32) (ix3 i v d))
    (fun f => (W (Proc.devRef .tc main_arg2) : Vec Ideal S4096x16 .f32) (ix2 i f))
    ((W (Proc.devRef .tc main_v15) : Vec Ideal S4096x1 .i32) (ix2 i 0)) ((W (Proc.devRef .tc main_v16) : Vec Ideal S4096x1 .i32) (ix2 i 0))
    (rows0 (W (Proc.devRef .tc main_v14) : Vec Ideal S272x128 .f32)) (rows1 (W (Proc.devRef .tc main_v14) : Vec Ideal S272x128 .f32))
    (rows2 (W (Proc.devRef .tc main_v14) : Vec Ideal S272x128 .f32)) (fun d => (W (Proc.devRef .tc main_v17) : Vec Ideal S1x128 .f32) (ix2 0 d))
    (fun d => (W (Proc.devRef .tc main_v18) : Vec Ideal S1x128 .f32) (ix2 0 d)) ((W (Proc.devRef .tc main_v19) : Vec Ideal S1x1 .f32) (ix2 0 0))

section Blocks
variable (W : Valuation τ sig (Elt Ideal)) (c : Dev nD) (t : Fin cfg3.N)

theorem b0 (r : Fin 256) (d : Fin 128) : (blk W c 0 t : Vec Ideal S256x128 .f32) (ix2 r d) = (W (Proc.devRef .tc main_v8_0) : Vec Ideal S4096x128 .f32) (ix2 (gi t r) d) := by
  have hc := coord t
  unfold gi
  blk_ext [blk, e0]
theorem b1 (r : Fin 256) (d : Fin 128) : (blk W c 1 t : Vec Ideal S256x128 .f32) (ix2 r d) = (W (Proc.devRef .tc main_v11) : Vec Ideal S4096x128 .f32) (ix2 (gi t r) d) := by
  have hc := coord t
  unfold gi
  blk_ext [blk, e1]
theorem b2 (r : Fin 256) (d : Fin 128) : (blk W c 2 t : Vec Ideal S256x128 .f32) (ix2 r d) = (W (Proc.devRef .tc main_v12) : Vec Ideal S4096x128 .f32) (ix2 (gi t r) d) := by
  have hc := coord t
  unfold gi
  blk_ext [blk, e2]
theorem b3 (r : Fin 256) (d : Fin 128) : (blk W c 3 t : Vec Ideal S256x128 .f32) (ix2 r d) = (W (Proc.devRef .tc main_v13) : Vec Ideal S4096x128 .f32) (ix2 (gi t r) d) := by
  have hc := coord t
  unfold gi
  blk_ext [blk, e3]
theorem b4 (r : Fin 256) (v : Fin 32) (d : Fin 128) : (blk W c 4 t : Vec Ideal S256x32x128 .f32) (ix3 r v d) = (W (Proc.devRef .tc main_v8_1) : Vec Ideal S4096x32x128 .f32) (ix3 (gi t r) v d) := by
  have hc := coord t
  unfold gi
  blk_ext [blk, e4]
theorem b5 (r : Fin 256) (d : Fin 16) : (blk W c 5 t : Vec Ideal S256x16 .f32) (ix2 r d) = (W (Proc.devRef .tc main_arg2) : Vec Ideal S4096x16 .f32) (ix2 (gi t r) d) := by
  have hc := coord t
  unfold gi
  blk_ext [blk, e5]
theorem b6 (r : Fin 256)  : (blk W c 6 t : Vec Ideal S256x1 .i32) (ix2 r 0) = (W (Proc.devRef .tc main_v15) : Vec Ideal S4096x1 .i32) (ix2 (gi t r) 0) := by
  have hc := coord t
  unfold gi
  blk_ext [blk, e6]
theorem b7 (r : Fin 256)  : (blk W c 7 t : Vec Ideal S256x1 .i32) (ix2 r 0) = (W (Proc.devRef .tc main_v16) : Vec Ideal S4096x1 .i32) (ix2 (gi t r) 0) := by
  have hc := coord t
  unfold gi
  blk_ext [blk, e7]

theorem b8 : (blk W c 8 t : Vec Ideal S272x128 .f32) = W (Proc.devRef .tc main_v14) := by
  funext x
  show _ = (W (Proc.devRef .tc main_v14) : Vec Ideal S272x128 .f32) x
  blk_ext [blk, e8]
theorem b9 : (blk W c 9 t : Vec Ideal S1x128 .f32) = W (Proc.devRef .tc main_v17) := by
  funext x
  show _ = (W (Proc.devRef .tc main_v17) : Vec Ideal S1x128 .f32) x
  blk_ext [blk, e9]
theorem b10 : (blk W c 10 t : Vec Ideal S1x128 .f32) = W (Proc.devRef .tc main_v18) := by
  funext x
  show _ = (W (Proc.devRef .tc main_v18) : Vec Ideal S1x128 .f32) x
  blk_ext [blk, e10]
theorem b11 : (blk W c 11 t : Vec Ideal S1x1 .f32) = W (Proc.devRef .tc main_v19) := by
  funext x
  show _ = (W (Proc.devRef .tc main_v19) : Vec Ideal S1x1 .f32) x
  blk_ext [blk, e11]

/-- A step's sums are its graphs' losses. -/
theorem sums_blk (j : Fin 4) : sums (blk W c 0 t) (blk W c 1 t) (blk W c 2 t) (blk W c 3 t) (blk W c 4 t) (blk W c 5 t) (blk W c 6 t) (blk W c 7 t)
    (blk W c 8 t) (blk W c 9 t) (blk W c 10 t) (blk W c 11 t) j = ∑ r, lanes W (gi t r) j := by
  rw [b8, b9, b10, b11]
  unfold sums lanes
  simp only [b0, b1, b2, b3, b4, b5, b6, b7]

end Blocks

theorem cond2_iff (t : Fin cfg3.N) : k3_cond2 (grid3.coords t) = 1#1 ↔ t.val < 15 := by
  have ht : t.val < 16 := Nat.lt_of_lt_of_eq t.isLt N_3
  have e0 := coord t
  unfold k3_cond2
  simp only [e0]
  word_cmp

theorem cond3_iff (t : Fin cfg3.N) : k3_cond3 (grid3.coords t) = 1#1 ↔ t.val = 15 := by
  have ht : t.val < 16 := Nat.lt_of_lt_of_eq t.isLt N_3
  have e0 := coord t
  unfold k3_cond3
  simp only [e0]
  word_cmp

section Sums
variable (W : Valuation τ sig (Elt Ideal)) (c : Dev nD) (j : Fin 4)

/-- A step's losses together. -/
def part (k : ℕ) : EReal := if h : k < cfg3.N then ∑ r, lanes W (gi ⟨k, h⟩ r) j else 0

theorem step_lt (t : Fin cfg3.N) (h : t.val < 15) (X : Vec Ideal S1x128 .f32) :
    step W c t X (ix2 (0 : Fin 1) ⟨j.val, by omega⟩) = X (ix2 (0 : Fin 1) ⟨j.val, by omega⟩) + part W j t.val := by
  unfold step next part
  rw [decide_eq_false (fun h' => by have := (cond3_iff t).mp h'; omega), decide_eq_true ((cond2_iff t).mpr h), if_neg Bool.false_ne_true, if_pos rfl,
    dif_pos t.isLt, ← sums_blk W c]
  exact add_apply ..

theorem step_last (t : Fin cfg3.N) (h : t.val = 15) (X : Vec Ideal S1x128 .f32) :
    step W c t X (ix2 (0 : Fin 1) ⟨j.val, by omega⟩) = (X (ix2 (0 : Fin 1) ⟨j.val, by omega⟩) + part W j t.val) * scale j := by
  unfold step next part
  rw [decide_eq_true ((cond3_iff t).mpr h), if_pos rfl, dif_pos t.isLt, ← sums_blk W c]
  exact addScaled_apply ..

theorem zero_apply : k3_pay3 (F := Ideal) (ix2 (0 : Fin 1) ⟨j.val, by omega⟩) = 0 := by
  pointwise [k3_pay3]

/-- The sums after a step before the last. -/
theorem accs_lt : (n : ℕ) → (h : n < cfg3.N) → n < 15 →
    accs W c n h (ix2 (0 : Fin 1) ⟨j.val, by omega⟩) = ∑ k ∈ Finset.range (n + 1), part W j k
  | 0, h, h' => by
    show step W c ⟨0, h⟩ (k3_pay3 (F := Ideal)) _ = _
    rw [step_lt W c j ⟨0, h⟩ h', zero_apply]
    simp
  | n + 1, h, h' => by
    show step W c ⟨n + 1, h⟩ (accs W c n (Nat.lt_of_succ_lt h)) _ = _
    rw [step_lt W c j ⟨n + 1, h⟩ h', accs_lt n (Nat.lt_of_succ_lt h) (by omega), ← Finset.sum_range_succ]

/-- The steps' losses together are all graphs'. -/
theorem parts : ∑ k ∈ Finset.range 16, part W j k = ∑ i, lanes W i j := by
  rw [Finset.sum_range, show ∑ i, lanes W i j = ∑ i : Fin (16 * 256), lanes W i j from rfl, ← finProdFinEquiv.sum_comp, Fintype.sum_prod_type]
  refine Finset.sum_congr rfl fun k _ => ?_
  unfold part
  rw [dif_pos (show k.val < cfg3.N from Nat.lt_of_lt_of_eq k.isLt N_3.symm)]
  refine Finset.sum_congr rfl fun r _ => congrArg (fun i => lanes W i j) (Fin.ext ?_)
  show 256 * k.val + r.val = r.val + 256 * k.val
  omega

/-- The array after the call, in its first four lanes. -/
theorem arrAt (V : Vec Ideal S1x128 .f32) (hV : V = (dat W c).arrAt 12 cfg3.N) :
    V (ix2 (0 : Fin 1) ⟨j.val, by omega⟩) = (∑ i, lanes W i j) * scale j := by
  have h15 : 15 < cfg3.N := Nat.lt_of_lt_of_eq (by decide) N_3.symm
  have e : (dat W c).arrAt 12 cfg3.N = accs W c 15 h15 := by
    refine (dat W c).arrAt_eq_of_covers 12 _ (by decide +kernel) fun t hf y => ?_
    have ht : t.val = 15 := by
      have h1 := (flush3_12 t).mp hf
      have h2 := Nat.lt_of_lt_of_eq t.isLt N_3
      omega
    have ea : accs W c t.val t.isLt = accs W c 15 h15 := by
      obtain ⟨n, hn⟩ := t
      obtain rfl : n = 15 := ht
      rfl
    blk_simp
    show (accs W c t.val t.isLt : Vec Ideal S1x128 .f32) y = _
    rw [ea]
    generalize accs W c 15 h15 = A
    blk_ext [e12]
  rw [hV, e]
  show step W c ⟨15, h15⟩ (accs W c 14 (Nat.lt_of_succ_lt h15)) _ = _
  rw [step_last W c j ⟨15, h15⟩ rfl, accs_lt W c j 14 _ (by decide), ← Finset.sum_range_succ, parts]

end Sums

end Cert.Proof.Loss

end
-- ==== Proof.Chain.lean ====
/-
  The kernel's results as a function of the arguments.
-/
module

public import proofs.«01_k».proof.Proof.Whole
public import proofs.«01_k».proof.Proof.LibArr
public import proofs.«01_k».proof.Proof.GnnArr
public import proofs.«01_k».proof.Proof.LossArr
public import proofs.«01_k».proof.Proof.Frames
public import Idealize.ShloMosaic.Lib.Pointwise

@[expose] public section

noncomputable section

namespace Cert.Proof.Run

open Cert.KernelIdeal Cert.KernelIdeal.Gen Cert.Proof.Tc Cert.Proof.Region
open Idealize.ShloMosaic Cert.Proof.Spec Cert.Proof.Ref Cert.Proof.Whole
open Idealize.ShloMosaic.TcCoe

variable (m : (ℓ : Loc nD τ sig) → Buf (Elt Ideal) ℓ) (d : Dev nD)

theorem V1_v2 : V1 m d (Proc.devRef .tc main_v2) = extui 32 (m (d, Proc.devRef .tc main_arg8)) natLt_1_32 := by
  unfold V1 seg1
  after_reads_simp
  rfl

theorem V3_reads : V3 m d (Proc.devRef .tc main_v4) = extractStridedSlice S128x128 ![0, 0] (V2 m d (Proc.devRef .tc main_arg19)) slices_S400x128_S128x128_0_0
    ∧ V3 m d (Proc.devRef .tc main_v5) = extractStridedSlice S128x128 ![0, 0] (V2 m d (Proc.devRef .tc main_arg12)) slices_S144x128_S128x128_0_0
    ∧ V3 m d (Proc.devRef .tc main_v6) = extractStridedSlice S16x128 ![128, 0] (V2 m d (Proc.devRef .tc main_arg12)) slices_S144x128_S16x128_128_0
    ∧ V3 m d (Proc.devRef .tc main_v7) = extui 32 (V2 m d (Proc.devRef .tc main_arg1)) natLt_1_32 := by
  unfold V3 seg2
  refine ⟨?_, ?_, ?_, ?_⟩ <;> after_reads_simp <;> rfl

theorem V2_arg (r : Ref sig .tc) (h1 : r ∉ w1) (h2 : r ≠ main_v3) : V2 m d (Proc.devRef .tc r) = m (d, Proc.devRef .tc r) :=
  (V2_keep m d r h2).trans (V1_keep m d r h1)
theorem V3_arg (r : Ref sig .tc) (h1 : r ∉ w1) (h2 : r ≠ main_v3) (h3 : r ∉ w3) : V3 m d (Proc.devRef .tc r) = m (d, Proc.devRef .tc r) :=
  (V3_keep m d r h3).trans (V2_arg m d r h1 h2)
theorem V6_arg (r : Ref sig .tc) (h : r ∉ wAll) (h' : r ≠ main_v10) : V6 m d (Proc.devRef .tc r) = m (d, Proc.devRef .tc r) :=
  (V6_keep m d r h').trans (V5_launch m d r h)

abbrev arg (r : Ref sig .tc) : Buf (Elt Ideal) ((d.tc : Thread nD τ).loc r) := m (d, Proc.devRef .tc r)

/-- The table the gather reads: the library's vectors. -/
theorem ct_apply (i : Fin 10000) (k : Fin 128) : (ct m d : Vec Ideal S10000x128 .f32) (ix2 i k) =
    frag (arg m d main_arg7) (arg m d main_arg8) (arg m d main_arg15) (arg m d main_arg16) (arg m d main_arg17) i k := by
  have e : ct m d = Lib.arr (V1 m d) :=
    (V5_keep m d main_v3 (by decide)).trans ((V4_keep m d main_v3 (by decide) (by decide)).trans ((V3_keep m d main_v3 (by decide)).trans
      (Lib.after_v3 (V1 m d) d)))
  rw [e]
  unfold Lib.arr
  rw [V1_v2, V1_keep m d main_arg7 (by decide), V1_keep m d main_arg15 (by decide), V1_keep m d main_arg16 (by decide), V1_keep m d main_arg17 (by decide)]
  exact congrArg (fun a => libOut _ a _ _ _ k) (funext fun v => funext fun w => mk_ext _)

theorem slice_lo {n k s : ℕ} (h : s + k ≤ n) (x : A2 n 128) (hs) :
    (extractStridedSlice (α := EReal) (⟨2, ![k, 128]⟩ : Shape) ![s, 0] x hs : A2 k 128) = lo k s h x := by
  funext i
  refine congrArg x (funext fun a => Fin.ext ?_)
  match a with
  | ⟨0, _⟩ => rfl
  | ⟨1, _⟩ => exact Nat.zero_add _

/-- The graphs' vectors. -/
theorem v8_0_apply (i : Fin 4096) (k : Fin 128) : (V7 m d (Proc.devRef .tc main_v8_0) : Vec Ideal S4096x128 .f32) (ix2 i k) =
    graph (arg m d main_arg0) (arg m d main_arg1) (arg m d main_arg2) (arg m d main_arg9) (arg m d main_arg10) (arg m d main_arg11)
      (arg m d main_arg12) i k := by
  have e : V7 m d (Proc.devRef .tc main_v8_0) = Gnn.arr11 (V3 m d) :=
    (V7_keep m d main_v8_0 (by decide)).trans ((V6_keep m d main_v8_0 (by decide)).trans ((V5_keep m d main_v8_0 (by decide)).trans
      (Gnn.after_v8_0 (V3 m d) d)))
  rw [e]
  unfold Gnn.arr11 Gnn.feat Gnn.adj Gnn.cond
  obtain ⟨-, e5, e6, e7⟩ := V3_reads m d
  rw [e5, e6, e7, V3_arg m d main_arg0 (by decide) (by decide) (by decide), V3_arg m d main_arg9 (by decide) (by decide) (by decide),
    V3_arg m d main_arg10 (by decide) (by decide) (by decide), V3_arg m d main_arg11 (by decide) (by decide) (by decide),
    V3_arg m d main_arg2 (by decide) (by decide) (by decide), V2_arg m d main_arg12 (by decide) (by decide),
    V2_arg m d main_arg1 (by decide) (by decide), slice_lo (by decide), slice_lo (by decide)]
  exact congrArg (fun a => graphOut _ a _ _ _ _ _ _ k) (funext fun v => funext fun w => mk_ext _)

/-- The nodes' vectors. -/
theorem v8_1_apply (i : Fin 4096) (v : Fin 32) (k : Fin 128) : (V7 m d (Proc.devRef .tc main_v8_1) : Vec Ideal S4096x32x128 .f32) (ix3 i v k) =
    node (arg m d main_arg0) (arg m d main_arg1) (arg m d main_arg9) (arg m d main_arg10) (arg m d main_arg18) (arg m d main_arg19) i v k := by
  have e : V7 m d (Proc.devRef .tc main_v8_1) = Gnn.arr12 (V3 m d) :=
    (V7_keep m d main_v8_1 (by decide)).trans ((V6_keep m d main_v8_1 (by decide)).trans ((V5_keep m d main_v8_1 (by decide)).trans
      (Gnn.after_v8_1 (V3 m d) d)))
  rw [e]
  unfold Gnn.arr12 Gnn.feat Gnn.adj
  obtain ⟨e4, -, -, e7⟩ := V3_reads m d
  rw [e4, e7, V3_arg m d main_arg0 (by decide) (by decide) (by decide), V3_arg m d main_arg9 (by decide) (by decide) (by decide),
    V3_arg m d main_arg10 (by decide) (by decide) (by decide), V3_arg m d main_arg18 (by decide) (by decide) (by decide),
    V2_arg m d main_arg19 (by decide) (by decide), V2_arg m d main_arg1 (by decide) (by decide), slice_lo (by decide)]
  exact congrArg (fun a => vm (xe _ a _ _ _ v) _ k) (funext fun v => funext fun w => mk_ext _)

/-- The gathered rows are the library's vectors at the row numbers. -/
theorem v10_apply (i : Fin 12288) (k : Fin 128) : (V6 m d (Proc.devRef .tc main_v10) : Vec Ideal S12288x128 .f32) (ix2 i k) =
    frag (arg m d main_arg7) (arg m d main_arg8) (arg m d main_arg15) (arg m d main_arg16) (arg m d main_arg17) (row (ci m d (ix1 i))) k := by
  rw [V6_v10]
  exact ct_apply m d (row (ci m d (ix1 i))) k

theorem V7_slices : V7 m d (Proc.devRef .tc main_v11) = extractStridedSlice S4096x128 ![0, 0] (V6 m d (Proc.devRef .tc main_v10)) slices_S12288x128_S4096x128_0_0
    ∧ V7 m d (Proc.devRef .tc main_v12) = extractStridedSlice S4096x128 ![4096, 0] (V6 m d (Proc.devRef .tc main_v10)) slices_S12288x128_S4096x128_4096_0
    ∧ V7 m d (Proc.devRef .tc main_v13) = extractStridedSlice S4096x128 ![8192, 0] (V6 m d (Proc.devRef .tc main_v10)) slices_S12288x128_S4096x128_8192_0
    ∧ V7 m d (Proc.devRef .tc main_v14) = extractStridedSlice S272x128 ![128, 0] (V6 m d (Proc.devRef .tc main_arg19)) slices_S400x128_S272x128_128_0 := by
  unfold V7 seg4
  refine ⟨?_, ?_, ?_, ?_⟩ <;> after_reads_simp <;> rfl

theorem V7_shapes : V7 m d (Proc.devRef .tc main_v15) = shapeCast S4096x1 (V6 m d (Proc.devRef .tc main_arg3)) shapeCasts_S4096_S4096x1
    ∧ V7 m d (Proc.devRef .tc main_v16) = shapeCast S4096x1 (V6 m d (Proc.devRef .tc main_arg4)) shapeCasts_S4096_S4096x1
    ∧ V7 m d (Proc.devRef .tc main_v17) = shapeCast S1x128 (V6 m d (Proc.devRef .tc main_arg20)) shapeCasts_S128_S1x128
    ∧ V7 m d (Proc.devRef .tc main_v18) = shapeCast S1x128 (V6 m d (Proc.devRef .tc main_arg13)) shapeCasts_S128_S1x128
    ∧ V7 m d (Proc.devRef .tc main_v19) = shapeCast S1x1 (V6 m d (Proc.devRef .tc main_arg14)) shapeCasts_S_S1x1 := by
  unfold V7 seg4
  refine ⟨?_, ?_, ?_, ?_, ?_⟩ <;> after_reads_simp <;> rfl

/-- In range, the bounded row number is the number. -/
theorem max_id (v : BitVec 32) (h : v.toNat < 10000) : IntOp.maxsi v 0#32 = v := by
  unfold IntOp.maxsi
  split
  · rfl
  · rename_i hn
    rw [BitVec.slt_eq_decide, decide_eq_true_iff, BitVec.toInt_eq_toNat_cond, BitVec.toInt_eq_toNat_cond] at hn
    refine BitVec.eq_of_toNat_eq ?_
    simp at hn ⊢
    split at hn <;> omega

section Rows
variable (x : A2 400 128)
theorem rows0_eq : Loss.rows0 (F := Ideal) (extractStridedSlice S272x128 ![128, 0] x slices_S400x128_S272x128_128_0) = lo 128 128 (by decide) x := by
  funext i
  refine congrArg x (funext fun a => Fin.ext ?_)
  match a with
  | ⟨0, _⟩ => show 128 + (0 + 1 * (i 0).val) = 128 + (i 0).val; omega
  | ⟨1, _⟩ => show 0 + (0 + 1 * (i 1).val) = (i 1).val; omega
theorem rows1_eq : Loss.rows1 (F := Ideal) (extractStridedSlice S272x128 ![128, 0] x slices_S400x128_S272x128_128_0) = lo 128 256 (by decide) x := by
  funext i
  refine congrArg x (funext fun a => Fin.ext ?_)
  match a with
  | ⟨0, _⟩ => show 128 + (128 + 1 * (i 0).val) = 256 + (i 0).val; omega
  | ⟨1, _⟩ => show 0 + (0 + 1 * (i 1).val) = (i 1).val; omega
theorem rows2_eq : Loss.rows2 (F := Ideal) (extractStridedSlice S272x128 ![128, 0] x slices_S400x128_S272x128_128_0) = lo 16 384 (by decide) x := by
  funext i
  refine congrArg x (funext fun a => Fin.ext ?_)
  match a with
  | ⟨0, _⟩ => show 128 + (256 + 1 * (i 0).val) = 384 + (i 0).val; omega
  | ⟨1, _⟩ => show 0 + (0 + 1 * (i 1).val) = (i 1).val; omega
end Rows

/-- Equal parts have equal losses. -/
theorem lane_congr {g g' p p' n0 n0' n1 n1' : Fin 128 → EReal} {t t' : Fin 32 → Fin 128 → EReal} {co co' : Fin 16 → EReal} {yf yf' yi yi' : BitVec 32}
    {w0 w0' w1 w1' : A2 128 128} {w2 w2' : A2 16 128} {w w' wt wt' : Fin 128 → EReal} {bt bt' : EReal} (h1 : g = g') (h2 : p = p') (h3 : n0 = n0')
    (h4 : n1 = n1') (h5 : t = t') (h6 : co = co') (h7 : yf = yf') (h8 : yi = yi') (h9 : w0 = w0') (h10 : w1 = w1') (h11 : w2 = w2') (h12 : w = w')
    (h13 : wt = wt') (h14 : bt = bt') : lane g p n0 n1 t co yf yi w0 w1 w2 w wt bt = lane g' p' n0' n1' t' co' yf' yi' w0' w1' w2' w' wt' bt' := by
  subst h1 h2 h3 h4 h5 h6 h7 h8 h9 h10 h11 h12 h13 h14
  rfl

/-- A graph's losses in the kernel are its losses. -/
theorem lanes_eq (h3 : ∀ j, (m (d, Proc.devRef .tc main_arg3) j : BitVec 32).toNat < 10000) (i : Fin 4096) :
    Loss.lanes (V7 m d) i = total (arg m d main_arg0) (arg m d main_arg1) (arg m d main_arg2) (arg m d main_arg3) (arg m d main_arg4)
      (arg m d main_arg5) (arg m d main_arg6) (arg m d main_arg7) (arg m d main_arg8) (arg m d main_arg9) (arg m d main_arg10) (arg m d main_arg11)
      (arg m d main_arg12) (arg m d main_arg13) (arg m d main_arg14) (arg m d main_arg15) (arg m d main_arg16) (arg m d main_arg17)
      (arg m d main_arg18) (arg m d main_arg19) (arg m d main_arg20) i := by
  obtain ⟨e11, e12, e13, e14⟩ := V7_slices m d
  obtain ⟨e15, e16, e17, e18, e19⟩ := V7_shapes m d
  have hp : ∀ k, (V7 m d (Proc.devRef .tc main_v11) : Vec Ideal S4096x128 .f32) (ix2 i k) = frag (arg m d main_arg7) (arg m d main_arg8)
      (arg m d main_arg15) (arg m d main_arg16) (arg m d main_arg17) (row ((arg m d main_arg3 : IVec S4096 32) (ix1 i))) k := by
    intro k
    rw [e11]
    refine Eq.trans (b := (V6 m d (Proc.devRef .tc main_v10) : Vec Ideal S12288x128 .f32) (ix2 ⟨i.val, by omega⟩ k)) (by pointwise) ?_
    rw [v10_apply, ci_apply, dif_pos (show i.val < 4096 from i.isLt), max_id _ (h3 _)]
  have hn0 : ∀ k, (V7 m d (Proc.devRef .tc main_v12) : Vec Ideal S4096x128 .f32) (ix2 i k) = frag (arg m d main_arg7) (arg m d main_arg8)
      (arg m d main_arg15) (arg m d main_arg16) (arg m d main_arg17) (row ((arg m d main_arg5 : IVec S4096 32) (ix1 i))) k := by
    intro k
    rw [e12]
    refine Eq.trans (b := (V6 m d (Proc.devRef .tc main_v10) : Vec Ideal S12288x128 .f32) (ix2 ⟨4096 + i.val, by omega⟩ k)) (by pointwise) ?_
    rw [v10_apply, ci_apply, dif_neg (show ¬ 4096 + i.val < 4096 by omega), dif_pos (show 4096 + i.val - 4096 < 4096 by omega)]
    refine congrArg (fun r => frag _ _ _ _ _ (row ((arg m d main_arg5 : IVec S4096 32) (ix1 r))) k) (Fin.ext ?_)
    show 4096 + i.val - 4096 = i.val
    omega
  have hn1 : ∀ k, (V7 m d (Proc.devRef .tc main_v13) : Vec Ideal S4096x128 .f32) (ix2 i k) = frag (arg m d main_arg7) (arg m d main_arg8)
      (arg m d main_arg15) (arg m d main_arg16) (arg m d main_arg17) (row ((arg m d main_arg6 : IVec S4096 32) (ix1 i))) k := by
    intro k
    rw [e13]
    refine Eq.trans (b := (V6 m d (Proc.devRef .tc main_v10) : Vec Ideal S12288x128 .f32) (ix2 ⟨8192 + i.val, by omega⟩ k)) (by pointwise) ?_
    rw [v10_apply, ci_apply, dif_neg (show ¬ 8192 + i.val < 4096 by omega), dif_neg (show ¬ 8192 + i.val - 4096 < 4096 by omega)]
    refine congrArg (fun r => frag _ _ _ _ _ (row ((arg m d main_arg6 : IVec S4096 32) (ix1 r))) k) (Fin.ext ?_)
    show 8192 + i.val - 4096 - 4096 = i.val
    omega
  have h15 : (V7 m d (Proc.devRef .tc main_v15) : Vec Ideal S4096x1 .i32) (ix2 i 0) = (arg m d main_arg3 : IVec S4096 32) (ix1 i) := by
    rw [e15, V6_arg m d main_arg3 (by decide) (by decide)]
    pointwise
  have h16 : (V7 m d (Proc.devRef .tc main_v16) : Vec Ideal S4096x1 .i32) (ix2 i 0) = (arg m d main_arg4 : IVec S4096 32) (ix1 i) := by
    rw [e16, V6_arg m d main_arg4 (by decide) (by decide)]
    pointwise
  have h17 : ∀ k : Fin 128, (V7 m d (Proc.devRef .tc main_v17) : Vec Ideal S1x128 .f32) (ix2 0 k) = (arg m d main_arg20 : Vec Ideal S128 .f32) (ix1 k) := by
    intro k
    rw [e17, V6_arg m d main_arg20 (by decide) (by decide)]
    pointwise
  have h18 : ∀ k : Fin 128, (V7 m d (Proc.devRef .tc main_v18) : Vec Ideal S1x128 .f32) (ix2 0 k) = (arg m d main_arg13 : Vec Ideal S128 .f32) (ix1 k) := by
    intro k
    rw [e18, V6_arg m d main_arg13 (by decide) (by decide)]
    pointwise
  have h19 : (V7 m d (Proc.devRef .tc main_v19) : Vec Ideal S1x1 .f32) (ix2 0 0) = (arg m d main_arg14 : Vec Ideal S_ .f32) ix0 := by
    rw [e19, V6_arg m d main_arg14 (by decide) (by decide)]
    pointwise
  have h14 : V7 m d (Proc.devRef .tc main_v14) = extractStridedSlice S272x128 ![128, 0] (arg m d main_arg19) slices_S400x128_S272x128_128_0 := by
    rw [e14, V6_arg m d main_arg19 (by decide) (by decide)]
  have h2 : V7 m d (Proc.devRef .tc main_arg2) = arg m d main_arg2 := (V7_keep m d main_arg2 (by decide)).trans (V6_arg m d main_arg2 (by decide) (by decide))
  unfold Loss.lanes total
  exact lane_congr (funext fun k => v8_0_apply m d i k) (funext hp) (funext hn0) (funext hn1) (funext fun v => funext fun k => v8_1_apply m d i v k)
    (funext fun f => congrArg (fun a : Vec Ideal S4096x16 .f32 => a (ix2 i f)) h2) h15 h16 ((congrArg Loss.rows0 h14).trans (rows0_eq _))
    ((congrArg Loss.rows1 h14).trans (rows1_eq _)) ((congrArg Loss.rows2 h14).trans (rows2_eq _)) (funext h17) (funext h18) h19

/-- The four results. -/
theorem V9_v22 (h3 : ∀ j, (m (d, Proc.devRef .tc main_arg3) j : BitVec 32).toNat < 10000) (j : Fin 4) :
    (V9 m d (Proc.devRef .tc main_v22) : Vec Ideal S4 .f32) (ix1 j) = result (arg m d main_arg0) (arg m d main_arg1) (arg m d main_arg2)
      (arg m d main_arg3) (arg m d main_arg4) (arg m d main_arg5) (arg m d main_arg6) (arg m d main_arg7) (arg m d main_arg8) (arg m d main_arg9)
      (arg m d main_arg10) (arg m d main_arg11) (arg m d main_arg12) (arg m d main_arg13) (arg m d main_arg14) (arg m d main_arg15)
      (arg m d main_arg16) (arg m d main_arg17) (arg m d main_arg18) (arg m d main_arg19) (arg m d main_arg20) j := by
  have e : V9 m d (Proc.devRef .tc main_v22) = shapeCast S4 (extractStridedSlice S1x4 ![0, 0] (V8 m d (Proc.devRef .tc main_v20)) slices_S1x128_S1x4_0_0)
      shapeCasts_S1x4_S4 := by
    unfold V9 seg5
    after_reads_simp
    rfl
  rw [e]
  refine Eq.trans (b := (V8 m d (Proc.devRef .tc main_v20) : Vec Ideal S1x128 .f32) (ix2 (0 : Fin 1) ⟨j.val, by omega⟩)) (by pointwise) ?_
  refine (Loss.arrAt (V7 m d) d j _ (Pipeline.afterRegion_arr (Loss.dat (V7 m d) d) (V7 m d) winFacts3.arr_inj 12)).trans ?_
  unfold result
  exact congrArg (· * _) (Finset.sum_congr rfl fun i _ => congrFun (lanes_eq m d h3 i) j)

end Cert.Proof.Run
end
-- ==== Proof.RefWhole.lean ====
/-
  The reference's results as a function of the arguments.
-/
module

public import proofs.«01_k».proof.Proof.Whole

@[expose] public section

noncomputable section

namespace Cert.Proof.Ref

open Cert.ReferenceIdeal Cert.ReferenceIdeal.Gen
open Idealize.ShloMosaic Idealize.ShloMosaic.TcCoe Cert.Proof.Spec Cert.Proof.Whole Cert.Proof.Means

variable (m : (ℓ : Loc nD τ sig) → Buf (Elt Ideal) ℓ) (d : Dev nD)

abbrev arg (r : Ref sig .tc) : Buf (Elt Ideal) ((d.tc : Thread nD τ).loc r) := m (d, Proc.devRef .tc r)

theorem R1_arg (r : Ref sig .tc) (h1 : r ∉ wr1) : R1 m d (Proc.devRef .tc r) = arg m d r :=
  R1_keep m d r h1
theorem R2_arg (r : Ref sig .tc) (h1 : r ∉ wr1) (h2 : r ∉ wr2) : R2 m d (Proc.devRef .tc r) = arg m d r :=
  (R2_keep m d r h2).trans (R1_arg m d r h1)
theorem R3_arg (r : Ref sig .tc) (h1 : r ∉ wr1) (h2 : r ∉ wr2) (h3 : r ∉ wr3) : R3 m d (Proc.devRef .tc r) = arg m d r :=
  (R3_keep m d r h3).trans (R2_arg m d r h1 h2)
theorem R4_arg (r : Ref sig .tc) (h1 : r ∉ wr1) (h2 : r ∉ wr2) (h3 : r ∉ wr3) (h4 : r ∉ wr4) : R4 m d (Proc.devRef .tc r) = arg m d r :=
  (R4_keep m d r h4).trans (R3_arg m d r h1 h2 h3)
theorem R5_arg (r : Ref sig .tc) (h1 : r ∉ wr1) (h2 : r ∉ wr2) (h3 : r ∉ wr3) (h4 : r ∉ wr4) (h5 : r ∉ wr5) : R5 m d (Proc.devRef .tc r) = arg m d r :=
  (R5_keep m d r h5).trans (R4_arg m d r h1 h2 h3 h4)
theorem R6_arg (r : Ref sig .tc) (h1 : r ∉ wr1) (h2 : r ∉ wr2) (h3 : r ∉ wr3) (h4 : r ∉ wr4) (h5 : r ∉ wr5) (h6 : r ∉ wr6) : R6 m d (Proc.devRef .tc r) = arg m d r :=
  (R6_keep m d r h6).trans (R5_arg m d r h1 h2 h3 h4 h5)
theorem R7_arg (r : Ref sig .tc) (h1 : r ∉ wr1) (h2 : r ∉ wr2) (h3 : r ∉ wr3) (h4 : r ∉ wr4) (h5 : r ∉ wr5) (h6 : r ∉ wr6) (h7 : r ∉ wr7) : R7 m d (Proc.devRef .tc r) = arg m d r :=
  (R7_keep m d r h7).trans (R6_arg m d r h1 h2 h3 h4 h5 h6)
theorem R8_arg (r : Ref sig .tc) (h1 : r ∉ wr1) (h2 : r ∉ wr2) (h3 : r ∉ wr3) (h4 : r ∉ wr4) (h5 : r ∉ wr5) (h6 : r ∉ wr6) (h7 : r ∉ wr7) (h8 : r ∉ wr8) : R8 m d (Proc.devRef .tc r) = arg m d r :=
  (R8_keep m d r h8).trans (R7_arg m d r h1 h2 h3 h4 h5 h6 h7)
theorem R9_arg (r : Ref sig .tc) (h1 : r ∉ wr1) (h2 : r ∉ wr2) (h3 : r ∉ wr3) (h4 : r ∉ wr4) (h5 : r ∉ wr5) (h6 : r ∉ wr6) (h7 : r ∉ wr7) (h8 : r ∉ wr8) (h9 : r ∉ wr9) : R9 m d (Proc.devRef .tc r) = arg m d r :=
  (R9_keep m d r h9).trans (R8_arg m d r h1 h2 h3 h4 h5 h6 h7 h8)
theorem R10_arg (r : Ref sig .tc) (h1 : r ∉ wr1) (h2 : r ∉ wr2) (h3 : r ∉ wr3) (h4 : r ∉ wr4) (h5 : r ∉ wr5) (h6 : r ∉ wr6) (h7 : r ∉ wr7) (h8 : r ∉ wr8) (h9 : r ∉ wr9) (h10 : r ∉ wr10) : R10 m d (Proc.devRef .tc r) = arg m d r :=
  (R10_keep m d r h10).trans (R9_arg m d r h1 h2 h3 h4 h5 h6 h7 h8 h9)
theorem R11_arg (r : Ref sig .tc) (h1 : r ∉ wr1) (h2 : r ∉ wr2) (h3 : r ∉ wr3) (h4 : r ∉ wr4) (h5 : r ∉ wr5) (h6 : r ∉ wr6) (h7 : r ∉ wr7) (h8 : r ∉ wr8) (h9 : r ∉ wr9) (h10 : r ∉ wr10) (h11 : r ∉ wr11) : R11 m d (Proc.devRef .tc r) = arg m d r :=
  (R11_keep m d r h11).trans (R10_arg m d r h1 h2 h3 h4 h5 h6 h7 h8 h9 h10)

section Of
variable (v11 p n : (⟨S4096x128, .f32⟩ : BufTy).Contents (Elt Ideal)) (g q r : Fin 4096 → Fin 128 → EReal)

/-- The losses' means, of the vectors' rows. -/
theorem r2_of (arg3 arg13 arg14) (hg : ∀ i d, v11 (ix2 i d) = g i d) : r2_v37 (F := Ideal) arg3 v11 arg13 arg14 ix0 =
    (∑ i : Fin 4096, termOf (dot (g i) (fun d => arg13 (ix1 d)) + arg14 ix0) (arg3 (ix1 i))) * ((1 / 4096 : ℝ) : EReal) := by
  obtain rfl : (fun i d => v11 (ix2 i d)) = g := funext fun i => funext (hg i)
  rw [r2_v37_apply, div_cnt]
theorem r5_of (hg : ∀ i d, v11 (ix2 i d) = g i d) (hp : ∀ i d, p (ix2 i d) = q i d) : r5_v78 (F := Ideal) v11 p ix0 =
    (∑ i : Fin 4096, posOf (dot (g i) (q i))) * ((1 / 4096 : ℝ) : EReal) := by
  obtain rfl : (fun i d => v11 (ix2 i d)) = g := funext fun i => funext (hg i)
  obtain rfl : (fun i d => p (ix2 i d)) = q := funext fun i => funext (hp i)
  rw [r5_v78_apply, pos_mean]
theorem r9_of (hg : ∀ i d, v11 (ix2 i d) = g i d) (hp : ∀ i d, p (ix2 i d) = q i d) (hn : ∀ i d, n (ix2 i d) = r i d) :
    r9_v157 (F := Ideal) (r7_v117 v11 p) v11 n ix0 = (∑ i : Fin 4096, (negOf (dot (g i) (q i)) + negOf (dot (g i) (r i)))) * ((1 / 8192 : ℝ) : EReal) := by
  obtain rfl : (fun i d => v11 (ix2 i d)) = g := funext fun i => funext (hg i)
  obtain rfl : (fun i d => p (ix2 i d)) = q := funext fun i => funext (hp i)
  obtain rfl : (fun i d => n (ix2 i d)) = r := funext fun i => funext (hn i)
  rw [r9_v157_apply, r7_v117_apply, neg_mean]
theorem r10_of (f : Fin 4096 → Fin 32 → Fin 128 → EReal) (arg1 v6 arg18 arg2 arg19 arg20) (h6 : ∀ i v d, v6 (ix3 i v d) = f i v d)
    (hg : ∀ i d, v11 (ix2 i d) = g i d) (hp : ∀ i d, p (ix2 i d) = q i d) (i : Fin 4096) (v : Fin 32) :
    r10_v168 (F := Ideal) arg1 v6 arg18 v11 p arg2 arg19 arg20 (ix2 i v) =
      logit (g i) (q i) (vm (fun e => max (∑ w, mb (arg1 (ix3 i v w)) * vm (f i w) arg18 e) 0) (lo 128 0 (by decide) arg19))
        (fun f => arg2 (ix2 i f)) (lo 128 128 (by decide) arg19) (lo 128 256 (by decide) arg19) (lo 16 384 (by decide) arg19) (fun d => arg20 (ix1 d)) := by
  obtain rfl : (fun i d => v11 (ix2 i d)) = g := funext fun i => funext (hg i)
  obtain rfl : (fun i d => p (ix2 i d)) = q := funext fun i => funext (hp i)
  exact r10_v168_apply f arg1 v6 arg18 v11 p arg2 arg19 arg20 h6 i v
theorem r11_of (v168 arg4) (l : Fin 4096 → Fin 32 → EReal) (hl : ∀ i v, v168 (ix2 i v) = l i v) (hr : ∀ i v, Re (l i v))
    (h : ∀ j, (arg4 j : BitVec 32).toNat < 32) :
    r11_v187 (F := Ideal) v168 arg4 ix0 = (∑ i : Fin 4096, idxOf (l i) (arg4 (ix1 i))) * ((1 / 4096 : ℝ) : EReal) := by
  obtain rfl : (fun i v => v168 (ix2 i v)) = l := funext fun i => funext (hl i)
  rw [r11_v187_apply _ _ (fun i => h (ix1 i)), ← idx_mean _ _ hr]
end Of

/-- The graphs' vectors. -/
theorem v11_apply (i : Fin 4096) (k : Fin 128) : (R1 m d (Proc.devRef .tc main_v11) : Vec Ideal S4096x128 .f32) (ix2 i k) = graph (arg m d main_arg0) (arg m d main_arg1) (arg m d main_arg2) (arg m d main_arg9) (arg m d main_arg10) (arg m d main_arg11) (arg m d main_arg12) i k := by
  unfold R1
  rw [r1_v11_eq]
  exact r1_v11_apply ..

/-- The own fragments' numbers. -/
theorem v40_apply (h3 : ∀ j, ((arg m d main_arg3 : IVec S4096 32) j).toNat < 10000) (i : Fin 4096) :
    (R3 m d (Proc.devRef .tc main_v40) : IVec S4096 32) (ix1 i) = (arg m d main_arg3 : IVec S4096 32) (ix1 i) := by
  unfold R3
  rw [r3_v40_eq, R2_arg m d main_arg3 (by decide) (by decide)]
  refine Eq.trans (b := Scalar.select (IntOp.cmpi .slt ((arg m d main_arg3 : IVec S4096 32) (ix1 i)) 0#32) 0#32 ((arg m d main_arg3 : IVec S4096 32) (ix1 i)))
    (by pointwise [r3_v40]; rfl) ?_
  have := h3 (ix1 i)
  exact sel_id _ _ (by omega)

/-- The own fragments' vectors. -/
theorem v64_apply (h3 : ∀ j, ((arg m d main_arg3 : IVec S4096 32) j).toNat < 10000) (i : Fin 4096) (k : Fin 128) :
    (R4 m d (Proc.devRef .tc main_v64) : Vec Ideal S4096x128 .f32) (ix2 i k) = frag (arg m d main_arg7) (arg m d main_arg8) (arg m d main_arg15) (arg m d main_arg16) (arg m d main_arg17) (row ((arg m d main_arg3 : IVec S4096 32) (ix1 i))) k := by
  have h40 := v40_apply m d h3 i
  unfold R4
  rw [r4_v64_eq, R3_arg m d main_arg7 (by decide) (by decide) (by decide), R3_arg m d main_arg15 (by decide) (by decide) (by decide), R3_arg m d main_arg8 (by decide) (by decide) (by decide), R3_arg m d main_arg16 (by decide) (by decide) (by decide), R3_arg m d main_arg17 (by decide) (by decide) (by decide)]
  rw [r4_v64_apply _ _ _ _ _ _ _ _ (by rw [h40]; exact h3 _), h40]
  rfl

/-- The first sampled fragments' vectors. -/
theorem v102_apply (h5 : ∀ j, ((arg m d main_arg5 : IVec S4096 32) j).toNat < 10000) (i : Fin 4096) (k : Fin 128) :
    (R6 m d (Proc.devRef .tc main_v102) : Vec Ideal S4096x128 .f32) (ix2 i k) = frag (arg m d main_arg7) (arg m d main_arg8) (arg m d main_arg15) (arg m d main_arg16) (arg m d main_arg17) (row ((arg m d main_arg5 : IVec S4096 32) (ix1 i))) k := by
  unfold R6
  rw [r6_v102_eq, R5_arg m d main_arg7 (by decide) (by decide) (by decide) (by decide) (by decide), R5_arg m d main_arg15 (by decide) (by decide) (by decide) (by decide) (by decide), R5_arg m d main_arg8 (by decide) (by decide) (by decide) (by decide) (by decide), R5_arg m d main_arg16 (by decide) (by decide) (by decide) (by decide) (by decide), R5_arg m d main_arg17 (by decide) (by decide) (by decide) (by decide) (by decide), R5_arg m d main_arg5 (by decide) (by decide) (by decide) (by decide) (by decide)]
  exact r4_v64_apply _ _ _ _ _ _ _ _ (h5 _)

/-- The second sampled fragments' vectors. -/
theorem v141_apply (h6 : ∀ j, ((arg m d main_arg6 : IVec S4096 32) j).toNat < 10000) (i : Fin 4096) (k : Fin 128) :
    (R8 m d (Proc.devRef .tc main_v141) : Vec Ideal S4096x128 .f32) (ix2 i k) = frag (arg m d main_arg7) (arg m d main_arg8) (arg m d main_arg15) (arg m d main_arg16) (arg m d main_arg17) (row ((arg m d main_arg6 : IVec S4096 32) (ix1 i))) k := by
  unfold R8
  rw [r8_v141_eq, R7_arg m d main_arg7 (by decide) (by decide) (by decide) (by decide) (by decide) (by decide) (by decide), R7_arg m d main_arg15 (by decide) (by decide) (by decide) (by decide) (by decide) (by decide) (by decide), R7_arg m d main_arg8 (by decide) (by decide) (by decide) (by decide) (by decide) (by decide) (by decide), R7_arg m d main_arg16 (by decide) (by decide) (by decide) (by decide) (by decide) (by decide) (by decide), R7_arg m d main_arg17 (by decide) (by decide) (by decide) (by decide) (by decide) (by decide) (by decide), R7_arg m d main_arg6 (by decide) (by decide) (by decide) (by decide) (by decide) (by decide) (by decide)]
  exact r4_v64_apply _ _ _ _ _ _ _ _ (h6 _)

/-- The first result. -/
theorem v37_eq : (R2 m d (Proc.devRef .tc main_v37) : Vec Ideal S_ .f32) ix0 = result (arg m d main_arg0) (arg m d main_arg1) (arg m d main_arg2) (arg m d main_arg3) (arg m d main_arg4) (arg m d main_arg5) (arg m d main_arg6) (arg m d main_arg7) (arg m d main_arg8) (arg m d main_arg9) (arg m d main_arg10) (arg m d main_arg11) (arg m d main_arg12) (arg m d main_arg13) (arg m d main_arg14) (arg m d main_arg15) (arg m d main_arg16) (arg m d main_arg17) (arg m d main_arg18) (arg m d main_arg19) (arg m d main_arg20) 0 := by
  unfold R2
  rw [r2_v37_eq, R1_arg m d main_arg3 (by decide), R1_arg m d main_arg13 (by decide), R1_arg m d main_arg14 (by decide)]
  exact (r2_of _ _ _ _ _ (v11_apply m d)).trans (result_0 ..).symm

/-- The second result. -/
theorem v78_eq (h3 : ∀ j, ((arg m d main_arg3 : IVec S4096 32) j).toNat < 10000) :
    (R5 m d (Proc.devRef .tc main_v78) : Vec Ideal S_ .f32) ix0 = result (arg m d main_arg0) (arg m d main_arg1) (arg m d main_arg2) (arg m d main_arg3) (arg m d main_arg4) (arg m d main_arg5) (arg m d main_arg6) (arg m d main_arg7) (arg m d main_arg8) (arg m d main_arg9) (arg m d main_arg10) (arg m d main_arg11) (arg m d main_arg12) (arg m d main_arg13) (arg m d main_arg14) (arg m d main_arg15) (arg m d main_arg16) (arg m d main_arg17) (arg m d main_arg18) (arg m d main_arg19) (arg m d main_arg20) 1 := by
  unfold R5
  rw [r5_v78_eq, ((R4_keep m d main_v11 (by decide)).trans ((R3_keep m d main_v11 (by decide)).trans (R2_keep m d main_v11 (by decide))))]
  exact (r5_of _ _ _ _ (v11_apply m d) (v64_apply m d h3)).trans (result_1 ..).symm

/-- The third result. -/
theorem v157_eq (h5 : ∀ j, ((arg m d main_arg5 : IVec S4096 32) j).toNat < 10000) (h6 : ∀ j, ((arg m d main_arg6 : IVec S4096 32) j).toNat < 10000) :
    (R9 m d (Proc.devRef .tc main_v157) : Vec Ideal S_ .f32) ix0 = result (arg m d main_arg0) (arg m d main_arg1) (arg m d main_arg2) (arg m d main_arg3) (arg m d main_arg4) (arg m d main_arg5) (arg m d main_arg6) (arg m d main_arg7) (arg m d main_arg8) (arg m d main_arg9) (arg m d main_arg10) (arg m d main_arg11) (arg m d main_arg12) (arg m d main_arg13) (arg m d main_arg14) (arg m d main_arg15) (arg m d main_arg16) (arg m d main_arg17) (arg m d main_arg18) (arg m d main_arg19) (arg m d main_arg20) 2 := by
  have h117 : R7 m d (Proc.devRef .tc main_v117) = r7_v117 (R1 m d (Proc.devRef .tc main_v11)) (R6 m d (Proc.devRef .tc main_v102)) := by
    unfold R7
    rw [r7_v117_eq, ((R6_keep m d main_v11 (by decide)).trans ((R5_keep m d main_v11 (by decide)).trans ((R4_keep m d main_v11 (by decide)).trans ((R3_keep m d main_v11 (by decide)).trans (R2_keep m d main_v11 (by decide))))))]
  unfold R9
  rw [r9_v157_eq, ((R8_keep m d main_v11 (by decide)).trans ((R7_keep m d main_v11 (by decide)).trans ((R6_keep m d main_v11 (by decide)).trans ((R5_keep m d main_v11 (by decide)).trans ((R4_keep m d main_v11 (by decide)).trans ((R3_keep m d main_v11 (by decide)).trans (R2_keep m d main_v11 (by decide)))))))), R8_keep m d main_v117 (by decide)]
  rw [h117]
  exact (r9_of _ _ _ _ _ _ (v11_apply m d) (v102_apply m d h5) (v141_apply m d h6)).trans (result_2 ..).symm

/-- The nodes' scores. -/
theorem v168_apply (h3 : ∀ j, ((arg m d main_arg3 : IVec S4096 32) j).toNat < 10000) (i : Fin 4096) (v : Fin 32) :
    (R10 m d (Proc.devRef .tc main_v168) : Vec Ideal S4096x32 .f32) (ix2 i v) = score (arg m d main_arg0) (arg m d main_arg1) (arg m d main_arg2) (arg m d main_arg3)
      (arg m d main_arg7) (arg m d main_arg8) (arg m d main_arg9) (arg m d main_arg10) (arg m d main_arg11) (arg m d main_arg12) (arg m d main_arg15) (arg m d main_arg16) (arg m d main_arg17) (arg m d main_arg18) (arg m d main_arg19) (arg m d main_arg20) i v := by
  have h6 : ∀ i v k, (R1 m d (Proc.devRef .tc main_v6) : Vec Ideal S4096x32x128 .f32) (ix3 i v k) = gv (fun v f => (arg m d main_arg0 : Vec Ideal S4096x32x64 .f32) (ix3 i v f))
      (fun v w => mb ((arg m d main_arg1 : IVec S4096x32x32 1) (ix3 i v w))) (arg m d main_arg9) (arg m d main_arg10) v k := by
    intro i v k
    unfold R1
    rw [r1_v6_eq]
    exact r1_v6_apply ..
  unfold R10
  rw [r10_v168_eq, ((R9_keep m d main_v6 (by decide)).trans ((R8_keep m d main_v6 (by decide)).trans ((R7_keep m d main_v6 (by decide)).trans ((R6_keep m d main_v6 (by decide)).trans ((R5_keep m d main_v6 (by decide)).trans ((R4_keep m d main_v6 (by decide)).trans ((R3_keep m d main_v6 (by decide)).trans (R2_keep m d main_v6 (by decide))))))))), ((R9_keep m d main_v11 (by decide)).trans ((R8_keep m d main_v11 (by decide)).trans ((R7_keep m d main_v11 (by decide)).trans ((R6_keep m d main_v11 (by decide)).trans ((R5_keep m d main_v11 (by decide)).trans ((R4_keep m d main_v11 (by decide)).trans ((R3_keep m d main_v11 (by decide)).trans (R2_keep m d main_v11 (by decide))))))))), ((R9_keep m d main_v64 (by decide)).trans ((R8_keep m d main_v64 (by decide)).trans ((R7_keep m d main_v64 (by decide)).trans ((R6_keep m d main_v64 (by decide)).trans (R5_keep m d main_v64 (by decide)))))), R9_arg m d main_arg1 (by decide) (by decide) (by decide) (by decide) (by decide) (by decide) (by decide) (by decide) (by decide), R9_arg m d main_arg18 (by decide) (by decide) (by decide) (by decide) (by decide) (by decide) (by decide) (by decide) (by decide),
    R9_arg m d main_arg2 (by decide) (by decide) (by decide) (by decide) (by decide) (by decide) (by decide) (by decide) (by decide), R9_arg m d main_arg19 (by decide) (by decide) (by decide) (by decide) (by decide) (by decide) (by decide) (by decide) (by decide), R9_arg m d main_arg20 (by decide) (by decide) (by decide) (by decide) (by decide) (by decide) (by decide) (by decide) (by decide)]
  exact r10_of _ _ _ _ _ _ _ _ _ _ _ h6 (v11_apply m d) (v64_apply m d h3) i v

/-- The fourth result. -/
theorem v187_eq (h3 : ∀ j, ((arg m d main_arg3 : IVec S4096 32) j).toNat < 10000) (h4 : ∀ j, ((arg m d main_arg4 : IVec S4096 32) j).toNat < 32)
    (f0 : ∀ j, Re ((arg m d main_arg0 : Vec Ideal S4096x32x64 .f32) j)) (f2 : ∀ j, Re ((arg m d main_arg2 : Vec Ideal S4096x16 .f32) j)) (f7 : ∀ j, Re ((arg m d main_arg7 : Vec Ideal S10000x16x64 .f32) j)) (f9 : ∀ j, Re ((arg m d main_arg9 : Vec Ideal S64x128 .f32) j)) (f10 : ∀ j, Re ((arg m d main_arg10 : Vec Ideal S128x128 .f32) j)) (f11 : ∀ j, Re ((arg m d main_arg11 : Vec Ideal S128x128 .f32) j)) (f12 : ∀ j, Re ((arg m d main_arg12 : Vec Ideal S144x128 .f32) j)) (f15 : ∀ j, Re ((arg m d main_arg15 : Vec Ideal S64x128 .f32) j)) (f16 : ∀ j, Re ((arg m d main_arg16 : Vec Ideal S128x128 .f32) j)) (f17 : ∀ j, Re ((arg m d main_arg17 : Vec Ideal S128x128 .f32) j)) (f18 : ∀ j, Re ((arg m d main_arg18 : Vec Ideal S128x128 .f32) j)) (f19 : ∀ j, Re ((arg m d main_arg19 : Vec Ideal S400x128 .f32) j)) (f20 : ∀ j, Re ((arg m d main_arg20 : Vec Ideal S128 .f32) j)) :
    (R11 m d (Proc.devRef .tc main_v187) : Vec Ideal S_ .f32) ix0 = result (arg m d main_arg0) (arg m d main_arg1) (arg m d main_arg2) (arg m d main_arg3) (arg m d main_arg4) (arg m d main_arg5) (arg m d main_arg6) (arg m d main_arg7) (arg m d main_arg8) (arg m d main_arg9) (arg m d main_arg10) (arg m d main_arg11) (arg m d main_arg12) (arg m d main_arg13) (arg m d main_arg14) (arg m d main_arg15) (arg m d main_arg16) (arg m d main_arg17) (arg m d main_arg18) (arg m d main_arg19) (arg m d main_arg20) 3 := by
  unfold R11
  rw [r11_v187_eq, R10_arg m d main_arg4 (by decide) (by decide) (by decide) (by decide) (by decide) (by decide) (by decide) (by decide) (by decide) (by decide)]
  exact (r11_of _ _ _ (v168_apply m d h3) (score_re _ _ _ _ _ _ _ _ _ _ _ _ _ _ _ _ f0 f2 f7 f9 f10 f11 f12 f15 f16 f17 f18 f19 f20) h4).trans (result_3 ..).symm

/-- The four results. -/
theorem v192_apply (h3 : ∀ j, ((arg m d main_arg3 : IVec S4096 32) j).toNat < 10000) (h4 : ∀ j, ((arg m d main_arg4 : IVec S4096 32) j).toNat < 32) (h5 : ∀ j, ((arg m d main_arg5 : IVec S4096 32) j).toNat < 10000) (h6 : ∀ j, ((arg m d main_arg6 : IVec S4096 32) j).toNat < 10000)
    (f0 : ∀ j, Re ((arg m d main_arg0 : Vec Ideal S4096x32x64 .f32) j)) (f2 : ∀ j, Re ((arg m d main_arg2 : Vec Ideal S4096x16 .f32) j)) (f7 : ∀ j, Re ((arg m d main_arg7 : Vec Ideal S10000x16x64 .f32) j)) (f9 : ∀ j, Re ((arg m d main_arg9 : Vec Ideal S64x128 .f32) j)) (f10 : ∀ j, Re ((arg m d main_arg10 : Vec Ideal S128x128 .f32) j)) (f11 : ∀ j, Re ((arg m d main_arg11 : Vec Ideal S128x128 .f32) j)) (f12 : ∀ j, Re ((arg m d main_arg12 : Vec Ideal S144x128 .f32) j)) (f15 : ∀ j, Re ((arg m d main_arg15 : Vec Ideal S64x128 .f32) j)) (f16 : ∀ j, Re ((arg m d main_arg16 : Vec Ideal S128x128 .f32) j)) (f17 : ∀ j, Re ((arg m d main_arg17 : Vec Ideal S128x128 .f32) j)) (f18 : ∀ j, Re ((arg m d main_arg18 : Vec Ideal S128x128 .f32) j)) (f19 : ∀ j, Re ((arg m d main_arg19 : Vec Ideal S400x128 .f32) j)) (f20 : ∀ j, Re ((arg m d main_arg20 : Vec Ideal S128 .f32) j)) (j : Fin 4) :
    (R12 m d (Proc.devRef .tc main_v192) : Vec Ideal S4 .f32) (ix1 j) = result (arg m d main_arg0) (arg m d main_arg1) (arg m d main_arg2) (arg m d main_arg3) (arg m d main_arg4) (arg m d main_arg5) (arg m d main_arg6) (arg m d main_arg7) (arg m d main_arg8) (arg m d main_arg9) (arg m d main_arg10) (arg m d main_arg11) (arg m d main_arg12) (arg m d main_arg13) (arg m d main_arg14) (arg m d main_arg15) (arg m d main_arg16) (arg m d main_arg17) (arg m d main_arg18) (arg m d main_arg19) (arg m d main_arg20) j := by
  unfold R12
  rw [r12_v192_eq, ((R11_keep m d main_v37 (by decide)).trans ((R10_keep m d main_v37 (by decide)).trans ((R9_keep m d main_v37 (by decide)).trans ((R8_keep m d main_v37 (by decide)).trans ((R7_keep m d main_v37 (by decide)).trans ((R6_keep m d main_v37 (by decide)).trans ((R5_keep m d main_v37 (by decide)).trans ((R4_keep m d main_v37 (by decide)).trans (R3_keep m d main_v37 (by decide)))))))))), ((R11_keep m d main_v78 (by decide)).trans ((R10_keep m d main_v78 (by decide)).trans ((R9_keep m d main_v78 (by decide)).trans ((R8_keep m d main_v78 (by decide)).trans ((R7_keep m d main_v78 (by decide)).trans (R6_keep m d main_v78 (by decide))))))), ((R11_keep m d main_v157 (by decide)).trans (R10_keep m d main_v157 (by decide)))]
  have h : ∀ a b c e : Vec Ideal S_ .f32, (r12_v192 (F := Ideal) a b c e (ix1 0) = a ix0 ∧ r12_v192 (F := Ideal) a b c e (ix1 1) = b ix0)
      ∧ (r12_v192 (F := Ideal) a b c e (ix1 2) = c ix0 ∧ r12_v192 (F := Ideal) a b c e (ix1 3) = e ix0) := by
    intro a b c e
    refine ⟨⟨?_, ?_⟩, ?_, ?_⟩ <;> pointwise [r12_v192]
  fin_cases j
  · exact (h _ _ _ _).1.1.trans (v37_eq m d)
  · exact (h _ _ _ _).1.2.trans (v78_eq m d h3)
  · exact (h _ _ _ _).2.1.trans (v157_eq m d h5 h6)
  · exact (h _ _ _ _).2.2.trans (v187_eq m d h3 h4 f0 f2 f7 f9 f10 f11 f12 f15 f16 f17 f18 f19 f20)

end Cert.Proof.Ref
end
-- ==== Proof.DrawWords.lean ====
/-
  The counter-based generator's words: one round, the addition of keys after every fourth round, and the pair of words after each of
  the twenty rounds, as functions of the two key words and the counter.
-/
module

public import Idealize.ShloMosaic.Lib.Pointwise

@[expose] public section

namespace Cert.Proof.Draw

open Idealize.ShloMosaic

/-- The first key word of each of the two samples. -/
def key0 (q : Fin 2) : BitVec 32 := if q = 0 then 3625411723#32 else 195045567#32
/-- The second key word. -/
def key1 (q : Fin 2) : BitVec 32 := if q = 0 then 1954958720#32 else 4062205631#32
/-- The third key word. -/
def key2 (a b : BitVec 32) : BitVec 32 := IntOp.xori (IntOp.xori a b) 466688986#32
/-- The counter of an entry. -/
def cnt (r : Fin 4096) (k : Fin 10000) : BitVec 32 := BitVec.ofNat 32 (10000 * r.val + k.val)
/-- A word with its bits turned left. -/
def turn (b r s : BitVec 32) : BitVec 32 := IntOp.ori (IntOp.shli .host b r) (IntOp.shrui .host b s)
/-- One round. -/
def mix (r s : BitVec 32) (p : BitVec 32 × BitVec 32) : BitVec 32 × BitVec 32 :=
  (IntOp.addi p.1 p.2, IntOp.xori (IntOp.addi p.1 p.2) (turn p.2 r s))
/-- The addition of keys. -/
def inj (a b n : BitVec 32) (p : BitVec 32 × BitVec 32) : BitVec 32 × BitVec 32 :=
  (IntOp.addi p.1 a, IntOp.addi (IntOp.addi p.2 b) n)

/-! The pair of words before the rounds and after each of them. -/

def p0 (a b c : BitVec 32) : BitVec 32 × BitVec 32 := (IntOp.addi 0#32 a, IntOp.addi c b)
def p1 (a b c : BitVec 32) : BitVec 32 × BitVec 32 := mix 13#32 19#32 (p0 a b c)
def p2 (a b c : BitVec 32) : BitVec 32 × BitVec 32 := mix 15#32 17#32 (p1 a b c)
def p3 (a b c : BitVec 32) : BitVec 32 × BitVec 32 := mix 26#32 6#32 (p2 a b c)
def p4 (a b c : BitVec 32) : BitVec 32 × BitVec 32 := inj b (key2 a b) 1#32 (mix 6#32 26#32 (p3 a b c))
def p5 (a b c : BitVec 32) : BitVec 32 × BitVec 32 := mix 17#32 15#32 (p4 a b c)
def p6 (a b c : BitVec 32) : BitVec 32 × BitVec 32 := mix 29#32 3#32 (p5 a b c)
def p7 (a b c : BitVec 32) : BitVec 32 × BitVec 32 := mix 16#32 16#32 (p6 a b c)
def p8 (a b c : BitVec 32) : BitVec 32 × BitVec 32 := inj (key2 a b) a 2#32 (mix 24#32 8#32 (p7 a b c))
def p9 (a b c : BitVec 32) : BitVec 32 × BitVec 32 := mix 13#32 19#32 (p8 a b c)
def p10 (a b c : BitVec 32) : BitVec 32 × BitVec 32 := mix 15#32 17#32 (p9 a b c)
def p11 (a b c : BitVec 32) : BitVec 32 × BitVec 32 := mix 26#32 6#32 (p10 a b c)
def p12 (a b c : BitVec 32) : BitVec 32 × BitVec 32 := inj a b 3#32 (mix 6#32 26#32 (p11 a b c))
def p13 (a b c : BitVec 32) : BitVec 32 × BitVec 32 := mix 17#32 15#32 (p12 a b c)
def p14 (a b c : BitVec 32) : BitVec 32 × BitVec 32 := mix 29#32 3#32 (p13 a b c)
def p15 (a b c : BitVec 32) : BitVec 32 × BitVec 32 := mix 16#32 16#32 (p14 a b c)
def p16 (a b c : BitVec 32) : BitVec 32 × BitVec 32 := inj b (key2 a b) 4#32 (mix 24#32 8#32 (p15 a b c))
def p17 (a b c : BitVec 32) : BitVec 32 × BitVec 32 := mix 13#32 19#32 (p16 a b c)
def p18 (a b c : BitVec 32) : BitVec 32 × BitVec 32 := mix 15#32 17#32 (p17 a b c)
def p19 (a b c : BitVec 32) : BitVec 32 × BitVec 32 := mix 26#32 6#32 (p18 a b c)
def p20 (a b c : BitVec 32) : BitVec 32 × BitVec 32 := inj (key2 a b) a 5#32 (mix 6#32 26#32 (p19 a b c))

/-- An entry's random word. -/
def word (q : Fin 2) (r : Fin 4096) (k : Fin 10000) : BitVec 32 :=
  IntOp.xori (p20 (key0 q) (key1 q) (cnt r k)).1 (p20 (key0 q) (key1 q) (cnt r k)).2

end Cert.Proof.Draw
-- ==== Proof.DrawPay.lean ====
/-
  The sampler kernel's two draws at one entry of a chunk: the twenty rounds of the generator, read from the kernel's values one after
  another, and the sample's score.
-/
module

public import proofs.«01_k».proof.Proof.Gen.SamplerIdeal.Skeleton
public import proofs.«01_k».proof.Proof.DrawWords

@[expose] public section

noncomputable section

namespace Cert.Proof.Draw

open Cert.SamplerIdeal Cert.SamplerIdeal.Gen
open Idealize.ShloMosaic Idealize.SL.Sem

variable {F : FTy → Type} [FloatOps F]

theorem mixB (r s : BitVec 32) (p : BitVec 32 × BitVec 32) (hr : r.toNat < 32) (hs : s.toNat < 32) :
    IntOp.xori (IntOp.ori (IntOp.shli .vector p.2 r) (IntOp.shrui .vector p.2 s)) (IntOp.addi p.1 p.2) = (mix r s p).2 := by
  unfold mix turn IntOp.shli IntOp.shrui
  simp only [hr, hs, if_true]
  exact BitVec.xor_comm _ _

/-- One round: the two words' sum, and the second word turned and joined with it. -/
theorem mixA {b c : BitVec 32} {p : BitVec 32 × BitVec 32} (r s : BitVec 32) (hb : b = p.2) (hc : c = IntOp.addi p.1 p.2)
    (hr : r.toNat < 32 := by decide) (hs : s.toNat < 32 := by decide) :
    IntOp.xori (IntOp.ori (IntOp.shli .vector b r) (IntOp.shrui .vector b s)) c = (mix r s p).2 := by
  subst hb hc
  exact mixB r s p hr hs

/-- The sum of a pair of words. -/
abbrev tot (p : BitVec 32 × BitVec 32) : BitVec 32 := IntOp.addi p.1 p.2

/-- The sample's score: the negated logarithm of the uniform number its word makes, times the given weight; where it is not allowed,
    infinite. -/
def lane (ok : BitVec 1) (w : F .f32) (b : BitVec 32) : F .f32 :=
  Scalar.select ok (FloatOps.mulf (FloatOps.subf (FloatOps.ofBits .f32 0x00000000#32)
    (FloatOps.log (FloatOps.maximumf (FloatOps.ofBits .f32 0x00800000#32)
      (FloatOps.addf (FloatOps.subf (FloatOps.ofBits .f32 (IntOp.ori (IntOp.shrui .vector b 9#32) 1065353216#32)) (FloatOps.ofBits .f32 0x3F800000#32))
        (FloatOps.ofBits .f32 0x00800000#32))))) w) (FloatOps.ofBits .f32 0x7F800000#32)

/-! The kernel's values that pass from one part of its text to the next. -/

abbrev q1 (p : BitVec 32 → BitVec 32 → BitVec 32 → BitVec 32 × BitVec 32) (i : grid0.Coords) (j : S128x128.Idx) : BitVec 32 × BitVec 32 :=
  p 3625411723#32 1954958720#32 (k0_pay11 i j)
abbrev q2 (p : BitVec 32 → BitVec 32 → BitVec 32 → BitVec 32 × BitVec 32) (i : grid0.Coords) (j : S128x128.Idx) : BitVec 32 × BitVec 32 :=
  p 195045567#32 4062205631#32 (k0_pay11 i j)
abbrev w34 (i : grid0.Coords) : IVec S128x128 32 := k0_pay16 i
abbrev w35 (i : grid0.Coords) : IVec S128x128 32 := k0_pay17 i
abbrev w37 (i : grid0.Coords) : IVec S128x128 32 := k0_pay18 i
abbrev w82 (i : grid0.Coords) : IVec S128x128 32 := k0_pay29 (w34 i) (w35 i) (w37 i) 17#32
abbrev w83 (i : grid0.Coords) : IVec S128x128 32 := k0_pay30 (w34 i) (w35 i) (w37 i) 17#32
abbrev w125 (i : grid0.Coords) : IVec S128x128 32 := k0_pay39 (w82 i) (w83 i) 24#32
abbrev w127 (i : grid0.Coords) : IVec S128x128 32 := k0_pay40 (w82 i) (w83 i) 24#32
abbrev w170 (i : grid0.Coords) : IVec S128x128 32 := k0_pay52 (w125 i) (w127 i) k0_pay41
abbrev w171 (i : grid0.Coords) : IVec S128x128 32 := k0_pay53 (w125 i) (w127 i) k0_pay41
abbrev w173 (i : grid0.Coords) : IVec S128x128 32 := k0_pay54 (w125 i) (w127 i) k0_pay41
abbrev w253 (i : grid0.Coords) : IVec S128x128 32 := k0_pay64 (k0_pay11 i)
abbrev w254 (i : grid0.Coords) : IVec S128x128 32 := k0_pay65 (k0_pay11 i)
abbrev w256 (i : grid0.Coords) : IVec S128x128 32 := k0_pay66 (k0_pay11 i)
abbrev w295 (i : grid0.Coords) : IVec S128x128 32 := k0_pay76 (w253 i) (w254 i) (w256 i) 6#32
abbrev w301 (i : grid0.Coords) : IVec S128x128 32 := k0_pay77 (w253 i) (w254 i) (w256 i) 6#32
abbrev w342 (i : grid0.Coords) : IVec S128x128 32 := k0_pay88 (w295 i) (w301 i) k0_pay78
abbrev w347 (i : grid0.Coords) : IVec S128x128 32 := k0_pay89 (w295 i) (w301 i) k0_pay78
abbrev w389 (i : grid0.Coords) : IVec S128x128 32 := k0_pay100 (w342 i) (w347 i)
abbrev w390 (i : grid0.Coords) : IVec S128x128 32 := k0_pay101 (w342 i) (w347 i)
abbrev w392 (i : grid0.Coords) : IVec S128x128 32 := k0_pay102 (w342 i) (w347 i)

variable (i : grid0.Coords) (j : S128x128.Idx)

theorem y14 : k0_pay14 i j = (q1 p0 i j).2 :=
  rfl
theorem y15 : k0_pay15 i j = tot (q1 p0 i j) :=
  (congrArg₂ IntOp.addi rfl (y14 i j) :)
theorem y16 : k0_pay16 i j = (q1 p1 i j).2 :=
  mixA 13#32 19#32 (y14 i j) (y15 i j)
theorem y17 : k0_pay17 i j = tot (q1 p1 i j) :=
  (congrArg₂ IntOp.addi (y15 i j) (y16 i j) :)
theorem y18 : k0_pay18 i j = IntOp.shli .vector (q1 p1 i j).2 15#32 :=
  (congrArg (IntOp.shli .vector · 15#32) (y16 i j) :)
theorem y19 : k0_pay19 (w34 i) (w35 i) (w37 i) 17#32 j = (q1 p2 i j).2 :=
  (congrArg₂ IntOp.xori (congrArg₂ IntOp.ori (y18 i j) (congrArg (IntOp.shrui .vector · 17#32) (y16 i j))) (y17 i j)).trans (mixB _ _ _ (by decide) (by decide))
theorem y20 : k0_pay20 (w34 i) (w35 i) (w37 i) 17#32 j = tot (q1 p2 i j) :=
  (congrArg₂ IntOp.addi (y17 i j) (y19 i j) :)
theorem y21 : k0_pay21 (w34 i) (w35 i) (w37 i) 17#32 j = (q1 p3 i j).2 :=
  mixA 26#32 6#32 (y19 i j) (y20 i j)
theorem y22 : k0_pay22 (w34 i) (w35 i) (w37 i) 17#32 j = tot (q1 p3 i j) :=
  (congrArg₂ IntOp.addi (y20 i j) (y21 i j) :)
theorem y23 : k0_pay23 (w34 i) (w35 i) (w37 i) 17#32 j = (q1 p4 i j).2 :=
  (congrArg₂ IntOp.addi (congrArg₂ IntOp.addi (mixA 6#32 26#32 (y21 i j) (y22 i j)) rfl) rfl :)
theorem y24 : k0_pay24 (w34 i) (w35 i) (w37 i) 17#32 j = tot (q1 p4 i j) :=
  (congrArg₂ IntOp.addi (congrArg₂ IntOp.addi (y22 i j) rfl) (y23 i j) :)
theorem y25 : k0_pay25 (w34 i) (w35 i) (w37 i) 17#32 j = (q1 p5 i j).2 :=
  mixA 17#32 15#32 (y23 i j) (y24 i j)
theorem y26 : k0_pay26 (w34 i) (w35 i) (w37 i) 17#32 j = tot (q1 p5 i j) :=
  (congrArg₂ IntOp.addi (y24 i j) (y25 i j) :)
theorem y27 : k0_pay27 (w34 i) (w35 i) (w37 i) 17#32 j = (q1 p6 i j).2 :=
  mixA 29#32 3#32 (y25 i j) (y26 i j)
theorem y28 : k0_pay28 (w34 i) (w35 i) (w37 i) 17#32 j = tot (q1 p6 i j) :=
  (congrArg₂ IntOp.addi (y26 i j) (y27 i j) :)
theorem y29 : k0_pay29 (w34 i) (w35 i) (w37 i) 17#32 j = (q1 p7 i j).2 :=
  mixA 16#32 16#32 (y27 i j) (y28 i j)
theorem y30 : k0_pay30 (w34 i) (w35 i) (w37 i) 17#32 j = tot (q1 p7 i j) :=
  (congrArg₂ IntOp.addi (y28 i j) (y29 i j) :)
theorem y31 : k0_pay31 (w82 i) (w83 i) 24#32 j = (q1 p8 i j).2 :=
  (congrArg₂ IntOp.addi (congrArg₂ IntOp.addi (mixA 24#32 8#32 (y29 i j) (y30 i j)) rfl) rfl :)
theorem y32 : k0_pay32 (w82 i) (w83 i) 24#32 j = tot (q1 p8 i j) :=
  (congrArg₂ IntOp.addi (congrArg₂ IntOp.addi (y30 i j) rfl) (y31 i j) :)
theorem y33 : k0_pay33 (w82 i) (w83 i) 24#32 j = (q1 p9 i j).2 :=
  mixA 13#32 19#32 (y31 i j) (y32 i j)
theorem y34 : k0_pay34 (w82 i) (w83 i) 24#32 j = tot (q1 p9 i j) :=
  (congrArg₂ IntOp.addi (y32 i j) (y33 i j) :)
theorem y35 : k0_pay35 (w82 i) (w83 i) 24#32 j = (q1 p10 i j).2 :=
  mixA 15#32 17#32 (y33 i j) (y34 i j)
theorem y36 : k0_pay36 (w82 i) (w83 i) 24#32 j = tot (q1 p10 i j) :=
  (congrArg₂ IntOp.addi (y34 i j) (y35 i j) :)
theorem y37 : k0_pay37 (w82 i) (w83 i) 24#32 j = (q1 p11 i j).2 :=
  mixA 26#32 6#32 (y35 i j) (y36 i j)
theorem y38 : k0_pay38 (w82 i) (w83 i) 24#32 j = tot (q1 p11 i j) :=
  (congrArg₂ IntOp.addi (y36 i j) (y37 i j) :)
theorem y39 : k0_pay39 (w82 i) (w83 i) 24#32 j = IntOp.addi (tot (q1 p11 i j)) 3625411723#32 :=
  (congrArg₂ IntOp.addi (y38 i j) rfl :)
theorem y40 : k0_pay40 (w82 i) (w83 i) 24#32 j = IntOp.addi (mix 6#32 26#32 (q1 p11 i j)).2 1954958720#32 :=
  (congrArg₂ IntOp.addi (mixA 6#32 26#32 (y37 i j) (y38 i j)) rfl :)
theorem y41 : (k0_pay41 : IVec S128x128 32) j = 3#32 := rfl
theorem y42 : k0_pay42 (w127 i) k0_pay41 j = (q1 p12 i j).2 :=
  (congrArg₂ IntOp.addi (y40 i j) rfl :)
theorem y43 : k0_pay43 (w125 i) (w127 i) k0_pay41 j = tot (q1 p12 i j) :=
  (congrArg₂ IntOp.addi (y39 i j) (y42 i j) :)
theorem y44 : k0_pay44 (w125 i) (w127 i) k0_pay41 j = (q1 p13 i j).2 :=
  mixA 17#32 15#32 (y42 i j) (y43 i j)
theorem y45 : k0_pay45 (w125 i) (w127 i) k0_pay41 j = tot (q1 p13 i j) :=
  (congrArg₂ IntOp.addi (y43 i j) (y44 i j) :)
theorem y46 : k0_pay46 (w125 i) (w127 i) k0_pay41 j = (q1 p14 i j).2 :=
  mixA 29#32 3#32 (y44 i j) (y45 i j)
theorem y47 : k0_pay47 (w125 i) (w127 i) k0_pay41 j = tot (q1 p14 i j) :=
  (congrArg₂ IntOp.addi (y45 i j) (y46 i j) :)
theorem y48 : k0_pay48 (w125 i) (w127 i) k0_pay41 j = (q1 p15 i j).2 :=
  mixA 16#32 16#32 (y46 i j) (y47 i j)
theorem y49 : k0_pay49 (w125 i) (w127 i) k0_pay41 j = tot (q1 p15 i j) :=
  (congrArg₂ IntOp.addi (y47 i j) (y48 i j) :)
theorem y50 : k0_pay50 (w125 i) (w127 i) k0_pay41 j = (q1 p16 i j).2 :=
  (congrArg₂ IntOp.addi (congrArg₂ IntOp.addi (mixA 24#32 8#32 (y48 i j) (y49 i j)) rfl) rfl :)
theorem y51 : k0_pay51 (w125 i) (w127 i) k0_pay41 j = tot (q1 p16 i j) :=
  (congrArg₂ IntOp.addi (congrArg₂ IntOp.addi (y49 i j) rfl) (y50 i j) :)
theorem y52 : k0_pay52 (w125 i) (w127 i) k0_pay41 j = (q1 p17 i j).2 :=
  mixA 13#32 19#32 (y50 i j) (y51 i j)
theorem y53 : k0_pay53 (w125 i) (w127 i) k0_pay41 j = tot (q1 p17 i j) :=
  (congrArg₂ IntOp.addi (y51 i j) (y52 i j) :)
theorem y54 : k0_pay54 (w125 i) (w127 i) k0_pay41 j = IntOp.shli .vector (q1 p17 i j).2 15#32 :=
  (congrArg (IntOp.shli .vector · 15#32) (y52 i j) :)
theorem y60 : k0_pay60 (k0_pay11 i) j = (q2 p0 i j).2 :=
  rfl
theorem y61 : k0_pay61 (k0_pay11 i) j = tot (q2 p0 i j) :=
  (congrArg₂ IntOp.addi rfl (y60 i j) :)
theorem y62 : k0_pay62 (k0_pay11 i) j = (q2 p1 i j).2 :=
  mixA 13#32 19#32 (y60 i j) (y61 i j)
theorem y63 : k0_pay63 (k0_pay11 i) j = tot (q2 p1 i j) :=
  (congrArg₂ IntOp.addi (y61 i j) (y62 i j) :)
theorem y64 : k0_pay64 (k0_pay11 i) j = (q2 p2 i j).2 :=
  mixA 15#32 17#32 (y62 i j) (y63 i j)
theorem y65 : k0_pay65 (k0_pay11 i) j = tot (q2 p2 i j) :=
  (congrArg₂ IntOp.addi (y63 i j) (y64 i j) :)
theorem y66 : k0_pay66 (k0_pay11 i) j = IntOp.shli .vector (q2 p2 i j).2 26#32 :=
  (congrArg (IntOp.shli .vector · 26#32) (y64 i j) :)
theorem y67 : k0_pay67 (w253 i) (w254 i) (w256 i) 6#32 j = (q2 p3 i j).2 :=
  (congrArg₂ IntOp.xori (congrArg₂ IntOp.ori (y66 i j) (congrArg (IntOp.shrui .vector · 6#32) (y64 i j))) (y65 i j)).trans (mixB _ _ _ (by decide) (by decide))
theorem y68 : k0_pay68 (w253 i) (w254 i) (w256 i) 6#32 j = tot (q2 p3 i j) :=
  (congrArg₂ IntOp.addi (y65 i j) (y67 i j) :)
theorem y69 : k0_pay69 (w253 i) (w254 i) (w256 i) 6#32 j = (q2 p4 i j).2 :=
  (congrArg₂ IntOp.addi (congrArg₂ IntOp.addi (mixA 6#32 26#32 (y67 i j) (y68 i j)) rfl) rfl :)
theorem y70 : k0_pay70 (w253 i) (w254 i) (w256 i) 6#32 j = tot (q2 p4 i j) :=
  (congrArg₂ IntOp.addi (congrArg₂ IntOp.addi (y68 i j) rfl) (y69 i j) :)
theorem y71 : k0_pay71 (w253 i) (w254 i) (w256 i) 6#32 j = (q2 p5 i j).2 :=
  mixA 17#32 15#32 (y69 i j) (y70 i j)
theorem y72 : k0_pay72 (w253 i) (w254 i) (w256 i) 6#32 j = tot (q2 p5 i j) :=
  (congrArg₂ IntOp.addi (y70 i j) (y71 i j) :)
theorem y73 : k0_pay73 (w253 i) (w254 i) (w256 i) 6#32 j = (q2 p6 i j).2 :=
  mixA 29#32 3#32 (y71 i j) (y72 i j)
theorem y74 : k0_pay74 (w253 i) (w254 i) (w256 i) 6#32 j = tot (q2 p6 i j) :=
  (congrArg₂ IntOp.addi (y72 i j) (y73 i j) :)
theorem y75 : k0_pay75 (w253 i) (w254 i) (w256 i) 6#32 j = (q2 p7 i j).2 :=
  mixA 16#32 16#32 (y73 i j) (y74 i j)
theorem y76 : k0_pay76 (w253 i) (w254 i) (w256 i) 6#32 j = tot (q2 p7 i j) :=
  (congrArg₂ IntOp.addi (y74 i j) (y75 i j) :)
theorem y77 : k0_pay77 (w253 i) (w254 i) (w256 i) 6#32 j = (mix 24#32 8#32 (q2 p7 i j)).2 :=
  mixA 24#32 8#32 (y75 i j) (y76 i j)
theorem y78 : (k0_pay78 : IVec S128x128 32) j = 3796985306#32 := rfl
theorem y79 : k0_pay79 (w301 i) j = (q2 p8 i j).2 :=
  (congrArg₂ IntOp.addi (congrArg₂ IntOp.addi (y77 i j) rfl) rfl :)
theorem y80 : k0_pay80 (w295 i) (w301 i) k0_pay78 j = tot (q2 p8 i j) :=
  (congrArg₂ IntOp.addi (congrArg₂ IntOp.addi (y76 i j) rfl) (y79 i j) :)
theorem y81 : k0_pay81 (w295 i) (w301 i) k0_pay78 j = (q2 p9 i j).2 :=
  mixA 13#32 19#32 (y79 i j) (y80 i j)
theorem y82 : k0_pay82 (w295 i) (w301 i) k0_pay78 j = tot (q2 p9 i j) :=
  (congrArg₂ IntOp.addi (y80 i j) (y81 i j) :)
theorem y83 : k0_pay83 (w295 i) (w301 i) k0_pay78 j = (q2 p10 i j).2 :=
  mixA 15#32 17#32 (y81 i j) (y82 i j)
theorem y84 : k0_pay84 (w295 i) (w301 i) k0_pay78 j = tot (q2 p10 i j) :=
  (congrArg₂ IntOp.addi (y82 i j) (y83 i j) :)
theorem y85 : k0_pay85 (w295 i) (w301 i) k0_pay78 j = (q2 p11 i j).2 :=
  mixA 26#32 6#32 (y83 i j) (y84 i j)
theorem y86 : k0_pay86 (w295 i) (w301 i) k0_pay78 j = tot (q2 p11 i j) :=
  (congrArg₂ IntOp.addi (y84 i j) (y85 i j) :)
theorem y87 : k0_pay87 (w295 i) (w301 i) k0_pay78 j = (q2 p12 i j).2 :=
  (congrArg₂ IntOp.addi (congrArg₂ IntOp.addi (mixA 6#32 26#32 (y85 i j) (y86 i j)) rfl) rfl :)
theorem y88 : k0_pay88 (w295 i) (w301 i) k0_pay78 j = tot (q2 p12 i j) :=
  (congrArg₂ IntOp.addi (congrArg₂ IntOp.addi (y86 i j) rfl) (y87 i j) :)
theorem y89 : k0_pay89 (w295 i) (w301 i) k0_pay78 j = IntOp.ori (IntOp.shli .vector (q2 p12 i j).2 17#32) (IntOp.shrui .vector (q2 p12 i j).2 15#32) :=
  (congrArg₂ IntOp.ori (congrArg (IntOp.shli .vector · 17#32) (y87 i j)) (congrArg (IntOp.shrui .vector · 15#32) (y87 i j)) :)
theorem y90 : k0_pay90 (w342 i) (w347 i) j = (q2 p13 i j).2 :=
  (congrArg₂ IntOp.xori (y89 i j) (y88 i j)).trans (mixB _ _ _ (by decide) (by decide))
theorem y91 : k0_pay91 (w342 i) (w347 i) j = tot (q2 p13 i j) :=
  (congrArg₂ IntOp.addi (y88 i j) (y90 i j) :)
theorem y92 : k0_pay92 (w342 i) (w347 i) j = (q2 p14 i j).2 :=
  mixA 29#32 3#32 (y90 i j) (y91 i j)
theorem y93 : k0_pay93 (w342 i) (w347 i) j = tot (q2 p14 i j) :=
  (congrArg₂ IntOp.addi (y91 i j) (y92 i j) :)
theorem y94 : k0_pay94 (w342 i) (w347 i) j = (q2 p15 i j).2 :=
  mixA 16#32 16#32 (y92 i j) (y93 i j)
theorem y95 : k0_pay95 (w342 i) (w347 i) j = tot (q2 p15 i j) :=
  (congrArg₂ IntOp.addi (y93 i j) (y94 i j) :)
theorem y96 : k0_pay96 (w342 i) (w347 i) j = (q2 p16 i j).2 :=
  (congrArg₂ IntOp.addi (congrArg₂ IntOp.addi (mixA 24#32 8#32 (y94 i j) (y95 i j)) rfl) rfl :)
theorem y97 : k0_pay97 (w342 i) (w347 i) j = tot (q2 p16 i j) :=
  (congrArg₂ IntOp.addi (congrArg₂ IntOp.addi (y95 i j) rfl) (y96 i j) :)
theorem y98 : k0_pay98 (w342 i) (w347 i) j = (q2 p17 i j).2 :=
  mixA 13#32 19#32 (y96 i j) (y97 i j)
theorem y99 : k0_pay99 (w342 i) (w347 i) j = tot (q2 p17 i j) :=
  (congrArg₂ IntOp.addi (y97 i j) (y98 i j) :)
theorem y100 : k0_pay100 (w342 i) (w347 i) j = (q2 p18 i j).2 :=
  mixA 15#32 17#32 (y98 i j) (y99 i j)
theorem y101 : k0_pay101 (w342 i) (w347 i) j = tot (q2 p18 i j) :=
  (congrArg₂ IntOp.addi (y99 i j) (y100 i j) :)
theorem y102 : k0_pay102 (w342 i) (w347 i) j = IntOp.shli .vector (q2 p18 i j).2 26#32 :=
  (congrArg (IntOp.shli .vector · 26#32) (y100 i j) :)
theorem y55 (v19 : FVec F S128x1 .f32) (v24 : IVec S128x128 1) :
    k0_pay55 v19 v24 (w170 i) (w171 i) (w173 i) 17#32 j = lane (v24 j) (broadcastTo S128x128 v19 broadcasts_S128x1_S128x128 j)
      (IntOp.xori (q1 p20 i j).1 (q1 p20 i j).2) := by
  have h18 := (congrArg₂ IntOp.xori (congrArg₂ IntOp.ori (y54 i j) (congrArg (IntOp.shrui .vector · 17#32) (y52 i j))) (y53 i j)).trans
    (mixB 15#32 17#32 (q1 p17 i j) (by decide) (by decide))
  have a18 := congrArg₂ IntOp.addi (y53 i j) h18
  have h19 := mixA 26#32 6#32 h18 a18
  have a19 := congrArg₂ IntOp.addi a18 h19
  have h20 := mixA 6#32 26#32 h19 a19
  exact congrArg (lane (v24 j) (broadcastTo S128x128 v19 broadcasts_S128x1_S128x128 j))
    (congrArg₂ IntOp.xori (congrArg₂ IntOp.addi a19 rfl) (congrArg₂ IntOp.addi (congrArg₂ IntOp.addi h20 rfl) rfl))
theorem y103 (v19 : FVec F S128x1 .f32) (v24 : IVec S128x128 1) :
    k0_pay103 v19 v24 (w389 i) (w390 i) (w392 i) 6#32 j = lane (v24 j) (broadcastTo S128x128 v19 broadcasts_S128x1_S128x128 j)
      (IntOp.xori (q2 p20 i j).1 (q2 p20 i j).2) := by
  have h19 := (congrArg₂ IntOp.xori (congrArg₂ IntOp.ori (y102 i j) (congrArg (IntOp.shrui .vector · 6#32) (y100 i j))) (y101 i j)).trans
    (mixB 26#32 6#32 (q2 p18 i j) (by decide) (by decide))
  have a19 := congrArg₂ IntOp.addi (y101 i j) h19
  have h20 := mixA 6#32 26#32 h19 a19
  exact congrArg (lane (v24 j) (broadcastTo S128x128 v19 broadcasts_S128x1_S128x128 j))
    (congrArg₂ IntOp.xori (congrArg₂ IntOp.addi a19 rfl) (congrArg₂ IntOp.addi (congrArg₂ IntOp.addi h20 rfl) rfl))

end Cert.Proof.Draw

end
-- ==== Proof.DrawStep.lean ====
/-
  What one point of the sampler's grid leaves in the arrays it carries from point to point, and in the results it writes at a block's
  last point.
-/
module

public import proofs.«01_k».proof.Proof.Gen.SamplerIdeal.Frame
public import proofs.«01_k».proof.Proof.DrawPay
public import Idealize.ShloMosaic.Lib.VecWindow

@[expose] public section

noncomputable section

namespace Cert.Proof.Draw

open Cert.SamplerIdeal Cert.SamplerIdeal.Gen
open Idealize.ShloMosaic Idealize.SL.Sem

variable {F : FTy → Type} [FloatOps F]

/-- The two chunks of scores, their least scores, and the positions of those. -/
def sc1 (i : grid0.Coords) (x0 : Vec F S1x128x1 .f32) (x1 : Vec F S1x1x128 .i32) : FVec F S128x128 .f32 :=
  k0_pay55 (k0_pay12 x0) (k0_pay13 i x1) (w170 i) (w171 i) (w173 i) 17#32
def mn1 (i : grid0.Coords) (x0 : Vec F S1x128x1 .f32) (x1 : Vec F S1x1x128 .i32) : FVec F S1x128 .f32 :=
  k0_pay56 (k0_pay12 x0) (k0_pay13 i x1) (w170 i) (w171 i) (w173 i) 17#32
def mn2 (i : grid0.Coords) (x0 : Vec F S1x128x1 .f32) (x1 : Vec F S1x1x128 .i32) : FVec F S1x128 .f32 :=
  k0_pay104 (k0_pay12 x0) (k0_pay13 i x1) (w389 i) (w390 i) (w392 i) 6#32
def ix2_ (i : grid0.Coords) (x0 : Vec F S1x128x1 .f32) (x1 : Vec F S1x1x128 .i32) : IVec S1x128 32 :=
  k0_pay105 (k0_pay10 i) (k0_pay12 x0) (k0_pay13 i x1) (w389 i) (w390 i) (w392 i) 6#32
def st0 (i : grid0.Coords) (x0 : Vec F S1x128x1 .f32) (x1 : Vec F S1x1x128 .i32) (a : Vec F S1x128 .f32) : Vec F S1x128 .f32 :=
  k0_pay58 (mn1 i x0 x1) a a
def st1 (i : grid0.Coords) (x0 : Vec F S1x128x1 .f32) (x1 : Vec F S1x1x128 .i32) (a : Vec F S1x128 .f32) (b : Vec F S1x128 .i32) : Vec F S1x128 .i32 :=
  k0_pay59 (k0_pay10 i) (sc1 i x0 x1) (mn1 i x0 x1) a b
def st2 (i : grid0.Coords) (x0 : Vec F S1x128x1 .f32) (x1 : Vec F S1x1x128 .i32) (a : Vec F S1x128 .f32) : Vec F S1x128 .f32 :=
  k0_pay2 (mn2 i x0 x1) a a
def st3 (i : grid0.Coords) (x0 : Vec F S1x128x1 .f32) (x1 : Vec F S1x1x128 .i32) (a : Vec F S1x128 .f32) (b : Vec F S1x128 .i32) : Vec F S1x128 .i32 :=
  k0_pay3 (mn2 i x0 x1) (ix2_ i x0 x1) a b

theorem rd2 {e : EltTy} (m : Memref sig .tc .vmem S1x128 e) (h : m.IsWhole) (x : Vec F S1x128 e) :
    View.readAt (Elt F) m.view (Rect.unit (s := S1x128) ![0, 0] ![1, 128] inb_S1x128_S1x128_0_0).toLoadRect (h.unread x) = x :=
  (View.readAt_full (s := S1x128) _ _ _).trans (h.read_unread x)
theorem rdf (m : Memref sig .tc .vmem S1x128x1 .f32) (h : m.IsWhole) (x : Vec F S1x128x1 .f32) :
    View.readAt (Elt F) m.view (Rect.unit (s := S1x128x1) ![0, 0, 0] ![1, 128, 1] inb_S1x128x1_S1x128x1_0_0_0).toLoadRect (h.unread x) = x :=
  (View.readAt_full (s := S1x128x1) _ _ _).trans (h.read_unread x)
theorem rdy (m : Memref sig .tc .vmem S1x1x128 .i32) (h : m.IsWhole) (x : Vec F S1x1x128 .i32) :
    View.readAt (Elt F) m.view (Rect.unit (s := S1x1x128) ![0, 0, 0] ![1, 1, 128] inb_S1x1x128_S1x1x128_0_0_0).toLoadRect (h.unread x) = x :=
  (View.readAt_full (s := S1x1x128) _ _ _).trans (h.read_unread x)
theorem rdc {e : EltTy} (m : Memref sig .tc .vmem S1x128 e) (x : Vec F S1x128 e) (L : List (View.Piece (Elt F) S1x128 e)) :
    View.readCov m.view (⟨Rect.unit (s := S1x128) ![0, 0] ![1, 128] inb_S1x128_S1x128_0_0, x⟩ :: L)
      (Rect.unit (s := S1x128) ![0, 0] ![1, 128] inb_S1x128_S1x128_0_0).toLoadRect = x :=
  View.readCov_full (s := S1x128) _ _ _ _ _

variable (c : Dev nD) (i : grid0.Coords) (arg2 : Memref sig .tc .vmem S1x128x1 .f32) (harg2 : arg2.IsWhole)
  (arg3 : Memref sig .tc .vmem S1x1x128 .i32) (harg3 : arg3.IsWhole) (arg4 : Memref sig .tc .vmem S1x1x128 .i32) (harg4 : arg4.IsWhole)
  (arg5 : Memref sig .tc .vmem S1x1x128 .i32) (harg5 : arg5.IsWhole) (arg6 : Memref sig .tc .vmem S1x128 .f32) (harg6 : arg6.IsWhole)
  (arg7 : Memref sig .tc .vmem S1x128 .i32) (harg7 : arg7.IsWhole) (arg8 : Memref sig .tc .vmem S1x128 .f32) (harg8 : arg8.IsWhole)
  (arg9 : Memref sig .tc .vmem S1x128 .i32) (harg9 : arg9.IsWhole) (x0 : Vec F S1x128x1 .f32) (x1 : Vec F S1x1x128 .i32)
  (xs0 : Vec F S1x128 .f32) (xs1 : Vec F S1x128 .i32) (xs2 : Vec F S1x128 .f32) (xs3 : Vec F S1x128 .i32)

theorem sA0 (hc0 : cond0_0 i) (hc1 : ¬cond0_1 i) : sout0_A_0 c i arg2 harg2 arg3 harg3 arg4 harg4 arg5 harg5 arg6 harg6 arg7 harg7 arg8 harg8
    arg9 harg9 hc0 hc1 x0 x1 = st0 i x0 x1 k0_pay6 := by
  unfold sout0_A_0 kernelRun0_A
  dsimp only
  refine (View.read_writes_full _ _ _ _ _).trans ?_
  simp only [kernelRun0_A.sl.v225, kernelRun0_A.sl.v232, kernelRun0_A.sl.v437, kernelRun0_A.sl.v444, kernelRun0_A.sl.HS0_1, kernelRun0_A.sl.HS1_1, kernelRun0_A.sl.HS2_1, kernelRun0_A.sl.HS3_1, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, rd2, rdf, rdy, rdc]
  rfl
theorem sA1 (hc0 : cond0_0 i) (hc1 : ¬cond0_1 i) : sout0_A_1 c i arg2 harg2 arg3 harg3 arg4 harg4 arg5 harg5 arg6 harg6 arg7 harg7 arg8 harg8
    arg9 harg9 hc0 hc1 x0 x1 = st1 i x0 x1 k0_pay6 k0_pay7 := by
  unfold sout0_A_1 kernelRun0_A
  dsimp only
  refine (View.read_writes_full _ _ _ _ _).trans ?_
  simp only [kernelRun0_A.sl.v225, kernelRun0_A.sl.v232, kernelRun0_A.sl.v437, kernelRun0_A.sl.v444, kernelRun0_A.sl.HS0_1, kernelRun0_A.sl.HS1_1, kernelRun0_A.sl.HS2_1, kernelRun0_A.sl.HS3_1, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, rd2, rdf, rdy, rdc]
  rfl
theorem sA2 (hc0 : cond0_0 i) (hc1 : ¬cond0_1 i) : sout0_A_2 c i arg2 harg2 arg3 harg3 arg4 harg4 arg5 harg5 arg6 harg6 arg7 harg7 arg8 harg8
    arg9 harg9 hc0 hc1 x0 x1 = st2 i x0 x1 k0_pay8 := by
  unfold sout0_A_2 kernelRun0_A
  dsimp only
  refine (View.read_writes_full _ _ _ _ _).trans ?_
  simp only [kernelRun0_A.sl.v225, kernelRun0_A.sl.v232, kernelRun0_A.sl.v437, kernelRun0_A.sl.v444, kernelRun0_A.sl.HS0_1, kernelRun0_A.sl.HS1_1, kernelRun0_A.sl.HS2_1, kernelRun0_A.sl.HS3_1, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, rd2, rdf, rdy, rdc]
  rfl
theorem sA3 (hc0 : cond0_0 i) (hc1 : ¬cond0_1 i) : sout0_A_3 c i arg2 harg2 arg3 harg3 arg4 harg4 arg5 harg5 arg6 harg6 arg7 harg7 arg8 harg8
    arg9 harg9 hc0 hc1 x0 x1 = st3 i x0 x1 k0_pay8 k0_pay9 := by
  unfold sout0_A_3 kernelRun0_A
  dsimp only
  refine (View.read_writes_full _ _ _ _ _).trans ?_
  simp only [kernelRun0_A.sl.v225, kernelRun0_A.sl.v232, kernelRun0_A.sl.v437, kernelRun0_A.sl.v444, kernelRun0_A.sl.HS0_1, kernelRun0_A.sl.HS1_1, kernelRun0_A.sl.HS2_1, kernelRun0_A.sl.HS3_1, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, rd2, rdf, rdy, rdc]
  rfl
theorem sB0 (hc0 : ¬cond0_0 i) (hc1 : ¬cond0_1 i) : sout0_B_0 c i arg2 harg2 arg3 harg3 arg4 harg4 arg5 harg5 arg6 harg6 arg7 harg7 arg8 harg8
    arg9 harg9 hc0 hc1 x0 x1 xs0 xs1 xs2 xs3 = st0 i x0 x1 xs0 := by
  unfold sout0_B_0 kernelRun0_B
  dsimp only
  refine (View.read_writes_full _ _ _ _ _).trans ?_
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, rd2, rdf, rdy, rdc]
  rfl
theorem sB1 (hc0 : ¬cond0_0 i) (hc1 : ¬cond0_1 i) : sout0_B_1 c i arg2 harg2 arg3 harg3 arg4 harg4 arg5 harg5 arg6 harg6 arg7 harg7 arg8 harg8
    arg9 harg9 hc0 hc1 x0 x1 xs0 xs1 xs2 xs3 = st1 i x0 x1 xs0 xs1 := by
  unfold sout0_B_1 kernelRun0_B
  dsimp only
  refine (View.read_writes_full _ _ _ _ _).trans ?_
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, rd2, rdf, rdy, rdc]
  rfl
theorem sB2 (hc0 : ¬cond0_0 i) (hc1 : ¬cond0_1 i) : sout0_B_2 c i arg2 harg2 arg3 harg3 arg4 harg4 arg5 harg5 arg6 harg6 arg7 harg7 arg8 harg8
    arg9 harg9 hc0 hc1 x0 x1 xs0 xs1 xs2 xs3 = st2 i x0 x1 xs2 := by
  unfold sout0_B_2 kernelRun0_B
  dsimp only
  refine (View.read_writes_full _ _ _ _ _).trans ?_
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, rd2, rdf, rdy, rdc]
  rfl
theorem sB3 (hc0 : ¬cond0_0 i) (hc1 : ¬cond0_1 i) : sout0_B_3 c i arg2 harg2 arg3 harg3 arg4 harg4 arg5 harg5 arg6 harg6 arg7 harg7 arg8 harg8
    arg9 harg9 hc0 hc1 x0 x1 xs0 xs1 xs2 xs3 = st3 i x0 x1 xs2 xs3 := by
  unfold sout0_B_3 kernelRun0_B
  dsimp only
  refine (View.read_writes_full _ _ _ _ _).trans ?_
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, rd2, rdf, rdy, rdc]
  rfl
theorem sC0 (hc0 : ¬cond0_0 i) (hc1 : cond0_1 i) : sout0_C_0 c i arg2 harg2 arg3 harg3 arg4 harg4 arg5 harg5 arg6 harg6 arg7 harg7 arg8 harg8
    arg9 harg9 hc0 hc1 x0 x1 xs0 xs1 xs2 xs3 = st0 i x0 x1 xs0 := by
  unfold sout0_C_0 kernelRun0_C
  dsimp only
  refine (View.read_writes_full _ _ _ _ _).trans ?_
  simp only [kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_20, kernelRun0_C.sl.r_21, kernelRun0_C.sl.r_22, rd2, rdf, rdy, rdc]
  rfl
theorem sC1 (hc0 : ¬cond0_0 i) (hc1 : cond0_1 i) : sout0_C_1 c i arg2 harg2 arg3 harg3 arg4 harg4 arg5 harg5 arg6 harg6 arg7 harg7 arg8 harg8
    arg9 harg9 hc0 hc1 x0 x1 xs0 xs1 xs2 xs3 = st1 i x0 x1 xs0 xs1 := by
  unfold sout0_C_1 kernelRun0_C
  dsimp only
  refine (View.read_writes_full _ _ _ _ _).trans ?_
  simp only [kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_20, kernelRun0_C.sl.r_21, kernelRun0_C.sl.r_22, rd2, rdf, rdy, rdc]
  rfl
theorem sC2 (hc0 : ¬cond0_0 i) (hc1 : cond0_1 i) : sout0_C_2 c i arg2 harg2 arg3 harg3 arg4 harg4 arg5 harg5 arg6 harg6 arg7 harg7 arg8 harg8
    arg9 harg9 hc0 hc1 x0 x1 xs0 xs1 xs2 xs3 = st2 i x0 x1 xs2 := by
  unfold sout0_C_2 kernelRun0_C
  dsimp only
  refine (View.read_writes_full _ _ _ _ _).trans ?_
  simp only [kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_20, kernelRun0_C.sl.r_21, kernelRun0_C.sl.r_22, rd2, rdf, rdy, rdc]
  rfl
theorem sC3 (hc0 : ¬cond0_0 i) (hc1 : cond0_1 i) : sout0_C_3 c i arg2 harg2 arg3 harg3 arg4 harg4 arg5 harg5 arg6 harg6 arg7 harg7 arg8 harg8
    arg9 harg9 hc0 hc1 x0 x1 xs0 xs1 xs2 xs3 = st3 i x0 x1 xs2 xs3 := by
  unfold sout0_C_3 kernelRun0_C
  dsimp only
  refine (View.read_writes_full _ _ _ _ _).trans ?_
  simp only [kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_20, kernelRun0_C.sl.r_21, kernelRun0_C.sl.r_22, rd2, rdf, rdy, rdc]
  rfl
theorem oC2 (hc0 : ¬cond0_0 i) (hc1 : cond0_1 i) : out0_C_2 c i arg2 harg2 arg3 harg3 arg4 harg4 arg5 harg5 arg6 harg6 arg7 harg7 arg8 harg8
    arg9 harg9 hc0 hc1 x0 x1 xs0 xs1 xs2 xs3 = k0_pay4 (st1 i x0 x1 xs0 xs1) := by
  unfold out0_C_2 kernelRun0_C
  dsimp only
  refine (View.read_writes_full _ _ _ _ _).trans ?_
  simp only [kernelRun0_C.sl.v452, kernelRun0_C.sl.v455, kernelRun0_C.sl.HS1_1, kernelRun0_C.sl.HS3_1, kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_20, kernelRun0_C.sl.r_21, kernelRun0_C.sl.r_22, rd2, rdf, rdy, rdc]
  rfl
theorem oC3 (hc0 : ¬cond0_0 i) (hc1 : cond0_1 i) : out0_C_3 c i arg2 harg2 arg3 harg3 arg4 harg4 arg5 harg5 arg6 harg6 arg7 harg7 arg8 harg8
    arg9 harg9 hc0 hc1 x0 x1 xs0 xs1 xs2 xs3 = k0_pay5 (st3 i x0 x1 xs2 xs3) := by
  unfold out0_C_3 kernelRun0_C
  dsimp only
  refine (View.read_writes_full _ _ _ _ _).trans ?_
  simp only [kernelRun0_C.sl.v452, kernelRun0_C.sl.v455, kernelRun0_C.sl.HS1_1, kernelRun0_C.sl.HS3_1, kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_20, kernelRun0_C.sl.r_21, kernelRun0_C.sl.r_22, rd2, rdf, rdy, rdc]
  rfl

end Cert.Proof.Draw

end
-- ==== Proof.DrawMath.lean ====
/-
  The arithmetic of the draw over the extended reals: the uniform number a random word makes lies between nought and one, and of two
  samples the one of less score is the one of greater perturbed logit.
-/
module

public import Idealize.ShloMosaic.PureOps.Ideal
public import Idealize.ShloMosaic.PureOps.Ideal.Laws
public import Idealize.ShloMosaic.Lib.IdealHost

@[expose] public section

noncomputable section

namespace Cert.Proof.Draw

open Idealize.ShloMosaic

/-- The number whose bits are a one's exponent over the word's upper bits lies from one up to two. -/
theorem bits_unit (b : BitVec 32) : ∃ m : ℕ, m < 2 ^ 23 ∧
    Ideal.ofBits .f32 (IntOp.ori (IntOp.shrui .host b 9#32) 1065353216#32) = ((1 + m / 2 ^ 23 : ℝ) : EReal) := by
  have hs : IntOp.shrui .host b 9#32 = b >>> 9 := by simp [IntOp.shrui]
  have h1 : (((b >>> 9) ||| 1065353216#32).extractLsb' (8 + 23) 1 == 1#1) = false := by
    have : ((b >>> 9) ||| 1065353216#32).extractLsb' 31 1 = 0#1 := by
      ext i hi
      obtain rfl : i = 0 := by omega
      simp [BitVec.getLsbD_eq_getElem, BitVec.getElem_eq_testBit_toNat]
      exact ⟨Nat.testBit_lt_two_pow (b.isLt.trans (by norm_num)), by decide⟩
    rw [show (8 + 23 : ℕ) = 31 from rfl, this]; rfl
  have h2 : ((b >>> 9) ||| 1065353216#32).extractLsb' 23 8 = 127#8 := by
    have hb : (b.toNat >>> 9) >>> 23 = 0 := by
      rw [← Nat.shiftRight_add, Nat.shiftRight_eq_div_pow]
      exact Nat.div_eq_of_lt (by omega)
    apply BitVec.eq_of_toNat_eq
    simp [BitVec.extractLsb'_toNat, Nat.shiftRight_or_distrib, hb]
  refine ⟨(((b >>> 9) ||| 1065353216#32).extractLsb' 0 23).toNat, BitVec.isLt _, ?_⟩
  unfold IntOp.ori
  rw [hs]
  show Ideal.ieee 8 23 _ = _
  unfold Ideal.ieee
  simp only [h1, h2]
  generalize (BitVec.extractLsb' 0 23 ((b >>> 9) ||| 1065353216#32)).toNat = m
  have h23 : (127#8).toNat = 127 := rfl
  simp only [show (127#8 = BitVec.allOnes 8) = False by decide, show (127#8 = 0#8) = False by decide, if_false, h23]
  refine congrArg Real.toEReal ?_
  norm_num
  ring

/-- The uniform number a word makes. -/
def unif (b : BitVec 32) : EReal :=
  max (Ideal.ofBits .f32 0x00800000#32)
    ((Ideal.ofBits .f32 (IntOp.ori (IntOp.shrui .host b 9#32) 1065353216#32) - Ideal.ofBits .f32 0x3F800000#32) + Ideal.ofBits .f32 0x00800000#32)

theorem tiny_eq : Ideal.ofBits .f32 0x00800000#32 = (((2 : ℝ) ^ (-126 : ℤ) : ℝ) : EReal) := by
  simp [Ideal.ofBits, Ideal.ieee, -EReal.coe_mul]
  norm_num

theorem unif_real (b : BitVec 32) : ∃ r : ℝ, 0 < r ∧ r < 1 ∧ unif b = (r : EReal) := by
  obtain ⟨m, hm, h⟩ := bits_unit b
  have ht : (0 : ℝ) < (2 : ℝ) ^ (-126 : ℤ) := by positivity
  have ht' : (2 : ℝ) ^ (-126 : ℤ) < 1 / 2 ^ 23 := by norm_num
  have hm' : (m : ℝ) + 1 ≤ 2 ^ 23 := by exact_mod_cast hm
  have hq : (m : ℝ) / 2 ^ 23 + 1 / 2 ^ 23 ≤ 1 := by
    rw [← add_div, div_le_one (by positivity)]; exact hm'
  have hq0 : (0 : ℝ) ≤ (m : ℝ) / 2 ^ 23 := by positivity
  refine ⟨max ((2 : ℝ) ^ (-126 : ℤ)) ((m : ℝ) / 2 ^ 23 + (2 : ℝ) ^ (-126 : ℤ)), lt_max_of_lt_left ht, max_lt (ht'.trans (by norm_num)) (by linarith), ?_⟩
  unfold unif
  rw [h, tiny_eq, Ideal.ofBits_one_f32, ← EReal.coe_one, ← EReal.coe_sub, ← EReal.coe_add,
    EReal.coe_strictMono.monotone.map_max]
  congr 2; ring

/-- The exponential sample a word makes is a positive real number. -/
def expo (b : BitVec 32) : EReal := -(Ideal.log (unif b))

theorem expo_real (b : BitVec 32) : ∃ r : ℝ, 0 < r ∧ expo b = (r : EReal) := by
  obtain ⟨r, h0, h1, h⟩ := unif_real b
  refine ⟨-Real.log r, by have := Real.log_neg h0 h1; linarith, ?_⟩
  unfold expo
  rw [h]
  show -(if r ≤ 0 then (⊥ : EReal) else (Real.log r : EReal)) = _
  rw [if_neg (not_le.mpr h0), EReal.coe_neg]

/-- The kernel's score is not negative, and the perturbed logit is its negated logarithm. -/
theorem score_logit (b : BitVec 32) (f : EReal) (h0 : 0 ≤ f) :
    0 ≤ expo b * Ideal.div 1 f ∧ -(Ideal.log (expo b)) + Ideal.log f * 1 = -(Ideal.log (expo b * Ideal.div 1 f)) := by
  obtain ⟨l, hl, h⟩ := expo_real b
  have el : Ideal.log (expo b) = (Real.log l : EReal) := by
    rw [h]
    exact if_neg (not_le.mpr hl)
  rw [el]
  induction f with
  | bot => exact absurd h0 (by simp)
  | top =>
    have e : expo b * Ideal.div 1 ⊤ = ((0 : ℝ) : EReal) := by
      unfold Ideal.div
      rw [if_neg (by simp), EReal.inv_top, mul_zero, mul_zero, EReal.coe_zero]
    rw [e]
    refine ⟨EReal.coe_zero.ge, ?_⟩
    rw [show Ideal.log ((0 : ℝ) : EReal) = ⊥ from if_pos le_rfl, show Ideal.log ⊤ = ⊤ from rfl, mul_one, ← EReal.coe_neg, EReal.coe_add_top, EReal.neg_bot]
  | coe φ =>
    rcases (show (0 : ℝ) ≤ φ by exact_mod_cast h0).eq_or_lt with rfl | hφ
    · have e : expo b * Ideal.div 1 ((0 : ℝ) : EReal) = ⊤ := by
        unfold Ideal.div
        rw [h, if_pos EReal.coe_zero, if_pos zero_lt_one, EReal.coe_mul_top_of_pos hl]
      rw [e, show Ideal.log ((0 : ℝ) : EReal) = ⊥ from if_pos le_rfl, show Ideal.log ⊤ = ⊤ from rfl, mul_one, EReal.add_bot, EReal.neg_top]
      exact ⟨le_top, rfl⟩
    · have e : expo b * Ideal.div 1 (φ : EReal) = ((l * φ⁻¹ : ℝ) : EReal) := by
        unfold Ideal.div
        rw [h, if_neg (EReal.coe_ne_zero.mpr hφ.ne'), one_mul, ← EReal.coe_inv, ← EReal.coe_mul]
      have hp : 0 < l * φ⁻¹ := by positivity
      rw [e, show Ideal.log (φ : EReal) = (Real.log φ : EReal) from if_neg (not_le.mpr hφ),
        show Ideal.log ((l * φ⁻¹ : ℝ) : EReal) = (Real.log (l * φ⁻¹) : EReal) from if_neg (not_le.mpr hp), mul_one, Real.log_mul hl.ne' (by positivity), Real.log_inv,
        ← EReal.coe_neg, ← EReal.coe_neg, ← EReal.coe_add]
      exact ⟨EReal.coe_nonneg.mpr hp.le, by congr 1; ring⟩

theorem log_lt {s t : EReal} (h : 0 ≤ s) (hst : s < t) : Ideal.log s < Ideal.log t := by
  induction s with
  | bot => exact absurd h (by simp)
  | top => exact absurd hst (by simp)
  | coe a =>
    have ha : 0 ≤ a := by exact_mod_cast h
    induction t with
    | bot => exact absurd hst (by simp)
    | top =>
      show (if a ≤ 0 then (⊥ : EReal) else (Real.log a : EReal)) < ⊤
      split
      · exact bot_lt_top
      · exact EReal.coe_lt_top _
    | coe b =>
      have hab : a < b := by exact_mod_cast hst
      have eb : Ideal.log (b : EReal) = (Real.log b : EReal) := if_neg (not_le.mpr (ha.trans_lt hab))
      rw [eb]
      show (if a ≤ 0 then (⊥ : EReal) else (Real.log a : EReal)) < _
      split
      · exact EReal.bot_lt_coe _
      · exact_mod_cast Real.log_lt_log (by linarith) hab

theorem log_le {s t : EReal} (h : 0 ≤ s) (hst : s ≤ t) : Ideal.log s ≤ Ideal.log t := by
  rcases hst.eq_or_lt with rfl | h'
  · exact le_rfl
  · exact (log_lt h h').le

/-- What the running minimum `v` and its position `p` are after the first `n` scores: the least of them and its first place, or, where all
    so far are masked, infinity and nought. -/
def Inv (s : ℕ → EReal) (n : ℕ) (v : EReal) (p : BitVec 32) : Prop :=
  (∀ k < n, v ≤ s k) ∧ ((v = ⊤ ∧ p = 0#32) ∨ ∃ k0 < n, p = BitVec.ofNat 32 k0 ∧ s k0 = v ∧ ∀ k < k0, v < s k)

theorem Inv.zero (s : ℕ → EReal) : Inv s 0 ⊤ 0#32 := ⟨fun k h => absurd h (by omega), .inl ⟨rfl, rfl⟩⟩

theorem Inv.step {s : ℕ → EReal} {n d : ℕ} {v : EReal} {p : BitVec 32} (h : Inv s n v p) (m : EReal) (q : BitVec 32) (k0 : ℕ) (hk : k0 < d)
    (hm : s (n + k0) = m) (hle : ∀ k < d, m ≤ s (n + k)) (hlt : ∀ k < k0, m < s (n + k)) (hq : q = BitVec.ofNat 32 (n + k0)) :
    Inv s (n + d) (if m < v then m else v) (if m < v then q else p) := by
  have split : ∀ k, k < n ∨ ∃ e, k = n + e := fun k => by
    rcases Nat.lt_or_ge k n with h | h
    · exact .inl h
    · exact .inr ⟨k - n, by omega⟩
  by_cases c : m < v
  · rw [if_pos c, if_pos c]
    refine ⟨fun k hkn => ?_, .inr ⟨n + k0, by omega, hq, hm, fun k hk0 => ?_⟩⟩
    · rcases split k with h' | ⟨e, rfl⟩
      · exact c.le.trans (h.1 k h')
      · exact hle e (by omega)
    · rcases split k with h' | ⟨e, rfl⟩
      · exact c.trans_le (h.1 k h')
      · exact hlt e (by omega)
  · rw [if_neg c, if_neg c]
    refine ⟨fun k hkn => ?_, h.2.imp_right fun ⟨j, hj, r⟩ => ⟨j, by omega, r⟩⟩
    rcases split k with h' | ⟨e, rfl⟩
    · exact h.1 k h'
    · exact (not_lt.mp c).trans (hle e (by omega))

/-- A fold of a choice between two is below each of its values in any order the choice respects, and is its start or one of its values. -/
theorem fold_choice {ι α : Type} (op : α → α → α) [Std.Commutative op] [Std.Associative op] (le : α → α → Prop)
    (htr : ∀ u v w, le u v → le v w → le u w) (hl : ∀ u w, le (op u w) u) (hc : ∀ u w, op u w = u ∨ op u w = w) (x : ι → α) (a : α) (s : Finset ι) :
    (∀ r ∈ s, le (s.fold op a x) (x r)) ∧ (s.fold op a x = a ∨ ∃ r ∈ s, s.fold op a x = x r) := by
  classical
  have hr : ∀ u w, le (op u w) w := fun u w => by rw [Std.Commutative.comm (op := op) u w]; exact hl w u
  induction s using Finset.induction_on with
  | empty => simp
  | insert b s hb ih =>
    rw [Finset.fold_insert hb]
    refine ⟨fun r h => ?_, ?_⟩
    · rcases Finset.mem_insert.mp h with rfl | h
      · exact hl _ _
      · exact htr _ _ _ (hr _ _) (ih.1 r h)
    · rcases hc (x b) (s.fold op a x) with e | e
      · exact .inr ⟨b, Finset.mem_insert_self _ _, e⟩
      · rcases ih.2 with e' | ⟨r, h, e'⟩
        · exact .inl (e.trans e')
        · exact .inr ⟨r, Finset.mem_insert_of_mem h, e.trans e'⟩

/-- The signed minimum of two words is at most each, and is one of them. -/
theorem mini_le (u w : BitVec 32) : (IntOp.minsi u w).toInt ≤ u.toInt := by
  unfold IntOp.minsi
  split_ifs with h
  · rfl
  · simp only [BitVec.slt_iff_toInt_lt] at h
    omega
theorem mini_or (u w : BitVec 32) : IntOp.minsi u w = u ∨ IntOp.minsi u w = w := by
  unfold IntOp.minsi
  split_ifs with h <;> simp

theorem ofNat_toInt {n : ℕ} (h : n < 2 ^ 31) : (BitVec.ofNat 32 n).toInt = n := by
  rw [BitVec.toInt_eq_toNat_of_lt (by simp; omega), BitVec.toNat_ofNat]; omega

theorem neg_inf : Ideal.ofBits .f32 0xFF800000#32 = (⊥ : EReal) := by
  simp [Ideal.ofBits, Ideal.ieee]

end Cert.Proof.Draw

end
-- ==== Proof.DrawChunk.lean ====
/-
  One chunk of the sampler over the extended reals: the least of its scores and the first place of it, and the step of the running
  minimum they make.
-/
module

public import proofs.«01_k».proof.Proof.DrawStep
public import proofs.«01_k».proof.Proof.DrawMath

@[expose] public section

noncomputable section

namespace Cert.Proof.Draw

open Cert.SamplerIdeal Cert.SamplerIdeal.Gen
open Idealize.ShloMosaic Idealize.SL.Sem

/-- The least score of each lane of a chunk, and the first place of it. -/
def lst (x : FVec Ideal S128x128 .f32) : FVec Ideal S1x128 .f32 :=
  shapeCast S1x128 (multiReduction .minimumf [0] S128 x 0x7F800000#32 reduces_S128x128_S128 (.inl rfl) rfl) shapeCasts_S128_S1x128
def plc (k : IVec S128x128 32) (x : FVec Ideal S128x128 .f32) (m : FVec Ideal S1x128 .f32) : IVec S1x128 32 :=
  shapeCast S1x128 (multiReductionI .minsi [0] S128 (select (cmpf .oeq x (broadcastTo S128x128 m broadcasts_S1x128_S128x128)) k
    (broadcast S128x128 1073741824#32)) 2147483647#32 reduces_S128x128_S128 rfl) shapeCasts_S128_S1x128

theorem top_eq : Ideal.ofBits .f32 0x7F800000#32 = ⊤ := by
  simp [Ideal.ofBits, Ideal.ieee]

theorem lst_at (x : FVec Ideal S128x128 .f32) (l : Fin 128) :
    lst x (ix2 0 l) = (Finset.univ : Finset (Fin 128)).fold min ⊤ (fun r => x (ix2 r l)) := by
  unfold lst
  simp only [pointwise]
  rw [top_eq]

theorem plc_at (k : IVec S128x128 32) (x : FVec Ideal S128x128 .f32) (m : FVec Ideal S1x128 .f32) (l : Fin 128) :
    plc k x m (ix2 0 l) = (Finset.univ : Finset (Fin 128)).fold IntOp.minsi 2147483647#32
      (fun r => if x (ix2 r l) = m (ix2 0 l) then k (ix2 r l) else 1073741824#32) := by
  unfold plc
  simp only [pointwise]
  rfl

/-- The place is the first of the lane's least score. -/
theorem chunk (k : IVec S128x128 32) (x : FVec Ideal S128x128 .f32) (l : Fin 128) (n : ℕ) (hn : n < 2 ^ 20)
    (hk : ∀ r, k (ix2 r l) = BitVec.ofNat 32 (n + r.val)) :
    ∃ r0 : Fin 128, lst x (ix2 0 l) = x (ix2 r0 l) ∧ (∀ r, x (ix2 r0 l) ≤ x (ix2 r l)) ∧ (∀ r, r < r0 → x (ix2 r0 l) < x (ix2 r l))
      ∧ plc k x (lst x) (ix2 0 l) = BitVec.ofNat 32 (n + r0.val) := by
  obtain ⟨hle, hm⟩ := fold_choice (min : EReal → EReal → EReal) (· ≤ ·) (fun _ _ _ => le_trans) min_le_left min_choice (fun r : Fin 128 => x (ix2 r l)) ⊤ Finset.univ
  rw [← lst_at] at hle hm
  have hmem : ∃ r, lst x (ix2 0 l) = x (ix2 r l) := by
    rcases hm with h | ⟨r, -, h⟩
    · exact ⟨0, h.trans (top_le_iff.mp (h ▸ hle 0 (Finset.mem_univ _))).symm⟩
    · exact ⟨r, h⟩
  obtain ⟨ple, pm⟩ := fold_choice IntOp.minsi (fun u w : BitVec 32 => u.toInt ≤ w.toInt) (fun _ _ _ => le_trans) mini_le mini_or
    (fun r : Fin 128 => if x (ix2 r l) = lst x (ix2 0 l) then k (ix2 r l) else 1073741824#32) 2147483647#32 Finset.univ
  rw [← plc_at] at ple pm
  obtain ⟨r1, h1⟩ := hmem
  have b1 := ple r1 (Finset.mem_univ _)
  have hb : (1073741824#32).toInt = 1073741824 := by decide
  have hb' : (2147483647#32).toInt = 2147483647 := by decide
  simp only [h1, if_true, hk, ofNat_toInt (show n + r1.val < 2 ^ 31 by omega)] at b1
  rcases pm with e | ⟨r0, -, e⟩
  · rw [e, hb'] at b1; omega
  · by_cases c : x (ix2 r0 l) = lst x (ix2 0 l)
    · rw [if_pos c] at e
      refine ⟨r0, c.symm, fun r => c ▸ hle r (Finset.mem_univ _), fun r hr => ?_, e.trans (hk r0)⟩
      refine lt_of_le_of_ne (c ▸ hle r (Finset.mem_univ _)) fun h => ?_
      have b2 := ple r (Finset.mem_univ _)
      rw [if_pos (h.symm.trans c), e, hk, hk, ofNat_toInt (by omega), ofNat_toInt (by omega)] at b2
      have : r.val < r0.val := hr
      omega
    · rw [if_neg c] at e
      rw [e, hb] at b1; omega

/-- The word drawn at a counter. -/
def drawn (q : Fin 2) (n : ℕ) : BitVec 32 :=
  IntOp.xori (p20 (key0 q) (key1 q) (BitVec.ofNat 32 n)).1 (p20 (key0 q) (key1 q) (BitVec.ofNat 32 n)).2

/-- The score of label `k` in row `row`, of draw `q`, under the frequencies `f` and the row's own label `y`. -/
def score (q : Fin 2) (f : ℕ → EReal) (y : BitVec 32) (row k : ℕ) : EReal :=
  if k < 10000 ∧ BitVec.ofNat 32 k ≠ y then expo (drawn q (10000 * row + k)) * Ideal.div 1 (f k) else ⊤

theorem pay10_at (i : grid0.Coords) (r l : Fin 128) : k0_pay10 i (ix2 r l) = BitVec.ofNat 32 (128 * (i 1).val + r.val) := by
  have h : k0_pay10 i (ix2 r l) = BitVec.ofNat 32 r.val + BitVec.ofNat 32 (i 1).val * 128#32 := by
    unfold k0_pay10
    simp only [pointwise]
    simp [List.foldl, IntOp.addi, Scalar.muli, IntOp.muli, ix2]
  rw [h]
  apply BitVec.eq_of_toNat_eq
  simp
  omega

theorem pay11_at (i : grid0.Coords) (r l : Fin 128) :
    k0_pay11 i (ix2 r l) = BitVec.ofNat 32 (10000 * (128 * (i 0).val + l.val) + (128 * (i 1).val + r.val)) := by
  have h : k0_pay11 i (ix2 r l) = (BitVec.ofNat 32 (i 0).val * 128#32 + BitVec.ofNat 32 l.val) * 10000#32 + k0_pay10 i (ix2 r l) := by
    unfold k0_pay11
    simp only [pointwise]
    simp [List.foldl, IntOp.addi, Scalar.muli, IntOp.muli, ix2]
  rw [h, pay10_at]
  apply BitVec.eq_of_toNat_eq
  simp
  omega

theorem lane_at (ok : BitVec 1) (w : EReal) (b : BitVec 32) : lane (F := Ideal) ok w b = if ok = 1#1 then expo b * w else ⊤ := by
  have hs : IntOp.shrui .vector b 9#32 = IntOp.shrui .host b 9#32 := by simp [IntOp.shrui]
  unfold lane Scalar.select expo unif
  simp only [Ideal.mulf_def, Ideal.subf_def, Ideal.addf_def, Ideal.log_def, Ideal.maximumf_def, Ideal.ofBits_def, top_eq, Ideal.ofBits_zero_f32, zero_sub, hs]
  rfl

theorem ok_iff {n : ℕ} (h : n < 2 ^ 20) (y : BitVec 32) :
    IntOp.andi (IntOp.cmpi .slt (BitVec.ofNat 32 n) 10000#32) (IntOp.cmpi .ne (BitVec.ofNat 32 n) y) = 1#1 ↔ n < 10000 ∧ BitVec.ofNat 32 n ≠ y := by
  have e : ((n : ℤ) < 10000) ↔ n < 10000 := by omega
  unfold IntOp.cmpi IntOp.andi
  simp only [BitVec.slt_eq_decide, ofNat_toInt (h.trans (by norm_num)), show (10000#32).toInt = 10000 by decide, e]
  by_cases c : n < 10000 <;> by_cases d : BitVec.ofNat 32 n = y <;> simp [c, d]
  rw [(bne_iff_ne.mpr d : (BitVec.ofNat 32 n != y) = true)]
  rfl

theorem pay13_at (i : grid0.Coords) (x1 : Vec Ideal S1x1x128 .i32) (r l : Fin 128) (h : 128 * (i 1).val + r.val < 2 ^ 20) :
    k0_pay13 (F := Ideal) i x1 (ix2 r l) = 1#1 ↔ 128 * (i 1).val + r.val < 10000 ∧ BitVec.ofNat 32 (128 * (i 1).val + r.val) ≠ x1 (ix3 0 0 l) := by
  have e : k0_pay13 (F := Ideal) i x1 (ix2 r l) = IntOp.andi (IntOp.cmpi .slt (k0_pay10 i (ix2 r l)) 10000#32) (IntOp.cmpi .ne (k0_pay10 i (ix2 r l)) (x1 (ix3 0 0 l))) := by
    unfold k0_pay13
    simp only [pointwise]
    rfl
  rw [e, pay10_at]
  exact ok_iff h _

theorem pay12_at (x0 : Vec Ideal S1x128x1 .f32) (r l : Fin 128) :
    broadcastTo S128x128 (k0_pay12 (F := Ideal) x0) broadcasts_S128x1_S128x128 (ix2 r l) = Ideal.div 1 (x0 (ix3 0 r 0)) := by
  unfold k0_pay12
  simp only [pointwise]
  rfl

/-- A chunk's score at an entry, from its lane. -/
theorem lane_score (q : Fin 2) (i : grid0.Coords) (x0 : Vec Ideal S1x128x1 .f32) (x1 : Vec Ideal S1x1x128 .i32) (f : ℕ → EReal)
    (hf : ∀ r : Fin 128, 128 * (i 1).val + r.val < 10000 → x0 (ix3 0 r 0) = f (128 * (i 1).val + r.val)) (hi : (i 1).val < 79) (r l : Fin 128) :
    lane (F := Ideal) (k0_pay13 (F := Ideal) i x1 (ix2 r l)) (broadcastTo S128x128 (k0_pay12 (F := Ideal) x0) broadcasts_S128x1_S128x128 (ix2 r l))
        (IntOp.xori (p20 (key0 q) (key1 q) (k0_pay11 i (ix2 r l))).1 (p20 (key0 q) (key1 q) (k0_pay11 i (ix2 r l))).2)
      = score q f (x1 (ix3 0 0 l)) (128 * (i 0).val + l.val) (128 * (i 1).val + r.val) := by
  rw [lane_at, pay12_at, pay11_at]
  unfold score
  by_cases c : k0_pay13 (F := Ideal) i x1 (ix2 r l) = 1#1
  · have c' := (pay13_at i x1 r l (by omega)).mp c
    rw [if_pos c, if_pos c', hf r c'.1]
    rfl
  · rw [if_neg c, if_neg fun h => c ((pay13_at i x1 r l (by omega)).mpr h)]

/-- One chunk's step of a running minimum and its place. -/
theorem step_at (x : FVec Ideal S128x128 .f32) (s : ℕ → EReal) (i : grid0.Coords) (hi : (i 1).val < 79) (l : Fin 128)
    (hx : ∀ r : Fin 128, x (ix2 r l) = s (128 * (i 1).val + r.val)) (v : FVec Ideal S1x128 .f32) (p : IVec S1x128 32)
    (h : Inv s (128 * (i 1).val) (v (ix2 0 l)) (p (ix2 0 l))) :
    Inv s (128 * (i 1).val + 128) (k0_pay2 (lst x) v v (ix2 0 l)) (k0_pay3 (lst x) (plc (k0_pay10 i) x (lst x)) v p (ix2 0 l)) := by
  obtain ⟨r0, h1, h2, h3, h4⟩ := chunk (k0_pay10 i) x l (128 * (i 1).val) (by omega) (pay10_at i · l)
  have c : (k0_pay1 (F := Ideal) (lst x) v (ix2 0 l) = 1#1) = (lst x (ix2 0 l) < v (ix2 0 l)) := by
    unfold k0_pay1
    simp only [pointwise]
    by_cases d : lst x (ix2 0 l) < v (ix2 0 l) <;> simp [d]
  have e2 : k0_pay2 (lst x) v v (ix2 0 l) = if lst x (ix2 0 l) < v (ix2 0 l) then lst x (ix2 0 l) else v (ix2 0 l) := by
    simp only [← c]
    unfold k0_pay2
    simp only [pointwise]
    rfl
  have e3 : k0_pay3 (lst x) (plc (k0_pay10 i) x (lst x)) v p (ix2 0 l)
      = if lst x (ix2 0 l) < v (ix2 0 l) then plc (k0_pay10 i) x (lst x) (ix2 0 l) else p (ix2 0 l) := by
    simp only [← c]
    unfold k0_pay3
    simp only [pointwise]
    rfl
  rw [e2, e3]
  refine h.step _ _ r0.val r0.isLt ((hx r0).symm.trans h1.symm) (fun k hk => ?_) (fun k hk => ?_) h4
  · rw [h1, ← hx ⟨k, hk⟩]; exact h2 _
  · rw [h1, ← hx ⟨k, hk.trans r0.isLt⟩]; exact h3 _ hk

/-- The step of the first draw and of the second. -/
theorem step1 (i : grid0.Coords) (x0 : Vec Ideal S1x128x1 .f32) (x1 : Vec Ideal S1x1x128 .i32) (f : ℕ → EReal)
    (hf : ∀ r : Fin 128, 128 * (i 1).val + r.val < 10000 → x0 (ix3 0 r 0) = f (128 * (i 1).val + r.val)) (hi : (i 1).val < 79) (l : Fin 128)
    (v : FVec Ideal S1x128 .f32) (p : IVec S1x128 32)
    (h : Inv (score 0 f (x1 (ix3 0 0 l)) (128 * (i 0).val + l.val)) (128 * (i 1).val) (v (ix2 0 l)) (p (ix2 0 l))) :
    Inv (score 0 f (x1 (ix3 0 0 l)) (128 * (i 0).val + l.val)) (128 * (i 1).val + 128) (st0 (F := Ideal) i x0 x1 v (ix2 0 l)) (st1 (F := Ideal) i x0 x1 v p (ix2 0 l)) :=
  step_at (sc1 (F := Ideal) i x0 x1) _ i hi l (fun r => (y55 i _ _ _).trans (lane_score 0 i x0 x1 f hf hi r l)) v p h
theorem step2 (i : grid0.Coords) (x0 : Vec Ideal S1x128x1 .f32) (x1 : Vec Ideal S1x1x128 .i32) (f : ℕ → EReal)
    (hf : ∀ r : Fin 128, 128 * (i 1).val + r.val < 10000 → x0 (ix3 0 r 0) = f (128 * (i 1).val + r.val)) (hi : (i 1).val < 79) (l : Fin 128)
    (v : FVec Ideal S1x128 .f32) (p : IVec S1x128 32)
    (h : Inv (score 1 f (x1 (ix3 0 0 l)) (128 * (i 0).val + l.val)) (128 * (i 1).val) (v (ix2 0 l)) (p (ix2 0 l))) :
    Inv (score 1 f (x1 (ix3 0 0 l)) (128 * (i 0).val + l.val)) (128 * (i 1).val + 128) (st2 (F := Ideal) i x0 x1 v (ix2 0 l)) (st3 (F := Ideal) i x0 x1 v p (ix2 0 l)) :=
  step_at (k0_pay103 (F := Ideal) (k0_pay12 x0) (k0_pay13 i x1) (w389 i) (w390 i) (w392 i) 6#32) _ i hi l
    (fun r => (y103 i _ _ _).trans (lane_score 1 i x0 x1 f hf hi r l)) v p h

/-- The running minimum and its place before the first chunk. -/
theorem start_at (l : Fin 128) : k0_pay6 (F := Ideal) (ix2 0 l) = ⊤ ∧ k0_pay7 (ix2 0 l) = 0#32
    ∧ k0_pay8 (F := Ideal) (ix2 0 l) = ⊤ ∧ k0_pay9 (ix2 0 l) = 0#32 := by
  unfold k0_pay6 k0_pay7 k0_pay8 k0_pay9
  simp only [pointwise]
  exact ⟨top_eq, trivial, top_eq, trivial⟩

end Cert.Proof.Draw

end
-- ==== Proof.DrawGrid.lean ====
/-
  The sampler over its whole grid: what it carries after each point, and the two arrays it leaves.
-/
module

public import proofs.«01_k».proof.Proof.DrawChunk
public import Idealize.ShloMosaic.Lib.Pipeline.ValueKit
public import Idealize.ShloMosaic.Lib.StableHlo.RunRead

@[expose] public section

noncomputable section

namespace Cert.Proof.Draw

open Cert.SamplerIdeal Cert.SamplerIdeal.Gen
open Idealize.ShloMosaic Idealize.SL.Sem
open Idealize.ShloMosaic.TcCoe

variable (m : (ℓ : Loc nD τ sig) → Buf (Elt Ideal) ℓ) (c : Dev nD)

/-- The frequency of a label and the label of a row, of the arrays given. -/
def fq (k : ℕ) : EReal := if h : k < 10000 then (m ((c.tc : Thread nD τ).loc main_arg0) : Vec Ideal S10000 .f32) (ix1 ⟨k, h⟩) else 0
def yl (n : ℕ) : BitVec 32 := if h : n < 4096 then (m ((c.tc : Thread nD τ).loc main_arg1) : Vec Ideal S4096 .i32) (ix1 ⟨n, h⟩) else 0#32

theorem co : ∀ t : Fin cfg0.N, (grid0.coords t 0).val = t.val / 79 ∧ (grid0.coords t 1).val = t.val % 79 := (by decide +kernel : ∀ t : Fin grid0.N, _)
theorem g0 : ∀ t : Fin cfg0.N, win0_0.index t = ![(grid0.coords t 1).val, 0, 0] := (by decide +kernel : ∀ t : Fin grid0.N, _)
theorem g1 : ∀ t : Fin cfg0.N, win0_1.index t = ![(grid0.coords t 0).val, 0, 0] := (by decide +kernel : ∀ t : Fin grid0.N, _)
theorem g2 : ∀ t : Fin cfg0.N, win0_2.index t = ![(grid0.coords t 0).val, 0, 0] := (by decide +kernel : ∀ t : Fin grid0.N, _)
theorem g3 : ∀ t : Fin cfg0.N, win0_3.index t = ![(grid0.coords t 0).val, 0, 0] := (by decide +kernel : ∀ t : Fin grid0.N, _)

theorem v2_eq : (V m c main_v2 : Vec Ideal S79x128x1 .f32) = shapeCast S79x128x1 (concatenate (α := Ideal .f32) S10112 0
    [⟨S10000, (m ((c.tc : Thread nD τ).loc main_arg0) : FVec Ideal S10000 .f32)⟩, ⟨S112, broadcastInDim S112 ![] bcast_S_S112 (constant S_ .f32 0x3F800000#32 : FVec Ideal S_ .f32)⟩]
      concatenates_S10000_S112_S10112_d0) shapeCasts_S10112_S79x128x1 := by
  show StableHlo.after (List.flatten [hostOps0]) _ (Proc.devRef .tc main_v2) = _
  after_reads_simp
  rfl
theorem v3_eq : (V m c main_v3 : Vec Ideal S32x1x128 .i32) = shapeCast S32x1x128 (m ((c.tc : Thread nD τ).loc main_arg1) : Vec Ideal S4096 .i32) shapeCasts_S4096_S32x1x128 := by
  show StableHlo.after (List.flatten [hostOps0]) _ (Proc.devRef .tc main_v3) = _
  after_reads_simp
  rfl

theorem v2_at (a : Fin 79) (r : Fin 128) (h : 128 * a.val + r.val < 10000) : (V m c main_v2 : Vec Ideal S79x128x1 .f32) (ix3 a r 0) = fq m c (128 * a.val + r.val) := by
  rw [v2_eq, fq, dif_pos h]
  simp only [pointwise]
  rw [dif_pos (by omega)]
  exact congrArg (fun k => (m ((c.tc : Thread nD τ).loc main_arg0) : Vec Ideal S10000 .f32) (ix1 k)) (Fin.ext (by dsimp only; omega))
theorem v3_at (b : Fin 32) (l : Fin 128) : (V m c main_v3 : Vec Ideal S32x1x128 .i32) (ix3 b 0 l) = yl m c (128 * b.val + l.val) := by
  rw [v3_eq, yl, dif_pos (by omega)]
  simp only [pointwise]
  exact congrArg (fun k => (m ((c.tc : Thread nD τ).loc main_arg1) : Vec Ideal S4096 .i32) (ix1 k)) (Fin.ext (by dsimp only; omega))

theorem blk0 (t : Fin cfg0.N) (r : Fin 128) (h : 128 * (grid0.coords t 1).val + r.val < 10000) :
    (iblk m c 0 t : Vec Ideal S1x128x1 .f32) (ix3 0 r 0) = fq m c (128 * (grid0.coords t 1).val + r.val) := by
  refine Eq.trans ?_ (v2_at m c ⟨(grid0.coords t 1).val, by have := (co t).2; omega⟩ r h)
  show _ = (V m c main_v2 : Vec Ideal S79x128x1 .f32) _
  blk_ext [iblk, g0]
theorem blk1 (t : Fin cfg0.N) (l : Fin 128) :
    (iblk m c 1 t : Vec Ideal S1x1x128 .i32) (ix3 0 0 l) = yl m c (128 * (grid0.coords t 0).val + l.val) := by
  refine Eq.trans ?_ (v3_at m c ⟨(grid0.coords t 0).val, by have := (co t).1; have : t.val < 2528 := t.isLt; omega⟩ l)
  show _ = (V m c main_v3 : Vec Ideal S32x1x128 .i32) _
  blk_ext [iblk, g1]

/-- The scores of draw `q` in row `n`. -/
def sc (q : Fin 2) (n : ℕ) : ℕ → EReal := score q (fq m c) (yl m c n) n

/-- What a point leaves: both draws' running minima and their places, over the labels met so far. -/
def Good (a b : ℕ) (v0 : FVec Ideal S1x128 .f32) (p0 : IVec S1x128 32) (v1 : FVec Ideal S1x128 .f32) (p1 : IVec S1x128 32) : Prop :=
  ∀ l : Fin 128, Inv (sc m c 0 (128 * b + l.val)) (128 * a) (v0 (ix2 0 l)) (p0 (ix2 0 l)) ∧ Inv (sc m c 1 (128 * b + l.val)) (128 * a) (v1 (ix2 0 l)) (p1 (ix2 0 l))

theorem good_step (t : Fin cfg0.N) {v0 p0 v1 p1} (h : Good m c (grid0.coords t 1).val (grid0.coords t 0).val v0 p0 v1 p1) :
    Good m c ((grid0.coords t 1).val + 1) (grid0.coords t 0).val (st0 (F := Ideal) (grid0.coords t) (iblk m c 0 t) (iblk m c 1 t) v0)
      (st1 (F := Ideal) (grid0.coords t) (iblk m c 0 t) (iblk m c 1 t) v0 p0) (st2 (F := Ideal) (grid0.coords t) (iblk m c 0 t) (iblk m c 1 t) v1)
      (st3 (F := Ideal) (grid0.coords t) (iblk m c 0 t) (iblk m c 1 t) v1 p1) := by
  intro l
  have hi : (grid0.coords t 1).val < 79 := by have := (co t).2; omega
  have e := blk1 m c t l
  have h' := h l
  unfold sc at h' ⊢
  rw [← e] at h' ⊢
  rw [Nat.mul_add]
  exact ⟨step1 (grid0.coords t) (iblk m c 0 t) (iblk m c 1 t) (fq m c) (blk0 m c t) hi l v0 p0 h'.1,
    step2 (grid0.coords t) (iblk m c 0 t) (iblk m c 1 t) (fq m c) (blk0 m c t) hi l v1 p1 h'.2⟩

theorem good_start (b : ℕ) : Good m c 0 b (k0_pay6 (F := Ideal)) k0_pay7 (k0_pay8 (F := Ideal)) k0_pay9 := by
  intro l
  obtain ⟨h1, h2, h3, h4⟩ := start_at l
  rw [h1, h2, h3, h4]
  exact ⟨Inv.zero _, Inv.zero _⟩

theorem good : ∀ (n : ℕ) (hn : n < cfg0.N), Good m c ((grid0.coords ⟨n, hn⟩ 1).val + 1) (grid0.coords ⟨n, hn⟩ 0).val (outsAt0 m c n hn).2.2.1
    (outsAt0 m c n hn).2.2.2.1 (outsAt0 m c n hn).2.2.2.2.1 (outsAt0 m c n hn).2.2.2.2.2 := by
  intro n
  induction n with
  | zero =>
    intro hn
    have e := outsAt0_A m c ⟨0, hn⟩ (Nat.zero_mod 79) (by simp)
    rw [show outsAt0 m c 0 hn = _ from e]
    dsimp only
    rw [sA0, sA1, sA2, sA3]
    exact good_step m c ⟨0, hn⟩ (by rw [show (grid0.coords ⟨0, hn⟩ 1).val = 0 from (co ⟨0, hn⟩).2]; exact good_start m c _)
  | succ n ih =>
    intro hn
    have h := ih (by omega)
    have c1 := co ⟨n + 1, hn⟩
    have c0 := co ⟨n, by omega⟩
    dsimp only at c0 c1
    by_cases h0 : (n + 1) % 79 = 0
    · have e := outsAt0_A m c ⟨n + 1, hn⟩ h0 (by dsimp only; omega)
      rw [show outsAt0 m c (n + 1) hn = _ from e]
      dsimp only
      rw [sA0, sA1, sA2, sA3]
      exact good_step m c ⟨n + 1, hn⟩ (by rw [c1.2, h0]; exact good_start m c _)
    · have ea : (grid0.coords ⟨n + 1, hn⟩ 1).val = (grid0.coords ⟨n, Nat.lt_of_succ_lt hn⟩ 1).val + 1 :=
        c1.2.trans ((show (n + 1) % 79 = n % 79 + 1 by omega).trans (congrArg (· + 1) c0.2.symm))
      have eb : (grid0.coords ⟨n + 1, hn⟩ 0).val = (grid0.coords ⟨n, Nat.lt_of_succ_lt hn⟩ 0).val :=
        c1.1.trans ((show (n + 1) / 79 = n / 79 by omega).trans c0.1.symm)
      rw [← ea, ← eb] at h
      by_cases h1 : (n + 1) % 79 = 78
      · have e := outsAt0_C m c ⟨n + 1, hn⟩ h0 h1
        rw [show outsAt0 m c (n + 1) hn = _ from e]
        dsimp only
        rw [sC0, sC1, sC2, sC3]
        exact good_step m c ⟨n + 1, hn⟩ h
      · have e := outsAt0_B m c ⟨n + 1, hn⟩ h0 h1
        rw [show outsAt0 m c (n + 1) hn = _ from e]
        dsimp only
        rw [sB0, sB1, sB2, sB3]
        exact good_step m c ⟨n + 1, hn⟩ h

/-- What is written at a block's last point: the places. -/
theorem out_at (t : Fin cfg0.N) (h1 : t.val % 79 = 78) :
    (outsAt0 m c t.val t.isLt).1 = k0_pay4 (F := Ideal) (outsAt0 m c t.val t.isLt).2.2.2.1 ∧ (outsAt0 m c t.val t.isLt).2.1 = k0_pay5 (F := Ideal) (outsAt0 m c t.val t.isLt).2.2.2.2.2 := by
  have e := outsAt0_C m c t (by omega) h1
  rw [e]
  dsimp only
  rw [oC2, oC3, sC1, sC3]
  exact ⟨rfl, rfl⟩

/-- The two arrays of places: each row's is the last the running place was. -/
def pls (q : Fin 2) : IVec S32x1x128 32 := fun i =>
  if h : (i 0).val * 79 + 78 < cfg0.N then
    (if q = 0 then (outsAt0 m c _ h).2.2.2.1 (ix2 0 (i 2)) else (outsAt0 m c _ h).2.2.2.2.2 (ix2 0 (i 2)))
  else 0#32

theorem pls_at (q : Fin 2) (t : Fin cfg0.N) (h1 : t.val % 79 = 78) (i : S32x1x128.Idx) (l : Fin 128) (h0 : (i 0).val = t.val / 79) (h2 : (i 2).val = l.val) :
    pls m c q i = if q = 0 then (outsAt0 m c t.val t.isLt).2.2.2.1 (ix2 0 l) else (outsAt0 m c t.val t.isLt).2.2.2.2.2 (ix2 0 l) := by
  have e : (i 0).val * 79 + 78 = t.val := by rw [h0]; omega
  have e2 : i 2 = l := Fin.ext h2
  obtain ⟨n, hn⟩ := t
  dsimp only at e
  subst e
  unfold pls
  rw [dif_pos hn, e2]

theorem pay4_at (v : IVec S1x128 32) (y : S1x1x128.Idx) : k0_pay4 (F := Ideal) v y = v (ix2 0 (y 2)) ∧ k0_pay5 (F := Ideal) v y = v (ix2 0 (y 2)) := by
  unfold k0_pay4 k0_pay5
  constructor
  · simp only [pointwise]
  · simp only [pointwise]

theorem arr2 : (dats m 0 c).arrAt 2 cfg0.N = pls m c 0 := by
  refine (dats m 0 c).arrAt_eq_of_covers 2 _ (by decide +kernel) fun t hf y => ?_
  have ht := (flush0_2 t).mp hf
  rw [after0_2, (out_at m c t ht).1]
  refine (pay4_at _ (y : S1x1x128.Idx)).1.trans ((pls_at m c 0 t ht _ (y 2) ?_ ?_).trans (if_pos rfl)).symm
  · blk_simp [g2]
    exact (co t).1
  · blk_simp [g2]
theorem arr3 : (dats m 0 c).arrAt 3 cfg0.N = pls m c 1 := by
  refine (dats m 0 c).arrAt_eq_of_covers 3 _ (by decide +kernel) fun t hf y => ?_
  have ht := (flush0_3 t).mp hf
  rw [after0_3, (out_at m c t ht).2]
  refine (pay4_at _ (y : S1x1x128.Idx)).2.trans ((pls_at m c 1 t ht _ (y 2) ?_ ?_).trans (if_neg (by decide))).symm
  · blk_simp [g3]
    exact (co t).1
  · blk_simp [g3]

end Cert.Proof.Draw

end
-- ==== Proof.DrawOut.lean ====
/-
  The sampler's two results: each row's is the place that the running minimum of all its scores came to.
-/
module

public import proofs.«01_k».proof.Proof.DrawGrid

@[expose] public section

noncomputable section

namespace Cert.Proof.Draw

open Cert.SamplerIdeal Cert.SamplerIdeal.Gen
open Idealize.ShloMosaic Idealize.SL.Sem
open Idealize.ShloMosaic.TcCoe

variable (m : (ℓ : Loc nD τ sig) → Buf (Elt Ideal) ℓ) (c : Dev nD)

theorem pls_inv (q : Fin 2) (n : Fin 4096) : ∃ v, Inv (sc m c q n.val) 10112 v (pls m c q (ix3 ⟨n.val / 128, by omega⟩ 0 ⟨n.val % 128, by omega⟩)) := by
  have hN : cfg0.N = 2528 := N_0
  let t : Fin cfg0.N := ⟨n.val / 128 * 79 + 78, by omega⟩
  have ht : t.val % 79 = 78 := by show (n.val / 128 * 79 + 78) % 79 = 78; omega
  have h := good m c t.val t.isLt ⟨n.val % 128, by omega⟩
  have e0 : (grid0.coords t 0).val = n.val / 128 := (co t).1.trans (by show (n.val / 128 * 79 + 78) / 79 = _; omega)
  have e1 : (grid0.coords t 1).val = 78 := (co t).2.trans ht
  have ek : 128 * (grid0.coords t 0).val + n.val % 128 = n.val := by rw [e0]; omega
  have ea : 128 * ((grid0.coords t 1).val + 1) = 10112 := by rw [e1]
  rw [show (⟨t.val, t.isLt⟩ : Fin cfg0.N) = t from rfl] at h
  dsimp only at h
  rw [ek, ea] at h
  have hp := pls_at m c q t ht (ix3 ⟨n.val / 128, by omega⟩ 0 ⟨n.val % 128, by omega⟩) ⟨n.val % 128, by omega⟩
    (by show n.val / 128 = (n.val / 128 * 79 + 78) / 79; omega) rfl
  rw [hp]
  match q with
  | 0 => exact ⟨_, h.1⟩
  | 1 => exact ⟨_, h.2⟩

theorem flat (x : IVec S32x1x128 32) (n : Fin 4096) : shapeCast S4096 x shapeCasts_S32x1x128_S4096 (ix1 n) = x (ix3 ⟨n.val / 128, by omega⟩ 0 ⟨n.val % 128, by omega⟩) := by
  simp only [pointwise]

/-- Where the sampler ends. -/
theorem sampler_run (ρ : Dev nD → PrngReg) : θ_run defs (onTc (τ := τ) (main (F := Ideal))) ⟨m, fun _ => 0, ρ⟩ fun r => ∀ c : Dev nD, ∀ n : Fin 4096,
    (∃ v, Inv (sc m c 0 n.val) 10112 v ((r.2.mem ((c.tc : Thread nD τ).loc main_v5) : IVec S4096 32) (ix1 n)))
      ∧ ∃ v, Inv (sc m c 1 n.val) 10112 v ((r.2.mem ((c.tc : Thread nD τ).loc main_v6) : IVec S4096 32) (ix1 n)) := by
  refine (θ_run defs _ _).mono (fun r h c n => ?_) (run_main m ρ)
  have e5 : (r.2.mem ((c.tc : Thread nD τ).loc main_v5) : IVec S4096 32) = shapeCast S4096 (pls m c 0) shapeCasts_S32x1x128_S4096 := by
    refine (Pipeline.FramePost.rest_eq h c main_v5 (by decide)).trans ?_
    unfold Pipeline.afterTail₀
    after_reads_simp
    exact congrArg (fun x => shapeCast S4096 x shapeCasts_S32x1x128_S4096) ((Pipeline.withArrays_arr _ winFacts0.arr_inj c _ _ 2).trans (arr2 m c))
  have e6 : (r.2.mem ((c.tc : Thread nD τ).loc main_v6) : IVec S4096 32) = shapeCast S4096 (pls m c 1) shapeCasts_S32x1x128_S4096 := by
    refine (Pipeline.FramePost.rest_eq h c main_v6 (by decide)).trans ?_
    unfold Pipeline.afterTail₀
    after_reads_simp
    exact congrArg (fun x => shapeCast S4096 x shapeCasts_S32x1x128_S4096) ((Pipeline.withArrays_arr _ winFacts0.arr_inj c _ _ 3).trans (arr3 m c))
  rw [e5, e6, flat, flat]
  exact ⟨pls_inv m c 0 n, pls_inv m c 1 n⟩

end Cert.Proof.Draw

end
-- ==== Proof.DrawRun.lean ====
/-
  The sampler's reference: its host operations as lists, one list for each part of the computation (the counter-based generator one
  list for each of its rounds), and its run.
-/
module

public import proofs.«01_k».proof.Proof.Gen.SampledIdeal
public import Idealize.ShloMosaic.Lib.StableHlo.Run
public import Idealize.ShloMosaic.Lib.StableHlo.RunRead
public import Idealize.ShloMosaic.Lib.Tactic

@[expose] public section

noncomputable section

namespace Cert.Proof.Draw

open Cert.SampledIdeal Cert.SampledIdeal.Gen
open Idealize.ShloMosaic Idealize.ShloMosaic.TcCoe Idealize.SL.Sem Idealize.ShloMosaic.StableHlo

variable {F : FTy → Type} [FloatOps F]

/-- An array's contents, by its shape and element type. -/
abbrev X (F : FTy → Type) (s : Shape) (e : EltTy) : Type := (⟨s, e⟩ : BufTy).Contents (Elt F)

/-- The draws' words, one for each entry of the two tables. -/
abbrev Wd (F : FTy → Type) : Type := X F S2x4096x10000 .i32

def s1 : List (HloOp τ sig (Elt F)) :=
  [nullary main_c (fun i => lit0 (S2x2.rowMajor i)),
   unary main_arg0 main_v0 (Host.log : X F S10000 .f32 → X F S10000 .f32),
   unary main_v0 main_v1 (broadcastInDim S1x10000 ![1] bcast_S10000_S1x10000_1 : X F S10000 .f32 → X F S1x10000 .f32),
   nullary main_cst (constant S_ .f32 0x3F800000#32),
   unary main_cst main_v2 (broadcastInDim S4096x1 ![] bcast_S_S4096x1 : X F S_ .f32 → X F S4096x1 .f32),
   unary main_v1 main_v3 (broadcastInDim S4096x10000 ![0, 1] bcast_S1x10000_S4096x10000_0_1 : X F S1x10000 .f32 → X F S4096x10000 .f32),
   unary main_v2 main_v4 (broadcastInDim S4096x10000 ![0, 1] bcast_S4096x1_S4096x10000_0_1 : X F S4096x1 .f32 → X F S4096x10000 .f32),
   binary main_v3 main_v4 main_v5 (mulf : X F S4096x10000 .f32 → X F S4096x10000 .f32 → X F S4096x10000 .f32),
   nullary main_v6 (iotaInDim S4096 32 0),
   nullary main_c_0 (constantI S_ 32 0#32),
   unary main_c_0 main_v7 (broadcastInDim S4096 ![] bcast_S_S4096 : X F S_ .i32 → X F S4096 .i32),
   binary main_v6 main_v7 main_v8 (cmpi .slt : X F S4096 .i32 → X F S4096 .i32 → X F S4096 .i1),
   nullary main_c_1 (constantI S_ 32 4096#32),
   unary main_c_1 main_v9 (broadcastInDim S4096 ![] bcast_S_S4096 : X F S_ .i32 → X F S4096 .i32),
   binary main_v6 main_v9 main_v10 (addi : X F S4096 .i32 → X F S4096 .i32 → X F S4096 .i32),
   ternary main_v8 main_v10 main_v6 main_v11 (select : X F S4096 .i1 → X F S4096 .i32 → X F S4096 .i32 → X F S4096 .i32),
   nullary main_c_2 (constantI S_ 32 0#32),
   unary main_c_2 main_v12 (broadcastInDim S4096 ![] bcast_S_S4096 : X F S_ .i32 → X F S4096 .i32),
   binary main_arg1 main_v12 main_v13 (cmpi .slt : X F S4096 .i32 → X F S4096 .i32 → X F S4096 .i1),
   nullary main_c_3 (constantI S_ 32 10000#32),
   unary main_c_3 main_v14 (broadcastInDim S4096 ![] bcast_S_S4096 : X F S_ .i32 → X F S4096 .i32),
   binary main_arg1 main_v14 main_v15 (addi : X F S4096 .i32 → X F S4096 .i32 → X F S4096 .i32),
   ternary main_v13 main_v15 main_arg1 main_v16 (select : X F S4096 .i1 → X F S4096 .i32 → X F S4096 .i32 → X F S4096 .i32),
   unary main_v11 main_v17 (broadcastInDim S4096x1 ![0] bcast_S4096_S4096x1_0 : X F S4096 .i32 → X F S4096x1 .i32),
   unary main_v16 main_v18 (broadcastInDim S4096x1 ![0] bcast_S4096_S4096x1_0 : X F S4096 .i32 → X F S4096x1 .i32),
   binary main_v17 main_v18 main_v19 ((fun a b => concatenate S4096x2 1 [⟨S4096x1, a⟩, ⟨S4096x1, b⟩] concatenates_S4096x1_S4096x1_S4096x2_d1) : X F S4096x1 .i32 → X F S4096x1 .i32 → X F S4096x2 .i32),
   nullary main_cst_4 (constant S_ .f32 0xFF800000#32),
   unary main_cst_4 main_v20 (broadcastInDim S4096 ![] bcast_S_S4096 : X F S_ .f32 → X F S4096 .f32),
   ternary main_v5 main_v19 main_v20 main_v21 ((fun x i u => Host.scatter scatter_S4096x10000_S4096x2_S4096_n_01_01_1 (fun _ b => b) x i u) : X F S4096x10000 .f32 → X F S4096x2 .i32 → X F S4096 .f32 → X F S4096x10000 .f32)]
abbrev w_s1 : List (Ref sig .tc) := [main_c, main_v0, main_v1, main_cst, main_v2, main_v3, main_v4, main_v5, main_v6, main_c_0, main_v7, main_v8, main_c_1, main_v9, main_v10, main_v11, main_c_2, main_v12, main_v13, main_c_3, main_v14, main_v15, main_v16, main_v17, main_v18, main_v19, main_cst_4, main_v20, main_v21]
def s2 : List (HloOp τ sig (Elt F)) :=
  [unary main_c main_v22 ((extractStridedSlice S2x1 ![0, 0] · slices_S2x2_S2x1_0_0) : X F S2x2 .i32 → X F S2x1 .i32),
   reshape main_v22 main_v23 (rfl : (.i32 : EltTy) = .i32) shapeCasts_S2x1_S2,
   unary main_c main_v24 ((extractStridedSlice S2x1 ![0, 1] · slices_S2x2_S2x1_0_1) : X F S2x2 .i32 → X F S2x1 .i32),
   reshape main_v24 main_v25 (rfl : (.i32 : EltTy) = .i32) shapeCasts_S2x1_S2,
   nullary main_v26 (iotaInDim S4096x10000 64 0),
   nullary main_v27 (iotaInDim S4096x10000 64 1),
   nullary main_c_5 (constantI S_ 64 10000#64),
   unary main_c_5 main_v28 (broadcastInDim S4096x10000 ![] bcast_S_S4096x10000 : X F S_ .i64 → X F S4096x10000 .i64),
   binary main_v28 main_v26 main_v29 (muli : X F S4096x10000 .i64 → X F S4096x10000 .i64 → X F S4096x10000 .i64),
   nullary main_c_6 (constantI S_ 64 1#64),
   unary main_c_6 main_v30 (broadcastInDim S4096x10000 ![] bcast_S_S4096x10000 : X F S_ .i64 → X F S4096x10000 .i64),
   binary main_v30 main_v27 main_v31 (muli : X F S4096x10000 .i64 → X F S4096x10000 .i64 → X F S4096x10000 .i64),
   binary main_v29 main_v31 main_v32 (addi : X F S4096x10000 .i64 → X F S4096x10000 .i64 → X F S4096x10000 .i64),
   nullary main_c_7 (constantI S_ 64 32#64),
   unary main_c_7 main_v33 (broadcastInDim S4096x10000 ![] bcast_S_S4096x10000 : X F S_ .i64 → X F S4096x10000 .i64),
   binary main_v32 main_v33 main_v34 (Host.shrui : X F S4096x10000 .i64 → X F S4096x10000 .i64 → X F S4096x10000 .i64),
   unary main_v32 main_v35 ((trunci 32 · natLt_32_64) : X F S4096x10000 .i64 → X F S4096x10000 .i32),
   unary main_v34 main_v36 ((trunci 32 · natLt_32_64) : X F S4096x10000 .i64 → X F S4096x10000 .i32),
   unary main_v36 main_v37 (broadcastInDim S1x4096x10000 ![1, 2] bcast_S4096x10000_S1x4096x10000_1_2 : X F S4096x10000 .i32 → X F S1x4096x10000 .i32),
   unary main_v35 main_v38 (broadcastInDim S1x4096x10000 ![1, 2] bcast_S4096x10000_S1x4096x10000_1_2 : X F S4096x10000 .i32 → X F S1x4096x10000 .i32),
   unary main_v23 main_v39 (broadcastInDim S2x1x1 ![0] bcast_S2_S2x1x1_0 : X F S2 .i32 → X F S2x1x1 .i32),
   unary main_v25 main_v40 (broadcastInDim S2x1x1 ![0] bcast_S2_S2x1x1_0 : X F S2 .i32 → X F S2x1x1 .i32)]
abbrev w_s2 : List (Ref sig .tc) := [main_v22, main_v23, main_v24, main_v25, main_v26, main_v27, main_c_5, main_v28, main_v29, main_c_6, main_v30, main_v31, main_v32, main_c_7, main_v33, main_v34, main_v35, main_v36, main_v37, main_v38, main_v39, main_v40]
def t0 : List (HloOp τ sig (Elt F)) :=
  [binary main_v39 main_v40 main_call0_v0 (xori : X F S2x1x1 .i32 → X F S2x1x1 .i32 → X F S2x1x1 .i32),
   nullary main_call0_c (constantI S_ 32 466688986#32),
   unary main_call0_c main_call0_v1 ((broadcastInDim S2x1x1 ![] bcast_S_S2x1x1) : X F S_ .i32 → X F S2x1x1 .i32),
   binary main_call0_v0 main_call0_v1 main_call0_v2 (xori : X F S2x1x1 .i32 → X F S2x1x1 .i32 → X F S2x1x1 .i32),
   unary main_v37 main_call0_v3 ((broadcastInDim S2x4096x10000 ![0, 1, 2] bcast_S1x4096x10000_S2x4096x10000_0_1_2) : X F S1x4096x10000 .i32 → Wd F),
   unary main_v39 main_call0_v4 ((broadcastInDim S2x4096x10000 ![0, 1, 2] bcast_S2x1x1_S2x4096x10000_0_1_2) : X F S2x1x1 .i32 → Wd F),
   binary main_call0_v3 main_call0_v4 main_call0_v5 (addi : Wd F → Wd F → Wd F),
   unary main_v38 main_call0_v6 ((broadcastInDim S2x4096x10000 ![0, 1, 2] bcast_S1x4096x10000_S2x4096x10000_0_1_2) : X F S1x4096x10000 .i32 → Wd F),
   unary main_v40 main_call0_v7 ((broadcastInDim S2x4096x10000 ![0, 1, 2] bcast_S2x1x1_S2x4096x10000_0_1_2) : X F S2x1x1 .i32 → Wd F),
   binary main_call0_v6 main_call0_v7 main_call0_v8 (addi : Wd F → Wd F → Wd F)]
abbrev w_t0 : List (Ref sig .tc) := [main_call0_v0, main_call0_c, main_call0_v1, main_call0_v2, main_call0_v3, main_call0_v4, main_call0_v5, main_call0_v6, main_call0_v7, main_call0_v8]
def t1 : List (HloOp τ sig (Elt F)) :=
  [binary main_call0_v5 main_call0_v8 main_call0_v9 (addi : Wd F → Wd F → Wd F),
   nullary main_call0_c_0 (constantI S_ 32 13#32),
   unary main_call0_c_0 main_call0_v10 ((broadcastInDim S2x4096x10000 ![] bcast_S_S2x4096x10000) : X F S_ .i32 → Wd F),
   binary main_call0_v8 main_call0_v10 main_call0_v11 (Host.shli : Wd F → Wd F → Wd F),
   nullary main_call0_c_1 (constantI S_ 32 19#32),
   unary main_call0_c_1 main_call0_v12 ((broadcastInDim S2x4096x10000 ![] bcast_S_S2x4096x10000) : X F S_ .i32 → Wd F),
   binary main_call0_v8 main_call0_v12 main_call0_v13 (Host.shrui : Wd F → Wd F → Wd F),
   binary main_call0_v11 main_call0_v13 main_call0_v14 (ori : Wd F → Wd F → Wd F),
   binary main_call0_v9 main_call0_v14 main_call0_v15 (xori : Wd F → Wd F → Wd F)]
abbrev w_t1 : List (Ref sig .tc) := [main_call0_v9, main_call0_c_0, main_call0_v10, main_call0_v11, main_call0_c_1, main_call0_v12, main_call0_v13, main_call0_v14, main_call0_v15]
def t2 : List (HloOp τ sig (Elt F)) :=
  [binary main_call0_v9 main_call0_v15 main_call0_v16 (addi : Wd F → Wd F → Wd F),
   nullary main_call0_c_2 (constantI S_ 32 15#32),
   unary main_call0_c_2 main_call0_v17 ((broadcastInDim S2x4096x10000 ![] bcast_S_S2x4096x10000) : X F S_ .i32 → Wd F),
   binary main_call0_v15 main_call0_v17 main_call0_v18 (Host.shli : Wd F → Wd F → Wd F),
   nullary main_call0_c_3 (constantI S_ 32 17#32),
   unary main_call0_c_3 main_call0_v19 ((broadcastInDim S2x4096x10000 ![] bcast_S_S2x4096x10000) : X F S_ .i32 → Wd F),
   binary main_call0_v15 main_call0_v19 main_call0_v20 (Host.shrui : Wd F → Wd F → Wd F),
   binary main_call0_v18 main_call0_v20 main_call0_v21 (ori : Wd F → Wd F → Wd F),
   binary main_call0_v16 main_call0_v21 main_call0_v22 (xori : Wd F → Wd F → Wd F)]
abbrev w_t2 : List (Ref sig .tc) := [main_call0_v16, main_call0_c_2, main_call0_v17, main_call0_v18, main_call0_c_3, main_call0_v19, main_call0_v20, main_call0_v21, main_call0_v22]
def t3 : List (HloOp τ sig (Elt F)) :=
  [binary main_call0_v16 main_call0_v22 main_call0_v23 (addi : Wd F → Wd F → Wd F),
   nullary main_call0_c_4 (constantI S_ 32 26#32),
   unary main_call0_c_4 main_call0_v24 ((broadcastInDim S2x4096x10000 ![] bcast_S_S2x4096x10000) : X F S_ .i32 → Wd F),
   binary main_call0_v22 main_call0_v24 main_call0_v25 (Host.shli : Wd F → Wd F → Wd F),
   nullary main_call0_c_5 (constantI S_ 32 6#32),
   unary main_call0_c_5 main_call0_v26 ((broadcastInDim S2x4096x10000 ![] bcast_S_S2x4096x10000) : X F S_ .i32 → Wd F),
   binary main_call0_v22 main_call0_v26 main_call0_v27 (Host.shrui : Wd F → Wd F → Wd F),
   binary main_call0_v25 main_call0_v27 main_call0_v28 (ori : Wd F → Wd F → Wd F),
   binary main_call0_v23 main_call0_v28 main_call0_v29 (xori : Wd F → Wd F → Wd F)]
abbrev w_t3 : List (Ref sig .tc) := [main_call0_v23, main_call0_c_4, main_call0_v24, main_call0_v25, main_call0_c_5, main_call0_v26, main_call0_v27, main_call0_v28, main_call0_v29]
def t4 : List (HloOp τ sig (Elt F)) :=
  [binary main_call0_v23 main_call0_v29 main_call0_v30 (addi : Wd F → Wd F → Wd F),
   nullary main_call0_c_6 (constantI S_ 32 6#32),
   unary main_call0_c_6 main_call0_v31 ((broadcastInDim S2x4096x10000 ![] bcast_S_S2x4096x10000) : X F S_ .i32 → Wd F),
   binary main_call0_v29 main_call0_v31 main_call0_v32 (Host.shli : Wd F → Wd F → Wd F),
   nullary main_call0_c_7 (constantI S_ 32 26#32),
   unary main_call0_c_7 main_call0_v33 ((broadcastInDim S2x4096x10000 ![] bcast_S_S2x4096x10000) : X F S_ .i32 → Wd F),
   binary main_call0_v29 main_call0_v33 main_call0_v34 (Host.shrui : Wd F → Wd F → Wd F),
   binary main_call0_v32 main_call0_v34 main_call0_v35 (ori : Wd F → Wd F → Wd F),
   binary main_call0_v30 main_call0_v35 main_call0_v36 (xori : Wd F → Wd F → Wd F),
   unary main_v40 main_call0_v37 ((broadcastInDim S2x4096x10000 ![0, 1, 2] bcast_S2x1x1_S2x4096x10000_0_1_2) : X F S2x1x1 .i32 → Wd F),
   binary main_call0_v30 main_call0_v37 main_call0_v38 (addi : Wd F → Wd F → Wd F),
   unary main_call0_v2 main_call0_v39 ((broadcastInDim S2x4096x10000 ![0, 1, 2] bcast_S2x1x1_S2x4096x10000_0_1_2) : X F S2x1x1 .i32 → Wd F),
   binary main_call0_v36 main_call0_v39 main_call0_v40 (addi : Wd F → Wd F → Wd F),
   nullary main_call0_c_8 (constantI S_ 32 1#32),
   unary main_call0_c_8 main_call0_v41 ((broadcastInDim S2x4096x10000 ![] bcast_S_S2x4096x10000) : X F S_ .i32 → Wd F),
   binary main_call0_v40 main_call0_v41 main_call0_v42 (addi : Wd F → Wd F → Wd F)]
abbrev w_t4 : List (Ref sig .tc) := [main_call0_v30, main_call0_c_6, main_call0_v31, main_call0_v32, main_call0_c_7, main_call0_v33, main_call0_v34, main_call0_v35, main_call0_v36, main_call0_v37, main_call0_v38, main_call0_v39, main_call0_v40, main_call0_c_8, main_call0_v41, main_call0_v42]
def t5 : List (HloOp τ sig (Elt F)) :=
  [binary main_call0_v38 main_call0_v42 main_call0_v43 (addi : Wd F → Wd F → Wd F),
   nullary main_call0_c_9 (constantI S_ 32 17#32),
   unary main_call0_c_9 main_call0_v44 ((broadcastInDim S2x4096x10000 ![] bcast_S_S2x4096x10000) : X F S_ .i32 → Wd F),
   binary main_call0_v42 main_call0_v44 main_call0_v45 (Host.shli : Wd F → Wd F → Wd F),
   nullary main_call0_c_10 (constantI S_ 32 15#32),
   unary main_call0_c_10 main_call0_v46 ((broadcastInDim S2x4096x10000 ![] bcast_S_S2x4096x10000) : X F S_ .i32 → Wd F),
   binary main_call0_v42 main_call0_v46 main_call0_v47 (Host.shrui : Wd F → Wd F → Wd F),
   binary main_call0_v45 main_call0_v47 main_call0_v48 (ori : Wd F → Wd F → Wd F),
   binary main_call0_v43 main_call0_v48 main_call0_v49 (xori : Wd F → Wd F → Wd F)]
abbrev w_t5 : List (Ref sig .tc) := [main_call0_v43, main_call0_c_9, main_call0_v44, main_call0_v45, main_call0_c_10, main_call0_v46, main_call0_v47, main_call0_v48, main_call0_v49]
def t6 : List (HloOp τ sig (Elt F)) :=
  [binary main_call0_v43 main_call0_v49 main_call0_v50 (addi : Wd F → Wd F → Wd F),
   nullary main_call0_c_11 (constantI S_ 32 29#32),
   unary main_call0_c_11 main_call0_v51 ((broadcastInDim S2x4096x10000 ![] bcast_S_S2x4096x10000) : X F S_ .i32 → Wd F),
   binary main_call0_v49 main_call0_v51 main_call0_v52 (Host.shli : Wd F → Wd F → Wd F),
   nullary main_call0_c_12 (constantI S_ 32 3#32),
   unary main_call0_c_12 main_call0_v53 ((broadcastInDim S2x4096x10000 ![] bcast_S_S2x4096x10000) : X F S_ .i32 → Wd F),
   binary main_call0_v49 main_call0_v53 main_call0_v54 (Host.shrui : Wd F → Wd F → Wd F),
   binary main_call0_v52 main_call0_v54 main_call0_v55 (ori : Wd F → Wd F → Wd F),
   binary main_call0_v50 main_call0_v55 main_call0_v56 (xori : Wd F → Wd F → Wd F)]
abbrev w_t6 : List (Ref sig .tc) := [main_call0_v50, main_call0_c_11, main_call0_v51, main_call0_v52, main_call0_c_12, main_call0_v53, main_call0_v54, main_call0_v55, main_call0_v56]
def t7 : List (HloOp τ sig (Elt F)) :=
  [binary main_call0_v50 main_call0_v56 main_call0_v57 (addi : Wd F → Wd F → Wd F),
   nullary main_call0_c_13 (constantI S_ 32 16#32),
   unary main_call0_c_13 main_call0_v58 ((broadcastInDim S2x4096x10000 ![] bcast_S_S2x4096x10000) : X F S_ .i32 → Wd F),
   binary main_call0_v56 main_call0_v58 main_call0_v59 (Host.shli : Wd F → Wd F → Wd F),
   nullary main_call0_c_14 (constantI S_ 32 16#32),
   unary main_call0_c_14 main_call0_v60 ((broadcastInDim S2x4096x10000 ![] bcast_S_S2x4096x10000) : X F S_ .i32 → Wd F),
   binary main_call0_v56 main_call0_v60 main_call0_v61 (Host.shrui : Wd F → Wd F → Wd F),
   binary main_call0_v59 main_call0_v61 main_call0_v62 (ori : Wd F → Wd F → Wd F),
   binary main_call0_v57 main_call0_v62 main_call0_v63 (xori : Wd F → Wd F → Wd F)]
abbrev w_t7 : List (Ref sig .tc) := [main_call0_v57, main_call0_c_13, main_call0_v58, main_call0_v59, main_call0_c_14, main_call0_v60, main_call0_v61, main_call0_v62, main_call0_v63]
def t8 : List (HloOp τ sig (Elt F)) :=
  [binary main_call0_v57 main_call0_v63 main_call0_v64 (addi : Wd F → Wd F → Wd F),
   nullary main_call0_c_15 (constantI S_ 32 24#32),
   unary main_call0_c_15 main_call0_v65 ((broadcastInDim S2x4096x10000 ![] bcast_S_S2x4096x10000) : X F S_ .i32 → Wd F),
   binary main_call0_v63 main_call0_v65 main_call0_v66 (Host.shli : Wd F → Wd F → Wd F),
   nullary main_call0_c_16 (constantI S_ 32 8#32),
   unary main_call0_c_16 main_call0_v67 ((broadcastInDim S2x4096x10000 ![] bcast_S_S2x4096x10000) : X F S_ .i32 → Wd F),
   binary main_call0_v63 main_call0_v67 main_call0_v68 (Host.shrui : Wd F → Wd F → Wd F),
   binary main_call0_v66 main_call0_v68 main_call0_v69 (ori : Wd F → Wd F → Wd F),
   binary main_call0_v64 main_call0_v69 main_call0_v70 (xori : Wd F → Wd F → Wd F),
   unary main_call0_v2 main_call0_v71 ((broadcastInDim S2x4096x10000 ![0, 1, 2] bcast_S2x1x1_S2x4096x10000_0_1_2) : X F S2x1x1 .i32 → Wd F),
   binary main_call0_v64 main_call0_v71 main_call0_v72 (addi : Wd F → Wd F → Wd F),
   unary main_v39 main_call0_v73 ((broadcastInDim S2x4096x10000 ![0, 1, 2] bcast_S2x1x1_S2x4096x10000_0_1_2) : X F S2x1x1 .i32 → Wd F),
   binary main_call0_v70 main_call0_v73 main_call0_v74 (addi : Wd F → Wd F → Wd F),
   nullary main_call0_c_17 (constantI S_ 32 2#32),
   unary main_call0_c_17 main_call0_v75 ((broadcastInDim S2x4096x10000 ![] bcast_S_S2x4096x10000) : X F S_ .i32 → Wd F),
   binary main_call0_v74 main_call0_v75 main_call0_v76 (addi : Wd F → Wd F → Wd F)]
abbrev w_t8 : List (Ref sig .tc) := [main_call0_v64, main_call0_c_15, main_call0_v65, main_call0_v66, main_call0_c_16, main_call0_v67, main_call0_v68, main_call0_v69, main_call0_v70, main_call0_v71, main_call0_v72, main_call0_v73, main_call0_v74, main_call0_c_17, main_call0_v75, main_call0_v76]
def t9 : List (HloOp τ sig (Elt F)) :=
  [binary main_call0_v72 main_call0_v76 main_call0_v77 (addi : Wd F → Wd F → Wd F),
   nullary main_call0_c_18 (constantI S_ 32 13#32),
   unary main_call0_c_18 main_call0_v78 ((broadcastInDim S2x4096x10000 ![] bcast_S_S2x4096x10000) : X F S_ .i32 → Wd F),
   binary main_call0_v76 main_call0_v78 main_call0_v79 (Host.shli : Wd F → Wd F → Wd F),
   nullary main_call0_c_19 (constantI S_ 32 19#32),
   unary main_call0_c_19 main_call0_v80 ((broadcastInDim S2x4096x10000 ![] bcast_S_S2x4096x10000) : X F S_ .i32 → Wd F),
   binary main_call0_v76 main_call0_v80 main_call0_v81 (Host.shrui : Wd F → Wd F → Wd F),
   binary main_call0_v79 main_call0_v81 main_call0_v82 (ori : Wd F → Wd F → Wd F),
   binary main_call0_v77 main_call0_v82 main_call0_v83 (xori : Wd F → Wd F → Wd F)]
abbrev w_t9 : List (Ref sig .tc) := [main_call0_v77, main_call0_c_18, main_call0_v78, main_call0_v79, main_call0_c_19, main_call0_v80, main_call0_v81, main_call0_v82, main_call0_v83]
def t10 : List (HloOp τ sig (Elt F)) :=
  [binary main_call0_v77 main_call0_v83 main_call0_v84 (addi : Wd F → Wd F → Wd F),
   nullary main_call0_c_20 (constantI S_ 32 15#32),
   unary main_call0_c_20 main_call0_v85 ((broadcastInDim S2x4096x10000 ![] bcast_S_S2x4096x10000) : X F S_ .i32 → Wd F),
   binary main_call0_v83 main_call0_v85 main_call0_v86 (Host.shli : Wd F → Wd F → Wd F),
   nullary main_call0_c_21 (constantI S_ 32 17#32),
   unary main_call0_c_21 main_call0_v87 ((broadcastInDim S2x4096x10000 ![] bcast_S_S2x4096x10000) : X F S_ .i32 → Wd F),
   binary main_call0_v83 main_call0_v87 main_call0_v88 (Host.shrui : Wd F → Wd F → Wd F),
   binary main_call0_v86 main_call0_v88 main_call0_v89 (ori : Wd F → Wd F → Wd F),
   binary main_call0_v84 main_call0_v89 main_call0_v90 (xori : Wd F → Wd F → Wd F)]
abbrev w_t10 : List (Ref sig .tc) := [main_call0_v84, main_call0_c_20, main_call0_v85, main_call0_v86, main_call0_c_21, main_call0_v87, main_call0_v88, main_call0_v89, main_call0_v90]
def t11 : List (HloOp τ sig (Elt F)) :=
  [binary main_call0_v84 main_call0_v90 main_call0_v91 (addi : Wd F → Wd F → Wd F),
   nullary main_call0_c_22 (constantI S_ 32 26#32),
   unary main_call0_c_22 main_call0_v92 ((broadcastInDim S2x4096x10000 ![] bcast_S_S2x4096x10000) : X F S_ .i32 → Wd F),
   binary main_call0_v90 main_call0_v92 main_call0_v93 (Host.shli : Wd F → Wd F → Wd F),
   nullary main_call0_c_23 (constantI S_ 32 6#32),
   unary main_call0_c_23 main_call0_v94 ((broadcastInDim S2x4096x10000 ![] bcast_S_S2x4096x10000) : X F S_ .i32 → Wd F),
   binary main_call0_v90 main_call0_v94 main_call0_v95 (Host.shrui : Wd F → Wd F → Wd F),
   binary main_call0_v93 main_call0_v95 main_call0_v96 (ori : Wd F → Wd F → Wd F),
   binary main_call0_v91 main_call0_v96 main_call0_v97 (xori : Wd F → Wd F → Wd F)]
abbrev w_t11 : List (Ref sig .tc) := [main_call0_v91, main_call0_c_22, main_call0_v92, main_call0_v93, main_call0_c_23, main_call0_v94, main_call0_v95, main_call0_v96, main_call0_v97]
def t12 : List (HloOp τ sig (Elt F)) :=
  [binary main_call0_v91 main_call0_v97 main_call0_v98 (addi : Wd F → Wd F → Wd F),
   nullary main_call0_c_24 (constantI S_ 32 6#32),
   unary main_call0_c_24 main_call0_v99 ((broadcastInDim S2x4096x10000 ![] bcast_S_S2x4096x10000) : X F S_ .i32 → Wd F),
   binary main_call0_v97 main_call0_v99 main_call0_v100 (Host.shli : Wd F → Wd F → Wd F),
   nullary main_call0_c_25 (constantI S_ 32 26#32),
   unary main_call0_c_25 main_call0_v101 ((broadcastInDim S2x4096x10000 ![] bcast_S_S2x4096x10000) : X F S_ .i32 → Wd F),
   binary main_call0_v97 main_call0_v101 main_call0_v102 (Host.shrui : Wd F → Wd F → Wd F),
   binary main_call0_v100 main_call0_v102 main_call0_v103 (ori : Wd F → Wd F → Wd F),
   binary main_call0_v98 main_call0_v103 main_call0_v104 (xori : Wd F → Wd F → Wd F),
   unary main_v39 main_call0_v105 ((broadcastInDim S2x4096x10000 ![0, 1, 2] bcast_S2x1x1_S2x4096x10000_0_1_2) : X F S2x1x1 .i32 → Wd F),
   binary main_call0_v98 main_call0_v105 main_call0_v106 (addi : Wd F → Wd F → Wd F),
   unary main_v40 main_call0_v107 ((broadcastInDim S2x4096x10000 ![0, 1, 2] bcast_S2x1x1_S2x4096x10000_0_1_2) : X F S2x1x1 .i32 → Wd F),
   binary main_call0_v104 main_call0_v107 main_call0_v108 (addi : Wd F → Wd F → Wd F),
   nullary main_call0_c_26 (constantI S_ 32 3#32),
   unary main_call0_c_26 main_call0_v109 ((broadcastInDim S2x4096x10000 ![] bcast_S_S2x4096x10000) : X F S_ .i32 → Wd F),
   binary main_call0_v108 main_call0_v109 main_call0_v110 (addi : Wd F → Wd F → Wd F)]
abbrev w_t12 : List (Ref sig .tc) := [main_call0_v98, main_call0_c_24, main_call0_v99, main_call0_v100, main_call0_c_25, main_call0_v101, main_call0_v102, main_call0_v103, main_call0_v104, main_call0_v105, main_call0_v106, main_call0_v107, main_call0_v108, main_call0_c_26, main_call0_v109, main_call0_v110]
def t13 : List (HloOp τ sig (Elt F)) :=
  [binary main_call0_v106 main_call0_v110 main_call0_v111 (addi : Wd F → Wd F → Wd F),
   nullary main_call0_c_27 (constantI S_ 32 17#32),
   unary main_call0_c_27 main_call0_v112 ((broadcastInDim S2x4096x10000 ![] bcast_S_S2x4096x10000) : X F S_ .i32 → Wd F),
   binary main_call0_v110 main_call0_v112 main_call0_v113 (Host.shli : Wd F → Wd F → Wd F),
   nullary main_call0_c_28 (constantI S_ 32 15#32),
   unary main_call0_c_28 main_call0_v114 ((broadcastInDim S2x4096x10000 ![] bcast_S_S2x4096x10000) : X F S_ .i32 → Wd F),
   binary main_call0_v110 main_call0_v114 main_call0_v115 (Host.shrui : Wd F → Wd F → Wd F),
   binary main_call0_v113 main_call0_v115 main_call0_v116 (ori : Wd F → Wd F → Wd F),
   binary main_call0_v111 main_call0_v116 main_call0_v117 (xori : Wd F → Wd F → Wd F)]
abbrev w_t13 : List (Ref sig .tc) := [main_call0_v111, main_call0_c_27, main_call0_v112, main_call0_v113, main_call0_c_28, main_call0_v114, main_call0_v115, main_call0_v116, main_call0_v117]
def t14 : List (HloOp τ sig (Elt F)) :=
  [binary main_call0_v111 main_call0_v117 main_call0_v118 (addi : Wd F → Wd F → Wd F),
   nullary main_call0_c_29 (constantI S_ 32 29#32),
   unary main_call0_c_29 main_call0_v119 ((broadcastInDim S2x4096x10000 ![] bcast_S_S2x4096x10000) : X F S_ .i32 → Wd F),
   binary main_call0_v117 main_call0_v119 main_call0_v120 (Host.shli : Wd F → Wd F → Wd F),
   nullary main_call0_c_30 (constantI S_ 32 3#32),
   unary main_call0_c_30 main_call0_v121 ((broadcastInDim S2x4096x10000 ![] bcast_S_S2x4096x10000) : X F S_ .i32 → Wd F),
   binary main_call0_v117 main_call0_v121 main_call0_v122 (Host.shrui : Wd F → Wd F → Wd F),
   binary main_call0_v120 main_call0_v122 main_call0_v123 (ori : Wd F → Wd F → Wd F),
   binary main_call0_v118 main_call0_v123 main_call0_v124 (xori : Wd F → Wd F → Wd F)]
abbrev w_t14 : List (Ref sig .tc) := [main_call0_v118, main_call0_c_29, main_call0_v119, main_call0_v120, main_call0_c_30, main_call0_v121, main_call0_v122, main_call0_v123, main_call0_v124]
def t15 : List (HloOp τ sig (Elt F)) :=
  [binary main_call0_v118 main_call0_v124 main_call0_v125 (addi : Wd F → Wd F → Wd F),
   nullary main_call0_c_31 (constantI S_ 32 16#32),
   unary main_call0_c_31 main_call0_v126 ((broadcastInDim S2x4096x10000 ![] bcast_S_S2x4096x10000) : X F S_ .i32 → Wd F),
   binary main_call0_v124 main_call0_v126 main_call0_v127 (Host.shli : Wd F → Wd F → Wd F),
   nullary main_call0_c_32 (constantI S_ 32 16#32),
   unary main_call0_c_32 main_call0_v128 ((broadcastInDim S2x4096x10000 ![] bcast_S_S2x4096x10000) : X F S_ .i32 → Wd F),
   binary main_call0_v124 main_call0_v128 main_call0_v129 (Host.shrui : Wd F → Wd F → Wd F),
   binary main_call0_v127 main_call0_v129 main_call0_v130 (ori : Wd F → Wd F → Wd F),
   binary main_call0_v125 main_call0_v130 main_call0_v131 (xori : Wd F → Wd F → Wd F)]
abbrev w_t15 : List (Ref sig .tc) := [main_call0_v125, main_call0_c_31, main_call0_v126, main_call0_v127, main_call0_c_32, main_call0_v128, main_call0_v129, main_call0_v130, main_call0_v131]
def t16 : List (HloOp τ sig (Elt F)) :=
  [binary main_call0_v125 main_call0_v131 main_call0_v132 (addi : Wd F → Wd F → Wd F),
   nullary main_call0_c_33 (constantI S_ 32 24#32),
   unary main_call0_c_33 main_call0_v133 ((broadcastInDim S2x4096x10000 ![] bcast_S_S2x4096x10000) : X F S_ .i32 → Wd F),
   binary main_call0_v131 main_call0_v133 main_call0_v134 (Host.shli : Wd F → Wd F → Wd F),
   nullary main_call0_c_34 (constantI S_ 32 8#32),
   unary main_call0_c_34 main_call0_v135 ((broadcastInDim S2x4096x10000 ![] bcast_S_S2x4096x10000) : X F S_ .i32 → Wd F),
   binary main_call0_v131 main_call0_v135 main_call0_v136 (Host.shrui : Wd F → Wd F → Wd F),
   binary main_call0_v134 main_call0_v136 main_call0_v137 (ori : Wd F → Wd F → Wd F),
   binary main_call0_v132 main_call0_v137 main_call0_v138 (xori : Wd F → Wd F → Wd F),
   unary main_v40 main_call0_v139 ((broadcastInDim S2x4096x10000 ![0, 1, 2] bcast_S2x1x1_S2x4096x10000_0_1_2) : X F S2x1x1 .i32 → Wd F),
   binary main_call0_v132 main_call0_v139 main_call0_v140 (addi : Wd F → Wd F → Wd F),
   unary main_call0_v2 main_call0_v141 ((broadcastInDim S2x4096x10000 ![0, 1, 2] bcast_S2x1x1_S2x4096x10000_0_1_2) : X F S2x1x1 .i32 → Wd F),
   binary main_call0_v138 main_call0_v141 main_call0_v142 (addi : Wd F → Wd F → Wd F),
   nullary main_call0_c_35 (constantI S_ 32 4#32),
   unary main_call0_c_35 main_call0_v143 ((broadcastInDim S2x4096x10000 ![] bcast_S_S2x4096x10000) : X F S_ .i32 → Wd F),
   binary main_call0_v142 main_call0_v143 main_call0_v144 (addi : Wd F → Wd F → Wd F)]
abbrev w_t16 : List (Ref sig .tc) := [main_call0_v132, main_call0_c_33, main_call0_v133, main_call0_v134, main_call0_c_34, main_call0_v135, main_call0_v136, main_call0_v137, main_call0_v138, main_call0_v139, main_call0_v140, main_call0_v141, main_call0_v142, main_call0_c_35, main_call0_v143, main_call0_v144]
def t17 : List (HloOp τ sig (Elt F)) :=
  [binary main_call0_v140 main_call0_v144 main_call0_v145 (addi : Wd F → Wd F → Wd F),
   nullary main_call0_c_36 (constantI S_ 32 13#32),
   unary main_call0_c_36 main_call0_v146 ((broadcastInDim S2x4096x10000 ![] bcast_S_S2x4096x10000) : X F S_ .i32 → Wd F),
   binary main_call0_v144 main_call0_v146 main_call0_v147 (Host.shli : Wd F → Wd F → Wd F),
   nullary main_call0_c_37 (constantI S_ 32 19#32),
   unary main_call0_c_37 main_call0_v148 ((broadcastInDim S2x4096x10000 ![] bcast_S_S2x4096x10000) : X F S_ .i32 → Wd F),
   binary main_call0_v144 main_call0_v148 main_call0_v149 (Host.shrui : Wd F → Wd F → Wd F),
   binary main_call0_v147 main_call0_v149 main_call0_v150 (ori : Wd F → Wd F → Wd F),
   binary main_call0_v145 main_call0_v150 main_call0_v151 (xori : Wd F → Wd F → Wd F)]
abbrev w_t17 : List (Ref sig .tc) := [main_call0_v145, main_call0_c_36, main_call0_v146, main_call0_v147, main_call0_c_37, main_call0_v148, main_call0_v149, main_call0_v150, main_call0_v151]
def t18 : List (HloOp τ sig (Elt F)) :=
  [binary main_call0_v145 main_call0_v151 main_call0_v152 (addi : Wd F → Wd F → Wd F),
   nullary main_call0_c_38 (constantI S_ 32 15#32),
   unary main_call0_c_38 main_call0_v153 ((broadcastInDim S2x4096x10000 ![] bcast_S_S2x4096x10000) : X F S_ .i32 → Wd F),
   binary main_call0_v151 main_call0_v153 main_call0_v154 (Host.shli : Wd F → Wd F → Wd F),
   nullary main_call0_c_39 (constantI S_ 32 17#32),
   unary main_call0_c_39 main_call0_v155 ((broadcastInDim S2x4096x10000 ![] bcast_S_S2x4096x10000) : X F S_ .i32 → Wd F),
   binary main_call0_v151 main_call0_v155 main_call0_v156 (Host.shrui : Wd F → Wd F → Wd F),
   binary main_call0_v154 main_call0_v156 main_call0_v157 (ori : Wd F → Wd F → Wd F),
   binary main_call0_v152 main_call0_v157 main_call0_v158 (xori : Wd F → Wd F → Wd F)]
abbrev w_t18 : List (Ref sig .tc) := [main_call0_v152, main_call0_c_38, main_call0_v153, main_call0_v154, main_call0_c_39, main_call0_v155, main_call0_v156, main_call0_v157, main_call0_v158]
def t19 : List (HloOp τ sig (Elt F)) :=
  [binary main_call0_v152 main_call0_v158 main_call0_v159 (addi : Wd F → Wd F → Wd F),
   nullary main_call0_c_40 (constantI S_ 32 26#32),
   unary main_call0_c_40 main_call0_v160 ((broadcastInDim S2x4096x10000 ![] bcast_S_S2x4096x10000) : X F S_ .i32 → Wd F),
   binary main_call0_v158 main_call0_v160 main_call0_v161 (Host.shli : Wd F → Wd F → Wd F),
   nullary main_call0_c_41 (constantI S_ 32 6#32),
   unary main_call0_c_41 main_call0_v162 ((broadcastInDim S2x4096x10000 ![] bcast_S_S2x4096x10000) : X F S_ .i32 → Wd F),
   binary main_call0_v158 main_call0_v162 main_call0_v163 (Host.shrui : Wd F → Wd F → Wd F),
   binary main_call0_v161 main_call0_v163 main_call0_v164 (ori : Wd F → Wd F → Wd F),
   binary main_call0_v159 main_call0_v164 main_call0_v165 (xori : Wd F → Wd F → Wd F)]
abbrev w_t19 : List (Ref sig .tc) := [main_call0_v159, main_call0_c_40, main_call0_v160, main_call0_v161, main_call0_c_41, main_call0_v162, main_call0_v163, main_call0_v164, main_call0_v165]
def t20 : List (HloOp τ sig (Elt F)) :=
  [binary main_call0_v159 main_call0_v165 main_call0_v166 (addi : Wd F → Wd F → Wd F),
   nullary main_call0_c_42 (constantI S_ 32 6#32),
   unary main_call0_c_42 main_call0_v167 ((broadcastInDim S2x4096x10000 ![] bcast_S_S2x4096x10000) : X F S_ .i32 → Wd F),
   binary main_call0_v165 main_call0_v167 main_call0_v168 (Host.shli : Wd F → Wd F → Wd F),
   nullary main_call0_c_43 (constantI S_ 32 26#32),
   unary main_call0_c_43 main_call0_v169 ((broadcastInDim S2x4096x10000 ![] bcast_S_S2x4096x10000) : X F S_ .i32 → Wd F),
   binary main_call0_v165 main_call0_v169 main_call0_v170 (Host.shrui : Wd F → Wd F → Wd F),
   binary main_call0_v168 main_call0_v170 main_call0_v171 (ori : Wd F → Wd F → Wd F),
   binary main_call0_v166 main_call0_v171 main_call0_v172 (xori : Wd F → Wd F → Wd F),
   unary main_call0_v2 main_call0_v173 ((broadcastInDim S2x4096x10000 ![0, 1, 2] bcast_S2x1x1_S2x4096x10000_0_1_2) : X F S2x1x1 .i32 → Wd F),
   binary main_call0_v166 main_call0_v173 main_v41_0 (addi : Wd F → Wd F → Wd F),
   unary main_v39 main_call0_v175 ((broadcastInDim S2x4096x10000 ![0, 1, 2] bcast_S2x1x1_S2x4096x10000_0_1_2) : X F S2x1x1 .i32 → Wd F),
   binary main_call0_v172 main_call0_v175 main_call0_v176 (addi : Wd F → Wd F → Wd F),
   nullary main_call0_c_44 (constantI S_ 32 5#32),
   unary main_call0_c_44 main_call0_v177 ((broadcastInDim S2x4096x10000 ![] bcast_S_S2x4096x10000) : X F S_ .i32 → Wd F),
   binary main_call0_v176 main_call0_v177 main_v41_1 (addi : Wd F → Wd F → Wd F)]
abbrev w_t20 : List (Ref sig .tc) := [main_call0_v166, main_call0_c_42, main_call0_v167, main_call0_v168, main_call0_c_43, main_call0_v169, main_call0_v170, main_call0_v171, main_call0_v172, main_call0_v173, main_v41_0, main_call0_v175, main_call0_v176, main_call0_c_44, main_call0_v177, main_v41_1]
def s3 : List (HloOp τ sig (Elt F)) :=
  [binary main_v41_0 main_v41_1 main_v42 (xori : Wd F → Wd F → Wd F),
   nullary main_c_8 (constantI S_ 32 9#32),
   unary main_c_8 main_v43 (broadcastInDim S2x4096x10000 ![] bcast_S_S2x4096x10000 : X F S_ .i32 → Wd F),
   binary main_v42 main_v43 main_v44 (Host.shrui : Wd F → Wd F → Wd F),
   nullary main_c_9 (constantI S_ 32 1065353216#32),
   unary main_c_9 main_v45 (broadcastInDim S2x4096x10000 ![] bcast_S_S2x4096x10000 : X F S_ .i32 → Wd F),
   binary main_v44 main_v45 main_v46 (ori : Wd F → Wd F → Wd F),
   unary main_v46 main_v47 (bitcastToFloat .f32 : Wd F → X F S2x4096x10000 .f32),
   nullary main_cst_10 (constant S_ .f32 0x3F800000#32),
   unary main_cst_10 main_v48 (broadcastInDim S2x4096x10000 ![] bcast_S_S2x4096x10000 : X F S_ .f32 → X F S2x4096x10000 .f32),
   binary main_v47 main_v48 main_v49 (subf : X F S2x4096x10000 .f32 → X F S2x4096x10000 .f32 → X F S2x4096x10000 .f32),
   nullary main_cst_11 (constant S_ .f32 0x00800000#32),
   unary main_cst_11 main_v50 (broadcastInDim S2x4096x10000 ![] bcast_S_S2x4096x10000 : X F S_ .f32 → X F S2x4096x10000 .f32),
   binary main_v49 main_v50 main_v51 (addf : X F S2x4096x10000 .f32 → X F S2x4096x10000 .f32 → X F S2x4096x10000 .f32),
   nullary main_cst_12 (constant S_ .f32 0x00800000#32),
   unary main_cst_12 main_v52 (broadcastInDim S2x4096x10000 ![] bcast_S_S2x4096x10000 : X F S_ .f32 → X F S2x4096x10000 .f32),
   binary main_v52 main_v51 main_v53 (maximumf : X F S2x4096x10000 .f32 → X F S2x4096x10000 .f32 → X F S2x4096x10000 .f32),
   unary main_v53 main_v54 (Host.log : X F S2x4096x10000 .f32 → X F S2x4096x10000 .f32),
   unary main_v54 main_v55 (Host.negf : X F S2x4096x10000 .f32 → X F S2x4096x10000 .f32),
   unary main_v55 main_v56 (Host.log : X F S2x4096x10000 .f32 → X F S2x4096x10000 .f32),
   unary main_v56 main_v57 (Host.negf : X F S2x4096x10000 .f32 → X F S2x4096x10000 .f32),
   unary main_v21 main_v58 (broadcastInDim S1x4096x10000 ![1, 2] bcast_S4096x10000_S1x4096x10000_1_2 : X F S4096x10000 .f32 → X F S1x4096x10000 .f32),
   unary main_v58 main_v59 (broadcastInDim S2x4096x10000 ![0, 1, 2] bcast_S1x4096x10000_S2x4096x10000_0_1_2 : X F S1x4096x10000 .f32 → X F S2x4096x10000 .f32),
   binary main_v57 main_v59 main_v60 (addf : X F S2x4096x10000 .f32 → X F S2x4096x10000 .f32 → X F S2x4096x10000 .f32)]
abbrev w_s3 : List (Ref sig .tc) := [main_v42, main_c_8, main_v43, main_v44, main_c_9, main_v45, main_v46, main_v47, main_cst_10, main_v48, main_v49, main_cst_11, main_v50, main_v51, main_cst_12, main_v52, main_v53, main_v54, main_v55, main_v56, main_v57, main_v58, main_v59, main_v60]
def s4 : List (HloOp τ sig (Elt F)) :=
  [nullary main_call1_v0 (iotaInDim S2x4096x10000 32 2),
   nullary main_call1_cst (constant S_ .f32 0xFF800000#32),
   nullary main_call1_c (constantI S_ 32 0#32),
   quaternary main_v60 main_call1_v0 main_call1_cst main_call1_c main_call1_v1_0 ((fun x y u v j => (Host.argReduce reducer_argmax_f32_i32 x y u v reducesTo_S2x4096x10000_S2x4096_d2 h_S_ j).1) : X F S2x4096x10000 .f32 → Wd F → X F S_ .f32 → X F S_ .i32 → X F S2x4096 .f32),
   quaternary main_v60 main_call1_v0 main_call1_cst main_call1_c main_v61 ((fun x y u v j => (Host.argReduce reducer_argmax_f32_i32 x y u v reducesTo_S2x4096x10000_S2x4096_d2 h_S_ j).2) : X F S2x4096x10000 .f32 → Wd F → X F S_ .f32 → X F S_ .i32 → X F S2x4096 .i32),
   unary main_v61 main_v62 ((extractStridedSlice S1x4096 ![0, 0] · slices_S2x4096_S1x4096_0_0) : X F S2x4096 .i32 → X F S1x4096 .i32),
   reshape main_v62 main_v63 (rfl : (.i32 : EltTy) = .i32) shapeCasts_S1x4096_S4096,
   unary main_v61 main_v64 ((extractStridedSlice S1x4096 ![1, 0] · slices_S2x4096_S1x4096_1_0) : X F S2x4096 .i32 → X F S1x4096 .i32),
   reshape main_v64 main_v65 (rfl : (.i32 : EltTy) = .i32) shapeCasts_S1x4096_S4096]
abbrev w_s4 : List (Ref sig .tc) := [main_call1_v0, main_call1_cst, main_call1_c, main_call1_v1_0, main_v61, main_v62, main_v63, main_v64, main_v65]

def ops : List (HloOp τ sig (Elt F)) := s1 ++ (s2 ++ (t0 ++ (t1 ++ (t2 ++ (t3 ++ (t4 ++ (t5 ++ (t6 ++ (t7 ++ (t8 ++ (t9 ++ (t10 ++ (t11 ++ (t12 ++ (t13 ++ (t14 ++ (t15 ++ (t16 ++ (t17 ++ (t18 ++ (t19 ++ (t20 ++ (s3 ++ (s4))))))))))))))))))))))))

theorem main_eq (c : Dev nD) : main (F := F) c = seq ops := by sl_kernel_rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := by
  refine List.forall_iff_forall_mem.mpr fun op h => ?_
  simp only [ops, List.mem_append] at h
  rcases h with h | h | h | h | h | h | h | h | h | h | h | h | h | h | h | h | h | h | h | h | h | h | h | h | h
  all_goals (repeat (cases h with
    | head => with_reducible first | exact nullary_bufs_sub .. | exact unary_bufs_sub .. | exact binary_bufs_sub .. | exact ternary_bufs_sub .. | exact quaternary_bufs_sub .. | exact reshape_bufs_sub ..
    | tail _ h => ?_)); exact nomatch h
theorem ops_fresh : ∀ op ∈ (ops : List (HloOp τ sig (Elt F))), op.fresh = ∅ := by
  intro op h
  simp only [ops, List.mem_append] at h
  rcases h with h | h | h | h | h | h | h | h | h | h | h | h | h | h | h | h | h | h | h | h | h | h | h | h | h
  all_goals (repeat (cases h with | head => rfl | tail _ h => ?_)); exact nomatch h

theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The reference runs to its end from any launch memory, every array then holding what the operations leave in it. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.Proof.Draw

end
-- ==== Proof.DrawBits.lean ====
/-
  The reference's counter-based generator, entry by entry: the pair of words after each of its twenty rounds, and that each round's
  operations take the pair before it to the pair after it.
-/
module

public import proofs.«01_k».proof.Proof.DrawRun
public import proofs.«01_k».proof.Proof.DrawWords

@[expose] public section

noncomputable section

namespace Cert.Proof.Draw

open Cert.SampledIdeal Cert.SampledIdeal.Gen
open Idealize.ShloMosaic Idealize.ShloMosaic.TcCoe Idealize.SL.Sem Idealize.ShloMosaic.StableHlo

variable {F : FTy → Type} [FloatOps F]

/-- The pair of words two arrays hold at an entry is the given one of its keys and counter, and the arrays of keys hold the keys. -/
def At (V : Valuation τ sig (Elt F)) (x0 x1 : IVec S2x4096x10000 32) (p : BitVec 32 → BitVec 32 → BitVec 32 → BitVec 32 × BitVec 32) : Prop :=
  (∀ (q : Fin 2) (r : Fin 4096) (k : Fin 10000), (x0 (ix3 q r k), x1 (ix3 q r k)) = p (key0 q) (key1 q) (cnt r k))
    ∧ (V (Proc.devRef .tc main_v39) : IVec S2x1x1 32) = (fun i => key0 (i 0))
    ∧ (V (Proc.devRef .tc main_v40) : IVec S2x1x1 32) = (fun i => key1 (i 0))
    ∧ (V (Proc.devRef .tc main_call0_v2) : IVec S2x1x1 32) = (fun i => key2 (key0 (i 0)) (key1 (i 0)))

theorem t1_at (V : Valuation τ sig (Elt F)) (h : At V (V (Proc.devRef .tc main_call0_v5)) (V (Proc.devRef .tc main_call0_v8)) p0) :
    At (after t1 V) (after t1 V (Proc.devRef .tc main_call0_v9)) (after t1 V (Proc.devRef .tc main_call0_v15)) p1 := by
  obtain ⟨h, h1, h2, h3⟩ := h
  refine ⟨fun q r k => ?_, (after_unwritten w_t1 rfl (by decide) V).trans h1, (after_unwritten w_t1 rfl (by decide) V).trans h2, (after_unwritten w_t1 rfl (by decide) V).trans h3⟩
  unfold t1
  after_reads_simp
  exact congrArg (mix 13#32 19#32) (h q r k)
theorem t2_at (V : Valuation τ sig (Elt F)) (h : At V (V (Proc.devRef .tc main_call0_v9)) (V (Proc.devRef .tc main_call0_v15)) p1) :
    At (after t2 V) (after t2 V (Proc.devRef .tc main_call0_v16)) (after t2 V (Proc.devRef .tc main_call0_v22)) p2 := by
  obtain ⟨h, h1, h2, h3⟩ := h
  refine ⟨fun q r k => ?_, (after_unwritten w_t2 rfl (by decide) V).trans h1, (after_unwritten w_t2 rfl (by decide) V).trans h2, (after_unwritten w_t2 rfl (by decide) V).trans h3⟩
  unfold t2
  after_reads_simp
  exact congrArg (mix 15#32 17#32) (h q r k)
theorem t3_at (V : Valuation τ sig (Elt F)) (h : At V (V (Proc.devRef .tc main_call0_v16)) (V (Proc.devRef .tc main_call0_v22)) p2) :
    At (after t3 V) (after t3 V (Proc.devRef .tc main_call0_v23)) (after t3 V (Proc.devRef .tc main_call0_v29)) p3 := by
  obtain ⟨h, h1, h2, h3⟩ := h
  refine ⟨fun q r k => ?_, (after_unwritten w_t3 rfl (by decide) V).trans h1, (after_unwritten w_t3 rfl (by decide) V).trans h2, (after_unwritten w_t3 rfl (by decide) V).trans h3⟩
  unfold t3
  after_reads_simp
  exact congrArg (mix 26#32 6#32) (h q r k)
theorem t4_at (V : Valuation τ sig (Elt F)) (h : At V (V (Proc.devRef .tc main_call0_v23)) (V (Proc.devRef .tc main_call0_v29)) p3) :
    At (after t4 V) (after t4 V (Proc.devRef .tc main_call0_v38)) (after t4 V (Proc.devRef .tc main_call0_v42)) p4 := by
  obtain ⟨h, h1, h2, h3⟩ := h
  refine ⟨fun q r k => ?_, (after_unwritten w_t4 rfl (by decide) V).trans h1, (after_unwritten w_t4 rfl (by decide) V).trans h2, (after_unwritten w_t4 rfl (by decide) V).trans h3⟩
  unfold t4
  after_reads_simp
  simp only [h1, h2, h3]
  exact congrArg (inj _ _ _ ∘ mix 6#32 26#32) (h q r k)
theorem t5_at (V : Valuation τ sig (Elt F)) (h : At V (V (Proc.devRef .tc main_call0_v38)) (V (Proc.devRef .tc main_call0_v42)) p4) :
    At (after t5 V) (after t5 V (Proc.devRef .tc main_call0_v43)) (after t5 V (Proc.devRef .tc main_call0_v49)) p5 := by
  obtain ⟨h, h1, h2, h3⟩ := h
  refine ⟨fun q r k => ?_, (after_unwritten w_t5 rfl (by decide) V).trans h1, (after_unwritten w_t5 rfl (by decide) V).trans h2, (after_unwritten w_t5 rfl (by decide) V).trans h3⟩
  unfold t5
  after_reads_simp
  exact congrArg (mix 17#32 15#32) (h q r k)
theorem t6_at (V : Valuation τ sig (Elt F)) (h : At V (V (Proc.devRef .tc main_call0_v43)) (V (Proc.devRef .tc main_call0_v49)) p5) :
    At (after t6 V) (after t6 V (Proc.devRef .tc main_call0_v50)) (after t6 V (Proc.devRef .tc main_call0_v56)) p6 := by
  obtain ⟨h, h1, h2, h3⟩ := h
  refine ⟨fun q r k => ?_, (after_unwritten w_t6 rfl (by decide) V).trans h1, (after_unwritten w_t6 rfl (by decide) V).trans h2, (after_unwritten w_t6 rfl (by decide) V).trans h3⟩
  unfold t6
  after_reads_simp
  exact congrArg (mix 29#32 3#32) (h q r k)
theorem t7_at (V : Valuation τ sig (Elt F)) (h : At V (V (Proc.devRef .tc main_call0_v50)) (V (Proc.devRef .tc main_call0_v56)) p6) :
    At (after t7 V) (after t7 V (Proc.devRef .tc main_call0_v57)) (after t7 V (Proc.devRef .tc main_call0_v63)) p7 := by
  obtain ⟨h, h1, h2, h3⟩ := h
  refine ⟨fun q r k => ?_, (after_unwritten w_t7 rfl (by decide) V).trans h1, (after_unwritten w_t7 rfl (by decide) V).trans h2, (after_unwritten w_t7 rfl (by decide) V).trans h3⟩
  unfold t7
  after_reads_simp
  exact congrArg (mix 16#32 16#32) (h q r k)
theorem t8_at (V : Valuation τ sig (Elt F)) (h : At V (V (Proc.devRef .tc main_call0_v57)) (V (Proc.devRef .tc main_call0_v63)) p7) :
    At (after t8 V) (after t8 V (Proc.devRef .tc main_call0_v72)) (after t8 V (Proc.devRef .tc main_call0_v76)) p8 := by
  obtain ⟨h, h1, h2, h3⟩ := h
  refine ⟨fun q r k => ?_, (after_unwritten w_t8 rfl (by decide) V).trans h1, (after_unwritten w_t8 rfl (by decide) V).trans h2, (after_unwritten w_t8 rfl (by decide) V).trans h3⟩
  unfold t8
  after_reads_simp
  simp only [h1, h2, h3]
  exact congrArg (inj _ _ _ ∘ mix 24#32 8#32) (h q r k)
theorem t9_at (V : Valuation τ sig (Elt F)) (h : At V (V (Proc.devRef .tc main_call0_v72)) (V (Proc.devRef .tc main_call0_v76)) p8) :
    At (after t9 V) (after t9 V (Proc.devRef .tc main_call0_v77)) (after t9 V (Proc.devRef .tc main_call0_v83)) p9 := by
  obtain ⟨h, h1, h2, h3⟩ := h
  refine ⟨fun q r k => ?_, (after_unwritten w_t9 rfl (by decide) V).trans h1, (after_unwritten w_t9 rfl (by decide) V).trans h2, (after_unwritten w_t9 rfl (by decide) V).trans h3⟩
  unfold t9
  after_reads_simp
  exact congrArg (mix 13#32 19#32) (h q r k)
theorem t10_at (V : Valuation τ sig (Elt F)) (h : At V (V (Proc.devRef .tc main_call0_v77)) (V (Proc.devRef .tc main_call0_v83)) p9) :
    At (after t10 V) (after t10 V (Proc.devRef .tc main_call0_v84)) (after t10 V (Proc.devRef .tc main_call0_v90)) p10 := by
  obtain ⟨h, h1, h2, h3⟩ := h
  refine ⟨fun q r k => ?_, (after_unwritten w_t10 rfl (by decide) V).trans h1, (after_unwritten w_t10 rfl (by decide) V).trans h2, (after_unwritten w_t10 rfl (by decide) V).trans h3⟩
  unfold t10
  after_reads_simp
  exact congrArg (mix 15#32 17#32) (h q r k)
theorem t11_at (V : Valuation τ sig (Elt F)) (h : At V (V (Proc.devRef .tc main_call0_v84)) (V (Proc.devRef .tc main_call0_v90)) p10) :
    At (after t11 V) (after t11 V (Proc.devRef .tc main_call0_v91)) (after t11 V (Proc.devRef .tc main_call0_v97)) p11 := by
  obtain ⟨h, h1, h2, h3⟩ := h
  refine ⟨fun q r k => ?_, (after_unwritten w_t11 rfl (by decide) V).trans h1, (after_unwritten w_t11 rfl (by decide) V).trans h2, (after_unwritten w_t11 rfl (by decide) V).trans h3⟩
  unfold t11
  after_reads_simp
  exact congrArg (mix 26#32 6#32) (h q r k)
theorem t12_at (V : Valuation τ sig (Elt F)) (h : At V (V (Proc.devRef .tc main_call0_v91)) (V (Proc.devRef .tc main_call0_v97)) p11) :
    At (after t12 V) (after t12 V (Proc.devRef .tc main_call0_v106)) (after t12 V (Proc.devRef .tc main_call0_v110)) p12 := by
  obtain ⟨h, h1, h2, h3⟩ := h
  refine ⟨fun q r k => ?_, (after_unwritten w_t12 rfl (by decide) V).trans h1, (after_unwritten w_t12 rfl (by decide) V).trans h2, (after_unwritten w_t12 rfl (by decide) V).trans h3⟩
  unfold t12
  after_reads_simp
  simp only [h1, h2, h3]
  exact congrArg (inj _ _ _ ∘ mix 6#32 26#32) (h q r k)
theorem t13_at (V : Valuation τ sig (Elt F)) (h : At V (V (Proc.devRef .tc main_call0_v106)) (V (Proc.devRef .tc main_call0_v110)) p12) :
    At (after t13 V) (after t13 V (Proc.devRef .tc main_call0_v111)) (after t13 V (Proc.devRef .tc main_call0_v117)) p13 := by
  obtain ⟨h, h1, h2, h3⟩ := h
  refine ⟨fun q r k => ?_, (after_unwritten w_t13 rfl (by decide) V).trans h1, (after_unwritten w_t13 rfl (by decide) V).trans h2, (after_unwritten w_t13 rfl (by decide) V).trans h3⟩
  unfold t13
  after_reads_simp
  exact congrArg (mix 17#32 15#32) (h q r k)
theorem t14_at (V : Valuation τ sig (Elt F)) (h : At V (V (Proc.devRef .tc main_call0_v111)) (V (Proc.devRef .tc main_call0_v117)) p13) :
    At (after t14 V) (after t14 V (Proc.devRef .tc main_call0_v118)) (after t14 V (Proc.devRef .tc main_call0_v124)) p14 := by
  obtain ⟨h, h1, h2, h3⟩ := h
  refine ⟨fun q r k => ?_, (after_unwritten w_t14 rfl (by decide) V).trans h1, (after_unwritten w_t14 rfl (by decide) V).trans h2, (after_unwritten w_t14 rfl (by decide) V).trans h3⟩
  unfold t14
  after_reads_simp
  exact congrArg (mix 29#32 3#32) (h q r k)
theorem t15_at (V : Valuation τ sig (Elt F)) (h : At V (V (Proc.devRef .tc main_call0_v118)) (V (Proc.devRef .tc main_call0_v124)) p14) :
    At (after t15 V) (after t15 V (Proc.devRef .tc main_call0_v125)) (after t15 V (Proc.devRef .tc main_call0_v131)) p15 := by
  obtain ⟨h, h1, h2, h3⟩ := h
  refine ⟨fun q r k => ?_, (after_unwritten w_t15 rfl (by decide) V).trans h1, (after_unwritten w_t15 rfl (by decide) V).trans h2, (after_unwritten w_t15 rfl (by decide) V).trans h3⟩
  unfold t15
  after_reads_simp
  exact congrArg (mix 16#32 16#32) (h q r k)
theorem t16_at (V : Valuation τ sig (Elt F)) (h : At V (V (Proc.devRef .tc main_call0_v125)) (V (Proc.devRef .tc main_call0_v131)) p15) :
    At (after t16 V) (after t16 V (Proc.devRef .tc main_call0_v140)) (after t16 V (Proc.devRef .tc main_call0_v144)) p16 := by
  obtain ⟨h, h1, h2, h3⟩ := h
  refine ⟨fun q r k => ?_, (after_unwritten w_t16 rfl (by decide) V).trans h1, (after_unwritten w_t16 rfl (by decide) V).trans h2, (after_unwritten w_t16 rfl (by decide) V).trans h3⟩
  unfold t16
  after_reads_simp
  simp only [h1, h2, h3]
  exact congrArg (inj _ _ _ ∘ mix 24#32 8#32) (h q r k)
theorem t17_at (V : Valuation τ sig (Elt F)) (h : At V (V (Proc.devRef .tc main_call0_v140)) (V (Proc.devRef .tc main_call0_v144)) p16) :
    At (after t17 V) (after t17 V (Proc.devRef .tc main_call0_v145)) (after t17 V (Proc.devRef .tc main_call0_v151)) p17 := by
  obtain ⟨h, h1, h2, h3⟩ := h
  refine ⟨fun q r k => ?_, (after_unwritten w_t17 rfl (by decide) V).trans h1, (after_unwritten w_t17 rfl (by decide) V).trans h2, (after_unwritten w_t17 rfl (by decide) V).trans h3⟩
  unfold t17
  after_reads_simp
  exact congrArg (mix 13#32 19#32) (h q r k)
theorem t18_at (V : Valuation τ sig (Elt F)) (h : At V (V (Proc.devRef .tc main_call0_v145)) (V (Proc.devRef .tc main_call0_v151)) p17) :
    At (after t18 V) (after t18 V (Proc.devRef .tc main_call0_v152)) (after t18 V (Proc.devRef .tc main_call0_v158)) p18 := by
  obtain ⟨h, h1, h2, h3⟩ := h
  refine ⟨fun q r k => ?_, (after_unwritten w_t18 rfl (by decide) V).trans h1, (after_unwritten w_t18 rfl (by decide) V).trans h2, (after_unwritten w_t18 rfl (by decide) V).trans h3⟩
  unfold t18
  after_reads_simp
  exact congrArg (mix 15#32 17#32) (h q r k)
theorem t19_at (V : Valuation τ sig (Elt F)) (h : At V (V (Proc.devRef .tc main_call0_v152)) (V (Proc.devRef .tc main_call0_v158)) p18) :
    At (after t19 V) (after t19 V (Proc.devRef .tc main_call0_v159)) (after t19 V (Proc.devRef .tc main_call0_v165)) p19 := by
  obtain ⟨h, h1, h2, h3⟩ := h
  refine ⟨fun q r k => ?_, (after_unwritten w_t19 rfl (by decide) V).trans h1, (after_unwritten w_t19 rfl (by decide) V).trans h2, (after_unwritten w_t19 rfl (by decide) V).trans h3⟩
  unfold t19
  after_reads_simp
  exact congrArg (mix 26#32 6#32) (h q r k)
theorem t20_at (V : Valuation τ sig (Elt F)) (h : At V (V (Proc.devRef .tc main_call0_v159)) (V (Proc.devRef .tc main_call0_v165)) p19) :
    At (after t20 V) (after t20 V (Proc.devRef .tc main_v41_0)) (after t20 V (Proc.devRef .tc main_v41_1)) p20 := by
  obtain ⟨h, h1, h2, h3⟩ := h
  refine ⟨fun q r k => ?_, (after_unwritten w_t20 rfl (by decide) V).trans h1, (after_unwritten w_t20 rfl (by decide) V).trans h2, (after_unwritten w_t20 rfl (by decide) V).trans h3⟩
  unfold t20
  after_reads_simp
  simp only [h1, h2, h3]
  exact congrArg (inj _ _ _ ∘ mix 6#32 26#32) (h q r k)

end Cert.Proof.Draw

end
-- ==== Proof.DrawKeys.lean ====
/-
  The reference's keys and counters, as the generator's rounds find them.
-/
module

public import proofs.«01_k».proof.Proof.DrawBits
public import Idealize.ShloMosaic.Lib.Pipeline.ValueKit
public import Idealize.ShloMosaic.Lib.StableHlo.RunRead
@[expose] public section

noncomputable section

namespace Cert.Proof.Draw

open Cert.SampledIdeal Cert.SampledIdeal.Gen
open Idealize.ShloMosaic Idealize.ShloMosaic.TcCoe Idealize.SL.Sem Idealize.ShloMosaic.StableHlo

variable {F : FTy → Type} [FloatOps F]

theorem ix3_cases (i : S2x1x1.Idx) : ∃ (q : Fin 2) (a b : Fin 1), i = ix3 q a b := ⟨i 0, i 1, i 2, eq_ix3 i⟩

theorem s1_key (V : Valuation τ sig (Elt F)) : (after s1 V (Proc.devRef .tc main_c) : IVec S2x2 32) = fun i => lit0 (S2x2.rowMajor i) := by
  unfold s1
  after_reads_simp
  rfl

theorem s2_keys (V : Valuation τ sig (Elt F)) (h : (V (Proc.devRef .tc main_c) : IVec S2x2 32) = fun i => lit0 (S2x2.rowMajor i)) :
    (after s2 V (Proc.devRef .tc main_v39) : IVec S2x1x1 32) = (fun i => key0 (i 0))
      ∧ (after s2 V (Proc.devRef .tc main_v40) : IVec S2x1x1 32) = (fun i => key1 (i 0)) := by
  unfold s2
  constructor
  · after_reads_simp
    rw [h]
    funext i
    obtain ⟨q, a, b, rfl⟩ := ix3_cases i
    simp only [pointwise]
    match q with
    | 0 => rfl
    | 1 => rfl
  · after_reads_simp
    rw [h]
    funext i
    obtain ⟨q, a, b, rfl⟩ := ix3_cases i
    simp only [pointwise]
    match q with
    | 0 => rfl
    | 1 => rfl

theorem low_word (r : Fin 4096) (k : Fin 10000) :
    BitVec.truncate 32 (10000#64 * BitVec.ofNat 64 r.val + 1#64 * BitVec.ofNat 64 k.val) = cnt r k := by
  refine BitVec.eq_of_toNat_eq ?_
  simp [cnt]

theorem high_word (r : Fin 4096) (k : Fin 10000) :
    BitVec.truncate 32 ((10000#64 * BitVec.ofNat 64 r.val + 1#64 * BitVec.ofNat 64 k.val) >>> (32 : ℕ)) = 0#32 := by
  refine BitVec.eq_of_toNat_eq ?_
  have hr := r.isLt
  have hk := k.isLt
  have hs : 10000 * r.val + k.val < 4294967296 := by omega
  simp [Nat.shiftRight_eq_div_pow]
  rw [Nat.div_eq_of_lt (lt_of_le_of_lt (Nat.mod_le _ _) hs)]

theorem s2_words (V : Valuation τ sig (Elt F)) (r : Fin 4096) (k : Fin 10000) :
    (after s2 V (Proc.devRef .tc main_v37) : IVec S1x4096x10000 32) (ix3 0 r k) = 0#32
      ∧ (after s2 V (Proc.devRef .tc main_v38) : IVec S1x4096x10000 32) (ix3 0 r k) = cnt r k := by
  unfold s2
  constructor
  · after_reads_simp
    exact high_word r k
  · after_reads_simp
    exact low_word r k

theorem t0_at (V : Valuation τ sig (Elt F)) (h1 : (V (Proc.devRef .tc main_v39) : IVec S2x1x1 32) = (fun i => key0 (i 0)))
    (h2 : (V (Proc.devRef .tc main_v40) : IVec S2x1x1 32) = (fun i => key1 (i 0)))
    (h3 : ∀ r k, (V (Proc.devRef .tc main_v37) : IVec S1x4096x10000 32) (ix3 0 r k) = 0#32)
    (h4 : ∀ r k, (V (Proc.devRef .tc main_v38) : IVec S1x4096x10000 32) (ix3 0 r k) = cnt r k) :
    At (after t0 V) (after t0 V (Proc.devRef .tc main_call0_v5)) (after t0 V (Proc.devRef .tc main_call0_v8)) p0 := by
  refine ⟨fun q r k => ?_, (after_unwritten w_t0 rfl (by decide) V).trans h1, (after_unwritten w_t0 rfl (by decide) V).trans h2, ?_⟩
  · unfold t0
    after_reads_simp
    simp only [h1, h2]
    refine Prod.ext ?_ ?_
    · simp only [pointwise]
      exact congrArg (fun x => IntOp.addi x (key0 q)) (h3 r k)
    · simp only [pointwise]
      exact congrArg (fun x => IntOp.addi x (key1 q)) (h4 r k)
  · unfold t0
    after_reads_simp
    simp only [h1, h2]
    rfl

end Cert.Proof.Draw

end
-- ==== Proof.DrawMask.lean ====
/-
  The reference's table of logarithms, minus infinity at each row's own label.
-/
module

public import proofs.«01_k».proof.Proof.DrawBits
public import proofs.«01_k».proof.Proof.DrawMath
public import Idealize.ShloMosaic.Lib.Pipeline.ValueKit
public import Idealize.ShloMosaic.Lib.StableHlo.RunRead
public import Idealize.ShloMosaic.Lib.Routing.OpsSet
public import Idealize.ShloMosaic.Lib.Routing.OpsPair
@[expose] public section

noncomputable section

namespace Cert.Proof.Draw

open Cert.SampledIdeal Cert.SampledIdeal.Gen
open Idealize.ShloMosaic Idealize.ShloMosaic.Routing Idealize.ShloMosaic.TcCoe Idealize.SL.Sem Idealize.ShloMosaic.StableHlo

theorem lands (y : IVec S4096x2 32) (n : Fin 4096) (r : Fin 4096) (k : Fin 10000) :
    scatter_S4096x10000_S4096x2_S4096_n_01_01_1.resultIdx? (ix1 n) y = some (ix2 r k) ↔ (y (ix2 n 0)).toInt = r.val ∧ (y (ix2 n 1)).toInt = k.val := by
  have hwin : ∀ a : Fin 2, scatter_S4096x10000_S4096x2_S4096_n_01_01_1.window (ix1 n) a = 0 := fun a => by
    unfold ScatterDims.window
    exact dif_neg (by fin_cases a <;> decide)
  have hstart : ∀ a : Fin 2, scatter_S4096x10000_S4096x2_S4096_n_01_01_1.start (ix1 n) y a = (y (ix2 n a)).toInt := fun a => by
    unfold ScatterDims.start
    refine (dif_pos (by fin_cases a <;> decide)).trans (congrArg (fun i => (y i).toInt) (funext fun b => ?_))
    fin_cases a <;> fin_cases b <;> rfl
  refine (resultIdx?_ix2 (R := 4096) (C := 10000) _ (ix1 n) y r k).trans ?_
  rw [hstart, hstart, hwin, hwin]
  omega

theorem mask_at (x : FVec Ideal S4096x10000 .f32) (z : IVec S4096x2 32) (u : FVec Ideal S4096 .f32) (y : IVec S4096 32) (hy : ∀ r, (y (ix1 r)).toNat < 10000)
    (hz : ∀ n : Fin 4096, z (ix2 n 0) = BitVec.ofNat 32 n.val ∧ z (ix2 n 1) = y (ix1 n)) (hu : ∀ n, u n = (⊥ : EReal)) (r : Fin 4096) (k : Fin 10000) :
    Host.scatter scatter_S4096x10000_S4096x2_S4096_n_01_01_1 (fun _ b => b) x z u (ix2 r k) = if BitVec.ofNat 32 k.val = y (ix1 r) then (⊥ : EReal) else x (ix2 r k) := by
  have hl : ∀ n : S4096.Idx, scatter_S4096x10000_S4096x2_S4096_n_01_01_1.resultIdx? n z = some (ix2 r k) ↔ n = ix1 r ∧ BitVec.ofNat 32 k.val = y (ix1 r) := fun n => by
    obtain ⟨n, rfl⟩ : ∃ p : Fin 4096, n = ix1 p := ⟨n 0, eq_ix1 n⟩
    rw [lands, (hz n).1, (hz n).2, ofNat_toInt (by have := n.isLt; omega)]
    have hn := hy n
    have hr := hy r
    have hk := k.isLt
    rw [BitVec.toInt_eq_toNat_of_lt (by omega)]
    constructor
    · intro h
      obtain rfl : n = r := Fin.ext (by omega)
      refine ⟨rfl, BitVec.eq_of_toNat_eq ?_⟩
      rw [BitVec.toNat_ofNat]
      omega
    · intro h
      obtain rfl : n = r := congrFun h.1 0
      have h2 := congrArg BitVec.toNat h.2
      rw [BitVec.toNat_ofNat] at h2
      omega
  by_cases h : BitVec.ofNat 32 k.val = y (ix1 r)
  · rw [if_pos h]
    exact scatter_set_hit _ _ _ _ _ _ (fun n _ => hu n) (ix1 r) ((hl (ix1 r)).2 ⟨rfl, h⟩)
  · rw [if_neg h]
    exact scatter_set_miss _ _ _ _ _ fun n hn => h ((hl n).1 hn).2

theorem s1_parts (V : Valuation τ sig (Elt Ideal)) (hy : ∀ r, ((V (Proc.devRef .tc main_arg1) : IVec S4096 32) (ix1 r)).toNat < 10000) (r : Fin 4096) (k : Fin 10000) :
    (after (s1.take 25) V (Proc.devRef .tc main_v17) : IVec S4096x1 32) (ix2 r 0) = BitVec.ofNat 32 r.val
      ∧ (after (s1.take 25) V (Proc.devRef .tc main_v18) : IVec S4096x1 32) (ix2 r 0) = (V (Proc.devRef .tc main_arg1) : IVec S4096 32) (ix1 r)
      ∧ (after (s1.take 25) V (Proc.devRef .tc main_v5) : FVec Ideal S4096x10000 .f32) (ix2 r k) = Ideal.log ((V (Proc.devRef .tc main_arg0) : FVec Ideal S10000 .f32) (ix1 k)) * 1 := by
  unfold s1
  simp only [List.take]
  refine ⟨?_, ?_, ?_⟩
  · after_reads_simp
    exact wrap_of_lt _ _ (by have := r.isLt; show (BitVec.ofNat 32 r.val).toNat < 2 ^ 31; rw [BitVec.toNat_ofNat]; omega)
  · after_reads_simp
    simp only [pointwise]
    exact wrap_of_lt _ _ ((hy r).trans (by decide))
  · after_reads_simp
    simp only [pointwise]
    rfl

theorem pair_at (a b : IVec S4096x1 32) (n : Fin 4096) :
    concatenate S4096x2 1 [⟨S4096x1, a⟩, ⟨S4096x1, b⟩] concatenates_S4096x1_S4096x1_S4096x2_d1 (ix2 n 0) = a (ix2 n 0)
      ∧ concatenate S4096x2 1 [⟨S4096x1, a⟩, ⟨S4096x1, b⟩] concatenates_S4096x1_S4096x1_S4096x2_d1 (ix2 n 1) = b (ix2 n 0) := by
  constructor
  · refine congrArg a (funext fun d => ?_)
    match d with
    | ⟨0, _⟩ => rfl
    | ⟨1, _⟩ => rfl
  · refine congrArg b (funext fun d => ?_)
    match d with
    | ⟨0, _⟩ => rfl
    | ⟨1, _⟩ => rfl

theorem s1_mask (V : Valuation τ sig (Elt Ideal)) (hy : ∀ r, ((V (Proc.devRef .tc main_arg1) : IVec S4096 32) (ix1 r)).toNat < 10000) (r : Fin 4096) (k : Fin 10000) :
    (after s1 V (Proc.devRef .tc main_v21) : FVec Ideal S4096x10000 .f32) (ix2 r k)
      = if BitVec.ofNat 32 k.val = (V (Proc.devRef .tc main_arg1) : IVec S4096 32) (ix1 r) then (⊥ : EReal) else Ideal.log ((V (Proc.devRef .tc main_arg0) : FVec Ideal S10000 .f32) (ix1 k)) * 1 := by
  have e : after s1 V = after (s1.drop 25) (after (s1.take 25) V) := by rw [← after_append, List.take_append_drop]
  rw [e]
  have hp := s1_parts V hy
  generalize after (s1.take 25) V = W at hp ⊢
  unfold s1
  simp only [List.drop]
  after_reads_simp
  refine (mask_at (W (Proc.devRef .tc main_v5)) _ _ (V (Proc.devRef .tc main_arg1)) hy ?_ (fun _ => neg_inf) r k).trans ?_
  · exact fun n => ⟨(pair_at _ _ n).1.trans (hp n k).1, (pair_at _ _ n).2.trans (hp n k).2.1⟩
  · rw [(hp r k).2.2]

end Cert.Proof.Draw

end
-- ==== Proof.DrawArg.lean ====
/-
  The reference's scores and its choice of the largest.
-/
module

public import proofs.«01_k».proof.Proof.DrawBits
public import proofs.«01_k».proof.Proof.DrawMath
public import Idealize.ShloMosaic.Lib.Pipeline.ValueKit
public import Idealize.ShloMosaic.Lib.StableHlo.RunRead
@[expose] public section

noncomputable section

namespace Cert.Proof.Draw

open Cert.SampledIdeal Cert.SampledIdeal.Gen
open Idealize.ShloMosaic Idealize.ShloMosaic.TcCoe Idealize.SL.Sem Idealize.ShloMosaic.StableHlo

theorem s3_at (V : Valuation τ sig (Elt Ideal)) (h : At V (V (Proc.devRef .tc main_v41_0)) (V (Proc.devRef .tc main_v41_1)) p20) (q : Fin 2) (r : Fin 4096) (k : Fin 10000) :
    (after s3 V (Proc.devRef .tc main_v60) : FVec Ideal S2x4096x10000 .f32) (ix3 q r k)
      = -(Ideal.log (expo (word q r k))) + (V (Proc.devRef .tc main_v21) : FVec Ideal S4096x10000 .f32) (ix2 r k) := by
  have hw : IntOp.xori ((V (Proc.devRef .tc main_v41_0) : IVec S2x4096x10000 32) (ix3 q r k)) ((V (Proc.devRef .tc main_v41_1) : IVec S2x4096x10000 32) (ix3 q r k)) = word q r k :=
    congrArg (fun p => IntOp.xori p.1 p.2) (h.1 q r k)
  unfold s3
  after_reads_simp
  rw [← hw]
  simp only [pointwise]
  unfold expo unif
  rw [Ideal.ofBits_one_f32]
  rfl

/-- Whether a pair is the given one or loses to it. -/
def Dom (best a : EReal × BitVec 32) : Prop := a = best ∨ a.1 < best.1 ∨ (a.1 = best.1 ∧ best.2.toInt < a.2.toInt)

open Classical in
theorem pick_eq (a b : EReal × BitVec 32) : reducer_argmax_f32_i32 (F := Ideal) a b
    = (if b.1 < a.1 then a.1 else b.1, if b.1 < a.1 ∨ (a.1 = b.1 ∧ a.2.toInt < b.2.toInt) then a.2 else b.2) := by
  unfold reducer_argmax_f32_i32
  by_cases h : b.1 < a.1
  · simp [Ideal.cmpf_def, Ideal.cmp, h, h.ne', IntOp.ori, IntOp.andi, Scalar.select]
  · by_cases h' : a.1 = b.1
    · by_cases h'' : a.2.toInt < b.2.toInt <;> simp [Ideal.cmpf_def, Ideal.cmp, h', h'', IntOp.ori, IntOp.andi, IntOp.cmpi, BitVec.slt, Scalar.select]
    · simp [Ideal.cmpf_def, Ideal.cmp, h, h', IntOp.ori, IntOp.andi, Scalar.select]

theorem pick_left (best b : EReal × BitVec 32) (h : Dom best b) : reducer_argmax_f32_i32 (F := Ideal) best b = best := by
  rw [pick_eq]
  rcases h with rfl | h | ⟨h, h'⟩
  · simp
  · simp [h]
  · simp [h, h']

theorem pick_right (best a : EReal × BitVec 32) (h : Dom best a) : reducer_argmax_f32_i32 (F := Ideal) a best = best := by
  rw [pick_eq]
  rcases h with rfl | h | ⟨h, h'⟩
  · simp
  · simp [h.not_gt, h.ne]
  · simp [h, h'.not_gt]

theorem pick_dom (best a b : EReal × BitVec 32) (ha : Dom best a) (hb : Dom best b) : Dom best (reducer_argmax_f32_i32 (F := Ideal) a b) := by
  have : reducer_argmax_f32_i32 (F := Ideal) a b = a ∨ reducer_argmax_f32_i32 (F := Ideal) a b = b := by
    rw [pick_eq]
    rcases lt_trichotomy b.1 a.1 with h | h | h
    · exact Or.inl (by simp [h])
    · by_cases h' : a.2.toInt < b.2.toInt
      · exact Or.inl (by simp [h, h'])
      · exact Or.inr (by simp [← h, h'])
    · exact Or.inr (by simp [h.not_gt, h.ne])
  rcases this with h | h <;> rw [h] <;> assumption

theorem pick_fold (best : EReal × BitVec 32) (l : List (EReal × BitVec 32)) (hl : ∀ b ∈ l, Dom best b) (a : EReal × BitVec 32) (ha : Dom best a)
    (hm : a = best ∨ best ∈ l) : l.foldl (reducer_argmax_f32_i32 (F := Ideal)) a = best := by
  induction l generalizing a with
  | nil => exact hm.resolve_right (by simp)
  | cons b l ih =>
    rw [List.foldl_cons]
    refine ih (fun b hb => hl b (List.mem_cons_of_mem _ hb)) _ (pick_dom best a b ha (hl b List.mem_cons_self)) ?_
    rcases hm with h | h
    · exact Or.inl (h ▸ pick_left a b (h ▸ hl b List.mem_cons_self))
    · rcases List.mem_cons.mp h with h | h
      · exact Or.inl (h ▸ pick_right best a ha)
      · exact Or.inr h

/-- The choice of the largest in one row: the place of a value that no other exceeds and none before it equals. -/
theorem pick_at (x : FVec Ideal S2x4096x10000 .f32) (q : Fin 2) (r : Fin 4096) (k : Fin 10000)
    (h1 : ∀ j, x (ix3 q r j) ≤ x (ix3 q r k)) (h2 : ∀ j, j < k → x (ix3 q r j) < x (ix3 q r k)) :
    (Host.argReduce (reducer_argmax_f32_i32 (F := Ideal)) x (iotaInDim S2x4096x10000 32 2) (constant S_ .f32 0xFF800000#32) (constantI S_ 32 0#32)
      reducesTo_S2x4096x10000_S2x4096_d2 h_S_ (ix2 q r)).2 = BitVec.ofNat 32 k.val := by
  rw [Ideal.argReduce_eq_reduce2, Host.reduce2_eq_foldl_fiber, pick_fold (x (ix3 q r k), BitVec.ofNat 32 k.val)]
  · intro b hb
    unfold Host.argReduceFiber at hb
    simp only [List.mem_map, List.mem_filter, List.mem_finRange, true_and, decide_eq_true_eq] at hb
    obtain ⟨n, hn, rfl⟩ := hb
    generalize S2x4096x10000.rowMajor.symm n = i at hn ⊢
    obtain ⟨q', r', j, rfl⟩ : ∃ (a : Fin 2) (b : Fin 4096) (j : Fin 10000), i = ix3 a b j := ⟨i 0, i 1, i 2, eq_ix3 i⟩
    obtain rfl : q' = q := congrFun hn 0
    obtain rfl : r' = r := congrFun hn 1
    show Dom _ (x (ix3 q' r' j), BitVec.ofNat 32 j.val)
    rcases lt_trichotomy j k with h | h | h
    · exact Or.inr (Or.inl (h2 j h))
    · exact Or.inl (by rw [h])
    · rcases (h1 j).lt_or_eq with h' | h'
      · exact Or.inr (Or.inl h')
      · refine Or.inr (Or.inr ⟨h', ?_⟩)
        show (BitVec.ofNat 32 k.val).toInt < (BitVec.ofNat 32 j.val).toInt
        rw [ofNat_toInt (by omega), ofNat_toInt (by omega)]
        exact_mod_cast h
  · rcases (bot_le : (⊥ : EReal) ≤ x (ix3 q r k)).eq_or_lt with hx | hx
    · have hk : k.val = 0 := by
        by_contra hc
        exact not_lt_bot ((h2 ⟨0, by decide⟩ (Nat.pos_of_ne_zero hc)).trans_eq hx.symm)
      refine Or.inl (Prod.ext (neg_inf.trans hx) ?_)
      rw [hk]
      rfl
    · exact Or.inr (Or.inl (lt_of_eq_of_lt neg_inf hx))
  · refine Or.inr ?_
    unfold Host.argReduceFiber
    simp only [List.mem_map, List.mem_filter, List.mem_finRange, true_and, decide_eq_true_eq]
    refine ⟨S2x4096x10000.rowMajor (ix3 q r k), ?_, ?_⟩
    · rw [Equiv.symm_apply_apply]
      funext a
      match a with
      | ⟨0, _⟩ => rfl
      | ⟨1, _⟩ => rfl
    · rw [Equiv.symm_apply_apply]
      rfl

end Cert.Proof.Draw

end
-- ==== Proof.DrawRead.lean ====
/-
  The reference's scores in full, and its results as the choice of the largest of them.
-/
module

public import proofs.«01_k».proof.Proof.DrawKeys
public import proofs.«01_k».proof.Proof.DrawMask
public import proofs.«01_k».proof.Proof.DrawArg

@[expose] public section

noncomputable section

namespace Cert.Proof.Draw

open Cert.SampledIdeal Cert.SampledIdeal.Gen
open Idealize.ShloMosaic Idealize.ShloMosaic.TcCoe Idealize.SL.Sem Idealize.ShloMosaic.StableHlo

/-- The words the whole generator leaves, the table of logarithms being untouched. -/
theorem words_at (V : Valuation τ sig (Elt Ideal)) : ∃ W : Valuation τ sig (Elt Ideal),
    At W (W (Proc.devRef .tc main_v41_0)) (W (Proc.devRef .tc main_v41_1)) p20
      ∧ W (Proc.devRef .tc main_v21) = after s1 V (Proc.devRef .tc main_v21) ∧ after ops V = after s4 (after s3 W) := by
  have k := s2_keys _ (s1_key V)
  have w := s2_words (after s1 V)
  have h0 := t0_at _ k.1 k.2 (fun r k => (w r k).1) (fun r k => (w r k).2)
  have h1 := t1_at _ h0
  have h2 := t2_at _ h1
  have h3 := t3_at _ h2
  have h4 := t4_at _ h3
  have h5 := t5_at _ h4
  have h6 := t6_at _ h5
  have h7 := t7_at _ h6
  have h8 := t8_at _ h7
  have h9 := t9_at _ h8
  have h10 := t10_at _ h9
  have h11 := t11_at _ h10
  have h12 := t12_at _ h11
  have h13 := t13_at _ h12
  have h14 := t14_at _ h13
  have h15 := t15_at _ h14
  have h16 := t16_at _ h15
  have h17 := t17_at _ h16
  have h18 := t18_at _ h17
  have h19 := t19_at _ h18
  have h20 := t20_at _ h19
  refine ⟨_, h20, ?_, ?_⟩
  · exact (after_unwritten w_t20 rfl (by decide) _).trans
      ((after_unwritten w_t19 rfl (by decide) _).trans
      ((after_unwritten w_t18 rfl (by decide) _).trans
      ((after_unwritten w_t17 rfl (by decide) _).trans
      ((after_unwritten w_t16 rfl (by decide) _).trans
      ((after_unwritten w_t15 rfl (by decide) _).trans
      ((after_unwritten w_t14 rfl (by decide) _).trans
      ((after_unwritten w_t13 rfl (by decide) _).trans
      ((after_unwritten w_t12 rfl (by decide) _).trans
      ((after_unwritten w_t11 rfl (by decide) _).trans
      ((after_unwritten w_t10 rfl (by decide) _).trans
      ((after_unwritten w_t9 rfl (by decide) _).trans
      ((after_unwritten w_t8 rfl (by decide) _).trans
      ((after_unwritten w_t7 rfl (by decide) _).trans
      ((after_unwritten w_t6 rfl (by decide) _).trans
      ((after_unwritten w_t5 rfl (by decide) _).trans
      ((after_unwritten w_t4 rfl (by decide) _).trans
      ((after_unwritten w_t3 rfl (by decide) _).trans
      ((after_unwritten w_t2 rfl (by decide) _).trans
      ((after_unwritten w_t1 rfl (by decide) _).trans
      ((after_unwritten w_t0 rfl (by decide) _).trans
      (after_unwritten w_s2 rfl (by decide) _)))))))))))))))))))))
  · unfold ops
    simp only [after_append]

theorem row_at (z : IVec S2x4096 32) (n : Fin 4096) :
    shapeCast S4096 (extractStridedSlice S1x4096 ![0, 0] z slices_S2x4096_S1x4096_0_0) shapeCasts_S1x4096_S4096 (ix1 n) = z (ix2 0 n)
      ∧ shapeCast S4096 (extractStridedSlice S1x4096 ![1, 0] z slices_S2x4096_S1x4096_1_0) shapeCasts_S1x4096_S4096 (ix1 n) = z (ix2 1 n) := by
  constructor
  · simp only [pointwise]
    exact congrArg (fun i => z (ix2 0 i)) (Fin.ext (Nat.zero_add _))
  · simp only [pointwise]
    exact congrArg (fun i => z (ix2 1 i)) (Fin.ext (Nat.zero_add _))

theorem s4_read (V : Valuation τ sig (Elt Ideal)) (n : Fin 4096) :
    (after s4 V (Proc.devRef .tc main_v63) : IVec S4096 32) (ix1 n)
        = (Host.argReduce (reducer_argmax_f32_i32 (F := Ideal)) (V (Proc.devRef .tc main_v60) : FVec Ideal S2x4096x10000 .f32) (iotaInDim S2x4096x10000 32 2) (constant S_ .f32 0xFF800000#32) (constantI S_ 32 0#32)
      reducesTo_S2x4096x10000_S2x4096_d2 h_S_ (ix2 0 n)).2
      ∧ (after s4 V (Proc.devRef .tc main_v65) : IVec S4096 32) (ix1 n)
        = (Host.argReduce (reducer_argmax_f32_i32 (F := Ideal)) (V (Proc.devRef .tc main_v60) : FVec Ideal S2x4096x10000 .f32) (iotaInDim S2x4096x10000 32 2) (constant S_ .f32 0xFF800000#32) (constantI S_ 32 0#32)
      reducesTo_S2x4096x10000_S2x4096_d2 h_S_ (ix2 1 n)).2 := by
  unfold s4
  constructor
  · after_reads_simp
    exact (row_at _ n).1
  · after_reads_simp
    exact (row_at _ n).2

/-- Where the reference ends: each result is the place of the largest of its row's scores, given that it has a first largest one. -/
theorem ref_at (V : Valuation τ sig (Elt Ideal)) (f : FVec Ideal S10000 .f32) (y : IVec S4096 32) (hf : V (Proc.devRef .tc main_arg0) = f) (hy' : V (Proc.devRef .tc main_arg1) = y)
    (hy : ∀ r, (y (ix1 r)).toNat < 10000) (n : Fin 4096) (g : Fin 2 → Fin 10000 → EReal)
    (hg : ∀ q k, g q k = -(Ideal.log (expo (word q n k))) + if BitVec.ofNat 32 k.val = y (ix1 n) then (⊥ : EReal) else Ideal.log (f (ix1 k)) * 1)
    (k0 k1 : Fin 10000) (l0 : ∀ j, g 0 j ≤ g 0 k0) (u0 : ∀ j, j < k0 → g 0 j < g 0 k0)
    (l1 : ∀ j, g 1 j ≤ g 1 k1) (u1 : ∀ j, j < k1 → g 1 j < g 1 k1) :
    (after ops V (Proc.devRef .tc main_v63) : IVec S4096 32) (ix1 n) = BitVec.ofNat 32 k0.val
      ∧ (after ops V (Proc.devRef .tc main_v65) : IVec S4096 32) (ix1 n) = BitVec.ofNat 32 k1.val := by
  subst hf hy'
  obtain ⟨W, hW, h21, e⟩ := words_at V
  have hx : ∀ q k, (after s3 W (Proc.devRef .tc main_v60) : FVec Ideal S2x4096x10000 .f32) (ix3 q n k) = g q k := fun q k => by
    rw [s3_at W hW, h21, s1_mask V hy, hg]
  rw [e, (s4_read _ n).1, (s4_read _ n).2]
  generalize after s3 W = X at hx ⊢
  exact ⟨pick_at _ 0 n k0 (fun j => by rw [hx, hx]; exact l0 j) (fun j hj => by rw [hx, hx]; exact u0 j hj),
    pick_at _ 1 n k1 (fun j => by rw [hx, hx]; exact l1 j) (fun j hj => by rw [hx, hx]; exact u1 j hj)⟩

end Cert.Proof.Draw

end
-- ==== Proof.DrawEnd.lean ====
/-
  The sampler's claims: the frames of the sampler and of its reference, and the equality of their results over the extended reals.
-/
module

public import proofs.«01_k».proof.Defs
public import proofs.«01_k».proof.Proof.Ranges
public import proofs.«01_k».proof.Proof.DrawOut
public import proofs.«01_k».proof.Proof.DrawRead
public import proofs.«01_k».proof.Proof.Gen.Pre_drawable
public import proofs.«01_k».proof.Proof.Gen.Sampler.Frame
public import Idealize.ShloMosaic.Lib.ReduceAll

@[expose] public section

noncomputable section

namespace Cert.Proof.Draw

open Idealize.ShloMosaic Idealize.ShloMosaic.TcCoe Idealize.SL.Sem Idealize.ShloMosaic.StableHlo

/-- The place of the first least score is the place of the first largest logarithm: the score of a label is not negative, and its
    logarithm's negative is the reference's value. -/
theorem place (q : Fin 2) (n : Fin 4096) (f : Fin 10000 → EReal) (y : BitVec 32) (f0 : ∀ k, 0 ≤ f k) (fn : ℕ → EReal)
    (hfn : ∀ k : Fin 10000, fn k.val = f k) (v : EReal) (p : BitVec 32) (h : Inv (score q fn y n.val) 10112 v p) (g : Fin 10000 → EReal)
    (hg : ∀ k : Fin 10000, g k = -(Ideal.log (expo (word q n k))) + if BitVec.ofNat 32 k.val = y then (⊥ : EReal) else Ideal.log (f k) * 1) :
    ∃ k0 : Fin 10000, p = BitVec.ofNat 32 k0.val ∧ (∀ j, g j ≤ g k0) ∧ ∀ j, j < k0 → g j < g k0 := by
  have hD : ∀ k : Fin 10000, 0 ≤ score q fn y n.val k.val ∧ g k = -(Ideal.log (score q fn y n.val k.val)) := fun k => by
    by_cases hy : BitVec.ofNat 32 k.val = y
    · rw [show score q fn y n.val k.val = ⊤ from if_neg fun e => e.2 hy, hg, if_pos hy, EReal.add_bot]
      exact ⟨le_top, rfl⟩
    · have e := score_logit (word q n k) (f k) (f0 k)
      rw [show score q fn y n.val k.val = expo (word q n k) * Ideal.div 1 (f k) from (if_pos ⟨k.isLt, hy⟩).trans (by rw [hfn]; rfl), hg, if_neg hy]
      exact e
  rcases h.2 with ⟨rfl, hp⟩ | ⟨k0, hk0, hp, he, hl⟩
  · have e : ∀ j, g j = ⊥ := fun j => by
      rw [(hD j).2, top_le_iff.mp (h.1 j.val (by omega))]
      rfl
    exact ⟨⟨0, by decide⟩, hp, fun j => by rw [e, e], fun j hj => absurd hj (Nat.not_lt_zero _)⟩
  · have hb : k0 < 10000 := by
      by_contra hc
      have ht : v = ⊤ := he.symm.trans (if_neg fun e => hc e.1)
      exact not_top_lt (ht ▸ hl 0 (by omega))
    refine ⟨⟨k0, hb⟩, hp, fun j => ?_, fun j hj => ?_⟩
    · rw [(hD j).2, (hD ⟨k0, hb⟩).2, EReal.neg_le_neg_iff]
      exact log_le (hD _).1 (he.trans_le (h.1 j.val (by omega)))
    · rw [(hD j).2, (hD ⟨k0, hb⟩).2, EReal.neg_lt_neg_iff]
      exact log_lt (hD _).1 (he.trans_lt (hl j.val hj))

/-- What the precondition says: no frequency is negative and the labels are below the frequencies' number. -/
theorem drawable (f : FVec Ideal Cert.Pre_drawable.S10000 .f32) (y : IVec Cert.Pre_drawable.S4096 32) (h : Cert.Pre_drawable.fn (F := Ideal) f y = fun _ => 1#1) :
    (∀ k, 0 ≤ f k) ∧ ∀ r, (y r).toNat < 10000 := by
  have : Subsingleton Cert.Pre_drawable.S_.Idx := ⟨fun a b => funext fun i => i.elim0⟩
  have h := congrFun h ix0
  obtain ⟨h0, h1⟩ := Ranges.and_one _ _ h
  refine ⟨fun k => ?_, fun r => Ranges.word_lt 10000 (by decide) _ (Host.reduce_andi_all _ _ _ _ ix0 h1 r)⟩
  have bit : ∀ p : Bool, BitVec.ofBool p = 1#1 → p = true := by decide
  exact Ideal.ofBits_zero_f32.ge.trans (of_decide_eq_true (bit _ (Host.reduce_andi_all _ _ _ _ ix0 h0 k)))

theorem frame_sampler : Cert.quiescent_Sampler := fun m ρ _ => Cert.Sampler.Gen.frame m ρ

theorem frame_sampler_ideal : Cert.quiescent_SamplerIdeal := fun m ρ _ => Cert.SamplerIdeal.Gen.frame m ρ

section
open Cert.SampledIdeal Cert.SampledIdeal.Gen

/-- The reference writes neither argument. -/
theorem args_sampled (V : Valuation τ sig (Elt Ideal)) :
    after ops V (Proc.devRef .tc main_arg0) = V (Proc.devRef .tc main_arg0) ∧ after ops V (Proc.devRef .tc main_arg1) = V (Proc.devRef .tc main_arg1) := by
  unfold ops
  simp only [after_append]
  constructor
  · rw [after_unwritten w_s4 rfl (by decide), after_unwritten w_s3 rfl (by decide), after_unwritten w_t20 rfl (by decide), after_unwritten w_t19 rfl (by decide), after_unwritten w_t18 rfl (by decide), after_unwritten w_t17 rfl (by decide), after_unwritten w_t16 rfl (by decide), after_unwritten w_t15 rfl (by decide), after_unwritten w_t14 rfl (by decide), after_unwritten w_t13 rfl (by decide), after_unwritten w_t12 rfl (by decide), after_unwritten w_t11 rfl (by decide), after_unwritten w_t10 rfl (by decide), after_unwritten w_t9 rfl (by decide), after_unwritten w_t8 rfl (by decide), after_unwritten w_t7 rfl (by decide), after_unwritten w_t6 rfl (by decide), after_unwritten w_t5 rfl (by decide), after_unwritten w_t4 rfl (by decide), after_unwritten w_t3 rfl (by decide), after_unwritten w_t2 rfl (by decide), after_unwritten w_t1 rfl (by decide), after_unwritten w_t0 rfl (by decide), after_unwritten w_s2 rfl (by decide), after_unwritten w_s1 rfl (by decide)]
  · rw [after_unwritten w_s4 rfl (by decide), after_unwritten w_s3 rfl (by decide), after_unwritten w_t20 rfl (by decide), after_unwritten w_t19 rfl (by decide), after_unwritten w_t18 rfl (by decide), after_unwritten w_t17 rfl (by decide), after_unwritten w_t16 rfl (by decide), after_unwritten w_t15 rfl (by decide), after_unwritten w_t14 rfl (by decide), after_unwritten w_t13 rfl (by decide), after_unwritten w_t12 rfl (by decide), after_unwritten w_t11 rfl (by decide), after_unwritten w_t10 rfl (by decide), after_unwritten w_t9 rfl (by decide), after_unwritten w_t8 rfl (by decide), after_unwritten w_t7 rfl (by decide), after_unwritten w_t6 rfl (by decide), after_unwritten w_t5 rfl (by decide), after_unwritten w_t4 rfl (by decide), after_unwritten w_t3 rfl (by decide), after_unwritten w_t2 rfl (by decide), after_unwritten w_t1 rfl (by decide), after_unwritten w_t0 rfl (by decide), after_unwritten w_s2 rfl (by decide), after_unwritten w_s1 rfl (by decide)]

end

theorem frame_sampled : Cert.quiescent_SampledIdeal := fun m ρ _ =>
  (θ_run Cert.SampledIdeal.defs _ _).mono
    (fun r h => ⟨fun c => ⟨(h c Cert.SampledIdeal.main_arg0).trans (args_sampled _).1, (h c Cert.SampledIdeal.main_arg1).trans (args_sampled _).2⟩, Idealize.ShloMosaic.sem_eq_zero_of_no_sems (by decide) r.2⟩)
    (run (F := Ideal) m ρ)

/-- The sampler's results are its reference's. -/
theorem value_sampler : Cert.algebraic_SamplerIdeal_SampledIdeal := by
  intro m ρ m' ρ' hpre hargs
  refine ⟨fun c => after ops (launchContents m' c) (Proc.devRef .tc Cert.SampledIdeal.main_v63),
    fun c => after ops (launchContents m' c) (Proc.devRef .tc Cert.SampledIdeal.main_v65), ?_, ?_⟩
  · refine (θ_run Cert.SamplerIdeal.defs _ _).mono (fun r h c => ?_) (θ_run_and (sampler_run m ρ) (Cert.SamplerIdeal.Gen.frame m ρ))
    obtain ⟨hf, hy⟩ := drawable _ _ (hpre c)
    have key : ∀ n : Fin 4096,
        (r.2.mem ((c.tc : Thread Cert.SamplerIdeal.nD Cert.SamplerIdeal.τ).loc Cert.SamplerIdeal.main_v5) : IVec Cert.SamplerIdeal.S4096 32) (ix1 n)
            = after ops (launchContents m' c) (Proc.devRef .tc Cert.SampledIdeal.main_v63) (ix1 n)
          ∧ (r.2.mem ((c.tc : Thread Cert.SamplerIdeal.nD Cert.SamplerIdeal.τ).loc Cert.SamplerIdeal.main_v6) : IVec Cert.SamplerIdeal.S4096 32) (ix1 n)
            = after ops (launchContents m' c) (Proc.devRef .tc Cert.SampledIdeal.main_v65) (ix1 n) := fun n => by
      obtain ⟨⟨v0, i0⟩, v1, i1⟩ := h.1 c n
      obtain ⟨k0, e0, l0, u0⟩ := place 0 n (fun k => (m ((c.tc : Thread Cert.SamplerIdeal.nD Cert.SamplerIdeal.τ).loc Cert.SamplerIdeal.main_arg0) : FVec Ideal Cert.SamplerIdeal.S10000 .f32) (ix1 k)) (yl m c n.val) (fun k => hf _) (fq m c)
        (fun k => dif_pos k.isLt) v0 _ i0 _ (fun _ => rfl)
      obtain ⟨k1, e1, l1, u1⟩ := place 1 n (fun k => (m ((c.tc : Thread Cert.SamplerIdeal.nD Cert.SamplerIdeal.τ).loc Cert.SamplerIdeal.main_arg0) : FVec Ideal Cert.SamplerIdeal.S10000 .f32) (ix1 k)) (yl m c n.val) (fun k => hf _) (fq m c)
        (fun k => dif_pos k.isLt) v1 _ i1 _ (fun _ => rfl)
      have hn : yl m c n.val = (m ((c.tc : Thread Cert.SamplerIdeal.nD Cert.SamplerIdeal.τ).loc Cert.SamplerIdeal.main_arg1) : IVec Cert.SamplerIdeal.S4096 32) (ix1 n) := dif_pos n.isLt
      have hR := ref_at (launchContents m' c) _ _ (hargs c).1 (hargs c).2 (fun r => hy _) n
        (fun q k => -(Ideal.log (expo (word q n k))) + if BitVec.ofNat 32 k.val = yl m c n.val then (⊥ : EReal) else Ideal.log ((m ((c.tc : Thread Cert.SamplerIdeal.nD Cert.SamplerIdeal.τ).loc Cert.SamplerIdeal.main_arg0) : FVec Ideal Cert.SamplerIdeal.S10000 .f32) (ix1 k)) * 1)
        (fun q k => by rw [hn]) k0 k1 l0 u0 l1 u1
      exact And.intro (e0.trans hR.1.symm) (e1.trans hR.2.symm)
    refine ⟨?_, ?_, (h.2.1 c).1, (h.2.1 c).2⟩
    · funext i
      rw [show i = ix1 (i 0) from eq_ix1 i]
      exact (key (i 0)).1
    · funext i
      rw [show i = ix1 (i 0) from eq_ix1 i]
      exact (key (i 0)).2
  · exact (θ_run Cert.SampledIdeal.defs _ _).mono
      (fun r h c => ⟨h c Cert.SampledIdeal.main_v63, h c Cert.SampledIdeal.main_v65, (h c Cert.SampledIdeal.main_arg0).trans (args_sampled _).1,
        (h c Cert.SampledIdeal.main_arg1).trans (args_sampled _).2⟩) (run (F := Ideal) m' ρ')

end Cert.Proof.Draw

end
-- ==== Proof.lean ====
/-
  The claims: the frames of the kernel at both readings of its floats and of the reference, and the equality of the kernel's
  four results with the reference's over the extended reals; and the same of the sampler and its reference.
-/
module

public import proofs.«01_k».proof.Defs
public import proofs.«01_k».proof.Proof.Frames
public import proofs.«01_k».proof.Proof.Chain
public import proofs.«01_k».proof.Proof.RefWhole
public import proofs.«01_k».proof.Proof.DrawEnd
public import proofs.«01_k».proof.Proof.Gen.Kernel
public import proofs.«01_k».proof.Proof.Gen.KernelIdeal
public import proofs.«01_k».proof.Proof.Gen.ReferenceIdeal
public import proofs.«01_k».proof.Proof.Gen.Pre_ranges
public import proofs.«01_k».proof.Proof.Gen.Pre_drawable
public import proofs.«01_k».proof.Proof.Gen.Sampler
public import proofs.«01_k».proof.Proof.Gen.SamplerIdeal
public import proofs.«01_k».proof.Proof.Gen.SamplerIdeal.Skeleton
public import proofs.«01_k».proof.Proof.Gen.SamplerIdeal.Launch
public import proofs.«01_k».proof.Proof.Gen.SamplerIdeal.Points
public import proofs.«01_k».proof.Proof.Gen.SampledIdeal
public import proofs.«01_k».proof.Proof.Gen.SamplerIdeal.Frame
public import proofs.«01_k».proof.Proof.Gen.Sampler.Frame
public import Idealize.ShloMosaic.Adequacy
public import Idealize.ShloMosaic.Init

@[expose] public section

noncomputable section

namespace Cert.Proof

open Idealize.ShloMosaic Idealize.ShloMosaic.TcCoe Idealize.SL.Sem

/-- From equal arguments in range the two programs' results are the same four numbers. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (e15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (e16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (e17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (e18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (e19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (e20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) (j : Fin 4) :
    (Ref.R12 m' c (Proc.devRef .tc Cert.ReferenceIdeal.main_v192) : Vec Ideal Cert.ReferenceIdeal.S4 .f32) (ix1 j) =
      (Run.V9 m c (Proc.devRef .tc Cert.KernelIdeal.main_v22) : Vec Ideal Cert.KernelIdeal.S4 .f32) (ix1 j) := by
  obtain ⟨h3, h4, h5, h6, f0, f2, f7, f9, f10, f11, f12, f15, f16, f17, f18, f19, f20⟩ := Ranges.all _ _ _ _ _ _ _ _ _ _ _ _ _ _ _ _ _ _ _ _ _ (hpre c)
  refine (Ref.v192_apply m' c (fun j => ?_) (fun j => ?_) (fun j => ?_) (fun j => ?_) (fun j => ?_) (fun j => ?_) (fun j => ?_) (fun j => ?_) (fun j => ?_) (fun j => ?_) (fun j => ?_) (fun j => ?_) (fun j => ?_) (fun j => ?_) (fun j => ?_) (fun j => ?_) (fun j => ?_) j).trans
    ((Whole.result_congr _ _ _ _ _ _ _ _ _ _ _ _ _ _ _ _ _ _ _ _ _ e0 e1 e2 e3 e4 e5 e6 e7 e8 e9 e10 e11 e12 e13 e14 e15 e16 e17 e18 e19 e20 j).trans (Run.V9_v22 m c h3 j).symm)
  · exact (congrArg (fun a : IVec Cert.ReferenceIdeal.S4096 32 => (a j).toNat) e3).trans_lt (h3 j)
  · exact (congrArg (fun a : IVec Cert.ReferenceIdeal.S4096 32 => (a j).toNat) e4).trans_lt (h4 j)
  · exact (congrArg (fun a : IVec Cert.ReferenceIdeal.S4096 32 => (a j).toNat) e5).trans_lt (h5 j)
  · exact (congrArg (fun a : IVec Cert.ReferenceIdeal.S4096 32 => (a j).toNat) e6).trans_lt (h6 j)
  · obtain ⟨r, hr⟩ := Ranges.AllFin.real f0 j
    exact ⟨r, (congrFun e0 j).trans hr⟩
  · obtain ⟨r, hr⟩ := Ranges.AllFin.real f2 j
    exact ⟨r, (congrFun e2 j).trans hr⟩
  · obtain ⟨r, hr⟩ := Ranges.AllFin.real f7 j
    exact ⟨r, (congrFun e7 j).trans hr⟩
  · obtain ⟨r, hr⟩ := Ranges.AllFin.real f9 j
    exact ⟨r, (congrFun e9 j).trans hr⟩
  · obtain ⟨r, hr⟩ := Ranges.AllFin.real f10 j
    exact ⟨r, (congrFun e10 j).trans hr⟩
  · obtain ⟨r, hr⟩ := Ranges.AllFin.real f11 j
    exact ⟨r, (congrFun e11 j).trans hr⟩
  · obtain ⟨r, hr⟩ := Ranges.AllFin.real f12 j
    exact ⟨r, (congrFun e12 j).trans hr⟩
  · obtain ⟨r, hr⟩ := Ranges.AllFin.real f15 j
    exact ⟨r, (congrFun e15 j).trans hr⟩
  · obtain ⟨r, hr⟩ := Ranges.AllFin.real f16 j
    exact ⟨r, (congrFun e16 j).trans hr⟩
  · obtain ⟨r, hr⟩ := Ranges.AllFin.real f17 j
    exact ⟨r, (congrFun e17 j).trans hr⟩
  · obtain ⟨r, hr⟩ := Ranges.AllFin.real f18 j
    exact ⟨r, (congrFun e18 j).trans hr⟩
  · obtain ⟨r, hr⟩ := Ranges.AllFin.real f19 j
    exact ⟨r, (congrFun e19 j).trans hr⟩
  · obtain ⟨r, hr⟩ := Ranges.AllFin.real f20 j
    exact ⟨r, (congrFun e20 j).trans hr⟩

/-- The kernel's results are the reference's. -/
theorem value : Cert.algebraic_KernelIdeal_ReferenceIdeal := by
  intro m ρ m' ρ' hpre hargs
  refine ⟨fun c => Run.V9 m c (Proc.devRef .tc Cert.KernelIdeal.main_v22), ?_, ?_⟩
  · exact (θ_run Cert.KernelIdeal.defs _ _).mono (fun _ h c => ⟨h.1 c _ (Pipeline.devRef_mem_ucRefs rfl), args_ideal m h c⟩)
      (run_ideal m ρ hpre)
  · refine (θ_run Cert.ReferenceIdeal.defs _ _).mono (fun _ h c => ⟨(h c Cert.ReferenceIdeal.main_v192).trans ?_, args_reference m' h c⟩)
      (Ref.run (F := Ideal) m' ρ')
    obtain ⟨e0, e1, e2, e3, e4, e5, e6, e7, e8, e9, e10, e11, e12, e13, e14, e15, e16, e17, e18, e19, e20⟩ := hargs c
    funext j
    rw [show j = ix1 (j 0) from eq_ix1 j]
    exact results_eq m m' hpre c e0 e1 e2 e3 e4 e5 e6 e7 e8 e9 e10 e11 e12 e13 e14 e15 e16 e17 e18 e19 e20 (j 0)

theorem claim : Cert.Claim :=
  ⟨Cert.Kernel.Gen.facts, Cert.KernelIdeal.Gen.facts, Cert.ReferenceIdeal.Gen.facts, Cert.Sampler.Gen.facts, Cert.SamplerIdeal.Gen.facts,
    Cert.SampledIdeal.Gen.facts, Cert.Pre_ranges.Gen.facts, Cert.Pre_drawable.Gen.facts, frame_kernel, frame_ideal, frame_reference,
    Draw.frame_sampler, Draw.frame_sampler_ideal, Draw.frame_sampled, trivial, value, trivial, Draw.value_sampler⟩

end Cert.Proof

end
